-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_ctx_scores [hPre_finite_ctx_scores : Cert.Pre_finite_ctx_scores.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_ctx_scores.fn (F := Ideal) (m ((c.tc : Thread Cert.Kernel13Ideal.nD Cert.Kernel13Ideal.τ).loc Cert.Kernel13Ideal.main_arg0))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_ctx_scores [hPre_finite_ctx_scores : Cert.Pre_finite_ctx_scores.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_ctx_scores.fn (F := Ideal) (m ((c.tc : Thread Cert.Reference13Ideal.nD Cert.Reference13Ideal.τ).loc Cert.Reference13Ideal.main_arg0))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Kernel13Ideal_pre_finite_ctx_scores [hKernel13Ideal : Cert.Kernel13Ideal.Facts] [hPre_finite_ctx_scores : Cert.Pre_finite_ctx_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_ctx_scores m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Reference13Ideal_pre_finite_ctx_scores [hReference13Ideal : Cert.Reference13Ideal.Facts] [hPre_finite_ctx_scores : Cert.Pre_finite_ctx_scores.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_ctx_scores m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite_ctx_scores [hKernel13Ideal : Cert.Kernel13Ideal.Facts] [hReference13Ideal : Cert.Reference13Ideal.Facts] [hPre_finite_ctx_scores : Cert.Pre_finite_ctx_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_ctx_scores m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v63) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v63) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_scores : Cert.Pre_finite_scores.Facts) (hPre_finite_ctx_scores : Cert.Pre_finite_ctx_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_ctx_scores (hKernel13Ideal := hKernel13Ideal) (hPre_finite_ctx_scores := hPre_finite_ctx_scores)
    ∧ quiescent_Reference13Ideal (hReference13Ideal := hReference13Ideal)
    ∧ quiescent_Reference13Ideal_pre_finite_ctx_scores (hReference13Ideal := hReference13Ideal) (hPre_finite_ctx_scores := hPre_finite_ctx_scores)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_ctx_scores (hKernel13Ideal := hKernel13Ideal) (hReference13Ideal := hReference13Ideal) (hPre_finite_ctx_scores := hPre_finite_ctx_scores)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_ctx_scores.lean ====
abbrev S512x20480 : Shape := ⟨2, ![512, 20480]⟩
abbrev S512x4096 : Shape := ⟨2, ![512, 4096]⟩
abbrev S_ : Shape := ⟨0, ![]⟩

class Facts : Prop where
  slices_S512x20480_S512x4096_0_4096 : S512x20480.Slices ![0, 4096] S512x4096
  bitsLt_bf16_f32 : FTy.bits .bf16 < FTy.bits .f32
  bcast_S_S512x4096 : S_.BroadcastsInDim S512x4096 (![] : Fin 0 → Fin S512x4096.rank)

variable [Facts]

def fn {F : FTy → Type} [FloatOps F] (main_arg0 : FVec F S512x20480 .bf16) : IVec S512x4096 1 :=
  let main_v0 : FVec F S512x4096 .bf16 := (extractStridedSlice S512x4096 ![0, 4096] · slices_S512x20480_S512x4096_0_4096) main_arg0
  let main_v1 : FVec F S512x4096 .f32 := (extf .f32 · bitsLt_bf16_f32) main_v0
  let main_v2 : FVec F S512x4096 .f32 := Host.absf main_v1
  let main_cst : FVec F S_ .f32 := constant S_ .f32 0x7F800000#32
  let main_v3 : FVec F S512x4096 .f32 := broadcastInDim S512x4096 ![] bcast_S_S512x4096 main_cst
  let main_v4 : IVec S512x4096 1 := cmpf .olt main_v2 main_v3
  main_v4
-- ==== Pre_finite_scores.lean ====
abbrev S8192x20480 : Shape := ⟨2, ![8192, 20480]⟩
abbrev S512x20480 : Shape := ⟨2, ![512, 20480]⟩
abbrev S16x15x31 : Shape := ⟨3, ![16, 15, 31]⟩
abbrev S8192x4096 : Shape := ⟨2, ![8192, 4096]⟩
abbrev S512x2048 : Shape := ⟨2, ![512, 2048]⟩
abbrev S_ : Shape := ⟨0, ![]⟩

class Facts : Prop where
  slices_S8192x20480_S8192x4096_0_4096 : S8192x20480.Slices ![0, 4096] S8192x4096
  slices_S512x20480_S512x2048_0_6144 : S512x20480.Slices ![0, 6144] S512x2048
  bitsLt_bf16_f32 : FTy.bits .bf16 < FTy.bits .f32
  bcast_S_S8192x4096 : S_.BroadcastsInDim S8192x4096 (![] : Fin 0 → Fin S8192x4096.rank)
  bcast_S_S512x2048 : S_.BroadcastsInDim S512x2048 (![] : Fin 0 → Fin S512x2048.rank)
  bcast_S_S16x15x31 : S_.BroadcastsInDim S16x15x31 (![] : Fin 0 → Fin S16x15x31.rank)

variable [Facts]

def fn {F : FTy → Type} [FloatOps F] (main_arg0 : FVec F S8192x20480 .bf16) (main_arg1 : FVec F S512x20480 .bf16) (main_arg2 : FVec F S16x15x31 .f32) : IVec S8192x4096 1 × IVec S512x2048 1 × IVec S16x15x31 1 :=
  let main_v0 : FVec F S8192x4096 .bf16 := (extractStridedSlice S8192x4096 ![0, 4096] · slices_S8192x20480_S8192x4096_0_4096) main_arg0
  let main_v1 : FVec F S512x2048 .bf16 := (extractStridedSlice S512x2048 ![0, 6144] · slices_S512x20480_S512x2048_0_6144) main_arg1
  let main_v2 : FVec F S8192x4096 .f32 := (extf .f32 · bitsLt_bf16_f32) main_v0
  let main_v3 : FVec F S8192x4096 .f32 := Host.absf main_v2
  let main_cst : FVec F S_ .f32 := constant S_ .f32 0x7F800000#32
  let main_v4 : FVec F S8192x4096 .f32 := broadcastInDim S8192x4096 ![] bcast_S_S8192x4096 main_cst
  let main_v5 : IVec S8192x4096 1 := cmpf .olt main_v3 main_v4
  let main_v6 : FVec F S512x2048 .f32 := (extf .f32 · bitsLt_bf16_f32) main_v1
  let main_v7 : FVec F S512x2048 .f32 := Host.absf main_v6
  let main_cst_0 : FVec F S_ .f32 := constant S_ .f32 0x7F800000#32
  let main_v8 : FVec F S512x2048 .f32 := broadcastInDim S512x2048 ![] bcast_S_S512x2048 main_cst_0
  let main_v9 : IVec S512x2048 1 := cmpf .olt main_v7 main_v8
  let main_v10 : FVec F S16x15x31 .f32 := Host.absf main_arg2
  let main_cst_1 : FVec F S_ .f32 := constant S_ .f32 0x7F800000#32
  let main_v11 : FVec F S16x15x31 .f32 := broadcastInDim S16x15x31 ![] bcast_S_S16x15x31 main_cst_1
  let main_v12 : IVec S16x15x31 1 := cmpf .olt main_v10 main_v11
  (main_v5, main_v9, main_v12)
-- ==== Kernel.lean ====
abbrev S8192x20480 : Shape := ⟨2, ![8192, 20480]⟩
abbrev S512x20480 : Shape := ⟨2, ![512, 20480]⟩
abbrev S16x15x31 : Shape := ⟨3, ![16, 15, 31]⟩
abbrev S31x64x64 : Shape := ⟨3, ![31, 64, 64]⟩
abbrev S64x64 : Shape := ⟨2, ![64, 64]⟩
abbrev S22 : Shape := ⟨1, ![22]⟩
abbrev S16x15x64x64 : Shape := ⟨4, ![16, 15, 64, 64]⟩
abbrev S1x1x64x64 : Shape := ⟨4, ![1, 1, 64, 64]⟩
abbrev S_ : Shape := ⟨0, ![]⟩
abbrev S22x1 : Shape := ⟨2, ![22, 1]⟩
abbrev S16x22x64x64 : Shape := ⟨4, ![16, 22, 64, 64]⟩
abbrev S16x22x64x128 : Shape := ⟨4, ![16, 22, 64, 128]⟩
abbrev S8192x2048 : Shape := ⟨2, ![8192, 2048]⟩
abbrev S256x128 : Shape := ⟨2, ![256, 128]⟩
abbrev S4096x128 : Shape := ⟨2, ![4096, 128]⟩
abbrev S1x22x64x128 : Shape := ⟨4, ![1, 22, 64, 128]⟩
abbrev S768x128 : Shape := ⟨2, ![768, 128]⟩
abbrev S256x768 : Shape := ⟨2, ![256, 768]⟩
abbrev S256x256 : Shape := ⟨2, ![256, 256]⟩
abbrev S1x1x64x128 : Shape := ⟨4, ![1, 1, 64, 128]⟩
abbrev S64x128 : Shape := ⟨2, ![64, 128]⟩
abbrev S64x768 : Shape := ⟨2, ![64, 768]⟩
abbrev S256x1 : Shape := ⟨2, ![256, 1]⟩
abbrev S1x768 : Shape := ⟨2, ![1, 768]⟩
abbrev S256 : Shape := ⟨1, ![256]⟩

abbrev nBuf : Space → Nat
  | .hbm => 27
  | .vmem => 14
  | .smem => 0
  | _ => 0

abbrev bufTy : (tb : Table) → Fin (tcTables nBuf tb) → BufTy
  | .hbm, ⟨0, _⟩ => ⟨S8192x20480, .bf16⟩
  | .hbm, ⟨1, _⟩ => ⟨S512x20480, .bf16⟩
  | .hbm, ⟨2, _⟩ => ⟨S16x15x31, .f32⟩
  | .hbm, ⟨3, _⟩ => ⟨S31x64x64, .f32⟩
  | .hbm, ⟨4, _⟩ => ⟨S64x64, .f32⟩
  | .hbm, ⟨5, _⟩ => ⟨S22, .i32⟩
  | .hbm, ⟨6, _⟩ => ⟨S22, .i1⟩
  | .hbm, ⟨7, _⟩ => ⟨S22, .i32⟩
  | .hbm, ⟨8, _⟩ => ⟨S22, .i1⟩
  | .hbm, ⟨9, _⟩ => ⟨S16x15x64x64, .f32⟩
  | .hbm, ⟨10, _⟩ => ⟨S1x1x64x64, .f32⟩
  | .hbm, ⟨11, _⟩ => ⟨S16x15x64x64, .f32⟩
  | .hbm, ⟨12, _⟩ => ⟨S16x15x64x64, .f32⟩
  | .hbm, ⟨13, _⟩ => ⟨S_, .i32⟩
  | .hbm, ⟨14, _⟩ => ⟨S22, .i32⟩
  | .hbm, ⟨15, _⟩ => ⟨S22, .i32⟩
  | .hbm, ⟨16, _⟩ => ⟨S22, .i32⟩
  | .hbm, ⟨17, _⟩ => ⟨S22x1, .i32⟩
  | .hbm, ⟨18, _⟩ => ⟨S16x22x64x64, .f32⟩
  | .hbm, ⟨19, _⟩ => ⟨S_, .i32⟩
  | .hbm, ⟨20, _⟩ => ⟨S22, .i32⟩
  | .hbm, ⟨21, _⟩ => ⟨S22, .i32⟩
  | .hbm, ⟨22, _⟩ => ⟨S22, .i32⟩
  | .hbm, ⟨23, _⟩ => ⟨S22x1, .i32⟩
  | .hbm, ⟨24, _⟩ => ⟨S16x22x64x64, .f32⟩
  | .hbm, ⟨25, _⟩ => ⟨S16x22x64x128, .f32⟩
  | .hbm, ⟨26, _⟩ => ⟨S8192x2048, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x22x64x128, .f32⟩
  | .local _ .vmem, ⟨11, _⟩ => ⟨S1x22x64x128, .f32⟩
  | .local _ .vmem, ⟨12, _⟩ => ⟨S256x128, .bf16⟩
  | .local _ .vmem, ⟨13, _⟩ => ⟨S256x128, .bf16⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 16], ![false, false, false]⟩

def k0_mult1 (i : grid0.Coords) : BitVec 32 :=
  let c52_i32 : BitVec 32 := 52#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c52_i32 v2
  let c64_i32 : BitVec 32 := 64#32
  let v4 : BitVec 32 := Scalar.muli v3 c64_i32
  v4
def k0_off1 (i : grid0.Coords) : Fin 2 → Nat :=
  let c52_i32 : BitVec 32 := 52#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c52_i32 v2
  let c64_i32 : BitVec 32 := 64#32
  let v4 : BitVec 32 := Scalar.muli v3 c64_i32
  let v5 : BitVec 32 := v4
  let v17 : Index := Scalar.indexCast v5
  let c0_9 : Index := 0#32
  ![v17.toNat, 0]
def k0_off2 (i : grid0.Coords) (c0_i32_16 : BitVec 32) : Fin 4 → Nat :=
  let c0_18 : Index := 0#32
  let arg2 : BitVec 32 := BitVec.ofNat 32 (i 2).val
  let c0_i32_6 : BitVec 32 := 0#32
  let v12 : BitVec 1 := Scalar.cmpi .eq arg2 c0_i32_6
  let c7_i32 : BitVec 32 := 7#32
  let c15_i32_7 : BitVec 32 := 15#32
  let v13 : BitVec 1 := Scalar.cmpi .eq arg2 c15_i32_7
  let c_m1_i32 : BitVec 32 := 4294967295#32
  let c3_i32 : BitVec 32 := 3#32
  let v14 : BitVec 32 := Scalar.select v13 c_m1_i32 c3_i32
  let v15 : BitVec 32 := Scalar.select v12 c7_i32 v14
  let v28 : BitVec 32 := Scalar.addi c0_i32_16 v15
  let c4_i32_17 : BitVec 32 := 4#32
  let v29 : BitVec 32 := Scalar.addi v28 c4_i32_17
  let v30 : Index := Scalar.indexCast v29
  let c0_19 : Index := 0#32
  let c0_20 : Index := 0#32
  ![0, v30.toNat, 0, 0]
def k0_off2_at (r : Fin 14) : BitVec 32 :=
  if r.val < 7 then
    if r.val < 3 then
      if r.val < 1 then
        0#32
      else
        if r.val < 2 then
          2#32
        else
          4#32
    else
      if r.val < 5 then
        if r.val < 4 then
          6#32
        else
          8#32
      else
        if r.val < 6 then
          10#32
        else
          4294967295#32
  else
    if r.val < 10 then
      if r.val < 8 then
        1#32
      else
        if r.val < 9 then
          3#32
        else
          5#32
    else
      if r.val < 12 then
        if r.val < 11 then
          7#32
        else
          9#32
      else
        if r.val < 13 then
          4294967294#32
        else
          4294967293#32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x22x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x20480 : Shape := ⟨2, ![8192, 20480]⟩
abbrev S512x20480 : Shape := ⟨2, ![512, 20480]⟩
abbrev S16x15x31 : Shape := ⟨3, ![16, 15, 31]⟩
abbrev S2x4096x20480 : Shape := ⟨3, ![2, 4096, 20480]⟩
abbrev S2x256x20480 : Shape := ⟨3, ![2, 256, 20480]⟩
abbrev S2x4096x2048 : Shape := ⟨3, ![2, 4096, 2048]⟩
abbrev S2x4096x16x128 : Shape := ⟨4, ![2, 4096, 16, 128]⟩
abbrev S2x256x2048 : Shape := ⟨3, ![2, 256, 2048]⟩
abbrev S2x256x16x128 : Shape := ⟨4, ![2, 256, 16, 128]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S2x16x4096x128 : Shape := ⟨4, ![2, 16, 4096, 128]⟩
abbrev S2x16x256x128 : Shape := ⟨4, ![2, 16, 256, 128]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S64x64x1 : Shape := ⟨3, ![64, 64, 1]⟩
abbrev S16x64x64x31 : Shape := ⟨4, ![16, 64, 64, 31]⟩
abbrev S16x64x64x64x64 : Shape := ⟨5, ![16, 64, 64, 64, 64]⟩
abbrev S16x4096x4096 : Shape := ⟨3, ![16, 4096, 4096]⟩
abbrev S2x16x4096x4096 : Shape := ⟨4, ![2, 16, 4096, 4096]⟩
abbrev S1x16x4096x4096 : Shape := ⟨4, ![1, 16, 4096, 4096]⟩
abbrev S2x16x4096x256 : Shape := ⟨4, ![2, 16, 4096, 256]⟩
abbrev S2x16x4096x4352 : Shape := ⟨4, ![2, 16, 4096, 4352]⟩
abbrev S2x16x4096 : Shape := ⟨3, ![2, 16, 4096]⟩
abbrev S2x16x4096x1 : Shape := ⟨4, ![2, 16, 4096, 1]⟩
abbrev S8192x2048 : Shape := ⟨2, ![8192, 2048]⟩

abbrev nBuf : Space → Nat
  | .hbm => 169
  | .vmem => 0
  | .smem => 0
  | _ => 0

abbrev hbmTy0_0 (i : Nat) : BufTy := match i % 128 with
  | 0 => ⟨S8192x20480, .bf16⟩
  | 1 => ⟨S512x20480, .bf16⟩
  | 2 => ⟨S16x15x31, .f32⟩
  | 3 => ⟨S8192x20480, .f32⟩
  | 4 => ⟨S2x4096x20480, .f32⟩
  | 5 => ⟨S512x20480, .f32⟩
  | 6 => ⟨S2x256x20480, .f32⟩
  | 7 => ⟨S2x4096x2048, .f32⟩
  | 8 => ⟨S2x4096x16x128, .f32⟩
  | 9 => ⟨S2x4096x2048, .f32⟩
  | 10 => ⟨S2x4096x16x128, .f32⟩
  | 11 => ⟨S2x4096x2048, .f32⟩
  | 12 => ⟨S2x4096x16x128, .f32⟩
  | 13 => ⟨S2x256x2048, .f32⟩
  | 14 => ⟨S2x256x16x128, .f32⟩
  | 15 => ⟨S2x256x2048, .f32⟩
  | 16 => ⟨S2x256x16x128, .f32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64x1, .i32⟩
  | 30 => ⟨S1x64, .i32⟩
  | 31 => ⟨S64x64, .i32⟩
  | 32 => ⟨S64x64, .i32⟩
  | 33 => ⟨S64x64, .i1⟩
  | 34 => ⟨S_, .i32⟩
  | 35 => ⟨S64x1, .i32⟩
  | 36 => ⟨S64x1, .i32⟩
  | 37 => ⟨S64x64, .i32⟩
  | 38 => ⟨S64x64, .i32⟩
  | 39 => ⟨S64x64, .i1⟩
  | 40 => ⟨S64x64, .i1⟩
  | 41 => ⟨S64x1, .i32⟩
  | 42 => ⟨S64x64, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S_, .i32⟩
  | 53 => ⟨S_, .i32⟩
  | 54 => ⟨S64x64, .i32⟩
  | 55 => ⟨S64x64, .i32⟩
  | 56 => ⟨S_, .i32⟩
  | 57 => ⟨S64x64, .i32⟩
  | 58 => ⟨S64x64, .i32⟩
  | 59 => ⟨S64, .i32⟩
  | 60 => ⟨S_, .i32⟩
  | 61 => ⟨S64, .i32⟩
  | 62 => ⟨S64, .i32⟩
  | 63 => ⟨S_, .i32⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i32⟩
  | 71 => ⟨S64x1, .i32⟩
  | 72 => ⟨S1x64, .i32⟩
  | 73 => ⟨S64x64, .i32⟩
  | 74 => ⟨S64x64, .i32⟩
  | 75 => ⟨S64x64, .i1⟩
  | 76 => ⟨S_, .i32⟩
  | 77 => ⟨S64x1, .i32⟩
  | 78 => ⟨S64x1, .i32⟩
  | 79 => ⟨S64x64, .i32⟩
  | 80 => ⟨S64x64, .i32⟩
  | 81 => ⟨S64x64, .i1⟩
  | 82 => ⟨S64x64, .i1⟩
  | 83 => ⟨S64x1, .i32⟩
  | 84 => ⟨S64x64, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S_, .i32⟩
  | 94 => ⟨S_, .i32⟩
  | 95 => ⟨S_, .i32⟩
  | 96 => ⟨S64x64, .i32⟩
  | 97 => ⟨S64x64, .i32⟩
  | 98 => ⟨S_, .i32⟩
  | 99 => ⟨S64x64, .i32⟩
  | 100 => ⟨S64x64, .i32⟩
  | 101 => ⟨S_, .f32⟩
  | 102 => ⟨S2x4096x16x128, .f32⟩
  | 103 => ⟨S2x4096x16x128, .f32⟩
  | 104 => ⟨S2x16x4096x128, .f32⟩
  | 105 => ⟨S2x16x4096x128, .f32⟩
  | 106 => ⟨S2x16x4096x128, .f32⟩
  | 107 => ⟨S2x16x256x128, .f32⟩
  | 108 => ⟨S2x16x256x128, .f32⟩
  | 109 => ⟨S64x1x64x1, .i1⟩
  | 110 => ⟨S1x64x1x64, .i1⟩
  | 111 => ⟨S64x64x64x64, .i1⟩
  | 112 => ⟨S64x64x64x64, .i1⟩
  | 113 => ⟨S64x64x64x64, .i1⟩
  | 114 => ⟨S4096x4096, .i1⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S64x64, .i32⟩
  | 122 => ⟨S64x64x1, .i32⟩
  | 123 => ⟨S16x64x64x31, .f32⟩
  | 124 => ⟨S_, .i32⟩
  | 125 => ⟨S64x64, .i32⟩
  | 126 => ⟨S64x64, .i1⟩
  | 127 => ⟨S_, .i32⟩
  | _ => ⟨S8192x20480, .bf16⟩

abbrev hbmTy0_1 (i : Nat) : BufTy := match i % 128 with
  | 0 => ⟨S64x64, .i32⟩
  | 1 => ⟨S64x64, .i32⟩
  | 2 => ⟨S64x64, .i32⟩
  | 3 => ⟨S64x64x1, .i32⟩
  | 4 => ⟨S16x64x64x64x64, .f32⟩
  | 5 => ⟨S16x64x64x64x64, .f32⟩
  | 6 => ⟨S16x4096x4096, .f32⟩
  | 7 => ⟨S2x16x4096x4096, .f32⟩
  | 8 => ⟨S1x16x4096x4096, .f32⟩
  | 9 => ⟨S2x16x4096x4096, .f32⟩
  | 10 => ⟨S2x16x4096x4096, .f32⟩
  | 11 => ⟨S_, .f32⟩
  | 12 => ⟨S_, .f32⟩
  | 13 => ⟨S2x16x4096x4096, .i1⟩
  | 14 => ⟨S2x16x4096x4096, .f32⟩
  | 15 => ⟨S2x16x4096x4096, .f32⟩
  | 16 => ⟨S2x16x4096x256, .f32⟩
  | 17 => ⟨S2x16x4096x4352, .f32⟩
  | 18 => ⟨S_, .f32⟩
  | 19 => ⟨S2x16x4096, .f32⟩
  | 20 => ⟨S_, .f32⟩
  | 21 => ⟨S2x16x4096, .f32⟩
  | 22 => ⟨S2x16x4096, .f32⟩
  | 23 => ⟨S2x16x4096x1, .f32⟩
  | 24 => ⟨S2x16x4096x4352, .f32⟩
  | 25 => ⟨S2x16x4096x4352, .f32⟩
  | 26 => ⟨S2x16x4096x4352, .f32⟩
  | 27 => ⟨S_, .f32⟩
  | 28 => ⟨S2x16x4096, .f32⟩
  | 29 => ⟨S2x16x4096x1, .f32⟩
  | 30 => ⟨S2x16x4096x4352, .f32⟩
  | 31 => ⟨S2x16x4096x4352, .f32⟩
  | 32 => ⟨S2x16x4096x4096, .f32⟩
  | 33 => ⟨S2x16x4096x128, .f32⟩
  | 34 => ⟨S2x16x4096x256, .f32⟩
  | 35 => ⟨S2x16x4096x128, .f32⟩
  | 36 => ⟨S2x16x4096x128, .f32⟩
  | 37 => ⟨S2x4096x16x128, .f32⟩
  | 38 => ⟨S2x4096x2048, .f32⟩
  | 39 => ⟨S2x4096x2048, .bf16⟩
  | 40 => ⟨S8192x2048, .bf16⟩
  | _ => ⟨S8192x20480, .bf16⟩

abbrev hbmTy (i : Nat) : BufTy := match i / 128 with
  | 0 => hbmTy0_0 i
  | 1 => hbmTy0_1 i
  | _ => ⟨S8192x20480, .bf16⟩

abbrev bufTy : (tb : Table) → Fin (tcTables nBuf tb) → BufTy
  | .hbm, ⟨i, _⟩ => hbmTy i
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_c_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_c_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_c_12 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_c_14 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v61 : Ref sig .tc := ⟨.hbm, 100, rfl⟩
abbrev main_cst : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_15 : Ref sig .tc := ⟨.hbm, 115, rfl⟩
abbrev main_v75 : Ref sig .tc := ⟨.hbm, 116, rfl⟩
abbrev main_v76 : Ref sig .tc := ⟨.hbm, 117, rfl⟩
abbrev main_c_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_17 : Ref sig .tc := ⟨.hbm, 124, rfl⟩
abbrev main_v82 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_20 : Ref sig .tc := ⟨.hbm, 146, rfl⟩
abbrev main_v98 : Ref sig .tc := ⟨.hbm, 147, rfl⟩
abbrev main_cst_21 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_22 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]
-- ==== Kernel2.lean ====
abbrev S8192x4096 : Shape := ⟨2, ![8192, 4096]⟩
abbrev S4096x20480 : Shape := ⟨2, ![4096, 20480]⟩
abbrev S20480 : Shape := ⟨1, ![20480]⟩
abbrev S1x20480 : Shape := ⟨2, ![1, 20480]⟩
abbrev S8192x20480 : Shape := ⟨2, ![8192, 20480]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S20480, .f32⟩
  | .hbm, ⟨3, _⟩ => ⟨S4096x20480, .bf16⟩
  | .hbm, ⟨4, _⟩ => ⟨S1x20480, .f32⟩
  | .hbm, ⟨5, _⟩ => ⟨S8192x20480, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S4096x20480 : Shape := ⟨2, ![4096, 20480]⟩
abbrev S20480 : Shape := ⟨1, ![20480]⟩
abbrev S8192x20480 : Shape := ⟨2, ![8192, 20480]⟩
abbrev S1x20480 : Shape := ⟨2, ![1, 20480]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S20480, .f32⟩
  | .hbm, ⟨3, _⟩ => ⟨S8192x4096, .f32⟩
  | .hbm, ⟨4, _⟩ => ⟨S8192x20480, .f32⟩
  | .hbm, ⟨5, _⟩ => ⟨S1x20480, .f32⟩
  | .hbm, ⟨6, _⟩ => ⟨S8192x20480, .f32⟩
  | .hbm, ⟨7, _⟩ => ⟨S8192x20480, .f32⟩
  | .hbm, ⟨8, _⟩ => ⟨S8192x20480, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4096 : Shape := ⟨2, ![8192, 4096]⟩
abbrev S2048x4096 : Shape := ⟨2, ![2048, 4096]⟩
abbrev S8192x20480 : Shape := ⟨2, ![8192, 20480]⟩
abbrev S512x4096 : Shape := ⟨2, ![512, 4096]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .f32⟩
  | .hbm, ⟨2, _⟩ => ⟨S2048x4096, .f32⟩
  | .hbm, ⟨3, _⟩ => ⟨S8192x20480, .bf16⟩
  | .hbm, ⟨4, _⟩ => ⟨S2048x4096, .bf16⟩
  | .hbm, ⟨5, _⟩ => ⟨S2048x4096, .bf16⟩
  | .hbm, ⟨6, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x4096 : Shape := ⟨2, ![8192, 4096]⟩
abbrev S2048x4096 : Shape := ⟨2, ![2048, 4096]⟩
abbrev S8192x20480 : Shape := ⟨2, ![8192, 20480]⟩
abbrev S8192x2048 : Shape := ⟨2, ![8192, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .f32⟩
  | .hbm, ⟨2, _⟩ => ⟨S2048x4096, .f32⟩
  | .hbm, ⟨3, _⟩ => ⟨S8192x20480, .bf16⟩
  | .hbm, ⟨4, _⟩ => ⟨S8192x4096, .f32⟩
  | .hbm, ⟨5, _⟩ => ⟨S8192x20480, .f32⟩
  | .hbm, ⟨6, _⟩ => ⟨S8192x4096, .f32⟩
  | .hbm, ⟨7, _⟩ => ⟨S8192x4096, .f32⟩
  | .hbm, ⟨8, _⟩ => ⟨S8192x2048, .f32⟩
  | .hbm, ⟨9, _⟩ => ⟨S8192x4096, .f32⟩
  | .hbm, ⟨10, _⟩ => ⟨S8192x2048, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S8x1x4096 : Shape := ⟨3, ![8, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8x1x4096, .f32⟩
  | .hbm, ⟨4, _⟩ => ⟨S4096x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S4096x4096 : Shape := ⟨2, ![4096, 4096]⟩
abbrev S8x1x4096 : Shape := ⟨3, ![8, 1, 4096]⟩
abbrev S2x4096x4096 : Shape := ⟨3, ![2, 4096, 4096]⟩
abbrev S2x1x4096 : Shape := ⟨3, ![2, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8x1x4096, .f32⟩
  | .hbm, ⟨4, _⟩ => ⟨S2x4096x4096, .f32⟩
  | .hbm, ⟨5, _⟩ => ⟨S8192x4096, .f32⟩
  | .hbm, ⟨6, _⟩ => ⟨S8192x4096, .f32⟩
  | .hbm, ⟨7, _⟩ => ⟨S2x4096x4096, .f32⟩
  | .hbm, ⟨8, _⟩ => ⟨S2x1x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S512x4096 : Shape := ⟨2, ![512, 4096]⟩
abbrev S4096x20480 : Shape := ⟨2, ![4096, 20480]⟩
abbrev S20480 : Shape := ⟨1, ![20480]⟩
abbrev S1x20480 : Shape := ⟨2, ![1, 20480]⟩
abbrev S512x20480 : Shape := ⟨2, ![512, 20480]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x20480, .f32⟩
  | .hbm, ⟨2, _⟩ => ⟨S20480, .f32⟩
  | .hbm, ⟨3, _⟩ => ⟨S4096x20480, .bf16⟩
  | .hbm, ⟨4, _⟩ => ⟨S1x20480, .f32⟩
  | .hbm, ⟨5, _⟩ => ⟨S512x20480, .bf16⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S512x4096 : Shape := ⟨2, ![512, 4096]⟩
abbrev S4096x20480 : Shape := ⟨2, ![4096, 20480]⟩
abbrev S20480 : Shape := ⟨1, ![20480]⟩
abbrev S512x20480 : Shape := ⟨2, ![512, 20480]⟩
abbrev S1x20480 : Shape := ⟨2, ![1, 20480]⟩

abbrev nBuf : Space → Nat
  | .hbm => 9
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x20480, .f32⟩
  | .hbm, ⟨2, _⟩ => ⟨S20480, .f32⟩
  | .hbm, ⟨3, _⟩ => ⟨S512x4096, .f32⟩
  | .hbm, ⟨4, _⟩ => ⟨S512x20480, .f32⟩
  | .hbm, ⟨5, _⟩ => ⟨S1x20480, .f32⟩
  | .hbm, ⟨6, _⟩ => ⟨S512x20480, .f32⟩
  | .hbm, ⟨7, _⟩ => ⟨S512x20480, .f32⟩
  | .hbm, ⟨8, _⟩ => ⟨S512x20480, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S512x4096 : Shape := ⟨2, ![512, 4096]⟩
abbrev S2048x4096 : Shape := ⟨2, ![2048, 4096]⟩
abbrev S512x20480 : Shape := ⟨2, ![512, 20480]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S512x4096, .bf16⟩
  | .hbm, ⟨1, _⟩ => ⟨S2048x4096, .f32⟩
  | .hbm, ⟨2, _⟩ => ⟨S2048x4096, .f32⟩
  | .hbm, ⟨3, _⟩ => ⟨S512x20480, .bf16⟩
  | .hbm, ⟨4, _⟩ => ⟨S2048x4096, .bf16⟩
  | .hbm, ⟨5, _⟩ => ⟨S2048x4096, .bf16⟩
  | .hbm, ⟨6, _⟩ => ⟨S512x4096, .bf16⟩
  | .local _ .vmem, ⟨0, _⟩ => ⟨S512x4096, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S512x4096 : Shape := ⟨2, ![512, 4096]⟩
abbrev S2048x4096 : Shape := ⟨2, ![2048, 4096]⟩
abbrev S512x20480 : Shape := ⟨2, ![512, 20480]⟩
abbrev S512x2048 : Shape := ⟨2, ![512, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S2048x4096, .f32⟩
  | .hbm, ⟨2, _⟩ => ⟨S2048x4096, .f32⟩
  | .hbm, ⟨3, _⟩ => ⟨S512x20480, .bf16⟩
  | .hbm, ⟨4, _⟩ => ⟨S512x4096, .f32⟩
  | .hbm, ⟨5, _⟩ => ⟨S512x20480, .f32⟩
  | .hbm, ⟨6, _⟩ => ⟨S512x4096, .f32⟩
  | .hbm, ⟨7, _⟩ => ⟨S512x4096, .f32⟩
  | .hbm, ⟨8, _⟩ => ⟨S512x2048, .f32⟩
  | .hbm, ⟨9, _⟩ => ⟨S512x4096, .f32⟩
  | .hbm, ⟨10, _⟩ => ⟨S512x2048, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S512x4096, .f32⟩
  | .hbm, ⟨23, _⟩ => ⟨S_, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S512x4096, .f32⟩
  | .hbm, ⟨31, _⟩ => ⟨S512x4096, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel7.lean ====
abbrev S512x4096 : Shape := ⟨2, ![512, 4096]⟩
abbrev S4096x4096 : Shape := ⟨2, ![4096, 4096]⟩
abbrev S8x1x4096 : Shape := ⟨3, ![8, 1, 4096]⟩
abbrev S4096x1024 : Shape := ⟨2, ![4096, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .f32⟩
  | .hbm, ⟨3, _⟩ => ⟨S8x1x4096, .f32⟩
  | .hbm, ⟨4, _⟩ => ⟨S4096x4096, .bf16⟩
  | .hbm, ⟨5, _⟩ => ⟨S512x4096, .f32⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S512x4096 : Shape := ⟨2, ![512, 4096]⟩
abbrev S4096x4096 : Shape := ⟨2, ![4096, 4096]⟩
abbrev S8x1x4096 : Shape := ⟨3, ![8, 1, 4096]⟩
abbrev S1x1x4096 : Shape := ⟨3, ![1, 1, 4096]⟩
abbrev S4096 : Shape := ⟨1, ![4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .f32⟩
  | .hbm, ⟨3, _⟩ => ⟨S8x1x4096, .f32⟩
  | .hbm, ⟨4, _⟩ => ⟨S1x1x4096, .f32⟩
  | .hbm, ⟨5, _⟩ => ⟨S4096, .f32⟩
  | .hbm, ⟨6, _⟩ => ⟨S512x4096, .f32⟩
  | .hbm, ⟨7, _⟩ => ⟨S512x4096, .f32⟩
  | .hbm, ⟨8, _⟩ => ⟨S1x4096, .f32⟩
  | .hbm, ⟨9, _⟩ => ⟨S512x4096, .f32⟩
  | .hbm, ⟨10, _⟩ => ⟨S512x4096, .f32⟩
  | .hbm, ⟨11, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S8x1x4096 : Shape := ⟨3, ![8, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x4096 : Shape := ⟨2, ![8192, 4096]⟩
abbrev S4096 : Shape := ⟨1, ![4096]⟩
abbrev S8x1x4096 : Shape := ⟨3, ![8, 1, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x1x4096 : Shape := ⟨3, ![2, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S2x4096x4096, .f32⟩
  | .hbm, ⟨5, _⟩ => ⟨S2x4096x4096, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S2x1x4096, .f32⟩
  | .hbm, ⟨22, _⟩ => ⟨S_, .f32⟩
  | .hbm, ⟨23, _⟩ => ⟨S2x1x4096, .f32⟩
  | .hbm, ⟨24, _⟩ => ⟨S2x1x4096, .f32⟩
  | .hbm, ⟨25, _⟩ => ⟨S2x4096x4096, .f32⟩
  | .hbm, ⟨26, _⟩ => ⟨S2x4096x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S8192x4096, .f32⟩
  | .hbm, ⟨31, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S8x4096 : Shape := ⟨2, ![8, 4096]⟩
abbrev S2x4096x12288 : Shape := ⟨3, ![2, 4096, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x4096 : Shape := ⟨2, ![8, 4096]⟩
abbrev S2x4096x12288 : Shape := ⟨3, ![2, 4096, 12288]⟩
abbrev S2x12288 : Shape := ⟨2, ![2, 12288]⟩
abbrev S_ : Shape := ⟨0, ![]⟩
abbrev S1x4096x12288 : Shape := ⟨3, ![1, 4096, 12288]⟩
abbrev S4096x12288 : Shape := ⟨2, ![4096, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 40
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x12288, .f32⟩
  | .hbm, ⟨2, _⟩ => ⟨S2x12288, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x12288, .f32⟩
  | .hbm, ⟨13, _⟩ => ⟨S4096x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S1x4096x12288, .f32⟩
  | .hbm, ⟨30, _⟩ => ⟨S4096x12288, .f32⟩
  | .hbm, ⟨31, _⟩ => ⟨S8x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S8x12288, .f32⟩
  | .hbm, ⟨36, _⟩ => ⟨S8x12288, .f32⟩
  | .hbm, ⟨37, _⟩ => ⟨S1x8x12288, .f32⟩
  | .hbm, ⟨38, _⟩ => ⟨S1x8x12288, .f32⟩
  | .hbm, ⟨39, _⟩ => ⟨S2x8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel11.lean ====
abbrev S512x4096 : Shape := ⟨2, ![512, 4096]⟩
abbrev S4096x20480 : Shape := ⟨2, ![4096, 20480]⟩
abbrev S20480 : Shape := ⟨1, ![20480]⟩
abbrev S4096x4096 : Shape := ⟨2, ![4096, 4096]⟩
abbrev S4096 : Shape := ⟨1, ![4096]⟩
abbrev S1x4096 : Shape := ⟨2, ![1, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x20480, .f32⟩
  | .hbm, ⟨2, _⟩ => ⟨S20480, .f32⟩
  | .hbm, ⟨3, _⟩ => ⟨S4096x20480, .bf16⟩
  | .hbm, ⟨4, _⟩ => ⟨S4096x4096, .bf16⟩
  | .hbm, ⟨5, _⟩ => ⟨S4096, .f32⟩
  | .hbm, ⟨6, _⟩ => ⟨S1x4096, .f32⟩
  | .hbm, ⟨7, _⟩ => ⟨S512x4096, .bf16⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S512x4096 : Shape := ⟨2, ![512, 4096]⟩
abbrev S4096x20480 : Shape := ⟨2, ![4096, 20480]⟩
abbrev S20480 : Shape := ⟨1, ![20480]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x20480, .f32⟩
  | .hbm, ⟨2, _⟩ => ⟨S20480, .f32⟩
  | .hbm, ⟨3, _⟩ => ⟨S512x4096, .f32⟩
  | .hbm, ⟨4, _⟩ => ⟨S4096x4096, .f32⟩
  | .hbm, ⟨5, _⟩ => ⟨S512x4096, .f32⟩
  | .hbm, ⟨6, _⟩ => ⟨S4096, .f32⟩
  | .hbm, ⟨7, _⟩ => ⟨S1x4096, .f32⟩
  | .hbm, ⟨8, _⟩ => ⟨S512x4096, .f32⟩
  | .hbm, ⟨9, _⟩ => ⟨S512x4096, .f32⟩
  | .hbm, ⟨10, _⟩ => ⟨S512x4096, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S512x4096 : Shape := ⟨2, ![512, 4096]⟩
abbrev S4096 : Shape := ⟨1, ![4096]⟩
abbrev S8x1x4096 : Shape := ⟨3, ![8, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S512x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S256x4096, .bf16⟩
  | .local _ .vmem, ⟨6, _⟩ => ⟨S256x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S512x4096 : Shape := ⟨2, ![512, 4096]⟩
abbrev S4096 : Shape := ⟨1, ![4096]⟩
abbrev S8x1x4096 : Shape := ⟨3, ![8, 1, 4096]⟩
abbrev S_ : Shape := ⟨0, ![]⟩
abbrev S512 : Shape := ⟨1, ![512]⟩
abbrev S512x1 : Shape := ⟨2, ![512, 1]⟩
abbrev S1x4096 : Shape := ⟨2, ![1, 4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S512x4096, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x4096, .f32⟩
  | .hbm, ⟨16, _⟩ => ⟨S512x4096, .f32⟩
  | .hbm, ⟨17, _⟩ => ⟨S1x4096, .f32⟩
  | .hbm, ⟨18, _⟩ => ⟨S512x4096, .f32⟩
  | .hbm, ⟨19, _⟩ => ⟨S512x4096, .f32⟩
  | .hbm, ⟨20, _⟩ => ⟨S1x1x4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1x4096, .f32⟩
  | .hbm, ⟨26, _⟩ => ⟨S512x4096, .f32⟩
  | .hbm, ⟨27, _⟩ => ⟨S512x4096, .f32⟩
  | .hbm, ⟨28, _⟩ => ⟨S1x1x4096, .f32⟩
  | .hbm, ⟨29, _⟩ => ⟨S4096, .f32⟩
  | .hbm, ⟨30, _⟩ => ⟨S1x4096, .f32⟩
  | .hbm, ⟨31, _⟩ => ⟨S512x4096, .f32⟩
  | .hbm, ⟨32, _⟩ => ⟨S512x4096, .f32⟩
  | .hbm, ⟨33, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel13.lean ====
abbrev S512x20480 : Shape := ⟨2, ![512, 20480]⟩
abbrev S512x2048 : Shape := ⟨2, ![512, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S512x20480, .bf16⟩
  | .hbm, ⟨1, _⟩ => ⟨S512x2048, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S512x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S512x20480 : Shape := ⟨2, ![512, 20480]⟩
abbrev S2x256x20480 : Shape := ⟨3, ![2, 256, 20480]⟩
abbrev S2x256x2048 : Shape := ⟨3, ![2, 256, 2048]⟩
abbrev S2x256x16x128 : Shape := ⟨4, ![2, 256, 16, 128]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x128x256 : Shape := ⟨4, ![2, 16, 128, 256]⟩
abbrev S512x2048 : Shape := ⟨2, ![512, 2048]⟩

abbrev nBuf : Space → Nat
  | .hbm => 32
  | .vmem => 0
  | .smem => 0
  | _ => 0

abbrev bufTy : (tb : Table) → Fin (tcTables nBuf tb) → BufTy
  | .hbm, ⟨0, _⟩ => ⟨S512x20480, .bf16⟩
  | .hbm, ⟨1, _⟩ => ⟨S512x20480, .f32⟩
  | .hbm, ⟨2, _⟩ => ⟨S2x256x20480, .f32⟩
  | .hbm, ⟨3, _⟩ => ⟨S2x256x2048, .f32⟩
  | .hbm, ⟨4, _⟩ => ⟨S2x256x16x128, .f32⟩
  | .hbm, ⟨5, _⟩ => ⟨S2x256x2048, .f32⟩
  | .hbm, ⟨6, _⟩ => ⟨S2x256x16x128, .f32⟩
  | .hbm, ⟨7, _⟩ => ⟨S2x256x2048, .f32⟩
  | .hbm, ⟨8, _⟩ => ⟨S2x256x16x128, .f32⟩
  | .hbm, ⟨9, _⟩ => ⟨S_, .f32⟩
  | .hbm, ⟨10, _⟩ => ⟨S2x256x16x128, .f32⟩
  | .hbm, ⟨11, _⟩ => ⟨S2x256x16x128, .f32⟩
  | .hbm, ⟨12, _⟩ => ⟨S2x16x256x256, .f32⟩
  | .hbm, ⟨13, _⟩ => ⟨S_, .f32⟩
  | .hbm, ⟨14, _⟩ => ⟨S2x16x256, .f32⟩
  | .hbm, ⟨15, _⟩ => ⟨S_, .f32⟩
  | .hbm, ⟨16, _⟩ => ⟨S2x16x256, .f32⟩
  | .hbm, ⟨17, _⟩ => ⟨S2x16x256, .f32⟩
  | .hbm, ⟨18, _⟩ => ⟨S2x16x256x1, .f32⟩
  | .hbm, ⟨19, _⟩ => ⟨S2x16x256x256, .f32⟩
  | .hbm, ⟨20, _⟩ => ⟨S2x16x256x256, .f32⟩
  | .hbm, ⟨21, _⟩ => ⟨S2x16x256x256, .f32⟩
  | .hbm, ⟨22, _⟩ => ⟨S_, .f32⟩
  | .hbm, ⟨23, _⟩ => ⟨S2x16x256, .f32⟩
  | .hbm, ⟨24, _⟩ => ⟨S2x16x256x1, .f32⟩
  | .hbm, ⟨25, _⟩ => ⟨S2x16x256x256, .f32⟩
  | .hbm, ⟨26, _⟩ => ⟨S2x16x256x256, .f32⟩
  | .hbm, ⟨27, _⟩ => ⟨S2x16x128x256, .f32⟩
  | .hbm, ⟨28, _⟩ => ⟨S2x256x16x128, .f32⟩
  | .hbm, ⟨29, _⟩ => ⟨S2x256x2048, .f32⟩
  | .hbm, ⟨30, _⟩ => ⟨S2x256x2048, .bf16⟩
  | .hbm, ⟨31, _⟩ => ⟨S512x2048, .bf16⟩
  | _, _ => ⟨S512x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel14.lean ====
abbrev S8192x20480 : Shape := ⟨2, ![8192, 20480]⟩
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S8192x4096 : Shape := ⟨2, ![8192, 4096]⟩
abbrev S256x2048 : Shape := ⟨2, ![256, 2048]⟩
abbrev S64x2048 : Shape := ⟨2, ![64, 2048]⟩
abbrev S256x4096 : Shape := ⟨2, ![256, 4096]⟩
abbrev S384x2048 : Shape := ⟨2, ![384, 2048]⟩
abbrev S256x384 : Shape := ⟨2, ![256, 384]⟩
abbrev S256x1 : Shape := ⟨2, ![256, 1]⟩
abbrev S384x512 : Shape := ⟨2, ![384, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x20480, .bf16⟩
  | .hbm, ⟨1, _⟩ => ⟨S8192x2048, .bf16⟩
  | .hbm, ⟨2, _⟩ => ⟨S4x512x512, .f32⟩
  | .hbm, ⟨3, _⟩ => ⟨S2048, .f32⟩
  | .hbm, ⟨4, _⟩ => ⟨S4x512x512, .bf16⟩
  | .hbm, ⟨5, _⟩ => ⟨S1x2048, .f32⟩
  | .hbm, ⟨6, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S4x512x512, .bf16⟩
  | .local _ .vmem, ⟨13, _⟩ => ⟨S1x2048, .f32⟩
  | .local _ .vmem, ⟨14, _⟩ => ⟨S256x4096, .bf16⟩
  | .local _ .vmem, ⟨15, _⟩ => ⟨S256x4096, .bf16⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8192x20480 : Shape := ⟨2, ![8192, 20480]⟩
abbrev S8192x2048 : Shape := ⟨2, ![8192, 2048]⟩
abbrev S4x512x512 : Shape := ⟨3, ![4, 512, 512]⟩
abbrev S2048 : Shape := ⟨1, ![2048]⟩
abbrev S2x4096x20480 : Shape := ⟨3, ![2, 4096, 20480]⟩
abbrev S2x4096x2048 : Shape := ⟨3, ![2, 4096, 2048]⟩
abbrev S2x4096x4x512 : Shape := ⟨4, ![2, 4096, 4, 512]⟩
abbrev S4096 : Shape := ⟨1, ![4096]⟩
abbrev S4 : Shape := ⟨1, ![4]⟩
abbrev S_ : Shape := ⟨0, ![]⟩
abbrev S1x4 : Shape := ⟨2, ![1, 4]⟩
abbrev S4096x1 : Shape := ⟨2, ![4096, 1]⟩
abbrev S4096x4 : Shape := ⟨2, ![4096, 4]⟩
abbrev S1x4096x1 : Shape := ⟨3, ![1, 4096, 1]⟩
abbrev S4096x1x4 : Shape := ⟨3, ![4096, 1, 4]⟩
abbrev S4096x4096x4 : Shape := ⟨3, ![4096, 4096, 4]⟩
abbrev S4x2x512x4096 : Shape := ⟨4, ![4, 2, 512, 4096]⟩
abbrev S1x4096x4x1 : Shape := ⟨4, ![1, 4096, 4, 1]⟩
abbrev S4x512x2x4096 : Shape := ⟨4, ![4, 512, 2, 4096]⟩
abbrev S1x1x2048 : Shape := ⟨3, ![1, 1, 2048]⟩
abbrev S2x4096x4096 : Shape := ⟨3, ![2, 4096, 4096]⟩
abbrev S8192x4096 : Shape := ⟨2, ![8192, 4096]⟩

abbrev nBuf : Space → Nat
  | .hbm => 106
  | .vmem => 0
  | .smem => 0
  | _ => 0

abbrev bufTy : (tb : Table) → Fin (tcTables nBuf tb) → BufTy
  | .hbm, ⟨0, _⟩ => ⟨S8192x20480, .bf16⟩
  | .hbm, ⟨1, _⟩ => ⟨S8192x2048, .bf16⟩
  | .hbm, ⟨2, _⟩ => ⟨S4x512x512, .f32⟩
  | .hbm, ⟨3, _⟩ => ⟨S2048, .f32⟩
  | .hbm, ⟨4, _⟩ => ⟨S8192x20480, .f32⟩
  | .hbm, ⟨5, _⟩ => ⟨S2x4096x20480, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x4x512, .f32⟩
  | .hbm, ⟨12, _⟩ => ⟨S4096, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x4, .i32⟩
  | .hbm, ⟨18, _⟩ => ⟨S4096x1, .i32⟩
  | .hbm, ⟨19, _⟩ => ⟨S4096x4, .i32⟩
  | .hbm, ⟨20, _⟩ => ⟨S4096x4, .i32⟩
  | .hbm, ⟨21, _⟩ => ⟨S4096x4, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096x4, .i32⟩
  | .hbm, ⟨26, _⟩ => ⟨S4096x4, .i32⟩
  | .hbm, ⟨27, _⟩ => ⟨S_, .i32⟩
  | .hbm, ⟨28, _⟩ => ⟨S4096x4, .i32⟩
  | .hbm, ⟨29, _⟩ => ⟨S4096x4, .i32⟩
  | .hbm, ⟨30, _⟩ => ⟨S4096x1, .i32⟩
  | .hbm, ⟨31, _⟩ => ⟨S4096x4, .i32⟩
  | .hbm, ⟨32, _⟩ => ⟨S4096x4, .i32⟩
  | .hbm, ⟨33, _⟩ => ⟨S4096x4, .i32⟩
  | .hbm, ⟨34, _⟩ => ⟨S_, .i32⟩
  | .hbm, ⟨35, _⟩ => ⟨S1x4, .i32⟩
  | .hbm, ⟨36, _⟩ => ⟨S1x4, .i32⟩
  | .hbm, ⟨37, _⟩ => ⟨S4096x4, .i32⟩
  | .hbm, ⟨38, _⟩ => ⟨S4096x4, .i32⟩
  | .hbm, ⟨39, _⟩ => ⟨S_, .i32⟩
  | .hbm, ⟨40, _⟩ => ⟨S4096x4, .i32⟩
  | .hbm, ⟨41, _⟩ => ⟨S4096x4, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S4096x4, .i32⟩
  | .hbm, ⟨46, _⟩ => ⟨S4096x4, .i32⟩
  | .hbm, ⟨47, _⟩ => ⟨S_, .i32⟩
  | .hbm, ⟨48, _⟩ => ⟨S4096x4, .i32⟩
  | .hbm, ⟨49, _⟩ => ⟨S4096x4, .i32⟩
  | .hbm, ⟨50, _⟩ => ⟨S1x4096x1, .i32⟩
  | .hbm, ⟨51, _⟩ => ⟨S4096x1x4, .i32⟩
  | .hbm, ⟨52, _⟩ => ⟨S4096x4096x4, .i32⟩
  | .hbm, ⟨53, _⟩ => ⟨S4096x4096x4, .i32⟩
  | .hbm, ⟨54, _⟩ => ⟨S4096x4096x4, .i1⟩
  | .hbm, ⟨55, _⟩ => ⟨S1x4096x1, .i32⟩
  | .hbm, ⟨56, _⟩ => ⟨S4096x1x4, .i32⟩
  | .hbm, ⟨57, _⟩ => ⟨S4096x4096x4, .i32⟩
  | .hbm, ⟨58, _⟩ => ⟨S4096x4096x4, .i32⟩
  | .hbm, ⟨59, _⟩ => ⟨S4096x4096x4, .i1⟩
  | .hbm, ⟨60, _⟩ => ⟨S4096x4096x4, .i1⟩
  | .hbm, ⟨61, _⟩ => ⟨S_, .f32⟩
  | .hbm, ⟨62, _⟩ => ⟨S_, .f32⟩
  | .hbm, ⟨63, _⟩ => ⟨S4096x4096x4, .f32⟩
  | .hbm, ⟨64, _⟩ => ⟨S4096x4096x4, .f32⟩
  | .hbm, ⟨65, _⟩ => ⟨S4096x4096x4, .f32⟩
  | .hbm, ⟨66, _⟩ => ⟨S4x2x512x4096, .f32⟩
  | .hbm, ⟨67, _⟩ => ⟨S2x4096x4x512, .f32⟩
  | .hbm, ⟨68, _⟩ => ⟨S4096x4, .i32⟩
  | .hbm, ⟨69, _⟩ => ⟨S_, .i32⟩
  | .hbm, ⟨70, _⟩ => ⟨S4096x4, .i32⟩
  | .hbm, ⟨71, _⟩ => ⟨S4096x4, .i32⟩
  | .hbm, ⟨72, _⟩ => ⟨S4096x4, .f32⟩
  | .hbm, ⟨73, _⟩ => ⟨S1x4096x4x1, .f32⟩
  | .hbm, ⟨74, _⟩ => ⟨S2x4096x4x512, .f32⟩
  | .hbm, ⟨75, _⟩ => ⟨S2x4096x4x512, .f32⟩
  | .hbm, ⟨76, _⟩ => ⟨S2x4096x4x512, .f32⟩
  | .hbm, ⟨77, _⟩ => ⟨S4x512x2x4096, .f32⟩
  | .hbm, ⟨78, _⟩ => ⟨S2x4096x4x512, .f32⟩
  | .hbm, ⟨79, _⟩ => ⟨S2x4096x2048, .f32⟩
  | .hbm, ⟨80, _⟩ => ⟨S1x1x2048, .f32⟩
  | .hbm, ⟨81, _⟩ => ⟨S2x4096x2048, .f32⟩
  | .hbm, ⟨82, _⟩ => ⟨S2x4096x2048, .f32⟩
  | .hbm, ⟨83, _⟩ => ⟨S2x4096x2048, .f32⟩
  | .hbm, ⟨84, _⟩ => ⟨S2x4096x2048, .f32⟩
  | .hbm, ⟨85, _⟩ => ⟨S_, .f32⟩
  | .hbm, ⟨86, _⟩ => ⟨S2x4096x2048, .f32⟩
  | .hbm, ⟨87, _⟩ => ⟨S2x4096x2048, .f32⟩
  | .hbm, ⟨88, _⟩ => ⟨S_, .f32⟩
  | .hbm, ⟨89, _⟩ => ⟨S2x4096x2048, .f32⟩
  | .hbm, ⟨90, _⟩ => ⟨S2x4096x2048, .f32⟩
  | .hbm, ⟨91, _⟩ => ⟨S2x4096x2048, .f32⟩
  | .hbm, ⟨92, _⟩ => ⟨S2x4096x2048, .f32⟩
  | .hbm, ⟨93, _⟩ => ⟨S2x4096x2048, .f32⟩
  | .hbm, ⟨94, _⟩ => ⟨S2x4096x2048, .f32⟩
  | .hbm, ⟨95, _⟩ => ⟨S_, .f32⟩
  | .hbm, ⟨96, _⟩ => ⟨S2x4096x2048, .f32⟩
  | .hbm, ⟨97, _⟩ => ⟨S2x4096x2048, .f32⟩
  | .hbm, ⟨98, _⟩ => ⟨S_, .f32⟩
  | .hbm, ⟨99, _⟩ => ⟨S2x4096x2048, .f32⟩
  | .hbm, ⟨100, _⟩ => ⟨S2x4096x2048, .f32⟩
  | .hbm, ⟨101, _⟩ => ⟨S2x4096x2048, .f32⟩
  | .hbm, ⟨102, _⟩ => ⟨S2x4096x2048, .f32⟩
  | .hbm, ⟨103, _⟩ => ⟨S2x4096x4096, .f32⟩
  | .hbm, ⟨104, _⟩ => ⟨S2x4096x4096, .bf16⟩
  | .hbm, ⟨105, _⟩ => ⟨S8192x4096, .bf16⟩
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_cst_6 : Ref sig .tc := ⟨.hbm, 62, rfl⟩
abbrev main_call2_v0 : Ref sig .tc := ⟨.hbm, 63, rfl⟩
abbrev main_call2_v1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v57 : Ref sig .tc := ⟨.hbm, 91, rfl⟩
abbrev main_v58 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]
-- ==== Kernel15.lean ====
abbrev S512x20480 : Shape := ⟨2, ![512, 20480]⟩
abbrev S512x2048 : Shape := ⟨2, ![512, 2048]⟩
abbrev S4x512x512 : Shape := ⟨3, ![4, 512, 512]⟩
abbrev S2048 : Shape := ⟨1, ![2048]⟩
abbrev S1x2048 : Shape := ⟨2, ![1, 2048]⟩
abbrev S512x4096 : Shape := ⟨2, ![512, 4096]⟩
abbrev S256x2048 : Shape := ⟨2, ![256, 2048]⟩
abbrev S64x2048 : Shape := ⟨2, ![64, 2048]⟩
abbrev S256x4096 : Shape := ⟨2, ![256, 4096]⟩
abbrev S384x2048 : Shape := ⟨2, ![384, 2048]⟩
abbrev S256x384 : Shape := ⟨2, ![256, 384]⟩
abbrev S256x1 : Shape := ⟨2, ![256, 1]⟩
abbrev S384x512 : Shape := ⟨2, ![384, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S512x20480, .bf16⟩
  | .hbm, ⟨1, _⟩ => ⟨S512x2048, .bf16⟩
  | .hbm, ⟨2, _⟩ => ⟨S4x512x512, .f32⟩
  | .hbm, ⟨3, _⟩ => ⟨S2048, .f32⟩
  | .hbm, ⟨4, _⟩ => ⟨S4x512x512, .bf16⟩
  | .hbm, ⟨5, _⟩ => ⟨S1x2048, .f32⟩
  | .hbm, ⟨6, _⟩ => ⟨S512x4096, .bf16⟩
  | .local _ .vmem, ⟨0, _⟩ => ⟨S256x2048, .bf16⟩
  | .local _ .vmem, ⟨1, _⟩ => ⟨S256x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S4x512x512, .bf16⟩
  | .local _ .vmem, ⟨13, _⟩ => ⟨S1x2048, .f32⟩
  | .local _ .vmem, ⟨14, _⟩ => ⟨S256x4096, .bf16⟩
  | .local _ .vmem, ⟨15, _⟩ => ⟨S256x4096, .bf16⟩
  | _, _ => ⟨S512x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S512x20480 : Shape := ⟨2, ![512, 20480]⟩
abbrev S512x2048 : Shape := ⟨2, ![512, 2048]⟩
abbrev S4x512x512 : Shape := ⟨3, ![4, 512, 512]⟩
abbrev S2048 : Shape := ⟨1, ![2048]⟩
abbrev S2x256x20480 : Shape := ⟨3, ![2, 256, 20480]⟩
abbrev S2x256x2048 : Shape := ⟨3, ![2, 256, 2048]⟩
abbrev S2x256x4x512 : Shape := ⟨4, ![2, 256, 4, 512]⟩
abbrev S256 : Shape := ⟨1, ![256]⟩
abbrev S4 : Shape := ⟨1, ![4]⟩
abbrev S_ : Shape := ⟨0, ![]⟩
abbrev S1x4 : Shape := ⟨2, ![1, 4]⟩
abbrev S256x1 : Shape := ⟨2, ![256, 1]⟩
abbrev S256x4 : Shape := ⟨2, ![256, 4]⟩
abbrev S1x256x1 : Shape := ⟨3, ![1, 256, 1]⟩
abbrev S256x1x4 : Shape := ⟨3, ![256, 1, 4]⟩
abbrev S256x256x4 : Shape := ⟨3, ![256, 256, 4]⟩
abbrev S4x2x512x256 : Shape := ⟨4, ![4, 2, 512, 256]⟩
abbrev S1x256x4x1 : Shape := ⟨4, ![1, 256, 4, 1]⟩
abbrev S4x512x2x256 : Shape := ⟨4, ![4, 512, 2, 256]⟩
abbrev S1x1x2048 : Shape := ⟨3, ![1, 1, 2048]⟩
abbrev S2x256x4096 : Shape := ⟨3, ![2, 256, 4096]⟩
abbrev S512x4096 : Shape := ⟨2, ![512, 4096]⟩

abbrev nBuf : Space → Nat
  | .hbm => 106
  | .vmem => 0
  | .smem => 0
  | _ => 0

abbrev bufTy : (tb : Table) → Fin (tcTables nBuf tb) → BufTy
  | .hbm, ⟨0, _⟩ => ⟨S512x20480, .bf16⟩
  | .hbm, ⟨1, _⟩ => ⟨S512x2048, .bf16⟩
  | .hbm, ⟨2, _⟩ => ⟨S4x512x512, .f32⟩
  | .hbm, ⟨3, _⟩ => ⟨S2048, .f32⟩
  | .hbm, ⟨4, _⟩ => ⟨S512x20480, .f32⟩
  | .hbm, ⟨5, _⟩ => ⟨S2x256x20480, .f32⟩
  | .hbm, ⟨6, _⟩ => ⟨S512x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x4x512, .f32⟩
  | .hbm, ⟨12, _⟩ => ⟨S256, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x4, .i32⟩
  | .hbm, ⟨18, _⟩ => ⟨S256x1, .i32⟩
  | .hbm, ⟨19, _⟩ => ⟨S256x4, .i32⟩
  | .hbm, ⟨20, _⟩ => ⟨S256x4, .i32⟩
  | .hbm, ⟨21, _⟩ => ⟨S256x4, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S256x4, .i32⟩
  | .hbm, ⟨26, _⟩ => ⟨S256x4, .i32⟩
  | .hbm, ⟨27, _⟩ => ⟨S_, .i32⟩
  | .hbm, ⟨28, _⟩ => ⟨S256x4, .i32⟩
  | .hbm, ⟨29, _⟩ => ⟨S256x4, .i32⟩
  | .hbm, ⟨30, _⟩ => ⟨S256x1, .i32⟩
  | .hbm, ⟨31, _⟩ => ⟨S256x4, .i32⟩
  | .hbm, ⟨32, _⟩ => ⟨S256x4, .i32⟩
  | .hbm, ⟨33, _⟩ => ⟨S256x4, .i32⟩
  | .hbm, ⟨34, _⟩ => ⟨S_, .i32⟩
  | .hbm, ⟨35, _⟩ => ⟨S1x4, .i32⟩
  | .hbm, ⟨36, _⟩ => ⟨S1x4, .i32⟩
  | .hbm, ⟨37, _⟩ => ⟨S256x4, .i32⟩
  | .hbm, ⟨38, _⟩ => ⟨S256x4, .i32⟩
  | .hbm, ⟨39, _⟩ => ⟨S_, .i32⟩
  | .hbm, ⟨40, _⟩ => ⟨S256x4, .i32⟩
  | .hbm, ⟨41, _⟩ => ⟨S256x4, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S256x4, .i32⟩
  | .hbm, ⟨46, _⟩ => ⟨S256x4, .i32⟩
  | .hbm, ⟨47, _⟩ => ⟨S_, .i32⟩
  | .hbm, ⟨48, _⟩ => ⟨S256x4, .i32⟩
  | .hbm, ⟨49, _⟩ => ⟨S256x4, .i32⟩
  | .hbm, ⟨50, _⟩ => ⟨S1x256x1, .i32⟩
  | .hbm, ⟨51, _⟩ => ⟨S256x1x4, .i32⟩
  | .hbm, ⟨52, _⟩ => ⟨S256x256x4, .i32⟩
  | .hbm, ⟨53, _⟩ => ⟨S256x256x4, .i32⟩
  | .hbm, ⟨54, _⟩ => ⟨S256x256x4, .i1⟩
  | .hbm, ⟨55, _⟩ => ⟨S1x256x1, .i32⟩
  | .hbm, ⟨56, _⟩ => ⟨S256x1x4, .i32⟩
  | .hbm, ⟨57, _⟩ => ⟨S256x256x4, .i32⟩
  | .hbm, ⟨58, _⟩ => ⟨S256x256x4, .i32⟩
  | .hbm, ⟨59, _⟩ => ⟨S256x256x4, .i1⟩
  | .hbm, ⟨60, _⟩ => ⟨S256x256x4, .i1⟩
  | .hbm, ⟨61, _⟩ => ⟨S_, .f32⟩
  | .hbm, ⟨62, _⟩ => ⟨S_, .f32⟩
  | .hbm, ⟨63, _⟩ => ⟨S256x256x4, .f32⟩
  | .hbm, ⟨64, _⟩ => ⟨S256x256x4, .f32⟩
  | .hbm, ⟨65, _⟩ => ⟨S256x256x4, .f32⟩
  | .hbm, ⟨66, _⟩ => ⟨S4x2x512x256, .f32⟩
  | .hbm, ⟨67, _⟩ => ⟨S2x256x4x512, .f32⟩
  | .hbm, ⟨68, _⟩ => ⟨S256x4, .i32⟩
  | .hbm, ⟨69, _⟩ => ⟨S_, .i32⟩
  | .hbm, ⟨70, _⟩ => ⟨S256x4, .i32⟩
  | .hbm, ⟨71, _⟩ => ⟨S256x4, .i32⟩
  | .hbm, ⟨72, _⟩ => ⟨S256x4, .f32⟩
  | .hbm, ⟨73, _⟩ => ⟨S1x256x4x1, .f32⟩
  | .hbm, ⟨74, _⟩ => ⟨S2x256x4x512, .f32⟩
  | .hbm, ⟨75, _⟩ => ⟨S2x256x4x512, .f32⟩
  | .hbm, ⟨76, _⟩ => ⟨S2x256x4x512, .f32⟩
  | .hbm, ⟨77, _⟩ => ⟨S4x512x2x256, .f32⟩
  | .hbm, ⟨78, _⟩ => ⟨S2x256x4x512, .f32⟩
  | .hbm, ⟨79, _⟩ => ⟨S2x256x2048, .f32⟩
  | .hbm, ⟨80, _⟩ => ⟨S1x1x2048, .f32⟩
  | .hbm, ⟨81, _⟩ => ⟨S2x256x2048, .f32⟩
  | .hbm, ⟨82, _⟩ => ⟨S2x256x2048, .f32⟩
  | .hbm, ⟨83, _⟩ => ⟨S2x256x2048, .f32⟩
  | .hbm, ⟨84, _⟩ => ⟨S2x256x2048, .f32⟩
  | .hbm, ⟨85, _⟩ => ⟨S_, .f32⟩
  | .hbm, ⟨86, _⟩ => ⟨S2x256x2048, .f32⟩
  | .hbm, ⟨87, _⟩ => ⟨S2x256x2048, .f32⟩
  | .hbm, ⟨88, _⟩ => ⟨S_, .f32⟩
  | .hbm, ⟨89, _⟩ => ⟨S2x256x2048, .f32⟩
  | .hbm, ⟨90, _⟩ => ⟨S2x256x2048, .f32⟩
  | .hbm, ⟨91, _⟩ => ⟨S2x256x2048, .f32⟩
  | .hbm, ⟨92, _⟩ => ⟨S2x256x2048, .f32⟩
  | .hbm, ⟨93, _⟩ => ⟨S2x256x2048, .f32⟩
  | .hbm, ⟨94, _⟩ => ⟨S2x256x2048, .f32⟩
  | .hbm, ⟨95, _⟩ => ⟨S_, .f32⟩
  | .hbm, ⟨96, _⟩ => ⟨S2x256x2048, .f32⟩
  | .hbm, ⟨97, _⟩ => ⟨S2x256x2048, .f32⟩
  | .hbm, ⟨98, _⟩ => ⟨S_, .f32⟩
  | .hbm, ⟨99, _⟩ => ⟨S2x256x2048, .f32⟩
  | .hbm, ⟨100, _⟩ => ⟨S2x256x2048, .f32⟩
  | .hbm, ⟨101, _⟩ => ⟨S2x256x2048, .f32⟩
  | .hbm, ⟨102, _⟩ => ⟨S2x256x2048, .f32⟩
  | .hbm, ⟨103, _⟩ => ⟨S2x256x4096, .f32⟩
  | .hbm, ⟨104, _⟩ => ⟨S2x256x4096, .bf16⟩
  | .hbm, ⟨105, _⟩ => ⟨S512x4096, .bf16⟩
  | _, _ => ⟨S512x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_cst_6 : Ref sig .tc := ⟨.hbm, 62, rfl⟩
abbrev main_call2_v0 : Ref sig .tc := ⟨.hbm, 63, rfl⟩
abbrev main_call2_v1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v57 : Ref sig .tc := ⟨.hbm, 91, rfl⟩
abbrev main_v58 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]
-- ==== Proof.Entries.lean ====
/-
  The entries the two constant tables of the bias table should hold, and the window they describe.
-/
module

public import Mathlib.Tactic.IntervalCases

@[expose] public section

noncomputable section

namespace Cert.Attn

/-- The first position of the window of `w` positions around position `q` of an axis of 64, kept inside the axis. -/
def winStart (w q : Nat) : Nat := Nat.min (Nat.sub q (w / 2)) (Nat.sub 64 w)

/-- Whether position `k` lies in the window of `w` positions of position `q`. -/
def inWin (w q k : Nat) : Bool := and (Nat.ble (winStart w q) k) (Nat.blt k (Nat.add (winStart w q) w))

/-- Entry `r` of row `j` of the table of ones, its rows taken 128 entries long: one where the key column is in the query
column's window at the distance the table's first axis names. -/
def oneAt (j r : Nat) : BitVec 32 :=
  cond (and (Nat.beq (Nat.add (r % 64) 15) (Nat.add ((2 * j + r / 64) % 64) (j / 32))) (inWin 16 ((2 * j + r / 64) % 64) (r % 64)))
    0x3F800000#32 0#32

/-- Entry `r` of row `j` of the mask, its rows taken 128 entries long: minus infinity outside the window. -/
def maskAt (j r : Nat) : BitVec 32 := cond (inWin 16 (2 * j + r / 64) (r % 64)) 0#32 0xFF800000#32

end Cert.Attn

end
-- ==== Proof.RefIndex.lean ====
/-
  The reference's index words: which keys lie in a query's window (`rowOk_eq`, `colOk_eq`, `valid_apply`), which entry of the
  bias a query and a key take (`rowDist_eq`, `colDist_eq`), and the bias it reads there (`bias_apply`).
-/
module

public import proofs.«01_k».proof.Proof.Entries
public import proofs.«01_k».proof.Proof.Gen.ReferenceIdeal.Read
public import Idealize.ShloMosaic.Lib.ValueIdx

@[expose] public section

noncomputable section

namespace Cert.RefAttn

open Idealize.ShloMosaic Idealize.ShloMosaic.TcCoe Idealize.SL.Sem Idealize.ShloMosaic.ValueIdx
open Cert.ReferenceIdeal Cert.ReferenceIdeal.Gen Cert.ReferenceIdeal.Read
open Cert.Attn (inWin)

theorem rowOk_words (q k : Fin 64) : val_main_v28 (F := Ideal) (ix2 q k) =
    IntOp.andi (IntOp.cmpi .sge (BitVec.ofNat 32 k.val) (IntOp.minsi 56#32 (IntOp.maxsi 0#32 (IntOp.subi (BitVec.ofNat 32 q.val) 4#32))))
      (IntOp.cmpi .slt (BitVec.ofNat 32 k.val) (IntOp.addi (IntOp.minsi 56#32 (IntOp.maxsi 0#32 (IntOp.subi (BitVec.ofNat 32 q.val) 4#32))) 8#32)) := by
  simp only [val_main_v14_apply, val_main_c_apply, val_main_v15_apply, val_main_v16_apply, val_main_c_0_apply,
    val_main_c_1_apply, val_main_call0_v0_apply, val_main_call0_v1_apply, val_main_call0_v2_apply,
    val_main_call0_v3_apply, val_main_call0_v4_apply, val_main_v17_apply, val_main_v18_apply, val_main_v19_apply,
    val_main_v20_apply, val_main_v21_apply, val_main_v22_apply, val_main_c_2_apply, val_main_v23_apply,
    val_main_v24_apply, val_main_v25_apply, val_main_v26_apply, val_main_v27_apply, val_main_v28_apply,
    val_main_v29_apply, val_main_v30_apply, val_main_v31_apply, val_main_v32_apply, val_main_c_3_apply,
    val_main_v33_apply, val_main_v34_apply, val_main_c_4_apply, val_main_v35_apply, val_main_v36_apply,
    val_main_c_5_apply, val_main_c_6_apply, val_main_call1_v0_apply, val_main_call1_v1_apply,
    val_main_call1_v2_apply, val_main_call1_v3_apply, val_main_call1_v4_apply, val_main_v37_apply,
    val_main_v38_apply, val_main_c_7_apply, val_main_v39_apply, val_main_v40_apply, val_main_c_8_apply,
    val_main_c_9_apply, val_main_call2_v0_apply, val_main_call2_v1_apply, val_main_call2_v2_apply,
    val_main_call2_v3_apply, val_main_call2_v4_apply, val_main_v41_apply, val_main_v42_apply, val_main_v43_apply,
    val_main_v44_apply, val_main_v45_apply, val_main_v46_apply, val_main_c_10_apply, val_main_v47_apply,
    val_main_v48_apply, val_main_v49_apply, val_main_v50_apply, val_main_v51_apply, val_main_v52_apply,
    val_main_v53_apply, val_main_v54_apply, val_main_v55_apply, val_main_v56_apply, val_main_c_11_apply,
    val_main_v57_apply, val_main_v58_apply, val_main_c_12_apply, val_main_v59_apply, val_main_v60_apply,
    val_main_c_13_apply, val_main_c_14_apply, val_main_call3_v0_apply, val_main_call3_v1_apply,
    val_main_call3_v2_apply, val_main_call3_v3_apply, val_main_call3_v4_apply, val_main_v61_apply,
    val_main_c_15_apply, val_main_v75_apply, val_main_v76_apply, val_main_c_16_apply, val_main_v77_apply,
    val_main_v78_apply, val_main_v79_apply, val_main_v80_apply, val_main_c_17_apply, val_main_v82_apply,
    val_main_v83_apply, val_main_c_18_apply, val_main_v84_apply, val_main_v85_apply, val_main_v86_apply,
    val_main_v87_apply]

theorem colOk_words (q k : Fin 64) : val_main_v52 (F := Ideal) (ix2 q k) =
    IntOp.andi (IntOp.cmpi .sge (BitVec.ofNat 32 k.val) (IntOp.minsi 48#32 (IntOp.maxsi 0#32 (IntOp.subi (BitVec.ofNat 32 q.val) 8#32))))
      (IntOp.cmpi .slt (BitVec.ofNat 32 k.val) (IntOp.addi (IntOp.minsi 48#32 (IntOp.maxsi 0#32 (IntOp.subi (BitVec.ofNat 32 q.val) 8#32))) 16#32)) := by
  simp only [val_main_v14_apply, val_main_c_apply, val_main_v15_apply, val_main_v16_apply, val_main_c_0_apply,
    val_main_c_1_apply, val_main_call0_v0_apply, val_main_call0_v1_apply, val_main_call0_v2_apply,
    val_main_call0_v3_apply, val_main_call0_v4_apply, val_main_v17_apply, val_main_v18_apply, val_main_v19_apply,
    val_main_v20_apply, val_main_v21_apply, val_main_v22_apply, val_main_c_2_apply, val_main_v23_apply,
    val_main_v24_apply, val_main_v25_apply, val_main_v26_apply, val_main_v27_apply, val_main_v28_apply,
    val_main_v29_apply, val_main_v30_apply, val_main_v31_apply, val_main_v32_apply, val_main_c_3_apply,
    val_main_v33_apply, val_main_v34_apply, val_main_c_4_apply, val_main_v35_apply, val_main_v36_apply,
    val_main_c_5_apply, val_main_c_6_apply, val_main_call1_v0_apply, val_main_call1_v1_apply,
    val_main_call1_v2_apply, val_main_call1_v3_apply, val_main_call1_v4_apply, val_main_v37_apply,
    val_main_v38_apply, val_main_c_7_apply, val_main_v39_apply, val_main_v40_apply, val_main_c_8_apply,
    val_main_c_9_apply, val_main_call2_v0_apply, val_main_call2_v1_apply, val_main_call2_v2_apply,
    val_main_call2_v3_apply, val_main_call2_v4_apply, val_main_v41_apply, val_main_v42_apply, val_main_v43_apply,
    val_main_v44_apply, val_main_v45_apply, val_main_v46_apply, val_main_c_10_apply, val_main_v47_apply,
    val_main_v48_apply, val_main_v49_apply, val_main_v50_apply, val_main_v51_apply, val_main_v52_apply,
    val_main_v53_apply, val_main_v54_apply, val_main_v55_apply, val_main_v56_apply, val_main_c_11_apply,
    val_main_v57_apply, val_main_v58_apply, val_main_c_12_apply, val_main_v59_apply, val_main_v60_apply,
    val_main_c_13_apply, val_main_c_14_apply, val_main_call3_v0_apply, val_main_call3_v1_apply,
    val_main_call3_v2_apply, val_main_call3_v3_apply, val_main_call3_v4_apply, val_main_v61_apply,
    val_main_c_15_apply, val_main_v75_apply, val_main_v76_apply, val_main_c_16_apply, val_main_v77_apply,
    val_main_v78_apply, val_main_v79_apply, val_main_v80_apply, val_main_c_17_apply, val_main_v82_apply,
    val_main_v83_apply, val_main_c_18_apply, val_main_v84_apply, val_main_v85_apply, val_main_v86_apply,
    val_main_v87_apply]

theorem rowDist_words (q k : Fin 64) : val_main_v80 (F := Ideal) (ix3 q k 0) =
    Scalar.select (IntOp.cmpi .slt (IntOp.minsi 14#32 (IntOp.maxsi 0#32 (IntOp.subi (IntOp.addi (IntOp.subi (BitVec.ofNat 32 k.val) (BitVec.ofNat 32 q.val)) 8#32) 1#32))) 0#32) (IntOp.addi (IntOp.minsi 14#32 (IntOp.maxsi 0#32 (IntOp.subi (IntOp.addi (IntOp.subi (BitVec.ofNat 32 k.val) (BitVec.ofNat 32 q.val)) 8#32) 1#32))) 15#32) (IntOp.minsi 14#32 (IntOp.maxsi 0#32 (IntOp.subi (IntOp.addi (IntOp.subi (BitVec.ofNat 32 k.val) (BitVec.ofNat 32 q.val)) 8#32) 1#32))) := by
  simp only [val_main_v14_apply, val_main_c_apply, val_main_v15_apply, val_main_v16_apply, val_main_c_0_apply,
    val_main_c_1_apply, val_main_call0_v0_apply, val_main_call0_v1_apply, val_main_call0_v2_apply,
    val_main_call0_v3_apply, val_main_call0_v4_apply, val_main_v17_apply, val_main_v18_apply, val_main_v19_apply,
    val_main_v20_apply, val_main_v21_apply, val_main_v22_apply, val_main_c_2_apply, val_main_v23_apply,
    val_main_v24_apply, val_main_v25_apply, val_main_v26_apply, val_main_v27_apply, val_main_v28_apply,
    val_main_v29_apply, val_main_v30_apply, val_main_v31_apply, val_main_v32_apply, val_main_c_3_apply,
    val_main_v33_apply, val_main_v34_apply, val_main_c_4_apply, val_main_v35_apply, val_main_v36_apply,
    val_main_c_5_apply, val_main_c_6_apply, val_main_call1_v0_apply, val_main_call1_v1_apply,
    val_main_call1_v2_apply, val_main_call1_v3_apply, val_main_call1_v4_apply, val_main_v37_apply,
    val_main_v38_apply, val_main_c_7_apply, val_main_v39_apply, val_main_v40_apply, val_main_c_8_apply,
    val_main_c_9_apply, val_main_call2_v0_apply, val_main_call2_v1_apply, val_main_call2_v2_apply,
    val_main_call2_v3_apply, val_main_call2_v4_apply, val_main_v41_apply, val_main_v42_apply, val_main_v43_apply,
    val_main_v44_apply, val_main_v45_apply, val_main_v46_apply, val_main_c_10_apply, val_main_v47_apply,
    val_main_v48_apply, val_main_v49_apply, val_main_v50_apply, val_main_v51_apply, val_main_v52_apply,
    val_main_v53_apply, val_main_v54_apply, val_main_v55_apply, val_main_v56_apply, val_main_c_11_apply,
    val_main_v57_apply, val_main_v58_apply, val_main_c_12_apply, val_main_v59_apply, val_main_v60_apply,
    val_main_c_13_apply, val_main_c_14_apply, val_main_call3_v0_apply, val_main_call3_v1_apply,
    val_main_call3_v2_apply, val_main_call3_v3_apply, val_main_call3_v4_apply, val_main_v61_apply,
    val_main_c_15_apply, val_main_v75_apply, val_main_v76_apply, val_main_c_16_apply, val_main_v77_apply,
    val_main_v78_apply, val_main_v79_apply, val_main_v80_apply, val_main_c_17_apply, val_main_v82_apply,
    val_main_v83_apply, val_main_c_18_apply, val_main_v84_apply, val_main_v85_apply, val_main_v86_apply,
    val_main_v87_apply]

theorem colDist_words (q k : Fin 64) : val_main_v87 (F := Ideal) (ix3 q k 0) =
    Scalar.select (IntOp.cmpi .slt (IntOp.minsi 30#32 (IntOp.maxsi 0#32 (IntOp.subi (IntOp.addi (IntOp.subi (BitVec.ofNat 32 k.val) (BitVec.ofNat 32 q.val)) 16#32) 1#32))) 0#32) (IntOp.addi (IntOp.minsi 30#32 (IntOp.maxsi 0#32 (IntOp.subi (IntOp.addi (IntOp.subi (BitVec.ofNat 32 k.val) (BitVec.ofNat 32 q.val)) 16#32) 1#32))) 31#32) (IntOp.minsi 30#32 (IntOp.maxsi 0#32 (IntOp.subi (IntOp.addi (IntOp.subi (BitVec.ofNat 32 k.val) (BitVec.ofNat 32 q.val)) 16#32) 1#32))) := by
  simp only [val_main_v14_apply, val_main_c_apply, val_main_v15_apply, val_main_v16_apply, val_main_c_0_apply,
    val_main_c_1_apply, val_main_call0_v0_apply, val_main_call0_v1_apply, val_main_call0_v2_apply,
    val_main_call0_v3_apply, val_main_call0_v4_apply, val_main_v17_apply, val_main_v18_apply, val_main_v19_apply,
    val_main_v20_apply, val_main_v21_apply, val_main_v22_apply, val_main_c_2_apply, val_main_v23_apply,
    val_main_v24_apply, val_main_v25_apply, val_main_v26_apply, val_main_v27_apply, val_main_v28_apply,
    val_main_v29_apply, val_main_v30_apply, val_main_v31_apply, val_main_v32_apply, val_main_c_3_apply,
    val_main_v33_apply, val_main_v34_apply, val_main_c_4_apply, val_main_v35_apply, val_main_v36_apply,
    val_main_c_5_apply, val_main_c_6_apply, val_main_call1_v0_apply, val_main_call1_v1_apply,
    val_main_call1_v2_apply, val_main_call1_v3_apply, val_main_call1_v4_apply, val_main_v37_apply,
    val_main_v38_apply, val_main_c_7_apply, val_main_v39_apply, val_main_v40_apply, val_main_c_8_apply,
    val_main_c_9_apply, val_main_call2_v0_apply, val_main_call2_v1_apply, val_main_call2_v2_apply,
    val_main_call2_v3_apply, val_main_call2_v4_apply, val_main_v41_apply, val_main_v42_apply, val_main_v43_apply,
    val_main_v44_apply, val_main_v45_apply, val_main_v46_apply, val_main_c_10_apply, val_main_v47_apply,
    val_main_v48_apply, val_main_v49_apply, val_main_v50_apply, val_main_v51_apply, val_main_v52_apply,
    val_main_v53_apply, val_main_v54_apply, val_main_v55_apply, val_main_v56_apply, val_main_c_11_apply,
    val_main_v57_apply, val_main_v58_apply, val_main_c_12_apply, val_main_v59_apply, val_main_v60_apply,
    val_main_c_13_apply, val_main_c_14_apply, val_main_call3_v0_apply, val_main_call3_v1_apply,
    val_main_call3_v2_apply, val_main_call3_v3_apply, val_main_call3_v4_apply, val_main_v61_apply,
    val_main_c_15_apply, val_main_v75_apply, val_main_v76_apply, val_main_c_16_apply, val_main_v77_apply,
    val_main_v78_apply, val_main_v79_apply, val_main_v80_apply, val_main_c_17_apply, val_main_v82_apply,
    val_main_v83_apply, val_main_c_18_apply, val_main_v84_apply, val_main_v85_apply, val_main_v86_apply,
    val_main_v87_apply]

theorem rowOk_dec : ∀ q k : Fin 64, IntOp.andi (IntOp.cmpi .sge (BitVec.ofNat 32 k.val) (IntOp.minsi 56#32 (IntOp.maxsi 0#32 (IntOp.subi (BitVec.ofNat 32 q.val) 4#32))))
      (IntOp.cmpi .slt (BitVec.ofNat 32 k.val) (IntOp.addi (IntOp.minsi 56#32 (IntOp.maxsi 0#32 (IntOp.subi (BitVec.ofNat 32 q.val) 4#32))) 8#32)) = BitVec.ofBool (inWin 8 q.val k.val) := by decide +kernel

theorem colOk_dec : ∀ q k : Fin 64, IntOp.andi (IntOp.cmpi .sge (BitVec.ofNat 32 k.val) (IntOp.minsi 48#32 (IntOp.maxsi 0#32 (IntOp.subi (BitVec.ofNat 32 q.val) 8#32))))
      (IntOp.cmpi .slt (BitVec.ofNat 32 k.val) (IntOp.addi (IntOp.minsi 48#32 (IntOp.maxsi 0#32 (IntOp.subi (BitVec.ofNat 32 q.val) 8#32))) 16#32)) = BitVec.ofBool (inWin 16 q.val k.val) := by decide +kernel

theorem rowDist_dec : ∀ q k : Fin 64, min (Scalar.select (IntOp.cmpi .slt (IntOp.minsi 14#32 (IntOp.maxsi 0#32 (IntOp.subi (IntOp.addi (IntOp.subi (BitVec.ofNat 32 k.val) (BitVec.ofNat 32 q.val)) 8#32) 1#32))) 0#32) (IntOp.addi (IntOp.minsi 14#32 (IntOp.maxsi 0#32 (IntOp.subi (IntOp.addi (IntOp.subi (BitVec.ofNat 32 k.val) (BitVec.ofNat 32 q.val)) 8#32) 1#32))) 15#32) (IntOp.minsi 14#32 (IntOp.maxsi 0#32 (IntOp.subi (IntOp.addi (IntOp.subi (BitVec.ofNat 32 k.val) (BitVec.ofNat 32 q.val)) 8#32) 1#32)))).toInt.toNat 14 = min (k.val + 7 - q.val) 14 := by decide +kernel

theorem colDist_dec : ∀ q k : Fin 64, min (Scalar.select (IntOp.cmpi .slt (IntOp.minsi 30#32 (IntOp.maxsi 0#32 (IntOp.subi (IntOp.addi (IntOp.subi (BitVec.ofNat 32 k.val) (BitVec.ofNat 32 q.val)) 16#32) 1#32))) 0#32) (IntOp.addi (IntOp.minsi 30#32 (IntOp.maxsi 0#32 (IntOp.subi (IntOp.addi (IntOp.subi (BitVec.ofNat 32 k.val) (BitVec.ofNat 32 q.val)) 16#32) 1#32))) 31#32) (IntOp.minsi 30#32 (IntOp.maxsi 0#32 (IntOp.subi (IntOp.addi (IntOp.subi (BitVec.ofNat 32 k.val) (BitVec.ofNat 32 q.val)) 16#32) 1#32)))).toInt.toNat 30 = min (k.val + 15 - q.val) 30 := by decide +kernel

/-- Key row `k` is in the window of query row `q`. -/
theorem rowOk_eq (q k : Fin 64) : val_main_v28 (F := Ideal) (ix2 q k) = BitVec.ofBool (inWin 8 q.val k.val) :=
  (rowOk_words q k).trans (rowOk_dec q k)

/-- Key column `k` is in the window of query column `q`. -/
theorem colOk_eq (q k : Fin 64) : val_main_v52 (F := Ideal) (ix2 q k) = BitVec.ofBool (inWin 16 q.val k.val) :=
  (colOk_words q k).trans (colOk_dec q k)

/-- The row of the bias that a query row and a key row take. -/
theorem rowDist_eq (q k : Fin 64) : min (val_main_v80 (F := Ideal) (ix3 q k 0)).toInt.toNat 14 = min (k.val + 7 - q.val) 14 := by
  rw [rowDist_words]; exact rowDist_dec q k

/-- The column of the bias that a query column and a key column take. -/
theorem colDist_eq (q k : Fin 64) : min (val_main_v87 (F := Ideal) (ix3 q k 0)).toInt.toNat 30 = min (k.val + 15 - q.val) 30 := by
  rw [colDist_words]; exact colDist_dec q k

/-- The first gather: a row of the bias for each pair of a query row and a key row. -/
theorem rows_apply (x : Vec Ideal S16x15x31 .f32) (idx : IVec S64x64x1 32) (h : Fin 16) (q k : Fin 64) (c : Fin 31) :
    Host.gather gather_S16x15x31_S64x64x1_S16x64x64x31_03_1_n_n_1_2_16131 x idx (ix4 h q k c)
      = x (ix3 h ⟨min (idx (ix3 q k 0)).toInt.toNat 14, by omega⟩ c) := by
  unfold Host.gather
  refine congrArg x (funext fun a => Fin.ext ?_)
  have hsi : ∀ p, gather_S16x15x31_S64x64x1_S16x64x64x31_03_1_n_n_1_2_16131.siIdx (ix4 h q k c) p = ix3 q k 0 := by
    intro p
    funext b; refine Fin.ext ?_
    match b with
    | ⟨0, _⟩ => rfl
    | ⟨1, _⟩ => rfl
    | ⟨2, _⟩ => have := p.isLt; show p.val = 0; have hp : p.val < 1 := this; omega
  match a with
  | ⟨0, _⟩ => show 0 + 0 + h.val = h.val; omega
  | ⟨1, _⟩ =>
    show gather_S16x15x31_S64x64x1_S16x64x64x31_03_1_n_n_1_2_16131.start (ix4 h q k c) idx 1 + 0 + 0 = _
    unfold GatherDims.start
    rw [dif_pos (show (1 : Fin 3) ∈ gather_S16x15x31_S64x64x1_S16x64x64x31_03_1_n_n_1_2_16131.startIndexMap from List.mem_singleton.mpr rfl), hsi]
    rfl
  | ⟨2, _⟩ => show 0 + 0 + c.val = c.val; omega

/-- The second gather: an entry of that row for each pair of a query column and a key column. -/
theorem cols_apply (x : Vec Ideal S16x64x64x31 .f32) (idx : IVec S64x64x1 32) (h : Fin 16) (a b q k : Fin 64) :
    Host.gather gather_S16x64x64x31_S64x64x1_S16x64x64x64x64_012_3_n_n_3_2_1664641 x idx (ix5 h a b q k)
      = x (ix4 h a b ⟨min (idx (ix3 q k 0)).toInt.toNat 30, by omega⟩) := by
  unfold Host.gather
  refine congrArg x (funext fun w => Fin.ext ?_)
  have hsi : ∀ p, gather_S16x64x64x31_S64x64x1_S16x64x64x64x64_012_3_n_n_3_2_1664641.siIdx (ix5 h a b q k) p = ix3 q k 0 := by
    intro p
    funext v; refine Fin.ext ?_
    match v with
    | ⟨0, _⟩ => rfl
    | ⟨1, _⟩ => rfl
    | ⟨2, _⟩ => have := p.isLt; show p.val = 0; have hp : p.val < 1 := this; omega
  match w with
  | ⟨0, _⟩ => show 0 + 0 + h.val = h.val; omega
  | ⟨1, _⟩ => show 0 + 0 + a.val = a.val; omega
  | ⟨2, _⟩ => show 0 + 0 + b.val = b.val; omega
  | ⟨3, _⟩ =>
    show gather_S16x64x64x31_S64x64x1_S16x64x64x64x64_012_3_n_n_3_2_1664641.start (ix5 h a b q k) idx 3 + 0 + 0 = _
    unfold GatherDims.start
    rw [dif_pos (show (3 : Fin 4) ∈ gather_S16x64x64x31_S64x64x1_S16x64x64x64x64_012_3_n_n_3_2_1664641.startIndexMap from List.mem_singleton.mpr rfl), hsi]
    rfl

theorem split_pair (n t : Fin 4096) : idx_main_v74 (ix2 n t) = ix4 (⟨n.val / 64, by omega⟩ : Fin 64) (⟨n.val % 64, by omega⟩ : Fin 64) (⟨t.val / 64, by omega⟩ : Fin 64) (⟨t.val % 64, by omega⟩ : Fin 64) := by
  have hn := n.isLt
  have ht := t.isLt
  exact funext fun a => Fin.ext (by
      match a with
      | ⟨0, _⟩ => show (n.val * 4096 + t.val) / 262144 = n.val / 64; omega
      | ⟨1, _⟩ => show (n.val * 4096 + t.val) / 4096 % 64 = n.val % 64; omega
      | ⟨2, _⟩ => show (n.val * 4096 + t.val) / 64 % 64 = t.val / 64; omega
      | ⟨3, _⟩ => show (n.val * 4096 + t.val) % 64 = t.val % 64; omega)

theorem pair_rows (a b c d : Fin 64) : idx_main_v69 (idx_main_v71 (ix4 a b c d)) = ix2 a c :=
  funext fun w => Fin.ext (by
    match w with
    | ⟨0, _⟩ => rfl
    | ⟨1, _⟩ => rfl)

theorem pair_cols (a b c d : Fin 64) : idx_main_v70 (idx_main_v72 (ix4 a b c d)) = ix2 b d :=
  funext fun w => Fin.ext (by
    match w with
    | ⟨0, _⟩ => rfl
    | ⟨1, _⟩ => rfl)

/-- Key `t` is in the window of query `n`. -/
theorem valid_apply (n t : Fin 4096) : val_main_v74 (F := Ideal) (ix2 n t)
    = IntOp.andi (BitVec.ofBool (inWin 8 (n.val / 64) (t.val / 64))) (BitVec.ofBool (inWin 16 (n.val % 64) (t.val % 64))) := by
  rw [val_main_v74_apply, split_pair, val_main_v73_apply, val_main_v71_apply, val_main_v72_apply, val_main_v69_apply, val_main_v70_apply,
    pair_rows, pair_cols, rowOk_eq, colOk_eq]

theorem capped (n c : Nat) : min n c < c + 1 := by omega

/-- What the second gather holds: the bias at the row distance and the column distance. -/
theorem gathered_of (x2 : Vec Ideal S16x15x31 .f32) (i j : IVec S64x64x1 32) (h : Fin 16) (a b q k : Fin 64) (e f : Nat)
    (hi : min (i (ix3 a b 0)).toInt.toNat 14 = min e 14) (hj : min (j (ix3 q k 0)).toInt.toNat 30 = min f 30) :
    Host.gather gather_S16x64x64x31_S64x64x1_S16x64x64x64x64_012_3_n_n_3_2_1664641
      (Host.gather gather_S16x15x31_S64x64x1_S16x64x64x31_03_1_n_n_1_2_16131 x2 i) j (ix5 h a b q k)
    = x2 (ix3 h ⟨min e 14, capped e 14⟩ ⟨min f 30, capped f 30⟩) := by
  refine (cols_apply _ j h a b q k).trans ((rows_apply x2 i h a b _).trans ?_)
  exact congrArg x2 (congrArg₂ (ix3 h) (Fin.ext hi) (Fin.ext hj))

theorem gathered_apply (x2 : Vec Ideal S16x15x31 .f32) (h : Fin 16) (a b q k : Fin 64) : val_main_v88 (F := Ideal) x2 (ix5 h a b q k)
    = x2 (ix3 h ⟨min (b.val + 7 - a.val) 14, capped _ 14⟩ ⟨min (k.val + 15 - q.val) 30, capped _ 30⟩) :=
  gathered_of x2 (val_main_v80 (F := Ideal)) (val_main_v87 (F := Ideal)) h a b q k _ _ (rowDist_eq a b) (colDist_eq q k)

theorem split4 (h : Fin 16) (n t : Fin 4096) : idx_main_v90 (ix3 h n t) = ix5 h (⟨n.val / 64, by omega⟩ : Fin 64) (⟨n.val % 64, by omega⟩ : Fin 64) (⟨t.val / 64, by omega⟩ : Fin 64) (⟨t.val % 64, by omega⟩ : Fin 64) := by
  have hh := h.isLt
  have hn := n.isLt
  have ht := t.isLt
  exact funext fun a => Fin.ext (by
      match a with
      | ⟨0, _⟩ => show ((h.val * 4096 + n.val) * 4096 + t.val) / 16777216 = h.val; omega
      | ⟨1, _⟩ => show ((h.val * 4096 + n.val) * 4096 + t.val) / 262144 % 64 = n.val / 64; omega
      | ⟨2, _⟩ => show ((h.val * 4096 + n.val) * 4096 + t.val) / 4096 % 64 = n.val % 64; omega
      | ⟨3, _⟩ => show ((h.val * 4096 + n.val) * 4096 + t.val) / 64 % 64 = t.val / 64; omega
      | ⟨4, _⟩ => show ((h.val * 4096 + n.val) * 4096 + t.val) % 64 = t.val % 64; omega)

theorem swap_mid (h : Fin 16) (a b q k : Fin 64) : idx_main_v89 (ix5 h a q b k) = ix5 h a b q k :=
  funext fun w => Fin.ext (by
    match w with
    | ⟨0, _⟩ => rfl
    | ⟨1, _⟩ => rfl
    | ⟨2, _⟩ => rfl
    | ⟨3, _⟩ => rfl
    | ⟨4, _⟩ => rfl)

/-- The bias of a head for query `n` and key `t`. -/
theorem bias_apply (x2 : Vec Ideal S16x15x31 .f32) (h : Fin 16) (n t : Fin 4096) : val_main_v90 (F := Ideal) x2 (ix3 h n t)
    = x2 (ix3 h ⟨min (t.val / 64 + 7 - n.val / 64) 14, by omega⟩ ⟨min (t.val % 64 + 15 - n.val % 64) 30, by omega⟩) := by
  rw [val_main_v90_apply, split4, val_main_v89_apply, swap_mid, gathered_apply]

end Cert.RefAttn

end
-- ==== Proof.Softmax.lean ====
/-
  A softmax whose mask removes keys, on the extended reals: summed over all keys with the score of a removed key at minus
  infinity, or summed over a part of the keys that contains every key not removed (`maxOver_emb`, `sum_emb`); divided once
  after the sum, or key by key before it (`div_add`, `div_sum`); and the two forms set beside each other (`attend_eq`).
-/
module

public import Idealize.ShloMosaic.PureOps.Ideal
public import Idealize.ShloMosaic.PureOps.Ideal.Laws

@[expose] public section

noncomputable section

namespace Cert.Attn

open Idealize.ShloMosaic

/-- The largest of a family of extended reals. -/
def maxOver {n : Nat} (f : Fin n → EReal) : EReal := (Finset.univ : Finset (Fin n)).fold max ⊥ f

theorem le_maxOver {n : Nat} (f : Fin n → EReal) (i : Fin n) : f i ≤ maxOver f :=
  Finset.le_sup (s := Finset.univ) (f := f) (Finset.mem_univ i)

theorem maxOver_le {n : Nat} {f : Fin n → EReal} {b : EReal} (h : ∀ i, f i ≤ b) : maxOver f ≤ b :=
  Finset.sup_le (s := Finset.univ) (f := f) fun i _ => h i

theorem maxOver_lt_top {n : Nat} {f : Fin n → EReal} (h : ∀ i, f i ≠ ⊤) : maxOver f ≠ ⊤ :=
  ((Finset.sup_lt_iff (s := Finset.univ) (f := f) (bot_lt_top)).2 fun i _ => lt_top_iff_ne_top.2 (h i)).ne

/-- Keys scored minus infinity do not change the largest score. -/
theorem maxOver_emb {n m : Nat} {f : Fin n → EReal} {g : Fin m → EReal} (e : Fin m → Fin n) (hg : ∀ j, g j = f (e j))
    (hoff : ∀ t, t ∉ Set.range e → f t = ⊥) : maxOver g = maxOver f := by
  refine le_antisymm (maxOver_le fun j => (hg j).trans_le (le_maxOver f _)) (maxOver_le fun t => ?_)
  by_cases ht : t ∈ Set.range e
  · obtain ⟨j, rfl⟩ := ht
    exact (hg j).symm.trans_le (le_maxOver g j)
  · rw [hoff t ht]; exact bot_le

/-- The largest over two families laid end to end. -/
theorem maxOver_append {n k : Nat} (s : Fin (n + k) → EReal) :
    maxOver s = max (maxOver fun i : Fin n => s (Fin.castAdd k i)) (maxOver fun i : Fin k => s (Fin.natAdd n i)) := by
  refine le_antisymm (maxOver_le fun i => ?_) (max_le (maxOver_le fun i => le_maxOver s _) (maxOver_le fun i => le_maxOver s _))
  induction i using Fin.addCases with
  | left i => exact (le_maxOver (fun i : Fin n => s (Fin.castAdd k i)) i).trans (le_max_left _ _)
  | right i => exact (le_maxOver (fun i : Fin k => s (Fin.natAdd n i)) i).trans (le_max_right _ _)

theorem exp_bot_sub (M : EReal) : Ideal.exp (⊥ - M) = 0 := by
  rw [sub_eq_add_neg, EReal.bot_add]; rfl

/-- Keys scored minus infinity weigh nothing. -/
theorem sum_emb {n m : Nat} {f : Fin n → EReal} {g : Fin m → EReal} (e : Fin m → Fin n) (he : Function.Injective e)
    (hg : ∀ j, g j = f (e j)) (hoff : ∀ t, t ∉ Set.range e → f t = ⊥) (M : EReal) (v : Fin n → EReal) :
    ∑ j, Ideal.exp (g j - M) * v (e j) = ∑ t, Ideal.exp (f t - M) * v t :=
  Fintype.sum_of_injective e he _ _ (fun t ht => by rw [hoff t ht, exp_bot_sub, zero_mul]) (fun j => by rw [hg j])

theorem sum_emb_one {n m : Nat} {f : Fin n → EReal} {g : Fin m → EReal} (e : Fin m → Fin n) (he : Function.Injective e)
    (hg : ∀ j, g j = f (e j)) (hoff : ∀ t, t ∉ Set.range e → f t = ⊥) (M : EReal) :
    ∑ j, Ideal.exp (g j - M) = ∑ t, Ideal.exp (f t - M) :=
  Fintype.sum_of_injective e he _ _ (fun t ht => by rw [hoff t ht, exp_bot_sub]) (fun j => by rw [hg j])

/-- A score below plus infinity, less a real number, has a real exponential that is not negative. -/
theorem exp_real {s : EReal} (hs : s ≠ ⊤) (M : ℝ) : ∃ r : ℝ, 0 ≤ r ∧ Ideal.exp (s - (M : EReal)) = r := by
  induction s using EReal.rec with
  | bot => exact ⟨0, le_rfl, by rw [exp_bot_sub]; rfl⟩
  | top => exact absurd rfl hs
  | coe x => exact ⟨Real.exp (x - M), (Real.exp_pos _).le, by rw [← EReal.coe_sub]; rfl⟩

theorem exp_real_pos (x M : ℝ) : ∃ r : ℝ, 0 < r ∧ Ideal.exp ((x : EReal) - (M : EReal)) = r :=
  ⟨Real.exp (x - M), Real.exp_pos _, by rw [← EReal.coe_sub]; rfl⟩

/-- Division by a positive real is multiplication by a positive real. -/
theorem div_real {r : ℝ} (hr : 0 < r) (x : EReal) : Ideal.div x (r : EReal) = x * ((r⁻¹ : ℝ) : EReal) := by
  unfold Ideal.div
  rw [if_neg (by exact_mod_cast hr.ne')]
  rfl

theorem inv_nonneg {r : ℝ} (hr : 0 < r) : (0 : EReal) ≤ ((r⁻¹ : ℝ) : EReal) := by exact_mod_cast (inv_pos.2 hr).le

theorem div_add {r : ℝ} (hr : 0 < r) (x y : EReal) :
    Ideal.div (x + y) (r : EReal) = Ideal.div x (r : EReal) + Ideal.div y (r : EReal) := by
  rw [div_real hr, div_real hr, div_real hr]
  exact EReal.right_distrib_of_nonneg_of_ne_top (inv_nonneg hr) (EReal.coe_ne_top _) _ _

/-- Dividing a weighted sum is dividing its weights. -/
theorem div_sum {n : Nat} {r : ℝ} (hr : 0 < r) (a v : Fin n → EReal) :
    Ideal.div (∑ t, a t * v t) (r : EReal) = ∑ t, Ideal.div (a t) (r : EReal) * v t := by
  have key : ∀ s : Finset (Fin n), Ideal.div (∑ t ∈ s, a t * v t) (r : EReal) = ∑ t ∈ s, Ideal.div (a t) (r : EReal) * v t := by
    intro s
    induction s using Finset.induction_on with
    | empty => rw [Finset.sum_empty, Finset.sum_empty, div_real hr, zero_mul]
    | insert t s ht ih =>
      rw [Finset.sum_insert ht, Finset.sum_insert ht, div_add hr, ih, div_real hr, div_real hr]
      rw [mul_right_comm]
  exact key _

/-- A finite sum of reals that are not negative is such a real. -/
theorem sum_real {n : Nat} (f : Fin n → EReal) (h : ∀ i, ∃ r : ℝ, 0 ≤ r ∧ f i = r) : ∃ r : ℝ, 0 ≤ r ∧ ∑ i, f i = r := by
  choose r hr hf using h
  refine ⟨∑ i, r i, Finset.sum_nonneg fun i _ => hr i, ?_⟩
  rw [Finset.sum_congr rfl fun i _ => hf i]
  exact (map_sum (⟨⟨Real.toEReal, EReal.coe_zero⟩, EReal.coe_add⟩ : ℝ →+ EReal) r Finset.univ).symm

/-- The two forms of a masked softmax over `n` keys and `k` further keys that are never masked. On the left the sums
run over `m` of the `n` keys, those `e` names, and the sum of the weighted values is divided once; on the right they run
over all `n + k` keys and each weight is divided. They are equal when no score is plus infinity, those of the further keys
are real, and every key that `e` leaves out is scored minus infinity. -/
theorem attend_eq {n m k : Nat} (f : Fin n → EReal) (g : Fin m → EReal) (c : Fin (k + 1) → EReal) (e : Fin m → Fin n)
    (he : Function.Injective e) (hg : ∀ j, g j = f (e j)) (hoff : ∀ t, t ∉ Set.range e → f t = ⊥) (hf : ∀ t, f t ≠ ⊤)
    (hc : ∀ u, ∃ x : ℝ, c u = x) (v : Fin n → EReal) (w : Fin (k + 1) → EReal) (s : Fin (n + (k + 1)) → EReal)
    (hs1 : ∀ t, s (Fin.castAdd (k + 1) t) = f t) (hs2 : ∀ u, s (Fin.natAdd n u) = c u) :
    Ideal.div ((∑ j, Ideal.exp (g j - max (maxOver g) (maxOver c)) * v (e j))
        + ∑ u, Ideal.exp (c u - max (maxOver g) (maxOver c)) * w u)
      ((∑ j, Ideal.exp (g j - max (maxOver g) (maxOver c))) + ∑ u, Ideal.exp (c u - max (maxOver g) (maxOver c)))
    = (∑ t, Ideal.div (Ideal.exp (s (Fin.castAdd (k + 1) t) - maxOver s)) (∑ i, Ideal.exp (s i - maxOver s)) * v t)
      + ∑ u, Ideal.div (Ideal.exp (s (Fin.natAdd n u) - maxOver s)) (∑ i, Ideal.exp (s i - maxOver s)) * w u := by
  have hM : max (maxOver g) (maxOver c) = maxOver s := by
    rw [maxOver_append s, maxOver_emb e hg hoff]
    simp only [hs1, hs2]
  rw [hM]
  generalize hMs : maxOver s = M at *
  have hcT : ∀ u, c u ≠ ⊤ := fun u => by obtain ⟨x, hx⟩ := hc u; rw [hx]; exact EReal.coe_ne_top _
  have hMT : M ≠ ⊤ := by
    rw [← hMs]
    refine maxOver_lt_top fun i => ?_
    induction i using Fin.addCases with
    | left i => rw [hs1]; exact hf i
    | right i => rw [hs2]; exact hcT i
  have hMB : M ≠ ⊥ := by
    obtain ⟨x, hx⟩ := hc 0
    have h := le_maxOver s (Fin.natAdd n 0)
    rw [hs2, hx, hMs] at h
    exact ((EReal.bot_lt_coe x).trans_le h).ne'
  lift M to ℝ using ⟨hMT, hMB⟩
  obtain ⟨a, ha, hfa⟩ := sum_real (fun t => Ideal.exp (f t - (M : EReal))) fun t => exp_real (hf t) M
  have hpos : ∃ b : ℝ, 0 < b ∧ ∑ u, Ideal.exp (c u - (M : EReal)) = b := by
    obtain ⟨b, hb, hsum⟩ := sum_real (fun u : Fin k => Ideal.exp (c u.succ - (M : EReal))) fun u => exp_real (hcT _) M
    obtain ⟨x, hx⟩ := hc 0
    obtain ⟨b0, hb0, h0⟩ := exp_real_pos x M
    refine ⟨b0 + b, by positivity, ?_⟩
    rw [Fin.sum_univ_succ, hx, h0, hsum]
    rfl
  obtain ⟨b, hb, hcb⟩ := hpos
  have hD : ∑ i, Ideal.exp (s i - (M : EReal)) = ((a + b : ℝ) : EReal) := by
    rw [Fin.sum_univ_add]
    simp only [hs1, hs2]
    rw [hfa, hcb]; rfl
  have hab : 0 < a + b := by positivity
  rw [sum_emb e he hg hoff, sum_emb_one e he hg hoff, hfa, hcb, hD, ← EReal.coe_add, div_add hab, div_sum hab, div_sum hab]
  simp only [hs1, hs2]

end Cert.Attn

end
-- ==== Proof.RefAttn.lean ====
/-
  The reference's attention, one stage at an index after another: the scores (`loc_apply`, `ctx_apply`), the softmax over the
  keys and the context keys laid end to end (`weight_apply`), and the result (`result_apply`).
-/
module

public import proofs.«01_k».proof.Proof.RefIndex
public import proofs.«01_k».proof.Proof.Softmax

@[expose] public section

noncomputable section

namespace Cert.RefAttn

open Idealize.ShloMosaic Idealize.ShloMosaic.TcCoe Idealize.SL.Sem Idealize.ShloMosaic.ValueIdx
open Cert.ReferenceIdeal Cert.ReferenceIdeal.Gen Cert.ReferenceIdeal.Read
open Cert.Attn (inWin maxOver)

/-- The entry of an image token: batch `b`, token `n`, channel `d` of head `h` in the columns that start at `o`. -/
def tok (x : Vec Ideal S8192x20480 .bf16) (o : Nat) (ho : o + 2048 ≤ 20480) (b : Fin 2) (n : Fin 4096) (h : Fin 16) (d : Fin 128) : EReal :=
  x (ix2 ⟨b.val * 4096 + n.val, by omega⟩ ⟨o + (h.val * 128 + d.val), by omega⟩)

/-- The entry of a context token. -/
def con (x : Vec Ideal S512x20480 .bf16) (o : Nat) (ho : o + 2048 ≤ 20480) (b : Fin 2) (u : Fin 256) (h : Fin 16) (d : Fin 128) : EReal :=
  x (ix2 ⟨b.val * 256 + u.val, by omega⟩ ⟨o + (h.val * 128 + d.val), by omega⟩)

/-- The factor of the scores. -/
def scale : EReal := Ideal.ofBits .f32 0x3DB504F3#32

theorem negInf : (Ideal.ofBits .f32 0xFF800000#32 : EReal) = ⊥ := by simp [Ideal.ofBits, Ideal.ieee]

theorem zeroF : (Ideal.ofBits .f32 0x00000000#32 : EReal) = 0 := Ideal.ofBits_zero_f32

theorem v5_at (x0 : Vec Ideal S8192x20480 .bf16) (b : Fin 2) (n : Fin 4096) (h : Fin 16) (d : Fin 128) :
    val_main_v5 (F := Ideal) x0 (ix4 b n h d) = tok x0 4096 (by omega) b n h d := by
  have hb := b.isLt
  have hn := n.isLt
  have hh := h.isLt
  have hd := d.isLt
  have e1 : idx_main_v5 (ix4 b n h d) = ix3 b n (⟨h.val * 128 + d.val, by omega⟩ : Fin 2048) :=
    funext fun a => Fin.ext (by
      match a with
      | ⟨0, _⟩ => show (((b.val * 4096 + n.val) * 16 + h.val) * 128 + d.val) / 8388608 = b.val; omega
      | ⟨1, _⟩ => show (((b.val * 4096 + n.val) * 16 + h.val) * 128 + d.val) / 2048 % 4096 = n.val; omega
      | ⟨2, _⟩ => show (((b.val * 4096 + n.val) * 16 + h.val) * 128 + d.val) % 2048 = h.val * 128 + d.val; omega)
  have e2 : idx_main_v4 (ix3 b n (⟨h.val * 128 + d.val, by omega⟩ : Fin 2048)) = ix3 b n (⟨4096 + (h.val * 128 + d.val), by omega⟩ : Fin 20480) :=
    funext fun a => Fin.ext (by
      match a with
      | ⟨0, _⟩ => rfl
      | ⟨1, _⟩ => rfl
      | ⟨2, _⟩ => rfl)
  have e3 : idx_main_v1 (ix3 b n (⟨4096 + (h.val * 128 + d.val), by omega⟩ : Fin 20480)) = ix2 (⟨b.val * 4096 + n.val, by omega⟩ : Fin 8192) (⟨4096 + (h.val * 128 + d.val), by omega⟩ : Fin 20480) :=
    funext fun a => Fin.ext (by
      match a with
      | ⟨0, _⟩ => show ((b.val * 4096 + n.val) * 20480 + (4096 + (h.val * 128 + d.val))) / 20480 = b.val * 4096 + n.val; omega
      | ⟨1, _⟩ => show ((b.val * 4096 + n.val) * 20480 + (4096 + (h.val * 128 + d.val))) % 20480 = 4096 + (h.val * 128 + d.val); omega)
  rw [val_main_v5_apply, e1, val_main_v4_apply, e2, val_main_v1_apply, e3, val_main_v0_apply]
  rfl

theorem v7_at (x0 : Vec Ideal S8192x20480 .bf16) (b : Fin 2) (n : Fin 4096) (h : Fin 16) (d : Fin 128) :
    val_main_v7 (F := Ideal) x0 (ix4 b n h d) = tok x0 6144 (by omega) b n h d := by
  have hb := b.isLt
  have hn := n.isLt
  have hh := h.isLt
  have hd := d.isLt
  have e1 : idx_main_v7 (ix4 b n h d) = ix3 b n (⟨h.val * 128 + d.val, by omega⟩ : Fin 2048) :=
    funext fun a => Fin.ext (by
      match a with
      | ⟨0, _⟩ => show (((b.val * 4096 + n.val) * 16 + h.val) * 128 + d.val) / 8388608 = b.val; omega
      | ⟨1, _⟩ => show (((b.val * 4096 + n.val) * 16 + h.val) * 128 + d.val) / 2048 % 4096 = n.val; omega
      | ⟨2, _⟩ => show (((b.val * 4096 + n.val) * 16 + h.val) * 128 + d.val) % 2048 = h.val * 128 + d.val; omega)
  have e2 : idx_main_v6 (ix3 b n (⟨h.val * 128 + d.val, by omega⟩ : Fin 2048)) = ix3 b n (⟨6144 + (h.val * 128 + d.val), by omega⟩ : Fin 20480) :=
    funext fun a => Fin.ext (by
      match a with
      | ⟨0, _⟩ => rfl
      | ⟨1, _⟩ => rfl
      | ⟨2, _⟩ => rfl)
  have e3 : idx_main_v1 (ix3 b n (⟨6144 + (h.val * 128 + d.val), by omega⟩ : Fin 20480)) = ix2 (⟨b.val * 4096 + n.val, by omega⟩ : Fin 8192) (⟨6144 + (h.val * 128 + d.val), by omega⟩ : Fin 20480) :=
    funext fun a => Fin.ext (by
      match a with
      | ⟨0, _⟩ => show ((b.val * 4096 + n.val) * 20480 + (6144 + (h.val * 128 + d.val))) / 20480 = b.val * 4096 + n.val; omega
      | ⟨1, _⟩ => show ((b.val * 4096 + n.val) * 20480 + (6144 + (h.val * 128 + d.val))) % 20480 = 6144 + (h.val * 128 + d.val); omega)
  rw [val_main_v7_apply, e1, val_main_v6_apply, e2, val_main_v1_apply, e3, val_main_v0_apply]
  rfl

theorem v9_at (x0 : Vec Ideal S8192x20480 .bf16) (b : Fin 2) (n : Fin 4096) (h : Fin 16) (d : Fin 128) :
    val_main_v9 (F := Ideal) x0 (ix4 b n h d) = tok x0 8192 (by omega) b n h d := by
  have hb := b.isLt
  have hn := n.isLt
  have hh := h.isLt
  have hd := d.isLt
  have e1 : idx_main_v9 (ix4 b n h d) = ix3 b n (⟨h.val * 128 + d.val, by omega⟩ : Fin 2048) :=
    funext fun a => Fin.ext (by
      match a with
      | ⟨0, _⟩ => show (((b.val * 4096 + n.val) * 16 + h.val) * 128 + d.val) / 8388608 = b.val; omega
      | ⟨1, _⟩ => show (((b.val * 4096 + n.val) * 16 + h.val) * 128 + d.val) / 2048 % 4096 = n.val; omega
      | ⟨2, _⟩ => show (((b.val * 4096 + n.val) * 16 + h.val) * 128 + d.val) % 2048 = h.val * 128 + d.val; omega)
  have e2 : idx_main_v8 (ix3 b n (⟨h.val * 128 + d.val, by omega⟩ : Fin 2048)) = ix3 b n (⟨8192 + (h.val * 128 + d.val), by omega⟩ : Fin 20480) :=
    funext fun a => Fin.ext (by
      match a with
      | ⟨0, _⟩ => rfl
      | ⟨1, _⟩ => rfl
      | ⟨2, _⟩ => rfl)
  have e3 : idx_main_v1 (ix3 b n (⟨8192 + (h.val * 128 + d.val), by omega⟩ : Fin 20480)) = ix2 (⟨b.val * 4096 + n.val, by omega⟩ : Fin 8192) (⟨8192 + (h.val * 128 + d.val), by omega⟩ : Fin 20480) :=
    funext fun a => Fin.ext (by
      match a with
      | ⟨0, _⟩ => show ((b.val * 4096 + n.val) * 20480 + (8192 + (h.val * 128 + d.val))) / 20480 = b.val * 4096 + n.val; omega
      | ⟨1, _⟩ => show ((b.val * 4096 + n.val) * 20480 + (8192 + (h.val * 128 + d.val))) % 20480 = 8192 + (h.val * 128 + d.val); omega)
  rw [val_main_v9_apply, e1, val_main_v8_apply, e2, val_main_v1_apply, e3, val_main_v0_apply]
  rfl

theorem v11_at (x1 : Vec Ideal S512x20480 .bf16) (b : Fin 2) (n : Fin 256) (h : Fin 16) (d : Fin 128) :
    val_main_v11 (F := Ideal) x1 (ix4 b n h d) = con x1 6144 (by omega) b n h d := by
  have hb := b.isLt
  have hn := n.isLt
  have hh := h.isLt
  have hd := d.isLt
  have e1 : idx_main_v11 (ix4 b n h d) = ix3 b n (⟨h.val * 128 + d.val, by omega⟩ : Fin 2048) :=
    funext fun a => Fin.ext (by
      match a with
      | ⟨0, _⟩ => show (((b.val * 256 + n.val) * 16 + h.val) * 128 + d.val) / 524288 = b.val; omega
      | ⟨1, _⟩ => show (((b.val * 256 + n.val) * 16 + h.val) * 128 + d.val) / 2048 % 256 = n.val; omega
      | ⟨2, _⟩ => show (((b.val * 256 + n.val) * 16 + h.val) * 128 + d.val) % 2048 = h.val * 128 + d.val; omega)
  have e2 : idx_main_v10 (ix3 b n (⟨h.val * 128 + d.val, by omega⟩ : Fin 2048)) = ix3 b n (⟨6144 + (h.val * 128 + d.val), by omega⟩ : Fin 20480) :=
    funext fun a => Fin.ext (by
      match a with
      | ⟨0, _⟩ => rfl
      | ⟨1, _⟩ => rfl
      | ⟨2, _⟩ => rfl)
  have e3 : idx_main_v3 (ix3 b n (⟨6144 + (h.val * 128 + d.val), by omega⟩ : Fin 20480)) = ix2 (⟨b.val * 256 + n.val, by omega⟩ : Fin 512) (⟨6144 + (h.val * 128 + d.val), by omega⟩ : Fin 20480) :=
    funext fun a => Fin.ext (by
      match a with
      | ⟨0, _⟩ => show ((b.val * 256 + n.val) * 20480 + (6144 + (h.val * 128 + d.val))) / 20480 = b.val * 256 + n.val; omega
      | ⟨1, _⟩ => show ((b.val * 256 + n.val) * 20480 + (6144 + (h.val * 128 + d.val))) % 20480 = 6144 + (h.val * 128 + d.val); omega)
  rw [val_main_v11_apply, e1, val_main_v10_apply, e2, val_main_v3_apply, e3, val_main_v2_apply]
  rfl

theorem v13_at (x1 : Vec Ideal S512x20480 .bf16) (b : Fin 2) (n : Fin 256) (h : Fin 16) (d : Fin 128) :
    val_main_v13 (F := Ideal) x1 (ix4 b n h d) = con x1 8192 (by omega) b n h d := by
  have hb := b.isLt
  have hn := n.isLt
  have hh := h.isLt
  have hd := d.isLt
  have e1 : idx_main_v13 (ix4 b n h d) = ix3 b n (⟨h.val * 128 + d.val, by omega⟩ : Fin 2048) :=
    funext fun a => Fin.ext (by
      match a with
      | ⟨0, _⟩ => show (((b.val * 256 + n.val) * 16 + h.val) * 128 + d.val) / 524288 = b.val; omega
      | ⟨1, _⟩ => show (((b.val * 256 + n.val) * 16 + h.val) * 128 + d.val) / 2048 % 256 = n.val; omega
      | ⟨2, _⟩ => show (((b.val * 256 + n.val) * 16 + h.val) * 128 + d.val) % 2048 = h.val * 128 + d.val; omega)
  have e2 : idx_main_v12 (ix3 b n (⟨h.val * 128 + d.val, by omega⟩ : Fin 2048)) = ix3 b n (⟨8192 + (h.val * 128 + d.val), by omega⟩ : Fin 20480) :=
    funext fun a => Fin.ext (by
      match a with
      | ⟨0, _⟩ => rfl
      | ⟨1, _⟩ => rfl
      | ⟨2, _⟩ => rfl)
  have e3 : idx_main_v3 (ix3 b n (⟨8192 + (h.val * 128 + d.val), by omega⟩ : Fin 20480)) = ix2 (⟨b.val * 256 + n.val, by omega⟩ : Fin 512) (⟨8192 + (h.val * 128 + d.val), by omega⟩ : Fin 20480) :=
    funext fun a => Fin.ext (by
      match a with
      | ⟨0, _⟩ => show ((b.val * 256 + n.val) * 20480 + (8192 + (h.val * 128 + d.val))) / 20480 = b.val * 256 + n.val; omega
      | ⟨1, _⟩ => show ((b.val * 256 + n.val) * 20480 + (8192 + (h.val * 128 + d.val))) % 20480 = 8192 + (h.val * 128 + d.val); omega)
  rw [val_main_v13_apply, e1, val_main_v12_apply, e2, val_main_v3_apply, e3, val_main_v2_apply]
  rfl

theorem v65_at (x0 : Vec Ideal S8192x20480 .bf16) (b : Fin 2) (h : Fin 16) (n : Fin 4096) (d : Fin 128) :
    val_main_v65 (F := Ideal) x0 (ix4 b h n d) = tok x0 6144 (by omega) b n h d := by
  have e : idx_main_v65 (ix4 b h n d) = ix4 b n h d :=
    funext fun a => Fin.ext (by
      match a with
      | ⟨0, _⟩ => rfl
      | ⟨1, _⟩ => rfl
      | ⟨2, _⟩ => rfl
      | ⟨3, _⟩ => rfl)
  rw [val_main_v65_apply, e, v7_at]

theorem v66_at (x0 : Vec Ideal S8192x20480 .bf16) (b : Fin 2) (h : Fin 16) (n : Fin 4096) (d : Fin 128) :
    val_main_v66 (F := Ideal) x0 (ix4 b h n d) = tok x0 8192 (by omega) b n h d := by
  have e : idx_main_v66 (ix4 b h n d) = ix4 b n h d :=
    funext fun a => Fin.ext (by
      match a with
      | ⟨0, _⟩ => rfl
      | ⟨1, _⟩ => rfl
      | ⟨2, _⟩ => rfl
      | ⟨3, _⟩ => rfl)
  rw [val_main_v66_apply, e, v9_at]

theorem v67_at (x1 : Vec Ideal S512x20480 .bf16) (b : Fin 2) (h : Fin 16) (n : Fin 256) (d : Fin 128) :
    val_main_v67 (F := Ideal) x1 (ix4 b h n d) = con x1 6144 (by omega) b n h d := by
  have e : idx_main_v67 (ix4 b h n d) = ix4 b n h d :=
    funext fun a => Fin.ext (by
      match a with
      | ⟨0, _⟩ => rfl
      | ⟨1, _⟩ => rfl
      | ⟨2, _⟩ => rfl
      | ⟨3, _⟩ => rfl)
  rw [val_main_v67_apply, e, v11_at]

theorem v68_at (x1 : Vec Ideal S512x20480 .bf16) (b : Fin 2) (h : Fin 16) (n : Fin 256) (d : Fin 128) :
    val_main_v68 (F := Ideal) x1 (ix4 b h n d) = con x1 8192 (by omega) b n h d := by
  have e : idx_main_v68 (ix4 b h n d) = ix4 b n h d :=
    funext fun a => Fin.ext (by
      match a with
      | ⟨0, _⟩ => rfl
      | ⟨1, _⟩ => rfl
      | ⟨2, _⟩ => rfl
      | ⟨3, _⟩ => rfl)
  rw [val_main_v68_apply, e, v13_at]

theorem v64_at (x0 : Vec Ideal S8192x20480 .bf16) (b : Fin 2) (h : Fin 16) (n : Fin 4096) (d : Fin 128) :
    val_main_v64 (F := Ideal) x0 (ix4 b h n d) = tok x0 4096 (by omega) b n h d * scale := by
  have e : idx_main_v64 (ix4 b h n d) = ix4 b n h d :=
    funext fun a => Fin.ext (by
      match a with
      | ⟨0, _⟩ => rfl
      | ⟨1, _⟩ => rfl
      | ⟨2, _⟩ => rfl
      | ⟨3, _⟩ => rfl)
  rw [val_main_v64_apply, e, val_main_v63_apply, v5_at, val_main_v62_apply, val_main_cst_apply]
  rfl

/-- The score of key `t` for query `n`: minus infinity outside the window. -/
def loc (x0 : Vec Ideal S8192x20480 .bf16) (x2 : Vec Ideal S16x15x31 .f32) (b : Fin 2) (h : Fin 16) (n t : Fin 4096) : EReal :=
  if inWin 8 (n.val / 64) (t.val / 64) = true ∧ inWin 16 (n.val % 64) (t.val % 64) = true then
    (∑ d : Fin 128, (tok x0 4096 (by omega) b n h d * scale) * tok x0 6144 (by omega) b t h d)
      + x2 (ix3 h ⟨min (t.val / 64 + 7 - n.val / 64) 14, by omega⟩ ⟨min (t.val % 64 + 15 - n.val % 64) 30, by omega⟩)
  else ⊥

/-- The score of context key `u` for query `n`. -/
def ctxS (x0 : Vec Ideal S8192x20480 .bf16) (x1 : Vec Ideal S512x20480 .bf16) (b : Fin 2) (h : Fin 16) (n : Fin 4096) (u : Fin 256) : EReal :=
  ∑ d : Fin 128, (tok x0 4096 (by omega) b n h d * scale) * con x1 6144 (by omega) b u h d

theorem select_both (p q : Bool) (x y : EReal) :
    Scalar.select (IntOp.andi (BitVec.ofBool p) (BitVec.ofBool q)) x y = if p = true ∧ q = true then x else y := by
  cases p <;> cases q <;> rfl

variable (x0 : Vec Ideal S8192x20480 .bf16) (x1 : Vec Ideal S512x20480 .bf16) (x2 : Vec Ideal S16x15x31 .f32)

theorem loc_apply (b : Fin 2) (h : Fin 16) (n t : Fin 4096) :
    val_main_v95 (F := Ideal) x0 x2 (ix4 b h n t) = loc x0 x2 b h n t := by
  have e1 : idx_main_call4_v1 (ix4 b h n t) = ix2 n t :=
    funext fun a => Fin.ext (by
      match a with
      | ⟨0, _⟩ => rfl
      | ⟨1, _⟩ => rfl)
  have e2 : idx_main_v92 (idx_main_v93 (ix4 b h n t)) = ix3 h n t :=
    funext fun a => Fin.ext (by
      match a with
      | ⟨0, _⟩ => rfl
      | ⟨1, _⟩ => rfl
      | ⟨2, _⟩ => rfl)
  have hl : ∀ k : Fin 128, lidx_main_v91 (ix4 b h n t) k = ix4 b h n k := fun k =>
    funext fun a => Fin.ext (by
      match a with
      | ⟨0, _⟩ => rfl
      | ⟨1, _⟩ => rfl
      | ⟨2, _⟩ => rfl
      | ⟨3, _⟩ => rfl)
  have hr : ∀ k : Fin 128, ridx_main_v91 (ix4 b h n t) k = ix4 b h t k := fun k =>
    funext fun a => Fin.ext (by
      match a with
      | ⟨0, _⟩ => rfl
      | ⟨1, _⟩ => rfl
      | ⟨2, _⟩ => rfl
      | ⟨3, _⟩ => rfl)
  have hs : val_main_v91 (F := Ideal) x0 (ix4 b h n t) = ∑ d : Fin 128, (tok x0 4096 (by omega) b n h d * scale) * tok x0 6144 (by omega) b t h d := by
    rw [val_main_v91_apply]
    refine Finset.sum_congr rfl fun k _ => ?_
    rw [hl, hr, v64_at, v65_at]
  rw [val_main_v95_apply, val_main_call4_v1_apply, e1, valid_apply, val_main_v94_apply, hs, val_main_v93_apply, val_main_v92_apply, e2,
    bias_apply, val_main_call4_v2_apply, val_main_call4_v0_apply, val_main_cst_19_apply]
  refine (select_both _ _ _ _).trans ?_
  unfold loc
  exact congrArg (fun z => ite _ _ z) negInf

theorem ctx_apply (b : Fin 2) (h : Fin 16) (n : Fin 4096) (u : Fin 256) :
    val_main_v96 (F := Ideal) x0 x1 (ix4 b h n u) = ctxS x0 x1 b h n u := by
  have hl : ∀ k : Fin 128, lidx_main_v96 (ix4 b h n u) k = ix4 b h n k := fun k =>
    funext fun a => Fin.ext (by
      match a with
      | ⟨0, _⟩ => rfl
      | ⟨1, _⟩ => rfl
      | ⟨2, _⟩ => rfl
      | ⟨3, _⟩ => rfl)
  have hr : ∀ k : Fin 128, ridx_main_v96 (ix4 b h n u) k = ix4 b h u k := fun k =>
    funext fun a => Fin.ext (by
      match a with
      | ⟨0, _⟩ => rfl
      | ⟨1, _⟩ => rfl
      | ⟨2, _⟩ => rfl
      | ⟨3, _⟩ => rfl)
  rw [val_main_v96_apply]
  refine Finset.sum_congr rfl fun k _ => ?_
  rw [hl, hr, v64_at, v67_at]

/-- The scores of a query, the keys first and the context keys after them. -/
def S (b : Fin 2) (h : Fin 16) (n : Fin 4096) : Fin (4096 + 256) → EReal := fun i => val_main_v97 (F := Ideal) x0 x1 x2 (ix4 b h n i)

theorem S_left (b : Fin 2) (h : Fin 16) (n t : Fin 4096) : S x0 x1 x2 b h n (Fin.castAdd 256 t) = loc x0 x2 b h n t := by
  unfold S val_main_v97
  rw [← loc_apply x0 x2 b h n t]
  generalize val_main_v95 (F := Ideal) x0 x2 = y1
  generalize val_main_v96 (F := Ideal) x0 x1 = y2
  exact concatenate_pair_apply_left (t := S2x16x4096x4352) (s₁ := S2x16x4096x4096) (s₂ := S2x16x4096x256) 3 y1 y2
    concatenates_S2x16x4096x4096_S2x16x4096x256_S2x16x4096x4352_d3 (ix4 b h n (Fin.castAdd 256 t)) rfl (ix4 b h n t) (fun a => by fin_cases a <;> rfl)

theorem S_right (b : Fin 2) (h : Fin 16) (n : Fin 4096) (u : Fin 256) : S x0 x1 x2 b h n (Fin.natAdd 4096 u) = ctxS x0 x1 b h n u := by
  unfold S val_main_v97
  rw [← ctx_apply x0 x1 b h n u]
  generalize val_main_v95 (F := Ideal) x0 x2 = y1
  generalize val_main_v96 (F := Ideal) x0 x1 = y2
  exact concatenate_pair_apply_right (t := S2x16x4096x4352) (s₁ := S2x16x4096x4096) (s₂ := S2x16x4096x256) 3 y1 y2
    concatenates_S2x16x4096x4096_S2x16x4096x256_S2x16x4096x4352_d3 (ix4 b h n (Fin.natAdd 4096 u)) rfl rfl (ix4 b h n u)
    (fun a ha => by fin_cases a <;> first | rfl | exact absurd rfl ha) (by show u.val + 4096 = 4096 + u.val; omega)

theorem v98_at (b : Fin 2) (h : Fin 16) (n : Fin 4096) : val_main_v98 (F := Ideal) x0 x1 x2 (ix3 b h n) = maxOver (S x0 x1 x2 b h n) := by
  unfold val_main_v98 S
  generalize val_main_v97 (F := Ideal) x0 x1 x2 = y
  refine (Host.reduce_eq_fold_single (FloatOps.maximumf (F := Ideal) (φ := .f32)) y _ reducesTo_S2x16x4096x4352_S2x16x4096_d3 (by decide) h_S_ (ix3 b h n)).trans ?_
  show Finset.fold max (Ideal.ofBits .f32 0xFF800000#32) _ _ = _
  rw [negInf]
  refine Finset.fold_congr fun j _ => congrArg y (funext fun a => ?_)
  fin_cases a <;> rfl

/-- The largest score of a query. -/
theorem v100_at (b : Fin 2) (h : Fin 16) (n : Fin 4096) : val_main_v100 (F := Ideal) x0 x1 x2 (ix3 b h n) = maxOver (S x0 x1 x2 b h n) := by
  rw [val_main_v100_apply, v98_at, val_main_v99_apply, val_main_cst_21_apply]
  show max (Ideal.ofBits .f32 0xFF800000#32) _ = _
  rw [negInf]
  exact max_eq_right bot_le

/-- The exponential of a score less the largest one. -/
theorem v104_at (b : Fin 2) (h : Fin 16) (n : Fin 4096) (i : Fin (4096 + 256)) : val_main_v104 (F := Ideal) x0 x1 x2 (ix4 b h n i)
    = Ideal.exp (S x0 x1 x2 b h n i - maxOver (S x0 x1 x2 b h n)) := by
  have e : idx_main_v101 (idx_main_v102 (ix4 b h n i)) = ix3 b h n :=
    funext fun a => Fin.ext (by
      match a with
      | ⟨0, _⟩ => rfl
      | ⟨1, _⟩ => rfl
      | ⟨2, _⟩ => rfl)
  rw [val_main_v104_apply, val_main_v103_apply, val_main_v102_apply, val_main_v101_apply, e, v100_at]
  rfl

theorem v105_at (b : Fin 2) (h : Fin 16) (n : Fin 4096) : val_main_v105 (F := Ideal) x0 x1 x2 (ix3 b h n)
    = ∑ i, Ideal.exp (S x0 x1 x2 b h n i - maxOver (S x0 x1 x2 b h n)) := by
  rw [val_main_v105_apply, val_main_cst_22_apply]
  have e : ∀ i : Fin 4352, idx_main_v105 (ix3 b h n) i = ix4 b h n i := fun i =>
    funext fun a => Fin.ext (by
      match a with
      | ⟨0, _⟩ => rfl
      | ⟨1, _⟩ => rfl
      | ⟨2, _⟩ => rfl
      | ⟨3, _⟩ => rfl)
  refine (congrArg₂ (· + ·) zeroF (Finset.sum_congr rfl fun i _ => (congrArg _ (e i)).trans (v104_at x0 x1 x2 b h n i))).trans ?_
  exact zero_add _

/-- The weight of a key. -/
theorem weight_apply (b : Fin 2) (h : Fin 16) (n : Fin 4096) (i : Fin (4096 + 256)) : val_main_v108 (F := Ideal) x0 x1 x2 (ix4 b h n i)
    = Ideal.div (Ideal.exp (S x0 x1 x2 b h n i - maxOver (S x0 x1 x2 b h n))) (∑ i, Ideal.exp (S x0 x1 x2 b h n i - maxOver (S x0 x1 x2 b h n))) := by
  have e : idx_main_v106 (idx_main_v107 (ix4 b h n i)) = ix3 b h n :=
    funext fun a => Fin.ext (by
      match a with
      | ⟨0, _⟩ => rfl
      | ⟨1, _⟩ => rfl
      | ⟨2, _⟩ => rfl)
  rw [val_main_v108_apply, v104_at, val_main_v107_apply, val_main_v106_apply, e, v105_at]
  rfl

/-- The reference's attention of a query: the weighted sum of the values and of the context values. -/
def R (b : Fin 2) (h : Fin 16) (n : Fin 4096) (d : Fin 128) : EReal :=
  (∑ t : Fin 4096, Ideal.div (Ideal.exp (S x0 x1 x2 b h n (Fin.castAdd 256 t) - maxOver (S x0 x1 x2 b h n)))
      (∑ i, Ideal.exp (S x0 x1 x2 b h n i - maxOver (S x0 x1 x2 b h n))) * tok x0 8192 (by omega) b t h d)
    + ∑ u : Fin 256, Ideal.div (Ideal.exp (S x0 x1 x2 b h n (Fin.natAdd 4096 u) - maxOver (S x0 x1 x2 b h n)))
      (∑ i, Ideal.exp (S x0 x1 x2 b h n i - maxOver (S x0 x1 x2 b h n))) * con x1 8192 (by omega) b u h d

theorem v110_at (b : Fin 2) (h : Fin 16) (n : Fin 4096) (d : Fin 128) : val_main_v110 (F := Ideal) x0 x1 x2 (ix4 b h n d)
    = ∑ t : Fin 4096, Ideal.div (Ideal.exp (S x0 x1 x2 b h n (Fin.castAdd 256 t) - maxOver (S x0 x1 x2 b h n)))
      (∑ i, Ideal.exp (S x0 x1 x2 b h n i - maxOver (S x0 x1 x2 b h n))) * tok x0 8192 (by omega) b t h d := by
  rw [val_main_v110_apply]
  refine Finset.sum_congr rfl fun t _ => ?_
  have e1 : idx_main_v109 (lidx_main_v110 (ix4 b h n d) t) = ix4 b h n (Fin.castAdd 256 t) :=
    funext fun a => Fin.ext (by
      match a with
      | ⟨0, _⟩ => rfl
      | ⟨1, _⟩ => rfl
      | ⟨2, _⟩ => rfl
      | ⟨3, _⟩ => rfl)
  have e2 : ridx_main_v110 (ix4 b h n d) t = ix4 b h t d :=
    funext fun a => Fin.ext (by
      match a with
      | ⟨0, _⟩ => rfl
      | ⟨1, _⟩ => rfl
      | ⟨2, _⟩ => rfl
      | ⟨3, _⟩ => rfl)
  rw [val_main_v109_apply, e1, weight_apply, e2, v66_at]

theorem v112_at (b : Fin 2) (h : Fin 16) (n : Fin 4096) (d : Fin 128) : val_main_v112 (F := Ideal) x0 x1 x2 (ix4 b h n d)
    = ∑ u : Fin 256, Ideal.div (Ideal.exp (S x0 x1 x2 b h n (Fin.natAdd 4096 u) - maxOver (S x0 x1 x2 b h n)))
      (∑ i, Ideal.exp (S x0 x1 x2 b h n i - maxOver (S x0 x1 x2 b h n))) * con x1 8192 (by omega) b u h d := by
  rw [val_main_v112_apply]
  refine Finset.sum_congr rfl fun u _ => ?_
  have e1 : idx_main_v111 (lidx_main_v112 (ix4 b h n d) u) = ix4 b h n (Fin.natAdd 4096 u) :=
    funext fun a => Fin.ext (by
      match a with
      | ⟨0, _⟩ => rfl
      | ⟨1, _⟩ => rfl
      | ⟨2, _⟩ => rfl
      | ⟨3, _⟩ => rfl)
  have e2 : ridx_main_v112 (ix4 b h n d) u = ix4 b h u d :=
    funext fun a => Fin.ext (by
      match a with
      | ⟨0, _⟩ => rfl
      | ⟨1, _⟩ => rfl
      | ⟨2, _⟩ => rfl
      | ⟨3, _⟩ => rfl)
  rw [val_main_v111_apply, e1, weight_apply, e2, v68_at]

/-- The reference's result at a query's row and a head's channel. -/
theorem result_apply (b : Fin 2) (h : Fin 16) (n : Fin 4096) (d : Fin 128) :
    val_main_v117 (F := Ideal) x0 x1 x2 (ix2 (⟨b.val * 4096 + n.val, by omega⟩ : Fin 8192) (⟨h.val * 128 + d.val, by omega⟩ : Fin 2048))
      = R x0 x1 x2 b h n d := by
  have hb := b.isLt
  have hn := n.isLt
  have hh := h.isLt
  have hd := d.isLt
  have e1 : idx_main_v117 (ix2 (⟨b.val * 4096 + n.val, by omega⟩ : Fin 8192) (⟨h.val * 128 + d.val, by omega⟩ : Fin 2048)) = ix3 b n (⟨h.val * 128 + d.val, by omega⟩ : Fin 2048) :=
    funext fun a => Fin.ext (by
      match a with
      | ⟨0, _⟩ => show ((b.val * 4096 + n.val) * 2048 + (h.val * 128 + d.val)) / 8388608 = b.val; omega
      | ⟨1, _⟩ => show ((b.val * 4096 + n.val) * 2048 + (h.val * 128 + d.val)) / 2048 % 4096 = n.val; omega
      | ⟨2, _⟩ => show ((b.val * 4096 + n.val) * 2048 + (h.val * 128 + d.val)) % 2048 = h.val * 128 + d.val; omega)
  have e2 : idx_main_v115 (ix3 b n (⟨h.val * 128 + d.val, by omega⟩ : Fin 2048)) = ix4 b n h d :=
    funext fun a => Fin.ext (by
      match a with
      | ⟨0, _⟩ => show ((b.val * 4096 + n.val) * 2048 + (h.val * 128 + d.val)) / 8388608 = b.val; omega
      | ⟨1, _⟩ => show ((b.val * 4096 + n.val) * 2048 + (h.val * 128 + d.val)) / 2048 % 4096 = n.val; omega
      | ⟨2, _⟩ => show ((b.val * 4096 + n.val) * 2048 + (h.val * 128 + d.val)) / 128 % 16 = h.val; omega
      | ⟨3, _⟩ => show ((b.val * 4096 + n.val) * 2048 + (h.val * 128 + d.val)) % 128 = d.val; omega)
  have e3 : idx_main_v114 (ix4 b n h d) = ix4 b h n d :=
    funext fun a => Fin.ext (by
      match a with
      | ⟨0, _⟩ => rfl
      | ⟨1, _⟩ => rfl
      | ⟨2, _⟩ => rfl
      | ⟨3, _⟩ => rfl)
  rw [val_main_v117_apply, e1, val_main_v116_apply, val_main_v115_apply, e2, val_main_v114_apply, e3, val_main_v113_apply, v110_at, v112_at]
  rfl

end Cert.RefAttn

end
-- ==== Proof.Ones1.lean ====
/-
  Rows 0 to 185 of the table of ones, 128 entries each.
-/
module

public import proofs.«01_k».proof.KernelIdeal.P01
public import proofs.«01_k».proof.Proof.Entries

@[expose] public section

noncomputable section

namespace Cert.Attn

open Cert.KernelIdeal

/-- The choice by a number below 128 that these rows are written with. -/
def pick1 (f : Nat → BitVec 32) (r : Nat) : BitVec 32 :=
  lit0t0_0.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick1_eq (f : Nat → BitVec 32) (r : Nat) (hr : r < 128) : pick1 f r = f r := by
  interval_cases r <;> rfl

/-- It chooses by a remainder. -/
theorem pick1_mod (f : Nat → BitVec 32) (i : Nat) : pick1 f (i % 128) = f (i % 128) :=
  pick1_eq f _ (Nat.mod_lt _ (by decide))

theorem ones0 (i : Nat) : lit0t0_0 i = oneAt 0 (i % 128) := (rfl : _ = pick1 (oneAt 0) (i % 128)).trans (pick1_mod _ i)
theorem ones1 (i : Nat) : lit0t0_1 i = oneAt 1 (i % 128) := (rfl : _ = pick1 (oneAt 1) (i % 128)).trans (pick1_mod _ i)
theorem ones2 (i : Nat) : lit0t0_2 i = oneAt 2 (i % 128) := (rfl : _ = pick1 (oneAt 2) (i % 128)).trans (pick1_mod _ i)
theorem ones3 (i : Nat) : lit0t0_3 i = oneAt 3 (i % 128) := (rfl : _ = pick1 (oneAt 3) (i % 128)).trans (pick1_mod _ i)
theorem ones4 (i : Nat) : lit0t0_4 i = oneAt 4 (i % 128) := (rfl : _ = pick1 (oneAt 4) (i % 128)).trans (pick1_mod _ i)
theorem ones5 (i : Nat) : lit0t0_5 i = oneAt 5 (i % 128) := (rfl : _ = pick1 (oneAt 5) (i % 128)).trans (pick1_mod _ i)
theorem ones6 (i : Nat) : lit0t0_6 i = oneAt 6 (i % 128) := (rfl : _ = pick1 (oneAt 6) (i % 128)).trans (pick1_mod _ i)
theorem ones7 (i : Nat) : lit0t0_7 i = oneAt 7 (i % 128) := (rfl : _ = pick1 (oneAt 7) (i % 128)).trans (pick1_mod _ i)
theorem ones8 (i : Nat) : lit0t0_8 i = oneAt 8 (i % 128) := (rfl : _ = pick1 (oneAt 8) (i % 128)).trans (pick1_mod _ i)
theorem ones9 (i : Nat) : lit0t0_9 i = oneAt 9 (i % 128) := (rfl : _ = pick1 (oneAt 9) (i % 128)).trans (pick1_mod _ i)
theorem ones10 (i : Nat) : lit0t0_10 i = oneAt 10 (i % 128) := (rfl : _ = pick1 (oneAt 10) (i % 128)).trans (pick1_mod _ i)
theorem ones11 (i : Nat) : lit0t0_11 i = oneAt 11 (i % 128) := (rfl : _ = pick1 (oneAt 11) (i % 128)).trans (pick1_mod _ i)
theorem ones12 (i : Nat) : lit0t0_12 i = oneAt 12 (i % 128) := (rfl : _ = pick1 (oneAt 12) (i % 128)).trans (pick1_mod _ i)
theorem ones13 (i : Nat) : lit0t0_13 i = oneAt 13 (i % 128) := (rfl : _ = pick1 (oneAt 13) (i % 128)).trans (pick1_mod _ i)
theorem ones14 (i : Nat) : lit0t0_14 i = oneAt 14 (i % 128) := (rfl : _ = pick1 (oneAt 14) (i % 128)).trans (pick1_mod _ i)
theorem ones15 (i : Nat) : lit0t0_15 i = oneAt 15 (i % 128) := (rfl : _ = pick1 (oneAt 15) (i % 128)).trans (pick1_mod _ i)
theorem ones16 (i : Nat) : lit0t0_16 i = oneAt 16 (i % 128) := (rfl : _ = pick1 (oneAt 16) (i % 128)).trans (pick1_mod _ i)
theorem ones17 (i : Nat) : lit0t0_17 i = oneAt 17 (i % 128) := (rfl : _ = pick1 (oneAt 17) (i % 128)).trans (pick1_mod _ i)
theorem ones18 (i : Nat) : lit0t0_18 i = oneAt 18 (i % 128) := (rfl : _ = pick1 (oneAt 18) (i % 128)).trans (pick1_mod _ i)
theorem ones19 (i : Nat) : lit0t0_19 i = oneAt 19 (i % 128) := (rfl : _ = pick1 (oneAt 19) (i % 128)).trans (pick1_mod _ i)
theorem ones20 (i : Nat) : lit0t0_20 i = oneAt 20 (i % 128) := (rfl : _ = pick1 (oneAt 20) (i % 128)).trans (pick1_mod _ i)
theorem ones21 (i : Nat) : lit0t0_21 i = oneAt 21 (i % 128) := (rfl : _ = pick1 (oneAt 21) (i % 128)).trans (pick1_mod _ i)
theorem ones22 (i : Nat) : lit0t0_22 i = oneAt 22 (i % 128) := (rfl : _ = pick1 (oneAt 22) (i % 128)).trans (pick1_mod _ i)
theorem ones23 (i : Nat) : lit0t0_23 i = oneAt 23 (i % 128) := (rfl : _ = pick1 (oneAt 23) (i % 128)).trans (pick1_mod _ i)
theorem ones24 (i : Nat) : lit0t0_24 i = oneAt 24 (i % 128) := (rfl : _ = pick1 (oneAt 24) (i % 128)).trans (pick1_mod _ i)
theorem ones25 (i : Nat) : lit0t0_25 i = oneAt 25 (i % 128) := (rfl : _ = pick1 (oneAt 25) (i % 128)).trans (pick1_mod _ i)
theorem ones26 (i : Nat) : lit0t0_26 i = oneAt 26 (i % 128) := (rfl : _ = pick1 (oneAt 26) (i % 128)).trans (pick1_mod _ i)
theorem ones27 (i : Nat) : lit0t0_27 i = oneAt 27 (i % 128) := (rfl : _ = pick1 (oneAt 27) (i % 128)).trans (pick1_mod _ i)
theorem ones28 (i : Nat) : lit0t0_28 i = oneAt 28 (i % 128) := (rfl : _ = pick1 (oneAt 28) (i % 128)).trans (pick1_mod _ i)
theorem ones29 (i : Nat) : lit0t0_29 i = oneAt 29 (i % 128) := (rfl : _ = pick1 (oneAt 29) (i % 128)).trans (pick1_mod _ i)
theorem ones30 (i : Nat) : lit0t0_30 i = oneAt 30 (i % 128) := (rfl : _ = pick1 (oneAt 30) (i % 128)).trans (pick1_mod _ i)
theorem ones31 (i : Nat) : lit0t0_31 i = oneAt 31 (i % 128) := (rfl : _ = pick1 (oneAt 31) (i % 128)).trans (pick1_mod _ i)
theorem ones32 (i : Nat) : lit0t0_32 i = oneAt 32 (i % 128) := (rfl : _ = pick1 (oneAt 32) (i % 128)).trans (pick1_mod _ i)
theorem ones33 (i : Nat) : lit0t0_33 i = oneAt 33 (i % 128) := (rfl : _ = pick1 (oneAt 33) (i % 128)).trans (pick1_mod _ i)
theorem ones34 (i : Nat) : lit0t0_34 i = oneAt 34 (i % 128) := (rfl : _ = pick1 (oneAt 34) (i % 128)).trans (pick1_mod _ i)
theorem ones35 (i : Nat) : lit0t0_35 i = oneAt 35 (i % 128) := (rfl : _ = pick1 (oneAt 35) (i % 128)).trans (pick1_mod _ i)
theorem ones36 (i : Nat) : lit0t0_36 i = oneAt 36 (i % 128) := (rfl : _ = pick1 (oneAt 36) (i % 128)).trans (pick1_mod _ i)
theorem ones37 (i : Nat) : lit0t0_37 i = oneAt 37 (i % 128) := (rfl : _ = pick1 (oneAt 37) (i % 128)).trans (pick1_mod _ i)
theorem ones38 (i : Nat) : lit0t0_38 i = oneAt 38 (i % 128) := (rfl : _ = pick1 (oneAt 38) (i % 128)).trans (pick1_mod _ i)
theorem ones39 (i : Nat) : lit0t0_39 i = oneAt 39 (i % 128) := (rfl : _ = pick1 (oneAt 39) (i % 128)).trans (pick1_mod _ i)
theorem ones40 (i : Nat) : lit0t0_40 i = oneAt 40 (i % 128) := (rfl : _ = pick1 (oneAt 40) (i % 128)).trans (pick1_mod _ i)
theorem ones41 (i : Nat) : lit0t0_41 i = oneAt 41 (i % 128) := (rfl : _ = pick1 (oneAt 41) (i % 128)).trans (pick1_mod _ i)
theorem ones42 (i : Nat) : lit0t0_42 i = oneAt 42 (i % 128) := (rfl : _ = pick1 (oneAt 42) (i % 128)).trans (pick1_mod _ i)
theorem ones43 (i : Nat) : lit0t0_43 i = oneAt 43 (i % 128) := (rfl : _ = pick1 (oneAt 43) (i % 128)).trans (pick1_mod _ i)
theorem ones44 (i : Nat) : lit0t0_44 i = oneAt 44 (i % 128) := (rfl : _ = pick1 (oneAt 44) (i % 128)).trans (pick1_mod _ i)
theorem ones45 (i : Nat) : lit0t0_45 i = oneAt 45 (i % 128) := (rfl : _ = pick1 (oneAt 45) (i % 128)).trans (pick1_mod _ i)
theorem ones46 (i : Nat) : lit0t0_46 i = oneAt 46 (i % 128) := (rfl : _ = pick1 (oneAt 46) (i % 128)).trans (pick1_mod _ i)
theorem ones47 (i : Nat) : lit0t0_47 i = oneAt 47 (i % 128) := (rfl : _ = pick1 (oneAt 47) (i % 128)).trans (pick1_mod _ i)
theorem ones48 (i : Nat) : lit0t0_48 i = oneAt 48 (i % 128) := (rfl : _ = pick1 (oneAt 48) (i % 128)).trans (pick1_mod _ i)
theorem ones49 (i : Nat) : lit0t0_49 i = oneAt 49 (i % 128) := (rfl : _ = pick1 (oneAt 49) (i % 128)).trans (pick1_mod _ i)
theorem ones50 (i : Nat) : lit0t0_50 i = oneAt 50 (i % 128) := (rfl : _ = pick1 (oneAt 50) (i % 128)).trans (pick1_mod _ i)
theorem ones51 (i : Nat) : lit0t0_51 i = oneAt 51 (i % 128) := (rfl : _ = pick1 (oneAt 51) (i % 128)).trans (pick1_mod _ i)
theorem ones52 (i : Nat) : lit0t0_52 i = oneAt 52 (i % 128) := (rfl : _ = pick1 (oneAt 52) (i % 128)).trans (pick1_mod _ i)
theorem ones53 (i : Nat) : lit0t0_53 i = oneAt 53 (i % 128) := (rfl : _ = pick1 (oneAt 53) (i % 128)).trans (pick1_mod _ i)
theorem ones54 (i : Nat) : lit0t0_54 i = oneAt 54 (i % 128) := (rfl : _ = pick1 (oneAt 54) (i % 128)).trans (pick1_mod _ i)
theorem ones55 (i : Nat) : lit0t0_55 i = oneAt 55 (i % 128) := (rfl : _ = pick1 (oneAt 55) (i % 128)).trans (pick1_mod _ i)
theorem ones56 (i : Nat) : lit0t0_56 i = oneAt 56 (i % 128) := (rfl : _ = pick1 (oneAt 56) (i % 128)).trans (pick1_mod _ i)
theorem ones57 (i : Nat) : lit0t0_57 i = oneAt 57 (i % 128) := (rfl : _ = pick1 (oneAt 57) (i % 128)).trans (pick1_mod _ i)
theorem ones58 (i : Nat) : lit0t0_58 i = oneAt 58 (i % 128) := (rfl : _ = pick1 (oneAt 58) (i % 128)).trans (pick1_mod _ i)
theorem ones59 (i : Nat) : lit0t0_59 i = oneAt 59 (i % 128) := (rfl : _ = pick1 (oneAt 59) (i % 128)).trans (pick1_mod _ i)
theorem ones60 (i : Nat) : lit0t0_60 i = oneAt 60 (i % 128) := (rfl : _ = pick1 (oneAt 60) (i % 128)).trans (pick1_mod _ i)
theorem ones61 (i : Nat) : lit0t0_61 i = oneAt 61 (i % 128) := (rfl : _ = pick1 (oneAt 61) (i % 128)).trans (pick1_mod _ i)
theorem ones62 (i : Nat) : lit0t0_62 i = oneAt 62 (i % 128) := (rfl : _ = pick1 (oneAt 62) (i % 128)).trans (pick1_mod _ i)
theorem ones63 (i : Nat) : lit0t0_63 i = oneAt 63 (i % 128) := (rfl : _ = pick1 (oneAt 63) (i % 128)).trans (pick1_mod _ i)
theorem ones64 (i : Nat) : lit0t0_64 i = oneAt 64 (i % 128) := (rfl : _ = pick1 (oneAt 64) (i % 128)).trans (pick1_mod _ i)
theorem ones65 (i : Nat) : lit0t0_65 i = oneAt 65 (i % 128) := (rfl : _ = pick1 (oneAt 65) (i % 128)).trans (pick1_mod _ i)
theorem ones66 (i : Nat) : lit0t0_66 i = oneAt 66 (i % 128) := (rfl : _ = pick1 (oneAt 66) (i % 128)).trans (pick1_mod _ i)
theorem ones67 (i : Nat) : lit0t0_67 i = oneAt 67 (i % 128) := (rfl : _ = pick1 (oneAt 67) (i % 128)).trans (pick1_mod _ i)
theorem ones68 (i : Nat) : lit0t0_68 i = oneAt 68 (i % 128) := (rfl : _ = pick1 (oneAt 68) (i % 128)).trans (pick1_mod _ i)
theorem ones69 (i : Nat) : lit0t0_69 i = oneAt 69 (i % 128) := (rfl : _ = pick1 (oneAt 69) (i % 128)).trans (pick1_mod _ i)
theorem ones70 (i : Nat) : lit0t0_70 i = oneAt 70 (i % 128) := (rfl : _ = pick1 (oneAt 70) (i % 128)).trans (pick1_mod _ i)
theorem ones71 (i : Nat) : lit0t0_71 i = oneAt 71 (i % 128) := (rfl : _ = pick1 (oneAt 71) (i % 128)).trans (pick1_mod _ i)
theorem ones72 (i : Nat) : lit0t0_72 i = oneAt 72 (i % 128) := (rfl : _ = pick1 (oneAt 72) (i % 128)).trans (pick1_mod _ i)
theorem ones73 (i : Nat) : lit0t0_73 i = oneAt 73 (i % 128) := (rfl : _ = pick1 (oneAt 73) (i % 128)).trans (pick1_mod _ i)
theorem ones74 (i : Nat) : lit0t0_74 i = oneAt 74 (i % 128) := (rfl : _ = pick1 (oneAt 74) (i % 128)).trans (pick1_mod _ i)
theorem ones75 (i : Nat) : lit0t0_75 i = oneAt 75 (i % 128) := (rfl : _ = pick1 (oneAt 75) (i % 128)).trans (pick1_mod _ i)
theorem ones76 (i : Nat) : lit0t0_76 i = oneAt 76 (i % 128) := (rfl : _ = pick1 (oneAt 76) (i % 128)).trans (pick1_mod _ i)
theorem ones77 (i : Nat) : lit0t0_77 i = oneAt 77 (i % 128) := (rfl : _ = pick1 (oneAt 77) (i % 128)).trans (pick1_mod _ i)
theorem ones78 (i : Nat) : lit0t0_78 i = oneAt 78 (i % 128) := (rfl : _ = pick1 (oneAt 78) (i % 128)).trans (pick1_mod _ i)
theorem ones79 (i : Nat) : lit0t0_79 i = oneAt 79 (i % 128) := (rfl : _ = pick1 (oneAt 79) (i % 128)).trans (pick1_mod _ i)
theorem ones80 (i : Nat) : lit0t0_80 i = oneAt 80 (i % 128) := (rfl : _ = pick1 (oneAt 80) (i % 128)).trans (pick1_mod _ i)
theorem ones81 (i : Nat) : lit0t0_81 i = oneAt 81 (i % 128) := (rfl : _ = pick1 (oneAt 81) (i % 128)).trans (pick1_mod _ i)
theorem ones82 (i : Nat) : lit0t0_82 i = oneAt 82 (i % 128) := (rfl : _ = pick1 (oneAt 82) (i % 128)).trans (pick1_mod _ i)
theorem ones83 (i : Nat) : lit0t0_83 i = oneAt 83 (i % 128) := (rfl : _ = pick1 (oneAt 83) (i % 128)).trans (pick1_mod _ i)
theorem ones84 (i : Nat) : lit0t0_84 i = oneAt 84 (i % 128) := (rfl : _ = pick1 (oneAt 84) (i % 128)).trans (pick1_mod _ i)
theorem ones85 (i : Nat) : lit0t0_85 i = oneAt 85 (i % 128) := (rfl : _ = pick1 (oneAt 85) (i % 128)).trans (pick1_mod _ i)
theorem ones86 (i : Nat) : lit0t0_86 i = oneAt 86 (i % 128) := (rfl : _ = pick1 (oneAt 86) (i % 128)).trans (pick1_mod _ i)
theorem ones87 (i : Nat) : lit0t0_87 i = oneAt 87 (i % 128) := (rfl : _ = pick1 (oneAt 87) (i % 128)).trans (pick1_mod _ i)
theorem ones88 (i : Nat) : lit0t0_88 i = oneAt 88 (i % 128) := (rfl : _ = pick1 (oneAt 88) (i % 128)).trans (pick1_mod _ i)
theorem ones89 (i : Nat) : lit0t0_89 i = oneAt 89 (i % 128) := (rfl : _ = pick1 (oneAt 89) (i % 128)).trans (pick1_mod _ i)
theorem ones90 (i : Nat) : lit0t0_90 i = oneAt 90 (i % 128) := (rfl : _ = pick1 (oneAt 90) (i % 128)).trans (pick1_mod _ i)
theorem ones91 (i : Nat) : lit0t0_91 i = oneAt 91 (i % 128) := (rfl : _ = pick1 (oneAt 91) (i % 128)).trans (pick1_mod _ i)
theorem ones92 (i : Nat) : lit0t0_92 i = oneAt 92 (i % 128) := (rfl : _ = pick1 (oneAt 92) (i % 128)).trans (pick1_mod _ i)
theorem ones93 (i : Nat) : lit0t0_93 i = oneAt 93 (i % 128) := (rfl : _ = pick1 (oneAt 93) (i % 128)).trans (pick1_mod _ i)
theorem ones94 (i : Nat) : lit0t0_94 i = oneAt 94 (i % 128) := (rfl : _ = pick1 (oneAt 94) (i % 128)).trans (pick1_mod _ i)
theorem ones95 (i : Nat) : lit0t0_95 i = oneAt 95 (i % 128) := (rfl : _ = pick1 (oneAt 95) (i % 128)).trans (pick1_mod _ i)
theorem ones96 (i : Nat) : lit0t0_96 i = oneAt 96 (i % 128) := (rfl : _ = pick1 (oneAt 96) (i % 128)).trans (pick1_mod _ i)
theorem ones97 (i : Nat) : lit0t0_97 i = oneAt 97 (i % 128) := (rfl : _ = pick1 (oneAt 97) (i % 128)).trans (pick1_mod _ i)
theorem ones98 (i : Nat) : lit0t0_98 i = oneAt 98 (i % 128) := (rfl : _ = pick1 (oneAt 98) (i % 128)).trans (pick1_mod _ i)
theorem ones99 (i : Nat) : lit0t0_99 i = oneAt 99 (i % 128) := (rfl : _ = pick1 (oneAt 99) (i % 128)).trans (pick1_mod _ i)
theorem ones100 (i : Nat) : lit0t0_100 i = oneAt 100 (i % 128) := (rfl : _ = pick1 (oneAt 100) (i % 128)).trans (pick1_mod _ i)
theorem ones101 (i : Nat) : lit0t0_101 i = oneAt 101 (i % 128) := (rfl : _ = pick1 (oneAt 101) (i % 128)).trans (pick1_mod _ i)
theorem ones102 (i : Nat) : lit0t0_102 i = oneAt 102 (i % 128) := (rfl : _ = pick1 (oneAt 102) (i % 128)).trans (pick1_mod _ i)
theorem ones103 (i : Nat) : lit0t0_103 i = oneAt 103 (i % 128) := (rfl : _ = pick1 (oneAt 103) (i % 128)).trans (pick1_mod _ i)
theorem ones104 (i : Nat) : lit0t0_104 i = oneAt 104 (i % 128) := (rfl : _ = pick1 (oneAt 104) (i % 128)).trans (pick1_mod _ i)
theorem ones105 (i : Nat) : lit0t0_105 i = oneAt 105 (i % 128) := (rfl : _ = pick1 (oneAt 105) (i % 128)).trans (pick1_mod _ i)
theorem ones106 (i : Nat) : lit0t0_106 i = oneAt 106 (i % 128) := (rfl : _ = pick1 (oneAt 106) (i % 128)).trans (pick1_mod _ i)
theorem ones107 (i : Nat) : lit0t0_107 i = oneAt 107 (i % 128) := (rfl : _ = pick1 (oneAt 107) (i % 128)).trans (pick1_mod _ i)
theorem ones108 (i : Nat) : lit0t0_108 i = oneAt 108 (i % 128) := (rfl : _ = pick1 (oneAt 108) (i % 128)).trans (pick1_mod _ i)
theorem ones109 (i : Nat) : lit0t0_109 i = oneAt 109 (i % 128) := (rfl : _ = pick1 (oneAt 109) (i % 128)).trans (pick1_mod _ i)
theorem ones110 (i : Nat) : lit0t0_110 i = oneAt 110 (i % 128) := (rfl : _ = pick1 (oneAt 110) (i % 128)).trans (pick1_mod _ i)
theorem ones111 (i : Nat) : lit0t0_111 i = oneAt 111 (i % 128) := (rfl : _ = pick1 (oneAt 111) (i % 128)).trans (pick1_mod _ i)
theorem ones112 (i : Nat) : lit0t0_112 i = oneAt 112 (i % 128) := (rfl : _ = pick1 (oneAt 112) (i % 128)).trans (pick1_mod _ i)
theorem ones113 (i : Nat) : lit0t0_113 i = oneAt 113 (i % 128) := (rfl : _ = pick1 (oneAt 113) (i % 128)).trans (pick1_mod _ i)
theorem ones114 (i : Nat) : lit0t0_114 i = oneAt 114 (i % 128) := (rfl : _ = pick1 (oneAt 114) (i % 128)).trans (pick1_mod _ i)
theorem ones115 (i : Nat) : lit0t0_115 i = oneAt 115 (i % 128) := (rfl : _ = pick1 (oneAt 115) (i % 128)).trans (pick1_mod _ i)
theorem ones116 (i : Nat) : lit0t0_116 i = oneAt 116 (i % 128) := (rfl : _ = pick1 (oneAt 116) (i % 128)).trans (pick1_mod _ i)
theorem ones117 (i : Nat) : lit0t0_117 i = oneAt 117 (i % 128) := (rfl : _ = pick1 (oneAt 117) (i % 128)).trans (pick1_mod _ i)
theorem ones118 (i : Nat) : lit0t0_118 i = oneAt 118 (i % 128) := (rfl : _ = pick1 (oneAt 118) (i % 128)).trans (pick1_mod _ i)
theorem ones119 (i : Nat) : lit0t0_119 i = oneAt 119 (i % 128) := (rfl : _ = pick1 (oneAt 119) (i % 128)).trans (pick1_mod _ i)
theorem ones120 (i : Nat) : lit0t0_120 i = oneAt 120 (i % 128) := (rfl : _ = pick1 (oneAt 120) (i % 128)).trans (pick1_mod _ i)
theorem ones121 (i : Nat) : lit0t0_121 i = oneAt 121 (i % 128) := (rfl : _ = pick1 (oneAt 121) (i % 128)).trans (pick1_mod _ i)
theorem ones122 (i : Nat) : lit0t0_122 i = oneAt 122 (i % 128) := (rfl : _ = pick1 (oneAt 122) (i % 128)).trans (pick1_mod _ i)
theorem ones123 (i : Nat) : lit0t0_123 i = oneAt 123 (i % 128) := (rfl : _ = pick1 (oneAt 123) (i % 128)).trans (pick1_mod _ i)
theorem ones124 (i : Nat) : lit0t0_124 i = oneAt 124 (i % 128) := (rfl : _ = pick1 (oneAt 124) (i % 128)).trans (pick1_mod _ i)
theorem ones125 (i : Nat) : lit0t0_125 i = oneAt 125 (i % 128) := (rfl : _ = pick1 (oneAt 125) (i % 128)).trans (pick1_mod _ i)
theorem ones126 (i : Nat) : lit0t0_126 i = oneAt 126 (i % 128) := (rfl : _ = pick1 (oneAt 126) (i % 128)).trans (pick1_mod _ i)
theorem ones127 (i : Nat) : lit0t0_127 i = oneAt 127 (i % 128) := (rfl : _ = pick1 (oneAt 127) (i % 128)).trans (pick1_mod _ i)
theorem ones128 (i : Nat) : lit0t0_128 i = oneAt 128 (i % 128) := (rfl : _ = pick1 (oneAt 128) (i % 128)).trans (pick1_mod _ i)
theorem ones129 (i : Nat) : lit0t0_129 i = oneAt 129 (i % 128) := (rfl : _ = pick1 (oneAt 129) (i % 128)).trans (pick1_mod _ i)
theorem ones130 (i : Nat) : lit0t0_130 i = oneAt 130 (i % 128) := (rfl : _ = pick1 (oneAt 130) (i % 128)).trans (pick1_mod _ i)
theorem ones131 (i : Nat) : lit0t0_131 i = oneAt 131 (i % 128) := (rfl : _ = pick1 (oneAt 131) (i % 128)).trans (pick1_mod _ i)
theorem ones132 (i : Nat) : lit0t0_132 i = oneAt 132 (i % 128) := (rfl : _ = pick1 (oneAt 132) (i % 128)).trans (pick1_mod _ i)
theorem ones133 (i : Nat) : lit0t0_133 i = oneAt 133 (i % 128) := (rfl : _ = pick1 (oneAt 133) (i % 128)).trans (pick1_mod _ i)
theorem ones134 (i : Nat) : lit0t0_134 i = oneAt 134 (i % 128) := (rfl : _ = pick1 (oneAt 134) (i % 128)).trans (pick1_mod _ i)
theorem ones135 (i : Nat) : lit0t0_135 i = oneAt 135 (i % 128) := (rfl : _ = pick1 (oneAt 135) (i % 128)).trans (pick1_mod _ i)
theorem ones136 (i : Nat) : lit0t0_136 i = oneAt 136 (i % 128) := (rfl : _ = pick1 (oneAt 136) (i % 128)).trans (pick1_mod _ i)
theorem ones137 (i : Nat) : lit0t0_137 i = oneAt 137 (i % 128) := (rfl : _ = pick1 (oneAt 137) (i % 128)).trans (pick1_mod _ i)
theorem ones138 (i : Nat) : lit0t0_138 i = oneAt 138 (i % 128) := (rfl : _ = pick1 (oneAt 138) (i % 128)).trans (pick1_mod _ i)
theorem ones139 (i : Nat) : lit0t0_139 i = oneAt 139 (i % 128) := (rfl : _ = pick1 (oneAt 139) (i % 128)).trans (pick1_mod _ i)
theorem ones140 (i : Nat) : lit0t0_140 i = oneAt 140 (i % 128) := (rfl : _ = pick1 (oneAt 140) (i % 128)).trans (pick1_mod _ i)
theorem ones141 (i : Nat) : lit0t0_141 i = oneAt 141 (i % 128) := (rfl : _ = pick1 (oneAt 141) (i % 128)).trans (pick1_mod _ i)
theorem ones142 (i : Nat) : lit0t0_142 i = oneAt 142 (i % 128) := (rfl : _ = pick1 (oneAt 142) (i % 128)).trans (pick1_mod _ i)
theorem ones143 (i : Nat) : lit0t0_143 i = oneAt 143 (i % 128) := (rfl : _ = pick1 (oneAt 143) (i % 128)).trans (pick1_mod _ i)
theorem ones144 (i : Nat) : lit0t0_144 i = oneAt 144 (i % 128) := (rfl : _ = pick1 (oneAt 144) (i % 128)).trans (pick1_mod _ i)
theorem ones145 (i : Nat) : lit0t0_145 i = oneAt 145 (i % 128) := (rfl : _ = pick1 (oneAt 145) (i % 128)).trans (pick1_mod _ i)
theorem ones146 (i : Nat) : lit0t0_146 i = oneAt 146 (i % 128) := (rfl : _ = pick1 (oneAt 146) (i % 128)).trans (pick1_mod _ i)
theorem ones147 (i : Nat) : lit0t0_147 i = oneAt 147 (i % 128) := (rfl : _ = pick1 (oneAt 147) (i % 128)).trans (pick1_mod _ i)
theorem ones148 (i : Nat) : lit0t0_148 i = oneAt 148 (i % 128) := (rfl : _ = pick1 (oneAt 148) (i % 128)).trans (pick1_mod _ i)
theorem ones149 (i : Nat) : lit0t0_149 i = oneAt 149 (i % 128) := (rfl : _ = pick1 (oneAt 149) (i % 128)).trans (pick1_mod _ i)
theorem ones150 (i : Nat) : lit0t0_150 i = oneAt 150 (i % 128) := (rfl : _ = pick1 (oneAt 150) (i % 128)).trans (pick1_mod _ i)
theorem ones151 (i : Nat) : lit0t0_151 i = oneAt 151 (i % 128) := (rfl : _ = pick1 (oneAt 151) (i % 128)).trans (pick1_mod _ i)
theorem ones152 (i : Nat) : lit0t0_152 i = oneAt 152 (i % 128) := (rfl : _ = pick1 (oneAt 152) (i % 128)).trans (pick1_mod _ i)
theorem ones153 (i : Nat) : lit0t0_153 i = oneAt 153 (i % 128) := (rfl : _ = pick1 (oneAt 153) (i % 128)).trans (pick1_mod _ i)
theorem ones154 (i : Nat) : lit0t0_154 i = oneAt 154 (i % 128) := (rfl : _ = pick1 (oneAt 154) (i % 128)).trans (pick1_mod _ i)
theorem ones155 (i : Nat) : lit0t0_155 i = oneAt 155 (i % 128) := (rfl : _ = pick1 (oneAt 155) (i % 128)).trans (pick1_mod _ i)
theorem ones156 (i : Nat) : lit0t0_156 i = oneAt 156 (i % 128) := (rfl : _ = pick1 (oneAt 156) (i % 128)).trans (pick1_mod _ i)
theorem ones157 (i : Nat) : lit0t0_157 i = oneAt 157 (i % 128) := (rfl : _ = pick1 (oneAt 157) (i % 128)).trans (pick1_mod _ i)
theorem ones158 (i : Nat) : lit0t0_158 i = oneAt 158 (i % 128) := (rfl : _ = pick1 (oneAt 158) (i % 128)).trans (pick1_mod _ i)
theorem ones159 (i : Nat) : lit0t0_159 i = oneAt 159 (i % 128) := (rfl : _ = pick1 (oneAt 159) (i % 128)).trans (pick1_mod _ i)
theorem ones160 (i : Nat) : lit0t0_160 i = oneAt 160 (i % 128) := (rfl : _ = pick1 (oneAt 160) (i % 128)).trans (pick1_mod _ i)
theorem ones161 (i : Nat) : lit0t0_161 i = oneAt 161 (i % 128) := (rfl : _ = pick1 (oneAt 161) (i % 128)).trans (pick1_mod _ i)
theorem ones162 (i : Nat) : lit0t0_162 i = oneAt 162 (i % 128) := (rfl : _ = pick1 (oneAt 162) (i % 128)).trans (pick1_mod _ i)
theorem ones163 (i : Nat) : lit0t0_163 i = oneAt 163 (i % 128) := (rfl : _ = pick1 (oneAt 163) (i % 128)).trans (pick1_mod _ i)
theorem ones164 (i : Nat) : lit0t0_164 i = oneAt 164 (i % 128) := (rfl : _ = pick1 (oneAt 164) (i % 128)).trans (pick1_mod _ i)
theorem ones165 (i : Nat) : lit0t0_165 i = oneAt 165 (i % 128) := (rfl : _ = pick1 (oneAt 165) (i % 128)).trans (pick1_mod _ i)
theorem ones166 (i : Nat) : lit0t0_166 i = oneAt 166 (i % 128) := (rfl : _ = pick1 (oneAt 166) (i % 128)).trans (pick1_mod _ i)
theorem ones167 (i : Nat) : lit0t0_167 i = oneAt 167 (i % 128) := (rfl : _ = pick1 (oneAt 167) (i % 128)).trans (pick1_mod _ i)
theorem ones168 (i : Nat) : lit0t0_168 i = oneAt 168 (i % 128) := (rfl : _ = pick1 (oneAt 168) (i % 128)).trans (pick1_mod _ i)
theorem ones169 (i : Nat) : lit0t0_169 i = oneAt 169 (i % 128) := (rfl : _ = pick1 (oneAt 169) (i % 128)).trans (pick1_mod _ i)
theorem ones170 (i : Nat) : lit0t0_170 i = oneAt 170 (i % 128) := (rfl : _ = pick1 (oneAt 170) (i % 128)).trans (pick1_mod _ i)
theorem ones171 (i : Nat) : lit0t0_171 i = oneAt 171 (i % 128) := (rfl : _ = pick1 (oneAt 171) (i % 128)).trans (pick1_mod _ i)
theorem ones172 (i : Nat) : lit0t0_172 i = oneAt 172 (i % 128) := (rfl : _ = pick1 (oneAt 172) (i % 128)).trans (pick1_mod _ i)
theorem ones173 (i : Nat) : lit0t0_173 i = oneAt 173 (i % 128) := (rfl : _ = pick1 (oneAt 173) (i % 128)).trans (pick1_mod _ i)
theorem ones174 (i : Nat) : lit0t0_174 i = oneAt 174 (i % 128) := (rfl : _ = pick1 (oneAt 174) (i % 128)).trans (pick1_mod _ i)
theorem ones175 (i : Nat) : lit0t0_175 i = oneAt 175 (i % 128) := (rfl : _ = pick1 (oneAt 175) (i % 128)).trans (pick1_mod _ i)
theorem ones176 (i : Nat) : lit0t0_176 i = oneAt 176 (i % 128) := (rfl : _ = pick1 (oneAt 176) (i % 128)).trans (pick1_mod _ i)
theorem ones177 (i : Nat) : lit0t0_177 i = oneAt 177 (i % 128) := (rfl : _ = pick1 (oneAt 177) (i % 128)).trans (pick1_mod _ i)
theorem ones178 (i : Nat) : lit0t0_178 i = oneAt 178 (i % 128) := (rfl : _ = pick1 (oneAt 178) (i % 128)).trans (pick1_mod _ i)
theorem ones179 (i : Nat) : lit0t0_179 i = oneAt 179 (i % 128) := (rfl : _ = pick1 (oneAt 179) (i % 128)).trans (pick1_mod _ i)
theorem ones180 (i : Nat) : lit0t0_180 i = oneAt 180 (i % 128) := (rfl : _ = pick1 (oneAt 180) (i % 128)).trans (pick1_mod _ i)
theorem ones181 (i : Nat) : lit0t0_181 i = oneAt 181 (i % 128) := (rfl : _ = pick1 (oneAt 181) (i % 128)).trans (pick1_mod _ i)
theorem ones182 (i : Nat) : lit0t0_182 i = oneAt 182 (i % 128) := (rfl : _ = pick1 (oneAt 182) (i % 128)).trans (pick1_mod _ i)
theorem ones183 (i : Nat) : lit0t0_183 i = oneAt 183 (i % 128) := (rfl : _ = pick1 (oneAt 183) (i % 128)).trans (pick1_mod _ i)
theorem ones184 (i : Nat) : lit0t0_184 i = oneAt 184 (i % 128) := (rfl : _ = pick1 (oneAt 184) (i % 128)).trans (pick1_mod _ i)
theorem ones185 (i : Nat) : lit0t0_185 i = oneAt 185 (i % 128) := (rfl : _ = pick1 (oneAt 185) (i % 128)).trans (pick1_mod _ i)

end Cert.Attn

end
-- ==== Proof.Ones2.lean ====
/-
  Rows 186 to 382 of the table of ones, 128 entries each.
-/
module

public import proofs.«01_k».proof.KernelIdeal.P02
public import proofs.«01_k».proof.Proof.Entries

@[expose] public section

noncomputable section

namespace Cert.Attn

open Cert.KernelIdeal

/-- The choice by a number below 128 that these rows are written with. -/
def pick2 (f : Nat → BitVec 32) (r : Nat) : BitVec 32 :=
  lit0t0_186.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick2_eq (f : Nat → BitVec 32) (r : Nat) (hr : r < 128) : pick2 f r = f r := by
  interval_cases r <;> rfl

/-- It chooses by a remainder. -/
theorem pick2_mod (f : Nat → BitVec 32) (i : Nat) : pick2 f (i % 128) = f (i % 128) :=
  pick2_eq f _ (Nat.mod_lt _ (by decide))

theorem ones186 (i : Nat) : lit0t0_186 i = oneAt 186 (i % 128) := (rfl : _ = pick2 (oneAt 186) (i % 128)).trans (pick2_mod _ i)
theorem ones187 (i : Nat) : lit0t0_187 i = oneAt 187 (i % 128) := (rfl : _ = pick2 (oneAt 187) (i % 128)).trans (pick2_mod _ i)
theorem ones188 (i : Nat) : lit0t0_188 i = oneAt 188 (i % 128) := (rfl : _ = pick2 (oneAt 188) (i % 128)).trans (pick2_mod _ i)
theorem ones189 (i : Nat) : lit0t0_189 i = oneAt 189 (i % 128) := (rfl : _ = pick2 (oneAt 189) (i % 128)).trans (pick2_mod _ i)
theorem ones190 (i : Nat) : lit0t0_190 i = oneAt 190 (i % 128) := (rfl : _ = pick2 (oneAt 190) (i % 128)).trans (pick2_mod _ i)
theorem ones191 (i : Nat) : lit0t0_191 i = oneAt 191 (i % 128) := (rfl : _ = pick2 (oneAt 191) (i % 128)).trans (pick2_mod _ i)
theorem ones192 (i : Nat) : lit0t0_192 i = oneAt 192 (i % 128) := (rfl : _ = pick2 (oneAt 192) (i % 128)).trans (pick2_mod _ i)
theorem ones193 (i : Nat) : lit0t0_193 i = oneAt 193 (i % 128) := (rfl : _ = pick2 (oneAt 193) (i % 128)).trans (pick2_mod _ i)
theorem ones194 (i : Nat) : lit0t0_194 i = oneAt 194 (i % 128) := (rfl : _ = pick2 (oneAt 194) (i % 128)).trans (pick2_mod _ i)
theorem ones195 (i : Nat) : lit0t0_195 i = oneAt 195 (i % 128) := (rfl : _ = pick2 (oneAt 195) (i % 128)).trans (pick2_mod _ i)
theorem ones196 (i : Nat) : lit0t0_196 i = oneAt 196 (i % 128) := (rfl : _ = pick2 (oneAt 196) (i % 128)).trans (pick2_mod _ i)
theorem ones197 (i : Nat) : lit0t0_197 i = oneAt 197 (i % 128) := (rfl : _ = pick2 (oneAt 197) (i % 128)).trans (pick2_mod _ i)
theorem ones198 (i : Nat) : lit0t0_198 i = oneAt 198 (i % 128) := (rfl : _ = pick2 (oneAt 198) (i % 128)).trans (pick2_mod _ i)
theorem ones199 (i : Nat) : lit0t0_199 i = oneAt 199 (i % 128) := (rfl : _ = pick2 (oneAt 199) (i % 128)).trans (pick2_mod _ i)
theorem ones200 (i : Nat) : lit0t0_200 i = oneAt 200 (i % 128) := (rfl : _ = pick2 (oneAt 200) (i % 128)).trans (pick2_mod _ i)
theorem ones201 (i : Nat) : lit0t0_201 i = oneAt 201 (i % 128) := (rfl : _ = pick2 (oneAt 201) (i % 128)).trans (pick2_mod _ i)
theorem ones202 (i : Nat) : lit0t0_202 i = oneAt 202 (i % 128) := (rfl : _ = pick2 (oneAt 202) (i % 128)).trans (pick2_mod _ i)
theorem ones203 (i : Nat) : lit0t0_203 i = oneAt 203 (i % 128) := (rfl : _ = pick2 (oneAt 203) (i % 128)).trans (pick2_mod _ i)
theorem ones204 (i : Nat) : lit0t0_204 i = oneAt 204 (i % 128) := (rfl : _ = pick2 (oneAt 204) (i % 128)).trans (pick2_mod _ i)
theorem ones205 (i : Nat) : lit0t0_205 i = oneAt 205 (i % 128) := (rfl : _ = pick2 (oneAt 205) (i % 128)).trans (pick2_mod _ i)
theorem ones206 (i : Nat) : lit0t0_206 i = oneAt 206 (i % 128) := (rfl : _ = pick2 (oneAt 206) (i % 128)).trans (pick2_mod _ i)
theorem ones207 (i : Nat) : lit0t0_207 i = oneAt 207 (i % 128) := (rfl : _ = pick2 (oneAt 207) (i % 128)).trans (pick2_mod _ i)
theorem ones208 (i : Nat) : lit0t0_208 i = oneAt 208 (i % 128) := (rfl : _ = pick2 (oneAt 208) (i % 128)).trans (pick2_mod _ i)
theorem ones209 (i : Nat) : lit0t0_209 i = oneAt 209 (i % 128) := (rfl : _ = pick2 (oneAt 209) (i % 128)).trans (pick2_mod _ i)
theorem ones210 (i : Nat) : lit0t0_210 i = oneAt 210 (i % 128) := (rfl : _ = pick2 (oneAt 210) (i % 128)).trans (pick2_mod _ i)
theorem ones211 (i : Nat) : lit0t0_211 i = oneAt 211 (i % 128) := (rfl : _ = pick2 (oneAt 211) (i % 128)).trans (pick2_mod _ i)
theorem ones212 (i : Nat) : lit0t0_212 i = oneAt 212 (i % 128) := (rfl : _ = pick2 (oneAt 212) (i % 128)).trans (pick2_mod _ i)
theorem ones213 (i : Nat) : lit0t0_213 i = oneAt 213 (i % 128) := (rfl : _ = pick2 (oneAt 213) (i % 128)).trans (pick2_mod _ i)
theorem ones214 (i : Nat) : lit0t0_214 i = oneAt 214 (i % 128) := (rfl : _ = pick2 (oneAt 214) (i % 128)).trans (pick2_mod _ i)
theorem ones215 (i : Nat) : lit0t0_215 i = oneAt 215 (i % 128) := (rfl : _ = pick2 (oneAt 215) (i % 128)).trans (pick2_mod _ i)
theorem ones216 (i : Nat) : lit0t0_216 i = oneAt 216 (i % 128) := (rfl : _ = pick2 (oneAt 216) (i % 128)).trans (pick2_mod _ i)
theorem ones217 (i : Nat) : lit0t0_217 i = oneAt 217 (i % 128) := (rfl : _ = pick2 (oneAt 217) (i % 128)).trans (pick2_mod _ i)
theorem ones218 (i : Nat) : lit0t0_218 i = oneAt 218 (i % 128) := (rfl : _ = pick2 (oneAt 218) (i % 128)).trans (pick2_mod _ i)
theorem ones219 (i : Nat) : lit0t0_219 i = oneAt 219 (i % 128) := (rfl : _ = pick2 (oneAt 219) (i % 128)).trans (pick2_mod _ i)
theorem ones220 (i : Nat) : lit0t0_220 i = oneAt 220 (i % 128) := (rfl : _ = pick2 (oneAt 220) (i % 128)).trans (pick2_mod _ i)
theorem ones221 (i : Nat) : lit0t0_221 i = oneAt 221 (i % 128) := (rfl : _ = pick2 (oneAt 221) (i % 128)).trans (pick2_mod _ i)
theorem ones222 (i : Nat) : lit0t0_222 i = oneAt 222 (i % 128) := (rfl : _ = pick2 (oneAt 222) (i % 128)).trans (pick2_mod _ i)
theorem ones223 (i : Nat) : lit0t0_223 i = oneAt 223 (i % 128) := (rfl : _ = pick2 (oneAt 223) (i % 128)).trans (pick2_mod _ i)
theorem ones224 (i : Nat) : lit0t0_224 i = oneAt 224 (i % 128) := (rfl : _ = pick2 (oneAt 224) (i % 128)).trans (pick2_mod _ i)
theorem ones225 (i : Nat) : lit0t0_225 i = oneAt 225 (i % 128) := (rfl : _ = pick2 (oneAt 225) (i % 128)).trans (pick2_mod _ i)
theorem ones226 (i : Nat) : lit0t0_226 i = oneAt 226 (i % 128) := (rfl : _ = pick2 (oneAt 226) (i % 128)).trans (pick2_mod _ i)
theorem ones227 (i : Nat) : lit0t0_227 i = oneAt 227 (i % 128) := (rfl : _ = pick2 (oneAt 227) (i % 128)).trans (pick2_mod _ i)
theorem ones228 (i : Nat) : lit0t0_228 i = oneAt 228 (i % 128) := (rfl : _ = pick2 (oneAt 228) (i % 128)).trans (pick2_mod _ i)
theorem ones229 (i : Nat) : lit0t0_229 i = oneAt 229 (i % 128) := (rfl : _ = pick2 (oneAt 229) (i % 128)).trans (pick2_mod _ i)
theorem ones230 (i : Nat) : lit0t0_230 i = oneAt 230 (i % 128) := (rfl : _ = pick2 (oneAt 230) (i % 128)).trans (pick2_mod _ i)
theorem ones231 (i : Nat) : lit0t0_231 i = oneAt 231 (i % 128) := (rfl : _ = pick2 (oneAt 231) (i % 128)).trans (pick2_mod _ i)
theorem ones232 (i : Nat) : lit0t0_232 i = oneAt 232 (i % 128) := (rfl : _ = pick2 (oneAt 232) (i % 128)).trans (pick2_mod _ i)
theorem ones233 (i : Nat) : lit0t0_233 i = oneAt 233 (i % 128) := (rfl : _ = pick2 (oneAt 233) (i % 128)).trans (pick2_mod _ i)
theorem ones234 (i : Nat) : lit0t0_234 i = oneAt 234 (i % 128) := (rfl : _ = pick2 (oneAt 234) (i % 128)).trans (pick2_mod _ i)
theorem ones235 (i : Nat) : lit0t0_235 i = oneAt 235 (i % 128) := (rfl : _ = pick2 (oneAt 235) (i % 128)).trans (pick2_mod _ i)
theorem ones236 (i : Nat) : lit0t0_236 i = oneAt 236 (i % 128) := (rfl : _ = pick2 (oneAt 236) (i % 128)).trans (pick2_mod _ i)
theorem ones237 (i : Nat) : lit0t0_237 i = oneAt 237 (i % 128) := (rfl : _ = pick2 (oneAt 237) (i % 128)).trans (pick2_mod _ i)
theorem ones238 (i : Nat) : lit0t0_238 i = oneAt 238 (i % 128) := (rfl : _ = pick2 (oneAt 238) (i % 128)).trans (pick2_mod _ i)
theorem ones239 (i : Nat) : lit0t0_239 i = oneAt 239 (i % 128) := (rfl : _ = pick2 (oneAt 239) (i % 128)).trans (pick2_mod _ i)
theorem ones240 (i : Nat) : lit0t0_240 i = oneAt 240 (i % 128) := (rfl : _ = pick2 (oneAt 240) (i % 128)).trans (pick2_mod _ i)
theorem ones241 (i : Nat) : lit0t0_241 i = oneAt 241 (i % 128) := (rfl : _ = pick2 (oneAt 241) (i % 128)).trans (pick2_mod _ i)
theorem ones242 (i : Nat) : lit0t0_242 i = oneAt 242 (i % 128) := (rfl : _ = pick2 (oneAt 242) (i % 128)).trans (pick2_mod _ i)
theorem ones243 (i : Nat) : lit0t0_243 i = oneAt 243 (i % 128) := (rfl : _ = pick2 (oneAt 243) (i % 128)).trans (pick2_mod _ i)
theorem ones244 (i : Nat) : lit0t0_244 i = oneAt 244 (i % 128) := (rfl : _ = pick2 (oneAt 244) (i % 128)).trans (pick2_mod _ i)
theorem ones245 (i : Nat) : lit0t0_245 i = oneAt 245 (i % 128) := (rfl : _ = pick2 (oneAt 245) (i % 128)).trans (pick2_mod _ i)
theorem ones246 (i : Nat) : lit0t0_246 i = oneAt 246 (i % 128) := (rfl : _ = pick2 (oneAt 246) (i % 128)).trans (pick2_mod _ i)
theorem ones247 (i : Nat) : lit0t0_247 i = oneAt 247 (i % 128) := (rfl : _ = pick2 (oneAt 247) (i % 128)).trans (pick2_mod _ i)
theorem ones248 (i : Nat) : lit0t0_248 i = oneAt 248 (i % 128) := (rfl : _ = pick2 (oneAt 248) (i % 128)).trans (pick2_mod _ i)
theorem ones249 (i : Nat) : lit0t0_249 i = oneAt 249 (i % 128) := (rfl : _ = pick2 (oneAt 249) (i % 128)).trans (pick2_mod _ i)
theorem ones250 (i : Nat) : lit0t0_250 i = oneAt 250 (i % 128) := (rfl : _ = pick2 (oneAt 250) (i % 128)).trans (pick2_mod _ i)
theorem ones251 (i : Nat) : lit0t0_251 i = oneAt 251 (i % 128) := (rfl : _ = pick2 (oneAt 251) (i % 128)).trans (pick2_mod _ i)
theorem ones252 (i : Nat) : lit0t0_252 i = oneAt 252 (i % 128) := (rfl : _ = pick2 (oneAt 252) (i % 128)).trans (pick2_mod _ i)
theorem ones253 (i : Nat) : lit0t0_253 i = oneAt 253 (i % 128) := (rfl : _ = pick2 (oneAt 253) (i % 128)).trans (pick2_mod _ i)
theorem ones254 (i : Nat) : lit0t0_254 i = oneAt 254 (i % 128) := (rfl : _ = pick2 (oneAt 254) (i % 128)).trans (pick2_mod _ i)
theorem ones255 (i : Nat) : lit0t0_255 i = oneAt 255 (i % 128) := (rfl : _ = pick2 (oneAt 255) (i % 128)).trans (pick2_mod _ i)
theorem ones256 (i : Nat) : lit0t0_256 i = oneAt 256 (i % 128) := (rfl : _ = pick2 (oneAt 256) (i % 128)).trans (pick2_mod _ i)
theorem ones257 (i : Nat) : lit0t0_257 i = oneAt 257 (i % 128) := (rfl : _ = pick2 (oneAt 257) (i % 128)).trans (pick2_mod _ i)
theorem ones258 (i : Nat) : lit0t0_258 i = oneAt 258 (i % 128) := (rfl : _ = pick2 (oneAt 258) (i % 128)).trans (pick2_mod _ i)
theorem ones259 (i : Nat) : lit0t0_259 i = oneAt 259 (i % 128) := (rfl : _ = pick2 (oneAt 259) (i % 128)).trans (pick2_mod _ i)
theorem ones260 (i : Nat) : lit0t0_260 i = oneAt 260 (i % 128) := (rfl : _ = pick2 (oneAt 260) (i % 128)).trans (pick2_mod _ i)
theorem ones261 (i : Nat) : lit0t0_261 i = oneAt 261 (i % 128) := (rfl : _ = pick2 (oneAt 261) (i % 128)).trans (pick2_mod _ i)
theorem ones262 (i : Nat) : lit0t0_262 i = oneAt 262 (i % 128) := (rfl : _ = pick2 (oneAt 262) (i % 128)).trans (pick2_mod _ i)
theorem ones263 (i : Nat) : lit0t0_263 i = oneAt 263 (i % 128) := (rfl : _ = pick2 (oneAt 263) (i % 128)).trans (pick2_mod _ i)
theorem ones264 (i : Nat) : lit0t0_264 i = oneAt 264 (i % 128) := (rfl : _ = pick2 (oneAt 264) (i % 128)).trans (pick2_mod _ i)
theorem ones265 (i : Nat) : lit0t0_265 i = oneAt 265 (i % 128) := (rfl : _ = pick2 (oneAt 265) (i % 128)).trans (pick2_mod _ i)
theorem ones266 (i : Nat) : lit0t0_266 i = oneAt 266 (i % 128) := (rfl : _ = pick2 (oneAt 266) (i % 128)).trans (pick2_mod _ i)
theorem ones267 (i : Nat) : lit0t0_267 i = oneAt 267 (i % 128) := (rfl : _ = pick2 (oneAt 267) (i % 128)).trans (pick2_mod _ i)
theorem ones268 (i : Nat) : lit0t0_268 i = oneAt 268 (i % 128) := (rfl : _ = pick2 (oneAt 268) (i % 128)).trans (pick2_mod _ i)
theorem ones269 (i : Nat) : lit0t0_269 i = oneAt 269 (i % 128) := (rfl : _ = pick2 (oneAt 269) (i % 128)).trans (pick2_mod _ i)
theorem ones270 (i : Nat) : lit0t0_270 i = oneAt 270 (i % 128) := (rfl : _ = pick2 (oneAt 270) (i % 128)).trans (pick2_mod _ i)
theorem ones271 (i : Nat) : lit0t0_271 i = oneAt 271 (i % 128) := (rfl : _ = pick2 (oneAt 271) (i % 128)).trans (pick2_mod _ i)
theorem ones272 (i : Nat) : lit0t0_272 i = oneAt 272 (i % 128) := (rfl : _ = pick2 (oneAt 272) (i % 128)).trans (pick2_mod _ i)
theorem ones273 (i : Nat) : lit0t0_273 i = oneAt 273 (i % 128) := (rfl : _ = pick2 (oneAt 273) (i % 128)).trans (pick2_mod _ i)
theorem ones274 (i : Nat) : lit0t0_274 i = oneAt 274 (i % 128) := (rfl : _ = pick2 (oneAt 274) (i % 128)).trans (pick2_mod _ i)
theorem ones275 (i : Nat) : lit0t0_275 i = oneAt 275 (i % 128) := (rfl : _ = pick2 (oneAt 275) (i % 128)).trans (pick2_mod _ i)
theorem ones276 (i : Nat) : lit0t0_276 i = oneAt 276 (i % 128) := (rfl : _ = pick2 (oneAt 276) (i % 128)).trans (pick2_mod _ i)
theorem ones277 (i : Nat) : lit0t0_277 i = oneAt 277 (i % 128) := (rfl : _ = pick2 (oneAt 277) (i % 128)).trans (pick2_mod _ i)
theorem ones278 (i : Nat) : lit0t0_278 i = oneAt 278 (i % 128) := (rfl : _ = pick2 (oneAt 278) (i % 128)).trans (pick2_mod _ i)
theorem ones279 (i : Nat) : lit0t0_279 i = oneAt 279 (i % 128) := (rfl : _ = pick2 (oneAt 279) (i % 128)).trans (pick2_mod _ i)
theorem ones280 (i : Nat) : lit0t0_280 i = oneAt 280 (i % 128) := (rfl : _ = pick2 (oneAt 280) (i % 128)).trans (pick2_mod _ i)
theorem ones281 (i : Nat) : lit0t0_281 i = oneAt 281 (i % 128) := (rfl : _ = pick2 (oneAt 281) (i % 128)).trans (pick2_mod _ i)
theorem ones282 (i : Nat) : lit0t0_282 i = oneAt 282 (i % 128) := (rfl : _ = pick2 (oneAt 282) (i % 128)).trans (pick2_mod _ i)
theorem ones283 (i : Nat) : lit0t0_283 i = oneAt 283 (i % 128) := (rfl : _ = pick2 (oneAt 283) (i % 128)).trans (pick2_mod _ i)
theorem ones284 (i : Nat) : lit0t0_284 i = oneAt 284 (i % 128) := (rfl : _ = pick2 (oneAt 284) (i % 128)).trans (pick2_mod _ i)
theorem ones285 (i : Nat) : lit0t0_285 i = oneAt 285 (i % 128) := (rfl : _ = pick2 (oneAt 285) (i % 128)).trans (pick2_mod _ i)
theorem ones286 (i : Nat) : lit0t0_286 i = oneAt 286 (i % 128) := (rfl : _ = pick2 (oneAt 286) (i % 128)).trans (pick2_mod _ i)
theorem ones287 (i : Nat) : lit0t0_287 i = oneAt 287 (i % 128) := (rfl : _ = pick2 (oneAt 287) (i % 128)).trans (pick2_mod _ i)
theorem ones288 (i : Nat) : lit0t0_288 i = oneAt 288 (i % 128) := (rfl : _ = pick2 (oneAt 288) (i % 128)).trans (pick2_mod _ i)
theorem ones289 (i : Nat) : lit0t0_289 i = oneAt 289 (i % 128) := (rfl : _ = pick2 (oneAt 289) (i % 128)).trans (pick2_mod _ i)
theorem ones290 (i : Nat) : lit0t0_290 i = oneAt 290 (i % 128) := (rfl : _ = pick2 (oneAt 290) (i % 128)).trans (pick2_mod _ i)
theorem ones291 (i : Nat) : lit0t0_291 i = oneAt 291 (i % 128) := (rfl : _ = pick2 (oneAt 291) (i % 128)).trans (pick2_mod _ i)
theorem ones292 (i : Nat) : lit0t0_292 i = oneAt 292 (i % 128) := (rfl : _ = pick2 (oneAt 292) (i % 128)).trans (pick2_mod _ i)
theorem ones293 (i : Nat) : lit0t0_293 i = oneAt 293 (i % 128) := (rfl : _ = pick2 (oneAt 293) (i % 128)).trans (pick2_mod _ i)
theorem ones294 (i : Nat) : lit0t0_294 i = oneAt 294 (i % 128) := (rfl : _ = pick2 (oneAt 294) (i % 128)).trans (pick2_mod _ i)
theorem ones295 (i : Nat) : lit0t0_295 i = oneAt 295 (i % 128) := (rfl : _ = pick2 (oneAt 295) (i % 128)).trans (pick2_mod _ i)
theorem ones296 (i : Nat) : lit0t0_296 i = oneAt 296 (i % 128) := (rfl : _ = pick2 (oneAt 296) (i % 128)).trans (pick2_mod _ i)
theorem ones297 (i : Nat) : lit0t0_297 i = oneAt 297 (i % 128) := (rfl : _ = pick2 (oneAt 297) (i % 128)).trans (pick2_mod _ i)
theorem ones298 (i : Nat) : lit0t0_298 i = oneAt 298 (i % 128) := (rfl : _ = pick2 (oneAt 298) (i % 128)).trans (pick2_mod _ i)
theorem ones299 (i : Nat) : lit0t0_299 i = oneAt 299 (i % 128) := (rfl : _ = pick2 (oneAt 299) (i % 128)).trans (pick2_mod _ i)
theorem ones300 (i : Nat) : lit0t0_300 i = oneAt 300 (i % 128) := (rfl : _ = pick2 (oneAt 300) (i % 128)).trans (pick2_mod _ i)
theorem ones301 (i : Nat) : lit0t0_301 i = oneAt 301 (i % 128) := (rfl : _ = pick2 (oneAt 301) (i % 128)).trans (pick2_mod _ i)
theorem ones302 (i : Nat) : lit0t0_302 i = oneAt 302 (i % 128) := (rfl : _ = pick2 (oneAt 302) (i % 128)).trans (pick2_mod _ i)
theorem ones303 (i : Nat) : lit0t0_303 i = oneAt 303 (i % 128) := (rfl : _ = pick2 (oneAt 303) (i % 128)).trans (pick2_mod _ i)
theorem ones304 (i : Nat) : lit0t0_304 i = oneAt 304 (i % 128) := (rfl : _ = pick2 (oneAt 304) (i % 128)).trans (pick2_mod _ i)
theorem ones305 (i : Nat) : lit0t0_305 i = oneAt 305 (i % 128) := (rfl : _ = pick2 (oneAt 305) (i % 128)).trans (pick2_mod _ i)
theorem ones306 (i : Nat) : lit0t0_306 i = oneAt 306 (i % 128) := (rfl : _ = pick2 (oneAt 306) (i % 128)).trans (pick2_mod _ i)
theorem ones307 (i : Nat) : lit0t0_307 i = oneAt 307 (i % 128) := (rfl : _ = pick2 (oneAt 307) (i % 128)).trans (pick2_mod _ i)
theorem ones308 (i : Nat) : lit0t0_308 i = oneAt 308 (i % 128) := (rfl : _ = pick2 (oneAt 308) (i % 128)).trans (pick2_mod _ i)
theorem ones309 (i : Nat) : lit0t0_309 i = oneAt 309 (i % 128) := (rfl : _ = pick2 (oneAt 309) (i % 128)).trans (pick2_mod _ i)
theorem ones310 (i : Nat) : lit0t0_310 i = oneAt 310 (i % 128) := (rfl : _ = pick2 (oneAt 310) (i % 128)).trans (pick2_mod _ i)
theorem ones311 (i : Nat) : lit0t0_311 i = oneAt 311 (i % 128) := (rfl : _ = pick2 (oneAt 311) (i % 128)).trans (pick2_mod _ i)
theorem ones312 (i : Nat) : lit0t0_312 i = oneAt 312 (i % 128) := (rfl : _ = pick2 (oneAt 312) (i % 128)).trans (pick2_mod _ i)
theorem ones313 (i : Nat) : lit0t0_313 i = oneAt 313 (i % 128) := (rfl : _ = pick2 (oneAt 313) (i % 128)).trans (pick2_mod _ i)
theorem ones314 (i : Nat) : lit0t0_314 i = oneAt 314 (i % 128) := (rfl : _ = pick2 (oneAt 314) (i % 128)).trans (pick2_mod _ i)
theorem ones315 (i : Nat) : lit0t0_315 i = oneAt 315 (i % 128) := (rfl : _ = pick2 (oneAt 315) (i % 128)).trans (pick2_mod _ i)
theorem ones316 (i : Nat) : lit0t0_316 i = oneAt 316 (i % 128) := (rfl : _ = pick2 (oneAt 316) (i % 128)).trans (pick2_mod _ i)
theorem ones317 (i : Nat) : lit0t0_317 i = oneAt 317 (i % 128) := (rfl : _ = pick2 (oneAt 317) (i % 128)).trans (pick2_mod _ i)
theorem ones318 (i : Nat) : lit0t0_318 i = oneAt 318 (i % 128) := (rfl : _ = pick2 (oneAt 318) (i % 128)).trans (pick2_mod _ i)
theorem ones319 (i : Nat) : lit0t0_319 i = oneAt 319 (i % 128) := (rfl : _ = pick2 (oneAt 319) (i % 128)).trans (pick2_mod _ i)
theorem ones320 (i : Nat) : lit0t0_320 i = oneAt 320 (i % 128) := (rfl : _ = pick2 (oneAt 320) (i % 128)).trans (pick2_mod _ i)
theorem ones321 (i : Nat) : lit0t0_321 i = oneAt 321 (i % 128) := (rfl : _ = pick2 (oneAt 321) (i % 128)).trans (pick2_mod _ i)
theorem ones322 (i : Nat) : lit0t0_322 i = oneAt 322 (i % 128) := (rfl : _ = pick2 (oneAt 322) (i % 128)).trans (pick2_mod _ i)
theorem ones323 (i : Nat) : lit0t0_323 i = oneAt 323 (i % 128) := (rfl : _ = pick2 (oneAt 323) (i % 128)).trans (pick2_mod _ i)
theorem ones324 (i : Nat) : lit0t0_324 i = oneAt 324 (i % 128) := (rfl : _ = pick2 (oneAt 324) (i % 128)).trans (pick2_mod _ i)
theorem ones325 (i : Nat) : lit0t0_325 i = oneAt 325 (i % 128) := (rfl : _ = pick2 (oneAt 325) (i % 128)).trans (pick2_mod _ i)
theorem ones326 (i : Nat) : lit0t0_326 i = oneAt 326 (i % 128) := (rfl : _ = pick2 (oneAt 326) (i % 128)).trans (pick2_mod _ i)
theorem ones327 (i : Nat) : lit0t0_327 i = oneAt 327 (i % 128) := (rfl : _ = pick2 (oneAt 327) (i % 128)).trans (pick2_mod _ i)
theorem ones328 (i : Nat) : lit0t0_328 i = oneAt 328 (i % 128) := (rfl : _ = pick2 (oneAt 328) (i % 128)).trans (pick2_mod _ i)
theorem ones329 (i : Nat) : lit0t0_329 i = oneAt 329 (i % 128) := (rfl : _ = pick2 (oneAt 329) (i % 128)).trans (pick2_mod _ i)
theorem ones330 (i : Nat) : lit0t0_330 i = oneAt 330 (i % 128) := (rfl : _ = pick2 (oneAt 330) (i % 128)).trans (pick2_mod _ i)
theorem ones331 (i : Nat) : lit0t0_331 i = oneAt 331 (i % 128) := (rfl : _ = pick2 (oneAt 331) (i % 128)).trans (pick2_mod _ i)
theorem ones332 (i : Nat) : lit0t0_332 i = oneAt 332 (i % 128) := (rfl : _ = pick2 (oneAt 332) (i % 128)).trans (pick2_mod _ i)
theorem ones333 (i : Nat) : lit0t0_333 i = oneAt 333 (i % 128) := (rfl : _ = pick2 (oneAt 333) (i % 128)).trans (pick2_mod _ i)
theorem ones334 (i : Nat) : lit0t0_334 i = oneAt 334 (i % 128) := (rfl : _ = pick2 (oneAt 334) (i % 128)).trans (pick2_mod _ i)
theorem ones335 (i : Nat) : lit0t0_335 i = oneAt 335 (i % 128) := (rfl : _ = pick2 (oneAt 335) (i % 128)).trans (pick2_mod _ i)
theorem ones336 (i : Nat) : lit0t0_336 i = oneAt 336 (i % 128) := (rfl : _ = pick2 (oneAt 336) (i % 128)).trans (pick2_mod _ i)
theorem ones337 (i : Nat) : lit0t0_337 i = oneAt 337 (i % 128) := (rfl : _ = pick2 (oneAt 337) (i % 128)).trans (pick2_mod _ i)
theorem ones338 (i : Nat) : lit0t0_338 i = oneAt 338 (i % 128) := (rfl : _ = pick2 (oneAt 338) (i % 128)).trans (pick2_mod _ i)
theorem ones339 (i : Nat) : lit0t0_339 i = oneAt 339 (i % 128) := (rfl : _ = pick2 (oneAt 339) (i % 128)).trans (pick2_mod _ i)
theorem ones340 (i : Nat) : lit0t0_340 i = oneAt 340 (i % 128) := (rfl : _ = pick2 (oneAt 340) (i % 128)).trans (pick2_mod _ i)
theorem ones341 (i : Nat) : lit0t0_341 i = oneAt 341 (i % 128) := (rfl : _ = pick2 (oneAt 341) (i % 128)).trans (pick2_mod _ i)
theorem ones342 (i : Nat) : lit0t0_342 i = oneAt 342 (i % 128) := (rfl : _ = pick2 (oneAt 342) (i % 128)).trans (pick2_mod _ i)
theorem ones343 (i : Nat) : lit0t0_343 i = oneAt 343 (i % 128) := (rfl : _ = pick2 (oneAt 343) (i % 128)).trans (pick2_mod _ i)
theorem ones344 (i : Nat) : lit0t0_344 i = oneAt 344 (i % 128) := (rfl : _ = pick2 (oneAt 344) (i % 128)).trans (pick2_mod _ i)
theorem ones345 (i : Nat) : lit0t0_345 i = oneAt 345 (i % 128) := (rfl : _ = pick2 (oneAt 345) (i % 128)).trans (pick2_mod _ i)
theorem ones346 (i : Nat) : lit0t0_346 i = oneAt 346 (i % 128) := (rfl : _ = pick2 (oneAt 346) (i % 128)).trans (pick2_mod _ i)
theorem ones347 (i : Nat) : lit0t0_347 i = oneAt 347 (i % 128) := (rfl : _ = pick2 (oneAt 347) (i % 128)).trans (pick2_mod _ i)
theorem ones348 (i : Nat) : lit0t0_348 i = oneAt 348 (i % 128) := (rfl : _ = pick2 (oneAt 348) (i % 128)).trans (pick2_mod _ i)
theorem ones349 (i : Nat) : lit0t0_349 i = oneAt 349 (i % 128) := (rfl : _ = pick2 (oneAt 349) (i % 128)).trans (pick2_mod _ i)
theorem ones350 (i : Nat) : lit0t0_350 i = oneAt 350 (i % 128) := (rfl : _ = pick2 (oneAt 350) (i % 128)).trans (pick2_mod _ i)
theorem ones351 (i : Nat) : lit0t0_351 i = oneAt 351 (i % 128) := (rfl : _ = pick2 (oneAt 351) (i % 128)).trans (pick2_mod _ i)
theorem ones352 (i : Nat) : lit0t0_352 i = oneAt 352 (i % 128) := (rfl : _ = pick2 (oneAt 352) (i % 128)).trans (pick2_mod _ i)
theorem ones353 (i : Nat) : lit0t0_353 i = oneAt 353 (i % 128) := (rfl : _ = pick2 (oneAt 353) (i % 128)).trans (pick2_mod _ i)
theorem ones354 (i : Nat) : lit0t0_354 i = oneAt 354 (i % 128) := (rfl : _ = pick2 (oneAt 354) (i % 128)).trans (pick2_mod _ i)
theorem ones355 (i : Nat) : lit0t0_355 i = oneAt 355 (i % 128) := (rfl : _ = pick2 (oneAt 355) (i % 128)).trans (pick2_mod _ i)
theorem ones356 (i : Nat) : lit0t0_356 i = oneAt 356 (i % 128) := (rfl : _ = pick2 (oneAt 356) (i % 128)).trans (pick2_mod _ i)
theorem ones357 (i : Nat) : lit0t0_357 i = oneAt 357 (i % 128) := (rfl : _ = pick2 (oneAt 357) (i % 128)).trans (pick2_mod _ i)
theorem ones358 (i : Nat) : lit0t0_358 i = oneAt 358 (i % 128) := (rfl : _ = pick2 (oneAt 358) (i % 128)).trans (pick2_mod _ i)
theorem ones359 (i : Nat) : lit0t0_359 i = oneAt 359 (i % 128) := (rfl : _ = pick2 (oneAt 359) (i % 128)).trans (pick2_mod _ i)
theorem ones360 (i : Nat) : lit0t0_360 i = oneAt 360 (i % 128) := (rfl : _ = pick2 (oneAt 360) (i % 128)).trans (pick2_mod _ i)
theorem ones361 (i : Nat) : lit0t0_361 i = oneAt 361 (i % 128) := (rfl : _ = pick2 (oneAt 361) (i % 128)).trans (pick2_mod _ i)
theorem ones362 (i : Nat) : lit0t0_362 i = oneAt 362 (i % 128) := (rfl : _ = pick2 (oneAt 362) (i % 128)).trans (pick2_mod _ i)
theorem ones363 (i : Nat) : lit0t0_363 i = oneAt 363 (i % 128) := (rfl : _ = pick2 (oneAt 363) (i % 128)).trans (pick2_mod _ i)
theorem ones364 (i : Nat) : lit0t0_364 i = oneAt 364 (i % 128) := (rfl : _ = pick2 (oneAt 364) (i % 128)).trans (pick2_mod _ i)
theorem ones365 (i : Nat) : lit0t0_365 i = oneAt 365 (i % 128) := (rfl : _ = pick2 (oneAt 365) (i % 128)).trans (pick2_mod _ i)
theorem ones366 (i : Nat) : lit0t0_366 i = oneAt 366 (i % 128) := (rfl : _ = pick2 (oneAt 366) (i % 128)).trans (pick2_mod _ i)
theorem ones367 (i : Nat) : lit0t0_367 i = oneAt 367 (i % 128) := (rfl : _ = pick2 (oneAt 367) (i % 128)).trans (pick2_mod _ i)
theorem ones368 (i : Nat) : lit0t0_368 i = oneAt 368 (i % 128) := (rfl : _ = pick2 (oneAt 368) (i % 128)).trans (pick2_mod _ i)
theorem ones369 (i : Nat) : lit0t0_369 i = oneAt 369 (i % 128) := (rfl : _ = pick2 (oneAt 369) (i % 128)).trans (pick2_mod _ i)
theorem ones370 (i : Nat) : lit0t0_370 i = oneAt 370 (i % 128) := (rfl : _ = pick2 (oneAt 370) (i % 128)).trans (pick2_mod _ i)
theorem ones371 (i : Nat) : lit0t0_371 i = oneAt 371 (i % 128) := (rfl : _ = pick2 (oneAt 371) (i % 128)).trans (pick2_mod _ i)
theorem ones372 (i : Nat) : lit0t0_372 i = oneAt 372 (i % 128) := (rfl : _ = pick2 (oneAt 372) (i % 128)).trans (pick2_mod _ i)
theorem ones373 (i : Nat) : lit0t0_373 i = oneAt 373 (i % 128) := (rfl : _ = pick2 (oneAt 373) (i % 128)).trans (pick2_mod _ i)
theorem ones374 (i : Nat) : lit0t0_374 i = oneAt 374 (i % 128) := (rfl : _ = pick2 (oneAt 374) (i % 128)).trans (pick2_mod _ i)
theorem ones375 (i : Nat) : lit0t0_375 i = oneAt 375 (i % 128) := (rfl : _ = pick2 (oneAt 375) (i % 128)).trans (pick2_mod _ i)
theorem ones376 (i : Nat) : lit0t0_376 i = oneAt 376 (i % 128) := (rfl : _ = pick2 (oneAt 376) (i % 128)).trans (pick2_mod _ i)
theorem ones377 (i : Nat) : lit0t0_377 i = oneAt 377 (i % 128) := (rfl : _ = pick2 (oneAt 377) (i % 128)).trans (pick2_mod _ i)
theorem ones378 (i : Nat) : lit0t0_378 i = oneAt 378 (i % 128) := (rfl : _ = pick2 (oneAt 378) (i % 128)).trans (pick2_mod _ i)
theorem ones379 (i : Nat) : lit0t0_379 i = oneAt 379 (i % 128) := (rfl : _ = pick2 (oneAt 379) (i % 128)).trans (pick2_mod _ i)
theorem ones380 (i : Nat) : lit0t0_380 i = oneAt 380 (i % 128) := (rfl : _ = pick2 (oneAt 380) (i % 128)).trans (pick2_mod _ i)
theorem ones381 (i : Nat) : lit0t0_381 i = oneAt 381 (i % 128) := (rfl : _ = pick2 (oneAt 381) (i % 128)).trans (pick2_mod _ i)
theorem ones382 (i : Nat) : lit0t0_382 i = oneAt 382 (i % 128) := (rfl : _ = pick2 (oneAt 382) (i % 128)).trans (pick2_mod _ i)

end Cert.Attn

end
-- ==== Proof.Ones3.lean ====
/-
  Rows 383 to 579 of the table of ones, 128 entries each.
-/
module

public import proofs.«01_k».proof.KernelIdeal.P03
public import proofs.«01_k».proof.Proof.Entries

@[expose] public section

noncomputable section

namespace Cert.Attn

open Cert.KernelIdeal

/-- The choice by a number below 128 that these rows are written with. -/
def pick3 (f : Nat → BitVec 32) (r : Nat) : BitVec 32 :=
  lit0t0_383.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick3_eq (f : Nat → BitVec 32) (r : Nat) (hr : r < 128) : pick3 f r = f r := by
  interval_cases r <;> rfl

/-- It chooses by a remainder. -/
theorem pick3_mod (f : Nat → BitVec 32) (i : Nat) : pick3 f (i % 128) = f (i % 128) :=
  pick3_eq f _ (Nat.mod_lt _ (by decide))

theorem ones383 (i : Nat) : lit0t0_383 i = oneAt 383 (i % 128) := (rfl : _ = pick3 (oneAt 383) (i % 128)).trans (pick3_mod _ i)
theorem ones384 (i : Nat) : lit0t0_384 i = oneAt 384 (i % 128) := (rfl : _ = pick3 (oneAt 384) (i % 128)).trans (pick3_mod _ i)
theorem ones385 (i : Nat) : lit0t0_385 i = oneAt 385 (i % 128) := (rfl : _ = pick3 (oneAt 385) (i % 128)).trans (pick3_mod _ i)
theorem ones386 (i : Nat) : lit0t0_386 i = oneAt 386 (i % 128) := (rfl : _ = pick3 (oneAt 386) (i % 128)).trans (pick3_mod _ i)
theorem ones387 (i : Nat) : lit0t0_387 i = oneAt 387 (i % 128) := (rfl : _ = pick3 (oneAt 387) (i % 128)).trans (pick3_mod _ i)
theorem ones388 (i : Nat) : lit0t0_388 i = oneAt 388 (i % 128) := (rfl : _ = pick3 (oneAt 388) (i % 128)).trans (pick3_mod _ i)
theorem ones389 (i : Nat) : lit0t0_389 i = oneAt 389 (i % 128) := (rfl : _ = pick3 (oneAt 389) (i % 128)).trans (pick3_mod _ i)
theorem ones390 (i : Nat) : lit0t0_390 i = oneAt 390 (i % 128) := (rfl : _ = pick3 (oneAt 390) (i % 128)).trans (pick3_mod _ i)
theorem ones391 (i : Nat) : lit0t0_391 i = oneAt 391 (i % 128) := (rfl : _ = pick3 (oneAt 391) (i % 128)).trans (pick3_mod _ i)
theorem ones392 (i : Nat) : lit0t0_392 i = oneAt 392 (i % 128) := (rfl : _ = pick3 (oneAt 392) (i % 128)).trans (pick3_mod _ i)
theorem ones393 (i : Nat) : lit0t0_393 i = oneAt 393 (i % 128) := (rfl : _ = pick3 (oneAt 393) (i % 128)).trans (pick3_mod _ i)
theorem ones394 (i : Nat) : lit0t0_394 i = oneAt 394 (i % 128) := (rfl : _ = pick3 (oneAt 394) (i % 128)).trans (pick3_mod _ i)
theorem ones395 (i : Nat) : lit0t0_395 i = oneAt 395 (i % 128) := (rfl : _ = pick3 (oneAt 395) (i % 128)).trans (pick3_mod _ i)
theorem ones396 (i : Nat) : lit0t0_396 i = oneAt 396 (i % 128) := (rfl : _ = pick3 (oneAt 396) (i % 128)).trans (pick3_mod _ i)
theorem ones397 (i : Nat) : lit0t0_397 i = oneAt 397 (i % 128) := (rfl : _ = pick3 (oneAt 397) (i % 128)).trans (pick3_mod _ i)
theorem ones398 (i : Nat) : lit0t0_398 i = oneAt 398 (i % 128) := (rfl : _ = pick3 (oneAt 398) (i % 128)).trans (pick3_mod _ i)
theorem ones399 (i : Nat) : lit0t0_399 i = oneAt 399 (i % 128) := (rfl : _ = pick3 (oneAt 399) (i % 128)).trans (pick3_mod _ i)
theorem ones400 (i : Nat) : lit0t0_400 i = oneAt 400 (i % 128) := (rfl : _ = pick3 (oneAt 400) (i % 128)).trans (pick3_mod _ i)
theorem ones401 (i : Nat) : lit0t0_401 i = oneAt 401 (i % 128) := (rfl : _ = pick3 (oneAt 401) (i % 128)).trans (pick3_mod _ i)
theorem ones402 (i : Nat) : lit0t0_402 i = oneAt 402 (i % 128) := (rfl : _ = pick3 (oneAt 402) (i % 128)).trans (pick3_mod _ i)
theorem ones403 (i : Nat) : lit0t0_403 i = oneAt 403 (i % 128) := (rfl : _ = pick3 (oneAt 403) (i % 128)).trans (pick3_mod _ i)
theorem ones404 (i : Nat) : lit0t0_404 i = oneAt 404 (i % 128) := (rfl : _ = pick3 (oneAt 404) (i % 128)).trans (pick3_mod _ i)
theorem ones405 (i : Nat) : lit0t0_405 i = oneAt 405 (i % 128) := (rfl : _ = pick3 (oneAt 405) (i % 128)).trans (pick3_mod _ i)
theorem ones406 (i : Nat) : lit0t0_406 i = oneAt 406 (i % 128) := (rfl : _ = pick3 (oneAt 406) (i % 128)).trans (pick3_mod _ i)
theorem ones407 (i : Nat) : lit0t0_407 i = oneAt 407 (i % 128) := (rfl : _ = pick3 (oneAt 407) (i % 128)).trans (pick3_mod _ i)
theorem ones408 (i : Nat) : lit0t0_408 i = oneAt 408 (i % 128) := (rfl : _ = pick3 (oneAt 408) (i % 128)).trans (pick3_mod _ i)
theorem ones409 (i : Nat) : lit0t0_409 i = oneAt 409 (i % 128) := (rfl : _ = pick3 (oneAt 409) (i % 128)).trans (pick3_mod _ i)
theorem ones410 (i : Nat) : lit0t0_410 i = oneAt 410 (i % 128) := (rfl : _ = pick3 (oneAt 410) (i % 128)).trans (pick3_mod _ i)
theorem ones411 (i : Nat) : lit0t0_411 i = oneAt 411 (i % 128) := (rfl : _ = pick3 (oneAt 411) (i % 128)).trans (pick3_mod _ i)
theorem ones412 (i : Nat) : lit0t0_412 i = oneAt 412 (i % 128) := (rfl : _ = pick3 (oneAt 412) (i % 128)).trans (pick3_mod _ i)
theorem ones413 (i : Nat) : lit0t0_413 i = oneAt 413 (i % 128) := (rfl : _ = pick3 (oneAt 413) (i % 128)).trans (pick3_mod _ i)
theorem ones414 (i : Nat) : lit0t0_414 i = oneAt 414 (i % 128) := (rfl : _ = pick3 (oneAt 414) (i % 128)).trans (pick3_mod _ i)
theorem ones415 (i : Nat) : lit0t0_415 i = oneAt 415 (i % 128) := (rfl : _ = pick3 (oneAt 415) (i % 128)).trans (pick3_mod _ i)
theorem ones416 (i : Nat) : lit0t0_416 i = oneAt 416 (i % 128) := (rfl : _ = pick3 (oneAt 416) (i % 128)).trans (pick3_mod _ i)
theorem ones417 (i : Nat) : lit0t0_417 i = oneAt 417 (i % 128) := (rfl : _ = pick3 (oneAt 417) (i % 128)).trans (pick3_mod _ i)
theorem ones418 (i : Nat) : lit0t0_418 i = oneAt 418 (i % 128) := (rfl : _ = pick3 (oneAt 418) (i % 128)).trans (pick3_mod _ i)
theorem ones419 (i : Nat) : lit0t0_419 i = oneAt 419 (i % 128) := (rfl : _ = pick3 (oneAt 419) (i % 128)).trans (pick3_mod _ i)
theorem ones420 (i : Nat) : lit0t0_420 i = oneAt 420 (i % 128) := (rfl : _ = pick3 (oneAt 420) (i % 128)).trans (pick3_mod _ i)
theorem ones421 (i : Nat) : lit0t0_421 i = oneAt 421 (i % 128) := (rfl : _ = pick3 (oneAt 421) (i % 128)).trans (pick3_mod _ i)
theorem ones422 (i : Nat) : lit0t0_422 i = oneAt 422 (i % 128) := (rfl : _ = pick3 (oneAt 422) (i % 128)).trans (pick3_mod _ i)
theorem ones423 (i : Nat) : lit0t0_423 i = oneAt 423 (i % 128) := (rfl : _ = pick3 (oneAt 423) (i % 128)).trans (pick3_mod _ i)
theorem ones424 (i : Nat) : lit0t0_424 i = oneAt 424 (i % 128) := (rfl : _ = pick3 (oneAt 424) (i % 128)).trans (pick3_mod _ i)
theorem ones425 (i : Nat) : lit0t0_425 i = oneAt 425 (i % 128) := (rfl : _ = pick3 (oneAt 425) (i % 128)).trans (pick3_mod _ i)
theorem ones426 (i : Nat) : lit0t0_426 i = oneAt 426 (i % 128) := (rfl : _ = pick3 (oneAt 426) (i % 128)).trans (pick3_mod _ i)
theorem ones427 (i : Nat) : lit0t0_427 i = oneAt 427 (i % 128) := (rfl : _ = pick3 (oneAt 427) (i % 128)).trans (pick3_mod _ i)
theorem ones428 (i : Nat) : lit0t0_428 i = oneAt 428 (i % 128) := (rfl : _ = pick3 (oneAt 428) (i % 128)).trans (pick3_mod _ i)
theorem ones429 (i : Nat) : lit0t0_429 i = oneAt 429 (i % 128) := (rfl : _ = pick3 (oneAt 429) (i % 128)).trans (pick3_mod _ i)
theorem ones430 (i : Nat) : lit0t0_430 i = oneAt 430 (i % 128) := (rfl : _ = pick3 (oneAt 430) (i % 128)).trans (pick3_mod _ i)
theorem ones431 (i : Nat) : lit0t0_431 i = oneAt 431 (i % 128) := (rfl : _ = pick3 (oneAt 431) (i % 128)).trans (pick3_mod _ i)
theorem ones432 (i : Nat) : lit0t0_432 i = oneAt 432 (i % 128) := (rfl : _ = pick3 (oneAt 432) (i % 128)).trans (pick3_mod _ i)
theorem ones433 (i : Nat) : lit0t0_433 i = oneAt 433 (i % 128) := (rfl : _ = pick3 (oneAt 433) (i % 128)).trans (pick3_mod _ i)
theorem ones434 (i : Nat) : lit0t0_434 i = oneAt 434 (i % 128) := (rfl : _ = pick3 (oneAt 434) (i % 128)).trans (pick3_mod _ i)
theorem ones435 (i : Nat) : lit0t0_435 i = oneAt 435 (i % 128) := (rfl : _ = pick3 (oneAt 435) (i % 128)).trans (pick3_mod _ i)
theorem ones436 (i : Nat) : lit0t0_436 i = oneAt 436 (i % 128) := (rfl : _ = pick3 (oneAt 436) (i % 128)).trans (pick3_mod _ i)
theorem ones437 (i : Nat) : lit0t0_437 i = oneAt 437 (i % 128) := (rfl : _ = pick3 (oneAt 437) (i % 128)).trans (pick3_mod _ i)
theorem ones438 (i : Nat) : lit0t0_438 i = oneAt 438 (i % 128) := (rfl : _ = pick3 (oneAt 438) (i % 128)).trans (pick3_mod _ i)
theorem ones439 (i : Nat) : lit0t0_439 i = oneAt 439 (i % 128) := (rfl : _ = pick3 (oneAt 439) (i % 128)).trans (pick3_mod _ i)
theorem ones440 (i : Nat) : lit0t0_440 i = oneAt 440 (i % 128) := (rfl : _ = pick3 (oneAt 440) (i % 128)).trans (pick3_mod _ i)
theorem ones441 (i : Nat) : lit0t0_441 i = oneAt 441 (i % 128) := (rfl : _ = pick3 (oneAt 441) (i % 128)).trans (pick3_mod _ i)
theorem ones442 (i : Nat) : lit0t0_442 i = oneAt 442 (i % 128) := (rfl : _ = pick3 (oneAt 442) (i % 128)).trans (pick3_mod _ i)
theorem ones443 (i : Nat) : lit0t0_443 i = oneAt 443 (i % 128) := (rfl : _ = pick3 (oneAt 443) (i % 128)).trans (pick3_mod _ i)
theorem ones444 (i : Nat) : lit0t0_444 i = oneAt 444 (i % 128) := (rfl : _ = pick3 (oneAt 444) (i % 128)).trans (pick3_mod _ i)
theorem ones445 (i : Nat) : lit0t0_445 i = oneAt 445 (i % 128) := (rfl : _ = pick3 (oneAt 445) (i % 128)).trans (pick3_mod _ i)
theorem ones446 (i : Nat) : lit0t0_446 i = oneAt 446 (i % 128) := (rfl : _ = pick3 (oneAt 446) (i % 128)).trans (pick3_mod _ i)
theorem ones447 (i : Nat) : lit0t0_447 i = oneAt 447 (i % 128) := (rfl : _ = pick3 (oneAt 447) (i % 128)).trans (pick3_mod _ i)
theorem ones448 (i : Nat) : lit0t0_448 i = oneAt 448 (i % 128) := (rfl : _ = pick3 (oneAt 448) (i % 128)).trans (pick3_mod _ i)
theorem ones449 (i : Nat) : lit0t0_449 i = oneAt 449 (i % 128) := (rfl : _ = pick3 (oneAt 449) (i % 128)).trans (pick3_mod _ i)
theorem ones450 (i : Nat) : lit0t0_450 i = oneAt 450 (i % 128) := (rfl : _ = pick3 (oneAt 450) (i % 128)).trans (pick3_mod _ i)
theorem ones451 (i : Nat) : lit0t0_451 i = oneAt 451 (i % 128) := (rfl : _ = pick3 (oneAt 451) (i % 128)).trans (pick3_mod _ i)
theorem ones452 (i : Nat) : lit0t0_452 i = oneAt 452 (i % 128) := (rfl : _ = pick3 (oneAt 452) (i % 128)).trans (pick3_mod _ i)
theorem ones453 (i : Nat) : lit0t0_453 i = oneAt 453 (i % 128) := (rfl : _ = pick3 (oneAt 453) (i % 128)).trans (pick3_mod _ i)
theorem ones454 (i : Nat) : lit0t0_454 i = oneAt 454 (i % 128) := (rfl : _ = pick3 (oneAt 454) (i % 128)).trans (pick3_mod _ i)
theorem ones455 (i : Nat) : lit0t0_455 i = oneAt 455 (i % 128) := (rfl : _ = pick3 (oneAt 455) (i % 128)).trans (pick3_mod _ i)
theorem ones456 (i : Nat) : lit0t0_456 i = oneAt 456 (i % 128) := (rfl : _ = pick3 (oneAt 456) (i % 128)).trans (pick3_mod _ i)
theorem ones457 (i : Nat) : lit0t0_457 i = oneAt 457 (i % 128) := (rfl : _ = pick3 (oneAt 457) (i % 128)).trans (pick3_mod _ i)
theorem ones458 (i : Nat) : lit0t0_458 i = oneAt 458 (i % 128) := (rfl : _ = pick3 (oneAt 458) (i % 128)).trans (pick3_mod _ i)
theorem ones459 (i : Nat) : lit0t0_459 i = oneAt 459 (i % 128) := (rfl : _ = pick3 (oneAt 459) (i % 128)).trans (pick3_mod _ i)
theorem ones460 (i : Nat) : lit0t0_460 i = oneAt 460 (i % 128) := (rfl : _ = pick3 (oneAt 460) (i % 128)).trans (pick3_mod _ i)
theorem ones461 (i : Nat) : lit0t0_461 i = oneAt 461 (i % 128) := (rfl : _ = pick3 (oneAt 461) (i % 128)).trans (pick3_mod _ i)
theorem ones462 (i : Nat) : lit0t0_462 i = oneAt 462 (i % 128) := (rfl : _ = pick3 (oneAt 462) (i % 128)).trans (pick3_mod _ i)
theorem ones463 (i : Nat) : lit0t0_463 i = oneAt 463 (i % 128) := (rfl : _ = pick3 (oneAt 463) (i % 128)).trans (pick3_mod _ i)
theorem ones464 (i : Nat) : lit0t0_464 i = oneAt 464 (i % 128) := (rfl : _ = pick3 (oneAt 464) (i % 128)).trans (pick3_mod _ i)
theorem ones465 (i : Nat) : lit0t0_465 i = oneAt 465 (i % 128) := (rfl : _ = pick3 (oneAt 465) (i % 128)).trans (pick3_mod _ i)
theorem ones466 (i : Nat) : lit0t0_466 i = oneAt 466 (i % 128) := (rfl : _ = pick3 (oneAt 466) (i % 128)).trans (pick3_mod _ i)
theorem ones467 (i : Nat) : lit0t0_467 i = oneAt 467 (i % 128) := (rfl : _ = pick3 (oneAt 467) (i % 128)).trans (pick3_mod _ i)
theorem ones468 (i : Nat) : lit0t0_468 i = oneAt 468 (i % 128) := (rfl : _ = pick3 (oneAt 468) (i % 128)).trans (pick3_mod _ i)
theorem ones469 (i : Nat) : lit0t0_469 i = oneAt 469 (i % 128) := (rfl : _ = pick3 (oneAt 469) (i % 128)).trans (pick3_mod _ i)
theorem ones470 (i : Nat) : lit0t0_470 i = oneAt 470 (i % 128) := (rfl : _ = pick3 (oneAt 470) (i % 128)).trans (pick3_mod _ i)
theorem ones471 (i : Nat) : lit0t0_471 i = oneAt 471 (i % 128) := (rfl : _ = pick3 (oneAt 471) (i % 128)).trans (pick3_mod _ i)
theorem ones472 (i : Nat) : lit0t0_472 i = oneAt 472 (i % 128) := (rfl : _ = pick3 (oneAt 472) (i % 128)).trans (pick3_mod _ i)
theorem ones473 (i : Nat) : lit0t0_473 i = oneAt 473 (i % 128) := (rfl : _ = pick3 (oneAt 473) (i % 128)).trans (pick3_mod _ i)
theorem ones474 (i : Nat) : lit0t0_474 i = oneAt 474 (i % 128) := (rfl : _ = pick3 (oneAt 474) (i % 128)).trans (pick3_mod _ i)
theorem ones475 (i : Nat) : lit0t0_475 i = oneAt 475 (i % 128) := (rfl : _ = pick3 (oneAt 475) (i % 128)).trans (pick3_mod _ i)
theorem ones476 (i : Nat) : lit0t0_476 i = oneAt 476 (i % 128) := (rfl : _ = pick3 (oneAt 476) (i % 128)).trans (pick3_mod _ i)
theorem ones477 (i : Nat) : lit0t0_477 i = oneAt 477 (i % 128) := (rfl : _ = pick3 (oneAt 477) (i % 128)).trans (pick3_mod _ i)
theorem ones478 (i : Nat) : lit0t0_478 i = oneAt 478 (i % 128) := (rfl : _ = pick3 (oneAt 478) (i % 128)).trans (pick3_mod _ i)
theorem ones479 (i : Nat) : lit0t0_479 i = oneAt 479 (i % 128) := (rfl : _ = pick3 (oneAt 479) (i % 128)).trans (pick3_mod _ i)
theorem ones480 (i : Nat) : lit0t0_480 i = oneAt 480 (i % 128) := (rfl : _ = pick3 (oneAt 480) (i % 128)).trans (pick3_mod _ i)
theorem ones481 (i : Nat) : lit0t0_481 i = oneAt 481 (i % 128) := (rfl : _ = pick3 (oneAt 481) (i % 128)).trans (pick3_mod _ i)
theorem ones482 (i : Nat) : lit0t0_482 i = oneAt 482 (i % 128) := (rfl : _ = pick3 (oneAt 482) (i % 128)).trans (pick3_mod _ i)
theorem ones483 (i : Nat) : lit0t0_483 i = oneAt 483 (i % 128) := (rfl : _ = pick3 (oneAt 483) (i % 128)).trans (pick3_mod _ i)
theorem ones484 (i : Nat) : lit0t0_484 i = oneAt 484 (i % 128) := (rfl : _ = pick3 (oneAt 484) (i % 128)).trans (pick3_mod _ i)
theorem ones485 (i : Nat) : lit0t0_485 i = oneAt 485 (i % 128) := (rfl : _ = pick3 (oneAt 485) (i % 128)).trans (pick3_mod _ i)
theorem ones486 (i : Nat) : lit0t0_486 i = oneAt 486 (i % 128) := (rfl : _ = pick3 (oneAt 486) (i % 128)).trans (pick3_mod _ i)
theorem ones487 (i : Nat) : lit0t0_487 i = oneAt 487 (i % 128) := (rfl : _ = pick3 (oneAt 487) (i % 128)).trans (pick3_mod _ i)
theorem ones488 (i : Nat) : lit0t0_488 i = oneAt 488 (i % 128) := (rfl : _ = pick3 (oneAt 488) (i % 128)).trans (pick3_mod _ i)
theorem ones489 (i : Nat) : lit0t0_489 i = oneAt 489 (i % 128) := (rfl : _ = pick3 (oneAt 489) (i % 128)).trans (pick3_mod _ i)
theorem ones490 (i : Nat) : lit0t0_490 i = oneAt 490 (i % 128) := (rfl : _ = pick3 (oneAt 490) (i % 128)).trans (pick3_mod _ i)
theorem ones491 (i : Nat) : lit0t0_491 i = oneAt 491 (i % 128) := (rfl : _ = pick3 (oneAt 491) (i % 128)).trans (pick3_mod _ i)
theorem ones492 (i : Nat) : lit0t0_492 i = oneAt 492 (i % 128) := (rfl : _ = pick3 (oneAt 492) (i % 128)).trans (pick3_mod _ i)
theorem ones493 (i : Nat) : lit0t0_493 i = oneAt 493 (i % 128) := (rfl : _ = pick3 (oneAt 493) (i % 128)).trans (pick3_mod _ i)
theorem ones494 (i : Nat) : lit0t0_494 i = oneAt 494 (i % 128) := (rfl : _ = pick3 (oneAt 494) (i % 128)).trans (pick3_mod _ i)
theorem ones495 (i : Nat) : lit0t0_495 i = oneAt 495 (i % 128) := (rfl : _ = pick3 (oneAt 495) (i % 128)).trans (pick3_mod _ i)
theorem ones496 (i : Nat) : lit0t0_496 i = oneAt 496 (i % 128) := (rfl : _ = pick3 (oneAt 496) (i % 128)).trans (pick3_mod _ i)
theorem ones497 (i : Nat) : lit0t0_497 i = oneAt 497 (i % 128) := (rfl : _ = pick3 (oneAt 497) (i % 128)).trans (pick3_mod _ i)
theorem ones498 (i : Nat) : lit0t0_498 i = oneAt 498 (i % 128) := (rfl : _ = pick3 (oneAt 498) (i % 128)).trans (pick3_mod _ i)
theorem ones499 (i : Nat) : lit0t0_499 i = oneAt 499 (i % 128) := (rfl : _ = pick3 (oneAt 499) (i % 128)).trans (pick3_mod _ i)
theorem ones500 (i : Nat) : lit0t0_500 i = oneAt 500 (i % 128) := (rfl : _ = pick3 (oneAt 500) (i % 128)).trans (pick3_mod _ i)
theorem ones501 (i : Nat) : lit0t0_501 i = oneAt 501 (i % 128) := (rfl : _ = pick3 (oneAt 501) (i % 128)).trans (pick3_mod _ i)
theorem ones502 (i : Nat) : lit0t0_502 i = oneAt 502 (i % 128) := (rfl : _ = pick3 (oneAt 502) (i % 128)).trans (pick3_mod _ i)
theorem ones503 (i : Nat) : lit0t0_503 i = oneAt 503 (i % 128) := (rfl : _ = pick3 (oneAt 503) (i % 128)).trans (pick3_mod _ i)
theorem ones504 (i : Nat) : lit0t0_504 i = oneAt 504 (i % 128) := (rfl : _ = pick3 (oneAt 504) (i % 128)).trans (pick3_mod _ i)
theorem ones505 (i : Nat) : lit0t0_505 i = oneAt 505 (i % 128) := (rfl : _ = pick3 (oneAt 505) (i % 128)).trans (pick3_mod _ i)
theorem ones506 (i : Nat) : lit0t0_506 i = oneAt 506 (i % 128) := (rfl : _ = pick3 (oneAt 506) (i % 128)).trans (pick3_mod _ i)
theorem ones507 (i : Nat) : lit0t0_507 i = oneAt 507 (i % 128) := (rfl : _ = pick3 (oneAt 507) (i % 128)).trans (pick3_mod _ i)
theorem ones508 (i : Nat) : lit0t0_508 i = oneAt 508 (i % 128) := (rfl : _ = pick3 (oneAt 508) (i % 128)).trans (pick3_mod _ i)
theorem ones509 (i : Nat) : lit0t0_509 i = oneAt 509 (i % 128) := (rfl : _ = pick3 (oneAt 509) (i % 128)).trans (pick3_mod _ i)
theorem ones510 (i : Nat) : lit0t0_510 i = oneAt 510 (i % 128) := (rfl : _ = pick3 (oneAt 510) (i % 128)).trans (pick3_mod _ i)
theorem ones511 (i : Nat) : lit0t0_511 i = oneAt 511 (i % 128) := (rfl : _ = pick3 (oneAt 511) (i % 128)).trans (pick3_mod _ i)
theorem ones512 (i : Nat) : lit0t0_512 i = oneAt 512 (i % 128) := (rfl : _ = pick3 (oneAt 512) (i % 128)).trans (pick3_mod _ i)
theorem ones513 (i : Nat) : lit0t0_513 i = oneAt 513 (i % 128) := (rfl : _ = pick3 (oneAt 513) (i % 128)).trans (pick3_mod _ i)
theorem ones514 (i : Nat) : lit0t0_514 i = oneAt 514 (i % 128) := (rfl : _ = pick3 (oneAt 514) (i % 128)).trans (pick3_mod _ i)
theorem ones515 (i : Nat) : lit0t0_515 i = oneAt 515 (i % 128) := (rfl : _ = pick3 (oneAt 515) (i % 128)).trans (pick3_mod _ i)
theorem ones516 (i : Nat) : lit0t0_516 i = oneAt 516 (i % 128) := (rfl : _ = pick3 (oneAt 516) (i % 128)).trans (pick3_mod _ i)
theorem ones517 (i : Nat) : lit0t0_517 i = oneAt 517 (i % 128) := (rfl : _ = pick3 (oneAt 517) (i % 128)).trans (pick3_mod _ i)
theorem ones518 (i : Nat) : lit0t0_518 i = oneAt 518 (i % 128) := (rfl : _ = pick3 (oneAt 518) (i % 128)).trans (pick3_mod _ i)
theorem ones519 (i : Nat) : lit0t0_519 i = oneAt 519 (i % 128) := (rfl : _ = pick3 (oneAt 519) (i % 128)).trans (pick3_mod _ i)
theorem ones520 (i : Nat) : lit0t0_520 i = oneAt 520 (i % 128) := (rfl : _ = pick3 (oneAt 520) (i % 128)).trans (pick3_mod _ i)
theorem ones521 (i : Nat) : lit0t0_521 i = oneAt 521 (i % 128) := (rfl : _ = pick3 (oneAt 521) (i % 128)).trans (pick3_mod _ i)
theorem ones522 (i : Nat) : lit0t0_522 i = oneAt 522 (i % 128) := (rfl : _ = pick3 (oneAt 522) (i % 128)).trans (pick3_mod _ i)
theorem ones523 (i : Nat) : lit0t0_523 i = oneAt 523 (i % 128) := (rfl : _ = pick3 (oneAt 523) (i % 128)).trans (pick3_mod _ i)
theorem ones524 (i : Nat) : lit0t0_524 i = oneAt 524 (i % 128) := (rfl : _ = pick3 (oneAt 524) (i % 128)).trans (pick3_mod _ i)
theorem ones525 (i : Nat) : lit0t0_525 i = oneAt 525 (i % 128) := (rfl : _ = pick3 (oneAt 525) (i % 128)).trans (pick3_mod _ i)
theorem ones526 (i : Nat) : lit0t0_526 i = oneAt 526 (i % 128) := (rfl : _ = pick3 (oneAt 526) (i % 128)).trans (pick3_mod _ i)
theorem ones527 (i : Nat) : lit0t0_527 i = oneAt 527 (i % 128) := (rfl : _ = pick3 (oneAt 527) (i % 128)).trans (pick3_mod _ i)
theorem ones528 (i : Nat) : lit0t0_528 i = oneAt 528 (i % 128) := (rfl : _ = pick3 (oneAt 528) (i % 128)).trans (pick3_mod _ i)
theorem ones529 (i : Nat) : lit0t0_529 i = oneAt 529 (i % 128) := (rfl : _ = pick3 (oneAt 529) (i % 128)).trans (pick3_mod _ i)
theorem ones530 (i : Nat) : lit0t0_530 i = oneAt 530 (i % 128) := (rfl : _ = pick3 (oneAt 530) (i % 128)).trans (pick3_mod _ i)
theorem ones531 (i : Nat) : lit0t0_531 i = oneAt 531 (i % 128) := (rfl : _ = pick3 (oneAt 531) (i % 128)).trans (pick3_mod _ i)
theorem ones532 (i : Nat) : lit0t0_532 i = oneAt 532 (i % 128) := (rfl : _ = pick3 (oneAt 532) (i % 128)).trans (pick3_mod _ i)
theorem ones533 (i : Nat) : lit0t0_533 i = oneAt 533 (i % 128) := (rfl : _ = pick3 (oneAt 533) (i % 128)).trans (pick3_mod _ i)
theorem ones534 (i : Nat) : lit0t0_534 i = oneAt 534 (i % 128) := (rfl : _ = pick3 (oneAt 534) (i % 128)).trans (pick3_mod _ i)
theorem ones535 (i : Nat) : lit0t0_535 i = oneAt 535 (i % 128) := (rfl : _ = pick3 (oneAt 535) (i % 128)).trans (pick3_mod _ i)
theorem ones536 (i : Nat) : lit0t0_536 i = oneAt 536 (i % 128) := (rfl : _ = pick3 (oneAt 536) (i % 128)).trans (pick3_mod _ i)
theorem ones537 (i : Nat) : lit0t0_537 i = oneAt 537 (i % 128) := (rfl : _ = pick3 (oneAt 537) (i % 128)).trans (pick3_mod _ i)
theorem ones538 (i : Nat) : lit0t0_538 i = oneAt 538 (i % 128) := (rfl : _ = pick3 (oneAt 538) (i % 128)).trans (pick3_mod _ i)
theorem ones539 (i : Nat) : lit0t0_539 i = oneAt 539 (i % 128) := (rfl : _ = pick3 (oneAt 539) (i % 128)).trans (pick3_mod _ i)
theorem ones540 (i : Nat) : lit0t0_540 i = oneAt 540 (i % 128) := (rfl : _ = pick3 (oneAt 540) (i % 128)).trans (pick3_mod _ i)
theorem ones541 (i : Nat) : lit0t0_541 i = oneAt 541 (i % 128) := (rfl : _ = pick3 (oneAt 541) (i % 128)).trans (pick3_mod _ i)
theorem ones542 (i : Nat) : lit0t0_542 i = oneAt 542 (i % 128) := (rfl : _ = pick3 (oneAt 542) (i % 128)).trans (pick3_mod _ i)
theorem ones543 (i : Nat) : lit0t0_543 i = oneAt 543 (i % 128) := (rfl : _ = pick3 (oneAt 543) (i % 128)).trans (pick3_mod _ i)
theorem ones544 (i : Nat) : lit0t0_544 i = oneAt 544 (i % 128) := (rfl : _ = pick3 (oneAt 544) (i % 128)).trans (pick3_mod _ i)
theorem ones545 (i : Nat) : lit0t0_545 i = oneAt 545 (i % 128) := (rfl : _ = pick3 (oneAt 545) (i % 128)).trans (pick3_mod _ i)
theorem ones546 (i : Nat) : lit0t0_546 i = oneAt 546 (i % 128) := (rfl : _ = pick3 (oneAt 546) (i % 128)).trans (pick3_mod _ i)
theorem ones547 (i : Nat) : lit0t0_547 i = oneAt 547 (i % 128) := (rfl : _ = pick3 (oneAt 547) (i % 128)).trans (pick3_mod _ i)
theorem ones548 (i : Nat) : lit0t0_548 i = oneAt 548 (i % 128) := (rfl : _ = pick3 (oneAt 548) (i % 128)).trans (pick3_mod _ i)
theorem ones549 (i : Nat) : lit0t0_549 i = oneAt 549 (i % 128) := (rfl : _ = pick3 (oneAt 549) (i % 128)).trans (pick3_mod _ i)
theorem ones550 (i : Nat) : lit0t0_550 i = oneAt 550 (i % 128) := (rfl : _ = pick3 (oneAt 550) (i % 128)).trans (pick3_mod _ i)
theorem ones551 (i : Nat) : lit0t0_551 i = oneAt 551 (i % 128) := (rfl : _ = pick3 (oneAt 551) (i % 128)).trans (pick3_mod _ i)
theorem ones552 (i : Nat) : lit0t0_552 i = oneAt 552 (i % 128) := (rfl : _ = pick3 (oneAt 552) (i % 128)).trans (pick3_mod _ i)
theorem ones553 (i : Nat) : lit0t0_553 i = oneAt 553 (i % 128) := (rfl : _ = pick3 (oneAt 553) (i % 128)).trans (pick3_mod _ i)
theorem ones554 (i : Nat) : lit0t0_554 i = oneAt 554 (i % 128) := (rfl : _ = pick3 (oneAt 554) (i % 128)).trans (pick3_mod _ i)
theorem ones555 (i : Nat) : lit0t0_555 i = oneAt 555 (i % 128) := (rfl : _ = pick3 (oneAt 555) (i % 128)).trans (pick3_mod _ i)
theorem ones556 (i : Nat) : lit0t0_556 i = oneAt 556 (i % 128) := (rfl : _ = pick3 (oneAt 556) (i % 128)).trans (pick3_mod _ i)
theorem ones557 (i : Nat) : lit0t0_557 i = oneAt 557 (i % 128) := (rfl : _ = pick3 (oneAt 557) (i % 128)).trans (pick3_mod _ i)
theorem ones558 (i : Nat) : lit0t0_558 i = oneAt 558 (i % 128) := (rfl : _ = pick3 (oneAt 558) (i % 128)).trans (pick3_mod _ i)
theorem ones559 (i : Nat) : lit0t0_559 i = oneAt 559 (i % 128) := (rfl : _ = pick3 (oneAt 559) (i % 128)).trans (pick3_mod _ i)
theorem ones560 (i : Nat) : lit0t0_560 i = oneAt 560 (i % 128) := (rfl : _ = pick3 (oneAt 560) (i % 128)).trans (pick3_mod _ i)
theorem ones561 (i : Nat) : lit0t0_561 i = oneAt 561 (i % 128) := (rfl : _ = pick3 (oneAt 561) (i % 128)).trans (pick3_mod _ i)
theorem ones562 (i : Nat) : lit0t0_562 i = oneAt 562 (i % 128) := (rfl : _ = pick3 (oneAt 562) (i % 128)).trans (pick3_mod _ i)
theorem ones563 (i : Nat) : lit0t0_563 i = oneAt 563 (i % 128) := (rfl : _ = pick3 (oneAt 563) (i % 128)).trans (pick3_mod _ i)
theorem ones564 (i : Nat) : lit0t0_564 i = oneAt 564 (i % 128) := (rfl : _ = pick3 (oneAt 564) (i % 128)).trans (pick3_mod _ i)
theorem ones565 (i : Nat) : lit0t0_565 i = oneAt 565 (i % 128) := (rfl : _ = pick3 (oneAt 565) (i % 128)).trans (pick3_mod _ i)
theorem ones566 (i : Nat) : lit0t0_566 i = oneAt 566 (i % 128) := (rfl : _ = pick3 (oneAt 566) (i % 128)).trans (pick3_mod _ i)
theorem ones567 (i : Nat) : lit0t0_567 i = oneAt 567 (i % 128) := (rfl : _ = pick3 (oneAt 567) (i % 128)).trans (pick3_mod _ i)
theorem ones568 (i : Nat) : lit0t0_568 i = oneAt 568 (i % 128) := (rfl : _ = pick3 (oneAt 568) (i % 128)).trans (pick3_mod _ i)
theorem ones569 (i : Nat) : lit0t0_569 i = oneAt 569 (i % 128) := (rfl : _ = pick3 (oneAt 569) (i % 128)).trans (pick3_mod _ i)
theorem ones570 (i : Nat) : lit0t0_570 i = oneAt 570 (i % 128) := (rfl : _ = pick3 (oneAt 570) (i % 128)).trans (pick3_mod _ i)
theorem ones571 (i : Nat) : lit0t0_571 i = oneAt 571 (i % 128) := (rfl : _ = pick3 (oneAt 571) (i % 128)).trans (pick3_mod _ i)
theorem ones572 (i : Nat) : lit0t0_572 i = oneAt 572 (i % 128) := (rfl : _ = pick3 (oneAt 572) (i % 128)).trans (pick3_mod _ i)
theorem ones573 (i : Nat) : lit0t0_573 i = oneAt 573 (i % 128) := (rfl : _ = pick3 (oneAt 573) (i % 128)).trans (pick3_mod _ i)
theorem ones574 (i : Nat) : lit0t0_574 i = oneAt 574 (i % 128) := (rfl : _ = pick3 (oneAt 574) (i % 128)).trans (pick3_mod _ i)
theorem ones575 (i : Nat) : lit0t0_575 i = oneAt 575 (i % 128) := (rfl : _ = pick3 (oneAt 575) (i % 128)).trans (pick3_mod _ i)
theorem ones576 (i : Nat) : lit0t0_576 i = oneAt 576 (i % 128) := (rfl : _ = pick3 (oneAt 576) (i % 128)).trans (pick3_mod _ i)
theorem ones577 (i : Nat) : lit0t0_577 i = oneAt 577 (i % 128) := (rfl : _ = pick3 (oneAt 577) (i % 128)).trans (pick3_mod _ i)
theorem ones578 (i : Nat) : lit0t0_578 i = oneAt 578 (i % 128) := (rfl : _ = pick3 (oneAt 578) (i % 128)).trans (pick3_mod _ i)
theorem ones579 (i : Nat) : lit0t0_579 i = oneAt 579 (i % 128) := (rfl : _ = pick3 (oneAt 579) (i % 128)).trans (pick3_mod _ i)

end Cert.Attn

end
-- ==== Proof.Ones4.lean ====
/-
  Rows 580 to 776 of the table of ones, 128 entries each.
-/
module

public import proofs.«01_k».proof.KernelIdeal.P04
public import proofs.«01_k».proof.Proof.Entries

@[expose] public section

noncomputable section

namespace Cert.Attn

open Cert.KernelIdeal

/-- The choice by a number below 128 that these rows are written with. -/
def pick4 (f : Nat → BitVec 32) (r : Nat) : BitVec 32 :=
  lit0t0_580.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick4_eq (f : Nat → BitVec 32) (r : Nat) (hr : r < 128) : pick4 f r = f r := by
  interval_cases r <;> rfl

/-- It chooses by a remainder. -/
theorem pick4_mod (f : Nat → BitVec 32) (i : Nat) : pick4 f (i % 128) = f (i % 128) :=
  pick4_eq f _ (Nat.mod_lt _ (by decide))

theorem ones580 (i : Nat) : lit0t0_580 i = oneAt 580 (i % 128) := (rfl : _ = pick4 (oneAt 580) (i % 128)).trans (pick4_mod _ i)
theorem ones581 (i : Nat) : lit0t0_581 i = oneAt 581 (i % 128) := (rfl : _ = pick4 (oneAt 581) (i % 128)).trans (pick4_mod _ i)
theorem ones582 (i : Nat) : lit0t0_582 i = oneAt 582 (i % 128) := (rfl : _ = pick4 (oneAt 582) (i % 128)).trans (pick4_mod _ i)
theorem ones583 (i : Nat) : lit0t0_583 i = oneAt 583 (i % 128) := (rfl : _ = pick4 (oneAt 583) (i % 128)).trans (pick4_mod _ i)
theorem ones584 (i : Nat) : lit0t0_584 i = oneAt 584 (i % 128) := (rfl : _ = pick4 (oneAt 584) (i % 128)).trans (pick4_mod _ i)
theorem ones585 (i : Nat) : lit0t0_585 i = oneAt 585 (i % 128) := (rfl : _ = pick4 (oneAt 585) (i % 128)).trans (pick4_mod _ i)
theorem ones586 (i : Nat) : lit0t0_586 i = oneAt 586 (i % 128) := (rfl : _ = pick4 (oneAt 586) (i % 128)).trans (pick4_mod _ i)
theorem ones587 (i : Nat) : lit0t0_587 i = oneAt 587 (i % 128) := (rfl : _ = pick4 (oneAt 587) (i % 128)).trans (pick4_mod _ i)
theorem ones588 (i : Nat) : lit0t0_588 i = oneAt 588 (i % 128) := (rfl : _ = pick4 (oneAt 588) (i % 128)).trans (pick4_mod _ i)
theorem ones589 (i : Nat) : lit0t0_589 i = oneAt 589 (i % 128) := (rfl : _ = pick4 (oneAt 589) (i % 128)).trans (pick4_mod _ i)
theorem ones590 (i : Nat) : lit0t0_590 i = oneAt 590 (i % 128) := (rfl : _ = pick4 (oneAt 590) (i % 128)).trans (pick4_mod _ i)
theorem ones591 (i : Nat) : lit0t0_591 i = oneAt 591 (i % 128) := (rfl : _ = pick4 (oneAt 591) (i % 128)).trans (pick4_mod _ i)
theorem ones592 (i : Nat) : lit0t0_592 i = oneAt 592 (i % 128) := (rfl : _ = pick4 (oneAt 592) (i % 128)).trans (pick4_mod _ i)
theorem ones593 (i : Nat) : lit0t0_593 i = oneAt 593 (i % 128) := (rfl : _ = pick4 (oneAt 593) (i % 128)).trans (pick4_mod _ i)
theorem ones594 (i : Nat) : lit0t0_594 i = oneAt 594 (i % 128) := (rfl : _ = pick4 (oneAt 594) (i % 128)).trans (pick4_mod _ i)
theorem ones595 (i : Nat) : lit0t0_595 i = oneAt 595 (i % 128) := (rfl : _ = pick4 (oneAt 595) (i % 128)).trans (pick4_mod _ i)
theorem ones596 (i : Nat) : lit0t0_596 i = oneAt 596 (i % 128) := (rfl : _ = pick4 (oneAt 596) (i % 128)).trans (pick4_mod _ i)
theorem ones597 (i : Nat) : lit0t0_597 i = oneAt 597 (i % 128) := (rfl : _ = pick4 (oneAt 597) (i % 128)).trans (pick4_mod _ i)
theorem ones598 (i : Nat) : lit0t0_598 i = oneAt 598 (i % 128) := (rfl : _ = pick4 (oneAt 598) (i % 128)).trans (pick4_mod _ i)
theorem ones599 (i : Nat) : lit0t0_599 i = oneAt 599 (i % 128) := (rfl : _ = pick4 (oneAt 599) (i % 128)).trans (pick4_mod _ i)
theorem ones600 (i : Nat) : lit0t0_600 i = oneAt 600 (i % 128) := (rfl : _ = pick4 (oneAt 600) (i % 128)).trans (pick4_mod _ i)
theorem ones601 (i : Nat) : lit0t0_601 i = oneAt 601 (i % 128) := (rfl : _ = pick4 (oneAt 601) (i % 128)).trans (pick4_mod _ i)
theorem ones602 (i : Nat) : lit0t0_602 i = oneAt 602 (i % 128) := (rfl : _ = pick4 (oneAt 602) (i % 128)).trans (pick4_mod _ i)
theorem ones603 (i : Nat) : lit0t0_603 i = oneAt 603 (i % 128) := (rfl : _ = pick4 (oneAt 603) (i % 128)).trans (pick4_mod _ i)
theorem ones604 (i : Nat) : lit0t0_604 i = oneAt 604 (i % 128) := (rfl : _ = pick4 (oneAt 604) (i % 128)).trans (pick4_mod _ i)
theorem ones605 (i : Nat) : lit0t0_605 i = oneAt 605 (i % 128) := (rfl : _ = pick4 (oneAt 605) (i % 128)).trans (pick4_mod _ i)
theorem ones606 (i : Nat) : lit0t0_606 i = oneAt 606 (i % 128) := (rfl : _ = pick4 (oneAt 606) (i % 128)).trans (pick4_mod _ i)
theorem ones607 (i : Nat) : lit0t0_607 i = oneAt 607 (i % 128) := (rfl : _ = pick4 (oneAt 607) (i % 128)).trans (pick4_mod _ i)
theorem ones608 (i : Nat) : lit0t0_608 i = oneAt 608 (i % 128) := (rfl : _ = pick4 (oneAt 608) (i % 128)).trans (pick4_mod _ i)
theorem ones609 (i : Nat) : lit0t0_609 i = oneAt 609 (i % 128) := (rfl : _ = pick4 (oneAt 609) (i % 128)).trans (pick4_mod _ i)
theorem ones610 (i : Nat) : lit0t0_610 i = oneAt 610 (i % 128) := (rfl : _ = pick4 (oneAt 610) (i % 128)).trans (pick4_mod _ i)
theorem ones611 (i : Nat) : lit0t0_611 i = oneAt 611 (i % 128) := (rfl : _ = pick4 (oneAt 611) (i % 128)).trans (pick4_mod _ i)
theorem ones612 (i : Nat) : lit0t0_612 i = oneAt 612 (i % 128) := (rfl : _ = pick4 (oneAt 612) (i % 128)).trans (pick4_mod _ i)
theorem ones613 (i : Nat) : lit0t0_613 i = oneAt 613 (i % 128) := (rfl : _ = pick4 (oneAt 613) (i % 128)).trans (pick4_mod _ i)
theorem ones614 (i : Nat) : lit0t0_614 i = oneAt 614 (i % 128) := (rfl : _ = pick4 (oneAt 614) (i % 128)).trans (pick4_mod _ i)
theorem ones615 (i : Nat) : lit0t0_615 i = oneAt 615 (i % 128) := (rfl : _ = pick4 (oneAt 615) (i % 128)).trans (pick4_mod _ i)
theorem ones616 (i : Nat) : lit0t0_616 i = oneAt 616 (i % 128) := (rfl : _ = pick4 (oneAt 616) (i % 128)).trans (pick4_mod _ i)
theorem ones617 (i : Nat) : lit0t0_617 i = oneAt 617 (i % 128) := (rfl : _ = pick4 (oneAt 617) (i % 128)).trans (pick4_mod _ i)
theorem ones618 (i : Nat) : lit0t0_618 i = oneAt 618 (i % 128) := (rfl : _ = pick4 (oneAt 618) (i % 128)).trans (pick4_mod _ i)
theorem ones619 (i : Nat) : lit0t0_619 i = oneAt 619 (i % 128) := (rfl : _ = pick4 (oneAt 619) (i % 128)).trans (pick4_mod _ i)
theorem ones620 (i : Nat) : lit0t0_620 i = oneAt 620 (i % 128) := (rfl : _ = pick4 (oneAt 620) (i % 128)).trans (pick4_mod _ i)
theorem ones621 (i : Nat) : lit0t0_621 i = oneAt 621 (i % 128) := (rfl : _ = pick4 (oneAt 621) (i % 128)).trans (pick4_mod _ i)
theorem ones622 (i : Nat) : lit0t0_622 i = oneAt 622 (i % 128) := (rfl : _ = pick4 (oneAt 622) (i % 128)).trans (pick4_mod _ i)
theorem ones623 (i : Nat) : lit0t0_623 i = oneAt 623 (i % 128) := (rfl : _ = pick4 (oneAt 623) (i % 128)).trans (pick4_mod _ i)
theorem ones624 (i : Nat) : lit0t0_624 i = oneAt 624 (i % 128) := (rfl : _ = pick4 (oneAt 624) (i % 128)).trans (pick4_mod _ i)
theorem ones625 (i : Nat) : lit0t0_625 i = oneAt 625 (i % 128) := (rfl : _ = pick4 (oneAt 625) (i % 128)).trans (pick4_mod _ i)
theorem ones626 (i : Nat) : lit0t0_626 i = oneAt 626 (i % 128) := (rfl : _ = pick4 (oneAt 626) (i % 128)).trans (pick4_mod _ i)
theorem ones627 (i : Nat) : lit0t0_627 i = oneAt 627 (i % 128) := (rfl : _ = pick4 (oneAt 627) (i % 128)).trans (pick4_mod _ i)
theorem ones628 (i : Nat) : lit0t0_628 i = oneAt 628 (i % 128) := (rfl : _ = pick4 (oneAt 628) (i % 128)).trans (pick4_mod _ i)
theorem ones629 (i : Nat) : lit0t0_629 i = oneAt 629 (i % 128) := (rfl : _ = pick4 (oneAt 629) (i % 128)).trans (pick4_mod _ i)
theorem ones630 (i : Nat) : lit0t0_630 i = oneAt 630 (i % 128) := (rfl : _ = pick4 (oneAt 630) (i % 128)).trans (pick4_mod _ i)
theorem ones631 (i : Nat) : lit0t0_631 i = oneAt 631 (i % 128) := (rfl : _ = pick4 (oneAt 631) (i % 128)).trans (pick4_mod _ i)
theorem ones632 (i : Nat) : lit0t0_632 i = oneAt 632 (i % 128) := (rfl : _ = pick4 (oneAt 632) (i % 128)).trans (pick4_mod _ i)
theorem ones633 (i : Nat) : lit0t0_633 i = oneAt 633 (i % 128) := (rfl : _ = pick4 (oneAt 633) (i % 128)).trans (pick4_mod _ i)
theorem ones634 (i : Nat) : lit0t0_634 i = oneAt 634 (i % 128) := (rfl : _ = pick4 (oneAt 634) (i % 128)).trans (pick4_mod _ i)
theorem ones635 (i : Nat) : lit0t0_635 i = oneAt 635 (i % 128) := (rfl : _ = pick4 (oneAt 635) (i % 128)).trans (pick4_mod _ i)
theorem ones636 (i : Nat) : lit0t0_636 i = oneAt 636 (i % 128) := (rfl : _ = pick4 (oneAt 636) (i % 128)).trans (pick4_mod _ i)
theorem ones637 (i : Nat) : lit0t0_637 i = oneAt 637 (i % 128) := (rfl : _ = pick4 (oneAt 637) (i % 128)).trans (pick4_mod _ i)
theorem ones638 (i : Nat) : lit0t0_638 i = oneAt 638 (i % 128) := (rfl : _ = pick4 (oneAt 638) (i % 128)).trans (pick4_mod _ i)
theorem ones639 (i : Nat) : lit0t0_639 i = oneAt 639 (i % 128) := (rfl : _ = pick4 (oneAt 639) (i % 128)).trans (pick4_mod _ i)
theorem ones640 (i : Nat) : lit0t0_640 i = oneAt 640 (i % 128) := (rfl : _ = pick4 (oneAt 640) (i % 128)).trans (pick4_mod _ i)
theorem ones641 (i : Nat) : lit0t0_641 i = oneAt 641 (i % 128) := (rfl : _ = pick4 (oneAt 641) (i % 128)).trans (pick4_mod _ i)
theorem ones642 (i : Nat) : lit0t0_642 i = oneAt 642 (i % 128) := (rfl : _ = pick4 (oneAt 642) (i % 128)).trans (pick4_mod _ i)
theorem ones643 (i : Nat) : lit0t0_643 i = oneAt 643 (i % 128) := (rfl : _ = pick4 (oneAt 643) (i % 128)).trans (pick4_mod _ i)
theorem ones644 (i : Nat) : lit0t0_644 i = oneAt 644 (i % 128) := (rfl : _ = pick4 (oneAt 644) (i % 128)).trans (pick4_mod _ i)
theorem ones645 (i : Nat) : lit0t0_645 i = oneAt 645 (i % 128) := (rfl : _ = pick4 (oneAt 645) (i % 128)).trans (pick4_mod _ i)
theorem ones646 (i : Nat) : lit0t0_646 i = oneAt 646 (i % 128) := (rfl : _ = pick4 (oneAt 646) (i % 128)).trans (pick4_mod _ i)
theorem ones647 (i : Nat) : lit0t0_647 i = oneAt 647 (i % 128) := (rfl : _ = pick4 (oneAt 647) (i % 128)).trans (pick4_mod _ i)
theorem ones648 (i : Nat) : lit0t0_648 i = oneAt 648 (i % 128) := (rfl : _ = pick4 (oneAt 648) (i % 128)).trans (pick4_mod _ i)
theorem ones649 (i : Nat) : lit0t0_649 i = oneAt 649 (i % 128) := (rfl : _ = pick4 (oneAt 649) (i % 128)).trans (pick4_mod _ i)
theorem ones650 (i : Nat) : lit0t0_650 i = oneAt 650 (i % 128) := (rfl : _ = pick4 (oneAt 650) (i % 128)).trans (pick4_mod _ i)
theorem ones651 (i : Nat) : lit0t0_651 i = oneAt 651 (i % 128) := (rfl : _ = pick4 (oneAt 651) (i % 128)).trans (pick4_mod _ i)
theorem ones652 (i : Nat) : lit0t0_652 i = oneAt 652 (i % 128) := (rfl : _ = pick4 (oneAt 652) (i % 128)).trans (pick4_mod _ i)
theorem ones653 (i : Nat) : lit0t0_653 i = oneAt 653 (i % 128) := (rfl : _ = pick4 (oneAt 653) (i % 128)).trans (pick4_mod _ i)
theorem ones654 (i : Nat) : lit0t0_654 i = oneAt 654 (i % 128) := (rfl : _ = pick4 (oneAt 654) (i % 128)).trans (pick4_mod _ i)
theorem ones655 (i : Nat) : lit0t0_655 i = oneAt 655 (i % 128) := (rfl : _ = pick4 (oneAt 655) (i % 128)).trans (pick4_mod _ i)
theorem ones656 (i : Nat) : lit0t0_656 i = oneAt 656 (i % 128) := (rfl : _ = pick4 (oneAt 656) (i % 128)).trans (pick4_mod _ i)
theorem ones657 (i : Nat) : lit0t0_657 i = oneAt 657 (i % 128) := (rfl : _ = pick4 (oneAt 657) (i % 128)).trans (pick4_mod _ i)
theorem ones658 (i : Nat) : lit0t0_658 i = oneAt 658 (i % 128) := (rfl : _ = pick4 (oneAt 658) (i % 128)).trans (pick4_mod _ i)
theorem ones659 (i : Nat) : lit0t0_659 i = oneAt 659 (i % 128) := (rfl : _ = pick4 (oneAt 659) (i % 128)).trans (pick4_mod _ i)
theorem ones660 (i : Nat) : lit0t0_660 i = oneAt 660 (i % 128) := (rfl : _ = pick4 (oneAt 660) (i % 128)).trans (pick4_mod _ i)
theorem ones661 (i : Nat) : lit0t0_661 i = oneAt 661 (i % 128) := (rfl : _ = pick4 (oneAt 661) (i % 128)).trans (pick4_mod _ i)
theorem ones662 (i : Nat) : lit0t0_662 i = oneAt 662 (i % 128) := (rfl : _ = pick4 (oneAt 662) (i % 128)).trans (pick4_mod _ i)
theorem ones663 (i : Nat) : lit0t0_663 i = oneAt 663 (i % 128) := (rfl : _ = pick4 (oneAt 663) (i % 128)).trans (pick4_mod _ i)
theorem ones664 (i : Nat) : lit0t0_664 i = oneAt 664 (i % 128) := (rfl : _ = pick4 (oneAt 664) (i % 128)).trans (pick4_mod _ i)
theorem ones665 (i : Nat) : lit0t0_665 i = oneAt 665 (i % 128) := (rfl : _ = pick4 (oneAt 665) (i % 128)).trans (pick4_mod _ i)
theorem ones666 (i : Nat) : lit0t0_666 i = oneAt 666 (i % 128) := (rfl : _ = pick4 (oneAt 666) (i % 128)).trans (pick4_mod _ i)
theorem ones667 (i : Nat) : lit0t0_667 i = oneAt 667 (i % 128) := (rfl : _ = pick4 (oneAt 667) (i % 128)).trans (pick4_mod _ i)
theorem ones668 (i : Nat) : lit0t0_668 i = oneAt 668 (i % 128) := (rfl : _ = pick4 (oneAt 668) (i % 128)).trans (pick4_mod _ i)
theorem ones669 (i : Nat) : lit0t0_669 i = oneAt 669 (i % 128) := (rfl : _ = pick4 (oneAt 669) (i % 128)).trans (pick4_mod _ i)
theorem ones670 (i : Nat) : lit0t0_670 i = oneAt 670 (i % 128) := (rfl : _ = pick4 (oneAt 670) (i % 128)).trans (pick4_mod _ i)
theorem ones671 (i : Nat) : lit0t0_671 i = oneAt 671 (i % 128) := (rfl : _ = pick4 (oneAt 671) (i % 128)).trans (pick4_mod _ i)
theorem ones672 (i : Nat) : lit0t0_672 i = oneAt 672 (i % 128) := (rfl : _ = pick4 (oneAt 672) (i % 128)).trans (pick4_mod _ i)
theorem ones673 (i : Nat) : lit0t0_673 i = oneAt 673 (i % 128) := (rfl : _ = pick4 (oneAt 673) (i % 128)).trans (pick4_mod _ i)
theorem ones674 (i : Nat) : lit0t0_674 i = oneAt 674 (i % 128) := (rfl : _ = pick4 (oneAt 674) (i % 128)).trans (pick4_mod _ i)
theorem ones675 (i : Nat) : lit0t0_675 i = oneAt 675 (i % 128) := (rfl : _ = pick4 (oneAt 675) (i % 128)).trans (pick4_mod _ i)
theorem ones676 (i : Nat) : lit0t0_676 i = oneAt 676 (i % 128) := (rfl : _ = pick4 (oneAt 676) (i % 128)).trans (pick4_mod _ i)
theorem ones677 (i : Nat) : lit0t0_677 i = oneAt 677 (i % 128) := (rfl : _ = pick4 (oneAt 677) (i % 128)).trans (pick4_mod _ i)
theorem ones678 (i : Nat) : lit0t0_678 i = oneAt 678 (i % 128) := (rfl : _ = pick4 (oneAt 678) (i % 128)).trans (pick4_mod _ i)
theorem ones679 (i : Nat) : lit0t0_679 i = oneAt 679 (i % 128) := (rfl : _ = pick4 (oneAt 679) (i % 128)).trans (pick4_mod _ i)
theorem ones680 (i : Nat) : lit0t0_680 i = oneAt 680 (i % 128) := (rfl : _ = pick4 (oneAt 680) (i % 128)).trans (pick4_mod _ i)
theorem ones681 (i : Nat) : lit0t0_681 i = oneAt 681 (i % 128) := (rfl : _ = pick4 (oneAt 681) (i % 128)).trans (pick4_mod _ i)
theorem ones682 (i : Nat) : lit0t0_682 i = oneAt 682 (i % 128) := (rfl : _ = pick4 (oneAt 682) (i % 128)).trans (pick4_mod _ i)
theorem ones683 (i : Nat) : lit0t0_683 i = oneAt 683 (i % 128) := (rfl : _ = pick4 (oneAt 683) (i % 128)).trans (pick4_mod _ i)
theorem ones684 (i : Nat) : lit0t0_684 i = oneAt 684 (i % 128) := (rfl : _ = pick4 (oneAt 684) (i % 128)).trans (pick4_mod _ i)
theorem ones685 (i : Nat) : lit0t0_685 i = oneAt 685 (i % 128) := (rfl : _ = pick4 (oneAt 685) (i % 128)).trans (pick4_mod _ i)
theorem ones686 (i : Nat) : lit0t0_686 i = oneAt 686 (i % 128) := (rfl : _ = pick4 (oneAt 686) (i % 128)).trans (pick4_mod _ i)
theorem ones687 (i : Nat) : lit0t0_687 i = oneAt 687 (i % 128) := (rfl : _ = pick4 (oneAt 687) (i % 128)).trans (pick4_mod _ i)
theorem ones688 (i : Nat) : lit0t0_688 i = oneAt 688 (i % 128) := (rfl : _ = pick4 (oneAt 688) (i % 128)).trans (pick4_mod _ i)
theorem ones689 (i : Nat) : lit0t0_689 i = oneAt 689 (i % 128) := (rfl : _ = pick4 (oneAt 689) (i % 128)).trans (pick4_mod _ i)
theorem ones690 (i : Nat) : lit0t0_690 i = oneAt 690 (i % 128) := (rfl : _ = pick4 (oneAt 690) (i % 128)).trans (pick4_mod _ i)
theorem ones691 (i : Nat) : lit0t0_691 i = oneAt 691 (i % 128) := (rfl : _ = pick4 (oneAt 691) (i % 128)).trans (pick4_mod _ i)
theorem ones692 (i : Nat) : lit0t0_692 i = oneAt 692 (i % 128) := (rfl : _ = pick4 (oneAt 692) (i % 128)).trans (pick4_mod _ i)
theorem ones693 (i : Nat) : lit0t0_693 i = oneAt 693 (i % 128) := (rfl : _ = pick4 (oneAt 693) (i % 128)).trans (pick4_mod _ i)
theorem ones694 (i : Nat) : lit0t0_694 i = oneAt 694 (i % 128) := (rfl : _ = pick4 (oneAt 694) (i % 128)).trans (pick4_mod _ i)
theorem ones695 (i : Nat) : lit0t0_695 i = oneAt 695 (i % 128) := (rfl : _ = pick4 (oneAt 695) (i % 128)).trans (pick4_mod _ i)
theorem ones696 (i : Nat) : lit0t0_696 i = oneAt 696 (i % 128) := (rfl : _ = pick4 (oneAt 696) (i % 128)).trans (pick4_mod _ i)
theorem ones697 (i : Nat) : lit0t0_697 i = oneAt 697 (i % 128) := (rfl : _ = pick4 (oneAt 697) (i % 128)).trans (pick4_mod _ i)
theorem ones698 (i : Nat) : lit0t0_698 i = oneAt 698 (i % 128) := (rfl : _ = pick4 (oneAt 698) (i % 128)).trans (pick4_mod _ i)
theorem ones699 (i : Nat) : lit0t0_699 i = oneAt 699 (i % 128) := (rfl : _ = pick4 (oneAt 699) (i % 128)).trans (pick4_mod _ i)
theorem ones700 (i : Nat) : lit0t0_700 i = oneAt 700 (i % 128) := (rfl : _ = pick4 (oneAt 700) (i % 128)).trans (pick4_mod _ i)
theorem ones701 (i : Nat) : lit0t0_701 i = oneAt 701 (i % 128) := (rfl : _ = pick4 (oneAt 701) (i % 128)).trans (pick4_mod _ i)
theorem ones702 (i : Nat) : lit0t0_702 i = oneAt 702 (i % 128) := (rfl : _ = pick4 (oneAt 702) (i % 128)).trans (pick4_mod _ i)
theorem ones703 (i : Nat) : lit0t0_703 i = oneAt 703 (i % 128) := (rfl : _ = pick4 (oneAt 703) (i % 128)).trans (pick4_mod _ i)
theorem ones704 (i : Nat) : lit0t0_704 i = oneAt 704 (i % 128) := (rfl : _ = pick4 (oneAt 704) (i % 128)).trans (pick4_mod _ i)
theorem ones705 (i : Nat) : lit0t0_705 i = oneAt 705 (i % 128) := (rfl : _ = pick4 (oneAt 705) (i % 128)).trans (pick4_mod _ i)
theorem ones706 (i : Nat) : lit0t0_706 i = oneAt 706 (i % 128) := (rfl : _ = pick4 (oneAt 706) (i % 128)).trans (pick4_mod _ i)
theorem ones707 (i : Nat) : lit0t0_707 i = oneAt 707 (i % 128) := (rfl : _ = pick4 (oneAt 707) (i % 128)).trans (pick4_mod _ i)
theorem ones708 (i : Nat) : lit0t0_708 i = oneAt 708 (i % 128) := (rfl : _ = pick4 (oneAt 708) (i % 128)).trans (pick4_mod _ i)
theorem ones709 (i : Nat) : lit0t0_709 i = oneAt 709 (i % 128) := (rfl : _ = pick4 (oneAt 709) (i % 128)).trans (pick4_mod _ i)
theorem ones710 (i : Nat) : lit0t0_710 i = oneAt 710 (i % 128) := (rfl : _ = pick4 (oneAt 710) (i % 128)).trans (pick4_mod _ i)
theorem ones711 (i : Nat) : lit0t0_711 i = oneAt 711 (i % 128) := (rfl : _ = pick4 (oneAt 711) (i % 128)).trans (pick4_mod _ i)
theorem ones712 (i : Nat) : lit0t0_712 i = oneAt 712 (i % 128) := (rfl : _ = pick4 (oneAt 712) (i % 128)).trans (pick4_mod _ i)
theorem ones713 (i : Nat) : lit0t0_713 i = oneAt 713 (i % 128) := (rfl : _ = pick4 (oneAt 713) (i % 128)).trans (pick4_mod _ i)
theorem ones714 (i : Nat) : lit0t0_714 i = oneAt 714 (i % 128) := (rfl : _ = pick4 (oneAt 714) (i % 128)).trans (pick4_mod _ i)
theorem ones715 (i : Nat) : lit0t0_715 i = oneAt 715 (i % 128) := (rfl : _ = pick4 (oneAt 715) (i % 128)).trans (pick4_mod _ i)
theorem ones716 (i : Nat) : lit0t0_716 i = oneAt 716 (i % 128) := (rfl : _ = pick4 (oneAt 716) (i % 128)).trans (pick4_mod _ i)
theorem ones717 (i : Nat) : lit0t0_717 i = oneAt 717 (i % 128) := (rfl : _ = pick4 (oneAt 717) (i % 128)).trans (pick4_mod _ i)
theorem ones718 (i : Nat) : lit0t0_718 i = oneAt 718 (i % 128) := (rfl : _ = pick4 (oneAt 718) (i % 128)).trans (pick4_mod _ i)
theorem ones719 (i : Nat) : lit0t0_719 i = oneAt 719 (i % 128) := (rfl : _ = pick4 (oneAt 719) (i % 128)).trans (pick4_mod _ i)
theorem ones720 (i : Nat) : lit0t0_720 i = oneAt 720 (i % 128) := (rfl : _ = pick4 (oneAt 720) (i % 128)).trans (pick4_mod _ i)
theorem ones721 (i : Nat) : lit0t0_721 i = oneAt 721 (i % 128) := (rfl : _ = pick4 (oneAt 721) (i % 128)).trans (pick4_mod _ i)
theorem ones722 (i : Nat) : lit0t0_722 i = oneAt 722 (i % 128) := (rfl : _ = pick4 (oneAt 722) (i % 128)).trans (pick4_mod _ i)
theorem ones723 (i : Nat) : lit0t0_723 i = oneAt 723 (i % 128) := (rfl : _ = pick4 (oneAt 723) (i % 128)).trans (pick4_mod _ i)
theorem ones724 (i : Nat) : lit0t0_724 i = oneAt 724 (i % 128) := (rfl : _ = pick4 (oneAt 724) (i % 128)).trans (pick4_mod _ i)
theorem ones725 (i : Nat) : lit0t0_725 i = oneAt 725 (i % 128) := (rfl : _ = pick4 (oneAt 725) (i % 128)).trans (pick4_mod _ i)
theorem ones726 (i : Nat) : lit0t0_726 i = oneAt 726 (i % 128) := (rfl : _ = pick4 (oneAt 726) (i % 128)).trans (pick4_mod _ i)
theorem ones727 (i : Nat) : lit0t0_727 i = oneAt 727 (i % 128) := (rfl : _ = pick4 (oneAt 727) (i % 128)).trans (pick4_mod _ i)
theorem ones728 (i : Nat) : lit0t0_728 i = oneAt 728 (i % 128) := (rfl : _ = pick4 (oneAt 728) (i % 128)).trans (pick4_mod _ i)
theorem ones729 (i : Nat) : lit0t0_729 i = oneAt 729 (i % 128) := (rfl : _ = pick4 (oneAt 729) (i % 128)).trans (pick4_mod _ i)
theorem ones730 (i : Nat) : lit0t0_730 i = oneAt 730 (i % 128) := (rfl : _ = pick4 (oneAt 730) (i % 128)).trans (pick4_mod _ i)
theorem ones731 (i : Nat) : lit0t0_731 i = oneAt 731 (i % 128) := (rfl : _ = pick4 (oneAt 731) (i % 128)).trans (pick4_mod _ i)
theorem ones732 (i : Nat) : lit0t0_732 i = oneAt 732 (i % 128) := (rfl : _ = pick4 (oneAt 732) (i % 128)).trans (pick4_mod _ i)
theorem ones733 (i : Nat) : lit0t0_733 i = oneAt 733 (i % 128) := (rfl : _ = pick4 (oneAt 733) (i % 128)).trans (pick4_mod _ i)
theorem ones734 (i : Nat) : lit0t0_734 i = oneAt 734 (i % 128) := (rfl : _ = pick4 (oneAt 734) (i % 128)).trans (pick4_mod _ i)
theorem ones735 (i : Nat) : lit0t0_735 i = oneAt 735 (i % 128) := (rfl : _ = pick4 (oneAt 735) (i % 128)).trans (pick4_mod _ i)
theorem ones736 (i : Nat) : lit0t0_736 i = oneAt 736 (i % 128) := (rfl : _ = pick4 (oneAt 736) (i % 128)).trans (pick4_mod _ i)
theorem ones737 (i : Nat) : lit0t0_737 i = oneAt 737 (i % 128) := (rfl : _ = pick4 (oneAt 737) (i % 128)).trans (pick4_mod _ i)
theorem ones738 (i : Nat) : lit0t0_738 i = oneAt 738 (i % 128) := (rfl : _ = pick4 (oneAt 738) (i % 128)).trans (pick4_mod _ i)
theorem ones739 (i : Nat) : lit0t0_739 i = oneAt 739 (i % 128) := (rfl : _ = pick4 (oneAt 739) (i % 128)).trans (pick4_mod _ i)
theorem ones740 (i : Nat) : lit0t0_740 i = oneAt 740 (i % 128) := (rfl : _ = pick4 (oneAt 740) (i % 128)).trans (pick4_mod _ i)
theorem ones741 (i : Nat) : lit0t0_741 i = oneAt 741 (i % 128) := (rfl : _ = pick4 (oneAt 741) (i % 128)).trans (pick4_mod _ i)
theorem ones742 (i : Nat) : lit0t0_742 i = oneAt 742 (i % 128) := (rfl : _ = pick4 (oneAt 742) (i % 128)).trans (pick4_mod _ i)
theorem ones743 (i : Nat) : lit0t0_743 i = oneAt 743 (i % 128) := (rfl : _ = pick4 (oneAt 743) (i % 128)).trans (pick4_mod _ i)
theorem ones744 (i : Nat) : lit0t0_744 i = oneAt 744 (i % 128) := (rfl : _ = pick4 (oneAt 744) (i % 128)).trans (pick4_mod _ i)
theorem ones745 (i : Nat) : lit0t0_745 i = oneAt 745 (i % 128) := (rfl : _ = pick4 (oneAt 745) (i % 128)).trans (pick4_mod _ i)
theorem ones746 (i : Nat) : lit0t0_746 i = oneAt 746 (i % 128) := (rfl : _ = pick4 (oneAt 746) (i % 128)).trans (pick4_mod _ i)
theorem ones747 (i : Nat) : lit0t0_747 i = oneAt 747 (i % 128) := (rfl : _ = pick4 (oneAt 747) (i % 128)).trans (pick4_mod _ i)
theorem ones748 (i : Nat) : lit0t0_748 i = oneAt 748 (i % 128) := (rfl : _ = pick4 (oneAt 748) (i % 128)).trans (pick4_mod _ i)
theorem ones749 (i : Nat) : lit0t0_749 i = oneAt 749 (i % 128) := (rfl : _ = pick4 (oneAt 749) (i % 128)).trans (pick4_mod _ i)
theorem ones750 (i : Nat) : lit0t0_750 i = oneAt 750 (i % 128) := (rfl : _ = pick4 (oneAt 750) (i % 128)).trans (pick4_mod _ i)
theorem ones751 (i : Nat) : lit0t0_751 i = oneAt 751 (i % 128) := (rfl : _ = pick4 (oneAt 751) (i % 128)).trans (pick4_mod _ i)
theorem ones752 (i : Nat) : lit0t0_752 i = oneAt 752 (i % 128) := (rfl : _ = pick4 (oneAt 752) (i % 128)).trans (pick4_mod _ i)
theorem ones753 (i : Nat) : lit0t0_753 i = oneAt 753 (i % 128) := (rfl : _ = pick4 (oneAt 753) (i % 128)).trans (pick4_mod _ i)
theorem ones754 (i : Nat) : lit0t0_754 i = oneAt 754 (i % 128) := (rfl : _ = pick4 (oneAt 754) (i % 128)).trans (pick4_mod _ i)
theorem ones755 (i : Nat) : lit0t0_755 i = oneAt 755 (i % 128) := (rfl : _ = pick4 (oneAt 755) (i % 128)).trans (pick4_mod _ i)
theorem ones756 (i : Nat) : lit0t0_756 i = oneAt 756 (i % 128) := (rfl : _ = pick4 (oneAt 756) (i % 128)).trans (pick4_mod _ i)
theorem ones757 (i : Nat) : lit0t0_757 i = oneAt 757 (i % 128) := (rfl : _ = pick4 (oneAt 757) (i % 128)).trans (pick4_mod _ i)
theorem ones758 (i : Nat) : lit0t0_758 i = oneAt 758 (i % 128) := (rfl : _ = pick4 (oneAt 758) (i % 128)).trans (pick4_mod _ i)
theorem ones759 (i : Nat) : lit0t0_759 i = oneAt 759 (i % 128) := (rfl : _ = pick4 (oneAt 759) (i % 128)).trans (pick4_mod _ i)
theorem ones760 (i : Nat) : lit0t0_760 i = oneAt 760 (i % 128) := (rfl : _ = pick4 (oneAt 760) (i % 128)).trans (pick4_mod _ i)
theorem ones761 (i : Nat) : lit0t0_761 i = oneAt 761 (i % 128) := (rfl : _ = pick4 (oneAt 761) (i % 128)).trans (pick4_mod _ i)
theorem ones762 (i : Nat) : lit0t0_762 i = oneAt 762 (i % 128) := (rfl : _ = pick4 (oneAt 762) (i % 128)).trans (pick4_mod _ i)
theorem ones763 (i : Nat) : lit0t0_763 i = oneAt 763 (i % 128) := (rfl : _ = pick4 (oneAt 763) (i % 128)).trans (pick4_mod _ i)
theorem ones764 (i : Nat) : lit0t0_764 i = oneAt 764 (i % 128) := (rfl : _ = pick4 (oneAt 764) (i % 128)).trans (pick4_mod _ i)
theorem ones765 (i : Nat) : lit0t0_765 i = oneAt 765 (i % 128) := (rfl : _ = pick4 (oneAt 765) (i % 128)).trans (pick4_mod _ i)
theorem ones766 (i : Nat) : lit0t0_766 i = oneAt 766 (i % 128) := (rfl : _ = pick4 (oneAt 766) (i % 128)).trans (pick4_mod _ i)
theorem ones767 (i : Nat) : lit0t0_767 i = oneAt 767 (i % 128) := (rfl : _ = pick4 (oneAt 767) (i % 128)).trans (pick4_mod _ i)
theorem ones768 (i : Nat) : lit0t0_768 i = oneAt 768 (i % 128) := (rfl : _ = pick4 (oneAt 768) (i % 128)).trans (pick4_mod _ i)
theorem ones769 (i : Nat) : lit0t0_769 i = oneAt 769 (i % 128) := (rfl : _ = pick4 (oneAt 769) (i % 128)).trans (pick4_mod _ i)
theorem ones770 (i : Nat) : lit0t0_770 i = oneAt 770 (i % 128) := (rfl : _ = pick4 (oneAt 770) (i % 128)).trans (pick4_mod _ i)
theorem ones771 (i : Nat) : lit0t0_771 i = oneAt 771 (i % 128) := (rfl : _ = pick4 (oneAt 771) (i % 128)).trans (pick4_mod _ i)
theorem ones772 (i : Nat) : lit0t0_772 i = oneAt 772 (i % 128) := (rfl : _ = pick4 (oneAt 772) (i % 128)).trans (pick4_mod _ i)
theorem ones773 (i : Nat) : lit0t0_773 i = oneAt 773 (i % 128) := (rfl : _ = pick4 (oneAt 773) (i % 128)).trans (pick4_mod _ i)
theorem ones774 (i : Nat) : lit0t0_774 i = oneAt 774 (i % 128) := (rfl : _ = pick4 (oneAt 774) (i % 128)).trans (pick4_mod _ i)
theorem ones775 (i : Nat) : lit0t0_775 i = oneAt 775 (i % 128) := (rfl : _ = pick4 (oneAt 775) (i % 128)).trans (pick4_mod _ i)
theorem ones776 (i : Nat) : lit0t0_776 i = oneAt 776 (i % 128) := (rfl : _ = pick4 (oneAt 776) (i % 128)).trans (pick4_mod _ i)

end Cert.Attn

end
-- ==== Proof.Ones5.lean ====
/-
  Rows 777 to 971 of the table of ones, 128 entries each.
-/
module

public import proofs.«01_k».proof.KernelIdeal.P05
public import proofs.«01_k».proof.Proof.Entries

@[expose] public section

noncomputable section

namespace Cert.Attn

open Cert.KernelIdeal

/-- The choice by a number below 128 that these rows are written with. -/
def pick5 (f : Nat → BitVec 32) (r : Nat) : BitVec 32 :=
  lit0t0_777.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick5_eq (f : Nat → BitVec 32) (r : Nat) (hr : r < 128) : pick5 f r = f r := by
  interval_cases r <;> rfl

/-- It chooses by a remainder. -/
theorem pick5_mod (f : Nat → BitVec 32) (i : Nat) : pick5 f (i % 128) = f (i % 128) :=
  pick5_eq f _ (Nat.mod_lt _ (by decide))

theorem ones777 (i : Nat) : lit0t0_777 i = oneAt 777 (i % 128) := (rfl : _ = pick5 (oneAt 777) (i % 128)).trans (pick5_mod _ i)
theorem ones778 (i : Nat) : lit0t0_778 i = oneAt 778 (i % 128) := (rfl : _ = pick5 (oneAt 778) (i % 128)).trans (pick5_mod _ i)
theorem ones779 (i : Nat) : lit0t0_779 i = oneAt 779 (i % 128) := (rfl : _ = pick5 (oneAt 779) (i % 128)).trans (pick5_mod _ i)
theorem ones780 (i : Nat) : lit0t0_780 i = oneAt 780 (i % 128) := (rfl : _ = pick5 (oneAt 780) (i % 128)).trans (pick5_mod _ i)
theorem ones781 (i : Nat) : lit0t0_781 i = oneAt 781 (i % 128) := (rfl : _ = pick5 (oneAt 781) (i % 128)).trans (pick5_mod _ i)
theorem ones782 (i : Nat) : lit0t0_782 i = oneAt 782 (i % 128) := (rfl : _ = pick5 (oneAt 782) (i % 128)).trans (pick5_mod _ i)
theorem ones783 (i : Nat) : lit0t0_783 i = oneAt 783 (i % 128) := (rfl : _ = pick5 (oneAt 783) (i % 128)).trans (pick5_mod _ i)
theorem ones784 (i : Nat) : lit0t0_784 i = oneAt 784 (i % 128) := (rfl : _ = pick5 (oneAt 784) (i % 128)).trans (pick5_mod _ i)
theorem ones785 (i : Nat) : lit0t0_785 i = oneAt 785 (i % 128) := (rfl : _ = pick5 (oneAt 785) (i % 128)).trans (pick5_mod _ i)
theorem ones786 (i : Nat) : lit0t0_786 i = oneAt 786 (i % 128) := (rfl : _ = pick5 (oneAt 786) (i % 128)).trans (pick5_mod _ i)
theorem ones787 (i : Nat) : lit0t0_787 i = oneAt 787 (i % 128) := (rfl : _ = pick5 (oneAt 787) (i % 128)).trans (pick5_mod _ i)
theorem ones788 (i : Nat) : lit0t0_788 i = oneAt 788 (i % 128) := (rfl : _ = pick5 (oneAt 788) (i % 128)).trans (pick5_mod _ i)
theorem ones789 (i : Nat) : lit0t0_789 i = oneAt 789 (i % 128) := (rfl : _ = pick5 (oneAt 789) (i % 128)).trans (pick5_mod _ i)
theorem ones790 (i : Nat) : lit0t0_790 i = oneAt 790 (i % 128) := (rfl : _ = pick5 (oneAt 790) (i % 128)).trans (pick5_mod _ i)
theorem ones791 (i : Nat) : lit0t0_791 i = oneAt 791 (i % 128) := (rfl : _ = pick5 (oneAt 791) (i % 128)).trans (pick5_mod _ i)
theorem ones792 (i : Nat) : lit0t0_792 i = oneAt 792 (i % 128) := (rfl : _ = pick5 (oneAt 792) (i % 128)).trans (pick5_mod _ i)
theorem ones793 (i : Nat) : lit0t0_793 i = oneAt 793 (i % 128) := (rfl : _ = pick5 (oneAt 793) (i % 128)).trans (pick5_mod _ i)
theorem ones794 (i : Nat) : lit0t0_794 i = oneAt 794 (i % 128) := (rfl : _ = pick5 (oneAt 794) (i % 128)).trans (pick5_mod _ i)
theorem ones795 (i : Nat) : lit0t0_795 i = oneAt 795 (i % 128) := (rfl : _ = pick5 (oneAt 795) (i % 128)).trans (pick5_mod _ i)
theorem ones796 (i : Nat) : lit0t0_796 i = oneAt 796 (i % 128) := (rfl : _ = pick5 (oneAt 796) (i % 128)).trans (pick5_mod _ i)
theorem ones797 (i : Nat) : lit0t0_797 i = oneAt 797 (i % 128) := (rfl : _ = pick5 (oneAt 797) (i % 128)).trans (pick5_mod _ i)
theorem ones798 (i : Nat) : lit0t0_798 i = oneAt 798 (i % 128) := (rfl : _ = pick5 (oneAt 798) (i % 128)).trans (pick5_mod _ i)
theorem ones799 (i : Nat) : lit0t0_799 i = oneAt 799 (i % 128) := (rfl : _ = pick5 (oneAt 799) (i % 128)).trans (pick5_mod _ i)
theorem ones800 (i : Nat) : lit0t0_800 i = oneAt 800 (i % 128) := (rfl : _ = pick5 (oneAt 800) (i % 128)).trans (pick5_mod _ i)
theorem ones801 (i : Nat) : lit0t0_801 i = oneAt 801 (i % 128) := (rfl : _ = pick5 (oneAt 801) (i % 128)).trans (pick5_mod _ i)
theorem ones802 (i : Nat) : lit0t0_802 i = oneAt 802 (i % 128) := (rfl : _ = pick5 (oneAt 802) (i % 128)).trans (pick5_mod _ i)
theorem ones803 (i : Nat) : lit0t0_803 i = oneAt 803 (i % 128) := (rfl : _ = pick5 (oneAt 803) (i % 128)).trans (pick5_mod _ i)
theorem ones804 (i : Nat) : lit0t0_804 i = oneAt 804 (i % 128) := (rfl : _ = pick5 (oneAt 804) (i % 128)).trans (pick5_mod _ i)
theorem ones805 (i : Nat) : lit0t0_805 i = oneAt 805 (i % 128) := (rfl : _ = pick5 (oneAt 805) (i % 128)).trans (pick5_mod _ i)
theorem ones806 (i : Nat) : lit0t0_806 i = oneAt 806 (i % 128) := (rfl : _ = pick5 (oneAt 806) (i % 128)).trans (pick5_mod _ i)
theorem ones807 (i : Nat) : lit0t0_807 i = oneAt 807 (i % 128) := (rfl : _ = pick5 (oneAt 807) (i % 128)).trans (pick5_mod _ i)
theorem ones808 (i : Nat) : lit0t0_808 i = oneAt 808 (i % 128) := (rfl : _ = pick5 (oneAt 808) (i % 128)).trans (pick5_mod _ i)
theorem ones809 (i : Nat) : lit0t0_809 i = oneAt 809 (i % 128) := (rfl : _ = pick5 (oneAt 809) (i % 128)).trans (pick5_mod _ i)
theorem ones810 (i : Nat) : lit0t0_810 i = oneAt 810 (i % 128) := (rfl : _ = pick5 (oneAt 810) (i % 128)).trans (pick5_mod _ i)
theorem ones811 (i : Nat) : lit0t0_811 i = oneAt 811 (i % 128) := (rfl : _ = pick5 (oneAt 811) (i % 128)).trans (pick5_mod _ i)
theorem ones812 (i : Nat) : lit0t0_812 i = oneAt 812 (i % 128) := (rfl : _ = pick5 (oneAt 812) (i % 128)).trans (pick5_mod _ i)
theorem ones813 (i : Nat) : lit0t0_813 i = oneAt 813 (i % 128) := (rfl : _ = pick5 (oneAt 813) (i % 128)).trans (pick5_mod _ i)
theorem ones814 (i : Nat) : lit0t0_814 i = oneAt 814 (i % 128) := (rfl : _ = pick5 (oneAt 814) (i % 128)).trans (pick5_mod _ i)
theorem ones815 (i : Nat) : lit0t0_815 i = oneAt 815 (i % 128) := (rfl : _ = pick5 (oneAt 815) (i % 128)).trans (pick5_mod _ i)
theorem ones816 (i : Nat) : lit0t0_816 i = oneAt 816 (i % 128) := (rfl : _ = pick5 (oneAt 816) (i % 128)).trans (pick5_mod _ i)
theorem ones817 (i : Nat) : lit0t0_817 i = oneAt 817 (i % 128) := (rfl : _ = pick5 (oneAt 817) (i % 128)).trans (pick5_mod _ i)
theorem ones818 (i : Nat) : lit0t0_818 i = oneAt 818 (i % 128) := (rfl : _ = pick5 (oneAt 818) (i % 128)).trans (pick5_mod _ i)
theorem ones819 (i : Nat) : lit0t0_819 i = oneAt 819 (i % 128) := (rfl : _ = pick5 (oneAt 819) (i % 128)).trans (pick5_mod _ i)
theorem ones820 (i : Nat) : lit0t0_820 i = oneAt 820 (i % 128) := (rfl : _ = pick5 (oneAt 820) (i % 128)).trans (pick5_mod _ i)
theorem ones821 (i : Nat) : lit0t0_821 i = oneAt 821 (i % 128) := (rfl : _ = pick5 (oneAt 821) (i % 128)).trans (pick5_mod _ i)
theorem ones822 (i : Nat) : lit0t0_822 i = oneAt 822 (i % 128) := (rfl : _ = pick5 (oneAt 822) (i % 128)).trans (pick5_mod _ i)
theorem ones823 (i : Nat) : lit0t0_823 i = oneAt 823 (i % 128) := (rfl : _ = pick5 (oneAt 823) (i % 128)).trans (pick5_mod _ i)
theorem ones824 (i : Nat) : lit0t0_824 i = oneAt 824 (i % 128) := (rfl : _ = pick5 (oneAt 824) (i % 128)).trans (pick5_mod _ i)
theorem ones825 (i : Nat) : lit0t0_825 i = oneAt 825 (i % 128) := (rfl : _ = pick5 (oneAt 825) (i % 128)).trans (pick5_mod _ i)
theorem ones826 (i : Nat) : lit0t0_826 i = oneAt 826 (i % 128) := (rfl : _ = pick5 (oneAt 826) (i % 128)).trans (pick5_mod _ i)
theorem ones827 (i : Nat) : lit0t0_827 i = oneAt 827 (i % 128) := (rfl : _ = pick5 (oneAt 827) (i % 128)).trans (pick5_mod _ i)
theorem ones828 (i : Nat) : lit0t0_828 i = oneAt 828 (i % 128) := (rfl : _ = pick5 (oneAt 828) (i % 128)).trans (pick5_mod _ i)
theorem ones829 (i : Nat) : lit0t0_829 i = oneAt 829 (i % 128) := (rfl : _ = pick5 (oneAt 829) (i % 128)).trans (pick5_mod _ i)
theorem ones830 (i : Nat) : lit0t0_830 i = oneAt 830 (i % 128) := (rfl : _ = pick5 (oneAt 830) (i % 128)).trans (pick5_mod _ i)
theorem ones831 (i : Nat) : lit0t0_831 i = oneAt 831 (i % 128) := (rfl : _ = pick5 (oneAt 831) (i % 128)).trans (pick5_mod _ i)
theorem ones832 (i : Nat) : lit0t0_832 i = oneAt 832 (i % 128) := (rfl : _ = pick5 (oneAt 832) (i % 128)).trans (pick5_mod _ i)
theorem ones833 (i : Nat) : lit0t0_833 i = oneAt 833 (i % 128) := (rfl : _ = pick5 (oneAt 833) (i % 128)).trans (pick5_mod _ i)
theorem ones834 (i : Nat) : lit0t0_834 i = oneAt 834 (i % 128) := (rfl : _ = pick5 (oneAt 834) (i % 128)).trans (pick5_mod _ i)
theorem ones835 (i : Nat) : lit0t0_835 i = oneAt 835 (i % 128) := (rfl : _ = pick5 (oneAt 835) (i % 128)).trans (pick5_mod _ i)
theorem ones836 (i : Nat) : lit0t0_836 i = oneAt 836 (i % 128) := (rfl : _ = pick5 (oneAt 836) (i % 128)).trans (pick5_mod _ i)
theorem ones837 (i : Nat) : lit0t0_837 i = oneAt 837 (i % 128) := (rfl : _ = pick5 (oneAt 837) (i % 128)).trans (pick5_mod _ i)
theorem ones838 (i : Nat) : lit0t0_838 i = oneAt 838 (i % 128) := (rfl : _ = pick5 (oneAt 838) (i % 128)).trans (pick5_mod _ i)
theorem ones839 (i : Nat) : lit0t0_839 i = oneAt 839 (i % 128) := (rfl : _ = pick5 (oneAt 839) (i % 128)).trans (pick5_mod _ i)
theorem ones840 (i : Nat) : lit0t0_840 i = oneAt 840 (i % 128) := (rfl : _ = pick5 (oneAt 840) (i % 128)).trans (pick5_mod _ i)
theorem ones841 (i : Nat) : lit0t0_841 i = oneAt 841 (i % 128) := (rfl : _ = pick5 (oneAt 841) (i % 128)).trans (pick5_mod _ i)
theorem ones842 (i : Nat) : lit0t0_842 i = oneAt 842 (i % 128) := (rfl : _ = pick5 (oneAt 842) (i % 128)).trans (pick5_mod _ i)
theorem ones843 (i : Nat) : lit0t0_843 i = oneAt 843 (i % 128) := (rfl : _ = pick5 (oneAt 843) (i % 128)).trans (pick5_mod _ i)
theorem ones844 (i : Nat) : lit0t0_844 i = oneAt 844 (i % 128) := (rfl : _ = pick5 (oneAt 844) (i % 128)).trans (pick5_mod _ i)
theorem ones845 (i : Nat) : lit0t0_845 i = oneAt 845 (i % 128) := (rfl : _ = pick5 (oneAt 845) (i % 128)).trans (pick5_mod _ i)
theorem ones846 (i : Nat) : lit0t0_846 i = oneAt 846 (i % 128) := (rfl : _ = pick5 (oneAt 846) (i % 128)).trans (pick5_mod _ i)
theorem ones847 (i : Nat) : lit0t0_847 i = oneAt 847 (i % 128) := (rfl : _ = pick5 (oneAt 847) (i % 128)).trans (pick5_mod _ i)
theorem ones848 (i : Nat) : lit0t0_848 i = oneAt 848 (i % 128) := (rfl : _ = pick5 (oneAt 848) (i % 128)).trans (pick5_mod _ i)
theorem ones849 (i : Nat) : lit0t0_849 i = oneAt 849 (i % 128) := (rfl : _ = pick5 (oneAt 849) (i % 128)).trans (pick5_mod _ i)
theorem ones850 (i : Nat) : lit0t0_850 i = oneAt 850 (i % 128) := (rfl : _ = pick5 (oneAt 850) (i % 128)).trans (pick5_mod _ i)
theorem ones851 (i : Nat) : lit0t0_851 i = oneAt 851 (i % 128) := (rfl : _ = pick5 (oneAt 851) (i % 128)).trans (pick5_mod _ i)
theorem ones852 (i : Nat) : lit0t0_852 i = oneAt 852 (i % 128) := (rfl : _ = pick5 (oneAt 852) (i % 128)).trans (pick5_mod _ i)
theorem ones853 (i : Nat) : lit0t0_853 i = oneAt 853 (i % 128) := (rfl : _ = pick5 (oneAt 853) (i % 128)).trans (pick5_mod _ i)
theorem ones854 (i : Nat) : lit0t0_854 i = oneAt 854 (i % 128) := (rfl : _ = pick5 (oneAt 854) (i % 128)).trans (pick5_mod _ i)
theorem ones855 (i : Nat) : lit0t0_855 i = oneAt 855 (i % 128) := (rfl : _ = pick5 (oneAt 855) (i % 128)).trans (pick5_mod _ i)
theorem ones856 (i : Nat) : lit0t0_856 i = oneAt 856 (i % 128) := (rfl : _ = pick5 (oneAt 856) (i % 128)).trans (pick5_mod _ i)
theorem ones857 (i : Nat) : lit0t0_857 i = oneAt 857 (i % 128) := (rfl : _ = pick5 (oneAt 857) (i % 128)).trans (pick5_mod _ i)
theorem ones858 (i : Nat) : lit0t0_858 i = oneAt 858 (i % 128) := (rfl : _ = pick5 (oneAt 858) (i % 128)).trans (pick5_mod _ i)
theorem ones859 (i : Nat) : lit0t0_859 i = oneAt 859 (i % 128) := (rfl : _ = pick5 (oneAt 859) (i % 128)).trans (pick5_mod _ i)
theorem ones860 (i : Nat) : lit0t0_860 i = oneAt 860 (i % 128) := (rfl : _ = pick5 (oneAt 860) (i % 128)).trans (pick5_mod _ i)
theorem ones861 (i : Nat) : lit0t0_861 i = oneAt 861 (i % 128) := (rfl : _ = pick5 (oneAt 861) (i % 128)).trans (pick5_mod _ i)
theorem ones862 (i : Nat) : lit0t0_862 i = oneAt 862 (i % 128) := (rfl : _ = pick5 (oneAt 862) (i % 128)).trans (pick5_mod _ i)
theorem ones863 (i : Nat) : lit0t0_863 i = oneAt 863 (i % 128) := (rfl : _ = pick5 (oneAt 863) (i % 128)).trans (pick5_mod _ i)
theorem ones864 (i : Nat) : lit0t0_864 i = oneAt 864 (i % 128) := (rfl : _ = pick5 (oneAt 864) (i % 128)).trans (pick5_mod _ i)
theorem ones865 (i : Nat) : lit0t0_865 i = oneAt 865 (i % 128) := (rfl : _ = pick5 (oneAt 865) (i % 128)).trans (pick5_mod _ i)
theorem ones866 (i : Nat) : lit0t0_866 i = oneAt 866 (i % 128) := (rfl : _ = pick5 (oneAt 866) (i % 128)).trans (pick5_mod _ i)
theorem ones867 (i : Nat) : lit0t0_867 i = oneAt 867 (i % 128) := (rfl : _ = pick5 (oneAt 867) (i % 128)).trans (pick5_mod _ i)
theorem ones868 (i : Nat) : lit0t0_868 i = oneAt 868 (i % 128) := (rfl : _ = pick5 (oneAt 868) (i % 128)).trans (pick5_mod _ i)
theorem ones869 (i : Nat) : lit0t0_869 i = oneAt 869 (i % 128) := (rfl : _ = pick5 (oneAt 869) (i % 128)).trans (pick5_mod _ i)
theorem ones870 (i : Nat) : lit0t0_870 i = oneAt 870 (i % 128) := (rfl : _ = pick5 (oneAt 870) (i % 128)).trans (pick5_mod _ i)
theorem ones871 (i : Nat) : lit0t0_871 i = oneAt 871 (i % 128) := (rfl : _ = pick5 (oneAt 871) (i % 128)).trans (pick5_mod _ i)
theorem ones872 (i : Nat) : lit0t0_872 i = oneAt 872 (i % 128) := (rfl : _ = pick5 (oneAt 872) (i % 128)).trans (pick5_mod _ i)
theorem ones873 (i : Nat) : lit0t0_873 i = oneAt 873 (i % 128) := (rfl : _ = pick5 (oneAt 873) (i % 128)).trans (pick5_mod _ i)
theorem ones874 (i : Nat) : lit0t0_874 i = oneAt 874 (i % 128) := (rfl : _ = pick5 (oneAt 874) (i % 128)).trans (pick5_mod _ i)
theorem ones875 (i : Nat) : lit0t0_875 i = oneAt 875 (i % 128) := (rfl : _ = pick5 (oneAt 875) (i % 128)).trans (pick5_mod _ i)
theorem ones876 (i : Nat) : lit0t0_876 i = oneAt 876 (i % 128) := (rfl : _ = pick5 (oneAt 876) (i % 128)).trans (pick5_mod _ i)
theorem ones877 (i : Nat) : lit0t0_877 i = oneAt 877 (i % 128) := (rfl : _ = pick5 (oneAt 877) (i % 128)).trans (pick5_mod _ i)
theorem ones878 (i : Nat) : lit0t0_878 i = oneAt 878 (i % 128) := (rfl : _ = pick5 (oneAt 878) (i % 128)).trans (pick5_mod _ i)
theorem ones879 (i : Nat) : lit0t0_879 i = oneAt 879 (i % 128) := (rfl : _ = pick5 (oneAt 879) (i % 128)).trans (pick5_mod _ i)
theorem ones880 (i : Nat) : lit0t0_880 i = oneAt 880 (i % 128) := (rfl : _ = pick5 (oneAt 880) (i % 128)).trans (pick5_mod _ i)
theorem ones881 (i : Nat) : lit0t0_881 i = oneAt 881 (i % 128) := (rfl : _ = pick5 (oneAt 881) (i % 128)).trans (pick5_mod _ i)
theorem ones882 (i : Nat) : lit0t0_882 i = oneAt 882 (i % 128) := (rfl : _ = pick5 (oneAt 882) (i % 128)).trans (pick5_mod _ i)
theorem ones883 (i : Nat) : lit0t0_883 i = oneAt 883 (i % 128) := (rfl : _ = pick5 (oneAt 883) (i % 128)).trans (pick5_mod _ i)
theorem ones884 (i : Nat) : lit0t0_884 i = oneAt 884 (i % 128) := (rfl : _ = pick5 (oneAt 884) (i % 128)).trans (pick5_mod _ i)
theorem ones885 (i : Nat) : lit0t0_885 i = oneAt 885 (i % 128) := (rfl : _ = pick5 (oneAt 885) (i % 128)).trans (pick5_mod _ i)
theorem ones886 (i : Nat) : lit0t0_886 i = oneAt 886 (i % 128) := (rfl : _ = pick5 (oneAt 886) (i % 128)).trans (pick5_mod _ i)
theorem ones887 (i : Nat) : lit0t0_887 i = oneAt 887 (i % 128) := (rfl : _ = pick5 (oneAt 887) (i % 128)).trans (pick5_mod _ i)
theorem ones888 (i : Nat) : lit0t0_888 i = oneAt 888 (i % 128) := (rfl : _ = pick5 (oneAt 888) (i % 128)).trans (pick5_mod _ i)
theorem ones889 (i : Nat) : lit0t0_889 i = oneAt 889 (i % 128) := (rfl : _ = pick5 (oneAt 889) (i % 128)).trans (pick5_mod _ i)
theorem ones890 (i : Nat) : lit0t0_890 i = oneAt 890 (i % 128) := (rfl : _ = pick5 (oneAt 890) (i % 128)).trans (pick5_mod _ i)
theorem ones891 (i : Nat) : lit0t0_891 i = oneAt 891 (i % 128) := (rfl : _ = pick5 (oneAt 891) (i % 128)).trans (pick5_mod _ i)
theorem ones892 (i : Nat) : lit0t0_892 i = oneAt 892 (i % 128) := (rfl : _ = pick5 (oneAt 892) (i % 128)).trans (pick5_mod _ i)
theorem ones893 (i : Nat) : lit0t0_893 i = oneAt 893 (i % 128) := (rfl : _ = pick5 (oneAt 893) (i % 128)).trans (pick5_mod _ i)
theorem ones894 (i : Nat) : lit0t0_894 i = oneAt 894 (i % 128) := (rfl : _ = pick5 (oneAt 894) (i % 128)).trans (pick5_mod _ i)
theorem ones895 (i : Nat) : lit0t0_895 i = oneAt 895 (i % 128) := (rfl : _ = pick5 (oneAt 895) (i % 128)).trans (pick5_mod _ i)
theorem ones896 (i : Nat) : lit0t0_896 i = oneAt 896 (i % 128) := (rfl : _ = pick5 (oneAt 896) (i % 128)).trans (pick5_mod _ i)
theorem ones897 (i : Nat) : lit0t0_897 i = oneAt 897 (i % 128) := (rfl : _ = pick5 (oneAt 897) (i % 128)).trans (pick5_mod _ i)
theorem ones898 (i : Nat) : lit0t0_898 i = oneAt 898 (i % 128) := (rfl : _ = pick5 (oneAt 898) (i % 128)).trans (pick5_mod _ i)
theorem ones899 (i : Nat) : lit0t0_899 i = oneAt 899 (i % 128) := (rfl : _ = pick5 (oneAt 899) (i % 128)).trans (pick5_mod _ i)
theorem ones900 (i : Nat) : lit0t0_900 i = oneAt 900 (i % 128) := (rfl : _ = pick5 (oneAt 900) (i % 128)).trans (pick5_mod _ i)
theorem ones901 (i : Nat) : lit0t0_901 i = oneAt 901 (i % 128) := (rfl : _ = pick5 (oneAt 901) (i % 128)).trans (pick5_mod _ i)
theorem ones902 (i : Nat) : lit0t0_902 i = oneAt 902 (i % 128) := (rfl : _ = pick5 (oneAt 902) (i % 128)).trans (pick5_mod _ i)
theorem ones903 (i : Nat) : lit0t0_903 i = oneAt 903 (i % 128) := (rfl : _ = pick5 (oneAt 903) (i % 128)).trans (pick5_mod _ i)
theorem ones904 (i : Nat) : lit0t0_904 i = oneAt 904 (i % 128) := (rfl : _ = pick5 (oneAt 904) (i % 128)).trans (pick5_mod _ i)
theorem ones905 (i : Nat) : lit0t0_905 i = oneAt 905 (i % 128) := (rfl : _ = pick5 (oneAt 905) (i % 128)).trans (pick5_mod _ i)
theorem ones906 (i : Nat) : lit0t0_906 i = oneAt 906 (i % 128) := (rfl : _ = pick5 (oneAt 906) (i % 128)).trans (pick5_mod _ i)
theorem ones907 (i : Nat) : lit0t0_907 i = oneAt 907 (i % 128) := (rfl : _ = pick5 (oneAt 907) (i % 128)).trans (pick5_mod _ i)
theorem ones908 (i : Nat) : lit0t0_908 i = oneAt 908 (i % 128) := (rfl : _ = pick5 (oneAt 908) (i % 128)).trans (pick5_mod _ i)
theorem ones909 (i : Nat) : lit0t0_909 i = oneAt 909 (i % 128) := (rfl : _ = pick5 (oneAt 909) (i % 128)).trans (pick5_mod _ i)
theorem ones910 (i : Nat) : lit0t0_910 i = oneAt 910 (i % 128) := (rfl : _ = pick5 (oneAt 910) (i % 128)).trans (pick5_mod _ i)
theorem ones911 (i : Nat) : lit0t0_911 i = oneAt 911 (i % 128) := (rfl : _ = pick5 (oneAt 911) (i % 128)).trans (pick5_mod _ i)
theorem ones912 (i : Nat) : lit0t0_912 i = oneAt 912 (i % 128) := (rfl : _ = pick5 (oneAt 912) (i % 128)).trans (pick5_mod _ i)
theorem ones913 (i : Nat) : lit0t0_913 i = oneAt 913 (i % 128) := (rfl : _ = pick5 (oneAt 913) (i % 128)).trans (pick5_mod _ i)
theorem ones914 (i : Nat) : lit0t0_914 i = oneAt 914 (i % 128) := (rfl : _ = pick5 (oneAt 914) (i % 128)).trans (pick5_mod _ i)
theorem ones915 (i : Nat) : lit0t0_915 i = oneAt 915 (i % 128) := (rfl : _ = pick5 (oneAt 915) (i % 128)).trans (pick5_mod _ i)
theorem ones916 (i : Nat) : lit0t0_916 i = oneAt 916 (i % 128) := (rfl : _ = pick5 (oneAt 916) (i % 128)).trans (pick5_mod _ i)
theorem ones917 (i : Nat) : lit0t0_917 i = oneAt 917 (i % 128) := (rfl : _ = pick5 (oneAt 917) (i % 128)).trans (pick5_mod _ i)
theorem ones918 (i : Nat) : lit0t0_918 i = oneAt 918 (i % 128) := (rfl : _ = pick5 (oneAt 918) (i % 128)).trans (pick5_mod _ i)
theorem ones919 (i : Nat) : lit0t0_919 i = oneAt 919 (i % 128) := (rfl : _ = pick5 (oneAt 919) (i % 128)).trans (pick5_mod _ i)
theorem ones920 (i : Nat) : lit0t0_920 i = oneAt 920 (i % 128) := (rfl : _ = pick5 (oneAt 920) (i % 128)).trans (pick5_mod _ i)
theorem ones921 (i : Nat) : lit0t0_921 i = oneAt 921 (i % 128) := (rfl : _ = pick5 (oneAt 921) (i % 128)).trans (pick5_mod _ i)
theorem ones922 (i : Nat) : lit0t0_922 i = oneAt 922 (i % 128) := (rfl : _ = pick5 (oneAt 922) (i % 128)).trans (pick5_mod _ i)
theorem ones923 (i : Nat) : lit0t0_923 i = oneAt 923 (i % 128) := (rfl : _ = pick5 (oneAt 923) (i % 128)).trans (pick5_mod _ i)
theorem ones924 (i : Nat) : lit0t0_924 i = oneAt 924 (i % 128) := (rfl : _ = pick5 (oneAt 924) (i % 128)).trans (pick5_mod _ i)
theorem ones925 (i : Nat) : lit0t0_925 i = oneAt 925 (i % 128) := (rfl : _ = pick5 (oneAt 925) (i % 128)).trans (pick5_mod _ i)
theorem ones926 (i : Nat) : lit0t0_926 i = oneAt 926 (i % 128) := (rfl : _ = pick5 (oneAt 926) (i % 128)).trans (pick5_mod _ i)
theorem ones927 (i : Nat) : lit0t0_927 i = oneAt 927 (i % 128) := (rfl : _ = pick5 (oneAt 927) (i % 128)).trans (pick5_mod _ i)
theorem ones928 (i : Nat) : lit0t0_928 i = oneAt 928 (i % 128) := (rfl : _ = pick5 (oneAt 928) (i % 128)).trans (pick5_mod _ i)
theorem ones929 (i : Nat) : lit0t0_929 i = oneAt 929 (i % 128) := (rfl : _ = pick5 (oneAt 929) (i % 128)).trans (pick5_mod _ i)
theorem ones930 (i : Nat) : lit0t0_930 i = oneAt 930 (i % 128) := (rfl : _ = pick5 (oneAt 930) (i % 128)).trans (pick5_mod _ i)
theorem ones931 (i : Nat) : lit0t0_931 i = oneAt 931 (i % 128) := (rfl : _ = pick5 (oneAt 931) (i % 128)).trans (pick5_mod _ i)
theorem ones932 (i : Nat) : lit0t0_932 i = oneAt 932 (i % 128) := (rfl : _ = pick5 (oneAt 932) (i % 128)).trans (pick5_mod _ i)
theorem ones933 (i : Nat) : lit0t0_933 i = oneAt 933 (i % 128) := (rfl : _ = pick5 (oneAt 933) (i % 128)).trans (pick5_mod _ i)
theorem ones934 (i : Nat) : lit0t0_934 i = oneAt 934 (i % 128) := (rfl : _ = pick5 (oneAt 934) (i % 128)).trans (pick5_mod _ i)
theorem ones935 (i : Nat) : lit0t0_935 i = oneAt 935 (i % 128) := (rfl : _ = pick5 (oneAt 935) (i % 128)).trans (pick5_mod _ i)
theorem ones936 (i : Nat) : lit0t0_936 i = oneAt 936 (i % 128) := (rfl : _ = pick5 (oneAt 936) (i % 128)).trans (pick5_mod _ i)
theorem ones937 (i : Nat) : lit0t0_937 i = oneAt 937 (i % 128) := (rfl : _ = pick5 (oneAt 937) (i % 128)).trans (pick5_mod _ i)
theorem ones938 (i : Nat) : lit0t0_938 i = oneAt 938 (i % 128) := (rfl : _ = pick5 (oneAt 938) (i % 128)).trans (pick5_mod _ i)
theorem ones939 (i : Nat) : lit0t0_939 i = oneAt 939 (i % 128) := (rfl : _ = pick5 (oneAt 939) (i % 128)).trans (pick5_mod _ i)
theorem ones940 (i : Nat) : lit0t0_940 i = oneAt 940 (i % 128) := (rfl : _ = pick5 (oneAt 940) (i % 128)).trans (pick5_mod _ i)
theorem ones941 (i : Nat) : lit0t0_941 i = oneAt 941 (i % 128) := (rfl : _ = pick5 (oneAt 941) (i % 128)).trans (pick5_mod _ i)
theorem ones942 (i : Nat) : lit0t0_942 i = oneAt 942 (i % 128) := (rfl : _ = pick5 (oneAt 942) (i % 128)).trans (pick5_mod _ i)
theorem ones943 (i : Nat) : lit0t0_943 i = oneAt 943 (i % 128) := (rfl : _ = pick5 (oneAt 943) (i % 128)).trans (pick5_mod _ i)
theorem ones944 (i : Nat) : lit0t0_944 i = oneAt 944 (i % 128) := (rfl : _ = pick5 (oneAt 944) (i % 128)).trans (pick5_mod _ i)
theorem ones945 (i : Nat) : lit0t0_945 i = oneAt 945 (i % 128) := (rfl : _ = pick5 (oneAt 945) (i % 128)).trans (pick5_mod _ i)
theorem ones946 (i : Nat) : lit0t0_946 i = oneAt 946 (i % 128) := (rfl : _ = pick5 (oneAt 946) (i % 128)).trans (pick5_mod _ i)
theorem ones947 (i : Nat) : lit0t0_947 i = oneAt 947 (i % 128) := (rfl : _ = pick5 (oneAt 947) (i % 128)).trans (pick5_mod _ i)
theorem ones948 (i : Nat) : lit0t0_948 i = oneAt 948 (i % 128) := (rfl : _ = pick5 (oneAt 948) (i % 128)).trans (pick5_mod _ i)
theorem ones949 (i : Nat) : lit0t0_949 i = oneAt 949 (i % 128) := (rfl : _ = pick5 (oneAt 949) (i % 128)).trans (pick5_mod _ i)
theorem ones950 (i : Nat) : lit0t0_950 i = oneAt 950 (i % 128) := (rfl : _ = pick5 (oneAt 950) (i % 128)).trans (pick5_mod _ i)
theorem ones951 (i : Nat) : lit0t0_951 i = oneAt 951 (i % 128) := (rfl : _ = pick5 (oneAt 951) (i % 128)).trans (pick5_mod _ i)
theorem ones952 (i : Nat) : lit0t0_952 i = oneAt 952 (i % 128) := (rfl : _ = pick5 (oneAt 952) (i % 128)).trans (pick5_mod _ i)
theorem ones953 (i : Nat) : lit0t0_953 i = oneAt 953 (i % 128) := (rfl : _ = pick5 (oneAt 953) (i % 128)).trans (pick5_mod _ i)
theorem ones954 (i : Nat) : lit0t0_954 i = oneAt 954 (i % 128) := (rfl : _ = pick5 (oneAt 954) (i % 128)).trans (pick5_mod _ i)
theorem ones955 (i : Nat) : lit0t0_955 i = oneAt 955 (i % 128) := (rfl : _ = pick5 (oneAt 955) (i % 128)).trans (pick5_mod _ i)
theorem ones956 (i : Nat) : lit0t0_956 i = oneAt 956 (i % 128) := (rfl : _ = pick5 (oneAt 956) (i % 128)).trans (pick5_mod _ i)
theorem ones957 (i : Nat) : lit0t0_957 i = oneAt 957 (i % 128) := (rfl : _ = pick5 (oneAt 957) (i % 128)).trans (pick5_mod _ i)
theorem ones958 (i : Nat) : lit0t0_958 i = oneAt 958 (i % 128) := (rfl : _ = pick5 (oneAt 958) (i % 128)).trans (pick5_mod _ i)
theorem ones959 (i : Nat) : lit0t0_959 i = oneAt 959 (i % 128) := (rfl : _ = pick5 (oneAt 959) (i % 128)).trans (pick5_mod _ i)
theorem ones960 (i : Nat) : lit0t0_960 i = oneAt 960 (i % 128) := (rfl : _ = pick5 (oneAt 960) (i % 128)).trans (pick5_mod _ i)
theorem ones961 (i : Nat) : lit0t0_961 i = oneAt 961 (i % 128) := (rfl : _ = pick5 (oneAt 961) (i % 128)).trans (pick5_mod _ i)
theorem ones962 (i : Nat) : lit0t0_962 i = oneAt 962 (i % 128) := (rfl : _ = pick5 (oneAt 962) (i % 128)).trans (pick5_mod _ i)
theorem ones963 (i : Nat) : lit0t0_963 i = oneAt 963 (i % 128) := (rfl : _ = pick5 (oneAt 963) (i % 128)).trans (pick5_mod _ i)
theorem ones964 (i : Nat) : lit0t0_964 i = oneAt 964 (i % 128) := (rfl : _ = pick5 (oneAt 964) (i % 128)).trans (pick5_mod _ i)
theorem ones965 (i : Nat) : lit0t0_965 i = oneAt 965 (i % 128) := (rfl : _ = pick5 (oneAt 965) (i % 128)).trans (pick5_mod _ i)
theorem ones966 (i : Nat) : lit0t0_966 i = oneAt 966 (i % 128) := (rfl : _ = pick5 (oneAt 966) (i % 128)).trans (pick5_mod _ i)
theorem ones967 (i : Nat) : lit0t0_967 i = oneAt 967 (i % 128) := (rfl : _ = pick5 (oneAt 967) (i % 128)).trans (pick5_mod _ i)
theorem ones968 (i : Nat) : lit0t0_968 i = oneAt 968 (i % 128) := (rfl : _ = pick5 (oneAt 968) (i % 128)).trans (pick5_mod _ i)
theorem ones969 (i : Nat) : lit0t0_969 i = oneAt 969 (i % 128) := (rfl : _ = pick5 (oneAt 969) (i % 128)).trans (pick5_mod _ i)
theorem ones970 (i : Nat) : lit0t0_970 i = oneAt 970 (i % 128) := (rfl : _ = pick5 (oneAt 970) (i % 128)).trans (pick5_mod _ i)
theorem ones971 (i : Nat) : lit0t0_971 i = oneAt 971 (i % 128) := (rfl : _ = pick5 (oneAt 971) (i % 128)).trans (pick5_mod _ i)

end Cert.Attn

end
-- ==== Proof.Ones6.lean ====
/-
  Rows 972 to 991 of the table of ones, 128 entries each.
-/
module

public import proofs.«01_k».proof.KernelIdeal
public import proofs.«01_k».proof.Proof.Entries

@[expose] public section

noncomputable section

namespace Cert.Attn

open Cert.KernelIdeal

/-- The choice by a number below 128 that these rows are written with. -/
def pick6 (f : Nat → BitVec 32) (r : Nat) : BitVec 32 :=
  lit0t0_972.match_1 (fun _ => BitVec 32) r (fun _ => f 0) (fun _ => f 1) (fun _ => f 2) (fun _ => f 3) (fun _ => f 4) (fun _ => f 5) (fun _ => f 6) (fun _ => f 7) (fun _ => f 8) (fun _ => f 9) (fun _ => f 10) (fun _ => f 11) (fun _ => f 12) (fun _ => f 13) (fun _ => f 14) (fun _ => f 15) (fun _ => f 16) (fun _ => f 17) (fun _ => f 18) (fun _ => f 19) (fun _ => f 20) (fun _ => f 21) (fun _ => f 22) (fun _ => f 23) (fun _ => f 24) (fun _ => f 25) (fun _ => f 26) (fun _ => f 27) (fun _ => f 28) (fun _ => f 29) (fun _ => f 30) (fun _ => f 31) (fun _ => f 32) (fun _ => f 33) (fun _ => f 34) (fun _ => f 35) (fun _ => f 36) (fun _ => f 37) (fun _ => f 38) (fun _ => f 39) (fun _ => f 40) (fun _ => f 41) (fun _ => f 42) (fun _ => f 43) (fun _ => f 44) (fun _ => f 45) (fun _ => f 46) (fun _ => f 47) (fun _ => f 48) (fun _ => f 49) (fun _ => f 50) (fun _ => f 51) (fun _ => f 52) (fun _ => f 53) (fun _ => f 54) (fun _ => f 55) (fun _ => f 56) (fun _ => f 57) (fun _ => f 58) (fun _ => f 59) (fun _ => f 60) (fun _ => f 61) (fun _ => f 62) (fun _ => f 63) (fun _ => f 64) (fun _ => f 65) (fun _ => f 66) (fun _ => f 67) (fun _ => f 68) (fun _ => f 69) (fun _ => f 70) (fun _ => f 71) (fun _ => f 72) (fun _ => f 73) (fun _ => f 74) (fun _ => f 75) (fun _ => f 76) (fun _ => f 77) (fun _ => f 78) (fun _ => f 79) (fun _ => f 80) (fun _ => f 81) (fun _ => f 82) (fun _ => f 83) (fun _ => f 84) (fun _ => f 85) (fun _ => f 86) (fun _ => f 87) (fun _ => f 88) (fun _ => f 89) (fun _ => f 90) (fun _ => f 91) (fun _ => f 92) (fun _ => f 93) (fun _ => f 94) (fun _ => f 95) (fun _ => f 96) (fun _ => f 97) (fun _ => f 98) (fun _ => f 99) (fun _ => f 100) (fun _ => f 101) (fun _ => f 102) (fun _ => f 103) (fun _ => f 104) (fun _ => f 105) (fun _ => f 106) (fun _ => f 107) (fun _ => f 108) (fun _ => f 109) (fun _ => f 110) (fun _ => f 111) (fun _ => f 112) (fun _ => f 113) (fun _ => f 114) (fun _ => f 115) (fun _ => f 116) (fun _ => f 117) (fun _ => f 118) (fun _ => f 119) (fun _ => f 120) (fun _ => f 121) (fun _ => f 122) (fun _ => f 123) (fun _ => f 124) (fun _ => f 125) (fun _ => f 126) (fun _ => f 127) (fun _ => 0#32)

/-- It chooses by that number. -/
theorem pick6_eq (f : Nat → BitVec 32) (r : Nat) (hr : r < 128) : pick6 f r = f r := by
  interval_cases r <;> rfl

/-- It chooses by a remainder. -/
theorem pick6_mod (f : Nat → BitVec 32) (i : Nat) : pick6 f (i % 128) = f (i % 128) :=
  pick6_eq f _ (Nat.mod_lt _ (by decide))

theorem ones972 (i : Nat) : lit0t0_972 i = oneAt 972 (i % 128) := (rfl : _ = pick6 (oneAt 972) (i % 128)).trans (pick6_mod _ i)
theorem ones973 (i : Nat) : lit0t0_973 i = oneAt 973 (i % 128) := (rfl : _ = pick6 (oneAt 973) (i % 128)).trans (pick6_mod _ i)
theorem ones974 (i : Nat) : lit0t0_974 i = oneAt 974 (i % 128) := (rfl : _ = pick6 (oneAt 974) (i % 128)).trans (pick6_mod _ i)
theorem ones975 (i : Nat) : lit0t0_975 i = oneAt 975 (i % 128) := (rfl : _ = pick6 (oneAt 975) (i % 128)).trans (pick6_mod _ i)
theorem ones976 (i : Nat) : lit0t0_976 i = oneAt 976 (i % 128) := (rfl : _ = pick6 (oneAt 976) (i % 128)).trans (pick6_mod _ i)
theorem ones977 (i : Nat) : lit0t0_977 i = oneAt 977 (i % 128) := (rfl : _ = pick6 (oneAt 977) (i % 128)).trans (pick6_mod _ i)
theorem ones978 (i : Nat) : lit0t0_978 i = oneAt 978 (i % 128) := (rfl : _ = pick6 (oneAt 978) (i % 128)).trans (pick6_mod _ i)
theorem ones979 (i : Nat) : lit0t0_979 i = oneAt 979 (i % 128) := (rfl : _ = pick6 (oneAt 979) (i % 128)).trans (pick6_mod _ i)
theorem ones980 (i : Nat) : lit0t0_980 i = oneAt 980 (i % 128) := (rfl : _ = pick6 (oneAt 980) (i % 128)).trans (pick6_mod _ i)
theorem ones981 (i : Nat) : lit0t0_981 i = oneAt 981 (i % 128) := (rfl : _ = pick6 (oneAt 981) (i % 128)).trans (pick6_mod _ i)
theorem ones982 (i : Nat) : lit0t0_982 i = oneAt 982 (i % 128) := (rfl : _ = pick6 (oneAt 982) (i % 128)).trans (pick6_mod _ i)
theorem ones983 (i : Nat) : lit0t0_983 i = oneAt 983 (i % 128) := (rfl : _ = pick6 (oneAt 983) (i % 128)).trans (pick6_mod _ i)
theorem ones984 (i : Nat) : lit0t0_984 i = oneAt 984 (i % 128) := (rfl : _ = pick6 (oneAt 984) (i % 128)).trans (pick6_mod _ i)
theorem ones985 (i : Nat) : lit0t0_985 i = oneAt 985 (i % 128) := (rfl : _ = pick6 (oneAt 985) (i % 128)).trans (pick6_mod _ i)
theorem ones986 (i : Nat) : lit0t0_986 i = oneAt 986 (i % 128) := (rfl : _ = pick6 (oneAt 986) (i % 128)).trans (pick6_mod _ i)
theorem ones987 (i : Nat) : lit0t0_987 i = oneAt 987 (i % 128) := (rfl : _ = pick6 (oneAt 987) (i % 128)).trans (pick6_mod _ i)
theorem ones988 (i : Nat) : lit0t0_988 i = oneAt 988 (i % 128) := (rfl : _ = pick6 (oneAt 988) (i % 128)).trans (pick6_mod _ i)
theorem ones989 (i : Nat) : lit0t0_989 i = oneAt 989 (i % 128) := (rfl : _ = pick6 (oneAt 989) (i % 128)).trans (pick6_mod _ i)
theorem ones990 (i : Nat) : lit0t0_990 i = oneAt 990 (i % 128) := (rfl : _ = pick6 (oneAt 990) (i % 128)).trans (pick6_mod _ i)
theorem ones991 (i : Nat) : lit0t0_991 i = oneAt 991 (i % 128) := (rfl : _ = pick6 (oneAt 991) (i % 128)).trans (pick6_mod _ i)
theorem mask0 (i : Nat) : lit1t0_0 i = maskAt 0 (i % 128) := (rfl : _ = pick6 (maskAt 0) (i % 128)).trans (pick6_mod _ i)
theorem mask1 (i : Nat) : lit1t0_1 i = maskAt 1 (i % 128) := (rfl : _ = pick6 (maskAt 1) (i % 128)).trans (pick6_mod _ i)
theorem mask2 (i : Nat) : lit1t0_2 i = maskAt 2 (i % 128) := (rfl : _ = pick6 (maskAt 2) (i % 128)).trans (pick6_mod _ i)
theorem mask3 (i : Nat) : lit1t0_3 i = maskAt 3 (i % 128) := (rfl : _ = pick6 (maskAt 3) (i % 128)).trans (pick6_mod _ i)
theorem mask4 (i : Nat) : lit1t0_4 i = maskAt 4 (i % 128) := (rfl : _ = pick6 (maskAt 4) (i % 128)).trans (pick6_mod _ i)
theorem mask5 (i : Nat) : lit1t0_5 i = maskAt 5 (i % 128) := (rfl : _ = pick6 (maskAt 5) (i % 128)).trans (pick6_mod _ i)
theorem mask6 (i : Nat) : lit1t0_6 i = maskAt 6 (i % 128) := (rfl : _ = pick6 (maskAt 6) (i % 128)).trans (pick6_mod _ i)
theorem mask7 (i : Nat) : lit1t0_7 i = maskAt 7 (i % 128) := (rfl : _ = pick6 (maskAt 7) (i % 128)).trans (pick6_mod _ i)
theorem mask8 (i : Nat) : lit1t0_8 i = maskAt 8 (i % 128) := (rfl : _ = pick6 (maskAt 8) (i % 128)).trans (pick6_mod _ i)
theorem mask9 (i : Nat) : lit1t0_9 i = maskAt 9 (i % 128) := (rfl : _ = pick6 (maskAt 9) (i % 128)).trans (pick6_mod _ i)
theorem mask10 (i : Nat) : lit1t0_10 i = maskAt 10 (i % 128) := (rfl : _ = pick6 (maskAt 10) (i % 128)).trans (pick6_mod _ i)
theorem mask11 (i : Nat) : lit1t0_11 i = maskAt 11 (i % 128) := (rfl : _ = pick6 (maskAt 11) (i % 128)).trans (pick6_mod _ i)
theorem mask12 (i : Nat) : lit1t0_12 i = maskAt 12 (i % 128) := (rfl : _ = pick6 (maskAt 12) (i % 128)).trans (pick6_mod _ i)
theorem mask13 (i : Nat) : lit1t0_13 i = maskAt 13 (i % 128) := (rfl : _ = pick6 (maskAt 13) (i % 128)).trans (pick6_mod _ i)
theorem mask14 (i : Nat) : lit1t0_14 i = maskAt 14 (i % 128) := (rfl : _ = pick6 (maskAt 14) (i % 128)).trans (pick6_mod _ i)
theorem mask15 (i : Nat) : lit1t0_15 i = maskAt 15 (i % 128) := (rfl : _ = pick6 (maskAt 15) (i % 128)).trans (pick6_mod _ i)
theorem mask16 (i : Nat) : lit1t0_16 i = maskAt 16 (i % 128) := (rfl : _ = pick6 (maskAt 16) (i % 128)).trans (pick6_mod _ i)
theorem mask17 (i : Nat) : lit1t0_17 i = maskAt 17 (i % 128) := (rfl : _ = pick6 (maskAt 17) (i % 128)).trans (pick6_mod _ i)
theorem mask18 (i : Nat) : lit1t0_18 i = maskAt 18 (i % 128) := (rfl : _ = pick6 (maskAt 18) (i % 128)).trans (pick6_mod _ i)
theorem mask19 (i : Nat) : lit1t0_19 i = maskAt 19 (i % 128) := (rfl : _ = pick6 (maskAt 19) (i % 128)).trans (pick6_mod _ i)
theorem mask20 (i : Nat) : lit1t0_20 i = maskAt 20 (i % 128) := (rfl : _ = pick6 (maskAt 20) (i % 128)).trans (pick6_mod _ i)
theorem mask21 (i : Nat) : lit1t0_21 i = maskAt 21 (i % 128) := (rfl : _ = pick6 (maskAt 21) (i % 128)).trans (pick6_mod _ i)
theorem mask22 (i : Nat) : lit1t0_22 i = maskAt 22 (i % 128) := (rfl : _ = pick6 (maskAt 22) (i % 128)).trans (pick6_mod _ i)
theorem mask23 (i : Nat) : lit1t0_23 i = maskAt 23 (i % 128) := (rfl : _ = pick6 (maskAt 23) (i % 128)).trans (pick6_mod _ i)
theorem mask24 (i : Nat) : lit1t0_24 i = maskAt 24 (i % 128) := (rfl : _ = pick6 (maskAt 24) (i % 128)).trans (pick6_mod _ i)
theorem mask25 (i : Nat) : lit1t0_25 i = maskAt 25 (i % 128) := (rfl : _ = pick6 (maskAt 25) (i % 128)).trans (pick6_mod _ i)
theorem mask26 (i : Nat) : lit1t0_26 i = maskAt 26 (i % 128) := (rfl : _ = pick6 (maskAt 26) (i % 128)).trans (pick6_mod _ i)
theorem mask27 (i : Nat) : lit1t0_27 i = maskAt 27 (i % 128) := (rfl : _ = pick6 (maskAt 27) (i % 128)).trans (pick6_mod _ i)
theorem mask28 (i : Nat) : lit1t0_28 i = maskAt 28 (i % 128) := (rfl : _ = pick6 (maskAt 28) (i % 128)).trans (pick6_mod _ i)
theorem mask29 (i : Nat) : lit1t0_29 i = maskAt 29 (i % 128) := (rfl : _ = pick6 (maskAt 29) (i % 128)).trans (pick6_mod _ i)
theorem mask30 (i : Nat) : lit1t0_30 i = maskAt 30 (i % 128) := (rfl : _ = pick6 (maskAt 30) (i % 128)).trans (pick6_mod _ i)
theorem mask31 (i : Nat) : lit1t0_31 i = maskAt 31 (i % 128) := (rfl : _ = pick6 (maskAt 31) (i % 128)).trans (pick6_mod _ i)

end Cert.Attn

end
-- ==== Proof.Tables.lean ====
/-
  The two constant tables of the bias table, entry by entry (`ones_eq`, `mask_eq`).
-/
module

public import proofs.«01_k».proof.Proof.Ones1
public import proofs.«01_k».proof.Proof.Ones2
public import proofs.«01_k».proof.Proof.Ones3
public import proofs.«01_k».proof.Proof.Ones4
public import proofs.«01_k».proof.Proof.Ones5
public import proofs.«01_k».proof.Proof.Ones6

@[expose] public section

noncomputable section

namespace Cert.Attn

open Cert.KernelIdeal

theorem onesNode0 (i : Nat) (h : i / 16384 = 0) : lit0t1_0 i = oneAt (i / 128) (i % 128) := by
  have e : i / 128 = 0 + i / 128 % 128 := by omega
  have hb : i / 128 % 128 < 128 := by omega
  unfold lit0t1_0
  rw [e]
  generalize i / 128 % 128 = b at hb
  interval_cases b
  · exact ones0 i
  · exact ones1 i
  · exact ones2 i
  · exact ones3 i
  · exact ones4 i
  · exact ones5 i
  · exact ones6 i
  · exact ones7 i
  · exact ones8 i
  · exact ones9 i
  · exact ones10 i
  · exact ones11 i
  · exact ones12 i
  · exact ones13 i
  · exact ones14 i
  · exact ones15 i
  · exact ones16 i
  · exact ones17 i
  · exact ones18 i
  · exact ones19 i
  · exact ones20 i
  · exact ones21 i
  · exact ones22 i
  · exact ones23 i
  · exact ones24 i
  · exact ones25 i
  · exact ones26 i
  · exact ones27 i
  · exact ones28 i
  · exact ones29 i
  · exact ones30 i
  · exact ones31 i
  · exact ones32 i
  · exact ones33 i
  · exact ones34 i
  · exact ones35 i
  · exact ones36 i
  · exact ones37 i
  · exact ones38 i
  · exact ones39 i
  · exact ones40 i
  · exact ones41 i
  · exact ones42 i
  · exact ones43 i
  · exact ones44 i
  · exact ones45 i
  · exact ones46 i
  · exact ones47 i
  · exact ones48 i
  · exact ones49 i
  · exact ones50 i
  · exact ones51 i
  · exact ones52 i
  · exact ones53 i
  · exact ones54 i
  · exact ones55 i
  · exact ones56 i
  · exact ones57 i
  · exact ones58 i
  · exact ones59 i
  · exact ones60 i
  · exact ones61 i
  · exact ones62 i
  · exact ones63 i
  · exact ones64 i
  · exact ones65 i
  · exact ones66 i
  · exact ones67 i
  · exact ones68 i
  · exact ones69 i
  · exact ones70 i
  · exact ones71 i
  · exact ones72 i
  · exact ones73 i
  · exact ones74 i
  · exact ones75 i
  · exact ones76 i
  · exact ones77 i
  · exact ones78 i
  · exact ones79 i
  · exact ones80 i
  · exact ones81 i
  · exact ones82 i
  · exact ones83 i
  · exact ones84 i
  · exact ones85 i
  · exact ones86 i
  · exact ones87 i
  · exact ones88 i
  · exact ones89 i
  · exact ones90 i
  · exact ones91 i
  · exact ones92 i
  · exact ones93 i
  · exact ones94 i
  · exact ones95 i
  · exact ones96 i
  · exact ones97 i
  · exact ones98 i
  · exact ones99 i
  · exact ones100 i
  · exact ones101 i
  · exact ones102 i
  · exact ones103 i
  · exact ones104 i
  · exact ones105 i
  · exact ones106 i
  · exact ones107 i
  · exact ones108 i
  · exact ones109 i
  · exact ones110 i
  · exact ones111 i
  · exact ones112 i
  · exact ones113 i
  · exact ones114 i
  · exact ones115 i
  · exact ones116 i
  · exact ones117 i
  · exact ones118 i
  · exact ones119 i
  · exact ones120 i
  · exact ones121 i
  · exact ones122 i
  · exact ones123 i
  · exact ones124 i
  · exact ones125 i
  · exact ones126 i
  · exact ones127 i

theorem onesNode1 (i : Nat) (h : i / 16384 = 1) : lit0t1_1 i = oneAt (i / 128) (i % 128) := by
  have e : i / 128 = 128 + i / 128 % 128 := by omega
  have hb : i / 128 % 128 < 128 := by omega
  unfold lit0t1_1
  rw [e]
  generalize i / 128 % 128 = b at hb
  interval_cases b
  · exact ones128 i
  · exact ones129 i
  · exact ones130 i
  · exact ones131 i
  · exact ones132 i
  · exact ones133 i
  · exact ones134 i
  · exact ones135 i
  · exact ones136 i
  · exact ones137 i
  · exact ones138 i
  · exact ones139 i
  · exact ones140 i
  · exact ones141 i
  · exact ones142 i
  · exact ones143 i
  · exact ones144 i
  · exact ones145 i
  · exact ones146 i
  · exact ones147 i
  · exact ones148 i
  · exact ones149 i
  · exact ones150 i
  · exact ones151 i
  · exact ones152 i
  · exact ones153 i
  · exact ones154 i
  · exact ones155 i
  · exact ones156 i
  · exact ones157 i
  · exact ones158 i
  · exact ones159 i
  · exact ones160 i
  · exact ones161 i
  · exact ones162 i
  · exact ones163 i
  · exact ones164 i
  · exact ones165 i
  · exact ones166 i
  · exact ones167 i
  · exact ones168 i
  · exact ones169 i
  · exact ones170 i
  · exact ones171 i
  · exact ones172 i
  · exact ones173 i
  · exact ones174 i
  · exact ones175 i
  · exact ones176 i
  · exact ones177 i
  · exact ones178 i
  · exact ones179 i
  · exact ones180 i
  · exact ones181 i
  · exact ones182 i
  · exact ones183 i
  · exact ones184 i
  · exact ones185 i
  · exact ones186 i
  · exact ones187 i
  · exact ones188 i
  · exact ones189 i
  · exact ones190 i
  · exact ones191 i
  · exact ones192 i
  · exact ones193 i
  · exact ones194 i
  · exact ones195 i
  · exact ones196 i
  · exact ones197 i
  · exact ones198 i
  · exact ones199 i
  · exact ones200 i
  · exact ones201 i
  · exact ones202 i
  · exact ones203 i
  · exact ones204 i
  · exact ones205 i
  · exact ones206 i
  · exact ones207 i
  · exact ones208 i
  · exact ones209 i
  · exact ones210 i
  · exact ones211 i
  · exact ones212 i
  · exact ones213 i
  · exact ones214 i
  · exact ones215 i
  · exact ones216 i
  · exact ones217 i
  · exact ones218 i
  · exact ones219 i
  · exact ones220 i
  · exact ones221 i
  · exact ones222 i
  · exact ones223 i
  · exact ones224 i
  · exact ones225 i
  · exact ones226 i
  · exact ones227 i
  · exact ones228 i
  · exact ones229 i
  · exact ones230 i
  · exact ones231 i
  · exact ones232 i
  · exact ones233 i
  · exact ones234 i
  · exact ones235 i
  · exact ones236 i
  · exact ones237 i
  · exact ones238 i
  · exact ones239 i
  · exact ones240 i
  · exact ones241 i
  · exact ones242 i
  · exact ones243 i
  · exact ones244 i
  · exact ones245 i
  · exact ones246 i
  · exact ones247 i
  · exact ones248 i
  · exact ones249 i
  · exact ones250 i
  · exact ones251 i
  · exact ones252 i
  · exact ones253 i
  · exact ones254 i
  · exact ones255 i

theorem onesNode2 (i : Nat) (h : i / 16384 = 2) : lit0t1_2 i = oneAt (i / 128) (i % 128) := by
  have e : i / 128 = 256 + i / 128 % 128 := by omega
  have hb : i / 128 % 128 < 128 := by omega
  unfold lit0t1_2
  rw [e]
  generalize i / 128 % 128 = b at hb
  interval_cases b
  · exact ones256 i
  · exact ones257 i
  · exact ones258 i
  · exact ones259 i
  · exact ones260 i
  · exact ones261 i
  · exact ones262 i
  · exact ones263 i
  · exact ones264 i
  · exact ones265 i
  · exact ones266 i
  · exact ones267 i
  · exact ones268 i
  · exact ones269 i
  · exact ones270 i
  · exact ones271 i
  · exact ones272 i
  · exact ones273 i
  · exact ones274 i
  · exact ones275 i
  · exact ones276 i
  · exact ones277 i
  · exact ones278 i
  · exact ones279 i
  · exact ones280 i
  · exact ones281 i
  · exact ones282 i
  · exact ones283 i
  · exact ones284 i
  · exact ones285 i
  · exact ones286 i
  · exact ones287 i
  · exact ones288 i
  · exact ones289 i
  · exact ones290 i
  · exact ones291 i
  · exact ones292 i
  · exact ones293 i
  · exact ones294 i
  · exact ones295 i
  · exact ones296 i
  · exact ones297 i
  · exact ones298 i
  · exact ones299 i
  · exact ones300 i
  · exact ones301 i
  · exact ones302 i
  · exact ones303 i
  · exact ones304 i
  · exact ones305 i
  · exact ones306 i
  · exact ones307 i
  · exact ones308 i
  · exact ones309 i
  · exact ones310 i
  · exact ones311 i
  · exact ones312 i
  · exact ones313 i
  · exact ones314 i
  · exact ones315 i
  · exact ones316 i
  · exact ones317 i
  · exact ones318 i
  · exact ones319 i
  · exact ones320 i
  · exact ones321 i
  · exact ones322 i
  · exact ones323 i
  · exact ones324 i
  · exact ones325 i
  · exact ones326 i
  · exact ones327 i
  · exact ones328 i
  · exact ones329 i
  · exact ones330 i
  · exact ones331 i
  · exact ones332 i
  · exact ones333 i
  · exact ones334 i
  · exact ones335 i
  · exact ones336 i
  · exact ones337 i
  · exact ones338 i
  · exact ones339 i
  · exact ones340 i
  · exact ones341 i
  · exact ones342 i
  · exact ones343 i
  · exact ones344 i
  · exact ones345 i
  · exact ones346 i
  · exact ones347 i
  · exact ones348 i
  · exact ones349 i
  · exact ones350 i
  · exact ones351 i
  · exact ones352 i
  · exact ones353 i
  · exact ones354 i
  · exact ones355 i
  · exact ones356 i
  · exact ones357 i
  · exact ones358 i
  · exact ones359 i
  · exact ones360 i
  · exact ones361 i
  · exact ones362 i
  · exact ones363 i
  · exact ones364 i
  · exact ones365 i
  · exact ones366 i
  · exact ones367 i
  · exact ones368 i
  · exact ones369 i
  · exact ones370 i
  · exact ones371 i
  · exact ones372 i
  · exact ones373 i
  · exact ones374 i
  · exact ones375 i
  · exact ones376 i
  · exact ones377 i
  · exact ones378 i
  · exact ones379 i
  · exact ones380 i
  · exact ones381 i
  · exact ones382 i
  · exact ones383 i

theorem onesNode3 (i : Nat) (h : i / 16384 = 3) : lit0t1_3 i = oneAt (i / 128) (i % 128) := by
  have e : i / 128 = 384 + i / 128 % 128 := by omega
  have hb : i / 128 % 128 < 128 := by omega
  unfold lit0t1_3
  rw [e]
  generalize i / 128 % 128 = b at hb
  interval_cases b
  · exact ones384 i
  · exact ones385 i
  · exact ones386 i
  · exact ones387 i
  · exact ones388 i
  · exact ones389 i
  · exact ones390 i
  · exact ones391 i
  · exact ones392 i
  · exact ones393 i
  · exact ones394 i
  · exact ones395 i
  · exact ones396 i
  · exact ones397 i
  · exact ones398 i
  · exact ones399 i
  · exact ones400 i
  · exact ones401 i
  · exact ones402 i
  · exact ones403 i
  · exact ones404 i
  · exact ones405 i
  · exact ones406 i
  · exact ones407 i
  · exact ones408 i
  · exact ones409 i
  · exact ones410 i
  · exact ones411 i
  · exact ones412 i
  · exact ones413 i
  · exact ones414 i
  · exact ones415 i
  · exact ones416 i
  · exact ones417 i
  · exact ones418 i
  · exact ones419 i
  · exact ones420 i
  · exact ones421 i
  · exact ones422 i
  · exact ones423 i
  · exact ones424 i
  · exact ones425 i
  · exact ones426 i
  · exact ones427 i
  · exact ones428 i
  · exact ones429 i
  · exact ones430 i
  · exact ones431 i
  · exact ones432 i
  · exact ones433 i
  · exact ones434 i
  · exact ones435 i
  · exact ones436 i
  · exact ones437 i
  · exact ones438 i
  · exact ones439 i
  · exact ones440 i
  · exact ones441 i
  · exact ones442 i
  · exact ones443 i
  · exact ones444 i
  · exact ones445 i
  · exact ones446 i
  · exact ones447 i
  · exact ones448 i
  · exact ones449 i
  · exact ones450 i
  · exact ones451 i
  · exact ones452 i
  · exact ones453 i
  · exact ones454 i
  · exact ones455 i
  · exact ones456 i
  · exact ones457 i
  · exact ones458 i
  · exact ones459 i
  · exact ones460 i
  · exact ones461 i
  · exact ones462 i
  · exact ones463 i
  · exact ones464 i
  · exact ones465 i
  · exact ones466 i
  · exact ones467 i
  · exact ones468 i
  · exact ones469 i
  · exact ones470 i
  · exact ones471 i
  · exact ones472 i
  · exact ones473 i
  · exact ones474 i
  · exact ones475 i
  · exact ones476 i
  · exact ones477 i
  · exact ones478 i
  · exact ones479 i
  · exact ones480 i
  · exact ones481 i
  · exact ones482 i
  · exact ones483 i
  · exact ones484 i
  · exact ones485 i
  · exact ones486 i
  · exact ones487 i
  · exact ones488 i
  · exact ones489 i
  · exact ones490 i
  · exact ones491 i
  · exact ones492 i
  · exact ones493 i
  · exact ones494 i
  · exact ones495 i
  · exact ones496 i
  · exact ones497 i
  · exact ones498 i
  · exact ones499 i
  · exact ones500 i
  · exact ones501 i
  · exact ones502 i
  · exact ones503 i
  · exact ones504 i
  · exact ones505 i
  · exact ones506 i
  · exact ones507 i
  · exact ones508 i
  · exact ones509 i
  · exact ones510 i
  · exact ones511 i

theorem onesNode4 (i : Nat) (h : i / 16384 = 4) : lit0t1_4 i = oneAt (i / 128) (i % 128) := by
  have e : i / 128 = 512 + i / 128 % 128 := by omega
  have hb : i / 128 % 128 < 128 := by omega
  unfold lit0t1_4
  rw [e]
  generalize i / 128 % 128 = b at hb
  interval_cases b
  · exact ones512 i
  · exact ones513 i
  · exact ones514 i
  · exact ones515 i
  · exact ones516 i
  · exact ones517 i
  · exact ones518 i
  · exact ones519 i
  · exact ones520 i
  · exact ones521 i
  · exact ones522 i
  · exact ones523 i
  · exact ones524 i
  · exact ones525 i
  · exact ones526 i
  · exact ones527 i
  · exact ones528 i
  · exact ones529 i
  · exact ones530 i
  · exact ones531 i
  · exact ones532 i
  · exact ones533 i
  · exact ones534 i
  · exact ones535 i
  · exact ones536 i
  · exact ones537 i
  · exact ones538 i
  · exact ones539 i
  · exact ones540 i
  · exact ones541 i
  · exact ones542 i
  · exact ones543 i
  · exact ones544 i
  · exact ones545 i
  · exact ones546 i
  · exact ones547 i
  · exact ones548 i
  · exact ones549 i
  · exact ones550 i
  · exact ones551 i
  · exact ones552 i
  · exact ones553 i
  · exact ones554 i
  · exact ones555 i
  · exact ones556 i
  · exact ones557 i
  · exact ones558 i
  · exact ones559 i
  · exact ones560 i
  · exact ones561 i
  · exact ones562 i
  · exact ones563 i
  · exact ones564 i
  · exact ones565 i
  · exact ones566 i
  · exact ones567 i
  · exact ones568 i
  · exact ones569 i
  · exact ones570 i
  · exact ones571 i
  · exact ones572 i
  · exact ones573 i
  · exact ones574 i
  · exact ones575 i
  · exact ones576 i
  · exact ones577 i
  · exact ones578 i
  · exact ones579 i
  · exact ones580 i
  · exact ones581 i
  · exact ones582 i
  · exact ones583 i
  · exact ones584 i
  · exact ones585 i
  · exact ones586 i
  · exact ones587 i
  · exact ones588 i
  · exact ones589 i
  · exact ones590 i
  · exact ones591 i
  · exact ones592 i
  · exact ones593 i
  · exact ones594 i
  · exact ones595 i
  · exact ones596 i
  · exact ones597 i
  · exact ones598 i
  · exact ones599 i
  · exact ones600 i
  · exact ones601 i
  · exact ones602 i
  · exact ones603 i
  · exact ones604 i
  · exact ones605 i
  · exact ones606 i
  · exact ones607 i
  · exact ones608 i
  · exact ones609 i
  · exact ones610 i
  · exact ones611 i
  · exact ones612 i
  · exact ones613 i
  · exact ones614 i
  · exact ones615 i
  · exact ones616 i
  · exact ones617 i
  · exact ones618 i
  · exact ones619 i
  · exact ones620 i
  · exact ones621 i
  · exact ones622 i
  · exact ones623 i
  · exact ones624 i
  · exact ones625 i
  · exact ones626 i
  · exact ones627 i
  · exact ones628 i
  · exact ones629 i
  · exact ones630 i
  · exact ones631 i
  · exact ones632 i
  · exact ones633 i
  · exact ones634 i
  · exact ones635 i
  · exact ones636 i
  · exact ones637 i
  · exact ones638 i
  · exact ones639 i

theorem onesNode5 (i : Nat) (h : i / 16384 = 5) : lit0t1_5 i = oneAt (i / 128) (i % 128) := by
  have e : i / 128 = 640 + i / 128 % 128 := by omega
  have hb : i / 128 % 128 < 128 := by omega
  unfold lit0t1_5
  rw [e]
  generalize i / 128 % 128 = b at hb
  interval_cases b
  · exact ones640 i
  · exact ones641 i
  · exact ones642 i
  · exact ones643 i
  · exact ones644 i
  · exact ones645 i
  · exact ones646 i
  · exact ones647 i
  · exact ones648 i
  · exact ones649 i
  · exact ones650 i
  · exact ones651 i
  · exact ones652 i
  · exact ones653 i
  · exact ones654 i
  · exact ones655 i
  · exact ones656 i
  · exact ones657 i
  · exact ones658 i
  · exact ones659 i
  · exact ones660 i
  · exact ones661 i
  · exact ones662 i
  · exact ones663 i
  · exact ones664 i
  · exact ones665 i
  · exact ones666 i
  · exact ones667 i
  · exact ones668 i
  · exact ones669 i
  · exact ones670 i
  · exact ones671 i
  · exact ones672 i
  · exact ones673 i
  · exact ones674 i
  · exact ones675 i
  · exact ones676 i
  · exact ones677 i
  · exact ones678 i
  · exact ones679 i
  · exact ones680 i
  · exact ones681 i
  · exact ones682 i
  · exact ones683 i
  · exact ones684 i
  · exact ones685 i
  · exact ones686 i
  · exact ones687 i
  · exact ones688 i
  · exact ones689 i
  · exact ones690 i
  · exact ones691 i
  · exact ones692 i
  · exact ones693 i
  · exact ones694 i
  · exact ones695 i
  · exact ones696 i
  · exact ones697 i
  · exact ones698 i
  · exact ones699 i
  · exact ones700 i
  · exact ones701 i
  · exact ones702 i
  · exact ones703 i
  · exact ones704 i
  · exact ones705 i
  · exact ones706 i
  · exact ones707 i
  · exact ones708 i
  · exact ones709 i
  · exact ones710 i
  · exact ones711 i
  · exact ones712 i
  · exact ones713 i
  · exact ones714 i
  · exact ones715 i
  · exact ones716 i
  · exact ones717 i
  · exact ones718 i
  · exact ones719 i
  · exact ones720 i
  · exact ones721 i
  · exact ones722 i
  · exact ones723 i
  · exact ones724 i
  · exact ones725 i
  · exact ones726 i
  · exact ones727 i
  · exact ones728 i
  · exact ones729 i
  · exact ones730 i
  · exact ones731 i
  · exact ones732 i
  · exact ones733 i
  · exact ones734 i
  · exact ones735 i
  · exact ones736 i
  · exact ones737 i
  · exact ones738 i
  · exact ones739 i
  · exact ones740 i
  · exact ones741 i
  · exact ones742 i
  · exact ones743 i
  · exact ones744 i
  · exact ones745 i
  · exact ones746 i
  · exact ones747 i
  · exact ones748 i
  · exact ones749 i
  · exact ones750 i
  · exact ones751 i
  · exact ones752 i
  · exact ones753 i
  · exact ones754 i
  · exact ones755 i
  · exact ones756 i
  · exact ones757 i
  · exact ones758 i
  · exact ones759 i
  · exact ones760 i
  · exact ones761 i
  · exact ones762 i
  · exact ones763 i
  · exact ones764 i
  · exact ones765 i
  · exact ones766 i
  · exact ones767 i

theorem onesNode6 (i : Nat) (h : i / 16384 = 6) : lit0t1_6 i = oneAt (i / 128) (i % 128) := by
  have e : i / 128 = 768 + i / 128 % 128 := by omega
  have hb : i / 128 % 128 < 128 := by omega
  unfold lit0t1_6
  rw [e]
  generalize i / 128 % 128 = b at hb
  interval_cases b
  · exact ones768 i
  · exact ones769 i
  · exact ones770 i
  · exact ones771 i
  · exact ones772 i
  · exact ones773 i
  · exact ones774 i
  · exact ones775 i
  · exact ones776 i
  · exact ones777 i
  · exact ones778 i
  · exact ones779 i
  · exact ones780 i
  · exact ones781 i
  · exact ones782 i
  · exact ones783 i
  · exact ones784 i
  · exact ones785 i
  · exact ones786 i
  · exact ones787 i
  · exact ones788 i
  · exact ones789 i
  · exact ones790 i
  · exact ones791 i
  · exact ones792 i
  · exact ones793 i
  · exact ones794 i
  · exact ones795 i
  · exact ones796 i
  · exact ones797 i
  · exact ones798 i
  · exact ones799 i
  · exact ones800 i
  · exact ones801 i
  · exact ones802 i
  · exact ones803 i
  · exact ones804 i
  · exact ones805 i
  · exact ones806 i
  · exact ones807 i
  · exact ones808 i
  · exact ones809 i
  · exact ones810 i
  · exact ones811 i
  · exact ones812 i
  · exact ones813 i
  · exact ones814 i
  · exact ones815 i
  · exact ones816 i
  · exact ones817 i
  · exact ones818 i
  · exact ones819 i
  · exact ones820 i
  · exact ones821 i
  · exact ones822 i
  · exact ones823 i
  · exact ones824 i
  · exact ones825 i
  · exact ones826 i
  · exact ones827 i
  · exact ones828 i
  · exact ones829 i
  · exact ones830 i
  · exact ones831 i
  · exact ones832 i
  · exact ones833 i
  · exact ones834 i
  · exact ones835 i
  · exact ones836 i
  · exact ones837 i
  · exact ones838 i
  · exact ones839 i
  · exact ones840 i
  · exact ones841 i
  · exact ones842 i
  · exact ones843 i
  · exact ones844 i
  · exact ones845 i
  · exact ones846 i
  · exact ones847 i
  · exact ones848 i
  · exact ones849 i
  · exact ones850 i
  · exact ones851 i
  · exact ones852 i
  · exact ones853 i
  · exact ones854 i
  · exact ones855 i
  · exact ones856 i
  · exact ones857 i
  · exact ones858 i
  · exact ones859 i
  · exact ones860 i
  · exact ones861 i
  · exact ones862 i
  · exact ones863 i
  · exact ones864 i
  · exact ones865 i
  · exact ones866 i
  · exact ones867 i
  · exact ones868 i
  · exact ones869 i
  · exact ones870 i
  · exact ones871 i
  · exact ones872 i
  · exact ones873 i
  · exact ones874 i
  · exact ones875 i
  · exact ones876 i
  · exact ones877 i
  · exact ones878 i
  · exact ones879 i
  · exact ones880 i
  · exact ones881 i
  · exact ones882 i
  · exact ones883 i
  · exact ones884 i
  · exact ones885 i
  · exact ones886 i
  · exact ones887 i
  · exact ones888 i
  · exact ones889 i
  · exact ones890 i
  · exact ones891 i
  · exact ones892 i
  · exact ones893 i
  · exact ones894 i
  · exact ones895 i

theorem onesNode7 (i : Nat) (h : i / 16384 = 7) (hi : i < 126976) : lit0t1_7 i = oneAt (i / 128) (i % 128) := by
  have e : i / 128 = 896 + i / 128 % 128 := by omega
  have hb : i / 128 % 128 < 96 := by omega
  unfold lit0t1_7
  rw [e]
  generalize i / 128 % 128 = b at hb
  interval_cases b
  · exact ones896 i
  · exact ones897 i
  · exact ones898 i
  · exact ones899 i
  · exact ones900 i
  · exact ones901 i
  · exact ones902 i
  · exact ones903 i
  · exact ones904 i
  · exact ones905 i
  · exact ones906 i
  · exact ones907 i
  · exact ones908 i
  · exact ones909 i
  · exact ones910 i
  · exact ones911 i
  · exact ones912 i
  · exact ones913 i
  · exact ones914 i
  · exact ones915 i
  · exact ones916 i
  · exact ones917 i
  · exact ones918 i
  · exact ones919 i
  · exact ones920 i
  · exact ones921 i
  · exact ones922 i
  · exact ones923 i
  · exact ones924 i
  · exact ones925 i
  · exact ones926 i
  · exact ones927 i
  · exact ones928 i
  · exact ones929 i
  · exact ones930 i
  · exact ones931 i
  · exact ones932 i
  · exact ones933 i
  · exact ones934 i
  · exact ones935 i
  · exact ones936 i
  · exact ones937 i
  · exact ones938 i
  · exact ones939 i
  · exact ones940 i
  · exact ones941 i
  · exact ones942 i
  · exact ones943 i
  · exact ones944 i
  · exact ones945 i
  · exact ones946 i
  · exact ones947 i
  · exact ones948 i
  · exact ones949 i
  · exact ones950 i
  · exact ones951 i
  · exact ones952 i
  · exact ones953 i
  · exact ones954 i
  · exact ones955 i
  · exact ones956 i
  · exact ones957 i
  · exact ones958 i
  · exact ones959 i
  · exact ones960 i
  · exact ones961 i
  · exact ones962 i
  · exact ones963 i
  · exact ones964 i
  · exact ones965 i
  · exact ones966 i
  · exact ones967 i
  · exact ones968 i
  · exact ones969 i
  · exact ones970 i
  · exact ones971 i
  · exact ones972 i
  · exact ones973 i
  · exact ones974 i
  · exact ones975 i
  · exact ones976 i
  · exact ones977 i
  · exact ones978 i
  · exact ones979 i
  · exact ones980 i
  · exact ones981 i
  · exact ones982 i
  · exact ones983 i
  · exact ones984 i
  · exact ones985 i
  · exact ones986 i
  · exact ones987 i
  · exact ones988 i
  · exact ones989 i
  · exact ones990 i
  · exact ones991 i

/-- The table of ones. -/
theorem ones_eq (i : Nat) (hi : i < 126976) : lit0t i = oneAt (i / 128) (i % 128) := by
  have hb : i / 16384 < 8 := by omega
  unfold lit0t
  generalize h : i / 16384 = b at hb
  interval_cases b
  · exact onesNode0 i h
  · exact onesNode1 i h
  · exact onesNode2 i h
  · exact onesNode3 i h
  · exact onesNode4 i h
  · exact onesNode5 i h
  · exact onesNode6 i h
  · exact onesNode7 i h hi

/-- The mask. -/
theorem mask_eq (i : Nat) (hi : i < 4096) : lit1t i = maskAt (i / 128) (i % 128) := by
  have hb : i / 128 < 32 := by omega
  unfold lit1t
  generalize i / 128 = b at hb
  interval_cases b
  · exact mask0 i
  · exact mask1 i
  · exact mask2 i
  · exact mask3 i
  · exact mask4 i
  · exact mask5 i
  · exact mask6 i
  · exact mask7 i
  · exact mask8 i
  · exact mask9 i
  · exact mask10 i
  · exact mask11 i
  · exact mask12 i
  · exact mask13 i
  · exact mask14 i
  · exact mask15 i
  · exact mask16 i
  · exact mask17 i
  · exact mask18 i
  · exact mask19 i
  · exact mask20 i
  · exact mask21 i
  · exact mask22 i
  · exact mask23 i
  · exact mask24 i
  · exact mask25 i
  · exact mask26 i
  · exact mask27 i
  · exact mask28 i
  · exact mask29 i
  · exact mask30 i
  · exact mask31 i

end Cert.Attn

end
-- ==== Proof.Bias.lean ====
/-
  The bias table when the region is entered: at head `h`, row `e`, query column `q` and lane `x` it holds the relative
  position bias of the row distance `e + x / 64 - 4`, kept within 0 and 14, and of the columns `q` and `x % 64`, and
  minus infinity where the key column lies outside the query column's window (`V_bias_apply`).
-/
module

public import proofs.«01_k».proof.Proof.Tables
public import proofs.«01_k».proof.Proof.Gen.KernelIdeal.Value
public import Idealize.ShloMosaic.Lib.MatmulPlain
public import Idealize.ShloMosaic.Lib.ValueIdx

@[expose] public section

noncomputable section

namespace Cert.Attn

open Idealize.ShloMosaic Idealize.ShloMosaic.TcCoe Idealize.SL.Sem Idealize.ShloMosaic.ValueIdx
open Cert.KernelIdeal Cert.KernelIdeal.Gen

/-- In the window the column distance lies within the bias's 31 entries. -/
theorem inWin_dist : ∀ q k : Fin 64, inWin 16 q.val k.val = true → q.val ≤ k.val + 15 ∧ k.val + 15 - q.val < 31 := by decide +kernel

/-- The bias of a head, a row distance and two columns, minus infinity outside the window. -/
def colBias (x2 : Vec Ideal S16x15x31 .f32) (h : Fin 16) (d : Fin 15) (q k : Fin 64) : EReal :=
  if hw : inWin 16 q.val k.val = true then x2 (ix3 h d ⟨k.val + 15 - q.val, (inWin_dist q k hw).2⟩) else ⊥

theorem ones_entry (c : Fin 31) (q k : Fin 64) :
    (Ideal.ofBits .f32 (lit0 (S31x64x64.rowMajor (ix3 c q k))) : EReal)
      = if inWin 16 q.val k.val = true ∧ k.val + 15 = q.val + c.val then 1 else 0 := by
  have hv : (S31x64x64.rowMajor (ix3 c q k)).val = (c.val * 64 + q.val) * 64 + k.val := by
    rw [Shape.rowMajor_val_three]; rfl
  have hl : lit0 (S31x64x64.rowMajor (ix3 c q k)) = lit0t ((c.val * 64 + q.val) * 64 + k.val) := by
    show lit0t (S31x64x64.rowMajor (ix3 c q k)).val = _
    rw [hv]
  have hc := c.isLt
  have hq := q.isLt
  have hk := k.isLt
  rw [hl, ones_eq _ (by omega)]
  unfold oneAt
  have e1 : ((c.val * 64 + q.val) * 64 + k.val) % 128 % 64 = k.val := by omega
  have e2 : (2 * (((c.val * 64 + q.val) * 64 + k.val) / 128) + ((c.val * 64 + q.val) * 64 + k.val) % 128 / 64) % 64 = q.val := by omega
  have e3 : ((c.val * 64 + q.val) * 64 + k.val) / 128 / 32 = c.val := by omega
  rw [e1, e2, e3]
  have hb : Nat.beq (Nat.add k.val 15) (Nat.add q.val c.val) = decide (k.val + 15 = q.val + c.val) := by
    rw [Bool.eq_iff_iff]; simp [Nat.beq_eq]
  rw [hb]
  have h1 : (Ideal.ofBits .f32 0x3F800000#32 : EReal) = 1 := by
    simp [Ideal.ofBits, Ideal.ieee, -EReal.coe_mul]; norm_num
  by_cases hd : k.val + 15 = q.val + c.val <;> cases hw : inWin 16 q.val k.val <;>
    simp [hd, h1, Ideal.ofBits_zero_f32]

theorem mask_entry (q k : Fin 64) :
    (Ideal.ofBits .f32 (lit1 (S64x64.rowMajor (ix2 q k))) : EReal) = if inWin 16 q.val k.val = true then 0 else ⊥ := by
  have hv : (S64x64.rowMajor (ix2 q k)).val = q.val * 64 + k.val := by
    rw [Shape.rowMajor_val_two]; rfl
  have hl : lit1 (S64x64.rowMajor (ix2 q k)) = lit1t (q.val * 64 + k.val) := by
    show lit1t (S64x64.rowMajor (ix2 q k)).val = _
    rw [hv]
  have hq := q.isLt
  have hk := k.isLt
  rw [hl, mask_eq _ (by omega)]
  unfold maskAt
  have e1 : (q.val * 64 + k.val) % 128 % 64 = k.val := by omega
  have e2 : 2 * ((q.val * 64 + k.val) / 128) + (q.val * 64 + k.val) % 128 / 64 = q.val := by omega
  rw [e1, e2]
  have h1 : (Ideal.ofBits .f32 0xFF800000#32 : EReal) = ⊥ := by simp [Ideal.ofBits, Ideal.ieee]
  cases inWin 16 q.val k.val <;> simp [h1, Ideal.ofBits_zero_f32]

/-- The product of the bias with the table of ones. -/
def prod (x2 : Vec Ideal S16x15x31 .f32) : Vec Ideal S16x15x64x64 .f32 :=
  Host.dotGeneral (F := Ideal) (φ₁ := .f32) (φ₂ := .f32) dot_S16x15x31_S31x64x64_S16x15x64x64_2_0_01_12_n_n (some .fp32) x2
    (fun i => FloatOps.ofBits (F := Ideal) .f32 (lit0 (S31x64x64.rowMajor i)))

theorem prod_apply (x2 : Vec Ideal S16x15x31 .f32) (h : Fin 16) (d : Fin 15) (q k : Fin 64) :
    prod x2 (ix4 h d q k) = ∑ c : Fin 31, x2 (ix3 h d c) * (Ideal.ofBits .f32 (lit0 (S31x64x64.rowMajor (ix3 c q k))) : EReal) := by
  unfold prod
  show FloatOps.dotGeneral (F := Ideal) _ _ _ _ _ (ix4 h d q k) = _
  rw [Ideal.dotGeneral_apply, ← Equiv.sum_comp (ValueIdx.contrEquiv1 dot_S16x15x31_S31x64x64_S16x15x64x64_2_0_01_12_n_n 31 rfl rfl).symm]
  refine Finset.sum_congr rfl fun c _ => ?_
  have hk := ValueIdx.contrEquiv1_symm_val dot_S16x15x31_S31x64x64_S16x15x64x64_2_0_01_12_n_n 31 rfl rfl c
  have el : dot_S16x15x31_S31x64x64_S16x15x64x64_2_0_01_12_n_n.lhsIdx (ix4 h d q k) ((ValueIdx.contrEquiv1 dot_S16x15x31_S31x64x64_S16x15x64x64_2_0_01_12_n_n 31 rfl rfl).symm c) = ix3 h d c :=
    funext fun a => Fin.ext (by
      match a with
      | ⟨0, _⟩ => rfl
      | ⟨1, _⟩ => rfl
      | ⟨2, _⟩ => exact (dot_S16x15x31_S31x64x64_S16x15x64x64_2_0_01_12_n_n.lhsIdx_val_of_single rfl _ _).trans hk)
  have er : dot_S16x15x31_S31x64x64_S16x15x64x64_2_0_01_12_n_n.rhsIdx (ix4 h d q k) ((ValueIdx.contrEquiv1 dot_S16x15x31_S31x64x64_S16x15x64x64_2_0_01_12_n_n 31 rfl rfl).symm c) = ix3 c q k :=
    funext fun a => Fin.ext (by
      match a with
      | ⟨0, _⟩ => exact (dot_S16x15x31_S31x64x64_S16x15x64x64_2_0_01_12_n_n.rhsIdx_val_of_single rfl _ _).trans hk
      | ⟨1, _⟩ => rfl
      | ⟨2, _⟩ => rfl)
  rw [el, er]
  rfl

/-- The product with the mask added. -/
def full (x2 : Vec Ideal S16x15x31 .f32) : Vec Ideal S16x15x64x64 .f32 :=
  addf (prod x2) (broadcastInDim S16x15x64x64 ![0, 1, 2, 3] bcast_S1x1x64x64_S16x15x64x64_0_1_2_3
    (broadcastInDim S1x1x64x64 ![2, 3] bcast_S64x64_S1x1x64x64_2_3
      (fun i => FloatOps.ofBits (F := Ideal) .f32 (lit1 (S64x64.rowMajor i)))))

theorem full_apply (x2 : Vec Ideal S16x15x31 .f32) (h : Fin 16) (d : Fin 15) (q k : Fin 64) :
    full x2 (ix4 h d q k) = colBias x2 h d q k := by
  have hm : full x2 (ix4 h d q k) = prod x2 (ix4 h d q k) + (Ideal.ofBits .f32 (lit1 (S64x64.rowMajor (ix2 q k))) : EReal) := by
    refine congrArg (prod x2 (ix4 h d q k) + ·) ?_
    refine (broadcastInDim_apply _ bcast_S1x1x64x64_S16x15x64x64_0_1_2_3 _ (ix4 h d q k) (ix4 0 0 q k) (fun a => by fin_cases a <;> rfl)).trans ?_
    exact broadcastInDim_apply _ bcast_S64x64_S1x1x64x64_2_3 _ (ix4 0 0 q k) (ix2 q k) (fun a => by fin_cases a <;> rfl)
  have hp : prod x2 (ix4 h d q k) = ∑ c : Fin 31, x2 (ix3 h d c) * (if inWin 16 q.val k.val = true ∧ k.val + 15 = q.val + c.val then 1 else 0) :=
    (prod_apply x2 h d q k).trans (Finset.sum_congr rfl fun c _ => congrArg (x2 (ix3 h d c) * ·) (ones_entry c q k))
  refine hm.trans ((congrArg₂ (· + ·) hp (mask_entry q k)).trans ?_)
  show (∑ c : Fin 31, x2 (ix3 h d c) * (if inWin 16 q.val k.val = true ∧ k.val + 15 = q.val + c.val then (1 : EReal) else 0)) + (if inWin 16 q.val k.val = true then (0 : EReal) else ⊥) = _
  unfold colBias
  by_cases hw : inWin 16 q.val k.val = true
  · obtain ⟨h1, h2⟩ := inWin_dist q k hw
    rw [dif_pos hw, if_pos hw, add_zero]
    rw [Finset.sum_eq_single (⟨k.val + 15 - q.val, h2⟩ : Fin 31)]
    · rw [if_pos ⟨hw, by simp only []; omega⟩, mul_one]
    · intro c _ hc
      rw [if_neg, mul_zero]
      rintro ⟨_, h3⟩
      exact hc (Fin.ext (by simp only []; omega))
    · intro hn; exact absurd (Finset.mem_univ _) hn
  · rw [dif_neg hw, if_neg hw]
    exact EReal.add_bot _

/-- The rows a gather takes. -/
theorem gather_apply (x : Vec Ideal S16x15x64x64 .f32) (idx : IVec S22x1 32) (h : Fin 16) (e : Fin 22) (q k : Fin 64) :
    Host.gather gather_S16x15x64x64_S22x1_S16x22x64x64_023_1_n_n_1_1_1616464 x idx (ix4 h e q k)
      = x (ix4 h ⟨min (idx (ix2 e 0)).toInt.toNat 14, by omega⟩ q k) := by
  unfold Host.gather
  refine congrArg x (funext fun a => Fin.ext ?_)
  have hsi : ∀ p, gather_S16x15x64x64_S22x1_S16x22x64x64_023_1_n_n_1_1_1616464.siIdx (ix4 h e q k) p = ix2 e 0 := by
    intro p
    funext b; refine Fin.ext ?_
    match b with
    | ⟨0, _⟩ => rfl
    | ⟨1, _⟩ => have := p.isLt; show p.val = 0; have hp : p.val < 1 := this; omega
  match a with
  | ⟨0, _⟩ => show 0 + 0 + h.val = h.val; omega
  | ⟨1, _⟩ =>
    show gather_S16x15x64x64_S22x1_S16x22x64x64_023_1_n_n_1_1_1616464.start (ix4 h e q k) idx 1 + 0 + 0 = _
    unfold GatherDims.start
    rw [dif_pos (show (1 : Fin 4) ∈ gather_S16x15x64x64_S22x1_S16x22x64x64_023_1_n_n_1_1_1616464.startIndexMap from List.mem_singleton.mpr rfl), hsi]
    rfl
  | ⟨2, _⟩ => show 0 + 0 + q.val = q.val; omega
  | ⟨3, _⟩ => show 0 + 0 + k.val = k.val; omega

/-- A table of row distances as the column of start indices a gather reads. -/
def starts (f : Fin 22 → BitVec 32) : IVec S22x1 32 :=
  broadcastInDim S22x1 ![0] bcast_S22_S22x1_0 (select (constantI S22 1 0#1)
    (addi (fun i => f (S22.rowMajor i)) (broadcastInDim S22 ![] bcast_S_S22 (constantI S_ 32 15#32))) (fun i => f (S22.rowMajor i)))

theorem starts_apply (f : Fin 22 → BitVec 32) (e : Fin 22) : starts f (ix2 e 0) = f e := by
  unfold starts
  refine (broadcastInDim_apply _ bcast_S22_S22x1_0 _ (ix2 e 0) (ix1 e) (fun a => by fin_cases a; rfl)).trans ?_
  show f (S22.rowMajor (ix1 e)) = f e
  refine congrArg f (Fin.ext ?_)
  rw [Shape.rowMajor_val_one]

theorem left_eq : ∀ e : Fin 22, min (lit2 e).toInt.toNat 14 = min (e.val - 4) 14 := by decide +kernel
theorem right_eq : ∀ e : Fin 22, min (lit3 e).toInt.toNat 14 = min (e.val - 3) 14 := by decide +kernel

variable (m : (ℓ : Loc nD τ sig) → Buf (Elt Ideal) ℓ)

/-- The bias table is the rows of `full`, twice side by side. -/
theorem V_bias (c : Dev nD) : V m c main_v14 = concatenate S16x22x64x128 3
    [⟨S16x22x64x64, Host.gather gather_S16x15x64x64_S22x1_S16x22x64x64_023_1_n_n_1_1_1616464 (full (m ((c : Thread nD τ).loc main_arg2))) (starts lit2)⟩,
     ⟨S16x22x64x64, Host.gather gather_S16x15x64x64_S22x1_S16x22x64x64_023_1_n_n_1_1_1616464 (full (m ((c : Thread nD τ).loc main_arg2))) (starts lit3)⟩]
    concatenates_S16x22x64x64_S16x22x64x64_S16x22x64x128_d3 := by
  show StableHlo.after hostOps0 _ (Proc.devRef .tc main_v14) = _
  after_results
  rfl

/-- The bias table at an index. -/
theorem V_bias_apply (c : Dev nD) (h : Fin 16) (e : Fin 22) (q : Fin 64) (x : Fin 128) :
    V m c main_v14 (ix4 h e q x)
      = colBias (m ((c : Thread nD τ).loc main_arg2)) h ⟨min (e.val + x.val / 64 - 4) 14, by omega⟩ q ⟨x.val % 64, by omega⟩ := by
  rw [V_bias]
  by_cases hx : x.val < 64
  · refine (concatenate_pair_apply_left (t := S16x22x64x128) (s₁ := S16x22x64x64) (s₂ := S16x22x64x64) 3 _ _
      concatenates_S16x22x64x64_S16x22x64x64_S16x22x64x128_d3 (ix4 h e q x) rfl (ix4 h e q ⟨x.val, hx⟩)
      (fun b => by fin_cases b <;> rfl)).trans ?_
    rw [gather_apply, full_apply]
    have e1 : (⟨min (starts lit2 (ix2 e 0)).toInt.toNat 14, by omega⟩ : Fin 15) = ⟨min (e.val + x.val / 64 - 4) 14, by omega⟩ := by
      refine Fin.ext ?_
      simp only []
      rw [starts_apply, left_eq]
      omega
    have e2 : (⟨x.val, hx⟩ : Fin 64) = ⟨x.val % 64, by omega⟩ := Fin.ext (by simp only []; omega)
    rw [e1, e2]
  · refine (concatenate_pair_apply_right (t := S16x22x64x128) (s₁ := S16x22x64x64) (s₂ := S16x22x64x64) 3 _ _
      concatenates_S16x22x64x64_S16x22x64x64_S16x22x64x128_d3 (ix4 h e q x) rfl rfl (ix4 h e q ⟨x.val - 64, by omega⟩)
      (fun b hb => by fin_cases b <;> first | rfl | exact absurd rfl hb) (by show x.val - 64 + 64 = x.val; omega)).trans ?_
    rw [gather_apply, full_apply]
    have e1 : (⟨min (starts lit3 (ix2 e 0)).toInt.toNat 14, by omega⟩ : Fin 15) = ⟨min (e.val + x.val / 64 - 4) 14, by omega⟩ := by
      refine Fin.ext ?_
      simp only []
      rw [starts_apply, right_eq]
      omega
    have e2 : (⟨x.val - 64, by omega⟩ : Fin 64) = ⟨x.val % 64, by omega⟩ := Fin.ext (by simp only []; omega)
    rw [e1, e2]

end Cert.Attn

end
-- ==== Proof.Payload.lean ====
/-
  What the attention body computes from the values it loads, at a query row `r` and a channel `d` of its block: the
  exponentials of the scores less their largest, weighted sums of the values divided by their sum (`pay_apply`).
-/
module

public import proofs.«01_k».proof.Proof.Softmax
public import proofs.«01_k».proof.Proof.Gen.KernelIdeal.Value
public import Idealize.ShloMosaic.Lib.MatmulPlain
public import Idealize.ShloMosaic.Lib.ValueIdx

@[expose] public section

noncomputable section

namespace Cert.Attn

open Idealize.ShloMosaic Idealize.ShloMosaic.TcCoe Idealize.SL.Sem Idealize.ShloMosaic.ValueIdx
open Cert.KernelIdeal Cert.KernelIdeal.Gen

theorem ofBits_negInf : Ideal.ofBits .f32 0xFF800000#32 = ⊥ := by simp [Ideal.ofBits, Ideal.ieee]

/-- A row vector given a unit axis. -/
theorem column_apply (x : Vec Ideal S256 .f32) (r : Fin 256) :
    shapeCast S256x1 x shapeCasts_S256_S256x1 (ix2 r 0) = x (ix1 r) := by
  refine shapeCast_apply _ _ _ _ ?_
  rw [Shape.rowMajor_val_one, Shape.rowMajor_val_two]
  simp

theorem spread_apply {N : Nat} (x : Vec Ideal S256x1 .f32) (h : S256x1.Broadcasts ⟨2, ![256, N]⟩) (r : Fin 256) (j : Fin N) :
    broadcastTo ⟨2, ![256, N]⟩ x h (ix2 r j) = x (ix2 r 0) :=
  broadcastTo_apply x _ _ _ (fun d => by fin_cases d <;> rfl)

theorem max768_apply (x : Vec Ideal S256x768 .f32) (r : Fin 256) :
    multiReduction (F := Ideal) (φ := .f32) .maximumf [1] S256 x 0xFF800000#32 reduces_S256x768_S256 (.inl rfl) rfl (ix1 r)
      = maxOver fun j : Fin 768 => x (ix2 r j) := by
  refine (Ideal.multiReduction_maximumf_single ..).trans ?_
  show Finset.fold max (Ideal.ofBits .f32 0xFF800000#32) _ _ = _
  rw [ofBits_negInf]
  refine Finset.fold_congr fun j _ => congrArg x (funext fun a => ?_)
  fin_cases a <;> rfl

theorem max256_apply (x : Vec Ideal S256x256 .f32) (r : Fin 256) :
    multiReduction (F := Ideal) (φ := .f32) .maximumf [1] S256 x 0xFF800000#32 reduces_S256x256_S256 (.inl rfl) rfl (ix1 r)
      = maxOver fun j : Fin 256 => x (ix2 r j) := by
  refine (Ideal.multiReduction_maximumf_single ..).trans ?_
  show Finset.fold max (Ideal.ofBits .f32 0xFF800000#32) _ _ = _
  rw [ofBits_negInf]
  refine Finset.fold_congr fun j _ => congrArg x (funext fun a => ?_)
  fin_cases a <;> rfl

theorem add768_apply (x : Vec Ideal S256x768 .f32) (r : Fin 256) :
    multiReduction (F := Ideal) (φ := .f32) .add [1] S256 x 0x00000000#32 reduces_S256x768_S256 (.inl rfl) rfl (ix1 r)
      = ∑ j : Fin 768, x (ix2 r j) := by
  refine (Ideal.multiReduction_add_single ..).trans ?_
  refine Finset.sum_congr rfl fun j _ => congrArg x (funext fun a => ?_)
  fin_cases a <;> rfl

theorem add256_apply (x : Vec Ideal S256x256 .f32) (r : Fin 256) :
    multiReduction (F := Ideal) (φ := .f32) .add [1] S256 x 0x00000000#32 reduces_S256x256_S256 (.inl rfl) rfl (ix1 r)
      = ∑ j : Fin 256, x (ix2 r j) := by
  refine (Ideal.multiReduction_add_single ..).trans ?_
  refine Finset.sum_congr rfl fun j _ => congrArg x (funext fun a => ?_)
  fin_cases a <;> rfl

/-- The scores of the local keys and of the context keys at an index: the inner product, scaled. -/
theorem pay2_apply (q : Vec Ideal S256x128 .bf16) (k : Vec Ideal S768x128 .bf16) (r : Fin 256) (j : Fin 768) :
    k0_pay2 (F := Ideal) q k (ix2 r j)
      = (∑ d : Fin 128, q (ix2 r d) * k (ix2 j d)) * Ideal.ofBits .f32 0x3DB504F3#32 := by
  unfold k0_pay2
  have h1 := Ideal.matmul_transposedRhs_apply (M := 256) (K := 128) (N := 768) (φ₁ := .bf16) (φ₂ := .bf16) none q k
    (constant S256x768 .f32 0x00000000#32) r j
  refine congrArg (· * Ideal.ofBits .f32 0x3DB504F3#32) (h1.trans ?_)
  show Ideal.ofBits .f32 0x00000000#32 + _ = _
  rw [Ideal.ofBits_zero_f32, zero_add]

theorem pay3_apply (q : Vec Ideal S256x128 .bf16) (k : Vec Ideal S256x128 .bf16) (r : Fin 256) (j : Fin 256) :
    k0_pay3 (F := Ideal) q k (ix2 r j)
      = (∑ d : Fin 128, q (ix2 r d) * k (ix2 j d)) * Ideal.ofBits .f32 0x3DB504F3#32 := by
  unfold k0_pay3
  have h1 := Ideal.matmul_transposedRhs_apply (M := 256) (K := 128) (N := 256) (φ₁ := .bf16) (φ₂ := .bf16) none q k
    (constant S256x256 .f32 0x00000000#32) r j
  refine congrArg (· * Ideal.ofBits .f32 0x3DB504F3#32) (h1.trans ?_)
  show Ideal.ofBits .f32 0x00000000#32 + _ = _
  rw [Ideal.ofBits_zero_f32, zero_add]

section
variable (v10 v11 : BitVec 32) (v20 : Vec Ideal S768x128 .bf16) (v23 : FVec Ideal S256x768 .f32) (v27 : FVec Ideal S256x256 .f32)
  (v58 v89 v120 : FVec Ideal S64x768 .f32) (v125 v130 v135 v140 v145 : FVec Ideal S64x128 .f32)
  (v149 : Vec Ideal S1x1x64x128 .f32) (v175 : Vec Ideal S256x128 .bf16)

/-- The masked scores of the local keys. -/
abbrev scores := k0_pay18 (F := Ideal) v10 v11 v23 v58 v89 v120 v125 v130 v135 v140 v145 v149

theorem pay19_apply (r : Fin 256) : k0_pay19 (F := Ideal) v10 v11 v23 v27 v58 v89 v120 v125 v130 v135 v140 v145 v149 (ix2 r 0)
    = max (maxOver fun j : Fin 768 => scores v10 v11 v23 v58 v89 v120 v125 v130 v135 v140 v145 v149 (ix2 r j)) (maxOver fun u : Fin 256 => v27 (ix2 r u)) := by
  unfold k0_pay19
  refine congrArg₂ max ?_ ?_
  · exact (column_apply _ r).trans (max768_apply _ r)
  · exact (column_apply _ r).trans (max256_apply _ r)

theorem pay20_apply (r : Fin 256) (j : Fin 768) :
    k0_pay20 (F := Ideal) v10 v11 v23 v27 v58 v89 v120 v125 v130 v135 v140 v145 v149 (ix2 r j)
    = Ideal.exp (scores v10 v11 v23 v58 v89 v120 v125 v130 v135 v140 v145 v149 (ix2 r j) - max (maxOver fun j : Fin 768 => scores v10 v11 v23 v58 v89 v120 v125 v130 v135 v140 v145 v149 (ix2 r j)) (maxOver fun u : Fin 256 => v27 (ix2 r u))) := by
  unfold k0_pay20
  refine congrArg Ideal.exp (congrArg (scores v10 v11 v23 v58 v89 v120 v125 v130 v135 v140 v145 v149 (ix2 r j) - ·) ?_)
  exact (spread_apply (N := 768) _ _ r j).trans (pay19_apply ..)

theorem pay21_apply (r : Fin 256) (u : Fin 256) :
    k0_pay21 (F := Ideal) v10 v11 v23 v27 v58 v89 v120 v125 v130 v135 v140 v145 v149 (ix2 r u)
    = Ideal.exp (v27 (ix2 r u) - max (maxOver fun j : Fin 768 => scores v10 v11 v23 v58 v89 v120 v125 v130 v135 v140 v145 v149 (ix2 r j)) (maxOver fun u : Fin 256 => v27 (ix2 r u))) := by
  unfold k0_pay21
  refine congrArg Ideal.exp (congrArg (v27 (ix2 r u) - ·) ?_)
  exact (spread_apply (N := 256) _ _ r u).trans (pay19_apply ..)

theorem pay22_apply (r : Fin 256) (d : Fin 128) :
    k0_pay22 (F := Ideal) v10 v11 v20 v23 v27 v58 v89 v120 v125 v130 v135 v140 v145 v149 v175 (ix2 r d)
    = (∑ j : Fin 768, Ideal.exp (scores v10 v11 v23 v58 v89 v120 v125 v130 v135 v140 v145 v149 (ix2 r j) - max (maxOver fun j : Fin 768 => scores v10 v11 v23 v58 v89 v120 v125 v130 v135 v140 v145 v149 (ix2 r j)) (maxOver fun u : Fin 256 => v27 (ix2 r u)))
        * v20 (ix2 j d))
      + ∑ u : Fin 256, Ideal.exp (v27 (ix2 r u) - max (maxOver fun j : Fin 768 => scores v10 v11 v23 v58 v89 v120 v125 v130 v135 v140 v145 v149 (ix2 r j)) (maxOver fun u : Fin 256 => v27 (ix2 r u)))
        * v175 (ix2 u d) := by
  unfold k0_pay22
  have h1 := Ideal.matmul_plain_apply (M := 256) (K := 768) (N := 128) (φ₁ := .bf16) (φ₂ := .bf16) none
    (truncf .bf16 (k0_pay20 (F := Ideal) v10 v11 v23 v27 v58 v89 v120 v125 v130 v135 v140 v145 v149) bitsLt_bf16_f32) v20
    (constant S256x128 .f32 0x00000000#32) r d
  have h2 := Ideal.matmul_plain_apply (M := 256) (K := 256) (N := 128) (φ₁ := .bf16) (φ₂ := .bf16) none
    (truncf .bf16 (k0_pay21 (F := Ideal) v10 v11 v23 v27 v58 v89 v120 v125 v130 v135 v140 v145 v149) bitsLt_bf16_f32) v175
    (constant S256x128 .f32 0x00000000#32) r d
  refine congrArg₂ (· + ·) (h1.trans ?_) (h2.trans ?_)
  · show Ideal.ofBits .f32 0x00000000#32 + _ = _
    rw [Ideal.ofBits_zero_f32, zero_add]
    exact Finset.sum_congr rfl fun j _ => congrArg (· * v20 (ix2 j d)) (pay20_apply ..)
  · show Ideal.ofBits .f32 0x00000000#32 + _ = _
    rw [Ideal.ofBits_zero_f32, zero_add]
    exact Finset.sum_congr rfl fun j _ => congrArg (· * v175 (ix2 j d)) (pay21_apply ..)

theorem pay23_apply (r : Fin 256) (d : Fin 128) :
    k0_pay23 (F := Ideal) v10 v11 v23 v27 v58 v89 v120 v125 v130 v135 v140 v145 v149 (ix2 r d)
    = (∑ j : Fin 768, Ideal.exp (scores v10 v11 v23 v58 v89 v120 v125 v130 v135 v140 v145 v149 (ix2 r j) - max (maxOver fun j : Fin 768 => scores v10 v11 v23 v58 v89 v120 v125 v130 v135 v140 v145 v149 (ix2 r j)) (maxOver fun u : Fin 256 => v27 (ix2 r u))))
      + ∑ u : Fin 256, Ideal.exp (v27 (ix2 r u) - max (maxOver fun j : Fin 768 => scores v10 v11 v23 v58 v89 v120 v125 v130 v135 v140 v145 v149 (ix2 r j)) (maxOver fun u : Fin 256 => v27 (ix2 r u))) := by
  unfold k0_pay23
  refine (spread_apply (N := 128) _ _ r d).trans (congrArg₂ (· + ·) ?_ ?_)
  · exact ((column_apply _ r).trans (add768_apply _ r)).trans (Finset.sum_congr rfl fun j _ => pay20_apply ..)
  · exact ((column_apply _ r).trans (add256_apply _ r)).trans (Finset.sum_congr rfl fun j _ => pay21_apply ..)

/-- What the body writes at row `r` and channel `d`. -/
theorem pay_apply (r : Fin 256) (d : Fin 128) :
    k0_pay1 (F := Ideal) (k0_pay22 v10 v11 v20 v23 v27 v58 v89 v120 v125 v130 v135 v140 v145 v149 v175)
      (k0_pay23 v10 v11 v23 v27 v58 v89 v120 v125 v130 v135 v140 v145 v149) (ix2 r d)
    = Ideal.div
      ((∑ j : Fin 768, Ideal.exp (scores v10 v11 v23 v58 v89 v120 v125 v130 v135 v140 v145 v149 (ix2 r j) - max (maxOver fun j : Fin 768 => scores v10 v11 v23 v58 v89 v120 v125 v130 v135 v140 v145 v149 (ix2 r j)) (maxOver fun u : Fin 256 => v27 (ix2 r u)))
        * v20 (ix2 j d))
      + ∑ u : Fin 256, Ideal.exp (v27 (ix2 r u) - max (maxOver fun j : Fin 768 => scores v10 v11 v23 v58 v89 v120 v125 v130 v135 v140 v145 v149 (ix2 r j)) (maxOver fun u : Fin 256 => v27 (ix2 r u)))
        * v175 (ix2 u d))
      ((∑ j : Fin 768, Ideal.exp (scores v10 v11 v23 v58 v89 v120 v125 v130 v135 v140 v145 v149 (ix2 r j) - max (maxOver fun j : Fin 768 => scores v10 v11 v23 v58 v89 v120 v125 v130 v135 v140 v145 v149 (ix2 r j)) (maxOver fun u : Fin 256 => v27 (ix2 r u))))
      + ∑ u : Fin 256, Ideal.exp (v27 (ix2 r u) - max (maxOver fun j : Fin 768 => scores v10 v11 v23 v58 v89 v120 v125 v130 v135 v140 v145 v149 (ix2 r j)) (maxOver fun u : Fin 256 => v27 (ix2 r u)))) := by
  unfold k0_pay1
  exact congrArg₂ Ideal.div (pay22_apply ..) (pay23_apply ..)

end

end Cert.Attn

end
-- ==== Proof.Body.lean ====
/-
  The attention body's result at a grid point in terms of the blocks it is given (`out_apply`): the masked scores of the
  768 keys of the point's band of rows (`score`), the scores of the context keys (`ctxScore`), the exponentials of both
  less the largest of them all, and the values weighted by them over their sum.
-/
module

public import proofs.«01_k».proof.Proof.Payload
public import proofs.«01_k».proof.Proof.Entries
public import Idealize.ShloMosaic.Lib.Pipeline.ValueKit.Acc
public import Idealize.ShloMosaic.Lib.Pipeline.ValueKit.Tiles

@[expose] public section

set_option maxRecDepth 16384

noncomputable section

namespace Cert.Attn

open Idealize.ShloMosaic Idealize.ShloMosaic.TcCoe Idealize.SL.Sem Idealize.ShloMosaic.ValueIdx
open Cert.KernelIdeal Cert.KernelIdeal.Gen

/-- The first row of a point's band of keys, and the first row of the bias table its first tile reads. -/
def bandRow (g : Nat) : Nat := min (4 * g - 4) 52
def tileRow (g : Nat) : Nat := if g = 0 then 11 else if g = 15 then 3 else 7

/-- The words the body computes the row windows from. -/
def w10 (i : grid0.Coords) : BitVec 32 := Scalar.select (Scalar.cmpi .eq (BitVec.ofNat 32 (i 2).val) 15#32) 4#32 0#32
def w11 (i : grid0.Coords) : BitVec 32 :=
  Scalar.select (Scalar.andi (Scalar.cmpi .sgt (BitVec.ofNat 32 (i 2).val) 0#32) (Scalar.cmpi .slt (BitVec.ofNat 32 (i 2).val) 15#32)) 1#32 0#32

/-- The point's group of four query rows. -/
def gOf (i : grid0.Coords) : Fin 16 := i 2

/-- The keys or the values of the point's band. -/
abbrev band (x : Vec Ideal S4096x128 .bf16) (i : grid0.Coords) : Vec Ideal S768x128 .bf16 :=
  View.ld (Val := Elt Ideal) (e' := .bf16) x (Rect.unit (s := S4096x128) (k0_off1 i) S768x128.size (k0_off1_inb i))

/-- A tile of the bias table. -/
abbrev tile (x : Vec Ideal S1x22x64x128 .f32) (i : grid0.Coords) (w : BitVec 32)
    (h : ∀ a, k0_off2 i w a + S1x1x64x128.size a ≤ S1x22x64x128.size a) : Vec Ideal S1x1x64x128 .f32 :=
  View.ld (Val := Elt Ideal) (e' := .f32) x (Rect.unit (s := S1x22x64x128) (k0_off2 i w) S1x1x64x128.size h)

section
variable (i : grid0.Coords) (x0 : Vec Ideal S256x128 .bf16) (x1 : Vec Ideal S4096x128 .bf16) (x2 : Vec Ideal S4096x128 .bf16)
  (x3 : Vec Ideal S256x128 .bf16) (x4 : Vec Ideal S256x128 .bf16) (x5 : Vec Ideal S1x22x64x128 .f32)

/-- The masked scores as the body computes them. -/
abbrev raw : FVec Ideal S256x768 .f32 :=
  k0_pay18 (F := Ideal) (w10 i) (w11 i) (k0_pay2 x0 (band x1 i)) (k0_pay4 (tile x5 i 0#32 (k0_off2_inb i 0)) (tile x5 i 2#32 (k0_off2_inb i 1)) (tile x5 i 4#32 (k0_off2_inb i 2)) (tile x5 i 6#32 (k0_off2_inb i 3)) (tile x5 i 8#32 (k0_off2_inb i 4)) (tile x5 i 10#32 (k0_off2_inb i 5))) (k0_pay5 (tile x5 i 4294967295#32 (k0_off2_inb i 6)) (tile x5 i 1#32 (k0_off2_inb i 7)) (tile x5 i 3#32 (k0_off2_inb i 8)) (tile x5 i 5#32 (k0_off2_inb i 9)) (tile x5 i 7#32 (k0_off2_inb i 10)) (tile x5 i 9#32 (k0_off2_inb i 11))) (k0_pay12 (k0_pay6 (tile x5 i 4294967294#32 (k0_off2_inb i 12))) (k0_pay7 (tile x5 i 0#32 (k0_off2_inb i 0))) (k0_pay8 (tile x5 i 2#32 (k0_off2_inb i 1))) (k0_pay9 (tile x5 i 4#32 (k0_off2_inb i 2))) (k0_pay10 (tile x5 i 6#32 (k0_off2_inb i 3))) (k0_pay11 (tile x5 i 8#32 (k0_off2_inb i 4)))) (k0_pay13 (tile x5 i 4294967293#32 (k0_off2_inb i 13))) (k0_pay14 (tile x5 i 4294967295#32 (k0_off2_inb i 6))) (k0_pay15 (tile x5 i 1#32 (k0_off2_inb i 7))) (k0_pay16 (tile x5 i 3#32 (k0_off2_inb i 8))) (k0_pay17 (tile x5 i 5#32 (k0_off2_inb i 9))) (tile x5 i 7#32 (k0_off2_inb i 10))

/-- The body's result at a point is its payload over the blocks. -/
theorem out_eq (c : Dev nD) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x22x64x128 .f32) (harg8 : arg8.IsWhole) (arg9 : Memref sig .tc .vmem S256x128 .bf16) (harg9 : arg9.IsWhole) :
    out0_A_6 (F := Ideal) c i arg3 harg3 arg4 harg4 arg5 harg5 arg6 harg6 arg7 harg7 arg8 harg8 arg9 harg9 x0 x1 x2 x3 x4 x5
      = k0_pay1 (F := Ideal) (k0_pay22 (w10 i) (w11 i) (band x2 i) (k0_pay2 x0 (band x1 i)) (k0_pay3 x0 x3) (k0_pay4 (tile x5 i 0#32 (k0_off2_inb i 0)) (tile x5 i 2#32 (k0_off2_inb i 1)) (tile x5 i 4#32 (k0_off2_inb i 2)) (tile x5 i 6#32 (k0_off2_inb i 3)) (tile x5 i 8#32 (k0_off2_inb i 4)) (tile x5 i 10#32 (k0_off2_inb i 5))) (k0_pay5 (tile x5 i 4294967295#32 (k0_off2_inb i 6)) (tile x5 i 1#32 (k0_off2_inb i 7)) (tile x5 i 3#32 (k0_off2_inb i 8)) (tile x5 i 5#32 (k0_off2_inb i 9)) (tile x5 i 7#32 (k0_off2_inb i 10)) (tile x5 i 9#32 (k0_off2_inb i 11))) (k0_pay12 (k0_pay6 (tile x5 i 4294967294#32 (k0_off2_inb i 12))) (k0_pay7 (tile x5 i 0#32 (k0_off2_inb i 0))) (k0_pay8 (tile x5 i 2#32 (k0_off2_inb i 1))) (k0_pay9 (tile x5 i 4#32 (k0_off2_inb i 2))) (k0_pay10 (tile x5 i 6#32 (k0_off2_inb i 3))) (k0_pay11 (tile x5 i 8#32 (k0_off2_inb i 4)))) (k0_pay13 (tile x5 i 4294967293#32 (k0_off2_inb i 13))) (k0_pay14 (tile x5 i 4294967295#32 (k0_off2_inb i 6))) (k0_pay15 (tile x5 i 1#32 (k0_off2_inb i 7))) (k0_pay16 (tile x5 i 3#32 (k0_off2_inb i 8))) (k0_pay17 (tile x5 i 5#32 (k0_off2_inb i 9))) (tile x5 i 7#32 (k0_off2_inb i 10)) x4)
        (k0_pay23 (w10 i) (w11 i) (k0_pay2 x0 (band x1 i)) (k0_pay3 x0 x3) (k0_pay4 (tile x5 i 0#32 (k0_off2_inb i 0)) (tile x5 i 2#32 (k0_off2_inb i 1)) (tile x5 i 4#32 (k0_off2_inb i 2)) (tile x5 i 6#32 (k0_off2_inb i 3)) (tile x5 i 8#32 (k0_off2_inb i 4)) (tile x5 i 10#32 (k0_off2_inb i 5))) (k0_pay5 (tile x5 i 4294967295#32 (k0_off2_inb i 6)) (tile x5 i 1#32 (k0_off2_inb i 7)) (tile x5 i 3#32 (k0_off2_inb i 8)) (tile x5 i 5#32 (k0_off2_inb i 9)) (tile x5 i 7#32 (k0_off2_inb i 10)) (tile x5 i 9#32 (k0_off2_inb i 11))) (k0_pay12 (k0_pay6 (tile x5 i 4294967294#32 (k0_off2_inb i 12))) (k0_pay7 (tile x5 i 0#32 (k0_off2_inb i 0))) (k0_pay8 (tile x5 i 2#32 (k0_off2_inb i 1))) (k0_pay9 (tile x5 i 4#32 (k0_off2_inb i 2))) (k0_pay10 (tile x5 i 6#32 (k0_off2_inb i 3))) (k0_pay11 (tile x5 i 8#32 (k0_off2_inb i 4)))) (k0_pay13 (tile x5 i 4294967293#32 (k0_off2_inb i 13))) (k0_pay14 (tile x5 i 4294967295#32 (k0_off2_inb i 6))) (k0_pay15 (tile x5 i 1#32 (k0_off2_inb i 7))) (k0_pay16 (tile x5 i 3#32 (k0_off2_inb i 8))) (k0_pay17 (tile x5 i 5#32 (k0_off2_inb i 9))) (tile x5 i 7#32 (k0_off2_inb i 10))) := by
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_words
  have hz2 : (![0, 0] : Fin 2 → Nat) = fun _ => 0 := funext fun a => by fin_cases a <;> rfl
  simp only [View.readAt_eq_ld, Memref.IsWhole.read_unread]
  rw [View.canon_unit_zero hz2, View.ld_unit_zero hz2, View.ld_unit_zero hz2, View.ld_unit_zero hz2]
  rfl

theorem concat6_apply (p : Fin 6 → Vec Ideal S64x128 .f32) (q : Fin 64) (j : Fin 768) :
    concatenate S64x768 1 [⟨S64x128, p 0⟩, ⟨S64x128, p 1⟩, ⟨S64x128, p 2⟩, ⟨S64x128, p 3⟩, ⟨S64x128, p 4⟩, ⟨S64x128, p 5⟩]
      concatenates_S64x128_S64x128_S64x128_S64x128_S64x128_S64x128_S64x768_d1 (ix2 q j)
    = p ⟨j.val / 128, by omega⟩ (ix2 q ⟨j.val % 128, by omega⟩) :=
  concatenate_ofFn_apply (t := S64x768) (s₁ := S64x128) 1 p
    concatenates_S64x128_S64x128_S64x128_S64x128_S64x128_S64x128_S64x768_d1 rfl 128 rfl (ix2 q j) ⟨j.val / 128, by omega⟩ rfl
    (ix2 q ⟨j.val % 128, by omega⟩) rfl (fun b hb => by fin_cases b; · rfl
                                                        · exact absurd rfl hb)

theorem concat4_apply (p : Fin 4 → Vec Ideal S64x768 .f32) (r : Fin 256) (j : Fin 768) :
    concatenate S256x768 0 [⟨S64x768, p 0⟩, ⟨S64x768, p 1⟩, ⟨S64x768, p 2⟩, ⟨S64x768, p 3⟩]
      concatenates_S64x768_S64x768_S64x768_S64x768_S256x768_d0 (ix2 r j)
    = p ⟨r.val / 64, by omega⟩ (ix2 ⟨r.val % 64, by omega⟩ j) :=
  concatenate_ofFn_apply (t := S256x768) (s₁ := S64x768) 0 p
    concatenates_S64x768_S64x768_S64x768_S64x768_S256x768_d0 rfl 64 rfl (ix2 r j) ⟨r.val / 64, by omega⟩ rfl
    (ix2 ⟨r.val % 64, by omega⟩ j) rfl (fun b hb => by fin_cases b; · exact absurd rfl hb
                                                       · rfl)

/-- The tiles of a point: those of query row `a`, at the key rows in pairs. -/
def tiles : Fin 4 → Fin 6 → Vec Ideal S64x128 .f32 :=
  ![![shapeCast S64x128 (tile x5 i 0#32 (k0_off2_inb i 0)) shapeCasts_S1x1x64x128_S64x128, shapeCast S64x128 (tile x5 i 2#32 (k0_off2_inb i 1)) shapeCasts_S1x1x64x128_S64x128, shapeCast S64x128 (tile x5 i 4#32 (k0_off2_inb i 2)) shapeCasts_S1x1x64x128_S64x128, shapeCast S64x128 (tile x5 i 6#32 (k0_off2_inb i 3)) shapeCasts_S1x1x64x128_S64x128, shapeCast S64x128 (tile x5 i 8#32 (k0_off2_inb i 4)) shapeCasts_S1x1x64x128_S64x128, shapeCast S64x128 (tile x5 i 10#32 (k0_off2_inb i 5)) shapeCasts_S1x1x64x128_S64x128],
    ![shapeCast S64x128 (tile x5 i 4294967295#32 (k0_off2_inb i 6)) shapeCasts_S1x1x64x128_S64x128, shapeCast S64x128 (tile x5 i 1#32 (k0_off2_inb i 7)) shapeCasts_S1x1x64x128_S64x128, shapeCast S64x128 (tile x5 i 3#32 (k0_off2_inb i 8)) shapeCasts_S1x1x64x128_S64x128, shapeCast S64x128 (tile x5 i 5#32 (k0_off2_inb i 9)) shapeCasts_S1x1x64x128_S64x128, shapeCast S64x128 (tile x5 i 7#32 (k0_off2_inb i 10)) shapeCasts_S1x1x64x128_S64x128, shapeCast S64x128 (tile x5 i 9#32 (k0_off2_inb i 11)) shapeCasts_S1x1x64x128_S64x128],
    ![shapeCast S64x128 (tile x5 i 4294967294#32 (k0_off2_inb i 12)) shapeCasts_S1x1x64x128_S64x128, shapeCast S64x128 (tile x5 i 0#32 (k0_off2_inb i 0)) shapeCasts_S1x1x64x128_S64x128, shapeCast S64x128 (tile x5 i 2#32 (k0_off2_inb i 1)) shapeCasts_S1x1x64x128_S64x128, shapeCast S64x128 (tile x5 i 4#32 (k0_off2_inb i 2)) shapeCasts_S1x1x64x128_S64x128, shapeCast S64x128 (tile x5 i 6#32 (k0_off2_inb i 3)) shapeCasts_S1x1x64x128_S64x128, shapeCast S64x128 (tile x5 i 8#32 (k0_off2_inb i 4)) shapeCasts_S1x1x64x128_S64x128],
    ![shapeCast S64x128 (tile x5 i 4294967293#32 (k0_off2_inb i 13)) shapeCasts_S1x1x64x128_S64x128, shapeCast S64x128 (tile x5 i 4294967295#32 (k0_off2_inb i 6)) shapeCasts_S1x1x64x128_S64x128, shapeCast S64x128 (tile x5 i 1#32 (k0_off2_inb i 7)) shapeCasts_S1x1x64x128_S64x128, shapeCast S64x128 (tile x5 i 3#32 (k0_off2_inb i 8)) shapeCasts_S1x1x64x128_S64x128, shapeCast S64x128 (tile x5 i 5#32 (k0_off2_inb i 9)) shapeCasts_S1x1x64x128_S64x128, shapeCast S64x128 (tile x5 i 7#32 (k0_off2_inb i 10)) shapeCasts_S1x1x64x128_S64x128]]

/-- The row a tile's load starts at. -/
def startOf (g : Fin 16) (w : BitVec 32) : Nat :=
  (Scalar.indexCast (Scalar.addi (Scalar.addi w (Scalar.select (Scalar.cmpi .eq (BitVec.ofNat 32 g.val) 0#32) 7#32
    (Scalar.select (Scalar.cmpi .eq (BitVec.ofNat 32 g.val) 15#32) 4294967295#32 3#32))) 4#32)).toNat

theorem startOf_eq : ∀ (g : Fin 16) (a : Fin 4) (m : Fin 6),
    startOf g (BitVec.ofNat 32 (2 * m.val) - BitVec.ofNat 32 a.val) = tileRow g.val + 2 * m.val - a.val := by decide +kernel

theorem tileRow_lt : ∀ (g : Fin 16) (a : Fin 4) (m : Fin 6), tileRow g.val + 2 * m.val - a.val < 22 := by decide +kernel

theorem tile_apply (a : Fin 4) (m : Fin 6) (w : BitVec 32) (hw : w = BitVec.ofNat 32 (2 * m.val) - BitVec.ofNat 32 a.val)
    (h) (q : Fin 64) (x : Fin 128) :
    shapeCast S64x128 (tile x5 i w h) shapeCasts_S1x1x64x128_S64x128 (ix2 q x)
      = x5 (ix4 0 ⟨tileRow (gOf i).val + 2 * m.val - a.val, tileRow_lt (gOf i) a m⟩ q x) := by
  have e1 : shapeCast S64x128 (tile x5 i w h) shapeCasts_S1x1x64x128_S64x128 (ix2 q x) = tile x5 i w h (ix4 0 0 q x) := by
    refine shapeCast_apply _ _ _ _ ?_
    simp [Shape.rowMajor_val_two, Shape.rowMajor_val_four]
  rw [e1]
  refine View.ld_unit_apply_of x5 _ _ _ _ _ fun b => ?_
  have hs : k0_off2 i w 1 = tileRow (gOf i).val + 2 * m.val - a.val := by
    rw [← startOf_eq (gOf i) a m, ← hw]; rfl
  match b with
  | ⟨0, _⟩ => rfl
  | ⟨1, _⟩ => show tileRow (gOf i).val + 2 * m.val - a.val = k0_off2 i w 1 + 0; omega
  | ⟨2, _⟩ => show q.val = 0 + q.val; omega
  | ⟨3, _⟩ => show x.val = 0 + x.val; omega

theorem tiles_apply (a : Fin 4) (m : Fin 6) (q : Fin 64) (x : Fin 128) :
    tiles i x5 a m (ix2 q x) = x5 (ix4 0 ⟨tileRow (gOf i).val + 2 * m.val - a.val, tileRow_lt (gOf i) a m⟩ q x) := by
  fin_cases a <;> fin_cases m <;> exact tile_apply i x5 _ _ _ (by decide) _ q x

/-- The row window as the body computes it, on words. -/
def rowBit (g : Fin 16) (r : Fin 256) (j : Fin 768) : BitVec 1 :=
  let lo := IntOp.addi (Scalar.select (Scalar.cmpi .eq (BitVec.ofNat 32 g.val) 15#32) 4#32 0#32)
    (IntOp.muli (Scalar.select (Scalar.andi (Scalar.cmpi .sgt (BitVec.ofNat 32 g.val) 0#32) (Scalar.cmpi .slt (BitVec.ofNat 32 g.val) 15#32)) 1#32 0#32)
      (IntOp.shrsi .vector (BitVec.ofNat 32 r.val) 6#32))
  let row := IntOp.shrsi .vector (BitVec.ofNat 32 j.val) 6#32
  IntOp.andi (IntOp.cmpi .sge row lo) (IntOp.cmpi .slt row (IntOp.addi lo 8#32))

theorem shift_row : ∀ r : Fin 768, IntOp.shrsi .vector (BitVec.ofNat 32 r.val) 6#32 = BitVec.ofNat 32 (r.val / 64) := by decide +kernel

theorem rowBit_word : ∀ (g : Fin 16) (a : Fin 4) (b : Fin 12),
    IntOp.andi (IntOp.cmpi .sge (BitVec.ofNat 32 b.val) (IntOp.addi (Scalar.select (Scalar.cmpi .eq (BitVec.ofNat 32 g.val) 15#32) 4#32 0#32)
    (IntOp.muli (Scalar.select (Scalar.andi (Scalar.cmpi .sgt (BitVec.ofNat 32 g.val) 0#32) (Scalar.cmpi .slt (BitVec.ofNat 32 g.val) 15#32)) 1#32 0#32)
      (BitVec.ofNat 32 a.val)))) (IntOp.cmpi .slt (BitVec.ofNat 32 b.val) (IntOp.addi (IntOp.addi (Scalar.select (Scalar.cmpi .eq (BitVec.ofNat 32 g.val) 15#32) 4#32 0#32)
    (IntOp.muli (Scalar.select (Scalar.andi (Scalar.cmpi .sgt (BitVec.ofNat 32 g.val) 0#32) (Scalar.cmpi .slt (BitVec.ofNat 32 g.val) 15#32)) 1#32 0#32)
      (BitVec.ofNat 32 a.val))) 8#32))
    = BitVec.ofBool (inWin 8 (4 * g.val + a.val) (bandRow g.val + b.val)) := by decide +kernel

theorem rowBit_eq (g : Fin 16) (r : Fin 256) (j : Fin 768) :
    rowBit g r j = BitVec.ofBool (inWin 8 (4 * g.val + r.val / 64) (bandRow g.val + j.val / 64)) := by
  unfold rowBit
  simp only []
  have h1 := shift_row ⟨r.val, by omega⟩
  have h2 := shift_row j
  simp only at h1
  rw [h1, h2]
  exact rowBit_word g ⟨r.val / 64, by omega⟩ ⟨j.val / 64, by omega⟩

theorem mask_val : (Named.named (F := Ideal) κ "mask" 0xF149F2CA#32 : Ideal .f32) = ⊥ :=
  IdealRules.named_const.ideal_named_scalar _ _ _ _ rfl

/-- The masked score of a key of the band: the scaled inner product plus the bias in the row window, minus infinity outside. -/
def score (r : Fin 256) (j : Fin 768) : EReal :=
  if inWin 8 (4 * (gOf i).val + r.val / 64) (bandRow (gOf i).val + j.val / 64) then
    (∑ d : Fin 128, x0 (ix2 r d) * band x1 i (ix2 j d)) * Ideal.ofBits .f32 0x3DB504F3#32
      + x5 (ix4 0 ⟨tileRow (gOf i).val + 2 * (j.val / 128) - r.val / 64, tileRow_lt (gOf i) ⟨r.val / 64, by omega⟩ ⟨j.val / 128, by omega⟩⟩
          ⟨r.val % 64, by omega⟩ ⟨j.val % 128, by omega⟩)
  else ⊥

/-- The score of a context key. -/
def ctxScore (r : Fin 256) (u : Fin 256) : EReal :=
  (∑ d : Fin 128, x0 (ix2 r d) * x3 (ix2 u d)) * Ideal.ofBits .f32 0x3DB504F3#32

theorem raw_apply (r : Fin 256) (j : Fin 768) : raw i x0 x1 x5 (ix2 r j) = score i x0 x1 x5 r j := by
  have hb : concatenate S256x768 0 [⟨S64x768, concatenate S64x768 1 [⟨S64x128, tiles i x5 0 0⟩, ⟨S64x128, tiles i x5 0 1⟩, ⟨S64x128, tiles i x5 0 2⟩, ⟨S64x128, tiles i x5 0 3⟩, ⟨S64x128, tiles i x5 0 4⟩, ⟨S64x128, tiles i x5 0 5⟩] concatenates_S64x128_S64x128_S64x128_S64x128_S64x128_S64x128_S64x768_d1⟩,
      ⟨S64x768, concatenate S64x768 1 [⟨S64x128, tiles i x5 1 0⟩, ⟨S64x128, tiles i x5 1 1⟩, ⟨S64x128, tiles i x5 1 2⟩, ⟨S64x128, tiles i x5 1 3⟩, ⟨S64x128, tiles i x5 1 4⟩, ⟨S64x128, tiles i x5 1 5⟩] concatenates_S64x128_S64x128_S64x128_S64x128_S64x128_S64x128_S64x768_d1⟩,
      ⟨S64x768, concatenate S64x768 1 [⟨S64x128, tiles i x5 2 0⟩, ⟨S64x128, tiles i x5 2 1⟩, ⟨S64x128, tiles i x5 2 2⟩, ⟨S64x128, tiles i x5 2 3⟩, ⟨S64x128, tiles i x5 2 4⟩, ⟨S64x128, tiles i x5 2 5⟩] concatenates_S64x128_S64x128_S64x128_S64x128_S64x128_S64x128_S64x768_d1⟩,
      ⟨S64x768, concatenate S64x768 1 [⟨S64x128, tiles i x5 3 0⟩, ⟨S64x128, tiles i x5 3 1⟩, ⟨S64x128, tiles i x5 3 2⟩, ⟨S64x128, tiles i x5 3 3⟩, ⟨S64x128, tiles i x5 3 4⟩, ⟨S64x128, tiles i x5 3 5⟩] concatenates_S64x128_S64x128_S64x128_S64x128_S64x128_S64x128_S64x768_d1⟩]
      concatenates_S64x768_S64x768_S64x768_S64x768_S256x768_d0 (ix2 r j)
      = tiles i x5 ⟨r.val / 64, by omega⟩ ⟨j.val / 128, by omega⟩ (ix2 ⟨r.val % 64, by omega⟩ ⟨j.val % 128, by omega⟩) :=
    (concat4_apply (fun a => concatenate S64x768 1 [⟨S64x128, tiles i x5 a 0⟩, ⟨S64x128, tiles i x5 a 1⟩, ⟨S64x128, tiles i x5 a 2⟩, ⟨S64x128, tiles i x5 a 3⟩, ⟨S64x128, tiles i x5 a 4⟩, ⟨S64x128, tiles i x5 a 5⟩] concatenates_S64x128_S64x128_S64x128_S64x128_S64x128_S64x128_S64x768_d1) r j).trans
      (concat6_apply (tiles i x5 ⟨r.val / 64, by omega⟩) _ j)
  rw [tiles_apply] at hb
  have hm : raw i x0 x1 x5 (ix2 r j) = Scalar.select (rowBit (gOf i) r j)
      (k0_pay2 (F := Ideal) x0 (band x1 i) (ix2 r j) + x5 (ix4 0 ⟨tileRow (gOf i).val + 2 * (j.val / 128) - r.val / 64, tileRow_lt (gOf i) ⟨r.val / 64, by omega⟩ ⟨j.val / 128, by omega⟩⟩
          ⟨r.val % 64, by omega⟩ ⟨j.val % 128, by omega⟩)) (Named.named (F := Ideal) κ "mask" 0xF149F2CA#32 : Ideal .f32) := by
    rw [← hb]
    unfold raw k0_pay18 k0_pay4 k0_pay5 k0_pay12 k0_pay6 k0_pay7 k0_pay8 k0_pay9 k0_pay10 k0_pay11 k0_pay13 k0_pay14 k0_pay15 k0_pay16 k0_pay17
    simp only []
    have b1 : ∀ (y : IVec S1x768 32), broadcastTo S256x768 y broadcasts_S1x768_S256x768 (ix2 r j) = y (ix2 0 j) := fun y =>
      broadcastTo_apply y _ _ _ (fun d => by fin_cases d <;> rfl)
    have b2 : ∀ (y : IVec S256x1 32), broadcastTo S256x768 y broadcasts_S256x1_S256x768 (ix2 r j) = y (ix2 r 0) := fun y =>
      broadcastTo_apply y _ _ _ (fun d => by fin_cases d <;> rfl)
    simp only [select_apply, andi, cmpi, b1, b2, addi, muli, shrsi, iota_single_apply, broadcast_apply, addf_apply]
    refine congrArg₂ (fun a b => Scalar.select a b _) ?_ (congrArg₂ (· + ·) rfl ?_)
    · have i1 : iota .tc S1x768 32 [1] iota_S1x768_d1_w32 (ix2 0 j) = BitVec.ofNat 32 j.val :=
        iota_single_apply .tc S1x768 32 1 iota_S1x768_d1_w32 (ix2 0 j)
      have i2 : iota .tc S256x1 32 [0] iota_S256x1_d0_w32 (ix2 r 0) = BitVec.ofNat 32 r.val :=
        iota_single_apply .tc S256x1 32 0 iota_S256x1_d0_w32 (ix2 r 0)
      rw [i1, i2]; rfl
    · rfl
  rw [hm, mask_val, rowBit_eq, pay2_apply]
  unfold score
  cases inWin 8 (4 * (gOf i).val + r.val / 64) (bandRow (gOf i).val + j.val / 64) <;> rfl

/-- The body's result at a row and a channel. -/
theorem out_apply (c : Dev nD) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x22x64x128 .f32) (harg8 : arg8.IsWhole) (arg9 : Memref sig .tc .vmem S256x128 .bf16) (harg9 : arg9.IsWhole) (r : Fin 256) (d : Fin 128) :
    out0_A_6 (F := Ideal) c i arg3 harg3 arg4 harg4 arg5 harg5 arg6 harg6 arg7 harg7 arg8 harg8 arg9 harg9 x0 x1 x2 x3 x4 x5 (ix2 r d)
    = Ideal.div
      ((∑ j : Fin 768, Ideal.exp (score i x0 x1 x5 r j - max (maxOver (score i x0 x1 x5 r)) (maxOver (ctxScore x0 x3 r))) * band x2 i (ix2 j d))
        + ∑ u : Fin 256, Ideal.exp (ctxScore x0 x3 r u - max (maxOver (score i x0 x1 x5 r)) (maxOver (ctxScore x0 x3 r))) * x4 (ix2 u d))
      ((∑ j : Fin 768, Ideal.exp (score i x0 x1 x5 r j - max (maxOver (score i x0 x1 x5 r)) (maxOver (ctxScore x0 x3 r))))
        + ∑ u : Fin 256, Ideal.exp (ctxScore x0 x3 r u - max (maxOver (score i x0 x1 x5 r)) (maxOver (ctxScore x0 x3 r)))) := by
  have hs : (fun j : Fin 768 => raw i x0 x1 x5 (ix2 r j)) = score i x0 x1 x5 r := funext fun j => raw_apply i x0 x1 x5 r j
  have hc : (fun u : Fin 256 => k0_pay3 (F := Ideal) x0 x3 (ix2 r u)) = ctxScore x0 x3 r := funext fun u => pay3_apply x0 x3 r u
  rw [out_eq]
  refine (pay_apply (w10 i) (w11 i) (band x2 i) (k0_pay2 x0 (band x1 i)) (k0_pay3 x0 x3) (k0_pay4 (tile x5 i 0#32 (k0_off2_inb i 0)) (tile x5 i 2#32 (k0_off2_inb i 1)) (tile x5 i 4#32 (k0_off2_inb i 2)) (tile x5 i 6#32 (k0_off2_inb i 3)) (tile x5 i 8#32 (k0_off2_inb i 4)) (tile x5 i 10#32 (k0_off2_inb i 5))) (k0_pay5 (tile x5 i 4294967295#32 (k0_off2_inb i 6)) (tile x5 i 1#32 (k0_off2_inb i 7)) (tile x5 i 3#32 (k0_off2_inb i 8)) (tile x5 i 5#32 (k0_off2_inb i 9)) (tile x5 i 7#32 (k0_off2_inb i 10)) (tile x5 i 9#32 (k0_off2_inb i 11))) (k0_pay12 (k0_pay6 (tile x5 i 4294967294#32 (k0_off2_inb i 12))) (k0_pay7 (tile x5 i 0#32 (k0_off2_inb i 0))) (k0_pay8 (tile x5 i 2#32 (k0_off2_inb i 1))) (k0_pay9 (tile x5 i 4#32 (k0_off2_inb i 2))) (k0_pay10 (tile x5 i 6#32 (k0_off2_inb i 3))) (k0_pay11 (tile x5 i 8#32 (k0_off2_inb i 4)))) (k0_pay13 (tile x5 i 4294967293#32 (k0_off2_inb i 13))) (k0_pay14 (tile x5 i 4294967295#32 (k0_off2_inb i 6))) (k0_pay15 (tile x5 i 1#32 (k0_off2_inb i 7))) (k0_pay16 (tile x5 i 3#32 (k0_off2_inb i 8))) (k0_pay17 (tile x5 i 5#32 (k0_off2_inb i 9))) (tile x5 i 7#32 (k0_off2_inb i 10)) x4 r d).trans ?_
  have key : ∀ (f : Fin 768 → EReal) (g : Fin 256 → EReal), (fun j : Fin 768 => raw i x0 x1 x5 (ix2 r j)) = f →
      (fun u : Fin 256 => k0_pay3 (F := Ideal) x0 x3 (ix2 r u)) = g → _ = Ideal.div
      ((∑ j : Fin 768, Ideal.exp (f j - max (maxOver f) (maxOver g)) * band x2 i (ix2 j d))
        + ∑ u : Fin 256, Ideal.exp (g u - max (maxOver f) (maxOver g)) * x4 (ix2 u d))
      ((∑ j : Fin 768, Ideal.exp (f j - max (maxOver f) (maxOver g)))
        + ∑ u : Fin 256, Ideal.exp (g u - max (maxOver f) (maxOver g))) := fun f g hf hg => by
    subst hf hg; rfl
  exact key _ _ hs hc

end

end Cert.Attn

end
-- ==== Proof.Meet.lean ====
/-
  The kernel's attention of a query and the reference's are equal when the queries, the keys and the bias are finite
  (`meet`): the band of keys the kernel reads holds every key of the query's window, the scores agree there
  (`bandScore_eq`), and every key outside the band is scored minus infinity (`loc_off`).
-/
module

public import proofs.«01_k».proof.Proof.RefAttn
public import proofs.«01_k».proof.Proof.Bias
public import proofs.«01_k».proof.Proof.Body

@[expose] public section

noncomputable section

namespace Cert.Attn

open Idealize.ShloMosaic Idealize.ShloMosaic.TcCoe Idealize.SL.Sem Idealize.ShloMosaic.ValueIdx
open Cert.KernelIdeal Cert.KernelIdeal.Gen
open Cert.RefAttn (tok con scale loc ctxS)

/-- The queries, the keys, the context keys and the bias are real numbers. -/
structure Finite (x0 : Vec Ideal S8192x20480 .bf16) (x1 : Vec Ideal S512x20480 .bf16) (x2 : Vec Ideal S16x15x31 .f32) : Prop where
  q : ∀ b n h d, ∃ r : ℝ, tok x0 4096 (by omega) b n h d = r
  k : ∀ b n h d, ∃ r : ℝ, tok x0 6144 (by omega) b n h d = r
  kc : ∀ b u h d, ∃ r : ℝ, con x1 6144 (by omega) b u h d = r
  bias : ∀ i, ∃ r : ℝ, x2 i = (r : EReal)

theorem scale_real : ∃ r : ℝ, scale = r := by
  unfold scale
  simp [Ideal.ofBits, Ideal.ieee, -EReal.coe_mul]

/-- A sum of real numbers is a real number. -/
theorem real_sum {n : Nat} (r : Fin n → ℝ) : (∑ d, (r d : EReal)) = ((∑ d, r d : ℝ) : EReal) :=
  (map_sum (⟨⟨Real.toEReal, EReal.coe_zero⟩, EReal.coe_add⟩ : ℝ →+ EReal) r Finset.univ).symm

/-- Scaling an inner product of real vectors is scaling one of the vectors; the result is real. -/
theorem dot_scale {n : Nat} (q k : Fin n → EReal) (s : EReal) (hq : ∀ d, ∃ r : ℝ, q d = r) (hk : ∀ d, ∃ r : ℝ, k d = r) (hs : ∃ r : ℝ, s = r) :
    (∑ d, q d * k d) * s = ∑ d, (q d * s) * k d ∧ ∃ r : ℝ, (∑ d, q d * k d) * s = r := by
  choose q' hq' using hq
  choose k' hk' using hk
  obtain ⟨s', hs'⟩ := hs
  have h1 : (∑ d, q d * k d) = ((∑ d, q' d * k' d : ℝ) : EReal) := by
    rw [← real_sum]
    exact Finset.sum_congr rfl fun d _ => by rw [hq', hk', EReal.coe_mul]
  have h2 : (∑ d, (q d * s) * k d) = ((∑ d, (q' d * s') * k' d : ℝ) : EReal) := by
    rw [← real_sum]
    exact Finset.sum_congr rfl fun d _ => by rw [hq', hk', hs', EReal.coe_mul, EReal.coe_mul]
  have h3 : (∑ d, q' d * k' d) * s' = ∑ d, (q' d * s') * k' d := by
    rw [Finset.sum_mul]
    exact Finset.sum_congr rfl fun d _ => by ring
  refine ⟨?_, ⟨(∑ d, q' d * k' d) * s', ?_⟩⟩
  · rw [h1, h2, hs', ← EReal.coe_mul, h3]
  · rw [h1, hs', ← EReal.coe_mul]

theorem bandRow_le (g : Nat) : bandRow g ≤ 52 := by unfold bandRow; omega

/-- A key row in the window of a query row of the point's group lies in the point's band. -/
theorem inBand : ∀ (g : Fin 16) (a : Fin 4) (k : Fin 64), inWin 8 (4 * g.val + a.val) k.val = true →
    bandRow g.val ≤ k.val ∧ k.val < bandRow g.val + 12 := by decide +kernel

/-- The row of the bias table a tile reads, less the table's offset, is the row distance. -/
theorem tileRow_dist (g : Fin 16) (a : Fin 4) (j : Nat) (hj : j < 768) :
    (tileRow g.val + 2 * (j / 128) - a.val) + j % 128 / 64 - 4 = bandRow g.val + j / 64 + 7 - (4 * g.val + a.val) := by
  have hg := g.isLt
  have ha := a.isLt
  unfold tileRow bandRow
  split
  · omega
  · split <;> omega

theorem tileRow_lt' (g : Fin 16) (r : Fin 256) (j : Fin 768) : tileRow g.val + 2 * (j.val / 128) - r.val / 64 < 22 :=
  tileRow_lt g ⟨r.val / 64, by omega⟩ ⟨j.val / 128, by omega⟩

variable (x0 : Vec Ideal S8192x20480 .bf16) (x1 : Vec Ideal S512x20480 .bf16) (x2 : Vec Ideal S16x15x31 .f32)

/-- The query of row `r` of group `g`. -/
def qry (g : Fin 16) (r : Fin 256) : Fin 4096 := ⟨g.val * 256 + r.val, by omega⟩

/-- The key at place `j` of the band of group `g`. -/
def key (g : Fin 16) (j : Fin 768) : Fin 4096 := ⟨bandRow g.val * 64 + j.val, by have := bandRow_le g.val; omega⟩

/-- The kernel's score of a key of the band in terms of the arguments. -/
def bandScore (b : Fin 2) (h : Fin 16) (g : Fin 16) (r : Fin 256) (j : Fin 768) : EReal :=
  if inWin 8 (4 * g.val + r.val / 64) (bandRow g.val + j.val / 64) then
    (∑ d : Fin 128, tok x0 4096 (by omega) b (qry g r) h d * tok x0 6144 (by omega) b (key g j) h d) * scale
      + colBias x2 h ⟨min (tileRow g.val + 2 * (j.val / 128) - r.val / 64 + j.val % 128 / 64 - 4) 14, by omega⟩ ⟨r.val % 64, by omega⟩ ⟨j.val % 128 % 64, by omega⟩
  else ⊥

/-- The kernel's score of a context key in terms of the arguments. -/
def bandCtx (b : Fin 2) (h : Fin 16) (g : Fin 16) (r : Fin 256) (u : Fin 256) : EReal :=
  (∑ d : Fin 128, tok x0 4096 (by omega) b (qry g r) h d * con x1 6144 (by omega) b u h d) * scale

theorem qry_row (g : Fin 16) (r : Fin 256) : (qry g r).val / 64 = 4 * g.val + r.val / 64 := by
  show (g.val * 256 + r.val) / 64 = _; omega
theorem qry_col (g : Fin 16) (r : Fin 256) : (qry g r).val % 64 = r.val % 64 := by
  show (g.val * 256 + r.val) % 64 = _; omega
theorem key_row (g : Fin 16) (j : Fin 768) : (key g j).val / 64 = bandRow g.val + j.val / 64 := by
  show (bandRow g.val * 64 + j.val) / 64 = _; omega
theorem key_col (g : Fin 16) (j : Fin 768) : (key g j).val % 64 = j.val % 64 := by
  show (bandRow g.val * 64 + j.val) % 64 = _; omega

theorem key_injective (g : Fin 16) : Function.Injective (key g) := fun i j h => by
  have h' : bandRow g.val * 64 + i.val = bandRow g.val * 64 + j.val := congrArg Fin.val h
  exact Fin.ext (by omega)

/-- The two scores of a key of the band agree. -/
theorem bandScore_eq (fin : Finite x0 x1 x2) (b : Fin 2) (h : Fin 16) (g : Fin 16) (r : Fin 256) (j : Fin 768) :
    bandScore x0 x2 b h g r j = loc x0 x2 b h (qry g r) (key g j) := by
  have ds := dot_scale (fun d => tok x0 4096 (by omega) b (qry g r) h d) (fun d => tok x0 6144 (by omega) b (key g j) h d) scale
    (fun d => fin.q b (qry g r) h d) (fun d => fin.k b (key g j) h d) scale_real
  unfold bandScore loc
  by_cases hr : inWin 8 (4 * g.val + r.val / 64) (bandRow g.val + j.val / 64) = true
  · have hr' : inWin 8 ((qry g r).val / 64) ((key g j).val / 64) = true := by rw [qry_row, key_row]; exact hr
    rw [if_pos hr]
    have hj := j.isLt
    have em : j.val % 128 % 64 = j.val % 64 := by omega
    by_cases hw : inWin 16 (r.val % 64) (j.val % 64) = true
    · have hw' : inWin 16 ((qry g r).val % 64) ((key g j).val % 64) = true := by rw [qry_col, key_col]; exact hw
      rw [if_pos ⟨hr', hw'⟩]
      refine congrArg₂ (· + ·) ds.1 ?_
      unfold colBias
      have hw2 : inWin 16 (r.val % 64) (j.val % 128 % 64) = true := by rw [em]; exact hw
      obtain ⟨h1, h2⟩ := inWin_dist ⟨r.val % 64, by omega⟩ ⟨j.val % 64, by omega⟩ hw
      rw [dif_pos hw2]
      refine congrArg x2 (congrArg₂ (ix3 h) (Fin.ext ?_) (Fin.ext ?_))
      · show min _ 14 = min ((key g j).val / 64 + 7 - (qry g r).val / 64) 14
        rw [qry_row, key_row, tileRow_dist g ⟨r.val / 64, by omega⟩ j.val hj]
      · show j.val % 128 % 64 + 15 - r.val % 64 = min ((key g j).val % 64 + 15 - (qry g r).val % 64) 30
        rw [qry_col, key_col, em]
        simp only at h1 h2
        omega
    · have hw' : ¬ (inWin 8 ((qry g r).val / 64) ((key g j).val / 64) = true ∧ inWin 16 ((qry g r).val % 64) ((key g j).val % 64) = true) := by
        rw [qry_col, key_col]; exact fun hh => hw hh.2
      rw [if_neg hw']
      unfold colBias
      have hw2 : ¬ inWin 16 (r.val % 64) (j.val % 128 % 64) = true := by rw [em]; exact hw
      rw [dif_neg hw2]
      exact EReal.add_bot _
  · have hr' : ¬ (inWin 8 ((qry g r).val / 64) ((key g j).val / 64) = true ∧ inWin 16 ((qry g r).val % 64) ((key g j).val % 64) = true) := by
      rw [qry_row, key_row]; exact fun hh => hr hh.1
    rw [if_neg hr, if_neg hr']

/-- A key outside the band is scored minus infinity. -/
theorem loc_off (b : Fin 2) (h : Fin 16) (g : Fin 16) (r : Fin 256) (t : Fin 4096) (ht : t ∉ Set.range (key g)) :
    loc x0 x2 b h (qry g r) t = ⊥ := by
  unfold loc
  rw [if_neg]
  rintro ⟨h1, _⟩
  rw [qry_row] at h1
  have ht' := t.isLt
  obtain ⟨h2, h3⟩ := inBand g ⟨r.val / 64, by omega⟩ ⟨t.val / 64, by omega⟩ h1
  simp only at h2 h3
  exact ht ⟨⟨t.val - bandRow g.val * 64, by omega⟩, Fin.ext (by show bandRow g.val * 64 + (t.val - bandRow g.val * 64) = t.val; omega)⟩

theorem loc_ne_top (fin : Finite x0 x1 x2) (b : Fin 2) (h : Fin 16) (n t : Fin 4096) : loc x0 x2 b h n t ≠ ⊤ := by
  unfold loc
  split
  · obtain ⟨h1, p, hp⟩ := dot_scale (fun d => tok x0 4096 (by omega) b n h d) (fun d => tok x0 6144 (by omega) b t h d) scale
      (fun d => fin.q b n h d) (fun d => fin.k b t h d) scale_real
    obtain ⟨s, hs⟩ := fin.bias (ix3 h ⟨min (t.val / 64 + 7 - n.val / 64) 14, by omega⟩ ⟨min (t.val % 64 + 15 - n.val % 64) 30, by omega⟩)
    have e := h1.symm.trans hp
    rw [e]
    refine ne_of_eq_of_ne (congrArg ((p : EReal) + ·) hs) ?_
    show (p : EReal) + (s : EReal) ≠ ⊤
    rw [← EReal.coe_add]
    exact EReal.coe_ne_top _
  · exact bot_ne_top

/-- The kernel's attention of a query is the reference's. -/
theorem meet (fin : Finite x0 x1 x2) (b : Fin 2) (h : Fin 16) (g : Fin 16) (r : Fin 256) (d : Fin 128) :
    Ideal.div
      ((∑ j : Fin 768, Ideal.exp (bandScore x0 x2 b h g r j - max (maxOver (bandScore x0 x2 b h g r)) (maxOver (bandCtx x0 x1 b h g r))) * tok x0 8192 (by omega) b (key g j) h d)
        + ∑ u : Fin 256, Ideal.exp (bandCtx x0 x1 b h g r u - max (maxOver (bandScore x0 x2 b h g r)) (maxOver (bandCtx x0 x1 b h g r))) * con x1 8192 (by omega) b u h d)
      ((∑ j : Fin 768, Ideal.exp (bandScore x0 x2 b h g r j - max (maxOver (bandScore x0 x2 b h g r)) (maxOver (bandCtx x0 x1 b h g r))))
        + ∑ u : Fin 256, Ideal.exp (bandCtx x0 x1 b h g r u - max (maxOver (bandScore x0 x2 b h g r)) (maxOver (bandCtx x0 x1 b h g r))))
    = Cert.RefAttn.R x0 x1 x2 b h (qry g r) d := by
  have hc : ∀ u, bandCtx x0 x1 b h g r u = ctxS x0 x1 b h (qry g r) u ∧ ∃ p : ℝ, bandCtx x0 x1 b h g r u = p := fun u =>
    dot_scale (fun d => tok x0 4096 (by omega) b (qry g r) h d) (fun d => con x1 6144 (by omega) b u h d) scale
      (fun d => fin.q b (qry g r) h d) (fun d => fin.kc b u h d) scale_real
  exact attend_eq (n := 4096) (m := 768) (k := 255) (loc x0 x2 b h (qry g r)) (bandScore x0 x2 b h g r) (bandCtx x0 x1 b h g r) (key g)
    (key_injective g) (bandScore_eq x0 x1 x2 fin b h g r) (loc_off x0 x2 b h g r) (loc_ne_top x0 x1 x2 fin b h (qry g r)) (fun u => (hc u).2)
    (fun t => tok x0 8192 (by omega) b t h d) (fun u => con x1 8192 (by omega) b u h d) (Cert.RefAttn.S x0 x1 x2 b h (qry g r))
    (fun t => Cert.RefAttn.S_left x0 x1 x2 b h (qry g r) t) (fun u => (Cert.RefAttn.S_right x0 x1 x2 b h (qry g r) u).trans (hc u).1.symm)

end Cert.Attn

end
-- ==== Proof.Attn.lean ====
/-
  The value of the attention kernel: after the run of `KernelIdeal` on finite queries, keys and bias the result array holds,
  at token `n` of image `b` and channel `d` of head `h`, the reference's attention of that query (`final`), which is what the
  reference's last operation holds at that index (`ref_eq`); from equal arguments the two results are equal (`algebraic`).
-/
module

public import proofs.«01_k».proof.Defs
public import proofs.«01_k».proof.Proof.Gen.KernelIdeal.Value
public import proofs.«01_k».proof.Proof.Gen.ReferenceIdeal.Read
public import proofs.«01_k».proof.Proof.Gen.Pre_finite_scores
public import proofs.«01_k».proof.Proof.Meet

@[expose] public section

noncomputable section

namespace Cert.Attn

open Idealize.ShloMosaic Idealize.ShloMosaic.TcCoe Idealize.SL.Sem Idealize.ShloMosaic.ValueIdx
open Cert.KernelIdeal Cert.KernelIdeal.Gen
open Cert.RefAttn (tok con scale loc ctxS)

/-- The attention read at an index: image `i 0 / 4096`, token `i 0 % 4096`, head `i 1 / 128`, channel `i 1 % 128`. -/
def G (x0 : Vec Ideal S8192x20480 .bf16) (x1 : Vec Ideal S512x20480 .bf16) (x2 : Vec Ideal S16x15x31 .f32) : Vec Ideal S8192x2048 .bf16 :=
  fun i => Cert.RefAttn.R x0 x1 x2 ⟨(i 0).val / 4096, by have : (i 0).val < 8192 := (i 0).isLt; omega⟩
    ⟨(i 1).val / 128, by have : (i 1).val < 2048 := (i 1).isLt; omega⟩ ⟨(i 0).val % 4096, by omega⟩ ⟨(i 1).val % 128, by omega⟩

/-- The attention at a token of an image and a channel of a head. -/
theorem G_at (x0 : Vec Ideal S8192x20480 .bf16) (x1 : Vec Ideal S512x20480 .bf16) (x2 : Vec Ideal S16x15x31 .f32) (b : Fin 2) (h : Fin 16)
    (n : Fin 4096) (d : Fin 128) (i : S8192x2048.Idx) (h0 : (i 0).val = b.val * 4096 + n.val) (h1 : (i 1).val = h.val * 128 + d.val) :
    G x0 x1 x2 i = Cert.RefAttn.R x0 x1 x2 b h n d := by
  unfold G
  have e0 : (i 0).val / 4096 = b.val := by omega
  have e1 : (i 1).val / 128 = h.val := by omega
  have e2 : (i 0).val % 4096 = n.val := by omega
  have e3 : (i 1).val % 128 = d.val := by omega
  congr 1 <;> exact Fin.ext ‹_›

/-- The image and the head of a point. -/
def bOf (i : grid0.Coords) : Fin 2 := i 0
def hOf (i : grid0.Coords) : Fin 16 := i 1

/-- The first key of a point's band, as the body computes it. -/
def bandStart (g : Fin 16) : Nat :=
  (Scalar.indexCast (Scalar.muli (Scalar.minsi 52#32 (Scalar.maxsi 0#32 (Scalar.subi (Scalar.muli 4#32 (BitVec.ofNat 32 g.val)) 4#32))) 64#32)).toNat

theorem bandStart_eq : ∀ g : Fin 16, bandStart g = bandRow g.val * 64 := by decide +kernel

theorem band_apply (x : Vec Ideal S4096x128 .bf16) (i : grid0.Coords) (j : Fin 768) (d : Fin 128) :
    band x i (ix2 j d) = x (ix2 (key (gOf i) j) d) := by
  refine View.ld_unit_apply_of x _ _ _ _ _ fun b => ?_
  have hs : k0_off1 i 0 = bandRow (gOf i).val * 64 := by
    rw [← bandStart_eq (gOf i)]; rfl
  match b with
  | ⟨0, _⟩ => show bandRow (gOf i).val * 64 + j.val = k0_off1 i 0 + j.val; omega
  | ⟨1, _⟩ => show d.val = 0 + d.val; omega

/-- The windows' block indices at a point. -/
theorem idx_facts : ∀ t : Fin cfg0.N,
    (win0_0.index t 0 = (grid0.coords t 0).val * 16 + (grid0.coords t 2).val ∧ win0_0.index t 1 = 32 + (grid0.coords t 1).val)
    ∧ (win0_1.index t 0 = (grid0.coords t 0).val ∧ win0_1.index t 1 = 48 + (grid0.coords t 1).val)
    ∧ (win0_2.index t 0 = (grid0.coords t 0).val ∧ win0_2.index t 1 = 64 + (grid0.coords t 1).val)
    ∧ (win0_3.index t 0 = (grid0.coords t 0).val ∧ win0_3.index t 1 = 48 + (grid0.coords t 1).val)
    ∧ (win0_4.index t 0 = (grid0.coords t 0).val ∧ win0_4.index t 1 = 64 + (grid0.coords t 1).val)
    ∧ (win0_5.index t 0 = (grid0.coords t 1).val ∧ win0_5.index t 1 = 0 ∧ win0_5.index t 2 = 0 ∧ win0_5.index t 3 = 0)
    ∧ (win0_6.index t 0 = (grid0.coords t 0).val * 16 + (grid0.coords t 2).val ∧ win0_6.index t 1 = (grid0.coords t 1).val) :=
  (by decide +kernel : ∀ t : Fin grid0.N,
    (win0_0.index t 0 = (grid0.coords t 0).val * 16 + (grid0.coords t 2).val ∧ win0_0.index t 1 = 32 + (grid0.coords t 1).val)
    ∧ (win0_1.index t 0 = (grid0.coords t 0).val ∧ win0_1.index t 1 = 48 + (grid0.coords t 1).val)
    ∧ (win0_2.index t 0 = (grid0.coords t 0).val ∧ win0_2.index t 1 = 64 + (grid0.coords t 1).val)
    ∧ (win0_3.index t 0 = (grid0.coords t 0).val ∧ win0_3.index t 1 = 48 + (grid0.coords t 1).val)
    ∧ (win0_4.index t 0 = (grid0.coords t 0).val ∧ win0_4.index t 1 = 64 + (grid0.coords t 1).val)
    ∧ (win0_5.index t 0 = (grid0.coords t 1).val ∧ win0_5.index t 1 = 0 ∧ win0_5.index t 2 = 0 ∧ win0_5.index t 3 = 0)
    ∧ (win0_6.index t 0 = (grid0.coords t 0).val * 16 + (grid0.coords t 2).val ∧ win0_6.index t 1 = (grid0.coords t 1).val))

/-- Every block of the result is some point's. -/
theorem idx_onto : ∀ (a : Fin 32) (h : Fin 16), ∃ t : Fin cfg0.N, win0_6.index t 0 = a.val ∧ win0_6.index t 1 = h.val :=
  (by decide +kernel : ∀ (a : Fin 32) (h : Fin 16), ∃ t : Fin grid0.N, win0_6.index t 0 = a.val ∧ win0_6.index t 1 = h.val)

variable (m : (ℓ : Loc nD τ sig) → Buf (Elt Ideal) ℓ) (c : Dev nD) (t : Fin cfg0.N)

/-- The arguments as launched. -/
abbrev A0 : Vec Ideal S8192x20480 .bf16 := m ((c : Thread nD τ).loc main_arg0)
abbrev A1 : Vec Ideal S512x20480 .bf16 := m ((c : Thread nD τ).loc main_arg1)
abbrev A2 : Vec Ideal S16x15x31 .f32 := m ((c : Thread nD τ).loc main_arg2)

/-- The blocks of a point in terms of the arguments: the queries, the keys, the values, the context keys, the context values
and the bias table. -/
theorem blk0 (r : Fin 256) (d : Fin 128) : iblk m c 0 t (ix2 r d)
    = tok (A0 m c) 4096 (by omega) (bOf (grid0.coords t)) (qry (gOf (grid0.coords t)) r) (hOf (grid0.coords t)) d := by
  obtain ⟨⟨f0, f1⟩, -⟩ := idx_facts t
  show V m c main_arg0 ((win0_0.rect t).emb (ix2 r d)) = _
  rw [V_main_arg0]
  refine congrArg _ (funext fun a => Fin.ext ?_)
  match a with
  | ⟨0, _⟩ =>
    refine (win0_0.rect_emb_val t (ix2 r d) 0).trans ?_
    rw [f0]
    show ((grid0.coords t 0).val * 16 + (grid0.coords t 2).val) * 256 + r.val = (grid0.coords t 0).val * 4096 + ((grid0.coords t 2).val * 256 + r.val)
    omega
  | ⟨1, _⟩ =>
    refine (win0_0.rect_emb_val t (ix2 r d) 1).trans ?_
    rw [f1]
    show (32 + (grid0.coords t 1).val) * 128 + d.val = 4096 + ((grid0.coords t 1).val * 128 + d.val)
    omega

theorem blk1 (n : Fin 4096) (d : Fin 128) : iblk m c 1 t (ix2 n d)
    = tok (A0 m c) 6144 (by omega) (bOf (grid0.coords t)) n (hOf (grid0.coords t)) d := by
  obtain ⟨-, ⟨f0, f1⟩, -⟩ := idx_facts t
  show V m c main_arg0 ((win0_1.rect t).emb (ix2 n d)) = _
  rw [V_main_arg0]
  refine congrArg _ (funext fun a => Fin.ext ?_)
  match a with
  | ⟨0, _⟩ =>
    refine (win0_1.rect_emb_val t (ix2 n d) 0).trans ?_
    rw [f0]
    rfl
  | ⟨1, _⟩ =>
    refine (win0_1.rect_emb_val t (ix2 n d) 1).trans ?_
    rw [f1]
    show (48 + (grid0.coords t 1).val) * 128 + d.val = 6144 + ((grid0.coords t 1).val * 128 + d.val)
    omega

theorem blk2 (n : Fin 4096) (d : Fin 128) : iblk m c 2 t (ix2 n d)
    = tok (A0 m c) 8192 (by omega) (bOf (grid0.coords t)) n (hOf (grid0.coords t)) d := by
  obtain ⟨-, -, ⟨f0, f1⟩, -⟩ := idx_facts t
  show V m c main_arg0 ((win0_2.rect t).emb (ix2 n d)) = _
  rw [V_main_arg0]
  refine congrArg _ (funext fun a => Fin.ext ?_)
  match a with
  | ⟨0, _⟩ =>
    refine (win0_2.rect_emb_val t (ix2 n d) 0).trans ?_
    rw [f0]
    rfl
  | ⟨1, _⟩ =>
    refine (win0_2.rect_emb_val t (ix2 n d) 1).trans ?_
    rw [f1]
    show (64 + (grid0.coords t 1).val) * 128 + d.val = 8192 + ((grid0.coords t 1).val * 128 + d.val)
    omega

theorem blk3 (u : Fin 256) (d : Fin 128) : iblk m c 3 t (ix2 u d)
    = con (A1 m c) 6144 (by omega) (bOf (grid0.coords t)) u (hOf (grid0.coords t)) d := by
  obtain ⟨-, -, -, ⟨f0, f1⟩, -⟩ := idx_facts t
  show V m c main_arg1 ((win0_3.rect t).emb (ix2 u d)) = _
  rw [V_main_arg1]
  refine congrArg _ (funext fun a => Fin.ext ?_)
  match a with
  | ⟨0, _⟩ =>
    refine (win0_3.rect_emb_val t (ix2 u d) 0).trans ?_
    rw [f0]
    rfl
  | ⟨1, _⟩ =>
    refine (win0_3.rect_emb_val t (ix2 u d) 1).trans ?_
    rw [f1]
    show (48 + (grid0.coords t 1).val) * 128 + d.val = 6144 + ((grid0.coords t 1).val * 128 + d.val)
    omega

theorem blk4 (u : Fin 256) (d : Fin 128) : iblk m c 4 t (ix2 u d)
    = con (A1 m c) 8192 (by omega) (bOf (grid0.coords t)) u (hOf (grid0.coords t)) d := by
  obtain ⟨-, -, -, -, ⟨f0, f1⟩, -⟩ := idx_facts t
  show V m c main_arg1 ((win0_4.rect t).emb (ix2 u d)) = _
  rw [V_main_arg1]
  refine congrArg _ (funext fun a => Fin.ext ?_)
  match a with
  | ⟨0, _⟩ =>
    refine (win0_4.rect_emb_val t (ix2 u d) 0).trans ?_
    rw [f0]
    rfl
  | ⟨1, _⟩ =>
    refine (win0_4.rect_emb_val t (ix2 u d) 1).trans ?_
    rw [f1]
    show (64 + (grid0.coords t 1).val) * 128 + d.val = 8192 + ((grid0.coords t 1).val * 128 + d.val)
    omega

theorem blk5 (e : Fin 22) (q : Fin 64) (x : Fin 128) : iblk m c 5 t (ix4 0 e q x)
    = colBias (A2 m c) (hOf (grid0.coords t)) ⟨min (e.val + x.val / 64 - 4) 14, by omega⟩ q ⟨x.val % 64, by omega⟩ := by
  obtain ⟨-, -, -, -, -, ⟨f0, f1, f2, f3⟩, -⟩ := idx_facts t
  rw [← V_bias_apply m c (hOf (grid0.coords t)) e q x]
  show V m c main_v14 ((win0_5.rect t).emb (ix4 0 e q x)) = _
  refine congrArg _ (funext fun a => Fin.ext ?_)
  match a with
  | ⟨0, _⟩ =>
    refine (win0_5.rect_emb_val t (ix4 0 e q x) 0).trans ?_
    rw [f0]
    show (grid0.coords t 1).val * 1 + 0 = (grid0.coords t 1).val
    omega
  | ⟨1, _⟩ => exact win0_5.rect_emb_val_of_index_zero t 1 f1 (ix4 0 e q x)
  | ⟨2, _⟩ => exact win0_5.rect_emb_val_of_index_zero t 2 f2 (ix4 0 e q x)
  | ⟨3, _⟩ => exact win0_5.rect_emb_val_of_index_zero t 3 f3 (ix4 0 e q x)

theorem score_eq (r : Fin 256) :
    score (grid0.coords t) (iblk m c 0 t) (iblk m c 1 t) (iblk m c 5 t) r
      = bandScore (A0 m c) (A2 m c) (bOf (grid0.coords t)) (hOf (grid0.coords t)) (gOf (grid0.coords t)) r := by
  funext j
  unfold score bandScore
  refine if_congr Iff.rfl (congrArg₂ (· + ·) (congrArg₂ (· * ·) (Finset.sum_congr rfl fun d _ => ?_) rfl) ?_) rfl
  · rw [blk0, band_apply, blk1]
  · rw [blk5]

theorem ctx_eq (r : Fin 256) :
    ctxScore (iblk m c 0 t) (iblk m c 3 t) r
      = bandCtx (A0 m c) (A1 m c) (bOf (grid0.coords t)) (hOf (grid0.coords t)) (gOf (grid0.coords t)) r := by
  funext u
  unfold ctxScore bandCtx
  exact congrArg₂ (· * ·) (Finset.sum_congr rfl fun d _ => by rw [blk0, blk3]) rfl

/-- What a point writes back is its block of the attention. -/
theorem flushed_eq (fin : Finite (A0 m c) (A1 m c) (A2 m c)) :
    (dats m 0 c).flushed 6 t = ((cfg0.win 6).blk t).view.read (Elt Ideal) (G (A0 m c) (A1 m c) (A2 m c)) := by
  obtain ⟨-, -, -, -, -, -, ⟨f0, f1⟩⟩ := idx_facts t
  rw [Value.flushed6_A]
  funext y
  obtain ⟨r, d, rfl⟩ : ∃ (r : Fin 256) (d : Fin 128), y = ix2 r d := ⟨y 0, y 1, eq_ix2 y⟩
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 r d)
    = G _ _ _ ((win0_6.rect t).emb (ix2 r d))
  refine (out_apply (grid0.coords t) (iblk m c 0 t) (iblk m c 1 t) (iblk m c 2 t) (iblk m c 3 t) (iblk m c 4 t) (iblk m c 5 t) c _ _ _ _ _ _ _ _ _ _ _ _ _ _ r d).trans ?_
  rw [score_eq, ctx_eq]
  have hg := G_at (A0 m c) (A1 m c) (A2 m c) (bOf (grid0.coords t)) (hOf (grid0.coords t)) (qry (gOf (grid0.coords t)) r) d
    ((win0_6.rect t).emb (ix2 r d))
    (by
      refine (win0_6.rect_emb_val t (ix2 r d) 0).trans ?_
      rw [f0]
      show ((grid0.coords t 0).val * 16 + (grid0.coords t 2).val) * 256 + r.val = (grid0.coords t 0).val * 4096 + ((grid0.coords t 2).val * 256 + r.val)
      omega)
    (by
      refine (win0_6.rect_emb_val t (ix2 r d) 1).trans ?_
      rw [f1]
      rfl)
  refine Eq.trans ?_ hg.symm
  rw [← meet (A0 m c) (A1 m c) (A2 m c) fin]
  refine congrArg (fun z => Ideal.div z _) (congrArg₂ (· + ·) (Finset.sum_congr rfl fun j _ => congrArg₂ (· * ·) rfl ?_)
    (Finset.sum_congr rfl fun u _ => congrArg₂ (· * ·) rfl ?_))
  · rw [band_apply, blk2]
  · rw [blk4]

/-- Every index of the result is in some point's block. -/
theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  obtain ⟨t, ht0, ht1⟩ := idx_onto ⟨(i 0 : Nat) / 256, by omega⟩ ⟨(i 1 : Nat) / 128, by omega⟩
  refine ⟨t, flush0_6 t, ?_⟩
  show i ∈ ((View.whole main_v15).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [ht0]; dsimp only; omega
  | ⟨1, _⟩ =>
    show win0_6.index t 1 * 128 ≤ (i 1 : Nat) ∧ (i 1 : Nat) < win0_6.index t 1 * 128 + 128
    rw [ht1]; dsimp only; omega

/-- The result array after the run is the attention of the arguments. -/
theorem final (fin : Finite (A0 m c) (A1 m c) (A2 m c)) : (dats m 0 c).arrAt 6 cfg0.N = G (A0 m c) (A1 m c) (A2 m c) :=
  (dats m 0 c).arrAt_eq_of_cover 6 _ (fun t _ => flushed_eq m c t fin) cover

/-- The reference's result is the attention of its arguments. -/
theorem ref_eq (x0 : Vec Ideal S8192x20480 .bf16) (x1 : Vec Ideal S512x20480 .bf16) (x2 : Vec Ideal S16x15x31 .f32) :
    Cert.ReferenceIdeal.Read.val_main_v117 (F := Ideal) x0 x1 x2 = G x0 x1 x2 := by
  funext i
  have h0 : (i 0 : Nat) < 8192 := (i 0).isLt
  have h1 : (i 1 : Nat) < 2048 := (i 1).isLt
  have e : i = ix2 (⟨(i 0).val / 4096 * 4096 + (i 0).val % 4096, by omega⟩ : Fin 8192) (⟨(i 1).val / 128 * 128 + (i 1).val % 128, by omega⟩ : Fin 2048) :=
    funext fun a => Fin.ext (by
      match a with
      | ⟨0, _⟩ => show (i 0).val = (i 0).val / 4096 * 4096 + (i 0).val % 4096; omega
      | ⟨1, _⟩ => show (i 1).val = (i 1).val / 128 * 128 + (i 1).val % 128; omega)
  have hr := Cert.RefAttn.result_apply x0 x1 x2 ⟨(i 0).val / 4096, by omega⟩ ⟨(i 1).val / 128, by omega⟩ ⟨(i 0).val % 4096, by omega⟩ ⟨(i 1).val % 128, by omega⟩
  exact (congrArg (Cert.ReferenceIdeal.Read.val_main_v117 (F := Ideal) x0 x1 x2) e).trans hr

theorem inf_val : (Ideal.ofBits .f32 0x7F800000#32 : EReal) = ⊤ := by simp [Ideal.ofBits, Ideal.ieee]

/-- An extended real whose absolute value is below infinity is real. -/
theorem real_of_abs (x : EReal) (h : Ideal.cmp .olt (max x (-x)) (Ideal.ofBits .f32 0x7F800000#32) = 1#1) : ∃ r : ℝ, x = r := by
  rw [inf_val] at h
  induction x with
  | bot => simp [Ideal.cmp] at h
  | top => simp [Ideal.cmp] at h
  | coe r => exact ⟨r, rfl⟩

/-- The precondition says the queries, the keys, the context keys and the bias are real. -/
theorem finite_of_pre (x0 : Vec Ideal S8192x20480 .bf16) (x1 : Vec Ideal S512x20480 .bf16) (x2 : Vec Ideal S16x15x31 .f32)
    (h0 : (Cert.Pre_finite_scores.fn (F := Ideal) x0 x1 x2).1 = (fun _ => 1#1))
    (h1 : (Cert.Pre_finite_scores.fn (F := Ideal) x0 x1 x2).2.1 = (fun _ => 1#1))
    (h2 : (Cert.Pre_finite_scores.fn (F := Ideal) x0 x1 x2).2.2 = (fun _ => 1#1)) : Finite x0 x1 x2 := by
  have q : ∀ (a : Fin 8192) (o : Nat) (ho : 4096 ≤ o ∧ o < 8192), ∃ r : ℝ, x0 (ix2 a ⟨o, by omega⟩) = (r : EReal) := fun a o ho => by
    have hq := congrFun h0 (ix2 a (⟨o - 4096, by omega⟩ : Fin 4096))
    have e := extractStridedSlice_apply (t := Cert.Pre_finite_scores.S8192x4096) ![0, 4096] x0 Cert.Pre_finite_scores.Gen.slices_S8192x20480_S8192x4096_0_4096
      (ix2 a (⟨o - 4096, by omega⟩ : Fin 4096)) (ix2 a ⟨o, by omega⟩) (fun b => by
        match b with
        | ⟨0, _⟩ => show a.val = 0 + a.val; omega
        | ⟨1, _⟩ => show o = 4096 + (o - 4096); omega)
    rw [← e]
    exact real_of_abs _ hq
  have k : ∀ (a : Fin 512) (o : Nat) (ho : 6144 ≤ o ∧ o < 8192), ∃ r : ℝ, x1 (ix2 a ⟨o, by omega⟩) = (r : EReal) := fun a o ho => by
    have hq := congrFun h1 (ix2 a (⟨o - 6144, by omega⟩ : Fin 2048))
    have e := extractStridedSlice_apply (t := Cert.Pre_finite_scores.S512x2048) ![0, 6144] x1 Cert.Pre_finite_scores.Gen.slices_S512x20480_S512x2048_0_6144
      (ix2 a (⟨o - 6144, by omega⟩ : Fin 2048)) (ix2 a ⟨o, by omega⟩) (fun b => by
        match b with
        | ⟨0, _⟩ => show a.val = 0 + a.val; omega
        | ⟨1, _⟩ => show o = 6144 + (o - 6144); omega)
    rw [← e]
    exact real_of_abs _ hq
  exact ⟨fun b n h d => q _ _ (by omega), fun b n h d => q _ _ (by omega), fun b u h d => k _ _ (by omega),
    fun i => real_of_abs _ (congrFun h2 i)⟩

/-- From equal arguments with finite queries, keys, context keys and bias the attention kernel and its reference end with
equal results, their arguments unchanged. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  refine ⟨fun c => G (m ((c.tc : Thread nD τ).loc main_arg0)) (m ((c.tc : Thread nD τ).loc main_arg1))
    (m ((c.tc : Thread nD τ).loc main_arg2)), ?_, ?_⟩
  · exact (θ_run Cert.KernelIdeal.defs _ _).mono (fun r h c => ⟨(h c).1.trans (final m c
      (finite_of_pre _ _ _ (hpre c).1 (hpre c).2.1 (hpre c).2.2)), (h c).2⟩) (Value.run_blocks (F := Ideal) m g)
  · refine (θ_run Cert.ReferenceIdeal.defs _ _).mono (fun r h c => ?_) (Cert.ReferenceIdeal.Value.run (F := Ideal) m' g')
    refine ⟨((h c).1.trans ?_), (h c).2⟩
    rw [Cert.ReferenceIdeal.Read.val_main_v117_eq, ref_eq, (hagree c).1, (hagree c).2.1, (hagree c).2.2]

end Cert.Attn

end
-- ==== Proof.InProj.lean ====
/-
  The value of the input projection: after the run of `Kernel2Ideal` the result array holds, at row `r` and column `c`, the
  sum over `k` of `x[r, k] · w[k, c]` plus `b[c]` (`InProj.final`), which is what the reference's last operation holds at
  that index (`InProj.ref_apply`); from equal arguments the two results are equal (`InProj.algebraic`).
-/
module

public import proofs.«01_k».proof.Defs
public import proofs.«01_k».proof.Proof.Gen.Kernel2Ideal.Value
public import proofs.«01_k».proof.Proof.Gen.Reference2Ideal.Read
public import Idealize.ShloMosaic.Lib.MatmulPlain
public import Idealize.ShloMosaic.Lib.ValueIdx

@[expose] public section

noncomputable section

namespace Cert.InProj

open Idealize.ShloMosaic Idealize.ShloMosaic.TcCoe Idealize.SL.Sem Idealize.ShloMosaic.ValueIdx
open Cert.Kernel2Ideal Cert.Kernel2Ideal.Gen

/-- The projection read at an index: row `i 0` of the activations against column `i 1` of the weights, plus the bias. -/
def G (x : Vec Ideal S8192x4096 .bf16) (w : Vec Ideal S4096x20480 .f32) (b : Vec Ideal S20480 .f32) :
    Vec Ideal S8192x20480 .bf16 :=
  fun i => (∑ k : Fin 4096, x (ix2 (i 0) k) * w (ix2 k (i 1))) + b (ix1 (i 1))

theorem hz2 : (![0, 0] : Fin 2 → Nat) = fun _ => 0 := funext fun a => by fin_cases a <;> rfl

/-- The body's payload read at an index. -/
theorem pay_apply (a : Vec Ideal S1024x4096 .bf16) (w : Vec Ideal S4096x1024 .bf16) (b : Vec Ideal S1x1024 .f32)
    (r : Fin 1024) (c : Fin 1024) :
    k0_pay1 (F := Ideal) a w b (ix2 r c) = (∑ k : Fin 4096, a (ix2 r k) * w (ix2 k c)) + b (ix2 0 c) := by
  unfold k0_pay1
  simp only [truncf_apply, addf_apply, shapeCast_self]
  have h1 := Ideal.matmul_plain_apply (M := 1024) (K := 4096) (N := 1024) (φ₁ := .bf16) (φ₂ := .bf16) none a w (constant S1024x1024 .f32 0x00000000#32) r c
  have h2 : broadcastTo S1024x1024 b broadcasts_S1x1024_S1024x1024 (ix2 r c) = b (ix2 0 c) :=
    broadcastTo_apply b _ _ _ (fun d => by fin_cases d <;> rfl)
  rw [h2]
  refine congrArg (· + b (ix2 0 c)) (h1.trans ?_)
  show Ideal.ofBits .f32 0x00000000#32 + _ = _
  rw [Ideal.ofBits_zero_f32, zero_add]

/-- The bias row with its unit axis, read at an index. -/
theorem bias_apply (b : Vec Ideal S20480 .f32) (j : S1x20480.Idx) :
    shapeCast S1x20480 b shapeCasts_S20480_S1x20480 j = b (ix1 (j 1)) := by
  obtain ⟨z, q, rfl⟩ : ∃ (z : Fin 1) (q : Fin 20480), j = ix2 z q := ⟨j 0, j 1, eq_ix2 j⟩
  refine shapeCast_apply _ _ _ _ ?_
  rw [Shape.rowMajor_val_one, Shape.rowMajor_val_two]
  obtain rfl : z = 0 := Subsingleton.elim _ _
  simp

variable (m : (ℓ : Loc nD τ sig) → Buf (Elt Ideal) ℓ)

/-- The weights and the bias when the region is entered: converted, which is the identity here, and given a unit axis. -/
theorem V_w (c : Dev nD) : V m c main_v0 = m ((c : Thread nD τ).loc main_arg1) := by
  show StableHlo.after hostOps0 _ (Proc.devRef .tc main_v0) = _
  after_results
  rfl

theorem V_b (c : Dev nD) : V m c main_v1 = shapeCast S1x20480 (m ((c : Thread nD τ).loc main_arg2)) shapeCasts_S20480_S1x20480 := by
  show StableHlo.after hostOps0 _ (Proc.devRef .tc main_v1) = _
  after_results
  rfl

/-- The windows' block indices at a point: rows move with the result's rows, columns with the result's columns. -/
theorem idx_facts : ∀ t : Fin cfg0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1 :=
  (by decide +kernel : ∀ t : Fin grid0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1)

/-- Every block of the result is some point's. -/
theorem idx_onto : ∀ (a : Fin 8) (b : Fin 20), ∃ t : Fin cfg0.N, win0_3.index t 0 = a.val ∧ win0_3.index t 1 = b.val :=
  (by decide +kernel : ∀ (a : Fin 8) (b : Fin 20), ∃ t : Fin grid0.N, win0_3.index t 0 = a.val ∧ win0_3.index t 1 = b.val)

/-- What a point writes back is its block of the projection. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨f1, f2, f3, f4, f5, f6⟩ := idx_facts t
  rw [Value.flushed3]
  unfold out0_3
  rw [View.canon_unit_zero hz2, View.ld_unit_zero hz2, View.ld_unit_zero hz2, View.ld_unit_zero hz2]
  funext y
  obtain ⟨r, q, rfl⟩ : ∃ (r : Fin 1024) (q : Fin 1024), y = ix2 r q := ⟨y 0, y 1, eq_ix2 y⟩
  show k0_pay1 (F := Ideal) (iblk m c 0 t) (iblk m c 1 t) (iblk m c 2 t) (ix2 r q) = G _ _ _ ((win0_3.rect t).emb (ix2 r q))
  refine (pay_apply _ _ _ r q).trans ?_
  have e30 := win0_3.rect_emb_val t (ix2 r q) 0
  have e31 := win0_3.rect_emb_val t (ix2 r q) 1
  have ha : ∀ k : Fin 4096, iblk m c 0 t (ix2 r k)
      = m ((c : Thread nD τ).loc main_arg0) (ix2 ((win0_3.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e30.symm
    | ⟨1, _⟩ => exact (win0_0.rect_emb_val_of_index_zero t 1 f2 (ix2 r k))
  have hw : ∀ k : Fin 4096, iblk m c 1 t (ix2 k q)
      = m ((c : Thread nD τ).loc main_arg1) (ix2 k ((win0_3.rect t).emb (ix2 r q) 1)) := fun k => by
    show V m c main_v0 ((win0_1.rect t).emb (ix2 k q)) = _
    rw [V_w]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e31.symm
  have hb : iblk m c 2 t (ix2 0 q)
      = m ((c : Thread nD τ).loc main_arg2) (ix1 ((win0_3.rect t).emb (ix2 r q) 1)) := by
    show V m c main_v1 ((win0_2.rect t).emb (ix2 0 q)) = _
    rw [V_b]
    refine (bias_apply _ _).trans (congrArg _ (congrArg ix1 (Fin.ext ?_)))
    exact ((win0_2.rect_emb_val t (ix2 0 q) 1).trans (by rw [f6]; rfl)).trans e31.symm
  unfold G
  rw [hb]
  exact congrArg (· + _) (Finset.sum_congr rfl fun k _ => congrArg₂ _ (ha k) (hw k))

/-- Every index of the result is in some point's block. -/
theorem cover (i : S8192x20480.Idx) : ∃ t : Fin cfg0.N, (cfg0.win 3).flush t = true ∧ i ∈ ((cfg0.win 3).blk t).view.set := by
  have h0 : (i 0 : Nat) < 8192 := (i 0).isLt
  have h1 : (i 1 : Nat) < 20480 := (i 1).isLt
  obtain ⟨t, ht0, ht1⟩ := idx_onto ⟨(i 0 : Nat) / 1024, by omega⟩ ⟨(i 1 : Nat) / 1024, by omega⟩
  refine ⟨t, flush0_3 t, ?_⟩
  show i ∈ ((View.whole main_v2).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [ht0]; dsimp only; omega
  | ⟨1, _⟩ =>
    show win0_3.index t 1 * 1024 ≤ (i 1 : Nat) ∧ (i 1 : Nat) < win0_3.index t 1 * 1024 + 1024
    rw [ht1]; dsimp only; omega

/-- The result array after the run is the projection of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is the projection of its arguments. -/
theorem ref_eq (x : Vec Ideal S8192x4096 .bf16) (w : Vec Ideal S4096x20480 .f32) (b : Vec Ideal S20480 .f32) :
    Cert.Reference2Ideal.Read.val_main_v5 (F := Ideal) x w b = G x w b := by
  funext i
  rw [Cert.Reference2Ideal.Read.val_main_v5_apply, Cert.Reference2Ideal.Read.val_main_v4_apply,
    Cert.Reference2Ideal.Read.val_main_v3_apply, Cert.Reference2Ideal.Read.val_main_v2_apply,
    Cert.Reference2Ideal.Read.val_main_v1_apply]
  show (∑ k : Fin 4096, _) + b _ = (∑ k : Fin 4096, _) + b _
  refine congrArg₂ _ (Finset.sum_congr rfl fun k _ => ?_) (congrArg b (funext fun a => by fin_cases a; rfl))
  rw [Cert.Reference2Ideal.Read.val_main_v0_apply]
  refine congrArg₂ _ (congrArg x (funext fun a => by fin_cases a <;> rfl)) (congrArg w (funext fun a => by fin_cases a <;> rfl))

/-- From equal arguments the projection kernel and its reference end with equal results, their arguments unchanged. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => G (m ((c.tc : Thread nD τ).loc main_arg0)) (m ((c.tc : Thread nD τ).loc main_arg1))
    (m ((c.tc : Thread nD τ).loc main_arg2)), ?_, ?_⟩
  · exact (θ_run Cert.Kernel2Ideal.defs _ _).mono (fun r h c => ⟨(h c).1.trans (final m c), (h c).2⟩)
      (Value.run_blocks (F := Ideal) m g)
  · refine (θ_run Cert.Reference2Ideal.defs _ _).mono (fun r h c => ?_) (Cert.Reference2Ideal.Value.run (F := Ideal) m' g')
    refine ⟨((h c).1.trans ?_), (h c).2⟩
    rw [Cert.Reference2Ideal.Read.val_main_v5_eq, ref_eq, (hagree c).1, (hagree c).2.1, (hagree c).2.2]

end Cert.InProj

end
-- ==== Proof.Merge.lean ====
/-
  The value of the gated merge: after the run of `Kernel3Ideal` the result array holds, at row `r` and column `c`, the gate
  of the pooled branch times its product, plus the gate of the attended branch times its product (`Merge.final`), which is
  what the reference's last operation holds at that index (`Merge.ref_eq`); from equal arguments the two results are equal
  (`Merge.algebraic`).
-/
module

public import proofs.«01_k».proof.Defs
public import proofs.«01_k».proof.Proof.Gen.Kernel3Ideal.Value
public import proofs.«01_k».proof.Proof.Gen.Reference3Ideal.Read
public import Idealize.ShloMosaic.Lib.MatmulPlain
public import Idealize.ShloMosaic.Lib.ValueIdx

@[expose] public section

noncomputable section

namespace Cert.Merge

open Idealize.ShloMosaic Idealize.ShloMosaic.TcCoe Idealize.SL.Sem Idealize.ShloMosaic.ValueIdx
open Cert.Kernel3Ideal Cert.Kernel3Ideal.Gen

/-- The logistic gate `1 / (1 + e⁻ˣ)`. -/
def gate (x : EReal) : EReal :=
  Ideal.div (Ideal.ofBits .f32 0x3F800000#32) (Ideal.ofBits .f32 0x3F800000#32 + Ideal.exp (-x))

/-- Column `c` of the 4096-column part of the projection that starts at column `o`. -/
def col (o : Nat) (h : o + 4096 ≤ 20480) (c : Fin 4096) : Fin 20480 := ⟨o + c.val, by have := c.isLt; omega⟩

/-- Column `k` of the left half, and of the right half, of the branches side by side. -/
def lo (k : Fin 2048) : Fin 4096 := ⟨k.val, by have := k.isLt; omega⟩
def hi (k : Fin 2048) : Fin 4096 := ⟨2048 + k.val, by have := k.isLt; omega⟩

/-- The merge read at an index. -/
def G (x : Vec Ideal S8192x4096 .bf16) (wp wa : Vec Ideal S2048x4096 .f32) (p : Vec Ideal S8192x20480 .bf16) :
    Vec Ideal S8192x4096 .bf16 :=
  fun i => gate (p (ix2 (i 0) (col 12288 (by decide) (i 1)))) * (∑ k : Fin 2048, x (ix2 (i 0) (lo k)) * wp (ix2 k (i 1)))
    + gate (p (ix2 (i 0) (col 16384 (by decide) (i 1)))) * (∑ k : Fin 2048, x (ix2 (i 0) (hi k)) * wa (ix2 k (i 1)))

theorem hz2 : (![0, 0] : Fin 2 → Nat) = fun _ => 0 := funext fun a => by fin_cases a <;> rfl

theorem dot_apply (a : Vec Ideal S512x2048 .bf16) (w : Vec Ideal S2048x1024 .bf16) (r : Fin 512) (c : Fin 1024) :
    FloatOps.matmul (F := Ideal) (φ₁ := .bf16) (φ₂ := .bf16) dot_S512x2048_S2048x1024_S512x1024_1_0_0_1_n_n none a w
      (constant S512x1024 .f32 0x00000000#32) (ix2 r c) = ∑ k : Fin 2048, a (ix2 r k) * w (ix2 k c) := by
  refine (Ideal.matmul_plain_apply (M := 512) (K := 2048) (N := 1024) (φ₁ := .bf16) (φ₂ := .bf16) none a w
    (constant S512x1024 .f32 0x00000000#32) r c).trans ?_
  show Ideal.ofBits .f32 0x00000000#32 + _ = _
  rw [Ideal.ofBits_zero_f32, zero_add]

/-- The kernel's gate is written with a subtraction from zero. -/
theorem gate_eq (x : EReal) : Ideal.div (Ideal.ofBits .f32 0x3F800000#32)
    (Ideal.ofBits .f32 0x3F800000#32 + Ideal.exp (Ideal.ofBits .f32 0x00000000#32 - x)) = gate x := by
  rw [Ideal.ofBits_zero_f32, sub_eq_add_neg, zero_add]; rfl

/-- The body's payload read at an index. -/
theorem pay_apply (a : Vec Ideal S512x2048 .bf16) (w : Vec Ideal S2048x1024 .bf16) (a' : Vec Ideal S512x2048 .bf16)
    (w' : Vec Ideal S2048x1024 .bf16) (p p' : Vec Ideal S512x1024 .bf16) (r : Fin 512) (c : Fin 1024) :
    k0_pay1 (F := Ideal) a w a' w' p p' (ix2 r c)
      = gate (p (ix2 r c)) * (∑ k : Fin 2048, a (ix2 r k) * w (ix2 k c))
        + gate (p' (ix2 r c)) * (∑ k : Fin 2048, a' (ix2 r k) * w' (ix2 k c)) := by
  rw [← dot_apply a w, ← dot_apply a' w', ← gate_eq, ← gate_eq]
  unfold k0_pay1
  simp only [shapeCast_self]
  rfl

variable (m : (ℓ : Loc nD τ sig) → Buf (Elt Ideal) ℓ)

/-- The two weight arrays when the region is entered: converted, which is the identity here. -/
theorem V_wp (c : Dev nD) : V m c main_v0 = m ((c : Thread nD τ).loc main_arg1) := by
  show StableHlo.after hostOps0 _ (Proc.devRef .tc main_v0) = _
  after_results
  rfl

theorem V_wa (c : Dev nD) : V m c main_v1 = m ((c : Thread nD τ).loc main_arg2) := by
  show StableHlo.after hostOps0 _ (Proc.devRef .tc main_v1) = _
  after_results
  rfl

/-- The windows' block indices at a point, against the result's. -/
theorem idx_facts : ∀ t : Fin cfg0.N,
    win0_0.index t 0 = win0_5.index t 0 ∧ win0_0.index t 1 = 0 ∧ win0_1.index t 0 = 0 ∧ win0_1.index t 1 = win0_5.index t 1
      ∧ win0_2.index t 0 = 0 ∧ win0_2.index t 1 = win0_5.index t 1
      ∧ win0_3.index t 0 = win0_5.index t 0 ∧ win0_3.index t 1 = 12 + win0_5.index t 1
      ∧ win0_4.index t 0 = win0_5.index t 0 ∧ win0_4.index t 1 = 16 + win0_5.index t 1 :=
  (by decide +kernel : ∀ t : Fin grid0.N,
    win0_0.index t 0 = win0_5.index t 0 ∧ win0_0.index t 1 = 0 ∧ win0_1.index t 0 = 0 ∧ win0_1.index t 1 = win0_5.index t 1
      ∧ win0_2.index t 0 = 0 ∧ win0_2.index t 1 = win0_5.index t 1
      ∧ win0_3.index t 0 = win0_5.index t 0 ∧ win0_3.index t 1 = 12 + win0_5.index t 1
      ∧ win0_4.index t 0 = win0_5.index t 0 ∧ win0_4.index t 1 = 16 + win0_5.index t 1)

/-- Every block of the result is some point's. -/
theorem idx_onto : ∀ (a : Fin 16) (b : Fin 4), ∃ t : Fin cfg0.N, win0_5.index t 0 = a.val ∧ win0_5.index t 1 = b.val :=
  (by decide +kernel : ∀ (a : Fin 16) (b : Fin 4), ∃ t : Fin grid0.N, win0_5.index t 0 = a.val ∧ win0_5.index t 1 = b.val)

/-- A load of the left half of the block, and of the right half, read at an index. -/
theorem ld_lo (X : Vec Ideal S512x4096 .bf16) (r : Fin 512) (k : Fin 2048) : View.ld X r0_0 (ix2 r k) = X (ix2 r (lo k)) := by
  unfold r0_0
  rw [View.ld_unit]
  exact extractStridedSlice_apply _ _ _ _ _ (fun a => match a with
    | ⟨0, _⟩ => (Nat.zero_add _).symm
    | ⟨1, _⟩ => (Nat.zero_add _).symm)

theorem ld_hi (X : Vec Ideal S512x4096 .bf16) (r : Fin 512) (k : Fin 2048) : View.ld X r0_2 (ix2 r k) = X (ix2 r (hi k)) := by
  unfold r0_2
  rw [View.ld_unit]
  exact extractStridedSlice_apply _ _ _ _ _ (fun a => match a with
    | ⟨0, _⟩ => (Nat.zero_add _).symm
    | ⟨1, _⟩ => rfl)

/-- What a point writes back is its block of the merge. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9, f10⟩ := idx_facts t
  rw [Value.flushed5]
  unfold out0_5
  rw [View.canon_unit_zero hz2, View.ld_unit_zero (S := S2048x1024) hz2, View.ld_unit_zero (S := S2048x1024) hz2,
    View.ld_unit_zero (S := S512x1024) hz2, View.ld_unit_zero (S := S512x1024) hz2]
  funext y
  obtain ⟨r, q, rfl⟩ : ∃ (r : Fin 512) (q : Fin 1024), y = ix2 r q := ⟨y 0, y 1, eq_ix2 y⟩
  show k0_pay1 (F := Ideal) (View.ld (iblk m c 0 t) r0_0) (iblk m c 1 t) (View.ld (iblk m c 0 t) r0_2) (iblk m c 2 t)
    (iblk m c 3 t) (iblk m c 4 t) (ix2 r q) = G _ _ _ _ ((win0_5.rect t).emb (ix2 r q))
  refine (pay_apply _ _ _ _ _ _ r q).trans ?_
  have e0 := win0_5.rect_emb_val t (ix2 r q) 0
  have e1 := win0_5.rect_emb_val t (ix2 r q) 1
  have ha : ∀ k : Fin 4096, iblk m c 0 t (ix2 r k)
      = m ((c : Thread nD τ).loc main_arg0) (ix2 ((win0_5.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hw : ∀ k : Fin 2048, iblk m c 1 t (ix2 k q)
      = m ((c : Thread nD τ).loc main_arg1) (ix2 k ((win0_5.rect t).emb (ix2 r q) 1)) := fun k => by
    show V m c main_v0 ((win0_1.rect t).emb (ix2 k q)) = _
    rw [V_wp]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e1.symm
  have hw' : ∀ k : Fin 2048, iblk m c 2 t (ix2 k q)
      = m ((c : Thread nD τ).loc main_arg2) (ix2 k ((win0_5.rect t).emb (ix2 r q) 1)) := fun k => by
    show V m c main_v1 ((win0_2.rect t).emb (ix2 k q)) = _
    rw [V_wa]
    refine congrArg _ (funext fun a => Fin.ext ?_)
    match a with
    | ⟨0, _⟩ => exact (win0_2.rect_emb_val_of_index_zero t 0 f5 (ix2 k q))
    | ⟨1, _⟩ => exact ((win0_2.rect_emb_val t (ix2 k q) 1).trans (by rw [f6]; rfl)).trans e1.symm
  have hp : iblk m c 3 t (ix2 r q) = m ((c : Thread nD τ).loc main_arg3)
      (ix2 ((win0_5.rect t).emb (ix2 r q) 0) (col 12288 (by decide) ((win0_5.rect t).emb (ix2 r q) 1))) := by
    show V m c main_arg3 ((win0_3.rect t).emb (ix2 r q)) = _
    rw [V_main_arg3]
    refine congrArg _ (funext fun a => Fin.ext ?_)
    match a with
    | ⟨0, _⟩ => exact ((win0_3.rect_emb_val t (ix2 r q) 0).trans (by rw [f7])).trans e0.symm
    | ⟨1, _⟩ =>
      have h : ((win0_3.rect t).emb (ix2 r q) 1 : Nat) = (12 + win0_5.index t 1) * 1024 + q.val :=
        (win0_3.rect_emb_val t (ix2 r q) 1).trans (by rw [f8]; rfl)
      have h' : ((win0_5.rect t).emb (ix2 r q) 1 : Nat) = win0_5.index t 1 * 1024 + q.val := e1
      show ((win0_3.rect t).emb (ix2 r q) 1 : Nat) = 12288 + ((win0_5.rect t).emb (ix2 r q) 1 : Nat)
      omega
  have hp' : iblk m c 4 t (ix2 r q) = m ((c : Thread nD τ).loc main_arg3)
      (ix2 ((win0_5.rect t).emb (ix2 r q) 0) (col 16384 (by decide) ((win0_5.rect t).emb (ix2 r q) 1))) := by
    show V m c main_arg3 ((win0_4.rect t).emb (ix2 r q)) = _
    rw [V_main_arg3]
    refine congrArg _ (funext fun a => Fin.ext ?_)
    match a with
    | ⟨0, _⟩ => exact ((win0_4.rect_emb_val t (ix2 r q) 0).trans (by rw [f9])).trans e0.symm
    | ⟨1, _⟩ =>
      have h : ((win0_4.rect t).emb (ix2 r q) 1 : Nat) = (16 + win0_5.index t 1) * 1024 + q.val :=
        (win0_4.rect_emb_val t (ix2 r q) 1).trans (by rw [f10]; rfl)
      have h' : ((win0_5.rect t).emb (ix2 r q) 1 : Nat) = win0_5.index t 1 * 1024 + q.val := e1
      show ((win0_4.rect t).emb (ix2 r q) 1 : Nat) = 16384 + ((win0_5.rect t).emb (ix2 r q) 1 : Nat)
      omega
  unfold G
  rw [hp, hp']
  refine congrArg₂ _ (congrArg₂ _ rfl (Finset.sum_congr rfl fun k _ => congrArg₂ _ ((ld_lo _ _ _).trans (ha _)) (hw k)))
    (congrArg₂ _ rfl (Finset.sum_congr rfl fun k _ => congrArg₂ _ ((ld_hi _ _ _).trans (ha _)) (hw' k)))

/-- Every index of the result is in some point's block. -/
theorem cover (i : S8192x4096.Idx) : ∃ t : Fin cfg0.N, (cfg0.win 5).flush t = true ∧ i ∈ ((cfg0.win 5).blk t).view.set := by
  have h0 : (i 0 : Nat) < 8192 := (i 0).isLt
  have h1 : (i 1 : Nat) < 4096 := (i 1).isLt
  obtain ⟨t, ht0, ht1⟩ := idx_onto ⟨(i 0 : Nat) / 512, by omega⟩ ⟨(i 1 : Nat) / 1024, by omega⟩
  refine ⟨t, flush0_5 t, ?_⟩
  show i ∈ ((View.whole main_v2).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [ht0]; dsimp only; omega
  | ⟨1, _⟩ =>
    show win0_5.index t 1 * 1024 ≤ (i 1 : Nat) ∧ (i 1 : Nat) < win0_5.index t 1 * 1024 + 1024
    rw [ht1]; dsimp only; omega

/-- The result array after the run is the merge of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 5 _ (fun t _ => flushed_eq m c t) cover

open Cert.Reference3Ideal.Read in
/-- The reference's result is the merge of its arguments. -/
theorem ref_eq (x : Vec Ideal S8192x4096 .bf16) (wp wa : Vec Ideal S2048x4096 .f32) (p : Vec Ideal S8192x20480 .bf16) :
    val_main_v23 (F := Ideal) x wp wa p = G x wp wa p := by
  funext i
  rw [val_main_v23_apply, val_main_v22_apply, val_main_v14_apply, val_main_v21_apply, val_main_v5_apply, val_main_v7_apply,
    val_main_v13_apply, val_main_v20_apply, val_main_v11_apply, val_main_v18_apply, val_main_v9_apply, val_main_v16_apply,
    val_main_v8_apply, val_main_v15_apply, val_main_v2_apply, val_main_v3_apply, val_main_v12_apply, val_main_v10_apply,
    val_main_v19_apply, val_main_v17_apply]
  show gate (p _) * (∑ k : Fin 2048, _) + gate (p _) * (∑ k : Fin 2048, _)
    = gate (p _) * (∑ k : Fin 2048, _) + gate (p _) * (∑ k : Fin 2048, _)
  refine congrArg₂ _ (congrArg₂ _ (congrArg gate (congrArg p ?_)) (Finset.sum_congr rfl fun k _ => ?_))
    (congrArg₂ _ (congrArg gate (congrArg p ?_)) (Finset.sum_congr rfl fun k _ => ?_))
  · funext a; fin_cases a <;> rfl
  · rw [val_main_v4_apply, val_main_v0_apply]
    exact congrArg₂ _ (congrArg x (funext fun a => by fin_cases a <;> rfl)) (congrArg wp (funext fun a => by fin_cases a <;> rfl))
  · funext a; fin_cases a <;> rfl
  · rw [val_main_v6_apply, val_main_v0_apply]
    exact congrArg₂ _ (congrArg x (funext fun a => by fin_cases a <;> rfl)) (congrArg wa (funext fun a => by fin_cases a <;> rfl))

/-- From equal arguments the merge kernel and its reference end with equal results, their arguments unchanged. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel3Ideal.defs _ _).mono (fun r h c => ⟨(h c).1.trans (final m c), (h c).2⟩)
      (Value.run_blocks (F := Ideal) m g)
  · refine (θ_run Cert.Reference3Ideal.defs _ _).mono (fun r h c => ?_) (Cert.Reference3Ideal.Value.run (F := Ideal) m' g')
    refine ⟨((h c).1.trans ?_), (h c).2⟩
    refine (Cert.Reference3Ideal.Read.val_main_v23_eq _ _ _ _).trans ?_
    rw [ref_eq, (hagree c).1, (hagree c).2.1, (hagree c).2.2.1, (hagree c).2.2.2]

end Cert.Merge

end
-- ==== Proof.OutProj.lean ====
/-
  The value of the output projection: after the run of `Kernel4Ideal` the result array holds, at row `r` and column `c`,
  `x[r, c] + g[b, 0, c] · Σ_k h[r, k] · w[k, c]` with `b` the batch entry of row `r` (`OutProj.final`), which is what the
  reference's last operation holds at that index (`OutProj.ref_eq`); from equal arguments the two results are equal
  (`OutProj.algebraic`).
-/
module

public import proofs.«01_k».proof.Defs
public import proofs.«01_k».proof.Proof.Gen.Kernel4Ideal.Value
public import proofs.«01_k».proof.Proof.Gen.Reference4Ideal.Read
public import Idealize.ShloMosaic.Lib.MatmulPlain
public import Idealize.ShloMosaic.Lib.ValueIdx

@[expose] public section

noncomputable section

namespace Cert.OutProj

open Idealize.ShloMosaic Idealize.ShloMosaic.TcCoe Idealize.SL.Sem Idealize.ShloMosaic.ValueIdx
open Cert.Kernel4Ideal Cert.Kernel4Ideal.Gen

/-- The batch entry of a row. -/
def bat (r : Fin 8192) : Fin 8 := ⟨r.val / 4096, by have := r.isLt; omega⟩

/-- The gated output projection read at an index. -/
def G (h : Vec Ideal S8192x4096 .bf16) (w : Vec Ideal S4096x4096 .f32) (x : Vec Ideal S8192x4096 .f32)
    (g : Vec Ideal S8x1x4096 .f32) : Vec Ideal S8192x4096 .f32 :=
  fun i => x i + g (ix3 (bat (i 0)) 0 (i 1)) * ∑ k : Fin 4096, h (ix2 (i 0) k) * w (ix2 k (i 1))

theorem hz2 : (![0, 0] : Fin 2 → Nat) = fun _ => 0 := funext fun a => by fin_cases a <;> rfl
theorem hz3 : (![0, 0, 0] : Fin 3 → Nat) = fun _ => 0 := funext fun a => by fin_cases a <;> rfl

theorem dot_apply (a : Vec Ideal S1024x4096 .bf16) (w : Vec Ideal S4096x1024 .bf16) (r c : Fin 1024) :
    FloatOps.matmul (F := Ideal) (φ₁ := .bf16) (φ₂ := .bf16) dot_S1024x4096_S4096x1024_S1024x1024_1_0_0_1_n_n none a w
      (constant S1024x1024 .f32 0x00000000#32) (ix2 r c) = ∑ k : Fin 4096, a (ix2 r k) * w (ix2 k c) := by
  refine (Ideal.matmul_plain_apply (M := 1024) (K := 4096) (N := 1024) (φ₁ := .bf16) (φ₂ := .bf16) none a w
    (constant S1024x1024 .f32 0x00000000#32) r c).trans ?_
  show Ideal.ofBits .f32 0x00000000#32 + _ = _
  rw [Ideal.ofBits_zero_f32, zero_add]

/-- The body's payload read at an index. -/
theorem pay_apply (a : Vec Ideal S1024x4096 .bf16) (w : Vec Ideal S4096x1024 .bf16) (x : Vec Ideal S1024x1024 .f32)
    (g : Vec Ideal S1x1x1024 .f32) (r c : Fin 1024) :
    k0_pay1 (F := Ideal) a w x g (ix2 r c) = x (ix2 r c) + g (ix3 0 0 c) * ∑ k : Fin 4096, a (ix2 r k) * w (ix2 k c) := by
  have h1 : shapeCast S1x1024 g shapeCasts_S1x1x1024_S1x1024 (ix2 0 c) = g (ix3 0 0 c) :=
    shapeCast_apply _ _ _ _ (by rw [Shape.rowMajor_val_three, Shape.rowMajor_val_two]; simp)
  have h2 : broadcastTo S1024x1024 (shapeCast S1x1024 g shapeCasts_S1x1x1024_S1x1024) broadcasts_S1x1024_S1024x1024 (ix2 r c)
      = g (ix3 0 0 c) := (broadcastTo_apply _ _ _ (ix2 0 c) (fun d => by fin_cases d <;> rfl)).trans h1
  rw [← dot_apply a w, ← h2]
  unfold k0_pay1
  simp only [shapeCast_self]
  rfl

variable (m : (ℓ : Loc nD τ sig) → Buf (Elt Ideal) ℓ)

/-- The weights when the region is entered: converted, which is the identity here. -/
theorem V_w (c : Dev nD) : V m c main_v0 = m ((c : Thread nD τ).loc main_arg1) := by
  show StableHlo.after hostOps0 _ (Proc.devRef .tc main_v0) = _
  after_results
  rfl

/-- The windows' block indices at a point, against the result's. -/
theorem idx_facts : ∀ t : Fin cfg0.N,
    win0_0.index t 0 = win0_4.index t 0 ∧ win0_0.index t 1 = 0 ∧ win0_1.index t 0 = 0 ∧ win0_1.index t 1 = win0_4.index t 1
      ∧ win0_2.index t 0 = win0_4.index t 0 ∧ win0_2.index t 1 = win0_4.index t 1
      ∧ win0_3.index t 0 = win0_4.index t 0 / 4 ∧ win0_3.index t 1 = 0 ∧ win0_3.index t 2 = win0_4.index t 1 :=
  (by decide +kernel : ∀ t : Fin grid0.N,
    win0_0.index t 0 = win0_4.index t 0 ∧ win0_0.index t 1 = 0 ∧ win0_1.index t 0 = 0 ∧ win0_1.index t 1 = win0_4.index t 1
      ∧ win0_2.index t 0 = win0_4.index t 0 ∧ win0_2.index t 1 = win0_4.index t 1
      ∧ win0_3.index t 0 = win0_4.index t 0 / 4 ∧ win0_3.index t 1 = 0 ∧ win0_3.index t 2 = win0_4.index t 1)

/-- Every block of the result is some point's. -/
theorem idx_onto : ∀ (a : Fin 8) (b : Fin 4), ∃ t : Fin cfg0.N, win0_4.index t 0 = a.val ∧ win0_4.index t 1 = b.val :=
  (by decide +kernel : ∀ (a : Fin 8) (b : Fin 4), ∃ t : Fin grid0.N, win0_4.index t 0 = a.val ∧ win0_4.index t 1 = b.val)

/-- What a point writes back is its block of the gated projection. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9⟩ := idx_facts t
  rw [Value.flushed4]
  unfold out0_4
  rw [View.canon_unit_zero hz2, View.ld_unit_zero (S := S1024x4096) hz2, View.ld_unit_zero (S := S4096x1024) hz2,
    View.ld_unit_zero (S := S1024x1024) hz2, View.ld_unit_zero (S := S1x1x1024) hz3]
  funext y
  obtain ⟨r, q, rfl⟩ : ∃ (r : Fin 1024) (q : Fin 1024), y = ix2 r q := ⟨y 0, y 1, eq_ix2 y⟩
  show k0_pay1 (F := Ideal) (iblk m c 0 t) (iblk m c 1 t) (iblk m c 2 t)
    (iblk m c 3 t) (ix2 r q) = G _ _ _ _ ((win0_4.rect t).emb (ix2 r q))
  refine (pay_apply _ _ _ _ r q).trans ?_
  have e0 := win0_4.rect_emb_val t (ix2 r q) 0
  have e1 := win0_4.rect_emb_val t (ix2 r q) 1
  have ha : ∀ k : Fin 4096, iblk m c 0 t (ix2 r k)
      = m ((c : Thread nD τ).loc main_arg0) (ix2 ((win0_4.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hw : ∀ k : Fin 4096, iblk m c 1 t (ix2 k q)
      = m ((c : Thread nD τ).loc main_arg1) (ix2 k ((win0_4.rect t).emb (ix2 r q) 1)) := fun k => by
    show V m c main_v0 ((win0_1.rect t).emb (ix2 k q)) = _
    rw [V_w]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e1.symm
  have hx : iblk m c 2 t (ix2 r q) = m ((c : Thread nD τ).loc main_arg2) ((win0_4.rect t).emb (ix2 r q)) := by
    show V m c main_arg2 ((win0_2.rect t).emb (ix2 r q)) = _
    rw [V_main_arg2]
    refine congrArg _ (funext fun a => Fin.ext ?_)
    match a with
    | ⟨0, _⟩ => exact ((win0_2.rect_emb_val t (ix2 r q) 0).trans (by rw [f5])).trans e0.symm
    | ⟨1, _⟩ => exact ((win0_2.rect_emb_val t (ix2 r q) 1).trans (by rw [f6])).trans e1.symm
  have hg : iblk m c 3 t (ix3 0 0 q) = m ((c : Thread nD τ).loc main_arg3)
      (ix3 (bat ((win0_4.rect t).emb (ix2 r q) 0)) 0 ((win0_4.rect t).emb (ix2 r q) 1)) := by
    show V m c main_arg3 ((win0_3.rect t).emb (ix3 0 0 q)) = _
    rw [V_main_arg3]
    refine congrArg _ (funext fun a => Fin.ext ?_)
    match a with
    | ⟨0, _⟩ =>
      have h : ((win0_3.rect t).emb (ix3 0 0 q) 0 : Nat) = (win0_4.index t 0 / 4) * 1 + 0 :=
        (win0_3.rect_emb_val t (ix3 0 0 q) 0).trans (by rw [f7]; rfl)
      have h' : ((win0_4.rect t).emb (ix2 r q) 0 : Nat) = win0_4.index t 0 * 1024 + r.val := e0
      show ((win0_3.rect t).emb (ix3 0 0 q) 0 : Nat) = ((win0_4.rect t).emb (ix2 r q) 0 : Nat) / 4096
      have := r.isLt
      omega
    | ⟨1, _⟩ => exact win0_3.rect_emb_val_of_index_zero t 1 f8 (ix3 0 0 q)
    | ⟨2, _⟩ => exact ((win0_3.rect_emb_val t (ix3 0 0 q) 2).trans (by rw [f9]; rfl)).trans e1.symm
  unfold G
  rw [hx, hg]
  refine congrArg₂ _ rfl (congrArg₂ _ rfl (Finset.sum_congr rfl fun k _ => congrArg₂ _ (ha _) (hw k)))

/-- Every index of the result is in some point's block. -/
theorem cover (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  obtain ⟨t, ht0, ht1⟩ := idx_onto ⟨(i 0 : Nat) / 1024, by omega⟩ ⟨(i 1 : Nat) / 1024, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [ht0]; dsimp only; omega
  | ⟨1, _⟩ =>
    show win0_4.index t 1 * 1024 ≤ (i 1 : Nat) ∧ (i 1 : Nat) < win0_4.index t 1 * 1024 + 1024
    rw [ht1]; dsimp only; omega

/-- The result array after the run is the gated projection of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

open Cert.Reference4Ideal.Read in
/-- The reference's result is the gated projection of its arguments. -/
theorem ref_eq (h : Vec Ideal S8192x4096 .bf16) (w : Vec Ideal S4096x4096 .f32) (x : Vec Ideal S8192x4096 .f32)
    (g : Vec Ideal S8x1x4096 .f32) : val_main_v8 (F := Ideal) h w x g = G h w x g := by
  funext i
  have h0 : (i 0 : Nat) < 8192 := (i 0).isLt
  have h1 : (i 1 : Nat) < 4096 := (i 1).isLt
  have ei : idx_main_v0 (idx_main_v8 i) = i := funext fun a => Fin.ext (by
    match a with
    | ⟨0, _⟩ =>
      show ((((i 0).val * 4096 + (i 1).val) / 16777216 * 4096 + ((i 0).val * 4096 + (i 1).val) / 4096 % 4096) * 4096
        + ((i 0).val * 4096 + (i 1).val) % 4096) / 4096 = (i 0).val
      omega
    | ⟨1, _⟩ =>
      show ((((i 0).val * 4096 + (i 1).val) / 16777216 * 4096 + ((i 0).val * 4096 + (i 1).val) / 4096 % 4096) * 4096
        + ((i 0).val * 4096 + (i 1).val) % 4096) % 4096 = (i 1).val
      omega)
  have ei' : idx_main_v3 (idx_main_v8 i) = i := ei
  rw [val_main_v8_apply, val_main_v7_apply, val_main_v6_apply, val_main_v5_apply, val_main_v4_apply, val_main_v3_apply,
    val_main_v0_apply, ei, ei', val_main_v2_apply]
  show x i + g _ * (∑ k : Fin 4096, _) = x i + g _ * (∑ k : Fin 4096, _)
  refine congrArg₂ _ rfl (congrArg₂ _ (congrArg g ?_) (Finset.sum_congr rfl fun k _ => ?_))
  · funext a
    refine Fin.ext ?_
    match a with
    | ⟨0, _⟩ => show ((i 0).val * 4096 + (i 1).val) / 16777216 = (i 0).val / 4096; omega
    | ⟨1, _⟩ => rfl
    | ⟨2, _⟩ => show ((i 0).val * 4096 + (i 1).val) % 4096 = (i 1).val; omega
  · rw [val_main_v1_apply]
    exact congrArg₂ _ (congrArg h (funext fun a => by fin_cases a <;> rfl)) (congrArg w (funext fun a => by fin_cases a <;> rfl))

/-- From equal arguments the output projection kernel and its reference end with equal results, their arguments unchanged. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel4Ideal.defs _ _).mono (fun r h c => ⟨(h c).1.trans (final m c), (h c).2⟩)
      (Value.run_blocks (F := Ideal) m g)
  · refine (θ_run Cert.Reference4Ideal.defs _ _).mono (fun r h c => ?_) (Cert.Reference4Ideal.Value.run (F := Ideal) m' g')
    refine ⟨((h c).1.trans ?_), (h c).2⟩
    refine (Cert.Reference4Ideal.Read.val_main_v8_eq _ _ _ _).trans ?_
    rw [ref_eq, (hagree c).1, (hagree c).2.1, (hagree c).2.2.1, (hagree c).2.2.2]

end Cert.OutProj

end
-- ==== Proof.InProjCtx.lean ====
/-
  The value of the input projection of the context tokens: after the run of `Kernel5Ideal` the result array holds, at row `r` and column `c`, the
  sum over `k` of `x[r, k] · w[k, c]` plus `b[c]` (`InProjCtx.final`), which is what the reference's last operation holds at
  that index (`InProjCtx.ref_apply`); from equal arguments the two results are equal (`InProjCtx.algebraic`).
-/
module

public import proofs.«01_k».proof.Defs
public import proofs.«01_k».proof.Proof.Gen.Kernel5Ideal.Value
public import proofs.«01_k».proof.Proof.Gen.Reference5Ideal.Read
public import Idealize.ShloMosaic.Lib.MatmulPlain
public import Idealize.ShloMosaic.Lib.ValueIdx

@[expose] public section

noncomputable section

namespace Cert.InProjCtx

open Idealize.ShloMosaic Idealize.ShloMosaic.TcCoe Idealize.SL.Sem Idealize.ShloMosaic.ValueIdx
open Cert.Kernel5Ideal Cert.Kernel5Ideal.Gen

/-- The projection read at an index: row `i 0` of the activations against column `i 1` of the weights, plus the bias. -/
def G (x : Vec Ideal S512x4096 .bf16) (w : Vec Ideal S4096x20480 .f32) (b : Vec Ideal S20480 .f32) :
    Vec Ideal S512x20480 .bf16 :=
  fun i => (∑ k : Fin 4096, x (ix2 (i 0) k) * w (ix2 k (i 1))) + b (ix1 (i 1))

theorem hz2 : (![0, 0] : Fin 2 → Nat) = fun _ => 0 := funext fun a => by fin_cases a <;> rfl

/-- The body's payload read at an index. -/
theorem pay_apply (a : Vec Ideal S512x4096 .bf16) (w : Vec Ideal S4096x1024 .bf16) (b : Vec Ideal S1x1024 .f32)
    (r : Fin 512) (c : Fin 1024) :
    k0_pay1 (F := Ideal) a w b (ix2 r c) = (∑ k : Fin 4096, a (ix2 r k) * w (ix2 k c)) + b (ix2 0 c) := by
  unfold k0_pay1
  simp only [truncf_apply, addf_apply, shapeCast_self]
  have h1 := Ideal.matmul_plain_apply (M := 512) (K := 4096) (N := 1024) (φ₁ := .bf16) (φ₂ := .bf16) none a w (constant S512x1024 .f32 0x00000000#32) r c
  have h2 : broadcastTo S512x1024 b broadcasts_S1x1024_S512x1024 (ix2 r c) = b (ix2 0 c) :=
    broadcastTo_apply b _ _ _ (fun d => by fin_cases d <;> rfl)
  rw [h2]
  refine congrArg (· + b (ix2 0 c)) (h1.trans ?_)
  show Ideal.ofBits .f32 0x00000000#32 + _ = _
  rw [Ideal.ofBits_zero_f32, zero_add]

/-- The bias row with its unit axis, read at an index. -/
theorem bias_apply (b : Vec Ideal S20480 .f32) (j : S1x20480.Idx) :
    shapeCast S1x20480 b shapeCasts_S20480_S1x20480 j = b (ix1 (j 1)) := by
  obtain ⟨z, q, rfl⟩ : ∃ (z : Fin 1) (q : Fin 20480), j = ix2 z q := ⟨j 0, j 1, eq_ix2 j⟩
  refine shapeCast_apply _ _ _ _ ?_
  rw [Shape.rowMajor_val_one, Shape.rowMajor_val_two]
  obtain rfl : z = 0 := Subsingleton.elim _ _
  simp

variable (m : (ℓ : Loc nD τ sig) → Buf (Elt Ideal) ℓ)

/-- The weights and the bias when the region is entered: converted, which is the identity here, and given a unit axis. -/
theorem V_w (c : Dev nD) : V m c main_v0 = m ((c : Thread nD τ).loc main_arg1) := by
  show StableHlo.after hostOps0 _ (Proc.devRef .tc main_v0) = _
  after_results
  rfl

theorem V_b (c : Dev nD) : V m c main_v1 = shapeCast S1x20480 (m ((c : Thread nD τ).loc main_arg2)) shapeCasts_S20480_S1x20480 := by
  show StableHlo.after hostOps0 _ (Proc.devRef .tc main_v1) = _
  after_results
  rfl

/-- The windows' block indices at a point: rows move with the result's rows, columns with the result's columns. -/
theorem idx_facts : ∀ t : Fin cfg0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1 :=
  (by decide +kernel : ∀ t : Fin grid0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1)

/-- Every block of the result is some point's. -/
theorem idx_onto : ∀ (a : Fin 1) (b : Fin 20), ∃ t : Fin cfg0.N, win0_3.index t 0 = a.val ∧ win0_3.index t 1 = b.val :=
  (by decide +kernel : ∀ (a : Fin 1) (b : Fin 20), ∃ t : Fin grid0.N, win0_3.index t 0 = a.val ∧ win0_3.index t 1 = b.val)

/-- What a point writes back is its block of the projection. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨f1, f2, f3, f4, f5, f6⟩ := idx_facts t
  rw [Value.flushed3]
  unfold out0_3
  rw [View.canon_unit_zero hz2, View.ld_unit_zero hz2, View.ld_unit_zero hz2, View.ld_unit_zero hz2]
  funext y
  obtain ⟨r, q, rfl⟩ : ∃ (r : Fin 512) (q : Fin 1024), y = ix2 r q := ⟨y 0, y 1, eq_ix2 y⟩
  show k0_pay1 (F := Ideal) (iblk m c 0 t) (iblk m c 1 t) (iblk m c 2 t) (ix2 r q) = G _ _ _ ((win0_3.rect t).emb (ix2 r q))
  refine (pay_apply _ _ _ r q).trans ?_
  have e30 := win0_3.rect_emb_val t (ix2 r q) 0
  have e31 := win0_3.rect_emb_val t (ix2 r q) 1
  have ha : ∀ k : Fin 4096, iblk m c 0 t (ix2 r k)
      = m ((c : Thread nD τ).loc main_arg0) (ix2 ((win0_3.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e30.symm
    | ⟨1, _⟩ => exact (win0_0.rect_emb_val_of_index_zero t 1 f2 (ix2 r k))
  have hw : ∀ k : Fin 4096, iblk m c 1 t (ix2 k q)
      = m ((c : Thread nD τ).loc main_arg1) (ix2 k ((win0_3.rect t).emb (ix2 r q) 1)) := fun k => by
    show V m c main_v0 ((win0_1.rect t).emb (ix2 k q)) = _
    rw [V_w]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e31.symm
  have hb : iblk m c 2 t (ix2 0 q)
      = m ((c : Thread nD τ).loc main_arg2) (ix1 ((win0_3.rect t).emb (ix2 r q) 1)) := by
    show V m c main_v1 ((win0_2.rect t).emb (ix2 0 q)) = _
    rw [V_b]
    refine (bias_apply _ _).trans (congrArg _ (congrArg ix1 (Fin.ext ?_)))
    exact ((win0_2.rect_emb_val t (ix2 0 q) 1).trans (by rw [f6]; rfl)).trans e31.symm
  unfold G
  rw [hb]
  exact congrArg (· + _) (Finset.sum_congr rfl fun k _ => congrArg₂ _ (ha k) (hw k))

/-- Every index of the result is in some point's block. -/
theorem cover (i : S512x20480.Idx) : ∃ t : Fin cfg0.N, (cfg0.win 3).flush t = true ∧ i ∈ ((cfg0.win 3).blk t).view.set := by
  have h0 : (i 0 : Nat) < 512 := (i 0).isLt
  have h1 : (i 1 : Nat) < 20480 := (i 1).isLt
  obtain ⟨t, ht0, ht1⟩ := idx_onto ⟨(i 0 : Nat) / 512, by omega⟩ ⟨(i 1 : Nat) / 1024, by omega⟩
  refine ⟨t, flush0_3 t, ?_⟩
  show i ∈ ((View.whole main_v2).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [ht0]; dsimp only; omega
  | ⟨1, _⟩ =>
    show win0_3.index t 1 * 1024 ≤ (i 1 : Nat) ∧ (i 1 : Nat) < win0_3.index t 1 * 1024 + 1024
    rw [ht1]; dsimp only; omega

/-- The result array after the run is the projection of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is the projection of its arguments. -/
theorem ref_eq (x : Vec Ideal S512x4096 .bf16) (w : Vec Ideal S4096x20480 .f32) (b : Vec Ideal S20480 .f32) :
    Cert.Reference5Ideal.Read.val_main_v5 (F := Ideal) x w b = G x w b := by
  funext i
  rw [Cert.Reference5Ideal.Read.val_main_v5_apply, Cert.Reference5Ideal.Read.val_main_v4_apply,
    Cert.Reference5Ideal.Read.val_main_v3_apply, Cert.Reference5Ideal.Read.val_main_v2_apply,
    Cert.Reference5Ideal.Read.val_main_v1_apply]
  show (∑ k : Fin 4096, _) + b _ = (∑ k : Fin 4096, _) + b _
  refine congrArg₂ _ (Finset.sum_congr rfl fun k _ => ?_) (congrArg b (funext fun a => by fin_cases a; rfl))
  rw [Cert.Reference5Ideal.Read.val_main_v0_apply]
  refine congrArg₂ _ (congrArg x (funext fun a => by fin_cases a <;> rfl)) (congrArg w (funext fun a => by fin_cases a <;> rfl))

/-- From equal arguments the projection kernel and its reference end with equal results, their arguments unchanged. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => G (m ((c.tc : Thread nD τ).loc main_arg0)) (m ((c.tc : Thread nD τ).loc main_arg1))
    (m ((c.tc : Thread nD τ).loc main_arg2)), ?_, ?_⟩
  · exact (θ_run Cert.Kernel5Ideal.defs _ _).mono (fun r h c => ⟨(h c).1.trans (final m c), (h c).2⟩)
      (Value.run_blocks (F := Ideal) m g)
  · refine (θ_run Cert.Reference5Ideal.defs _ _).mono (fun r h c => ?_) (Cert.Reference5Ideal.Value.run (F := Ideal) m' g')
    refine ⟨((h c).1.trans ?_), (h c).2⟩
    rw [Cert.Reference5Ideal.Read.val_main_v5_eq, ref_eq, (hagree c).1, (hagree c).2.1, (hagree c).2.2]

end Cert.InProjCtx

end
-- ==== Proof.MergeCtx.lean ====
/-
  The value of the gated merge for the context tokens: after the run of `Kernel6Ideal` the result array holds, at row `r` and column `c`, the gate
  of the pooled branch times its product, plus the gate of the attended branch times its product (`MergeCtx.final`), which is
  what the reference's last operation holds at that index (`MergeCtx.ref_eq`); from equal arguments the two results are equal
  (`MergeCtx.algebraic`).
-/
module

public import proofs.«01_k».proof.Defs
public import proofs.«01_k».proof.Proof.Gen.Kernel6Ideal.Value
public import proofs.«01_k».proof.Proof.Gen.Reference6Ideal.Read
public import Idealize.ShloMosaic.Lib.MatmulPlain
public import Idealize.ShloMosaic.Lib.ValueIdx

@[expose] public section

noncomputable section

namespace Cert.MergeCtx

open Idealize.ShloMosaic Idealize.ShloMosaic.TcCoe Idealize.SL.Sem Idealize.ShloMosaic.ValueIdx
open Cert.Kernel6Ideal Cert.Kernel6Ideal.Gen

/-- The logistic gate `1 / (1 + e⁻ˣ)`. -/
def gate (x : EReal) : EReal :=
  Ideal.div (Ideal.ofBits .f32 0x3F800000#32) (Ideal.ofBits .f32 0x3F800000#32 + Ideal.exp (-x))

/-- Column `c` of the 4096-column part of the projection that starts at column `o`. -/
def col (o : Nat) (h : o + 4096 ≤ 20480) (c : Fin 4096) : Fin 20480 := ⟨o + c.val, by have := c.isLt; omega⟩

/-- Column `k` of the left half, and of the right half, of the branches side by side. -/
def lo (k : Fin 2048) : Fin 4096 := ⟨k.val, by have := k.isLt; omega⟩
def hi (k : Fin 2048) : Fin 4096 := ⟨2048 + k.val, by have := k.isLt; omega⟩

/-- The merge read at an index. -/
def G (x : Vec Ideal S512x4096 .bf16) (wp wa : Vec Ideal S2048x4096 .f32) (p : Vec Ideal S512x20480 .bf16) :
    Vec Ideal S512x4096 .bf16 :=
  fun i => gate (p (ix2 (i 0) (col 12288 (by decide) (i 1)))) * (∑ k : Fin 2048, x (ix2 (i 0) (lo k)) * wp (ix2 k (i 1)))
    + gate (p (ix2 (i 0) (col 16384 (by decide) (i 1)))) * (∑ k : Fin 2048, x (ix2 (i 0) (hi k)) * wa (ix2 k (i 1)))

theorem hz2 : (![0, 0] : Fin 2 → Nat) = fun _ => 0 := funext fun a => by fin_cases a <;> rfl

theorem dot_apply (a : Vec Ideal S512x2048 .bf16) (w : Vec Ideal S2048x1024 .bf16) (r : Fin 512) (c : Fin 1024) :
    FloatOps.matmul (F := Ideal) (φ₁ := .bf16) (φ₂ := .bf16) dot_S512x2048_S2048x1024_S512x1024_1_0_0_1_n_n none a w
      (constant S512x1024 .f32 0x00000000#32) (ix2 r c) = ∑ k : Fin 2048, a (ix2 r k) * w (ix2 k c) := by
  refine (Ideal.matmul_plain_apply (M := 512) (K := 2048) (N := 1024) (φ₁ := .bf16) (φ₂ := .bf16) none a w
    (constant S512x1024 .f32 0x00000000#32) r c).trans ?_
  show Ideal.ofBits .f32 0x00000000#32 + _ = _
  rw [Ideal.ofBits_zero_f32, zero_add]

/-- The kernel's gate is written with a subtraction from zero. -/
theorem gate_eq (x : EReal) : Ideal.div (Ideal.ofBits .f32 0x3F800000#32)
    (Ideal.ofBits .f32 0x3F800000#32 + Ideal.exp (Ideal.ofBits .f32 0x00000000#32 - x)) = gate x := by
  rw [Ideal.ofBits_zero_f32, sub_eq_add_neg, zero_add]; rfl

/-- The body's payload read at an index. -/
theorem pay_apply (a : Vec Ideal S512x2048 .bf16) (w : Vec Ideal S2048x1024 .bf16) (a' : Vec Ideal S512x2048 .bf16)
    (w' : Vec Ideal S2048x1024 .bf16) (p p' : Vec Ideal S512x1024 .bf16) (r : Fin 512) (c : Fin 1024) :
    k0_pay1 (F := Ideal) a w a' w' p p' (ix2 r c)
      = gate (p (ix2 r c)) * (∑ k : Fin 2048, a (ix2 r k) * w (ix2 k c))
        + gate (p' (ix2 r c)) * (∑ k : Fin 2048, a' (ix2 r k) * w' (ix2 k c)) := by
  rw [← dot_apply a w, ← dot_apply a' w', ← gate_eq, ← gate_eq]
  unfold k0_pay1
  simp only [shapeCast_self]
  rfl

variable (m : (ℓ : Loc nD τ sig) → Buf (Elt Ideal) ℓ)

/-- The two weight arrays when the region is entered: converted, which is the identity here. -/
theorem V_wp (c : Dev nD) : V m c main_v0 = m ((c : Thread nD τ).loc main_arg1) := by
  show StableHlo.after hostOps0 _ (Proc.devRef .tc main_v0) = _
  after_results
  rfl

theorem V_wa (c : Dev nD) : V m c main_v1 = m ((c : Thread nD τ).loc main_arg2) := by
  show StableHlo.after hostOps0 _ (Proc.devRef .tc main_v1) = _
  after_results
  rfl

/-- The windows' block indices at a point, against the result's. -/
theorem idx_facts : ∀ t : Fin cfg0.N,
    win0_0.index t 0 = win0_5.index t 0 ∧ win0_0.index t 1 = 0 ∧ win0_1.index t 0 = 0 ∧ win0_1.index t 1 = win0_5.index t 1
      ∧ win0_2.index t 0 = 0 ∧ win0_2.index t 1 = win0_5.index t 1
      ∧ win0_3.index t 0 = win0_5.index t 0 ∧ win0_3.index t 1 = 12 + win0_5.index t 1
      ∧ win0_4.index t 0 = win0_5.index t 0 ∧ win0_4.index t 1 = 16 + win0_5.index t 1 :=
  (by decide +kernel : ∀ t : Fin grid0.N,
    win0_0.index t 0 = win0_5.index t 0 ∧ win0_0.index t 1 = 0 ∧ win0_1.index t 0 = 0 ∧ win0_1.index t 1 = win0_5.index t 1
      ∧ win0_2.index t 0 = 0 ∧ win0_2.index t 1 = win0_5.index t 1
      ∧ win0_3.index t 0 = win0_5.index t 0 ∧ win0_3.index t 1 = 12 + win0_5.index t 1
      ∧ win0_4.index t 0 = win0_5.index t 0 ∧ win0_4.index t 1 = 16 + win0_5.index t 1)

/-- Every block of the result is some point's. -/
theorem idx_onto : ∀ (a : Fin 1) (b : Fin 4), ∃ t : Fin cfg0.N, win0_5.index t 0 = a.val ∧ win0_5.index t 1 = b.val :=
  (by decide +kernel : ∀ (a : Fin 1) (b : Fin 4), ∃ t : Fin grid0.N, win0_5.index t 0 = a.val ∧ win0_5.index t 1 = b.val)

/-- A load of the left half of the block, and of the right half, read at an index. -/
theorem ld_lo (X : Vec Ideal S512x4096 .bf16) (r : Fin 512) (k : Fin 2048) : View.ld X r0_0 (ix2 r k) = X (ix2 r (lo k)) := by
  unfold r0_0
  rw [View.ld_unit]
  exact extractStridedSlice_apply _ _ _ _ _ (fun a => match a with
    | ⟨0, _⟩ => (Nat.zero_add _).symm
    | ⟨1, _⟩ => (Nat.zero_add _).symm)

theorem ld_hi (X : Vec Ideal S512x4096 .bf16) (r : Fin 512) (k : Fin 2048) : View.ld X r0_2 (ix2 r k) = X (ix2 r (hi k)) := by
  unfold r0_2
  rw [View.ld_unit]
  exact extractStridedSlice_apply _ _ _ _ _ (fun a => match a with
    | ⟨0, _⟩ => (Nat.zero_add _).symm
    | ⟨1, _⟩ => rfl)

/-- What a point writes back is its block of the merge. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9, f10⟩ := idx_facts t
  rw [Value.flushed5]
  unfold out0_5
  rw [View.canon_unit_zero hz2, View.ld_unit_zero (S := S2048x1024) hz2, View.ld_unit_zero (S := S2048x1024) hz2,
    View.ld_unit_zero (S := S512x1024) hz2, View.ld_unit_zero (S := S512x1024) hz2]
  funext y
  obtain ⟨r, q, rfl⟩ : ∃ (r : Fin 512) (q : Fin 1024), y = ix2 r q := ⟨y 0, y 1, eq_ix2 y⟩
  show k0_pay1 (F := Ideal) (View.ld (iblk m c 0 t) r0_0) (iblk m c 1 t) (View.ld (iblk m c 0 t) r0_2) (iblk m c 2 t)
    (iblk m c 3 t) (iblk m c 4 t) (ix2 r q) = G _ _ _ _ ((win0_5.rect t).emb (ix2 r q))
  refine (pay_apply _ _ _ _ _ _ r q).trans ?_
  have e0 := win0_5.rect_emb_val t (ix2 r q) 0
  have e1 := win0_5.rect_emb_val t (ix2 r q) 1
  have ha : ∀ k : Fin 4096, iblk m c 0 t (ix2 r k)
      = m ((c : Thread nD τ).loc main_arg0) (ix2 ((win0_5.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hw : ∀ k : Fin 2048, iblk m c 1 t (ix2 k q)
      = m ((c : Thread nD τ).loc main_arg1) (ix2 k ((win0_5.rect t).emb (ix2 r q) 1)) := fun k => by
    show V m c main_v0 ((win0_1.rect t).emb (ix2 k q)) = _
    rw [V_wp]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e1.symm
  have hw' : ∀ k : Fin 2048, iblk m c 2 t (ix2 k q)
      = m ((c : Thread nD τ).loc main_arg2) (ix2 k ((win0_5.rect t).emb (ix2 r q) 1)) := fun k => by
    show V m c main_v1 ((win0_2.rect t).emb (ix2 k q)) = _
    rw [V_wa]
    refine congrArg _ (funext fun a => Fin.ext ?_)
    match a with
    | ⟨0, _⟩ => exact (win0_2.rect_emb_val_of_index_zero t 0 f5 (ix2 k q))
    | ⟨1, _⟩ => exact ((win0_2.rect_emb_val t (ix2 k q) 1).trans (by rw [f6]; rfl)).trans e1.symm
  have hp : iblk m c 3 t (ix2 r q) = m ((c : Thread nD τ).loc main_arg3)
      (ix2 ((win0_5.rect t).emb (ix2 r q) 0) (col 12288 (by decide) ((win0_5.rect t).emb (ix2 r q) 1))) := by
    show V m c main_arg3 ((win0_3.rect t).emb (ix2 r q)) = _
    rw [V_main_arg3]
    refine congrArg _ (funext fun a => Fin.ext ?_)
    match a with
    | ⟨0, _⟩ => exact ((win0_3.rect_emb_val t (ix2 r q) 0).trans (by rw [f7])).trans e0.symm
    | ⟨1, _⟩ =>
      have h : ((win0_3.rect t).emb (ix2 r q) 1 : Nat) = (12 + win0_5.index t 1) * 1024 + q.val :=
        (win0_3.rect_emb_val t (ix2 r q) 1).trans (by rw [f8]; rfl)
      have h' : ((win0_5.rect t).emb (ix2 r q) 1 : Nat) = win0_5.index t 1 * 1024 + q.val := e1
      show ((win0_3.rect t).emb (ix2 r q) 1 : Nat) = 12288 + ((win0_5.rect t).emb (ix2 r q) 1 : Nat)
      omega
  have hp' : iblk m c 4 t (ix2 r q) = m ((c : Thread nD τ).loc main_arg3)
      (ix2 ((win0_5.rect t).emb (ix2 r q) 0) (col 16384 (by decide) ((win0_5.rect t).emb (ix2 r q) 1))) := by
    show V m c main_arg3 ((win0_4.rect t).emb (ix2 r q)) = _
    rw [V_main_arg3]
    refine congrArg _ (funext fun a => Fin.ext ?_)
    match a with
    | ⟨0, _⟩ => exact ((win0_4.rect_emb_val t (ix2 r q) 0).trans (by rw [f9])).trans e0.symm
    | ⟨1, _⟩ =>
      have h : ((win0_4.rect t).emb (ix2 r q) 1 : Nat) = (16 + win0_5.index t 1) * 1024 + q.val :=
        (win0_4.rect_emb_val t (ix2 r q) 1).trans (by rw [f10]; rfl)
      have h' : ((win0_5.rect t).emb (ix2 r q) 1 : Nat) = win0_5.index t 1 * 1024 + q.val := e1
      show ((win0_4.rect t).emb (ix2 r q) 1 : Nat) = 16384 + ((win0_5.rect t).emb (ix2 r q) 1 : Nat)
      omega
  unfold G
  rw [hp, hp']
  refine congrArg₂ _ (congrArg₂ _ rfl (Finset.sum_congr rfl fun k _ => congrArg₂ _ ((ld_lo _ _ _).trans (ha _)) (hw k)))
    (congrArg₂ _ rfl (Finset.sum_congr rfl fun k _ => congrArg₂ _ ((ld_hi _ _ _).trans (ha _)) (hw' k)))

/-- Every index of the result is in some point's block. -/
theorem cover (i : S512x4096.Idx) : ∃ t : Fin cfg0.N, (cfg0.win 5).flush t = true ∧ i ∈ ((cfg0.win 5).blk t).view.set := by
  have h0 : (i 0 : Nat) < 512 := (i 0).isLt
  have h1 : (i 1 : Nat) < 4096 := (i 1).isLt
  obtain ⟨t, ht0, ht1⟩ := idx_onto ⟨(i 0 : Nat) / 512, by omega⟩ ⟨(i 1 : Nat) / 1024, by omega⟩
  refine ⟨t, flush0_5 t, ?_⟩
  show i ∈ ((View.whole main_v2).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [ht0]; dsimp only; omega
  | ⟨1, _⟩ =>
    show win0_5.index t 1 * 1024 ≤ (i 1 : Nat) ∧ (i 1 : Nat) < win0_5.index t 1 * 1024 + 1024
    rw [ht1]; dsimp only; omega

/-- The result array after the run is the merge of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 5 _ (fun t _ => flushed_eq m c t) cover

open Cert.Reference6Ideal.Read in
/-- The reference's result is the merge of its arguments. -/
theorem ref_eq (x : Vec Ideal S512x4096 .bf16) (wp wa : Vec Ideal S2048x4096 .f32) (p : Vec Ideal S512x20480 .bf16) :
    val_main_v23 (F := Ideal) x wp wa p = G x wp wa p := by
  funext i
  rw [val_main_v23_apply, val_main_v22_apply, val_main_v14_apply, val_main_v21_apply, val_main_v5_apply, val_main_v7_apply,
    val_main_v13_apply, val_main_v20_apply, val_main_v11_apply, val_main_v18_apply, val_main_v9_apply, val_main_v16_apply,
    val_main_v8_apply, val_main_v15_apply, val_main_v2_apply, val_main_v3_apply, val_main_v12_apply, val_main_v10_apply,
    val_main_v19_apply, val_main_v17_apply]
  show gate (p _) * (∑ k : Fin 2048, _) + gate (p _) * (∑ k : Fin 2048, _)
    = gate (p _) * (∑ k : Fin 2048, _) + gate (p _) * (∑ k : Fin 2048, _)
  refine congrArg₂ _ (congrArg₂ _ (congrArg gate (congrArg p ?_)) (Finset.sum_congr rfl fun k _ => ?_))
    (congrArg₂ _ (congrArg gate (congrArg p ?_)) (Finset.sum_congr rfl fun k _ => ?_))
  · funext a; fin_cases a <;> rfl
  · rw [val_main_v4_apply, val_main_v0_apply]
    exact congrArg₂ _ (congrArg x (funext fun a => by fin_cases a <;> rfl)) (congrArg wp (funext fun a => by fin_cases a <;> rfl))
  · funext a; fin_cases a <;> rfl
  · rw [val_main_v6_apply, val_main_v0_apply]
    exact congrArg₂ _ (congrArg x (funext fun a => by fin_cases a <;> rfl)) (congrArg wa (funext fun a => by fin_cases a <;> rfl))

/-- From equal arguments the merge kernel and its reference end with equal results, their arguments unchanged. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel6Ideal.defs _ _).mono (fun r h c => ⟨(h c).1.trans (final m c), (h c).2⟩)
      (Value.run_blocks (F := Ideal) m g)
  · refine (θ_run Cert.Reference6Ideal.defs _ _).mono (fun r h c => ?_) (Cert.Reference6Ideal.Value.run (F := Ideal) m' g')
    refine ⟨((h c).1.trans ?_), (h c).2⟩
    refine (Cert.Reference6Ideal.Read.val_main_v23_eq _ _ _ _).trans ?_
    rw [ref_eq, (hagree c).1, (hagree c).2.1, (hagree c).2.2.1, (hagree c).2.2.2]

end Cert.MergeCtx

end
-- ==== Proof.OutProjCtx.lean ====
/-
  The value of the output projection of the context tokens: after the run of `Kernel7Ideal` the result array holds, at row `r` and column `c`,
  `x[r, c] + g[b, 0, c] · Σ_k h[r, k] · w[k, c]` with `b` the row of the context tokens (`OutProjCtx.final`), which is what the
  reference's last operation holds at that index (`OutProjCtx.ref_eq`); from equal arguments the two results are equal
  (`OutProjCtx.algebraic`).
-/
module

public import proofs.«01_k».proof.Defs
public import proofs.«01_k».proof.Proof.Gen.Kernel7Ideal.Value
public import proofs.«01_k».proof.Proof.Gen.Reference7Ideal.Read
public import Idealize.ShloMosaic.Lib.MatmulPlain
public import Idealize.ShloMosaic.Lib.ValueIdx

@[expose] public section

noncomputable section

namespace Cert.OutProjCtx

open Idealize.ShloMosaic Idealize.ShloMosaic.TcCoe Idealize.SL.Sem Idealize.ShloMosaic.ValueIdx
open Cert.Kernel7Ideal Cert.Kernel7Ideal.Gen

/-- The gate row of the context tokens. -/
def bat : Fin 8 := 2

/-- The gated output projection read at an index. -/
def G (h : Vec Ideal S512x4096 .bf16) (w : Vec Ideal S4096x4096 .f32) (x : Vec Ideal S512x4096 .f32)
    (g : Vec Ideal S8x1x4096 .f32) : Vec Ideal S512x4096 .f32 :=
  fun i => x i + g (ix3 bat 0 (i 1)) * ∑ k : Fin 4096, h (ix2 (i 0) k) * w (ix2 k (i 1))

theorem hz2 : (![0, 0] : Fin 2 → Nat) = fun _ => 0 := funext fun a => by fin_cases a <;> rfl
theorem hz3 : (![0, 0, 0] : Fin 3 → Nat) = fun _ => 0 := funext fun a => by fin_cases a <;> rfl

theorem dot_apply (a : Vec Ideal S512x4096 .bf16) (w : Vec Ideal S4096x1024 .bf16) (r : Fin 512) (c : Fin 1024) :
    FloatOps.matmul (F := Ideal) (φ₁ := .bf16) (φ₂ := .bf16) dot_S512x4096_S4096x1024_S512x1024_1_0_0_1_n_n none a w
      (constant S512x1024 .f32 0x00000000#32) (ix2 r c) = ∑ k : Fin 4096, a (ix2 r k) * w (ix2 k c) := by
  refine (Ideal.matmul_plain_apply (M := 512) (K := 4096) (N := 1024) (φ₁ := .bf16) (φ₂ := .bf16) none a w
    (constant S512x1024 .f32 0x00000000#32) r c).trans ?_
  show Ideal.ofBits .f32 0x00000000#32 + _ = _
  rw [Ideal.ofBits_zero_f32, zero_add]

/-- The body's payload read at an index. -/
theorem pay_apply (a : Vec Ideal S512x4096 .bf16) (w : Vec Ideal S4096x1024 .bf16) (x : Vec Ideal S512x1024 .f32)
    (g : Vec Ideal S1x1x1024 .f32) (r : Fin 512) (c : Fin 1024) :
    k0_pay1 (F := Ideal) a w x g (ix2 r c) = x (ix2 r c) + g (ix3 0 0 c) * ∑ k : Fin 4096, a (ix2 r k) * w (ix2 k c) := by
  have h1 : shapeCast S1x1024 g shapeCasts_S1x1x1024_S1x1024 (ix2 0 c) = g (ix3 0 0 c) :=
    shapeCast_apply _ _ _ _ (by rw [Shape.rowMajor_val_three, Shape.rowMajor_val_two]; simp)
  have h2 : broadcastTo S512x1024 (shapeCast S1x1024 g shapeCasts_S1x1x1024_S1x1024) broadcasts_S1x1024_S512x1024 (ix2 r c)
      = g (ix3 0 0 c) := (broadcastTo_apply _ _ _ (ix2 0 c) (fun d => by fin_cases d <;> rfl)).trans h1
  rw [← dot_apply a w, ← h2]
  unfold k0_pay1
  simp only [shapeCast_self]
  rfl

variable (m : (ℓ : Loc nD τ sig) → Buf (Elt Ideal) ℓ)

/-- The weights when the region is entered: converted, which is the identity here. -/
theorem V_w (c : Dev nD) : V m c main_v0 = m ((c : Thread nD τ).loc main_arg1) := by
  show StableHlo.after hostOps0 _ (Proc.devRef .tc main_v0) = _
  after_results
  rfl

/-- The windows' block indices at a point, against the result's. -/
theorem idx_facts : ∀ t : Fin cfg0.N,
    win0_0.index t 0 = win0_4.index t 0 ∧ win0_0.index t 1 = 0 ∧ win0_1.index t 0 = 0 ∧ win0_1.index t 1 = win0_4.index t 1
      ∧ win0_2.index t 0 = win0_4.index t 0 ∧ win0_2.index t 1 = win0_4.index t 1
      ∧ win0_3.index t 0 = 2 ∧ win0_3.index t 1 = 0 ∧ win0_3.index t 2 = win0_4.index t 1 :=
  (by decide +kernel : ∀ t : Fin grid0.N,
    win0_0.index t 0 = win0_4.index t 0 ∧ win0_0.index t 1 = 0 ∧ win0_1.index t 0 = 0 ∧ win0_1.index t 1 = win0_4.index t 1
      ∧ win0_2.index t 0 = win0_4.index t 0 ∧ win0_2.index t 1 = win0_4.index t 1
      ∧ win0_3.index t 0 = 2 ∧ win0_3.index t 1 = 0 ∧ win0_3.index t 2 = win0_4.index t 1)

/-- Every block of the result is some point's. -/
theorem idx_onto : ∀ (a : Fin 1) (b : Fin 4), ∃ t : Fin cfg0.N, win0_4.index t 0 = a.val ∧ win0_4.index t 1 = b.val :=
  (by decide +kernel : ∀ (a : Fin 1) (b : Fin 4), ∃ t : Fin grid0.N, win0_4.index t 0 = a.val ∧ win0_4.index t 1 = b.val)

/-- What a point writes back is its block of the gated projection. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9⟩ := idx_facts t
  rw [Value.flushed4]
  unfold out0_4
  rw [View.canon_unit_zero hz2, View.ld_unit_zero (S := S512x4096) hz2, View.ld_unit_zero (S := S4096x1024) hz2,
    View.ld_unit_zero (S := S512x1024) hz2, View.ld_unit_zero (S := S1x1x1024) hz3]
  funext y
  obtain ⟨r, q, rfl⟩ : ∃ (r : Fin 512) (q : Fin 1024), y = ix2 r q := ⟨y 0, y 1, eq_ix2 y⟩
  show k0_pay1 (F := Ideal) (iblk m c 0 t) (iblk m c 1 t) (iblk m c 2 t)
    (iblk m c 3 t) (ix2 r q) = G _ _ _ _ ((win0_4.rect t).emb (ix2 r q))
  refine (pay_apply _ _ _ _ r q).trans ?_
  have e0 := win0_4.rect_emb_val t (ix2 r q) 0
  have e1 := win0_4.rect_emb_val t (ix2 r q) 1
  have ha : ∀ k : Fin 4096, iblk m c 0 t (ix2 r k)
      = m ((c : Thread nD τ).loc main_arg0) (ix2 ((win0_4.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hw : ∀ k : Fin 4096, iblk m c 1 t (ix2 k q)
      = m ((c : Thread nD τ).loc main_arg1) (ix2 k ((win0_4.rect t).emb (ix2 r q) 1)) := fun k => by
    show V m c main_v0 ((win0_1.rect t).emb (ix2 k q)) = _
    rw [V_w]
    refine congrArg _ (funext fun a => Fin.ext ?_)
    match a with
    | ⟨0, _⟩ => exact (win0_1.rect_emb_val_of_index_zero t 0 f3 (ix2 k q))
    | ⟨1, _⟩ => exact ((win0_1.rect_emb_val t (ix2 k q) 1).trans (by rw [f4]; rfl)).trans e1.symm
  have hx : iblk m c 2 t (ix2 r q) = m ((c : Thread nD τ).loc main_arg2) ((win0_4.rect t).emb (ix2 r q)) := by
    show V m c main_arg2 ((win0_2.rect t).emb (ix2 r q)) = _
    rw [V_main_arg2]
    refine congrArg _ (funext fun a => Fin.ext ?_)
    match a with
    | ⟨0, _⟩ => exact ((win0_2.rect_emb_val t (ix2 r q) 0).trans (by rw [f5])).trans e0.symm
    | ⟨1, _⟩ => exact ((win0_2.rect_emb_val t (ix2 r q) 1).trans (by rw [f6])).trans e1.symm
  have hg : iblk m c 3 t (ix3 0 0 q) = m ((c : Thread nD τ).loc main_arg3)
      (ix3 bat 0 ((win0_4.rect t).emb (ix2 r q) 1)) := by
    show V m c main_arg3 ((win0_3.rect t).emb (ix3 0 0 q)) = _
    rw [V_main_arg3]
    refine congrArg _ (funext fun a => Fin.ext ?_)
    match a with
    | ⟨0, _⟩ => exact (win0_3.rect_emb_val t (ix3 0 0 q) 0).trans (by rw [f7]; rfl)
    | ⟨1, _⟩ => exact win0_3.rect_emb_val_of_index_zero t 1 f8 (ix3 0 0 q)
    | ⟨2, _⟩ => exact ((win0_3.rect_emb_val t (ix3 0 0 q) 2).trans (by rw [f9]; rfl)).trans e1.symm
  unfold G
  rw [hx, hg]
  refine congrArg₂ _ rfl (congrArg₂ _ rfl (Finset.sum_congr rfl fun k _ => congrArg₂ _ (ha _) (hw k)))

/-- Every index of the result is in some point's block. -/
theorem cover (i : S512x4096.Idx) : ∃ t : Fin cfg0.N, (cfg0.win 4).flush t = true ∧ i ∈ ((cfg0.win 4).blk t).view.set := by
  have h0 : (i 0 : Nat) < 512 := (i 0).isLt
  have h1 : (i 1 : Nat) < 4096 := (i 1).isLt
  obtain ⟨t, ht0, ht1⟩ := idx_onto ⟨(i 0 : Nat) / 512, by omega⟩ ⟨(i 1 : Nat) / 1024, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [ht0]; dsimp only; omega
  | ⟨1, _⟩ =>
    show win0_4.index t 1 * 1024 ≤ (i 1 : Nat) ∧ (i 1 : Nat) < win0_4.index t 1 * 1024 + 1024
    rw [ht1]; dsimp only; omega

/-- The result array after the run is the gated projection of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

open Cert.Reference7Ideal.Read in
/-- The reference's result is the gated projection of its arguments. -/
theorem ref_eq (h : Vec Ideal S512x4096 .bf16) (w : Vec Ideal S4096x4096 .f32) (x : Vec Ideal S512x4096 .f32)
    (g : Vec Ideal S8x1x4096 .f32) : val_main_v7 (F := Ideal) h w x g = G h w x g := by
  funext i
  rw [val_main_v7_apply, val_main_v6_apply, val_main_v5_apply, val_main_v4_apply, val_main_v3_apply, val_main_v1_apply,
    val_main_v0_apply]
  show x i + g _ * (∑ k : Fin 4096, _) = x i + g _ * (∑ k : Fin 4096, _)
  refine congrArg₂ _ rfl (congrArg₂ _ (congrArg g ?_) (Finset.sum_congr rfl fun k _ => ?_))
  · funext a
    refine Fin.ext ?_
    match a with
    | ⟨0, _⟩ => rfl
    | ⟨1, _⟩ => rfl
    | ⟨2, _⟩ => exact Nat.mod_eq_of_lt (i 1).isLt
  · rw [val_main_v2_apply]
    exact congrArg₂ _ (congrArg h (funext fun a => by fin_cases a <;> rfl)) (congrArg w (funext fun a => by fin_cases a <;> rfl))

/-- From equal arguments the output projection kernel and its reference end with equal results, their arguments unchanged. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel7Ideal.defs _ _).mono (fun r h c => ⟨(h c).1.trans (final m c), (h c).2⟩)
      (Value.run_blocks (F := Ideal) m g)
  · refine (θ_run Cert.Reference7Ideal.defs _ _).mono (fun r h c => ?_) (Cert.Reference7Ideal.Value.run (F := Ideal) m' g')
    refine ⟨((h c).1.trans ?_), (h c).2⟩
    refine (Cert.Reference7Ideal.Read.val_main_v7_eq _ _ _ _).trans ?_
    rw [ref_eq, (hagree c).1, (hagree c).2.1, (hagree c).2.2.1, (hagree c).2.2.2]

end Cert.OutProjCtx

end
-- ==== Proof.FinalNorm.lean ====
/-
  The value of the final norm: after the run of `Kernel8Ideal` the result array holds, at row `r` and column `c`,
  `x[r, c]` over the root of row `r`'s mean square, times `g[c]` (`FinalNorm.final`), which is what the reference's last
  operation holds at that index (`FinalNorm.ref_eq`); from equal arguments the two results are equal (`FinalNorm.algebraic`).
-/
module

public import proofs.«01_k».proof.Defs
public import proofs.«01_k».proof.Proof.Gen.Kernel8Ideal.Value
public import proofs.«01_k».proof.Proof.Gen.Reference8Ideal.Read
public import Idealize.ShloMosaic.Lib.MatmulPlain
public import Idealize.ShloMosaic.Lib.ValueIdx

@[expose] public section

noncomputable section

namespace Cert.FinalNorm

open Idealize.ShloMosaic Idealize.ShloMosaic.TcCoe Idealize.SL.Sem Idealize.ShloMosaic.ValueIdx
open Cert.Kernel8Ideal Cert.Kernel8Ideal.Gen

/-- One over the root of a row's mean square (the small constant added). -/
def scale (x : Vec Ideal S8192x4096 .f32) (r : Fin 8192) : EReal :=
  Ideal.rsqrt (Ideal.div (∑ k : Fin 4096, x (ix2 r k) * x (ix2 r k)) (Ideal.ofBits .f32 0x45800000#32)
    + Ideal.ofBits .f32 0x358637BD#32)

/-- The normalised rows read at an index. -/
def G (x : Vec Ideal S8192x4096 .f32) (g : Vec Ideal S4096 .f32) : Vec Ideal S8192x4096 .f32 :=
  fun i => x i * scale x (i 0) * g (ix1 (i 1))

theorem hz2 : (![0, 0] : Fin 2 → Nat) = fun _ => 0 := funext fun a => by fin_cases a <;> rfl
theorem hz3 : (![0, 0, 0] : Fin 3 → Nat) = fun _ => 0 := funext fun a => by fin_cases a <;> rfl

/-- A row sum of the body at an index. -/
theorem sum_apply (x : Vec Ideal S256x4096 .f32) (j : S256.Idx) (r : Fin 256) (hj : j = ix1 r) :
    multiReduction (F := Ideal) (φ := .f32) .add [1] S256 x 0x00000000#32 reduces_S256x4096_S256 (.inl rfl) rfl j
      = ∑ k : Fin 4096, x (ix2 r k) := by
  subst hj
  refine (Ideal.multiReduction_add_single ..).trans ?_
  refine Finset.sum_congr rfl fun j _ => congrArg x (funext fun a => ?_)
  fin_cases a <;> rfl

/-- The body's payload read at an index. -/
theorem pay_apply (x : Vec Ideal S256x4096 .f32) (g : Vec Ideal S1x4096 .f32) (r : Fin 256) (c : Fin 4096) :
    k0_pay1 (F := Ideal) x g (ix2 r c)
      = x (ix2 r c) * Ideal.rsqrt (Ideal.div (∑ k : Fin 4096, x (ix2 r k) * x (ix2 r k)) (Ideal.ofBits .f32 0x45800000#32)
          + Ideal.ofBits .f32 0x358637BD#32) * g (ix2 0 c) := by
  have ei : r0_0.idx (ix2 r c) = ix2 r c := funext fun a => Fin.ext (by
    match a with
    | ⟨0, _⟩ => show 0 + 1 * r.val = r.val; omega
    | ⟨1, _⟩ => show 0 + 1 * c.val = c.val; omega)
  refine (Value.piece2_0 (F := Ideal) x g (ix2 r c)).trans ?_
  rw [ei]
  have hs := sum_apply (mulf (F := Ideal) (φ := .f32) (s := S256x4096) x x) (Value.ix2_1 (ix2 r c)) r (funext fun a => Fin.ext (by match a with | ⟨0, _⟩ => rfl))
  have h0 : Value.ix2_0 (ix2 r c) = ix2 r c := funext fun a => Fin.ext (by match a with | ⟨0, _⟩ => rfl | ⟨1, _⟩ => rfl)
  have h2 : Value.ix2_2 (ix2 r c) = ix2 0 c := funext fun a => Fin.ext (by match a with | ⟨0, _⟩ => rfl | ⟨1, _⟩ => rfl)
  unfold Value.E2
  rw [hs, h0, h2]
  rfl

/-- A row reshaped from a vector, at an index. -/
theorem row_apply (x : Vec Ideal S4096 .f32) (j : S1x4096.Idx) (k : Fin 4096) (h : (j 1 : Nat) = k.val) :
    shapeCast S1x4096 x shapeCasts_S4096_S1x4096 j = x (ix1 k) := by
  have h0 : (j 0 : Nat) < 1 := (j 0).isLt
  refine shapeCast_apply _ _ _ _ ?_
  rw [Shape.rowMajor_val_two, Shape.rowMajor_val_one]
  show k.val = (j 0 : Nat) * 4096 + (j 1 : Nat)
  omega

variable (m : (ℓ : Loc nD τ sig) → Buf (Elt Ideal) ℓ)

/-- The weights when the region is entered: reshaped to one row. -/
theorem V_g (c : Dev nD) : V m c main_v0 = shapeCast S1x4096 (m ((c : Thread nD τ).loc main_arg1)) shapeCasts_S4096_S1x4096 := by
  show StableHlo.after hostOps0 _ (Proc.devRef .tc main_v0) = _
  after_results
  rfl

/-- The windows' block indices at a point, against the result's. -/
theorem idx_facts : ∀ t : Fin cfg0.N,
    win0_0.index t 0 = win0_2.index t 0 ∧ win0_0.index t 1 = 0 ∧ win0_1.index t 0 = 0 ∧ win0_1.index t 1 = 0
      ∧ win0_2.index t 1 = 0 :=
  (by decide +kernel : ∀ t : Fin grid0.N,
    win0_0.index t 0 = win0_2.index t 0 ∧ win0_0.index t 1 = 0 ∧ win0_1.index t 0 = 0 ∧ win0_1.index t 1 = 0
      ∧ win0_2.index t 1 = 0)

/-- Every block of the result is some point's. -/
theorem idx_onto : ∀ a : Fin 32, ∃ t : Fin cfg0.N, win0_2.index t 0 = a.val ∧ win0_2.index t 1 = 0 :=
  (by decide +kernel : ∀ a : Fin 32, ∃ t : Fin grid0.N, win0_2.index t 0 = a.val ∧ win0_2.index t 1 = 0)

/-- What a point writes back is its block of the normalised rows. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨f1, f2, f3, f4, f5⟩ := idx_facts t
  rw [Value.flushed2]
  unfold out0_2
  rw [View.canon_unit_zero hz2, View.ld_unit_zero (S := S256x4096) hz2, View.ld_unit_zero (S := S1x4096) hz2]
  funext y
  obtain ⟨r, q, rfl⟩ : ∃ (r : Fin 256) (q : Fin 4096), y = ix2 r q := ⟨y 0, y 1, eq_ix2 y⟩
  show k0_pay1 (F := Ideal) (iblk m c 0 t) (iblk m c 1 t) (ix2 r q) = G _ _ ((win0_2.rect t).emb (ix2 r q))
  refine (pay_apply _ _ r q).trans ?_
  have e0 := win0_2.rect_emb_val t (ix2 r q) 0
  have e1 := win0_2.rect_emb_val_of_index_zero t 1 f5 (ix2 r q)
  have hx : ∀ k : Fin 4096, iblk m c 0 t (ix2 r k)
      = m ((c : Thread nD τ).loc main_arg0) (ix2 ((win0_2.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hg : iblk m c 1 t (ix2 0 q)
      = m ((c : Thread nD τ).loc main_arg1) (ix1 ((win0_2.rect t).emb (ix2 r q) 1)) := by
    show V m c main_v0 ((win0_1.rect t).emb (ix2 0 q)) = _
    rw [V_g]
    exact row_apply _ _ _ ((win0_1.rect_emb_val_of_index_zero t 1 f4 (ix2 0 q)).trans e1.symm)
  have hq : ix2 ((win0_2.rect t).emb (ix2 r q) 0) q = (win0_2.rect t).emb (ix2 r q) := funext fun a => Fin.ext (by
    match a with
    | ⟨0, _⟩ => rfl
    | ⟨1, _⟩ => exact e1.symm)
  unfold G scale
  refine congrArg₂ (· * ·) (congrArg₂ (· * ·) ((hx q).trans (congrArg _ hq)) ?_) hg
  exact congrArg (fun s => Ideal.rsqrt (Ideal.div s (Ideal.ofBits .f32 0x45800000#32) + Ideal.ofBits .f32 0x358637BD#32))
    (Finset.sum_congr rfl fun k _ => congrArg₂ (· * ·) (hx k) (hx k))

/-- Every index of the result is in some point's block. -/
theorem cover (i : S8192x4096.Idx) : ∃ t : Fin cfg0.N, (cfg0.win 2).flush t = true ∧ i ∈ ((cfg0.win 2).blk t).view.set := by
  have h0 : (i 0 : Nat) < 8192 := (i 0).isLt
  have h1 : (i 1 : Nat) < 4096 := (i 1).isLt
  obtain ⟨t, ht0, ht1⟩ := idx_onto ⟨(i 0 : Nat) / 256, by omega⟩
  refine ⟨t, flush0_2 t, ?_⟩
  show i ∈ ((View.whole main_v1).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [ht0]; dsimp only; omega
  | ⟨1, _⟩ =>
    show win0_2.index t 1 * 4096 ≤ (i 1 : Nat) ∧ (i 1 : Nat) < win0_2.index t 1 * 4096 + 4096
    rw [ht1]; omega

/-- The result array after the run is the normalised rows of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

open Cert.Reference8Ideal.Read in
/-- The reference's result is the normalised rows of its arguments. -/
theorem ref_eq (x : Vec Ideal S8192x4096 .f32) (g : Vec Ideal S4096 .f32) : val_main_v12 (F := Ideal) x g = G x g := by
  funext i
  have hs : val_main_v1 (F := Ideal) x (idx_main_v2 (idx_main_v8 i)) = ∑ k : Fin 4096, x (ix2 (i 0) k) * x (ix2 (i 0) k) := by
    rw [val_main_v1_apply]
    show Ideal.ofBits .f32 0x00000000#32 + _ = _
    rw [Ideal.ofBits_zero_f32, zero_add]
    refine Finset.sum_congr rfl fun k _ => ?_
    have ek : idx_main_v1 (idx_main_v2 (idx_main_v8 i)) k = ix2 (i 0) k := funext fun a => Fin.ext (by
      match a with
      | ⟨0, _⟩ => rfl
      | ⟨1, _⟩ => rfl)
    rw [val_main_v0_apply, ek]
    rfl
  have eg : idx_main_v10 (idx_main_v11 i) = ix1 (i 1) := funext fun a => Fin.ext (by match a with | ⟨0, _⟩ => rfl)
  rw [val_main_v12_apply, val_main_v9_apply, val_main_v11_apply, val_main_v10_apply, val_main_v8_apply, val_main_v7_apply,
    val_main_v6_apply, val_main_v5_apply, val_main_v4_apply, val_main_v3_apply, val_main_v2_apply, hs, eg]
  rfl

/-- From equal arguments the final norm kernel and its reference end with equal results, their arguments unchanged. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => G (m ((c.tc : Thread nD τ).loc main_arg0)) (m ((c.tc : Thread nD τ).loc main_arg1)), ?_, ?_⟩
  · exact (θ_run Cert.Kernel8Ideal.defs _ _).mono (fun r h c => ⟨(h c).1.trans (final m c), (h c).2⟩)
      (Value.run_blocks (F := Ideal) m g)
  · refine (θ_run Cert.Reference8Ideal.defs _ _).mono (fun r h c => ?_) (Cert.Reference8Ideal.Value.run (F := Ideal) m' g')
    refine ⟨((h c).1.trans ?_), (h c).2⟩
    refine (Cert.Reference8Ideal.Read.val_main_v12_eq _ _).trans ?_
    rw [ref_eq, (hagree c).1, (hagree c).2]

end Cert.FinalNorm

end
-- ==== Proof.Modulate.lean ====
/-
  The value of the modulated norm: after the run of `Kernel9Ideal` the result array holds, at row `r` and column `c`,
  `x[r, c]` over the root of row `r`'s mean square, times `g[c]`, times one plus the scale of the row's batch entry, plus its
  shift (`Modulate.final`), which is what the reference's last operation holds at that index (`Modulate.ref_eq`); from equal
  arguments the two results are equal (`Modulate.algebraic`).
-/
module

public import proofs.«01_k».proof.Defs
public import proofs.«01_k».proof.Proof.Gen.Kernel9Ideal.Value
public import proofs.«01_k».proof.Proof.Gen.Reference9Ideal.Read
public import Idealize.ShloMosaic.Lib.MatmulPlain
public import Idealize.ShloMosaic.Lib.ValueIdx

@[expose] public section

noncomputable section

namespace Cert.Modulate

open Idealize.ShloMosaic Idealize.ShloMosaic.TcCoe Idealize.SL.Sem Idealize.ShloMosaic.ValueIdx
open Cert.Kernel9Ideal Cert.Kernel9Ideal.Gen

/-- One over the root of a row's mean square (the small constant added). -/
def scale (x : Vec Ideal S8192x4096 .f32) (r : Fin 8192) : EReal :=
  Ideal.rsqrt (Ideal.div (∑ k : Fin 4096, x (ix2 r k) * x (ix2 r k)) (Ideal.ofBits .f32 0x45800000#32)
    + Ideal.ofBits .f32 0x358637BD#32)

/-- The batch entry of a row. -/
def bat (r : Fin 8192) : Fin 8 := ⟨r.val / 4096, by have := r.isLt; omega⟩

/-- The modulated normalised rows read at an index. -/
def G (x : Vec Ideal S8192x4096 .f32) (g : Vec Ideal S4096 .f32) (sh sc : Vec Ideal S8x1x4096 .f32) : Vec Ideal S8192x4096 .bf16 :=
  fun i => x i * scale x (i 0) * g (ix1 (i 1)) * (Ideal.ofBits .f32 0x3F800000#32 + sc (ix3 (bat (i 0)) 0 (i 1)))
    + sh (ix3 (bat (i 0)) 0 (i 1))

theorem hz2 : (![0, 0] : Fin 2 → Nat) = fun _ => 0 := funext fun a => by fin_cases a <;> rfl
theorem hz3 : (![0, 0, 0] : Fin 3 → Nat) = fun _ => 0 := funext fun a => by fin_cases a <;> rfl

/-- A row sum of the body at an index. -/
theorem sum_apply (x : Vec Ideal S256x4096 .f32) (j : S256.Idx) (r : Fin 256) (hj : j = ix1 r) :
    multiReduction (F := Ideal) (φ := .f32) .add [1] S256 x 0x00000000#32 reduces_S256x4096_S256 (.inl rfl) rfl j
      = ∑ k : Fin 4096, x (ix2 r k) := by
  subst hj
  refine (Ideal.multiReduction_add_single ..).trans ?_
  refine Finset.sum_congr rfl fun j _ => congrArg x (funext fun a => ?_)
  fin_cases a <;> rfl

/-- The body's payload read at an index. -/
theorem pay_apply (x : Vec Ideal S256x4096 .f32) (g : Vec Ideal S1x4096 .f32) (sc sh : Vec Ideal S1x1x4096 .f32)
    (r : Fin 256) (c : Fin 4096) :
    k0_pay1 (F := Ideal) x g sc sh (ix2 r c)
      = x (ix2 r c) * Ideal.rsqrt (Ideal.div (∑ k : Fin 4096, x (ix2 r k) * x (ix2 r k)) (Ideal.ofBits .f32 0x45800000#32)
          + Ideal.ofBits .f32 0x358637BD#32) * g (ix2 0 c) * (Ideal.ofBits .f32 0x3F800000#32 + sc (ix3 0 0 c))
        + sh (ix3 0 0 c) := by
  have ei : r0_0.idx (ix2 r c) = ix2 r c := funext fun a => Fin.ext (by
    match a with
    | ⟨0, _⟩ => show 0 + 1 * r.val = r.val; omega
    | ⟨1, _⟩ => show 0 + 1 * c.val = c.val; omega)
  refine (Value.piece4_0 (F := Ideal) x g sc sh (ix2 r c)).trans ?_
  rw [ei]
  have hs := sum_apply (mulf (F := Ideal) (φ := .f32) (s := S256x4096) x x) (Value.ix4_1 (ix2 r c)) r (funext fun a => Fin.ext (by match a with | ⟨0, _⟩ => rfl))
  have h0 : Value.ix4_0 (ix2 r c) = ix2 r c := funext fun a => Fin.ext (by match a with | ⟨0, _⟩ => rfl | ⟨1, _⟩ => rfl)
  have h2 : Value.ix4_2 (ix2 r c) = ix2 0 c := funext fun a => Fin.ext (by match a with | ⟨0, _⟩ => rfl | ⟨1, _⟩ => rfl)
  have h3 : Value.ix4_3 (ix2 r c) = ix3 0 0 c := funext fun a => Fin.ext (by
    match a with | ⟨0, _⟩ => rfl | ⟨1, _⟩ => rfl | ⟨2, _⟩ => rfl)
  have h4 : Value.ix4_4 (ix2 r c) = ix3 0 0 c := h3
  unfold Value.E4
  rw [hs, h0, h2, h3, h4]
  rfl

/-- A row reshaped from a vector, at an index. -/
theorem row_apply (x : Vec Ideal S4096 .f32) (j : S1x4096.Idx) (k : Fin 4096) (h : (j 1 : Nat) = k.val) :
    shapeCast S1x4096 x shapeCasts_S4096_S1x4096 j = x (ix1 k) := by
  have h0 : (j 0 : Nat) < 1 := (j 0).isLt
  refine shapeCast_apply _ _ _ _ ?_
  rw [Shape.rowMajor_val_two, Shape.rowMajor_val_one]
  show k.val = (j 0 : Nat) * 4096 + (j 1 : Nat)
  omega

variable (m : (ℓ : Loc nD τ sig) → Buf (Elt Ideal) ℓ)

/-- The weights when the region is entered: reshaped to one row. -/
theorem V_g (c : Dev nD) : V m c main_v0 = shapeCast S1x4096 (m ((c : Thread nD τ).loc main_arg1)) shapeCasts_S4096_S1x4096 := by
  show StableHlo.after hostOps0 _ (Proc.devRef .tc main_v0) = _
  after_results
  rfl

/-- The windows' block indices at a point, against the result's. -/
theorem idx_facts : ∀ t : Fin cfg0.N,
    win0_0.index t 0 = win0_4.index t 0 ∧ win0_0.index t 1 = 0 ∧ win0_1.index t 0 = 0 ∧ win0_1.index t 1 = 0
      ∧ win0_4.index t 1 = 0 ∧ win0_2.index t 0 = win0_4.index t 0 / 16 ∧ win0_2.index t 1 = 0 ∧ win0_2.index t 2 = 0
      ∧ win0_3.index t 0 = win0_4.index t 0 / 16 ∧ win0_3.index t 1 = 0 ∧ win0_3.index t 2 = 0 :=
  (by decide +kernel : ∀ t : Fin grid0.N,
    win0_0.index t 0 = win0_4.index t 0 ∧ win0_0.index t 1 = 0 ∧ win0_1.index t 0 = 0 ∧ win0_1.index t 1 = 0
      ∧ win0_4.index t 1 = 0 ∧ win0_2.index t 0 = win0_4.index t 0 / 16 ∧ win0_2.index t 1 = 0 ∧ win0_2.index t 2 = 0
      ∧ win0_3.index t 0 = win0_4.index t 0 / 16 ∧ win0_3.index t 1 = 0 ∧ win0_3.index t 2 = 0)

/-- Every block of the result is some point's. -/
theorem idx_onto : ∀ a : Fin 32, ∃ t : Fin cfg0.N, win0_4.index t 0 = a.val ∧ win0_4.index t 1 = 0 :=
  (by decide +kernel : ∀ a : Fin 32, ∃ t : Fin grid0.N, win0_4.index t 0 = a.val ∧ win0_4.index t 1 = 0)

/-- What a point writes back is its block of the modulated rows. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9, f10, f11⟩ := idx_facts t
  rw [Value.flushed4]
  unfold out0_4
  rw [View.canon_unit_zero hz2, View.ld_unit_zero (S := S256x4096) hz2, View.ld_unit_zero (S := S1x4096) hz2]
  simp only [View.ld_unit_zero (S := S1x1x4096) hz3]
  funext y
  obtain ⟨r, q, rfl⟩ : ∃ (r : Fin 256) (q : Fin 4096), y = ix2 r q := ⟨y 0, y 1, eq_ix2 y⟩
  show k0_pay1 (F := Ideal) (iblk m c 0 t) (iblk m c 1 t) (iblk m c 3 t) (iblk m c 2 t) (ix2 r q)
    = G _ _ _ _ ((win0_4.rect t).emb (ix2 r q))
  refine (pay_apply _ _ _ _ r q).trans ?_
  have e0 := win0_4.rect_emb_val t (ix2 r q) 0
  have e1 := win0_4.rect_emb_val_of_index_zero t 1 f5 (ix2 r q)
  have hx : ∀ k : Fin 4096, iblk m c 0 t (ix2 r k)
      = m ((c : Thread nD τ).loc main_arg0) (ix2 ((win0_4.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hg : iblk m c 1 t (ix2 0 q)
      = m ((c : Thread nD τ).loc main_arg1) (ix1 ((win0_4.rect t).emb (ix2 r q) 1)) := by
    show V m c main_v0 ((win0_1.rect t).emb (ix2 0 q)) = _
    rw [V_g]
    exact row_apply _ _ _ ((win0_1.rect_emb_val_of_index_zero t 1 f4 (ix2 0 q)).trans e1.symm)
  have hsh : iblk m c 2 t (ix3 0 0 q) = m ((c : Thread nD τ).loc main_arg2)
      (ix3 (bat ((win0_4.rect t).emb (ix2 r q) 0)) 0 ((win0_4.rect t).emb (ix2 r q) 1)) := by
    show V m c main_arg2 ((win0_2.rect t).emb (ix3 0 0 q)) = _
    rw [V_main_arg2]
    refine congrArg _ (funext fun a => Fin.ext ?_)
    match a with
    | ⟨0, _⟩ =>
      have h : ((win0_2.rect t).emb (ix3 0 0 q) 0 : Nat) = (win0_4.index t 0 / 16) * 1 + 0 :=
        (win0_2.rect_emb_val t (ix3 0 0 q) 0).trans (by rw [f6]; rfl)
      have h' : ((win0_4.rect t).emb (ix2 r q) 0 : Nat) = win0_4.index t 0 * 256 + r.val := e0
      show ((win0_2.rect t).emb (ix3 0 0 q) 0 : Nat) = ((win0_4.rect t).emb (ix2 r q) 0 : Nat) / 4096
      have := r.isLt
      omega
    | ⟨1, _⟩ => exact win0_2.rect_emb_val_of_index_zero t 1 f7 (ix3 0 0 q)
    | ⟨2, _⟩ => exact (win0_2.rect_emb_val_of_index_zero t 2 f8 (ix3 0 0 q)).trans e1.symm
  have hsc : iblk m c 3 t (ix3 0 0 q) = m ((c : Thread nD τ).loc main_arg3)
      (ix3 (bat ((win0_4.rect t).emb (ix2 r q) 0)) 0 ((win0_4.rect t).emb (ix2 r q) 1)) := by
    show V m c main_arg3 ((win0_3.rect t).emb (ix3 0 0 q)) = _
    rw [V_main_arg3]
    refine congrArg _ (funext fun a => Fin.ext ?_)
    match a with
    | ⟨0, _⟩ =>
      have h : ((win0_3.rect t).emb (ix3 0 0 q) 0 : Nat) = (win0_4.index t 0 / 16) * 1 + 0 :=
        (win0_3.rect_emb_val t (ix3 0 0 q) 0).trans (by rw [f9]; rfl)
      have h' : ((win0_4.rect t).emb (ix2 r q) 0 : Nat) = win0_4.index t 0 * 256 + r.val := e0
      show ((win0_3.rect t).emb (ix3 0 0 q) 0 : Nat) = ((win0_4.rect t).emb (ix2 r q) 0 : Nat) / 4096
      have := r.isLt
      omega
    | ⟨1, _⟩ => exact win0_3.rect_emb_val_of_index_zero t 1 f10 (ix3 0 0 q)
    | ⟨2, _⟩ => exact (win0_3.rect_emb_val_of_index_zero t 2 f11 (ix3 0 0 q)).trans e1.symm
  have hq : ix2 ((win0_4.rect t).emb (ix2 r q) 0) q = (win0_4.rect t).emb (ix2 r q) := funext fun a => Fin.ext (by
    match a with
    | ⟨0, _⟩ => rfl
    | ⟨1, _⟩ => exact e1.symm)
  unfold G scale
  refine congrArg₂ (· + ·) (congrArg₂ (· * ·) (congrArg₂ (· * ·) (congrArg₂ (· * ·) ((hx q).trans (congrArg _ hq)) ?_) hg)
    (congrArg (Ideal.ofBits .f32 0x3F800000#32 + ·) hsc)) hsh
  exact congrArg (fun s => Ideal.rsqrt (Ideal.div s (Ideal.ofBits .f32 0x45800000#32) + Ideal.ofBits .f32 0x358637BD#32))
    (Finset.sum_congr rfl fun k _ => congrArg₂ (· * ·) (hx k) (hx k))

/-- Every index of the result is in some point's block. -/
theorem cover (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  obtain ⟨t, ht0, ht1⟩ := idx_onto ⟨(i 0 : Nat) / 256, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [ht0]; dsimp only; omega
  | ⟨1, _⟩ =>
    show win0_4.index t 1 * 4096 ≤ (i 1 : Nat) ∧ (i 1 : Nat) < win0_4.index t 1 * 4096 + 4096
    rw [ht1]; omega

/-- The result array after the run is the modulated normalised rows of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

open Cert.Reference9Ideal.Read in
/-- The reference's result is the modulated normalised rows of its arguments. -/
theorem ref_eq (x : Vec Ideal S8192x4096 .f32) (g : Vec Ideal S4096 .f32) (sh sc : Vec Ideal S8x1x4096 .f32) :
    val_main_v23 (F := Ideal) x g sh sc = G x g sh sc := by
  funext i
  have h0 : (i 0 : Nat) < 8192 := (i 0).isLt
  have h1 : (i 1 : Nat) < 4096 := (i 1).isLt
  have ej : idx_main_v0 (idx_main_v22 i) = i := funext fun a => Fin.ext (by
    match a with
    | ⟨0, _⟩ =>
      show ((((i 0).val * 4096 + (i 1).val) / 16777216 * 4096 + ((i 0).val * 4096 + (i 1).val) / 4096 % 4096) * 4096
        + ((i 0).val * 4096 + (i 1).val) % 4096) / 4096 = (i 0).val
      omega
    | ⟨1, _⟩ =>
      show ((((i 0).val * 4096 + (i 1).val) / 16777216 * 4096 + ((i 0).val * 4096 + (i 1).val) / 4096 % 4096) * 4096
        + ((i 0).val * 4096 + (i 1).val) % 4096) % 4096 = (i 1).val
      omega)
  have hs : val_main_v2 (F := Ideal) x (idx_main_v3 (idx_main_v9 (idx_main_v22 i)))
      = ∑ k : Fin 4096, x (ix2 (i 0) k) * x (ix2 (i 0) k) := by
    rw [val_main_v2_apply]
    show Ideal.ofBits .f32 0x00000000#32 + _ = _
    rw [Ideal.ofBits_zero_f32, zero_add]
    refine Finset.sum_congr rfl fun k _ => ?_
    have ek : idx_main_v0 (idx_main_v2 (idx_main_v3 (idx_main_v9 (idx_main_v22 i))) k) = ix2 (i 0) k :=
      funext fun a => Fin.ext (by
        have hk := k.isLt
        match a with
        | ⟨0, _⟩ =>
          show ((((i 0).val * 4096 + (i 1).val) / 16777216 * 4096 + ((i 0).val * 4096 + (i 1).val) / 4096 % 4096) * 4096
            + k.val) / 4096 = (i 0).val
          omega
        | ⟨1, _⟩ =>
          show ((((i 0).val * 4096 + (i 1).val) / 16777216 * 4096 + ((i 0).val * 4096 + (i 1).val) / 4096 % 4096) * 4096
            + k.val) % 4096 = k.val
          omega)
    rw [val_main_v1_apply, val_main_v0_apply, ek]
    rfl
  have eg : idx_main_v11 (idx_main_v12 (idx_main_v22 i)) = ix1 (i 1) := funext fun a => Fin.ext (by
    match a with
    | ⟨0, _⟩ => show ((i 0).val * 4096 + (i 1).val) % 4096 = (i 1).val; omega)
  have ec : idx_main_v14 (idx_main_v17 (idx_main_v22 i)) = ix3 (bat (i 0)) 0 (i 1) := funext fun a => Fin.ext (by
    match a with
    | ⟨0, _⟩ => show ((i 0).val * 4096 + (i 1).val) / 16777216 = (i 0).val / 4096; omega
    | ⟨1, _⟩ => rfl
    | ⟨2, _⟩ => show ((i 0).val * 4096 + (i 1).val) % 4096 = (i 1).val; omega)
  have eh : idx_main_v19 (idx_main_v20 (idx_main_v22 i)) = ix3 (bat (i 0)) 0 (i 1) := ec
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, hs, val_main_v0_apply, ej, eg, ec, eh]
  rfl

/-- From equal arguments the modulated norm kernel and its reference end with equal results, their arguments unchanged. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel9Ideal.defs _ _).mono (fun r h c => ⟨(h c).1.trans (final m c), (h c).2⟩)
      (Value.run_blocks (F := Ideal) m g)
  · refine (θ_run Cert.Reference9Ideal.defs _ _).mono (fun r h c => ?_) (Cert.Reference9Ideal.Value.run (F := Ideal) m' g')
    refine ⟨((h c).1.trans ?_), (h c).2⟩
    refine (Cert.Reference9Ideal.Read.val_main_v23_eq _ _ _ _).trans ?_
    rw [ref_eq, (hagree c).1, (hagree c).2.1, (hagree c).2.2.1, (hagree c).2.2.2]

end Cert.Modulate

end
-- ==== Proof.Ada.lean ====
/-
  The value of the conditioning: after the run of `Kernel10Ideal` the result array holds, at layer `l`, row `r` and column `c`,
  `Σ_k x[r, k] · gate(x[r, k]) · w[l, k, c] + b[l, c]`, the gate being the logistic function (`Ada.final`), which is what the
  reference's last operation holds at that index (`Ada.ref_eq`); from equal arguments the two results are equal
  (`Ada.algebraic`).
-/
module

public import proofs.«01_k».proof.Defs
public import proofs.«01_k».proof.Proof.Gen.Kernel10Ideal.Value
public import proofs.«01_k».proof.Proof.Gen.Reference10Ideal.Read
public import Idealize.ShloMosaic.Lib.MatmulPlain
public import Idealize.ShloMosaic.Lib.ValueIdx

@[expose] public section

noncomputable section

namespace Cert.Ada

open Idealize.ShloMosaic Idealize.ShloMosaic.TcCoe Idealize.SL.Sem Idealize.ShloMosaic.ValueIdx
open Cert.Kernel10Ideal Cert.Kernel10Ideal.Gen

/-- The logistic gate `1 / (1 + e⁻ˣ)`. -/
def gate (x : EReal) : EReal :=
  Ideal.div (Ideal.ofBits .f32 0x3F800000#32) (Ideal.ofBits .f32 0x3F800000#32 + Ideal.exp (-x))

/-- The conditioning read at an index. -/
def G (x : Vec Ideal S8x4096 .f32) (w : Vec Ideal S2x4096x12288 .f32) (b : Vec Ideal S2x12288 .f32) :
    Vec Ideal S2x8x12288 .f32 :=
  fun i => (∑ k : Fin 4096, (x (ix2 (i 1) k) * gate (x (ix2 (i 1) k))) * w (ix3 (i 0) k (i 2))) + b (ix2 (i 0) (i 2))

theorem hz2 : (![0, 0] : Fin 2 → Nat) = fun _ => 0 := funext fun a => by fin_cases a <;> rfl
theorem hz3 : (![0, 0, 0] : Fin 3 → Nat) = fun _ => 0 := funext fun a => by fin_cases a <;> rfl

/-- The kernel's gate is written with a subtraction from zero. -/
theorem gate_eq (x : EReal) : Ideal.div (Ideal.ofBits .f32 0x3F800000#32)
    (Ideal.ofBits .f32 0x3F800000#32 + Ideal.exp (Ideal.ofBits .f32 0x00000000#32 - x)) = gate x := by
  rw [Ideal.ofBits_zero_f32, sub_eq_add_neg, zero_add]; rfl

theorem dot_apply (a : Vec Ideal S8x4096 .f32) (w : Vec Ideal S4096x512 .f32) (r : Fin 8) (c : Fin 512) :
    FloatOps.matmul (F := Ideal) (φ₁ := .f32) (φ₂ := .f32) dot_S8x4096_S4096x512_S8x512_1_0_0_1_n_n (some .fp32) a w
      (constant S8x512 .f32 0x00000000#32) (ix2 r c) = ∑ k : Fin 4096, a (ix2 r k) * w (ix2 k c) := by
  refine (Ideal.matmul_plain_apply (M := 8) (K := 4096) (N := 512) (φ₁ := .f32) (φ₂ := .f32) (some .fp32) a w
    (constant S8x512 .f32 0x00000000#32) r c).trans ?_
  show Ideal.ofBits .f32 0x00000000#32 + _ = _
  rw [Ideal.ofBits_zero_f32, zero_add]

/-- The gated rows, as the body writes them. -/
def act (x : Vec Ideal S8x4096 .f32) : Vec Ideal S8x4096 .f32 := fun i => x i *
  Ideal.div (Ideal.ofBits .f32 0x3F800000#32) (Ideal.ofBits .f32 0x3F800000#32 + Ideal.exp (Ideal.ofBits .f32 0x00000000#32 - x i))

/-- The body's payload read at an index. -/
theorem pay_apply (x : Vec Ideal S8x4096 .f32) (w : Vec Ideal S1x4096x512 .f32) (b : Vec Ideal S1x1x512 .f32)
    (r : Fin 8) (c : Fin 512) :
    k0_pay1 (F := Ideal) x w b (ix3 0 r c)
      = (∑ k : Fin 4096, (x (ix2 r k) * gate (x (ix2 r k))) * w (ix3 0 k c)) + b (ix3 0 0 c) := by
  have h1 : shapeCast S1x512 b shapeCasts_S1x1x512_S1x512 (ix2 0 c) = b (ix3 0 0 c) :=
    shapeCast_apply _ _ _ _ (by rw [Shape.rowMajor_val_three, Shape.rowMajor_val_two]; simp)
  have h2 : broadcastTo S8x512 (shapeCast S1x512 b shapeCasts_S1x1x512_S1x512) broadcasts_S1x512_S8x512 (ix2 r c)
      = b (ix3 0 0 c) := (broadcastTo_apply _ _ _ (ix2 0 c) (fun d => by fin_cases d <;> rfl)).trans h1
  have h3 : ∀ k : Fin 4096, shapeCast S4096x512 w shapeCasts_S1x4096x512_S4096x512 (ix2 k c) = w (ix3 0 k c) := fun k =>
    shapeCast_apply _ _ _ _ (by rw [Shape.rowMajor_val_three, Shape.rowMajor_val_two]; simp)
  have h4 : (∑ k : Fin 4096, (x (ix2 r k) * gate (x (ix2 r k))) * w (ix3 0 k c))
      = ∑ k : Fin 4096, act x (ix2 r k) * shapeCast S4096x512 w shapeCasts_S1x4096x512_S4096x512 (ix2 k c) :=
    Finset.sum_congr rfl fun k _ => by rw [h3 k, ← gate_eq]; rfl
  rw [h4, ← dot_apply, ← h2]
  unfold k0_pay1
  refine (shapeCast_apply _ _ _ (ix2 r c) ?_).trans rfl
  rw [Shape.rowMajor_val_three, Shape.rowMajor_val_two]
  simp

variable (m : (ℓ : Loc nD τ sig) → Buf (Elt Ideal) ℓ)

/-- The offsets when the region is entered: reshaped to one row per layer. -/
theorem V_b (c : Dev nD) : V m c main_v0 = shapeCast S2x1x12288 (m ((c : Thread nD τ).loc main_arg2)) shapeCasts_S2x12288_S2x1x12288 := by
  show StableHlo.after hostOps0 _ (Proc.devRef .tc main_v0) = _
  after_results
  rfl

/-- The reshaped offsets at an index. -/
theorem off_apply (b : Vec Ideal S2x12288 .f32) (j : S2x1x12288.Idx) (l : Fin 2) (c : Fin 12288) (h0 : (j 0 : Nat) = l.val)
    (h2 : (j 2 : Nat) = c.val) : shapeCast S2x1x12288 b shapeCasts_S2x12288_S2x1x12288 j = b (ix2 l c) := by
  have h1 : (j 1 : Nat) < 1 := (j 1).isLt
  refine shapeCast_apply _ _ _ _ ?_
  rw [Shape.rowMajor_val_three, Shape.rowMajor_val_two]
  show l.val * 12288 + c.val = ((j 0 : Nat) * 1 + (j 1 : Nat)) * 12288 + (j 2 : Nat)
  omega

/-- The windows' block indices at a point, against the result's. -/
theorem idx_facts : ∀ t : Fin cfg0.N,
    win0_0.index t 0 = 0 ∧ win0_0.index t 1 = 0 ∧ win0_1.index t 0 = win0_3.index t 0 ∧ win0_1.index t 1 = 0
      ∧ win0_1.index t 2 = win0_3.index t 2 ∧ win0_2.index t 0 = win0_3.index t 0 ∧ win0_2.index t 1 = 0
      ∧ win0_2.index t 2 = win0_3.index t 2 ∧ win0_3.index t 1 = 0 :=
  (by decide +kernel : ∀ t : Fin grid0.N,
    win0_0.index t 0 = 0 ∧ win0_0.index t 1 = 0 ∧ win0_1.index t 0 = win0_3.index t 0 ∧ win0_1.index t 1 = 0
      ∧ win0_1.index t 2 = win0_3.index t 2 ∧ win0_2.index t 0 = win0_3.index t 0 ∧ win0_2.index t 1 = 0
      ∧ win0_2.index t 2 = win0_3.index t 2 ∧ win0_3.index t 1 = 0)

/-- Every block of the result is some point's. -/
theorem idx_onto : ∀ (a : Fin 2) (b : Fin 24), ∃ t : Fin cfg0.N, win0_3.index t 0 = a.val ∧ win0_3.index t 1 = 0
      ∧ win0_3.index t 2 = b.val :=
  (by decide +kernel : ∀ (a : Fin 2) (b : Fin 24), ∃ t : Fin grid0.N, win0_3.index t 0 = a.val ∧ win0_3.index t 1 = 0
      ∧ win0_3.index t 2 = b.val)

/-- What a point writes back is its block of the conditioning. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨f1, f2, f3, f4, f5, f6, f7, f8, f9⟩ := idx_facts t
  rw [Value.flushed3]
  unfold out0_3
  rw [View.canon_unit_zero hz3, View.ld_unit_zero (S := S8x4096) hz2, View.ld_unit_zero (S := S1x4096x512) hz3,
    View.ld_unit_zero (S := S1x1x512) hz3]
  funext y
  obtain ⟨z, r, q, rfl⟩ : ∃ (z : Fin 1) (r : Fin 8) (q : Fin 512), y = ix3 z r q := ⟨y 0, y 1, y 2, eq_ix3 y⟩
  obtain rfl : z = 0 := Subsingleton.elim _ _
  show k0_pay1 (F := Ideal) (iblk m c 0 t) (iblk m c 1 t) (iblk m c 2 t) (ix3 0 r q)
    = G _ _ _ ((win0_3.rect t).emb (ix3 0 r q))
  refine (pay_apply _ _ _ r q).trans ?_
  have e0 := win0_3.rect_emb_val t (ix3 0 r q) 0
  have e1 := win0_3.rect_emb_val_of_index_zero t 1 f9 (ix3 0 r q)
  have e2 := win0_3.rect_emb_val t (ix3 0 r q) 2
  have hx : ∀ k : Fin 4096, iblk m c 0 t (ix2 r k)
      = m ((c : Thread nD τ).loc main_arg0) (ix2 ((win0_3.rect t).emb (ix3 0 r q) 1) k) := fun k => by
    show V m c main_arg0 ((win0_0.rect t).emb (ix2 r k)) = _
    rw [V_main_arg0]
    refine congrArg _ (funext fun a => Fin.ext ?_)
    match a with
    | ⟨0, _⟩ => exact (win0_0.rect_emb_val_of_index_zero t 0 f1 (ix2 r k)).trans e1.symm
    | ⟨1, _⟩ => exact win0_0.rect_emb_val_of_index_zero t 1 f2 (ix2 r k)
  have hw : ∀ k : Fin 4096, iblk m c 1 t (ix3 0 k q)
      = m ((c : Thread nD τ).loc main_arg1) (ix3 ((win0_3.rect t).emb (ix3 0 r q) 0) k ((win0_3.rect t).emb (ix3 0 r q) 2)) := fun k => by
    show V m c main_arg1 ((win0_1.rect t).emb (ix3 0 k q)) = _
    rw [V_main_arg1]
    refine congrArg _ (funext fun a => Fin.ext ?_)
    match a with
    | ⟨0, _⟩ => exact ((win0_1.rect_emb_val t (ix3 0 k q) 0).trans (by rw [f3]; rfl)).trans e0.symm
    | ⟨1, _⟩ => exact win0_1.rect_emb_val_of_index_zero t 1 f4 (ix3 0 k q)
    | ⟨2, _⟩ => exact ((win0_1.rect_emb_val t (ix3 0 k q) 2).trans (by rw [f5]; rfl)).trans e2.symm
  have hb : iblk m c 2 t (ix3 0 0 q)
      = m ((c : Thread nD τ).loc main_arg2) (ix2 ((win0_3.rect t).emb (ix3 0 r q) 0) ((win0_3.rect t).emb (ix3 0 r q) 2)) := by
    show V m c main_v0 ((win0_2.rect t).emb (ix3 0 0 q)) = _
    rw [V_b]
    exact off_apply _ _ _ _ (((win0_2.rect_emb_val t (ix3 0 0 q) 0).trans (by rw [f6]; rfl)).trans e0.symm)
      (((win0_2.rect_emb_val t (ix3 0 0 q) 2).trans (by rw [f8]; rfl)).trans e2.symm)
  unfold G
  refine congrArg₂ (· + ·) (Finset.sum_congr rfl fun k _ => ?_) hb
  exact congrArg₂ (· * ·) (congrArg₂ (· * ·) (hx k) (congrArg gate (hx k))) (hw k)

/-- Every index of the result is in some point's block. -/
theorem cover (i : S2x8x12288.Idx) : ∃ t : Fin cfg0.N, (cfg0.win 3).flush t = true ∧ i ∈ ((cfg0.win 3).blk t).view.set := by
  have h0 : (i 0 : Nat) < 2 := (i 0).isLt
  have h1 : (i 1 : Nat) < 8 := (i 1).isLt
  have h2 : (i 2 : Nat) < 12288 := (i 2).isLt
  obtain ⟨t, ht0, ht1, ht2⟩ := idx_onto ⟨(i 0 : Nat), h0⟩ ⟨(i 2 : Nat) / 512, by omega⟩
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [ht0]; dsimp only; omega
  | ⟨1, _⟩ =>
    show win0_3.index t 1 * 8 ≤ (i 1 : Nat) ∧ (i 1 : Nat) < win0_3.index t 1 * 8 + 8
    rw [ht1]; omega
  | ⟨2, _⟩ =>
    show win0_3.index t 2 * 512 ≤ (i 2 : Nat) ∧ (i 2 : Nat) < win0_3.index t 2 * 512 + 512
    rw [ht2]; dsimp only; omega

/-- The result array after the run is the conditioning of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

open Cert.Reference10Ideal.Read in
/-- The reference's product and offset of layer 0 at an index. -/
theorem ref_0 (x : Vec Ideal S8x4096 .f32) (w : Vec Ideal S2x4096x12288 .f32) (b : Vec Ideal S2x12288 .f32)
    (r : Fin 8) (c : Fin 12288) : val_main_v8 (F := Ideal) x w b (ix2 r c) = G x w b (ix3 0 r c) := by
  have hr := r.isLt
  have hc := c.isLt
  have hb : idx_main_v4 (idx_main_v5 (idx_main_v6 (idx_main_v7 (ix2 r c)))) = ix2 0 c := funext fun a => Fin.ext (by
    match a with
    | ⟨0, _⟩ => rfl
    | ⟨1, _⟩ => show c.val % 12288 = c.val; omega)
  rw [val_main_v8_apply, val_main_v3_apply, val_main_v7_apply, val_main_v6_apply, val_main_v5_apply, val_main_v4_apply, hb]
  refine congrArg₂ (· + ·) (Finset.sum_congr rfl fun k _ => ?_) rfl
  have hk := k.isLt
  have hl : lidx_main_v3 (ix2 r c) k = ix2 r k := funext fun a => Fin.ext (by match a with | ⟨0, _⟩ => rfl | ⟨1, _⟩ => rfl)
  have hw : idx_main_v1 (idx_main_v2 (ridx_main_v3 (ix2 r c) k)) = ix3 0 k c := funext fun a => Fin.ext (by
    match a with
    | ⟨0, _⟩ => rfl
    | ⟨1, _⟩ => show (k.val * 12288 + c.val) / 12288 % 4096 = k.val; omega
    | ⟨2, _⟩ => show (k.val * 12288 + c.val) % 12288 = c.val; omega)
  rw [val_main_v2_apply, val_main_v1_apply, hw, hl, val_main_v0_apply, val_main_call0_v5_apply, val_main_call0_v4_apply,
    val_main_call0_v3_apply, val_main_call0_v2_apply, val_main_call0_v1_apply, val_main_call0_v0_apply]
  rfl

open Cert.Reference10Ideal.Read in
/-- The reference's product and offset of layer 1 at an index. -/
theorem ref_1 (x : Vec Ideal S8x4096 .f32) (w : Vec Ideal S2x4096x12288 .f32) (b : Vec Ideal S2x12288 .f32)
    (r : Fin 8) (c : Fin 12288) : val_main_v17 (F := Ideal) x w b (ix2 r c) = G x w b (ix3 1 r c) := by
  have hr := r.isLt
  have hc := c.isLt
  have hb : idx_main_v13 (idx_main_v14 (idx_main_v15 (idx_main_v16 (ix2 r c)))) = ix2 1 c := funext fun a => Fin.ext (by
    match a with
    | ⟨0, _⟩ => rfl
    | ⟨1, _⟩ => show c.val % 12288 = c.val; omega)
  rw [val_main_v17_apply, val_main_v12_apply, val_main_v16_apply, val_main_v15_apply, val_main_v14_apply, val_main_v13_apply, hb]
  refine congrArg₂ (· + ·) (Finset.sum_congr rfl fun k _ => ?_) rfl
  have hk := k.isLt
  have hl : lidx_main_v12 (ix2 r c) k = ix2 r k := funext fun a => Fin.ext (by match a with | ⟨0, _⟩ => rfl | ⟨1, _⟩ => rfl)
  have hw : idx_main_v10 (idx_main_v11 (ridx_main_v12 (ix2 r c) k)) = ix3 1 k c := funext fun a => Fin.ext (by
    match a with
    | ⟨0, _⟩ => rfl
    | ⟨1, _⟩ => show (k.val * 12288 + c.val) / 12288 % 4096 = k.val; omega
    | ⟨2, _⟩ => show (k.val * 12288 + c.val) % 12288 = c.val; omega)
  rw [val_main_v11_apply, val_main_v10_apply, hw, hl, val_main_v9_apply, val_main_call1_v5_apply, val_main_call1_v4_apply,
    val_main_call1_v3_apply, val_main_call1_v2_apply, val_main_call1_v1_apply, val_main_call1_v0_apply]
  rfl

open Cert.Reference10Ideal.Read in
/-- The reference's result is the conditioning of its arguments. -/
theorem ref_eq (x : Vec Ideal S8x4096 .f32) (w : Vec Ideal S2x4096x12288 .f32) (b : Vec Ideal S2x12288 .f32) :
    val_main_v20 (F := Ideal) x w b = G x w b := by
  funext i
  obtain ⟨l, r, c, rfl⟩ : ∃ (l : Fin 2) (r : Fin 8) (c : Fin 12288), i = ix3 l r c := ⟨i 0, i 1, i 2, eq_ix3 i⟩
  unfold val_main_v20
  match l with
  | ⟨0, _⟩ =>
    refine (concatenate_pair_apply_left (t := S2x8x12288) (s₁ := Cert.Reference10Ideal.S1x8x12288) (s₂ := Cert.Reference10Ideal.S1x8x12288)
      0 _ _ _ _ rfl (ix3 (0 : Fin 1) r c) (fun a => ?_)).trans ?_
    · match a with
      | ⟨0, _⟩ => rfl
      | ⟨1, _⟩ => rfl
      | ⟨2, _⟩ => rfl
    · rw [val_main_v18_apply]
      refine Eq.trans (congrArg _ ?_) (ref_0 x w b r c)
      exact funext fun a => Fin.ext (by match a with | ⟨0, _⟩ => rfl | ⟨1, _⟩ => rfl)
  | ⟨1, _⟩ =>
    refine (concatenate_pair_apply_right (t := S2x8x12288) (s₁ := Cert.Reference10Ideal.S1x8x12288) (s₂ := Cert.Reference10Ideal.S1x8x12288)
      0 _ _ _ _ rfl rfl (ix3 (0 : Fin 1) r c) (fun a ha => ?_) ?_).trans ?_
    · match a with
      | ⟨0, _⟩ => exact absurd rfl ha
      | ⟨1, _⟩ => rfl
      | ⟨2, _⟩ => rfl
    · rfl
    · rw [val_main_v19_apply]
      refine Eq.trans (congrArg _ ?_) (ref_1 x w b r c)
      exact funext fun a => Fin.ext (by match a with | ⟨0, _⟩ => rfl | ⟨1, _⟩ => rfl)

/-- From equal arguments the conditioning kernel and its reference end with equal results, their arguments unchanged. -/
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => G (m ((c.tc : Thread nD τ).loc main_arg0)) (m ((c.tc : Thread nD τ).loc main_arg1))
    (m ((c.tc : Thread nD τ).loc main_arg2)), ?_, ?_⟩
  · exact (θ_run Cert.Kernel10Ideal.defs _ _).mono (fun r h c => ⟨(h c).1.trans (final m c), (h c).2⟩)
      (Value.run_blocks (F := Ideal) m g)
  · refine (θ_run Cert.Reference10Ideal.defs _ _).mono (fun r h c => ?_) (Cert.Reference10Ideal.Value.run (F := Ideal) m' g')
    refine ⟨((h c).1.trans ?_), (h c).2⟩
    refine (Cert.Reference10Ideal.Read.val_main_v20_eq _ _ _).trans ?_
    rw [ref_eq, (hagree c).1, (hagree c).2.1, (hagree c).2.2]

end Cert.Ada

end
-- ==== Proof.KvCtx.lean ====
/-
  The value of the last layer's projection of the context tokens to keys and values alone: after the run of `Kernel11Ideal`
  the result array holds, at row `r` and column `c`, the sum over `k` of `x[r, k] · w[k, 6144 + c]` plus `b[6144 + c]`
  (`KvCtx.final`), which is what the reference's last operation holds at that index (`KvCtx.ref_eq`); from equal arguments
  the two results are equal (`KvCtx.algebraic`).
-/
module

public import proofs.«01_k».proof.Defs
public import proofs.«01_k».proof.Proof.Gen.Kernel11Ideal.Value
public import proofs.«01_k».proof.Proof.Gen.Reference11Ideal.Read
public import Idealize.ShloMosaic.Lib.MatmulPlain
public import Idealize.ShloMosaic.Lib.ValueIdx

@[expose] public section

noncomputable section

namespace Cert.KvCtx

open Idealize.ShloMosaic Idealize.ShloMosaic.TcCoe Idealize.SL.Sem Idealize.ShloMosaic.ValueIdx
open Cert.Kernel11Ideal Cert.Kernel11Ideal.Gen

/-- The column of the weights that a column of the result is taken with: the keys' and the values' columns begin at 6144. -/
def col (c : Fin 4096) : Fin 20480 := ⟨6144 + c.val, by have := c.isLt; omega⟩

/-- The projection read at an index: row `i 0` of the activations against column `6144 + i 1` of the weights, plus the bias. -/
def G (x : Vec Ideal S512x4096 .bf16) (w : Vec Ideal S4096x20480 .f32) (b : Vec Ideal S20480 .f32) :
    Vec Ideal S512x4096 .bf16 :=
  fun i => (∑ k : Fin 4096, x (ix2 (i 0) k) * w (ix2 k (col (i 1)))) + b (ix1 (col (i 1)))

theorem hz2 : (![0, 0] : Fin 2 → Nat) = fun _ => 0 := funext fun a => by fin_cases a <;> rfl

/-- The body's payload read at an index. -/
theorem pay_apply (a : Vec Ideal S512x4096 .bf16) (w : Vec Ideal S4096x1024 .bf16) (b : Vec Ideal S1x1024 .f32)
    (r : Fin 512) (c : Fin 1024) :
    k0_pay1 (F := Ideal) a w b (ix2 r c) = (∑ k : Fin 4096, a (ix2 r k) * w (ix2 k c)) + b (ix2 0 c) := by
  unfold k0_pay1
  simp only [truncf_apply, addf_apply, shapeCast_self]
  have h1 := Ideal.matmul_plain_apply (M := 512) (K := 4096) (N := 1024) (φ₁ := .bf16) (φ₂ := .bf16) none a w (constant S512x1024 .f32 0x00000000#32) r c
  have h2 : broadcastTo S512x1024 b broadcasts_S1x1024_S512x1024 (ix2 r c) = b (ix2 0 c) :=
    broadcastTo_apply b _ _ _ (fun d => by fin_cases d <;> rfl)
  rw [h2]
  refine congrArg (· + b (ix2 0 c)) (h1.trans ?_)
  show Ideal.ofBits .f32 0x00000000#32 + _ = _
  rw [Ideal.ofBits_zero_f32, zero_add]

/-- The bias row, cut out of the whole bias and given its unit axis, read at an index. -/
theorem bias_apply (b : Vec Ideal S20480 .f32) (j : S1x4096.Idx) :
    shapeCast S1x4096 (extractStridedSlice S4096 ![6144] b slices_S20480_S4096_6144) shapeCasts_S4096_S1x4096 j = b (ix1 (col (j 1))) := by
  obtain ⟨z, q, rfl⟩ : ∃ (z : Fin 1) (q : Fin 4096), j = ix2 z q := ⟨j 0, j 1, eq_ix2 j⟩
  refine (shapeCast_apply _ _ _ (ix1 q) ?_).trans ?_
  · rw [Shape.rowMajor_val_one, Shape.rowMajor_val_two]
    obtain rfl : z = 0 := Subsingleton.elim _ _
    simp
  · exact extractStridedSlice_apply ![6144] b slices_S20480_S4096_6144 (ix1 q) (ix1 (col q)) (fun a => match a with
      | ⟨0, _⟩ => rfl)

/-- The weights' columns cut out, read at an index. -/
theorem cols_apply (w : Vec Ideal S4096x20480 .bf16) (j : S4096x4096.Idx) :
    extractStridedSlice S4096x4096 ![0, 6144] w slices_S4096x20480_S4096x4096_0_6144 j = w (ix2 (j 0) (col (j 1))) :=
  extractStridedSlice_apply ![0, 6144] w slices_S4096x20480_S4096x4096_0_6144 j (ix2 (j 0) (col (j 1))) (fun a => match a with
    | ⟨0, _⟩ => by show (j 0).val = 0 + (j 0).val; omega
    | ⟨1, _⟩ => rfl)

variable (m : (ℓ : Loc nD τ sig) → Buf (Elt Ideal) ℓ)

/-- The weights and the bias when the region is entered: converted, which is the identity here, cut to the keys' and the
values' columns, and the bias given a unit axis. -/
theorem V_w (c : Dev nD) : V m c main_v1 = extractStridedSlice S4096x4096 ![0, 6144]
    (m ((c : Thread nD τ).loc main_arg1) : Vec Ideal S4096x20480 .bf16) slices_S4096x20480_S4096x4096_0_6144 := by
  show StableHlo.after hostOps0 _ (Proc.devRef .tc main_v1) = _
  after_results
  rfl

theorem V_b (c : Dev nD) : V m c main_v3 = shapeCast S1x4096 (extractStridedSlice S4096 ![6144]
    (m ((c : Thread nD τ).loc main_arg2)) slices_S20480_S4096_6144) shapeCasts_S4096_S1x4096 := by
  show StableHlo.after hostOps0 _ (Proc.devRef .tc main_v3) = _
  after_results
  rfl

/-- The windows' block indices at a point: rows move with the result's rows, columns with the result's columns. -/
theorem idx_facts : ∀ t : Fin cfg0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1 :=
  (by decide +kernel : ∀ t : Fin grid0.N,
    win0_0.index t 0 = win0_3.index t 0 ∧ win0_0.index t 1 = 0 ∧ win0_1.index t 0 = 0 ∧ win0_1.index t 1 = win0_3.index t 1
      ∧ win0_2.index t 0 = 0 ∧ win0_2.index t 1 = win0_3.index t 1)

/-- Every block of the result is some point's. -/
theorem idx_onto : ∀ (a : Fin 1) (b : Fin 4), ∃ t : Fin cfg0.N, win0_3.index t 0 = a.val ∧ win0_3.index t 1 = b.val :=
  (by decide +kernel : ∀ (a : Fin 1) (b : Fin 4), ∃ t : Fin grid0.N, win0_3.index t 0 = a.val ∧ win0_3.index t 1 = b.val)

/-- What a point writes back is its block of the projection. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨f1, f2, f3, f4, f5, f6⟩ := idx_facts t
  rw [Value.flushed3]
  unfold out0_3
  rw [View.canon_unit_zero hz2, View.ld_unit_zero hz2, View.ld_unit_zero hz2, View.ld_unit_zero hz2]
  funext y
  obtain ⟨r, q, rfl⟩ : ∃ (r : Fin 512) (q : Fin 1024), y = ix2 r q := ⟨y 0, y 1, eq_ix2 y⟩
  show k0_pay1 (F := Ideal) (iblk m c 0 t) (iblk m c 1 t) (iblk m c 2 t) (ix2 r q) = G _ _ _ ((win0_3.rect t).emb (ix2 r q))
  refine (pay_apply _ _ _ r q).trans ?_
  have e30 := win0_3.rect_emb_val t (ix2 r q) 0
  have e31 := win0_3.rect_emb_val t (ix2 r q) 1
  have ha : ∀ k : Fin 4096, iblk m c 0 t (ix2 r k)
      = m ((c : Thread nD τ).loc main_arg0) (ix2 ((win0_3.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e30.symm
    | ⟨1, _⟩ => exact (win0_0.rect_emb_val_of_index_zero t 1 f2 (ix2 r k))
  have hw : ∀ k : Fin 4096, iblk m c 1 t (ix2 k q)
      = m ((c : Thread nD τ).loc main_arg1) (ix2 k (col ((win0_3.rect t).emb (ix2 r q) 1))) := fun k => by
    show V m c main_v1 ((win0_1.rect t).emb (ix2 k q)) = _
    rw [V_w]
    refine (cols_apply _ _).trans (congrArg _ (congrArg₂ ix2 (Fin.ext ?_) (congrArg col (Fin.ext ?_))))
    · exact (win0_1.rect_emb_val_of_index_zero t 0 f3 (ix2 k q))
    · exact ((win0_1.rect_emb_val t (ix2 k q) 1).trans (by rw [f4]; rfl)).trans e31.symm
  have hb : iblk m c 2 t (ix2 0 q)
      = m ((c : Thread nD τ).loc main_arg2) (ix1 (col ((win0_3.rect t).emb (ix2 r q) 1))) := by
    show V m c main_v3 ((win0_2.rect t).emb (ix2 0 q)) = _
    rw [V_b]
    refine (bias_apply _ _).trans (congrArg _ (congrArg ix1 (congrArg col (Fin.ext ?_))))
    exact ((win0_2.rect_emb_val t (ix2 0 q) 1).trans (by rw [f6]; rfl)).trans e31.symm
  unfold G
  rw [hb]
  exact congrArg (· + _) (Finset.sum_congr rfl fun k _ => congrArg₂ _ (ha k) (hw k))

/-- Every index of the result is in some point's block. -/
theorem cover (i : S512x4096.Idx) : ∃ t : Fin cfg0.N, (cfg0.win 3).flush t = true ∧ i ∈ ((cfg0.win 3).blk t).view.set := by
  have h0 : (i 0 : Nat) < 512 := (i 0).isLt
  have h1 : (i 1 : Nat) < 4096 := (i 1).isLt
  obtain ⟨t, ht0, ht1⟩ := idx_onto ⟨(i 0 : Nat) / 512, by omega⟩ ⟨(i 1 : Nat) / 1024, by omega⟩
  refine ⟨t, flush0_3 t, ?_⟩
  show i ∈ ((View.whole main_v4).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [ht0]; dsimp only; omega
  | ⟨1, _⟩ =>
    show win0_3.index t 1 * 1024 ≤ (i 1 : Nat) ∧ (i 1 : Nat) < win0_3.index t 1 * 1024 + 1024
    rw [ht1]; dsimp only; omega

/-- The result array after the run is the projection of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

open Cert.Reference11Ideal.Read in
/-- The reference's result is the projection of its arguments. -/
theorem ref_eq (x : Vec Ideal S512x4096 .bf16) (w : Vec Ideal S4096x20480 .f32) (b : Vec Ideal S20480 .f32) :
    val_main_v7 (F := Ideal) x w b = G x w b := by
  funext i
  rw [val_main_v7_apply, val_main_v6_apply, val_main_v5_apply, val_main_v4_apply, val_main_v3_apply, val_main_v2_apply]
  show (∑ k : Fin 4096, _) + b _ = (∑ k : Fin 4096, _) + b _
  refine congrArg₂ _ (Finset.sum_congr rfl fun k _ => ?_) (congrArg b (funext fun a => by fin_cases a; rfl))
  rw [val_main_v0_apply, val_main_v1_apply]
  refine congrArg₂ _ (congrArg x (funext fun a => by fin_cases a <;> rfl)) (congrArg w (funext fun a => by fin_cases a <;> rfl))

/-- From equal arguments the projection kernel and its reference end with equal results, their arguments unchanged. -/
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => G (m ((c.tc : Thread nD τ).loc main_arg0)) (m ((c.tc : Thread nD τ).loc main_arg1))
    (m ((c.tc : Thread nD τ).loc main_arg2)), ?_, ?_⟩
  · exact (θ_run Cert.Kernel11Ideal.defs _ _).mono (fun r h c => ⟨(h c).1.trans (final m c), (h c).2⟩)
      (Value.run_blocks (F := Ideal) m g)
  · refine (θ_run Cert.Reference11Ideal.defs _ _).mono (fun r h c => ?_) (Cert.Reference11Ideal.Value.run (F := Ideal) m' g')
    refine ⟨((h c).1.trans ?_), (h c).2⟩
    rw [Cert.Reference11Ideal.Read.val_main_v7_eq, ref_eq, (hagree c).1, (hagree c).2.1, (hagree c).2.2]

end Cert.KvCtx

end
-- ==== Proof.ModulateCtx.lean ====
/-
  The value of the modulated norm of the context tokens: after the run of `Kernel12Ideal` the result array holds, at row `r`
  and column `c`, `x[r, c]` over the root of row `r`'s mean square, times `g[c]`, times one plus the context's scale, plus its
  shift (`ModulateCtx.final`), which is what the reference's last operation holds at that index (`ModulateCtx.ref_eq`); from
  equal arguments the two results are equal (`ModulateCtx.algebraic`).
-/
module

public import proofs.«01_k».proof.Defs
public import proofs.«01_k».proof.Proof.Gen.Kernel12Ideal.Value
public import proofs.«01_k».proof.Proof.Gen.Reference12Ideal.Read
public import Idealize.ShloMosaic.Lib.MatmulPlain
public import Idealize.ShloMosaic.Lib.ValueIdx

@[expose] public section

noncomputable section

namespace Cert.ModulateCtx

open Idealize.ShloMosaic Idealize.ShloMosaic.TcCoe Idealize.SL.Sem Idealize.ShloMosaic.ValueIdx
open Cert.Kernel12Ideal Cert.Kernel12Ideal.Gen

/-- One over the root of a row's mean square (the small constant added). -/
def scale (x : Vec Ideal S512x4096 .f32) (r : Fin 512) : EReal :=
  Ideal.rsqrt (Ideal.div (∑ k : Fin 4096, x (ix2 r k) * x (ix2 r k)) (Ideal.ofBits .f32 0x45800000#32)
    + Ideal.ofBits .f32 0x358637BD#32)

/-- The modulated normalised rows read at an index. -/
def G (x : Vec Ideal S512x4096 .f32) (g : Vec Ideal S4096 .f32) (sh sc : Vec Ideal S8x1x4096 .f32) : Vec Ideal S512x4096 .bf16 :=
  fun i => x i * scale x (i 0) * g (ix1 (i 1)) * (Ideal.ofBits .f32 0x3F800000#32 + sc (ix3 (2) 0 (i 1)))
    + sh (ix3 (2) 0 (i 1))

theorem hz2 : (![0, 0] : Fin 2 → Nat) = fun _ => 0 := funext fun a => by fin_cases a <;> rfl
theorem hz3 : (![0, 0, 0] : Fin 3 → Nat) = fun _ => 0 := funext fun a => by fin_cases a <;> rfl

/-- A row sum of the body at an index. -/
theorem sum_apply (x : Vec Ideal S256x4096 .f32) (j : S256.Idx) (r : Fin 256) (hj : j = ix1 r) :
    multiReduction (F := Ideal) (φ := .f32) .add [1] S256 x 0x00000000#32 reduces_S256x4096_S256 (.inl rfl) rfl j
      = ∑ k : Fin 4096, x (ix2 r k) := by
  subst hj
  refine (Ideal.multiReduction_add_single ..).trans ?_
  refine Finset.sum_congr rfl fun j _ => congrArg x (funext fun a => ?_)
  fin_cases a <;> rfl

/-- The body's payload read at an index. -/
theorem pay_apply (x : Vec Ideal S256x4096 .f32) (g : Vec Ideal S1x4096 .f32) (sc sh : Vec Ideal S1x1x4096 .f32)
    (r : Fin 256) (c : Fin 4096) :
    k0_pay1 (F := Ideal) x g sc sh (ix2 r c)
      = x (ix2 r c) * Ideal.rsqrt (Ideal.div (∑ k : Fin 4096, x (ix2 r k) * x (ix2 r k)) (Ideal.ofBits .f32 0x45800000#32)
          + Ideal.ofBits .f32 0x358637BD#32) * g (ix2 0 c) * (Ideal.ofBits .f32 0x3F800000#32 + sc (ix3 0 0 c))
        + sh (ix3 0 0 c) := by
  have ei : r0_0.idx (ix2 r c) = ix2 r c := funext fun a => Fin.ext (by
    match a with
    | ⟨0, _⟩ => show 0 + 1 * r.val = r.val; omega
    | ⟨1, _⟩ => show 0 + 1 * c.val = c.val; omega)
  refine (Value.piece4_0 (F := Ideal) x g sc sh (ix2 r c)).trans ?_
  rw [ei]
  have hs := sum_apply (mulf (F := Ideal) (φ := .f32) (s := S256x4096) x x) (Value.ix4_1 (ix2 r c)) r (funext fun a => Fin.ext (by match a with | ⟨0, _⟩ => rfl))
  have h0 : Value.ix4_0 (ix2 r c) = ix2 r c := funext fun a => Fin.ext (by match a with | ⟨0, _⟩ => rfl | ⟨1, _⟩ => rfl)
  have h2 : Value.ix4_2 (ix2 r c) = ix2 0 c := funext fun a => Fin.ext (by match a with | ⟨0, _⟩ => rfl | ⟨1, _⟩ => rfl)
  have h3 : Value.ix4_3 (ix2 r c) = ix3 0 0 c := funext fun a => Fin.ext (by
    match a with | ⟨0, _⟩ => rfl | ⟨1, _⟩ => rfl | ⟨2, _⟩ => rfl)
  have h4 : Value.ix4_4 (ix2 r c) = ix3 0 0 c := h3
  unfold Value.E4
  rw [hs, h0, h2, h3, h4]
  rfl

/-- A row reshaped from a vector, at an index. -/
theorem row_apply (x : Vec Ideal S4096 .f32) (j : S1x4096.Idx) (k : Fin 4096) (h : (j 1 : Nat) = k.val) :
    shapeCast S1x4096 x shapeCasts_S4096_S1x4096 j = x (ix1 k) := by
  have h0 : (j 0 : Nat) < 1 := (j 0).isLt
  refine shapeCast_apply _ _ _ _ ?_
  rw [Shape.rowMajor_val_two, Shape.rowMajor_val_one]
  show k.val = (j 0 : Nat) * 4096 + (j 1 : Nat)
  omega

variable (m : (ℓ : Loc nD τ sig) → Buf (Elt Ideal) ℓ)

/-- The weights when the region is entered: reshaped to one row. -/
theorem V_g (c : Dev nD) : V m c main_v0 = shapeCast S1x4096 (m ((c : Thread nD τ).loc main_arg1)) shapeCasts_S4096_S1x4096 := by
  show StableHlo.after hostOps0 _ (Proc.devRef .tc main_v0) = _
  after_results
  rfl

/-- The windows' block indices at a point, against the result's. -/
theorem idx_facts : ∀ t : Fin cfg0.N,
    win0_0.index t 0 = win0_4.index t 0 ∧ win0_0.index t 1 = 0 ∧ win0_1.index t 0 = 0 ∧ win0_1.index t 1 = 0
      ∧ win0_4.index t 1 = 0 ∧ win0_2.index t 0 = 2 ∧ win0_2.index t 1 = 0 ∧ win0_2.index t 2 = 0
      ∧ win0_3.index t 0 = 2 ∧ win0_3.index t 1 = 0 ∧ win0_3.index t 2 = 0 :=
  (by decide +kernel : ∀ t : Fin grid0.N,
    win0_0.index t 0 = win0_4.index t 0 ∧ win0_0.index t 1 = 0 ∧ win0_1.index t 0 = 0 ∧ win0_1.index t 1 = 0
      ∧ win0_4.index t 1 = 0 ∧ win0_2.index t 0 = 2 ∧ win0_2.index t 1 = 0 ∧ win0_2.index t 2 = 0
      ∧ win0_3.index t 0 = 2 ∧ win0_3.index t 1 = 0 ∧ win0_3.index t 2 = 0)

/-- Every block of the result is some point's. -/
theorem idx_onto : ∀ a : Fin 2, ∃ t : Fin cfg0.N, win0_4.index t 0 = a.val ∧ win0_4.index t 1 = 0 :=
  (by decide +kernel : ∀ a : Fin 2, ∃ t : Fin grid0.N, win0_4.index t 0 = a.val ∧ win0_4.index t 1 = 0)

/-- What a point writes back is its block of the modulated rows. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨f1, f2, f3, f4, f5, f6, f7, f8, f9, f10, f11⟩ := idx_facts t
  rw [Value.flushed4]
  unfold out0_4
  rw [View.canon_unit_zero hz2, View.ld_unit_zero (S := S256x4096) hz2, View.ld_unit_zero (S := S1x4096) hz2]
  simp only [View.ld_unit_zero (S := S1x1x4096) hz3]
  funext y
  obtain ⟨r, q, rfl⟩ : ∃ (r : Fin 256) (q : Fin 4096), y = ix2 r q := ⟨y 0, y 1, eq_ix2 y⟩
  show k0_pay1 (F := Ideal) (iblk m c 0 t) (iblk m c 1 t) (iblk m c 3 t) (iblk m c 2 t) (ix2 r q)
    = G _ _ _ _ ((win0_4.rect t).emb (ix2 r q))
  refine (pay_apply _ _ _ _ r q).trans ?_
  have e0 := win0_4.rect_emb_val t (ix2 r q) 0
  have e1 := win0_4.rect_emb_val_of_index_zero t 1 f5 (ix2 r q)
  have hx : ∀ k : Fin 4096, iblk m c 0 t (ix2 r k)
      = m ((c : Thread nD τ).loc main_arg0) (ix2 ((win0_4.rect t).emb (ix2 r q) 0) k) := fun k => by
    show V m c main_arg0 ((win0_0.rect t).emb (ix2 r k)) = _
    rw [V_main_arg0]
    refine congrArg _ (funext fun a => Fin.ext ?_)
    match a with
    | ⟨0, _⟩ => exact ((win0_0.rect_emb_val t (ix2 r k) 0).trans (by rw [f1]; rfl)).trans e0.symm
    | ⟨1, _⟩ => exact (win0_0.rect_emb_val_of_index_zero t 1 f2 (ix2 r k))
  have hg : iblk m c 1 t (ix2 0 q)
      = m ((c : Thread nD τ).loc main_arg1) (ix1 ((win0_4.rect t).emb (ix2 r q) 1)) := by
    show V m c main_v0 ((win0_1.rect t).emb (ix2 0 q)) = _
    rw [V_g]
    exact row_apply _ _ _ ((win0_1.rect_emb_val_of_index_zero t 1 f4 (ix2 0 q)).trans e1.symm)
  have hsh : iblk m c 2 t (ix3 0 0 q) = m ((c : Thread nD τ).loc main_arg2)
      (ix3 (2) 0 ((win0_4.rect t).emb (ix2 r q) 1)) := by
    show V m c main_arg2 ((win0_2.rect t).emb (ix3 0 0 q)) = _
    rw [V_main_arg2]
    refine congrArg _ (funext fun a => Fin.ext ?_)
    match a with
    | ⟨0, _⟩ =>
      exact (win0_2.rect_emb_val t (ix3 0 0 q) 0).trans (by rw [f6]; rfl)
    | ⟨1, _⟩ => exact win0_2.rect_emb_val_of_index_zero t 1 f7 (ix3 0 0 q)
    | ⟨2, _⟩ => exact (win0_2.rect_emb_val_of_index_zero t 2 f8 (ix3 0 0 q)).trans e1.symm
  have hsc : iblk m c 3 t (ix3 0 0 q) = m ((c : Thread nD τ).loc main_arg3)
      (ix3 (2) 0 ((win0_4.rect t).emb (ix2 r q) 1)) := by
    show V m c main_arg3 ((win0_3.rect t).emb (ix3 0 0 q)) = _
    rw [V_main_arg3]
    refine congrArg _ (funext fun a => Fin.ext ?_)
    match a with
    | ⟨0, _⟩ =>
      exact (win0_3.rect_emb_val t (ix3 0 0 q) 0).trans (by rw [f9]; rfl)
    | ⟨1, _⟩ => exact win0_3.rect_emb_val_of_index_zero t 1 f10 (ix3 0 0 q)
    | ⟨2, _⟩ => exact (win0_3.rect_emb_val_of_index_zero t 2 f11 (ix3 0 0 q)).trans e1.symm
  have hq : ix2 ((win0_4.rect t).emb (ix2 r q) 0) q = (win0_4.rect t).emb (ix2 r q) := funext fun a => Fin.ext (by
    match a with
    | ⟨0, _⟩ => rfl
    | ⟨1, _⟩ => exact e1.symm)
  unfold G scale
  refine congrArg₂ (· + ·) (congrArg₂ (· * ·) (congrArg₂ (· * ·) (congrArg₂ (· * ·) ((hx q).trans (congrArg _ hq)) ?_) hg)
    (congrArg (Ideal.ofBits .f32 0x3F800000#32 + ·) hsc)) hsh
  exact congrArg (fun s => Ideal.rsqrt (Ideal.div s (Ideal.ofBits .f32 0x45800000#32) + Ideal.ofBits .f32 0x358637BD#32))
    (Finset.sum_congr rfl fun k _ => congrArg₂ (· * ·) (hx k) (hx k))

/-- Every index of the result is in some point's block. -/
theorem cover (i : S512x4096.Idx) : ∃ t : Fin cfg0.N, (cfg0.win 4).flush t = true ∧ i ∈ ((cfg0.win 4).blk t).view.set := by
  have h0 : (i 0 : Nat) < 512 := (i 0).isLt
  have h1 : (i 1 : Nat) < 4096 := (i 1).isLt
  obtain ⟨t, ht0, ht1⟩ := idx_onto ⟨(i 0 : Nat) / 256, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [ht0]; dsimp only; omega
  | ⟨1, _⟩ =>
    show win0_4.index t 1 * 4096 ≤ (i 1 : Nat) ∧ (i 1 : Nat) < win0_4.index t 1 * 4096 + 4096
    rw [ht1]; omega

/-- The result array after the run is the modulated normalised rows of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

open Cert.Reference12Ideal.Read in
/-- The reference's result is the modulated normalised rows of its arguments. -/
theorem ref_eq (x : Vec Ideal S512x4096 .f32) (g : Vec Ideal S4096 .f32) (sh sc : Vec Ideal S8x1x4096 .f32) :
    val_main_v25 (F := Ideal) x g sh sc = G x g sh sc := by
  funext i
  have h1 : (i 1 : Nat) < 4096 := (i 1).isLt
  have hs : val_main_v1 (F := Ideal) x (idx_main_v2 (idx_main_v8 i)) = ∑ k : Fin 4096, x (ix2 (i 0) k) * x (ix2 (i 0) k) := by
    rw [val_main_v1_apply]
    show Ideal.ofBits .f32 0x00000000#32 + _ = _
    rw [Ideal.ofBits_zero_f32, zero_add]
    refine Finset.sum_congr rfl fun k _ => ?_
    have ek : idx_main_v1 (idx_main_v2 (idx_main_v8 i)) k = ix2 (i 0) k :=
      funext fun a => Fin.ext (by match a with | ⟨0, _⟩ => rfl | ⟨1, _⟩ => rfl)
    rw [val_main_v0_apply, ek]
    rfl
  have eg : idx_main_v10 (idx_main_v11 i) = ix1 (i 1) := funext fun a => Fin.ext (by match a with | ⟨0, _⟩ => rfl)
  have ec : idx_main_v13 (idx_main_v14 (idx_main_v17 (idx_main_v18 i))) = ix3 2 0 (i 1) := funext fun a => Fin.ext (by
    match a with
    | ⟨0, _⟩ => rfl
    | ⟨1, _⟩ => rfl
    | ⟨2, _⟩ => show (i 1).val % 4096 = (i 1).val; omega)
  have eh : idx_main_v20 (idx_main_v21 (idx_main_v22 (idx_main_v23 i))) = ix3 2 0 (i 1) := ec
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply, hs, eg,
    ec, eh]
  rfl

/-- From equal arguments the modulated norm kernel and its reference end with equal results, their arguments unchanged. -/
theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel12Ideal.defs _ _).mono (fun r h c => ⟨(h c).1.trans (final m c), (h c).2⟩)
      (Value.run_blocks (F := Ideal) m g)
  · refine (θ_run Cert.Reference12Ideal.defs _ _).mono (fun r h c => ?_) (Cert.Reference12Ideal.Value.run (F := Ideal) m' g')
    refine ⟨((h c).1.trans ?_), (h c).2⟩
    refine (Cert.Reference12Ideal.Read.val_main_v25_eq _ _ _ _).trans ?_
    rw [ref_eq, (hagree c).1, (hagree c).2.1, (hagree c).2.2.1, (hagree c).2.2.2]

end Cert.ModulateCtx

end
-- ==== Proof.CtxAttn.lean ====
/-
  The value of the context tokens' attention: after the run of `Kernel13Ideal` the result array holds, at a token of an image
  and a channel of a head, the values of all 256 context tokens of the image weighted by the softmax of their scores
  (`CtxAttn.final`), which is what the reference's last operation holds at that index (`CtxAttn.ref_eq`); from equal
  arguments with finite queries and keys the two results are equal (`CtxAttn.algebraic`).
-/
module

public import proofs.«01_k».proof.Defs
public import proofs.«01_k».proof.Proof.Attn
public import proofs.«01_k».proof.Proof.Gen.Kernel13Ideal.Value
public import proofs.«01_k».proof.Proof.Gen.Reference13Ideal.Read
public import proofs.«01_k».proof.Proof.Gen.Pre_finite_ctx_scores
public import Idealize.ShloMosaic.Lib.MatmulPlain
public import Idealize.ShloMosaic.Lib.ValueIdx

@[expose] public section

noncomputable section

namespace Cert.CtxAttn

open Idealize.ShloMosaic Idealize.ShloMosaic.TcCoe Idealize.SL.Sem Idealize.ShloMosaic.ValueIdx
open Cert.Kernel13Ideal Cert.Kernel13Ideal.Gen
open Cert.Attn (maxOver le_maxOver maxOver_lt_top exp_real exp_real_pos sum_real div_sum dot_scale scale_real real_of_abs)
open Cert.RefAttn (con scale)

/-- Over real scores, the weighted sum of the values divided once is the values weighted by the divided exponentials. -/
theorem attend_plain {k : Nat} (s : Fin (k + 1) → EReal) (hs : ∀ u, ∃ x : ℝ, s u = x) (v : Fin (k + 1) → EReal) :
    Ideal.div (∑ u, Ideal.exp (s u - maxOver s) * v u) (∑ u, Ideal.exp (s u - maxOver s))
      = ∑ u, Ideal.div (Ideal.exp (s u - maxOver s)) (∑ i, Ideal.exp (s i - maxOver s)) * v u := by
  have hT : ∀ u, s u ≠ ⊤ := fun u => by obtain ⟨x, hx⟩ := hs u; rw [hx]; exact EReal.coe_ne_top _
  generalize hM : maxOver s = M at *
  have hMT : M ≠ ⊤ := by rw [← hM]; exact maxOver_lt_top hT
  have hMB : M ≠ ⊥ := by
    obtain ⟨x, hx⟩ := hs 0
    have h := le_maxOver s 0
    rw [hx, hM] at h
    exact ((EReal.bot_lt_coe x).trans_le h).ne'
  lift M to ℝ using ⟨hMT, hMB⟩
  have hpos : ∃ b : ℝ, 0 < b ∧ ∑ u, Ideal.exp (s u - (M : EReal)) = b := by
    obtain ⟨b, hb, hsum⟩ := sum_real (fun u : Fin k => Ideal.exp (s u.succ - (M : EReal))) fun u => exp_real (hT _) M
    obtain ⟨x, hx⟩ := hs 0
    obtain ⟨b0, hb0, h0⟩ := exp_real_pos x M
    refine ⟨b0 + b, by positivity, ?_⟩
    rw [Fin.sum_univ_succ, hx, h0, hsum]
    rfl
  obtain ⟨b, hb, hD⟩ := hpos
  rw [hD, div_sum hb]

/-- The score of context key `u` for context query `n`. -/
def sco (x : Vec Ideal S512x20480 .bf16) (b : Fin 2) (h : Fin 16) (n u : Fin 256) : EReal :=
  ∑ d : Fin 128, (con x 4096 (by omega) b n h d * scale) * con x 6144 (by omega) b u h d

/-- The attention of a context query: the values weighted by the softmax of the scores. -/
def R (x : Vec Ideal S512x20480 .bf16) (b : Fin 2) (h : Fin 16) (n : Fin 256) (d : Fin 128) : EReal :=
  ∑ u : Fin 256, Ideal.div (Ideal.exp (sco x b h n u - maxOver (sco x b h n))) (∑ i, Ideal.exp (sco x b h n i - maxOver (sco x b h n)))
    * con x 8192 (by omega) b u h d

/-- The attention read at an index: image `i 0 / 256`, token `i 0 % 256`, head `i 1 / 128`, channel `i 1 % 128`. -/
def G (x : Vec Ideal S512x20480 .bf16) : Vec Ideal S512x2048 .bf16 :=
  fun i => R x ⟨(i 0).val / 256, by have : (i 0).val < 512 := (i 0).isLt; omega⟩
    ⟨(i 1).val / 128, by have : (i 1).val < 2048 := (i 1).isLt; omega⟩ ⟨(i 0).val % 256, by omega⟩ ⟨(i 1).val % 128, by omega⟩

theorem G_at (x : Vec Ideal S512x20480 .bf16) (b : Fin 2) (h : Fin 16) (n : Fin 256) (d : Fin 128) (i : S512x2048.Idx)
    (h0 : (i 0).val = b.val * 256 + n.val) (h1 : (i 1).val = h.val * 128 + d.val) : G x i = R x b h n d := by
  unfold G
  have e0 : (i 0).val / 256 = b.val := by omega
  have e1 : (i 1).val / 128 = h.val := by omega
  have e2 : (i 0).val % 256 = n.val := by omega
  have e3 : (i 1).val % 128 = d.val := by omega
  congr 1 <;> exact Fin.ext ‹_›

/-- The queries and the keys are real numbers. -/
structure Finite (x : Vec Ideal S512x20480 .bf16) : Prop where
  q : ∀ b n h d, ∃ r : ℝ, con x 4096 (by omega) b n h d = r
  k : ∀ b n h d, ∃ r : ℝ, con x 6144 (by omega) b n h d = r

theorem hz2 : (![0, 0] : Fin 2 → Nat) = fun _ => 0 := funext fun a => by fin_cases a <;> rfl

section
variable (q k v : Vec Ideal S256x128 .bf16)

/-- The body's scores read at an index: the inner product, scaled. -/
def bsc (r u : Fin 256) : EReal := (∑ d : Fin 128, q (ix2 r d) * k (ix2 u d)) * Ideal.ofBits .f32 0x3DB504F3#32

/-- The body's scores. -/
abbrev bs : FVec Ideal S256x256 .f32 :=
  mulf (matmul (φ₁ := .bf16) (φ₂ := .bf16) dot_S256x128_S256x128_S256x256_1_1_0_0_n_n none q k (constant S256x256 .f32 0x00000000#32))
    (broadcast S256x256 (Scalar.ofBits .f32 0x3DB504F3#32))

theorem bs_apply (r u : Fin 256) : bs q k (ix2 r u) = bsc q k r u := by
  have h1 := Ideal.matmul_transposedRhs_apply (M := 256) (K := 128) (N := 256) (φ₁ := .bf16) (φ₂ := .bf16) none q k
    (constant S256x256 .f32 0x00000000#32) r u
  refine congrArg (· * Ideal.ofBits .f32 0x3DB504F3#32) (h1.trans ?_)
  show Ideal.ofBits .f32 0x00000000#32 + _ = _
  rw [Ideal.ofBits_zero_f32, zero_add]

/-- The body's exponentials. -/
abbrev be : FVec Ideal S256x256 .f32 :=
  exp (subf (bs q k) (broadcastTo S256x256 (shapeCast S256x1 (multiReduction .maximumf [1] S256 (bs q k) 0xFF800000#32
    reduces_S256x256_S256 (.inl rfl) rfl) shapeCasts_S256_S256x1) broadcasts_S256x1_S256x256))

theorem be_apply (r u : Fin 256) : be q k (ix2 r u) = Ideal.exp (bsc q k r u - maxOver (bsc q k r)) := by
  refine congrArg Ideal.exp (congrArg₂ (· - ·) (bs_apply q k r u) ?_)
  refine (Cert.Attn.spread_apply (N := 256) _ _ r u).trans ?_
  refine (Cert.Attn.column_apply _ r).trans ((Cert.Attn.max256_apply _ r).trans ?_)
  exact congrArg maxOver (funext fun j => bs_apply q k r j)

/-- The body's payload read at an index. -/
theorem pay_apply (r : Fin 256) (d : Fin 128) :
    k0_pay1 (F := Ideal) q k v (ix2 r d)
      = Ideal.div (∑ u : Fin 256, Ideal.exp (bsc q k r u - maxOver (bsc q k r)) * v (ix2 u d))
          (∑ u : Fin 256, Ideal.exp (bsc q k r u - maxOver (bsc q k r))) := by
  unfold k0_pay1
  refine congrArg₂ Ideal.div ?_ ?_
  · have h1 := Ideal.matmul_plain_apply (M := 256) (K := 256) (N := 128) (φ₁ := .bf16) (φ₂ := .bf16) none
      (truncf .bf16 (be q k) bitsLt_bf16_f32) v (constant S256x128 .f32 0x00000000#32) r d
    refine h1.trans ?_
    show Ideal.ofBits .f32 0x00000000#32 + _ = _
    rw [Ideal.ofBits_zero_f32, zero_add]
    exact Finset.sum_congr rfl fun j _ => congrArg (· * v (ix2 j d)) (be_apply q k r j)
  · refine (Cert.Attn.spread_apply (N := 128) _ _ r d).trans ?_
    exact (Cert.Attn.column_apply _ r).trans ((Cert.Attn.add256_apply _ r).trans (Finset.sum_congr rfl fun j _ => be_apply q k r j))
end

variable (m : (ℓ : Loc nD τ sig) → Buf (Elt Ideal) ℓ)

/-- The windows' block indices at a point, against the result's. -/
theorem idx_facts : ∀ t : Fin cfg0.N,
    win0_0.index t 0 = win0_3.index t 0 ∧ win0_0.index t 1 = 32 + win0_3.index t 1
      ∧ win0_1.index t 0 = win0_3.index t 0 ∧ win0_1.index t 1 = 48 + win0_3.index t 1
      ∧ win0_2.index t 0 = win0_3.index t 0 ∧ win0_2.index t 1 = 64 + win0_3.index t 1
      ∧ win0_3.index t 0 < 2 ∧ win0_3.index t 1 < 16 :=
  (by decide +kernel : ∀ t : Fin grid0.N,
    win0_0.index t 0 = win0_3.index t 0 ∧ win0_0.index t 1 = 32 + win0_3.index t 1
      ∧ win0_1.index t 0 = win0_3.index t 0 ∧ win0_1.index t 1 = 48 + win0_3.index t 1
      ∧ win0_2.index t 0 = win0_3.index t 0 ∧ win0_2.index t 1 = 64 + win0_3.index t 1
      ∧ win0_3.index t 0 < 2 ∧ win0_3.index t 1 < 16)

/-- Every block of the result is some point's. -/
theorem idx_onto : ∀ (a : Fin 2) (b : Fin 16), ∃ t : Fin cfg0.N, win0_3.index t 0 = a.val ∧ win0_3.index t 1 = b.val :=
  (by decide +kernel : ∀ (a : Fin 2) (b : Fin 16), ∃ t : Fin grid0.N, win0_3.index t 0 = a.val ∧ win0_3.index t 1 = b.val)

/-- What a point writes back is its block of the attention. -/
theorem flushed_eq (c : Dev nD) (fin : Finite (m ((c : Thread nD τ).loc main_arg0))) (t : Fin cfg0.N) :
    (dats m 0 c).flushed 3 t = ((cfg0.win 3).blk t).view.read (Elt Ideal) (G (m ((c : Thread nD τ).loc main_arg0))) := by
  obtain ⟨f1, f2, f3, f4, f5, f6, f7, f8⟩ := idx_facts t
  rw [Value.flushed3]
  unfold out0_3
  rw [View.canon_unit_zero hz2]
  simp only [View.ld_unit_zero (S := S256x128) hz2]
  funext y
  obtain ⟨r, d, rfl⟩ : ∃ (r : Fin 256) (d : Fin 128), y = ix2 r d := ⟨y 0, y 1, eq_ix2 y⟩
  show k0_pay1 (F := Ideal) (iblk m c 0 t) (iblk m c 1 t) (iblk m c 2 t) (ix2 r d) = G _ ((win0_3.rect t).emb (ix2 r d))
  refine (pay_apply _ _ _ r d).trans ?_
  have hg := G_at (m ((c : Thread nD τ).loc main_arg0)) ⟨win0_3.index t 0, f7⟩ ⟨win0_3.index t 1, f8⟩ r d
    ((win0_3.rect t).emb (ix2 r d)) (win0_3.rect_emb_val t (ix2 r d) 0) (win0_3.rect_emb_val t (ix2 r d) 1)
  refine Eq.trans ?_ hg.symm
  have h0 : ∀ (n : Fin 256) (e : Fin 128), iblk m c 0 t (ix2 n e)
      = con (m ((c : Thread nD τ).loc main_arg0)) 4096 (by omega) ⟨win0_3.index t 0, f7⟩ n ⟨win0_3.index t 1, f8⟩ e := fun n e => by
    show V m c main_arg0 ((win0_0.rect t).emb (ix2 n e)) = _
    rw [V_main_arg0]
    refine congrArg _ (funext fun a => Fin.ext ?_)
    match a with
    | ⟨0, _⟩ =>
      refine (win0_0.rect_emb_val t (ix2 n e) 0).trans ?_
      rw [f1]
      rfl
    | ⟨1, _⟩ =>
      refine (win0_0.rect_emb_val t (ix2 n e) 1).trans ?_
      rw [f2]
      show (32 + win0_3.index t 1) * 128 + e.val = 4096 + (win0_3.index t 1 * 128 + e.val)
      omega
  have h1 : ∀ (n : Fin 256) (e : Fin 128), iblk m c 1 t (ix2 n e)
      = con (m ((c : Thread nD τ).loc main_arg0)) 6144 (by omega) ⟨win0_3.index t 0, f7⟩ n ⟨win0_3.index t 1, f8⟩ e := fun n e => by
    show V m c main_arg0 ((win0_1.rect t).emb (ix2 n e)) = _
    rw [V_main_arg0]
    refine congrArg _ (funext fun a => Fin.ext ?_)
    match a with
    | ⟨0, _⟩ =>
      refine (win0_1.rect_emb_val t (ix2 n e) 0).trans ?_
      rw [f3]
      rfl
    | ⟨1, _⟩ =>
      refine (win0_1.rect_emb_val t (ix2 n e) 1).trans ?_
      rw [f4]
      show (48 + win0_3.index t 1) * 128 + e.val = 6144 + (win0_3.index t 1 * 128 + e.val)
      omega
  have h2 : ∀ (n : Fin 256) (e : Fin 128), iblk m c 2 t (ix2 n e)
      = con (m ((c : Thread nD τ).loc main_arg0)) 8192 (by omega) ⟨win0_3.index t 0, f7⟩ n ⟨win0_3.index t 1, f8⟩ e := fun n e => by
    show V m c main_arg0 ((win0_2.rect t).emb (ix2 n e)) = _
    rw [V_main_arg0]
    refine congrArg _ (funext fun a => Fin.ext ?_)
    match a with
    | ⟨0, _⟩ =>
      refine (win0_2.rect_emb_val t (ix2 n e) 0).trans ?_
      rw [f5]
      rfl
    | ⟨1, _⟩ =>
      refine (win0_2.rect_emb_val t (ix2 n e) 1).trans ?_
      rw [f6]
      show (64 + win0_3.index t 1) * 128 + e.val = 8192 + (win0_3.index t 1 * 128 + e.val)
      omega
  have hsc : bsc (iblk m c 0 t) (iblk m c 1 t) r
      = sco (m ((c : Thread nD τ).loc main_arg0)) ⟨win0_3.index t 0, f7⟩ ⟨win0_3.index t 1, f8⟩ r := funext fun u => by
    refine Eq.trans (congrArg (· * scale) (Finset.sum_congr rfl fun e _ => congrArg₂ (· * ·) (h0 r e) (h1 u e))) ?_
    exact (dot_scale _ _ scale (fun e => fin.q _ _ _ e) (fun e => fin.k _ _ _ e) scale_real).1
  rw [hsc]
  refine Eq.trans (congrArg (fun z => Ideal.div z _) (Finset.sum_congr rfl fun u _ => congrArg (_ * ·) (h2 u d))) ?_
  refine attend_plain (k := 255) _ (fun u => ?_) _
  have hd := dot_scale (fun e => con (m ((c : Thread nD τ).loc main_arg0)) 4096 (by omega) ⟨win0_3.index t 0, f7⟩ r ⟨win0_3.index t 1, f8⟩ e)
    (fun e => con (m ((c : Thread nD τ).loc main_arg0)) 6144 (by omega) ⟨win0_3.index t 0, f7⟩ u ⟨win0_3.index t 1, f8⟩ e) scale
    (fun e => fin.q _ _ _ e) (fun e => fin.k _ _ _ e) scale_real
  obtain ⟨x, hx⟩ := hd.2
  exact ⟨x, hd.1.symm.trans hx⟩

/-- Every index of the result is in some point's block. -/
theorem cover (i : S512x2048.Idx) : ∃ t : Fin cfg0.N, (cfg0.win 3).flush t = true ∧ i ∈ ((cfg0.win 3).blk t).view.set := by
  have h0 : (i 0 : Nat) < 512 := (i 0).isLt
  have h1 : (i 1 : Nat) < 2048 := (i 1).isLt
  obtain ⟨t, ht0, ht1⟩ := idx_onto ⟨(i 0 : Nat) / 256, by omega⟩ ⟨(i 1 : Nat) / 128, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 256 ≤ (i 0 : Nat) ∧ (i 0 : Nat) < win0_3.index t 0 * 256 + 256
    rw [ht0]; dsimp only; omega
  | ⟨1, _⟩ =>
    show win0_3.index t 1 * 128 ≤ (i 1 : Nat) ∧ (i 1 : Nat) < win0_3.index t 1 * 128 + 128
    rw [ht1]; dsimp only; omega

/-- The result array after the run is the attention of the argument. -/
theorem final (c : Dev nD) (fin : Finite (m ((c : Thread nD τ).loc main_arg0))) :
    (dats m 0 c).arrAt 3 cfg0.N = G (m ((c : Thread nD τ).loc main_arg0)) :=
  (dats m 0 c).arrAt_eq_of_cover 3 _ (fun t _ => flushed_eq m c fin t) cover

section
open Cert.Reference13Ideal Cert.Reference13Ideal.Gen Cert.Reference13Ideal.Read
variable (x : Vec Ideal Cert.Reference13Ideal.S512x20480 .bf16)

/-- The reference's rows split into images, at an index. -/
theorem v1_at (b : Fin 2) (n : Fin 256) (o : Nat) (ho : o < 20480) :
    val_main_v1 (F := Ideal) x (ix3 b n (⟨o, ho⟩ : Fin 20480)) = x (ix2 (⟨b.val * 256 + n.val, by omega⟩ : Fin 512) (⟨o, ho⟩ : Fin 20480)) := by
  have e : idx_main_v1 (ix3 b n (⟨o, ho⟩ : Fin 20480)) = ix2 (⟨b.val * 256 + n.val, by omega⟩ : Fin 512) (⟨o, ho⟩ : Fin 20480) :=
    funext fun a => Fin.ext (by
      match a with
      | ⟨0, _⟩ => show ((b.val * 256 + n.val) * 20480 + o) / 20480 = b.val * 256 + n.val; omega
      | ⟨1, _⟩ => show ((b.val * 256 + n.val) * 20480 + o) % 20480 = o; omega)
  rw [val_main_v1_apply, e, val_main_v0_apply]
  rfl

/-- Splitting the channels into heads, at an index. -/
theorem split_at (b : Fin 2) (n : Fin 256) (h : Fin 16) (d : Fin 128) :
    idx_main_v3 (ix4 b n h d) = ix3 b n (⟨h.val * 128 + d.val, by omega⟩ : Fin 2048) := by
  have hb := b.isLt
  have hn := n.isLt
  have hh := h.isLt
  have hd := d.isLt
  exact funext fun a => Fin.ext (by
    match a with
    | ⟨0, _⟩ => show (((b.val * 256 + n.val) * 16 + h.val) * 128 + d.val) / 524288 = b.val; omega
    | ⟨1, _⟩ => show (((b.val * 256 + n.val) * 16 + h.val) * 128 + d.val) / 2048 % 256 = n.val; omega
    | ⟨2, _⟩ => show (((b.val * 256 + n.val) * 16 + h.val) * 128 + d.val) % 2048 = h.val * 128 + d.val; omega)

/-- The reference's queries, keys and values at an index. -/
theorem v3_at (b : Fin 2) (n : Fin 256) (h : Fin 16) (d : Fin 128) :
    val_main_v3 (F := Ideal) x (ix4 b n h d) = con x 4096 (by omega) b n h d := by
  rw [val_main_v3_apply, split_at, val_main_v2_apply]
  exact v1_at x b n (4096 + (h.val * 128 + d.val)) (by omega)

theorem v5_at (b : Fin 2) (n : Fin 256) (h : Fin 16) (d : Fin 128) :
    val_main_v5 (F := Ideal) x (ix4 b n h d) = con x 6144 (by omega) b n h d := by
  rw [val_main_v5_apply, show idx_main_v5 (ix4 b n h d) = _ from split_at b n h d, val_main_v4_apply]
  exact v1_at x b n (6144 + (h.val * 128 + d.val)) (by omega)

theorem v7_at (b : Fin 2) (n : Fin 256) (h : Fin 16) (d : Fin 128) :
    val_main_v7 (F := Ideal) x (ix4 b n h d) = con x 8192 (by omega) b n h d := by
  rw [val_main_v7_apply, show idx_main_v7 (ix4 b n h d) = _ from split_at b n h d, val_main_v6_apply]
  exact v1_at x b n (8192 + (h.val * 128 + d.val)) (by omega)

/-- The reference's scores at an index. -/
theorem v10_at (b : Fin 2) (h : Fin 16) (n u : Fin 256) : val_main_v10 (F := Ideal) x (ix4 b h n u) = sco x b h n u := by
  rw [val_main_v10_apply]
  unfold sco
  refine Finset.sum_congr rfl fun d _ => ?_
  have e1 : lidx_main_v10 (ix4 b h n u) d = ix4 b n h d := funext fun a => Fin.ext (by
    match a with
    | ⟨0, _⟩ => rfl
    | ⟨1, _⟩ => rfl
    | ⟨2, _⟩ => rfl
    | ⟨3, _⟩ => rfl)
  have e2 : ridx_main_v10 (ix4 b h n u) d = ix4 b u h d := funext fun a => Fin.ext (by
    match a with
    | ⟨0, _⟩ => rfl
    | ⟨1, _⟩ => rfl
    | ⟨2, _⟩ => rfl
    | ⟨3, _⟩ => rfl)
  rw [e1, e2, val_main_v9_apply, v3_at, v5_at, val_main_v8_apply, val_main_cst_apply]
  rfl

/-- The largest score of a query. -/
theorem v13_at (b : Fin 2) (h : Fin 16) (n : Fin 256) : val_main_v13 (F := Ideal) x (ix3 b h n) = maxOver (sco x b h n) := by
  have h11 : val_main_v11 (F := Ideal) x (ix3 b h n) = maxOver (fun u => val_main_v10 (F := Ideal) x (ix4 b h n u)) := by
    unfold val_main_v11
    generalize val_main_v10 (F := Ideal) x = y
    refine (Host.reduce_eq_fold_single (FloatOps.maximumf (F := Ideal) (φ := .f32)) y _ reducesTo_S2x16x256x256_S2x16x256_d3 (by decide) h_S_ (ix3 b h n)).trans ?_
    show Finset.fold max (Ideal.ofBits .f32 0xFF800000#32) _ _ = _
    rw [Cert.RefAttn.negInf]
    refine Finset.fold_congr fun j _ => congrArg y (funext fun a => ?_)
    fin_cases a <;> rfl
  rw [val_main_v13_apply, h11, val_main_v12_apply, val_main_cst_1_apply]
  show max (Ideal.ofBits .f32 0xFF800000#32) _ = _
  rw [Cert.RefAttn.negInf, max_eq_right bot_le]
  exact congrArg maxOver (funext fun u => v10_at x b h n u)

/-- The exponential of a score less the largest one. -/
theorem v17_at (b : Fin 2) (h : Fin 16) (n u : Fin 256) :
    val_main_v17 (F := Ideal) x (ix4 b h n u) = Ideal.exp (sco x b h n u - maxOver (sco x b h n)) := by
  have e : idx_main_v14 (idx_main_v15 (ix4 b h n u)) = ix3 b h n := funext fun a => Fin.ext (by
    match a with
    | ⟨0, _⟩ => rfl
    | ⟨1, _⟩ => rfl
    | ⟨2, _⟩ => rfl)
  rw [val_main_v17_apply, val_main_v16_apply, val_main_v15_apply, val_main_v14_apply, e, v13_at, v10_at]
  rfl

theorem v18_at (b : Fin 2) (h : Fin 16) (n : Fin 256) :
    val_main_v18 (F := Ideal) x (ix3 b h n) = ∑ u, Ideal.exp (sco x b h n u - maxOver (sco x b h n)) := by
  rw [val_main_v18_apply, val_main_cst_2_apply]
  have e : ∀ u : Fin 256, idx_main_v18 (ix3 b h n) u = ix4 b h n u := fun u => funext fun a => Fin.ext (by
    match a with
    | ⟨0, _⟩ => rfl
    | ⟨1, _⟩ => rfl
    | ⟨2, _⟩ => rfl
    | ⟨3, _⟩ => rfl)
  refine (congrArg₂ (· + ·) Cert.RefAttn.zeroF (Finset.sum_congr rfl fun u _ => (congrArg _ (e u)).trans (v17_at x b h n u))).trans ?_
  exact zero_add _

/-- The weight of a key. -/
theorem v21_at (b : Fin 2) (h : Fin 16) (n u : Fin 256) : val_main_v21 (F := Ideal) x (ix4 b h n u)
    = Ideal.div (Ideal.exp (sco x b h n u - maxOver (sco x b h n))) (∑ i, Ideal.exp (sco x b h n i - maxOver (sco x b h n))) := by
  have e : idx_main_v19 (idx_main_v20 (ix4 b h n u)) = ix3 b h n := funext fun a => Fin.ext (by
    match a with
    | ⟨0, _⟩ => rfl
    | ⟨1, _⟩ => rfl
    | ⟨2, _⟩ => rfl)
  rw [val_main_v21_apply, v17_at, val_main_v20_apply, val_main_v19_apply, e, v18_at]
  rfl

theorem v22_at (b : Fin 2) (h : Fin 16) (n : Fin 256) (d : Fin 128) : val_main_v22 (F := Ideal) x (ix4 b h d n) = R x b h n d := by
  rw [val_main_v22_apply]
  unfold R
  refine Finset.sum_congr rfl fun u _ => ?_
  have e1 : lidx_main_v22 (ix4 b h d n) u = ix4 b u h d := funext fun a => Fin.ext (by
    match a with
    | ⟨0, _⟩ => rfl
    | ⟨1, _⟩ => rfl
    | ⟨2, _⟩ => rfl
    | ⟨3, _⟩ => rfl)
  have e2 : ridx_main_v22 (ix4 b h d n) u = ix4 b h n u := funext fun a => Fin.ext (by
    match a with
    | ⟨0, _⟩ => rfl
    | ⟨1, _⟩ => rfl
    | ⟨2, _⟩ => rfl
    | ⟨3, _⟩ => rfl)
  rw [e1, e2, v7_at, v21_at]
  exact mul_comm _ _

/-- The reference's result at a token of an image and a channel of a head. -/
theorem v26_at (b : Fin 2) (h : Fin 16) (n : Fin 256) (d : Fin 128) :
    val_main_v26 (F := Ideal) x (ix2 (⟨b.val * 256 + n.val, by omega⟩ : Fin 512) (⟨h.val * 128 + d.val, by omega⟩ : Fin 2048)) = R x b h n d := by
  have hb := b.isLt
  have hn := n.isLt
  have hh := h.isLt
  have hd := d.isLt
  have e1 : idx_main_v26 (ix2 (⟨b.val * 256 + n.val, by omega⟩ : Fin 512) (⟨h.val * 128 + d.val, by omega⟩ : Fin 2048)) = ix3 b n (⟨h.val * 128 + d.val, by omega⟩ : Fin 2048) :=
    funext fun a => Fin.ext (by
      match a with
      | ⟨0, _⟩ => show ((b.val * 256 + n.val) * 2048 + (h.val * 128 + d.val)) / 524288 = b.val; omega
      | ⟨1, _⟩ => show ((b.val * 256 + n.val) * 2048 + (h.val * 128 + d.val)) / 2048 % 256 = n.val; omega
      | ⟨2, _⟩ => show ((b.val * 256 + n.val) * 2048 + (h.val * 128 + d.val)) % 2048 = h.val * 128 + d.val; omega)
  have e2 : idx_main_v24 (ix3 b n (⟨h.val * 128 + d.val, by omega⟩ : Fin 2048)) = ix4 b n h d :=
    funext fun a => Fin.ext (by
      match a with
      | ⟨0, _⟩ => show ((b.val * 256 + n.val) * 2048 + (h.val * 128 + d.val)) / 524288 = b.val; omega
      | ⟨1, _⟩ => show ((b.val * 256 + n.val) * 2048 + (h.val * 128 + d.val)) / 2048 % 256 = n.val; omega
      | ⟨2, _⟩ => show ((b.val * 256 + n.val) * 2048 + (h.val * 128 + d.val)) / 128 % 16 = h.val; omega
      | ⟨3, _⟩ => show ((b.val * 256 + n.val) * 2048 + (h.val * 128 + d.val)) % 128 = d.val; omega)
  have e3 : idx_main_v23 (ix4 b n h d) = ix4 b h d n := funext fun a => Fin.ext (by
    match a with
    | ⟨0, _⟩ => rfl
    | ⟨1, _⟩ => rfl
    | ⟨2, _⟩ => rfl
    | ⟨3, _⟩ => rfl)
  rw [val_main_v26_apply, e1, val_main_v25_apply, val_main_v24_apply, e2, val_main_v23_apply, e3, v22_at]
  rfl
end

/-- The reference's result is the attention of its argument. -/
theorem ref_eq (x : Vec Ideal S512x20480 .bf16) : Cert.Reference13Ideal.Read.val_main_v26 (F := Ideal) x = G x := by
  funext i
  have h0 : (i 0 : Nat) < 512 := (i 0).isLt
  have h1 : (i 1 : Nat) < 2048 := (i 1).isLt
  have e : i = ix2 (⟨(i 0).val / 256 * 256 + (i 0).val % 256, by omega⟩ : Fin 512) (⟨(i 1).val / 128 * 128 + (i 1).val % 128, by omega⟩ : Fin 2048) :=
    funext fun a => Fin.ext (by
      match a with
      | ⟨0, _⟩ => show (i 0).val = (i 0).val / 256 * 256 + (i 0).val % 256; omega
      | ⟨1, _⟩ => show (i 1).val = (i 1).val / 128 * 128 + (i 1).val % 128; omega)
  have hr := v26_at x ⟨(i 0).val / 256, by omega⟩ ⟨(i 1).val / 128, by omega⟩ ⟨(i 0).val % 256, by omega⟩ ⟨(i 1).val % 128, by omega⟩
  exact (congrArg (Cert.Reference13Ideal.Read.val_main_v26 (F := Ideal) x) e).trans hr

/-- The precondition says the queries and the keys are real. -/
theorem finite_of_pre (x : Vec Ideal S512x20480 .bf16)
    (h : Cert.Pre_finite_ctx_scores.fn (F := Ideal) x = (fun _ => 1#1)) : Finite x := by
  have q : ∀ (a : Fin 512) (o : Nat) (ho : 4096 ≤ o ∧ o < 8192), ∃ r : ℝ, x (ix2 a ⟨o, by omega⟩) = (r : EReal) := fun a o ho => by
    have hq := congrFun h (ix2 a (⟨o - 4096, by omega⟩ : Fin 4096))
    have e := extractStridedSlice_apply (t := Cert.Pre_finite_ctx_scores.S512x4096) ![0, 4096] x Cert.Pre_finite_ctx_scores.Gen.slices_S512x20480_S512x4096_0_4096
      (ix2 a (⟨o - 4096, by omega⟩ : Fin 4096)) (ix2 a ⟨o, by omega⟩) (fun b => by
        match b with
        | ⟨0, _⟩ => show a.val = 0 + a.val; omega
        | ⟨1, _⟩ => show o = 4096 + (o - 4096); omega)
    rw [← e]
    exact real_of_abs _ hq
  exact ⟨fun b n h d => q _ _ (by omega), fun b n h d => q _ _ (by omega)⟩

/-- From equal arguments with finite queries and keys the context attention kernel and its reference end with equal results,
their arguments unchanged. -/
theorem algebraic : Cert.algebraic_Kernel13Ideal_Reference13Ideal_pre_finite_ctx_scores
    (hKernel13Ideal := Cert.Kernel13Ideal.Gen.facts) (hReference13Ideal := Cert.Reference13Ideal.Gen.facts)
    (hPre_finite_ctx_scores := Cert.Pre_finite_ctx_scores.Gen.facts) := by
  intro m g m' g' hpre hagree
  refine ⟨fun c => G (m ((c.tc : Thread nD τ).loc main_arg0)), ?_, ?_⟩
  · exact (θ_run Cert.Kernel13Ideal.defs _ _).mono (fun r h c => ⟨(h c).1.trans (final m c (finite_of_pre _ (hpre c))), (h c).2⟩)
      (Value.run_blocks (F := Ideal) m g)
  · refine (θ_run Cert.Reference13Ideal.defs _ _).mono (fun r h c => ?_) (Cert.Reference13Ideal.Value.run (F := Ideal) m' g')
    refine ⟨((h c).1.trans ?_), (h c).2⟩
    rw [Cert.Reference13Ideal.Read.val_main_v26_eq, ref_eq, hagree c]

end Cert.CtxAttn

end
-- ==== Proof.Pool.lean ====
/-
  The pooled branch: the windowed mean over the tokens of one image as a function of the positions, the words the programs
  compute it with (`band_apply`, `sizes_apply`), the sum over a band of rows around a block against the sum over the image
  (`band_sum`), and one group of channels of a block as the body computes it (`grp_apply`).
-/
module

public import proofs.«01_k».proof.Proof.Softmax
public import Idealize.ShloMosaic.Lib.MatmulPlain
public import Idealize.ShloMosaic.Lib.ValueIdx
public import Idealize.ShloMosaic.Lib.WordCmp
public import Idealize.ShloMosaic.Lib.IdealHost
public import Idealize.ShloMosaic.Lib.Pipeline.Value

@[expose] public section

noncomputable section

namespace Cert.Pool

open Idealize.ShloMosaic Idealize.ShloMosaic.ValueIdx Idealize.ShloMosaic.WordCmp

/-- Adding words of integers. -/
theorem addi_ofInt (a b : ℤ) : IntOp.addi (BitVec.ofInt 32 a) (BitVec.ofInt 32 b) = BitVec.ofInt 32 (a + b) :=
  (BitVec.ofInt_add a b).symm

/-- Subtracting words of integers. -/
theorem subi_ofInt (a b : ℤ) : IntOp.subi (BitVec.ofInt 32 a) (BitVec.ofInt 32 b) = BitVec.ofInt 32 (a - b) := by
  apply BitVec.eq_of_toInt_eq
  unfold IntOp.subi
  simp

/-- An integer a word holds. -/
def Small (a : ℤ) : Prop := -1000000 < a ∧ a < 1000000

theorem toInt_small {a : ℤ} (h : Small a) : (BitVec.ofInt 32 a).toInt = a := by
  unfold Small at h
  rw [BitVec.toInt_ofInt]
  unfold Int.bmod
  norm_num
  split <;> omega

theorem maxsi_ofInt {a b : ℤ} (ha : Small a) (hb : Small b) :
    IntOp.maxsi (BitVec.ofInt 32 a) (BitVec.ofInt 32 b) = BitVec.ofInt 32 (max a b) := by
  unfold IntOp.maxsi
  rw [BitVec.slt_eq_decide, toInt_small ha, toInt_small hb]
  by_cases h : b < a
  · rw [if_pos (decide_eq_true h), max_eq_left h.le]
  · rw [if_neg (by simpa using h), max_eq_right (not_lt.mp h)]

theorem minsi_ofInt {a b : ℤ} (ha : Small a) (hb : Small b) :
    IntOp.minsi (BitVec.ofInt 32 a) (BitVec.ofInt 32 b) = BitVec.ofInt 32 (min a b) := by
  unfold IntOp.minsi
  rw [BitVec.slt_eq_decide, toInt_small ha, toInt_small hb]
  by_cases h : a < b
  · rw [if_pos (decide_eq_true h), min_eq_left h.le]
  · rw [if_neg (by simpa using h), min_eq_right (not_lt.mp h)]

theorem sge_ofInt {a b : ℤ} (ha : Small a) (hb : Small b) :
    IntOp.cmpi .sge (BitVec.ofInt 32 a) (BitVec.ofInt 32 b) = BitVec.ofBool (decide (b ≤ a)) := by
  show BitVec.ofBool (decide (_ ≤ _)) = _
  rw [ toInt_small ha, toInt_small hb]

theorem sle_ofInt {a b : ℤ} (ha : Small a) (hb : Small b) :
    IntOp.cmpi .sle (BitVec.ofInt 32 a) (BitVec.ofInt 32 b) = BitVec.ofBool (decide (a ≤ b)) := by
  show BitVec.ofBool (decide (_ ≤ _)) = _
  rw [ toInt_small ha, toInt_small hb]

/-- The window of a position: `h` before it, `h - 1` after it, inside the image whose last position is `l`. -/
def lo (h t : ℤ) : ℤ := max (t - h) 0
def hi (h l t : ℤ) : ℤ := min (t + h - 1) l

/-- One inside the window of a position and zero outside. -/
def ind (h l t s : ℤ) : EReal := if lo h t ≤ s ∧ s ≤ hi h l t then 1 else 0

/-- How many positions a window holds, as a real. -/
def count (h l t : ℤ) : EReal := FloatOps.sitofp (F := Ideal) .f32 (BitVec.ofInt 32 (hi h l t - lo h t + 1))

/-- A select of one and zero by the conjunction of two comparisons. -/
theorem pick (p q : Prop) [Decidable p] [Decidable q] (x y : EReal) :
    (if IntOp.andi (BitVec.ofBool (decide p)) (BitVec.ofBool (decide q)) = 1 then x else y) = if p ∧ q then x else y := by
  by_cases hp : p <;> by_cases hq : q <;> simp [hp, hq, IntOp.andi]

/-- The sum over a band of rows that holds the window is the sum over the image. -/
theorem band_sum {L N : ℕ} (h l t o : ℤ) (hl : l = (L : ℤ) - 1) (u : Fin L → EReal) (v : Fin N → EReal)
    (hlo : o ≤ t - h) (hhi : t + h - 1 < o + N)
    (huv : ∀ (j : Fin N) (k : Fin L), (k.val : ℤ) = o + j.val → v j = u k) :
    ∑ j : Fin N, ind h l t (o + j.val) * v j = ∑ k : Fin L, u k * ind h l t k.val := by
  have e1 : ∀ j : Fin N, ind h l t (o + j.val) * v j
      = if lo h t ≤ o + j.val ∧ o + j.val ≤ hi h l t then v j else 0 := fun j => by
    unfold ind; split_ifs <;> simp
  have e2 : ∀ k : Fin L, u k * ind h l t k.val = if lo h t ≤ k.val ∧ k.val ≤ hi h l t then u k else 0 := fun k => by
    unfold ind; split_ifs <;> simp
  simp only [e1, e2]
  rw [← Finset.sum_filter, ← Finset.sum_filter]
  unfold lo hi
  refine Finset.sum_bij (fun j hj => ⟨(o + j.val).toNat, ?_⟩) ?_ ?_ ?_ ?_
  · have := (Finset.mem_filter.mp hj).2
    omega
  · intro j hj
    have := (Finset.mem_filter.mp hj).2
    refine Finset.mem_filter.mpr ⟨Finset.mem_univ _, ?_⟩
    dsimp only
    omega
  · intro a ha b hb hab
    have h1 := (Finset.mem_filter.mp ha).2
    have h2 := (Finset.mem_filter.mp hb).2
    have h3 := Fin.val_eq_of_eq hab
    dsimp only at h3
    exact Fin.ext (by omega)
  · intro k hk
    have h1 := (Finset.mem_filter.mp hk).2
    refine ⟨⟨((k.val : ℤ) - o).toNat, by omega⟩, Finset.mem_filter.mpr ⟨Finset.mem_univ _, ?_⟩, Fin.ext ?_⟩
    · dsimp only; omega
    · dsimp only; omega
  · intro j hj
    have h1 := (Finset.mem_filter.mp hj).2
    exact huv _ _ (by dsimp only; omega)

abbrev S256x384 : Shape := ⟨2, ![256, 384]⟩
abbrev S256x1 : Shape := ⟨2, ![256, 1]⟩
abbrev S1x512 : Shape := ⟨2, ![1, 512]⟩
abbrev S384x512 : Shape := ⟨2, ![384, 512]⟩
abbrev S256x512 : Shape := ⟨2, ![256, 512]⟩
abbrev S512x512 : Shape := ⟨2, ![512, 512]⟩

/-- The band of ones a block's body sums its rows with. -/
abbrev band (row col : IVec S256x384 32) (h w l : BitVec 32) : FVec Ideal S256x384 .f32 :=
  select (andi (cmpi .sge col (maxsi (subi row (broadcast S256x384 h)) (broadcast S256x384 0#32)))
      (cmpi .sle col (minsi (subi (addi (subi row (broadcast S256x384 h)) (broadcast S256x384 w)) (broadcast S256x384 1#32))
        (broadcast S256x384 l))))
    (broadcast S256x384 (Scalar.ofBits (F := Ideal) .f32 0x3F800000#32))
    (broadcast S256x384 (Scalar.ofBits (F := Ideal) .f32 0x00000000#32))

/-- The sizes of a block's windows. -/
abbrev sizes (tp : IVec S256x1 32) (h w l : BitVec 32) : FVec Ideal S256x1 .f32 :=
  sitofp .f32 (addi (subi (minsi (subi (addi (subi tp (broadcast S256x1 h)) (broadcast S256x1 w)) (broadcast S256x1 1#32))
    (broadcast S256x1 l)) (maxsi (subi tp (broadcast S256x1 h)) (broadcast S256x1 0#32))) (broadcast S256x1 1#32))

/-- The band at a row and a column, by their positions. -/
theorem band_apply (row col : IVec S256x384 32) (hw : ℤ) (l : ℤ) (i : S256x384.Idx) (t s : ℤ)
    (hrow : row i = BitVec.ofInt 32 t) (hcol : col i = BitVec.ofInt 32 s) (ht : 0 ≤ t ∧ t < 10000) (hs : -100 < s ∧ s < 20000)
    (hh : 1 ≤ hw ∧ hw ≤ 8) (hl : 0 ≤ l ∧ l < 10000) :
    band row col (BitVec.ofInt 32 hw) (BitVec.ofInt 32 (2 * hw)) (BitVec.ofInt 32 l) i = ind hw l t s := by
  have z0 : (0#32 : BitVec 32) = BitVec.ofInt 32 0 := rfl
  have z1 : (1#32 : BitVec 32) = BitVec.ofInt 32 1 := rfl
  show (if IntOp.andi (IntOp.cmpi .sge (col i) (IntOp.maxsi (IntOp.subi (row i) (BitVec.ofInt 32 hw)) 0#32))
      (IntOp.cmpi .sle (col i) (IntOp.minsi (IntOp.subi (IntOp.addi (IntOp.subi (row i) (BitVec.ofInt 32 hw))
        (BitVec.ofInt 32 (2 * hw))) 1#32) (BitVec.ofInt 32 l))) = 1 then Ideal.ofBits .f32 0x3F800000#32
      else Ideal.ofBits .f32 0x00000000#32) = _
  rw [hrow, hcol, z0, z1, subi_ofInt, addi_ofInt, subi_ofInt, maxsi_ofInt (by unfold Small; omega) (by unfold Small; omega),
    minsi_ofInt (by unfold Small; omega) (by unfold Small; omega), sge_ofInt (by unfold Small; omega) (by unfold Small; omega),
    sle_ofInt (by unfold Small; omega) (by unfold Small; omega), pick, ← z0, Ideal.ofBits_zero_f32, Ideal.ofBits_one_f32]
  unfold ind lo hi
  refine if_congr ?_ rfl rfl
  have e : t - hw + 2 * hw - 1 = t + hw - 1 := by ring
  rw [e]

/-- The size of a row's window, by its position. -/
theorem sizes_apply (tp : IVec S256x1 32) (hw l : ℤ) (i : S256x1.Idx) (t : ℤ) (htp : tp i = BitVec.ofInt 32 t)
    (ht : 0 ≤ t ∧ t < 10000) (hh : 1 ≤ hw ∧ hw ≤ 8) (hl : 0 ≤ l ∧ l < 10000) :
    sizes tp (BitVec.ofInt 32 hw) (BitVec.ofInt 32 (2 * hw)) (BitVec.ofInt 32 l) i = count hw l t := by
  have z0 : (0#32 : BitVec 32) = BitVec.ofInt 32 0 := rfl
  have z1 : (1#32 : BitVec 32) = BitVec.ofInt 32 1 := rfl
  show FloatOps.sitofp (F := Ideal) .f32 (IntOp.addi (IntOp.subi (IntOp.minsi (IntOp.subi (IntOp.addi (IntOp.subi (tp i) (BitVec.ofInt 32 hw))
        (BitVec.ofInt 32 (2 * hw))) 1#32) (BitVec.ofInt 32 l)) (IntOp.maxsi (IntOp.subi (tp i) (BitVec.ofInt 32 hw)) 0#32)) 1#32) = _
  rw [htp, z0, z1, subi_ofInt, addi_ofInt, subi_ofInt, maxsi_ofInt (by unfold Small; omega) (by unfold Small; omega),
    minsi_ofInt (by unfold Small; omega) (by unfold Small; omega), subi_ofInt, addi_ofInt]
  unfold count lo hi
  have e : t - hw + 2 * hw - 1 = t + hw - 1 := by ring
  rw [e]

/-- The gate of a scalar. -/
def gate (x : EReal) : EReal := Ideal.div (Ideal.ofBits .f32 0x3F800000#32) (Ideal.ofBits .f32 0x3F800000#32 + Ideal.exp (-x))

/-- The kernel's gate is written with a subtraction from zero. -/
theorem gate_eq (x : EReal) : Ideal.div (Ideal.ofBits .f32 0x3F800000#32)
    (Ideal.ofBits .f32 0x3F800000#32 + Ideal.exp (Ideal.ofBits .f32 0x00000000#32 - x)) = gate x := by
  rw [Ideal.ofBits_zero_f32, sub_eq_add_neg, zero_add]; rfl

/-- The gated rows of a block, as a body writes them. -/
abbrev gated {s : Shape} (z : FVec Ideal s .f32) : FVec Ideal s .f32 :=
  mulf z (divf (broadcast s (Scalar.ofBits (F := Ideal) .f32 0x3F800000#32))
    (addf (broadcast s (Scalar.ofBits (F := Ideal) .f32 0x3F800000#32))
      (exp (subf (broadcast s (Scalar.ofBits (F := Ideal) .f32 0x00000000#32)) z))))

theorem gated_apply {s : Shape} (z : FVec Ideal s .f32) (i : s.Idx) : gated z i = z i * gate (z i) := by
  rw [← gate_eq]; rfl

abbrev D1 : DotDims S256x384 S384x512 S256x512 := DotDims.plain 256 384 512
abbrev D2 : DotDims S256x512 S512x512 S256x512 := DotDims.plain 256 512 512

/-- One group of channels of a block, as the body computes it. -/
def grp (hlt : FTy.bits .bf16 < FTy.bits .f32) (bd : FVec Ideal S256x384 .f32) (sz : FVec Ideal S256x1 .f32) (near : FVec Ideal S384x512 .bf16)
    (u z : FVec Ideal S256x512 .bf16) (wt : FVec Ideal S512x512 .bf16) (sc : FVec Ideal S1x512 .f32) (hb1 : S256x1.Broadcasts S256x512)
    (hb2 : S1x512.Broadcasts S256x512) : FVec Ideal S256x512 .bf16 :=
  truncf .bf16 (mulf (mulf (matmul (φ₁ := .bf16) (φ₂ := .bf16) D2 none
      (truncf .bf16 (subf (divf (matmul (φ₁ := .bf16) (φ₂ := .bf16) D1 none (truncf .bf16 bd hlt) near (constant S256x512 .f32 0x00000000#32))
        (broadcastTo S256x512 sz hb1)) (extf .f32 u hlt)) hlt) wt
      (constant S256x512 .f32 0x00000000#32)) (broadcastTo S256x512 sc hb2)) (gated (extf .f32 z hlt))) hlt

/-- A position of a group: the windowed mean less the position's own row, mixed, scaled and gated. -/
def mix {L : ℕ} (u : Fin L → Fin 512 → EReal) (w : Fin 512 → EReal) (sc z : EReal) (h l : ℤ) (t : ℤ) (own : Fin 512 → EReal) : EReal :=
  (∑ c : Fin 512, (Ideal.div (∑ k : Fin L, u k c * ind h l t k.val) (count h l t) - own c) * w c) * sc * (z * gate z)

theorem grp_apply (hlt : FTy.bits .bf16 < FTy.bits .f32) (bd : FVec Ideal S256x384 .f32) (sz : FVec Ideal S256x1 .f32) (near : FVec Ideal S384x512 .bf16) (u z : FVec Ideal S256x512 .bf16)
    (wt : FVec Ideal S512x512 .bf16) (sc : FVec Ideal S1x512 .f32) (hb1 hb2) (r : Fin 256) (d : Fin 512) :
    grp hlt bd sz near u z wt sc hb1 hb2 (ix2 r d)
      = (∑ c : Fin 512, (Ideal.div (∑ j : Fin 384, bd (ix2 r j) * near (ix2 j c)) (sz (ix2 r 0)) - u (ix2 r c)) * wt (ix2 c d))
        * sc (ix2 0 d) * (z (ix2 r d) * gate (z (ix2 r d))) := by
  have m1 : ∀ c : Fin 512, matmul (φ₁ := .bf16) (φ₂ := .bf16) D1 none bd near (constant S256x512 .f32 0x00000000#32) (ix2 r c)
      = ∑ j : Fin 384, bd (ix2 r j) * near (ix2 j c) := fun c => by
    refine (Ideal.matmul_plain_apply (M := 256) (K := 384) (N := 512) (φ₁ := .bf16) (φ₂ := .bf16) none bd near
      (constant S256x512 .f32 0x00000000#32) r c).trans ?_
    show Ideal.ofBits .f32 0x00000000#32 + _ = _
    rw [Ideal.ofBits_zero_f32, zero_add]
  have m2 : ∀ x : FVec Ideal S256x512 .bf16, matmul (φ₁ := .bf16) (φ₂ := .bf16) D2 none x wt (constant S256x512 .f32 0x00000000#32) (ix2 r d)
      = ∑ c : Fin 512, x (ix2 r c) * wt (ix2 c d) := fun x => by
    refine (Ideal.matmul_plain_apply (M := 256) (K := 512) (N := 512) (φ₁ := .bf16) (φ₂ := .bf16) none x wt
      (constant S256x512 .f32 0x00000000#32) r d).trans ?_
    show Ideal.ofBits .f32 0x00000000#32 + _ = _
    rw [Ideal.ofBits_zero_f32, zero_add]
  have b1 : ∀ c : Fin 512, broadcastTo S256x512 sz hb1 (ix2 r c) = sz (ix2 r 0) := fun c =>
    broadcastTo_apply _ _ _ (ix2 r 0) (fun a => by fin_cases a <;> rfl)
  have b2 : broadcastTo S256x512 sc hb2 (ix2 r d) = sc (ix2 0 d) :=
    broadcastTo_apply _ _ _ (ix2 0 d) (fun a => by fin_cases a <;> rfl)
  unfold grp
  show (matmul (φ₁ := .bf16) (φ₂ := .bf16) D2 none _ wt (constant S256x512 .f32 0x00000000#32) (ix2 r d)
    * broadcastTo S256x512 sc hb2 (ix2 r d)) * gated (s := S256x512) (extf .f32 z hlt) (ix2 r d) = _
  rw [gated_apply, b2, m2]
  show (∑ _, _) * _ * (z (ix2 r d) * gate (z (ix2 r d))) = _
  refine congrArg (fun x => x * _ * _) (Finset.sum_congr rfl fun c _ => congrArg (· * _) ?_)
  show Ideal.div (matmul (φ₁ := .bf16) (φ₂ := .bf16) D1 none bd near (constant S256x512 .f32 0x00000000#32) (ix2 r c))
    (broadcastTo S256x512 sz hb1 (ix2 r c)) - u (ix2 r c) = _
  rw [m1, b1]

end Cert.Pool

end

end
-- ==== Proof.PoolGate.lean ====
/-
  The pooled and attention branches of the image tokens (8192 rows, two images of 4096): the words of the positions a block's
  body computes (`row_apply`, `col_apply`, `pos_apply`), one group of channels of a block (`grpAt_apply`), the five pieces a
  body writes (`out_eq`), the rows near a block (`near_blk`), and the array after the run (`final`).
-/
module

public import proofs.«01_k».proof.Defs
public import proofs.«01_k».proof.Proof.Gen.Kernel14Ideal.Value
public import proofs.«01_k».proof.Proof.Gen.Reference14Ideal.Read
public import proofs.«01_k».proof.Proof.Pool
public import Idealize.ShloMosaic.Lib.Pipeline.ValueKit.Acc
public import Idealize.ShloMosaic.Lib.Pipeline.ValueKit.Tiles

@[expose] public section

noncomputable section

namespace Cert.PoolGate

open Idealize.ShloMosaic Idealize.ShloMosaic.TcCoe Idealize.SL.Sem Idealize.ShloMosaic.ValueIdx
open Cert.Kernel14Ideal Cert.Kernel14Ideal.Gen
open Cert.Pool (ind count gate mix)

/-- How far each group's window reaches back. -/
def half : Fin 4 → ℤ := ![1, 2, 4, 8]

/-- The last position of an image. -/
abbrev last : ℤ := 4095

theorem half_le (g : Fin 4) : 1 ≤ half g ∧ half g ≤ 8 := by fin_cases g <;> decide

/-- The word of the first position of a block, as the body computes it. -/
def baseWord (a : BitVec 32) : BitVec 32 :=
  Scalar.muli (Scalar.select
    (Scalar.andi (Scalar.xori (Scalar.cmpi .slt (Scalar.remsi a (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi a (Scalar.select (Scalar.cmpi .eq 16#32 0#32) 1#32 16#32)) 0#32))
    (Scalar.addi (Scalar.remsi a (Scalar.select (Scalar.cmpi .eq 16#32 0#32) 1#32 16#32)) (Scalar.select (Scalar.cmpi .eq 16#32 0#32) 1#32 16#32))
    (Scalar.remsi a (Scalar.select (Scalar.cmpi .eq 16#32 0#32) 1#32 16#32))) 256#32

/-- The first position of a point's block in its image. -/
def base (i : grid0.Coords) : ℤ := 256 * (((i 0).val % 16 : ℕ) : ℤ)

theorem baseWord_eq : ∀ a : Fin 32, baseWord (BitVec.ofNat 32 a.val) = BitVec.ofInt 32 (256 * ((a.val % 16 : ℕ) : ℤ)) := by
  decide +kernel

theorem base_lt (i : grid0.Coords) : 0 ≤ base i ∧ base i ≤ 3840 := by
  unfold base; omega

theorem row_apply (i : grid0.Coords) (r : Fin 256) (j : Fin 384) :
    k0_pay3 i (ix2 r j) = BitVec.ofInt 32 (base i + r.val) := by
  have e : iota .tc S256x384 32 [0] iota_S256x384_d0_w32 (ix2 r j) = BitVec.ofInt 32 (r.val : ℤ) :=
    (iota_single_apply .tc S256x384 32 0 iota_S256x384_d0_w32 (ix2 r j)).trans (BitVec.ofInt_natCast 32 r.val).symm
  have h : k0_pay3 i (ix2 r j) = IntOp.addi (iota .tc S256x384 32 [0] iota_S256x384_d0_w32 (ix2 r j)) (baseWord (BitVec.ofNat 32 (i 0).val)) := rfl
  rw [h, e, baseWord_eq (i 0), Cert.Pool.addi_ofInt, add_comm]
  rfl

theorem col_apply (i : grid0.Coords) (r : Fin 256) (j : Fin 384) :
    k0_pay4 i (ix2 r j) = BitVec.ofInt 32 (base i - 64 + j.val) := by
  have e : iota .tc S256x384 32 [1] iota_S256x384_d1_w32 (ix2 r j) = BitVec.ofInt 32 (j.val : ℤ) :=
    (iota_single_apply .tc S256x384 32 1 iota_S256x384_d1_w32 (ix2 r j)).trans (BitVec.ofInt_natCast 32 j.val).symm
  have z : (64#32 : BitVec 32) = BitVec.ofInt 32 64 := rfl
  have h : k0_pay4 i (ix2 r j) = IntOp.addi (iota .tc S256x384 32 [1] iota_S256x384_d1_w32 (ix2 r j)) (IntOp.subi (baseWord (BitVec.ofNat 32 (i 0).val)) 64#32) := rfl
  rw [h, e, baseWord_eq (i 0), z, Cert.Pool.subi_ofInt, Cert.Pool.addi_ofInt, add_comm]
  rfl

theorem pos_apply (i : grid0.Coords) (r : Fin 256) :
    k0_pay5 i (ix2 r 0) = BitVec.ofInt 32 (base i + r.val) := by
  have e : iota .tc S256x1 32 [0] iota_S256x1_d0_w32 (ix2 r 0) = BitVec.ofInt 32 (r.val : ℤ) :=
    (iota_single_apply .tc S256x1 32 0 iota_S256x1_d0_w32 (ix2 r 0)).trans (BitVec.ofInt_natCast 32 r.val).symm
  have h : k0_pay5 i (ix2 r 0) = IntOp.addi (iota .tc S256x1 32 [0] iota_S256x1_d0_w32 (ix2 r 0)) (baseWord (BitVec.ofNat 32 (i 0).val)) := rfl
  rw [h, e, baseWord_eq (i 0), Cert.Pool.addi_ofInt, add_comm]
  rfl

section
variable (i : grid0.Coords)

/-- One group of a block from the rows near it, with the window's words written out. -/
abbrev grpOf (h w : BitVec 32) (o : Nat) (ho : S384x2048.Slices ![0, o] S384x512) (near : FVec Ideal S384x2048 .bf16) (u z : Vec Ideal S256x512 .bf16)
    (wt : Vec Ideal S1x512x512 .bf16) (sc : Vec Ideal S1x512 .f32) : FVec Ideal S256x512 .bf16 :=
  Cert.Pool.grp bitsLt_bf16_f32 (Cert.Pool.band (k0_pay3 i) (k0_pay4 i) h w 4095#32) (Cert.Pool.sizes (k0_pay5 i) h w 4095#32)
    (extractStridedSlice S384x512 ![0, o] near ho) u z (shapeCast S512x512 wt shapeCasts_S1x512x512_S512x512)
    (shapeCast S1x512 sc shapeCasts_S1x512_S1x512) broadcasts_S256x1_S256x512 broadcasts_S1x512_S256x512

section
variable (near : FVec Ideal S384x2048 .bf16) (u z : Vec Ideal S256x512 .bf16) (wt : Vec Ideal S1x512x512 .bf16) (sc : Vec Ideal S1x512 .f32)

theorem pay_0 : k0_pay11 (F := Ideal) (k0_pay8 (F := Ideal) near (k0_pay5 i) (k0_pay6 i) (k0_pay7 i) u wt sc) (k0_pay9 (F := Ideal) z) (k0_pay10 (F := Ideal))
    = grpOf i 1#32 2#32 0 slices_S384x2048_o0_0_S384x512 near u z wt sc := rfl

theorem pay_1 : k0_pay15 (F := Ideal) (k0_pay12 (F := Ideal) near (k0_pay3 i) (k0_pay4 i)) (k0_pay13 (k0_pay5 i)) (k0_pay14 (k0_pay5 i)) u wt sc z
    = grpOf i 2#32 4#32 512 slices_S384x2048_o0_512_S384x512 near u z wt sc := rfl

theorem pay_2 : k0_pay19 (F := Ideal) (k0_pay18 (F := Ideal) near (k0_pay4 i) (k0_pay5 i) (k0_pay16 (k0_pay3 i)) (k0_pay17 (k0_pay3 i)) (8#32) u wt) sc z
    = grpOf i 4#32 8#32 1024 slices_S384x2048_o0_1024_S384x512 near u z wt sc := rfl

theorem pay_3 : k0_pay23 (F := Ideal) (k0_pay5 i) (k0_pay20 (F := Ideal) near (k0_pay3 i) (k0_pay4 i)) (k0_pay21 (k0_pay5 i)) k0_pay22 u wt sc z
    = grpOf i 8#32 16#32 1536 slices_S384x2048_o0_1536_S384x512 near u z wt sc := rfl

end

variable (x0 : Vec Ideal S256x2048 .bf16) (x1 : Vec Ideal S64x2048 .bf16) (x2 : Vec Ideal S64x2048 .bf16)
  (x3 : Vec Ideal S256x2048 .bf16) (x4 : Vec Ideal S256x2048 .bf16) (x5 : Vec Ideal S256x2048 .bf16) (x6 : Vec Ideal S4x512x512 .bf16)
  (x7 : Vec Ideal S1x2048 .f32)

theorem inb_cols (g : Fin 4) : ∀ a, (![0, 512 * g.val] : Fin 2 → Nat) a + S256x512.size a ≤ S256x2048.size a := by
  revert g; decide

theorem inb_scale (g : Fin 4) : ∀ a, (![0, 512 * g.val] : Fin 2 → Nat) a + S1x512.size a ≤ S1x2048.size a := by
  revert g; decide

theorem inb_mix (g : Fin 4) : ∀ a, (![g.val, 0, 0] : Fin 3 → Nat) a + S1x512x512.size a ≤ S4x512x512.size a := by
  revert g; decide

theorem inb_near (g : Fin 4) : S384x2048.Slices ![0, 512 * g.val] S384x512 := by
  revert g; decide

/-- The columns of a group. -/
abbrev cols (x : Vec Ideal S256x2048 .bf16) (g : Fin 4) : Vec Ideal S256x512 .bf16 :=
  View.ld (Val := Elt Ideal) (e' := .bf16) x (Rect.unit (s := S256x2048) ![0, 512 * g.val] S256x512.size (inb_cols g))

/-- One group of a block, as the body computes it. -/
def grpAt (g : Fin 4) : FVec Ideal S256x512 .f32 :=
  Cert.Pool.grp bitsLt_bf16_f32 (Cert.Pool.band (k0_pay3 i) (k0_pay4 i) (BitVec.ofInt 32 (half g)) (BitVec.ofInt 32 (2 * half g)) (BitVec.ofInt 32 last))
    (Cert.Pool.sizes (k0_pay5 i) (BitVec.ofInt 32 (half g)) (BitVec.ofInt 32 (2 * half g)) (BitVec.ofInt 32 last))
    (extractStridedSlice S384x512 ![0, 512 * g.val] (k0_pay2 (F := Ideal) x1 x0 x2) (inb_near g)) (cols x0 g) (cols x3 g)
    (shapeCast S512x512 (View.ld (Val := Elt Ideal) (e' := .bf16) x6 (Rect.unit (s := S4x512x512) ![g.val, 0, 0] S1x512x512.size (inb_mix g)))
      shapeCasts_S1x512x512_S512x512)
    (shapeCast S1x512 (View.ld (Val := Elt Ideal) (e' := .f32) x7 (Rect.unit (s := S1x2048) ![0, 512 * g.val] S1x512.size (inb_scale g)))
      shapeCasts_S1x512_S1x512)
    broadcasts_S256x1_S256x512 broadcasts_S1x512_S256x512

theorem grpAt_0 : grpAt i x0 x1 x2 x3 x6 x7 0 = grpOf i 1#32 2#32 0 slices_S384x2048_o0_0_S384x512 (k0_pay2 (F := Ideal) x1 x0 x2) (cols x0 0) (cols x3 0)
    (View.ld (Val := Elt Ideal) (e' := .bf16) x6 (Rect.unit (s := S4x512x512) ![0, 0, 0] S1x512x512.size (inb_mix 0)))
    (View.ld (Val := Elt Ideal) (e' := .f32) x7 (Rect.unit (s := S1x2048) ![0, 0] S1x512.size (inb_scale 0))) := by
  have e1 : BitVec.ofInt 32 (half 0) = 1#32 := by decide
  have e2 : BitVec.ofInt 32 (2 * half 0) = 2#32 := by decide
  have e3 : BitVec.ofInt 32 last = 4095#32 := by decide
  unfold grpAt
  rw [e1, e2, e3]
  rfl

theorem grpAt_1 : grpAt i x0 x1 x2 x3 x6 x7 1 = grpOf i 2#32 4#32 512 slices_S384x2048_o0_512_S384x512 (k0_pay2 (F := Ideal) x1 x0 x2) (cols x0 1) (cols x3 1)
    (View.ld (Val := Elt Ideal) (e' := .bf16) x6 (Rect.unit (s := S4x512x512) ![1, 0, 0] S1x512x512.size (inb_mix 1)))
    (View.ld (Val := Elt Ideal) (e' := .f32) x7 (Rect.unit (s := S1x2048) ![0, 512] S1x512.size (inb_scale 1))) := by
  have e1 : BitVec.ofInt 32 (half 1) = 2#32 := by decide
  have e2 : BitVec.ofInt 32 (2 * half 1) = 4#32 := by decide
  have e3 : BitVec.ofInt 32 last = 4095#32 := by decide
  unfold grpAt
  rw [e1, e2, e3]
  rfl

theorem grpAt_2 : grpAt i x0 x1 x2 x3 x6 x7 2 = grpOf i 4#32 8#32 1024 slices_S384x2048_o0_1024_S384x512 (k0_pay2 (F := Ideal) x1 x0 x2) (cols x0 2) (cols x3 2)
    (View.ld (Val := Elt Ideal) (e' := .bf16) x6 (Rect.unit (s := S4x512x512) ![2, 0, 0] S1x512x512.size (inb_mix 2)))
    (View.ld (Val := Elt Ideal) (e' := .f32) x7 (Rect.unit (s := S1x2048) ![0, 1024] S1x512.size (inb_scale 2))) := by
  have e1 : BitVec.ofInt 32 (half 2) = 4#32 := by decide
  have e2 : BitVec.ofInt 32 (2 * half 2) = 8#32 := by decide
  have e3 : BitVec.ofInt 32 last = 4095#32 := by decide
  unfold grpAt
  rw [e1, e2, e3]
  rfl

theorem grpAt_3 : grpAt i x0 x1 x2 x3 x6 x7 3 = grpOf i 8#32 16#32 1536 slices_S384x2048_o0_1536_S384x512 (k0_pay2 (F := Ideal) x1 x0 x2) (cols x0 3) (cols x3 3)
    (View.ld (Val := Elt Ideal) (e' := .bf16) x6 (Rect.unit (s := S4x512x512) ![3, 0, 0] S1x512x512.size (inb_mix 3)))
    (View.ld (Val := Elt Ideal) (e' := .f32) x7 (Rect.unit (s := S1x2048) ![0, 1536] S1x512.size (inb_scale 3))) := by
  have e1 : BitVec.ofInt 32 (half 3) = 8#32 := by decide
  have e2 : BitVec.ofInt 32 (2 * half 3) = 16#32 := by decide
  have e3 : BitVec.ofInt 32 last = 4095#32 := by decide
  unfold grpAt
  rw [e1, e2, e3]
  rfl

/-- The body's result at a point: four groups of the pooled branch and the attention branch. -/
theorem out_eq (c : Dev nD) (arg1 : Memref sig .tc .vmem S256x2048 .bf16) (harg1 : arg1.IsWhole) (arg2 : Memref sig .tc .vmem S64x2048 .bf16) (harg2 : arg2.IsWhole) (arg3 : Memref sig .tc .vmem S64x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x512x512 .bf16) (harg7 : arg7.IsWhole) (arg8 : Memref sig .tc .vmem S1x2048 .f32) (harg8 : arg8.IsWhole) (arg9 : Memref sig .tc .vmem S256x4096 .bf16) (harg9 : arg9.IsWhole) :
    out0_A_8 (F := Ideal) c i arg1 harg1 arg2 harg2 arg3 harg3 arg4 harg4 arg5 harg5 arg6 harg6 arg7 harg7 arg8 harg8 arg9 harg9 x0 x1 x2 x3 x4 x5 x6 x7
      = View.canon (Val := Elt Ideal) (s := S256x4096) (e := .bf16)
        [⟨Rect.unit (s := S256x4096) ![0, 2048] S256x2048.size inb_S256x4096_S256x2048_0_2048, k0_pay1 (F := Ideal) x4 x5⟩,
         ⟨Rect.unit (s := S256x4096) ![0, 1536] S256x512.size inb_S256x4096_S256x512_0_1536, grpAt i x0 x1 x2 x3 x6 x7 3⟩,
         ⟨Rect.unit (s := S256x4096) ![0, 1024] S256x512.size inb_S256x4096_S256x512_0_1024, grpAt i x0 x1 x2 x3 x6 x7 2⟩,
         ⟨Rect.unit (s := S256x4096) ![0, 512] S256x512.size inb_S256x4096_S256x512_0_512, grpAt i x0 x1 x2 x3 x6 x7 1⟩,
         ⟨Rect.unit (s := S256x4096) ![0, 0] S256x512.size inb_S256x4096_S256x512_0_0, grpAt i x0 x1 x2 x3 x6 x7 0⟩] := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  have hz2 : (![0, 0] : Fin 2 → Nat) = fun _ => 0 := funext fun a => by fin_cases a <;> rfl
  simp only [View.readAt_eq_ld, Memref.IsWhole.read_unread]
  rw [View.ld_unit_zero hz2, View.ld_unit_zero hz2, View.ld_unit_zero hz2, View.ld_unit_zero hz2, View.ld_unit_zero hz2]
  rw [pay_0, pay_1, pay_2, pay_3, grpAt_0, grpAt_1, grpAt_2, grpAt_3]
  rfl

/-- A channel of a group. -/
abbrev ch (g : Fin 4) (d : Fin 512) : Fin 2048 := ⟨512 * g.val + d.val, by omega⟩

theorem cols_apply (x : Vec Ideal S256x2048 .bf16) (g : Fin 4) (r : Fin 256) (d : Fin 512) : cols x g (ix2 r d) = x (ix2 r (ch g d)) := by
  refine View.ld_unit_apply_of x _ _ _ _ _ fun b => ?_
  match b with
  | ⟨0, _⟩ => show r.val = 0 + r.val; omega
  | ⟨1, _⟩ => rfl

/-- One group of a block at a row and a channel, from the rows of the image. -/
theorem grpAt_apply (g : Fin 4) (r : Fin 256) (d : Fin 512) (U : Fin 4096 → Fin 512 → EReal)
    (hU : ∀ (j : Fin 384) (k : Fin 4096), (k.val : ℤ) = base i - 64 + j.val → ∀ e : Fin 512, k0_pay2 (F := Ideal) x1 x0 x2 (ix2 j (ch g e)) = U k e) :
    grpAt i x0 x1 x2 x3 x6 x7 g (ix2 r d)
      = mix U (fun e => x6 (ix3 g e d)) (x7 (ix2 0 (ch g d))) (x3 (ix2 r (ch g d))) (half g) last (base i + r.val)
        (fun e => x0 (ix2 r (ch g e))) := by
  have hh := half_le g
  have hb := base_lt i
  have hwt : ∀ e : Fin 512, shapeCast S512x512 (View.ld (Val := Elt Ideal) (e' := .bf16) x6 (Rect.unit (s := S4x512x512) ![g.val, 0, 0] S1x512x512.size (inb_mix g)))
      shapeCasts_S1x512x512_S512x512 (ix2 e d) = x6 (ix3 g e d) := fun e => by
    refine (shapeCast_apply _ _ _ (ix3 0 e d) (by rw [Shape.rowMajor_val_three, Shape.rowMajor_val_two]; simp)).trans ?_
    refine View.ld_unit_apply_of x6 _ _ _ _ _ fun b => ?_
    match b with
    | ⟨0, _⟩ => rfl
    | ⟨1, _⟩ => show e.val = 0 + e.val; omega
    | ⟨2, _⟩ => show d.val = 0 + d.val; omega
  have hsc : shapeCast S1x512 (View.ld (Val := Elt Ideal) (e' := .f32) x7 (Rect.unit (s := S1x2048) ![0, 512 * g.val] S1x512.size (inb_scale g)))
      shapeCasts_S1x512_S1x512 (ix2 0 d) = x7 (ix2 0 (ch g d)) := by
    refine (shapeCast_apply _ _ _ (ix2 0 d) rfl).trans ?_
    refine View.ld_unit_apply_of x7 _ _ _ _ _ fun b => ?_
    match b with
    | ⟨0, _⟩ => rfl
    | ⟨1, _⟩ => rfl
  have hnear : ∀ (j : Fin 384) (e : Fin 512), extractStridedSlice S384x512 ![0, 512 * g.val] (k0_pay2 (F := Ideal) x1 x0 x2) (inb_near g) (ix2 j e)
      = k0_pay2 (F := Ideal) x1 x0 x2 (ix2 j (ch g e)) := fun j e => by
    refine extractStridedSlice_apply _ _ _ _ _ fun b => ?_
    match b with
    | ⟨0, _⟩ => show j.val = 0 + j.val; omega
    | ⟨1, _⟩ => rfl
  unfold grpAt
  refine (Cert.Pool.grp_apply _ _ _ _ _ _ _ _ _ _ r d).trans ?_
  rw [hsc, cols_apply]
  unfold mix
  refine congrArg (fun x => x * _ * _) (Finset.sum_congr rfl fun e _ => ?_)
  rw [hwt, cols_apply]
  refine congrArg (· * _) (congrArg (· - _) ?_)
  rw [Cert.Pool.sizes_apply (k0_pay5 i) (half g) last (ix2 r 0) (base i + r.val) (pos_apply i r) (by omega) hh (by unfold last; omega)]
  refine congrArg (Ideal.div · _) ?_
  rw [← Cert.Pool.band_sum (L := 4096) (N := 384) (half g) last (base i + r.val) (base i - 64) (by unfold last; norm_num) (fun k => U k e)
    (fun j => k0_pay2 (F := Ideal) x1 x0 x2 (ix2 j (ch g e))) (by omega) (by push_cast; omega) (fun j k h => hU j k h e)]
  refine Finset.sum_congr rfl fun j _ => ?_
  rw [hnear, Cert.Pool.band_apply (k0_pay3 i) (k0_pay4 i) (half g) last (ix2 r j) (base i + r.val) (base i - 64 + j.val) (row_apply i r j)
    (col_apply i r j) (by omega) (by omega) hh (by unfold last; omega)]

end

/-- The rows near a block: those of the block before, the block's own and those of the block after. -/
theorem near_apply (x1 x2 : Vec Ideal S64x2048 .bf16) (x0 : Vec Ideal S256x2048 .bf16) (j : Fin 384) (q : Fin 2048) :
    k0_pay2 (F := Ideal) x1 x0 x2 (ix2 j q) = if h : j.val < 64 then x1 (ix2 ⟨j.val, h⟩ q)
      else if h' : j.val < 320 then x0 (ix2 ⟨j.val - 64, by omega⟩ q) else x2 (ix2 ⟨j.val - 320, by omega⟩ q) := by
  unfold k0_pay2
  split_ifs with h h'
  · refine concatenate_apply_piece (t := S384x2048) 0 [⟨S64x2048, x1⟩, ⟨S256x2048, x0⟩, ⟨S64x2048, x2⟩] concatenates_S64x2048_S256x2048_S64x2048_S384x2048_d0 (ix2 j q) 0 (by simp) S64x2048 x1 rfl rfl 0 rfl
      (ix2 ⟨j.val, h⟩ q) (fun b hb => ?_) ?_
    · match b with
      | ⟨0, _⟩ => exact absurd rfl hb
      | ⟨1, _⟩ => rfl
    · show 0 + j.val = j.val; omega
  · refine concatenate_apply_piece (t := S384x2048) 0 [⟨S64x2048, x1⟩, ⟨S256x2048, x0⟩, ⟨S64x2048, x2⟩] concatenates_S64x2048_S256x2048_S64x2048_S384x2048_d0 (ix2 j q) 1 (by simp) S256x2048 x0 rfl rfl 64 rfl
      (ix2 ⟨j.val - 64, by omega⟩ q) (fun b hb => ?_) ?_
    · match b with
      | ⟨0, _⟩ => exact absurd rfl hb
      | ⟨1, _⟩ => rfl
    · show 64 + (j.val - 64) = j.val; omega
  · refine concatenate_apply_piece (t := S384x2048) 0 [⟨S64x2048, x1⟩, ⟨S256x2048, x0⟩, ⟨S64x2048, x2⟩] concatenates_S64x2048_S256x2048_S64x2048_S384x2048_d0 (ix2 j q) 2 (by simp) S64x2048 x2 rfl rfl 320 rfl
      (ix2 ⟨j.val - 320, by omega⟩ q) (fun b hb => ?_) ?_
    · match b with
      | ⟨0, _⟩ => exact absurd rfl hb
      | ⟨1, _⟩ => rfl
    · show 320 + (j.val - 320) = j.val; omega

/-- Under a piece that holds a column, the piece's own value. -/
theorem hit (o n : Nat) (h) (w : (Rect.unit (s := S256x4096) ![0, o] ![256, n] h).shape.Idx → Elt Ideal .bf16) (L : List (View.Piece (Elt Ideal) S256x4096 .bf16))
    (y : S256x4096.Idx) (r : Fin 256) (d : Fin n) (h0 : (y 0).val = r.val) (h1 : (y 1).val = o + d.val) :
    View.canon (Val := Elt Ideal) (⟨Rect.unit (s := S256x4096) ![0, o] ![256, n] h, w⟩ :: L) y = w (ix2 r d) := by
  have e : y = (Rect.unit (s := S256x4096) ![0, o] ![256, n] h).emb (ix2 r d) := funext fun a => Fin.ext (by
    match a with
    | ⟨0, _⟩ => show (y 0).val = 0 + 1 * r.val; omega
    | ⟨1, _⟩ => show (y 1).val = o + 1 * d.val; omega)
  rw [e]
  exact View.canon_cons_emb _ _ _ _

/-- Off a piece's columns, the earlier pieces. -/
theorem miss (o n : Nat) (h) (w : (Rect.unit (s := S256x4096) ![0, o] ![256, n] h).shape.Idx → Elt Ideal .bf16) (L : List (View.Piece (Elt Ideal) S256x4096 .bf16))
    (y : S256x4096.Idx) (h1 : (y 1).val < o ∨ o + n ≤ (y 1).val) :
    View.canon (Val := Elt Ideal) (⟨Rect.unit (s := S256x4096) ![0, o] ![256, n] h, w⟩ :: L) y = View.canon (Val := Elt Ideal) L y := by
  refine View.canon_cons_of_not_mem _ _ fun hm => ?_
  have hm' : y ∈ (Rect.unit (s := S256x4096) ![0, o] ![256, n] h).set := hm
  have h3 : o ≤ (y 1).val ∧ (y 1).val < o + n := Rect.mem_set_unit.mp hm' 1
  omega

section
variable (W : Vec Ideal S256x2048 .bf16) (P : Fin 4 → Vec Ideal S256x512 .bf16)

/-- The five pieces a body writes. -/
abbrev pieces : List (View.Piece (Elt Ideal) S256x4096 .bf16) :=
  [⟨Rect.unit (s := S256x4096) ![0, 2048] S256x2048.size inb_S256x4096_S256x2048_0_2048, W⟩,
   ⟨Rect.unit (s := S256x4096) ![0, 1536] S256x512.size inb_S256x4096_S256x512_0_1536, P 3⟩,
   ⟨Rect.unit (s := S256x4096) ![0, 1024] S256x512.size inb_S256x4096_S256x512_0_1024, P 2⟩,
   ⟨Rect.unit (s := S256x4096) ![0, 512] S256x512.size inb_S256x4096_S256x512_0_512, P 1⟩,
   ⟨Rect.unit (s := S256x4096) ![0, 0] S256x512.size inb_S256x4096_S256x512_0_0, P 0⟩]

/-- The attention half of what a body writes. -/
theorem pieces_attn (y : S256x4096.Idx) (r : Fin 256) (q : Fin 2048) (h0 : (y 0).val = r.val) (h1 : (y 1).val = 2048 + q.val) :
    View.canon (Val := Elt Ideal) (pieces W P) y = W (ix2 r q) := hit 2048 2048 _ _ _ y r q h0 h1

/-- A group of the pooled half of what a body writes. -/
theorem pieces_pool (y : S256x4096.Idx) (r : Fin 256) (g : Fin 4) (d : Fin 512) (h0 : (y 0).val = r.val) (h1 : (y 1).val = 512 * g.val + d.val) :
    View.canon (Val := Elt Ideal) (pieces W P) y = P g (ix2 r d) := by
  refine (miss 2048 2048 _ _ _ y (by omega)).trans ?_
  match g, h1 with
  | ⟨3, _⟩, h1 => exact hit 1536 512 _ _ _ y r d h0 h1
  | ⟨2, _⟩, h1 =>
    dsimp only at h1
    exact (miss 1536 512 _ _ _ y (by omega)).trans (hit 1024 512 _ _ _ y r d h0 h1)
  | ⟨1, _⟩, h1 =>
    dsimp only at h1
    exact (miss 1536 512 _ _ _ y (by omega)).trans ((miss 1024 512 _ _ _ y (by omega)).trans (hit 512 512 _ _ _ y r d h0 h1))
  | ⟨0, _⟩, h1 =>
    dsimp only at h1
    exact (miss 1536 512 _ _ _ y (by omega)).trans ((miss 1024 512 _ _ _ y (by omega)).trans ((miss 512 512 _ _ _ y (by omega)).trans
      (hit 0 512 _ _ _ y r d h0 h1)))
end

/-- The attention branch of a block. -/
theorem attn_apply (z y : Vec Ideal S256x2048 .bf16) (i : S256x2048.Idx) : k0_pay1 (F := Ideal) z y i = y i * (z i * gate (z i)) := by
  rw [← Cert.Pool.gate_eq]; rfl

/-- A token of an image, as a row of the latents. -/
abbrev tok (b : Fin 2) (k : Fin 4096) : Fin 8192 := ⟨4096 * b.val + k.val, by omega⟩

/-- A column of the projections' rows. -/
abbrev at20480 (o : Nat) (h : o + 2048 ≤ 20480) (q : Fin 2048) : Fin 20480 := ⟨o + q.val, by omega⟩

/-- The pooled branch at a token and a channel. -/
def Gpool (a0 : Vec Ideal S8192x20480 .bf16) (a2 : Vec Ideal S4x512x512 .f32) (a3 : Vec Ideal S2048 .f32) (b : Fin 2) (t : Fin 4096) (g : Fin 4) (d : Fin 512) : EReal :=
  mix (fun (k : Fin 4096) (e : Fin 512) => a0 (ix2 (tok b k) (at20480 0 (by decide) (ch g e)))) (fun e => a2 (ix3 g e d)) (a3 (ix1 (ch g d)))
    (a0 (ix2 (tok b t) (at20480 2048 (by decide) (ch g d)))) (half g) last (t.val : ℤ) (fun e => a0 (ix2 (tok b t) (at20480 0 (by decide) (ch g e))))

/-- The attention branch at a row and a channel. -/
def Gattn (a0 : Vec Ideal S8192x20480 .bf16) (a1 : Vec Ideal S8192x2048 .bf16) (n : Fin 8192) (q : Fin 2048) : EReal :=
  a1 (ix2 n q) * (a0 (ix2 n (at20480 10240 (by decide) q)) * gate (a0 (ix2 n (at20480 10240 (by decide) q))))

/-- The two gated branches side by side. -/
def G (a0 : Vec Ideal S8192x20480 .bf16) (a1 : Vec Ideal S8192x2048 .bf16) (a2 : Vec Ideal S4x512x512 .f32) (a3 : Vec Ideal S2048 .f32) :
    Vec Ideal S8192x4096 .bf16 := fun i =>
  have h0 : (i 0).val < 8192 := (i 0).isLt
  have h1 : (i 1).val < 4096 := (i 1).isLt
  if h : (i 1).val < 2048 then Gpool a0 a2 a3 ⟨(i 0).val / 4096, by omega⟩ ⟨(i 0).val % 4096, by omega⟩ ⟨(i 1).val / 512, by omega⟩ ⟨(i 1).val % 512, by omega⟩
  else Gattn a0 a1 ⟨(i 0).val, h0⟩ ⟨(i 1).val - 2048, by omega⟩

section
variable (a0 : Vec Ideal S8192x20480 .bf16) (a1 : Vec Ideal S8192x2048 .bf16) (a2 : Vec Ideal S4x512x512 .f32) (a3 : Vec Ideal S2048 .f32)

theorem G_pool (y : S8192x4096.Idx) (b : Fin 2) (t : Fin 4096) (g : Fin 4) (d : Fin 512) (h0 : (y 0).val = 4096 * b.val + t.val)
    (h1 : (y 1).val = 512 * g.val + d.val) : G a0 a1 a2 a3 y = Gpool a0 a2 a3 b t g d := by
  have e0 : ((y 0).val / 4096) = b.val := by omega
  have e1 : ((y 0).val % 4096) = t.val := by omega
  have e2 : ((y 1).val / 512) = g.val := by omega
  have e3 : ((y 1).val % 512) = d.val := by omega
  unfold G
  rw [dif_pos (by omega)]
  congr 1
  · exact Fin.ext e0
  · exact Fin.ext e1
  · exact Fin.ext e2
  · exact Fin.ext e3

theorem G_attn (y : S8192x4096.Idx) (n : Fin 8192) (q : Fin 2048) (h0 : (y 0).val = n.val) (h1 : (y 1).val = 2048 + q.val) :
    G a0 a1 a2 a3 y = Gattn a0 a1 n q := by
  unfold G
  rw [dif_neg (by omega)]
  exact congrArg₂ (Gattn a0 a1) (Fin.ext h0) (Fin.ext (by show (y 1).val - 2048 = q.val; omega))
end

variable (m : (ℓ : Loc nD τ sig) → Buf (Elt Ideal) ℓ)

/-- The mixing matrices when the region is entered: the given ones. -/
theorem V_mix (c : Dev nD) : V m c main_v0 = m ((c : Thread nD τ).loc main_arg2) := by
  show StableHlo.after hostOps0 _ (Proc.devRef .tc main_v0) = _
  after_results
  rfl

/-- The scales when the region is entered: in one row. -/
theorem V_scale (c : Dev nD) : V m c main_v1 = shapeCast S1x2048 (m ((c : Thread nD τ).loc main_arg3)) shapeCasts_S2048_S1x2048 := by
  show StableHlo.after hostOps0 _ (Proc.devRef .tc main_v1) = _
  after_results
  rfl

/-- The windows' block indices at a point. -/
theorem idx_facts : ∀ t : Fin cfg0.N,
    (grid0.coords t 0).val = t.val ∧ win0_0.index t 0 = t.val ∧ win0_0.index t 1 = 0 ∧ win0_1.index t 0 = 4 * t.val - 1 ∧ win0_1.index t 1 = 0
      ∧ win0_2.index t 0 = min (4 * (t.val + 1)) 127 ∧ win0_2.index t 1 = 0 ∧ win0_3.index t 0 = t.val ∧ win0_3.index t 1 = 1
      ∧ win0_4.index t 0 = t.val ∧ win0_4.index t 1 = 5 ∧ win0_5.index t 0 = t.val ∧ win0_5.index t 1 = 0
      ∧ win0_6.index t 0 = 0 ∧ win0_6.index t 1 = 0 ∧ win0_6.index t 2 = 0 ∧ win0_7.index t 0 = 0 ∧ win0_7.index t 1 = 0
      ∧ win0_8.index t 0 = t.val ∧ win0_8.index t 1 = 0 :=
  (by decide +kernel : ∀ t : Fin grid0.N,
    (grid0.coords t 0).val = t.val ∧ win0_0.index t 0 = t.val ∧ win0_0.index t 1 = 0 ∧ win0_1.index t 0 = 4 * t.val - 1 ∧ win0_1.index t 1 = 0
      ∧ win0_2.index t 0 = min (4 * (t.val + 1)) 127 ∧ win0_2.index t 1 = 0 ∧ win0_3.index t 0 = t.val ∧ win0_3.index t 1 = 1
      ∧ win0_4.index t 0 = t.val ∧ win0_4.index t 1 = 5 ∧ win0_5.index t 0 = t.val ∧ win0_5.index t 1 = 0
      ∧ win0_6.index t 0 = 0 ∧ win0_6.index t 1 = 0 ∧ win0_6.index t 2 = 0 ∧ win0_7.index t 0 = 0 ∧ win0_7.index t 1 = 0
      ∧ win0_8.index t 0 = t.val ∧ win0_8.index t 1 = 0)

section
variable (c : Dev nD) (t : Fin cfg0.N)

theorem t_lt : t.val < 32 := t.isLt

/-- The blocks at a point, by the rows and columns of the arrays they are cut from. -/
theorem blk0 (r : Fin 256) (q : Fin 2048) (n : Fin 8192) (hn : n.val = 256 * t.val + r.val) :
    iblk m c 0 t (ix2 r q) = m ((c : Thread nD τ).loc main_arg0) (ix2 n (at20480 0 (by decide) q)) := by
  obtain ⟨-, f0, f1, -⟩ := idx_facts t
  show V m c main_arg0 ((win0_0.rect t).emb (ix2 r q)) = _
  rw [V_main_arg0]
  refine congrArg _ (funext fun a => Fin.ext ?_)
  match a with
  | ⟨0, _⟩ => refine (win0_0.rect_emb_val t (ix2 r q) 0).trans ?_; rw [f0]; show t.val * 256 + r.val = n.val; omega
  | ⟨1, _⟩ => refine (win0_0.rect_emb_val t (ix2 r q) 1).trans ?_; rw [f1]; show 0 * 2048 + q.val = 0 + q.val; omega

theorem blk1 (j : Fin 64) (q : Fin 2048) (n : Fin 8192) (hn : n.val = (4 * t.val - 1) * 64 + j.val) :
    iblk m c 1 t (ix2 j q) = m ((c : Thread nD τ).loc main_arg0) (ix2 n (at20480 0 (by decide) q)) := by
  obtain ⟨-, -, -, f0, f1, -⟩ := idx_facts t
  show V m c main_arg0 ((win0_1.rect t).emb (ix2 j q)) = _
  rw [V_main_arg0]
  refine congrArg _ (funext fun a => Fin.ext ?_)
  match a with
  | ⟨0, _⟩ => refine (win0_1.rect_emb_val t (ix2 j q) 0).trans ?_; rw [f0]; show (4 * t.val - 1) * 64 + j.val = n.val; omega
  | ⟨1, _⟩ => refine (win0_1.rect_emb_val t (ix2 j q) 1).trans ?_; rw [f1]; show 0 * 2048 + q.val = 0 + q.val; omega

theorem blk2 (j : Fin 64) (q : Fin 2048) (n : Fin 8192) (hn : n.val = min (4 * (t.val + 1)) 127 * 64 + j.val) :
    iblk m c 2 t (ix2 j q) = m ((c : Thread nD τ).loc main_arg0) (ix2 n (at20480 0 (by decide) q)) := by
  obtain ⟨-, -, -, -, -, f0, f1, -⟩ := idx_facts t
  show V m c main_arg0 ((win0_2.rect t).emb (ix2 j q)) = _
  rw [V_main_arg0]
  refine congrArg _ (funext fun a => Fin.ext ?_)
  match a with
  | ⟨0, _⟩ => refine (win0_2.rect_emb_val t (ix2 j q) 0).trans ?_; rw [f0]; show min (4 * (t.val + 1)) 127 * 64 + j.val = n.val; omega
  | ⟨1, _⟩ => refine (win0_2.rect_emb_val t (ix2 j q) 1).trans ?_; rw [f1]; show 0 * 2048 + q.val = 0 + q.val; omega

theorem blk3 (r : Fin 256) (q : Fin 2048) (n : Fin 8192) (hn : n.val = 256 * t.val + r.val) :
    iblk m c 3 t (ix2 r q) = m ((c : Thread nD τ).loc main_arg0) (ix2 n (at20480 2048 (by decide) q)) := by
  obtain ⟨-, -, -, -, -, -, -, f0, f1, -⟩ := idx_facts t
  show V m c main_arg0 ((win0_3.rect t).emb (ix2 r q)) = _
  rw [V_main_arg0]
  refine congrArg _ (funext fun a => Fin.ext ?_)
  match a with
  | ⟨0, _⟩ => refine (win0_3.rect_emb_val t (ix2 r q) 0).trans ?_; rw [f0]; show t.val * 256 + r.val = n.val; omega
  | ⟨1, _⟩ => refine (win0_3.rect_emb_val t (ix2 r q) 1).trans ?_; rw [f1]; show 1 * 2048 + q.val = 2048 + q.val; omega

theorem blk4 (r : Fin 256) (q : Fin 2048) (n : Fin 8192) (hn : n.val = 256 * t.val + r.val) :
    iblk m c 4 t (ix2 r q) = m ((c : Thread nD τ).loc main_arg0) (ix2 n (at20480 10240 (by decide) q)) := by
  obtain ⟨-, -, -, -, -, -, -, -, -, f0, f1, -⟩ := idx_facts t
  show V m c main_arg0 ((win0_4.rect t).emb (ix2 r q)) = _
  rw [V_main_arg0]
  refine congrArg _ (funext fun a => Fin.ext ?_)
  match a with
  | ⟨0, _⟩ => refine (win0_4.rect_emb_val t (ix2 r q) 0).trans ?_; rw [f0]; show t.val * 256 + r.val = n.val; omega
  | ⟨1, _⟩ => refine (win0_4.rect_emb_val t (ix2 r q) 1).trans ?_; rw [f1]; show 5 * 2048 + q.val = 10240 + q.val; omega

theorem blk5 (r : Fin 256) (q : Fin 2048) (n : Fin 8192) (hn : n.val = 256 * t.val + r.val) :
    iblk m c 5 t (ix2 r q) = m ((c : Thread nD τ).loc main_arg1) (ix2 n q) := by
  obtain ⟨-, -, -, -, -, -, -, -, -, -, -, f0, f1, -⟩ := idx_facts t
  show V m c main_arg1 ((win0_5.rect t).emb (ix2 r q)) = _
  rw [V_main_arg1]
  refine congrArg _ (funext fun a => Fin.ext ?_)
  match a with
  | ⟨0, _⟩ => refine (win0_5.rect_emb_val t (ix2 r q) 0).trans ?_; rw [f0]; show t.val * 256 + r.val = n.val; omega
  | ⟨1, _⟩ => refine (win0_5.rect_emb_val t (ix2 r q) 1).trans ?_; rw [f1]; show 0 * 2048 + q.val = q.val; omega

theorem blk6 (g : Fin 4) (e d : Fin 512) : iblk m c 6 t (ix3 g e d) = m ((c : Thread nD τ).loc main_arg2) (ix3 g e d) := by
  obtain ⟨-, -, -, -, -, -, -, -, -, -, -, -, -, f0, f1, f2, -⟩ := idx_facts t
  show V m c main_v0 ((win0_6.rect t).emb (ix3 g e d)) = _
  rw [V_mix]
  refine congrArg _ (funext fun a => Fin.ext ?_)
  match a with
  | ⟨0, _⟩ => exact win0_6.rect_emb_val_of_index_zero t 0 f0 (ix3 g e d)
  | ⟨1, _⟩ => exact win0_6.rect_emb_val_of_index_zero t 1 f1 (ix3 g e d)
  | ⟨2, _⟩ => exact win0_6.rect_emb_val_of_index_zero t 2 f2 (ix3 g e d)

theorem blk7 (q : Fin 2048) : iblk m c 7 t (ix2 0 q) = m ((c : Thread nD τ).loc main_arg3) (ix1 q) := by
  obtain ⟨-, -, -, -, -, -, -, -, -, -, -, -, -, -, -, -, f0, f1, -⟩ := idx_facts t
  show V m c main_v1 ((win0_7.rect t).emb (ix2 0 q)) = _
  have e : (win0_7.rect t).emb (ix2 0 q) = ix2 0 q := funext fun a => Fin.ext (by
    match a with
    | ⟨0, _⟩ => exact win0_7.rect_emb_val_of_index_zero t 0 f0 (ix2 0 q)
    | ⟨1, _⟩ => exact win0_7.rect_emb_val_of_index_zero t 1 f1 (ix2 0 q))
  rw [V_scale, e]
  exact shapeCast_apply _ _ _ _ (by
    show ((S2048.rowMajor (ix1 q)).val : Nat) = (S1x2048.rowMajor (ix2 0 q)).val
    rw [Shape.rowMajor_val_two, Shape.rowMajor_val_one]; simp)

/-- The rows near a block are rows of its image, where the image has them. -/
theorem near_blk (b : Fin 2) (p : Nat) (hp : p < 16) (ht : t.val = 16 * b.val + p) (j : Fin 384) (k : Fin 4096)
    (h : (k.val : ℤ) = 256 * (p : ℤ) - 64 + j.val) (q : Fin 2048) :
    k0_pay2 (F := Ideal) (iblk m c 1 t) (iblk m c 0 t) (iblk m c 2 t) (ix2 j q) = m ((c : Thread nD τ).loc main_arg0) (ix2 (tok b k) (at20480 0 (by decide) q)) := by
  have hj := j.isLt
  have hk := k.isLt
  refine (near_apply _ _ _ j q).trans ?_
  split_ifs with h1 h2
  · exact blk1 m c t _ q _ (by show 4096 * b.val + k.val = (4 * t.val - 1) * 64 + j.val; omega)
  · exact blk0 m c t _ q _ (by show 4096 * b.val + k.val = 256 * t.val + (j.val - 64); omega)
  · exact blk2 m c t _ q _ (by show 4096 * b.val + k.val = min (4 * (t.val + 1)) 127 * 64 + (j.val - 320); omega)

/-- A group of a point's block is the pooled branch at the block's tokens. -/
theorem pool_at (b : Fin 2) (p : Nat) (hp : p < 16) (ht : t.val = 16 * b.val + p) (r : Fin 256) (k : Fin 4096) (hk : k.val = 256 * p + r.val) (g : Fin 4) (d : Fin 512) :
    grpAt (grid0.coords t) (iblk m c 0 t) (iblk m c 1 t) (iblk m c 2 t) (iblk m c 3 t) (iblk m c 6 t) (iblk m c 7 t) g (ix2 r d)
      = Gpool (m ((c : Thread nD τ).loc main_arg0)) (m ((c : Thread nD τ).loc main_arg2)) (m ((c : Thread nD τ).loc main_arg3)) b k g d := by
  have fc := (idx_facts t).1
  have hbase : base (grid0.coords t) = 256 * (p : ℤ) := by unfold base; rw [fc]; omega
  have hn : (tok b k).val = 256 * t.val + r.val := by show 4096 * b.val + k.val = _; omega
  refine (grpAt_apply (grid0.coords t) _ _ _ _ _ _ g r d (fun k e => m ((c : Thread nD τ).loc main_arg0) (ix2 (tok b k) (at20480 0 (by decide) (ch g e))))
    (fun j k h e => near_blk m c t b p hp ht j k (by rw [h, hbase]) _)).trans ?_
  have hpos : base (grid0.coords t) + ((r.val : ℕ) : ℤ) = ((k.val : ℕ) : ℤ) := by rw [hbase]; omega
  rw [blk3 m c t r (ch g d) (tok b k) hn, blk7, hpos]
  exact congrArg₂ (fun (w : Fin 512 → EReal) (o : Fin 512 → EReal) => mix (fun (k : Fin 4096) (e : Fin 512) => m ((c : Thread nD τ).loc main_arg0) (ix2 (tok b k) (at20480 0 (by decide) (ch g e))))
    w (m ((c : Thread nD τ).loc main_arg3) (ix1 (ch g d))) (m ((c : Thread nD τ).loc main_arg0) (ix2 (tok b k) (at20480 2048 (by decide) (ch g d)))) (half g) last (k.val : ℤ) o)
    (funext fun e => blk6 m c t g e d) (funext fun e => blk0 m c t r (ch g e) (tok b k) hn)

/-- The attention half of a point's block is the attention branch at the block's rows. -/
theorem attn_at (r : Fin 256) (q : Fin 2048) (n : Fin 8192) (hn : n.val = 256 * t.val + r.val) :
    k0_pay1 (F := Ideal) (iblk m c 4 t) (iblk m c 5 t) (ix2 r q) = Gattn (m ((c : Thread nD τ).loc main_arg0)) (m ((c : Thread nD τ).loc main_arg1)) n q := by
  refine (attn_apply _ _ (ix2 r q)).trans ?_
  unfold Gattn
  rw [blk4 m c t r q n hn, blk5 m c t r q n hn]

/-- What a point writes back, by its five pieces. -/
theorem flushed_pieces : (dats m 0 c).flushed 8 t = View.canon (Val := Elt Ideal) (pieces (k0_pay1 (F := Ideal) (iblk m c 4 t) (iblk m c 5 t))
    (grpAt (grid0.coords t) (iblk m c 0 t) (iblk m c 1 t) (iblk m c 2 t) (iblk m c 3 t) (iblk m c 6 t) (iblk m c 7 t))) := by
  rw [Value.flushed8_A]
  exact out_eq (grid0.coords t) (iblk m c 0 t) (iblk m c 1 t) (iblk m c 2 t) (iblk m c 3 t) (iblk m c 4 t) (iblk m c 5 t) (iblk m c 6 t) (iblk m c 7 t) c
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)

/-- What a point writes back is its block of the two gated branches. -/
theorem flushed_eq :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3))) := by
  obtain ⟨-, -, -, -, -, -, -, -, -, -, -, -, -, -, -, -, -, -, f0, f1⟩ := idx_facts t
  have ht := t_lt t
  rw [flushed_pieces]
  funext y
  have hy0 : (y 0).val < 256 := (y 0).isLt
  have hy1 : (y 1).val < 4096 := (y 1).isLt
  show _ = G _ _ _ _ ((win0_8.rect t).emb y)
  have g0 : ((win0_8.rect t).emb y 0 : Nat) = t.val * 256 + (y 0).val := by
    refine (win0_8.rect_emb_val t y 0).trans ?_
    rw [f0]; rfl
  have g1 : ((win0_8.rect t).emb y 1 : Nat) = (y 1).val := win0_8.rect_emb_val_of_index_zero t 1 f1 y
  obtain ⟨r, hr⟩ : ∃ r : Fin 256, (y 0).val = r.val := ⟨⟨_, hy0⟩, rfl⟩
  obtain ⟨b, p, hp, hb⟩ : ∃ (b : Fin 2) (p : Nat), p < 16 ∧ t.val = 16 * b.val + p := ⟨⟨t.val / 16, by omega⟩, t.val % 16, by omega, by dsimp only; omega⟩
  by_cases hq : (y 1).val < 2048
  · obtain ⟨g, d, hd⟩ : ∃ (g : Fin 4) (d : Fin 512), (y 1).val = 512 * g.val + d.val :=
      ⟨⟨(y 1).val / 512, by omega⟩, ⟨(y 1).val % 512, by omega⟩, by dsimp only; omega⟩
    obtain ⟨k, hk⟩ : ∃ k : Fin 4096, k.val = 256 * p + r.val := ⟨⟨256 * p + r.val, by omega⟩, rfl⟩
    exact (pieces_pool _ _ y r g d hr hd).trans ((pool_at m c t b p hp hb r k hk g d).trans
      (G_pool _ _ _ _ _ b k g d (by rw [g0]; omega) (by rw [g1]; omega)).symm)
  · obtain ⟨q, hd⟩ : ∃ q : Fin 2048, (y 1).val = 2048 + q.val := ⟨⟨(y 1).val - 2048, by omega⟩, by dsimp only; omega⟩
    obtain ⟨n, hn⟩ : ∃ n : Fin 8192, n.val = 256 * t.val + r.val := ⟨⟨256 * t.val + r.val, by omega⟩, rfl⟩
    exact (pieces_attn _ _ y r q hr hd).trans ((attn_at m c t r q n hn).trans
      (G_attn _ _ _ _ _ n q (by rw [g0]; omega) (by rw [g1]; omega)).symm)

/-- Every index of the result is in some point's block. -/
theorem cover (i : S8192x4096.Idx) : ∃ t : Fin cfg0.N, (cfg0.win 8).flush t = true ∧ i ∈ ((cfg0.win 8).blk t).view.set := by
  have h0 : (i 0 : Nat) < 8192 := (i 0).isLt
  have h1 : (i 1 : Nat) < 4096 := (i 1).isLt
  obtain ⟨t, ht⟩ : ∃ t : Fin cfg0.N, t.val = (i 0 : Nat) / 256 := ⟨⟨(i 0 : Nat) / 256, show (i 0 : Nat) / 256 < 32 by omega⟩, rfl⟩
  obtain ⟨-, -, -, -, -, -, -, -, -, -, -, -, -, -, -, -, -, -, f0, f1⟩ := idx_facts t
  refine ⟨t, flush0_8 t, ?_⟩
  show i ∈ ((View.whole main_v2).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [f0]; omega
  | ⟨1, _⟩ =>
    show win0_8.index t 1 * 4096 ≤ (i 1 : Nat) ∧ (i 1 : Nat) < win0_8.index t 1 * 4096 + 4096
    rw [f1]; omega

/-- The result array after the run is the two gated branches of the arguments. -/
theorem final : (dats m 0 c).arrAt 8 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed_eq m c t) cover
end

end Cert.PoolGate

end
-- ==== Proof.PoolGateRef.lean ====
/-
  The reference of the pooled and attention branches at one index, and the claim: the words of a window (`w11` to `w46`),
  the one at a position (`v40_at`), the windowed mean less the row (`v50_at`), and the two halves of the result (`ref_eq`).
-/
module

public import proofs.«01_k».proof.Proof.PoolGate

@[expose] public section

noncomputable section

namespace Cert.PoolGate

open Idealize.ShloMosaic Idealize.ShloMosaic.ValueIdx Idealize.ShloMosaic.TcCoe Idealize.SL.Sem Cert.Pool
open Cert.Kernel14Ideal Cert.Kernel14Ideal.Gen

section
open Cert.Reference14Ideal.Read

/-- The windows' half widths as words. -/
theorem w11 (i : Cert.Reference14Ideal.S4.Idx) (g : Fin 4) (h : (i 0).val = g.val) : val_main_v11 (F := Ideal) i = BitVec.ofInt 32 (half g) := by
  rw [val_main_v11_apply, val_main_v10_apply, val_main_c_apply, val_main_v9_apply, h]
  fin_cases g <;> decide

/-- Twice the half widths. -/
theorem w23 (i : Cert.Reference14Ideal.S1x4.Idx) (g : Fin 4) (h : (i 1).val = g.val) : val_main_v23 (F := Ideal) i = BitVec.ofInt 32 (2 * half g) := by
  rw [val_main_v23_apply, val_main_v22_apply, val_main_c_2_apply, val_main_v12_apply, w11 (idx_main_v12 i) g h]
  fin_cases g <;> decide

/-- A position as a word. -/
theorem w8 (i : Cert.Reference14Ideal.S4096.Idx) (k : Nat) (h : (i 0).val = k) : val_main_v8 (F := Ideal) i = BitVec.ofInt 32 (k : ℤ) := by
  rw [val_main_v8_apply, h]
  exact (BitVec.ofInt_natCast 32 k).symm

/-- The first position of a window. -/
theorem w17 (i : Cert.Reference14Ideal.S4096x4.Idx) (t : Fin 4096) (g : Fin 4) (h0 : (i 0).val = t.val) (h1 : (i 1).val = g.val) :
    val_main_v17 (F := Ideal) i = BitVec.ofInt 32 (lo (half g) (t.val : ℤ)) := by
  have hh := half_le g
  have ht := t.isLt
  rw [val_main_v17_apply, val_main_call0_v4_apply, val_main_call0_v3_apply, val_main_c_1_apply, val_main_call0_v2_apply, val_main_call0_v1_apply,
    val_main_call0_v0_apply, val_main_c_0_apply, val_main_v16_apply, val_main_v14_apply, val_main_v13_apply,
    w8 (idx_main_v13 (idx_main_v14 i)) t.val h0, val_main_v15_apply, val_main_v12_apply, w11 (idx_main_v12 (idx_main_v15 i)) g h1]
  show IntOp.minsi (BitVec.ofInt 32 4095) (IntOp.maxsi (BitVec.ofInt 32 0) _) = _
  rw [subi_ofInt, maxsi_ofInt (by unfold Cert.Pool.Small; omega) (by unfold Cert.Pool.Small; omega), minsi_ofInt (by unfold Cert.Pool.Small; omega) (by unfold Cert.Pool.Small; omega)]
  refine congrArg _ ?_
  unfold lo
  omega

/-- The last position of a window. -/
theorem w28 (i : Cert.Reference14Ideal.S4096x4.Idx) (t : Fin 4096) (g : Fin 4) (h0 : (i 0).val = t.val) (h1 : (i 1).val = g.val) :
    val_main_v28 (F := Ideal) i = BitVec.ofInt 32 (hi (half g) last (t.val : ℤ)) := by
  have hh := half_le g
  have ht := t.isLt
  rw [val_main_v28_apply, val_main_call1_v4_apply, val_main_call1_v3_apply, val_main_c_5_apply, val_main_call1_v2_apply, val_main_call1_v1_apply,
    val_main_call1_v0_apply, val_main_c_4_apply, val_main_v27_apply, val_main_v25_apply, val_main_v21_apply, val_main_v19_apply, val_main_v18_apply,
    w8 (idx_main_v18 (idx_main_v19 i)) t.val h0, val_main_v20_apply, val_main_v12_apply, w11 (idx_main_v12 (idx_main_v20 i)) g h1,
    val_main_v24_apply, w23 (idx_main_v24 i) g h1, val_main_v26_apply, val_main_c_3_apply]
  show IntOp.minsi (BitVec.ofInt 32 4095) (IntOp.maxsi (BitVec.ofInt 32 0) (IntOp.subi _ (BitVec.ofInt 32 1))) = _
  rw [subi_ofInt, addi_ofInt, subi_ofInt, maxsi_ofInt (by unfold Cert.Pool.Small; omega) (by unfold Cert.Pool.Small; omega), minsi_ofInt (by unfold Cert.Pool.Small; omega) (by unfold Cert.Pool.Small; omega)]
  refine congrArg _ ?_
  unfold hi last
  omega

/-- The size of a window. -/
theorem w46 (i : Cert.Reference14Ideal.S4096x4.Idx) (t : Fin 4096) (g : Fin 4) (h0 : (i 0).val = t.val) (h1 : (i 1).val = g.val) :
    val_main_v46 (F := Ideal) i = count (half g) last (t.val : ℤ) := by
  rw [val_main_v46_apply, val_main_v45_apply, val_main_v43_apply, w28 i t g h0 h1, w17 i t g h0 h1, val_main_v44_apply, val_main_c_7_apply]
  show FloatOps.sitofp (F := Ideal) .f32 (IntOp.addi (IntOp.subi _ _) (BitVec.ofInt 32 1)) = _
  rw [subi_ofInt, addi_ofInt]
  rfl

/-- One inside a window, zero outside. -/
theorem v40_at (i : Cert.Reference14Ideal.S4096x4096x4.Idx) (t s : Fin 4096) (g : Fin 4) (h0 : (i 0).val = t.val) (h1 : (i 1).val = s.val) (h2 : (i 2).val = g.val) :
    val_main_v40 (F := Ideal) i = ind (half g) last (t.val : ℤ) (s.val : ℤ) := by
  have hh := half_le g
  have ht := t.isLt
  have hs := s.isLt
  rw [val_main_v40_apply, val_main_v39_apply, val_main_v33_apply, val_main_v31_apply, val_main_v29_apply, w8 (idx_main_v29 (idx_main_v31 i)) s.val h1,
    val_main_v32_apply, val_main_v30_apply, w17 (idx_main_v30 (idx_main_v32 i)) t g h0 h2, val_main_v38_apply, val_main_v36_apply, val_main_v34_apply,
    w8 (idx_main_v34 (idx_main_v36 i)) s.val h1, val_main_v37_apply, val_main_v35_apply, w28 (idx_main_v35 (idx_main_v37 i)) t g h0 h2,
    val_main_call2_v0_apply, val_main_cst_apply, val_main_call2_v1_apply, val_main_cst_6_apply,
    sge_ofInt (by unfold Cert.Pool.Small; omega) (by unfold Cert.Pool.Small lo; omega), sle_ofInt (by unfold Cert.Pool.Small; omega) (by unfold Cert.Pool.Small hi last; omega)]
  show (if IntOp.andi _ _ = 1 then Ideal.ofBits .f32 0x3F800000#32 else Ideal.ofBits .f32 0x00000000#32) = _
  rw [pick, Ideal.ofBits_zero_f32, Ideal.ofBits_one_f32]
  rfl

variable (x0 : Vec Ideal Cert.Kernel14Ideal.S8192x20480 .bf16) (x1 : Vec Ideal Cert.Kernel14Ideal.S8192x2048 .bf16) (x2 : Vec Ideal Cert.Kernel14Ideal.S4x512x512 .f32) (x3 : Vec Ideal Cert.Kernel14Ideal.S2048 .f32)

/-- A third of the projections by image, token and channel. -/
theorem v1_at (i : Cert.Reference14Ideal.S2x4096x20480.Idx) (b : Fin 2) (t : Fin 4096) (q : Fin 20480) (h0 : (i 0).val = b.val) (h1 : (i 1).val = t.val) (h2 : (i 2).val = q.val) :
    val_main_v1 (F := Ideal) x0 i = x0 (ix2 (tok b t) q) := by
  have hq := q.isLt
  rw [val_main_v1_apply, val_main_v0_apply]
  refine congrArg x0 (funext fun a => Fin.ext ?_)
  match a with
  | ⟨0, _⟩ => show (((i 0).val * 4096 + (i 1).val) * 20480 + (i 2).val) / 20480 = 4096 * b.val + t.val; omega
  | ⟨1, _⟩ => show (((i 0).val * 4096 + (i 1).val) * 20480 + (i 2).val) % 20480 = q.val; omega

/-- The latents by image, token, group and channel of the group. -/
theorem v7_at (i : Cert.Reference14Ideal.S2x4096x4x512.Idx) (b : Fin 2) (t : Fin 4096) (g : Fin 4) (d : Fin 512)
    (h0 : (i 0).val = b.val) (h1 : (i 1).val = t.val) (h2 : (i 2).val = g.val) (h3 : (i 3).val = d.val) :
    val_main_v7 (F := Ideal) x0 i = x0 (ix2 (tok b t) (at20480 0 (by decide) (ch g d))) := by
  have hb := b.isLt
  have ht := t.isLt
  have hg := g.isLt
  have hd := d.isLt
  rw [val_main_v7_apply, val_main_v4_apply]
  refine v1_at x0 _ b t _ ?_ ?_ ?_
  · show ((((i 0).val * 4096 + (i 1).val) * 4 + (i 2).val) * 512 + (i 3).val) / 8388608 = b.val; omega
  · show ((((i 0).val * 4096 + (i 1).val) * 4 + (i 2).val) * 512 + (i 3).val) / 2048 % 4096 = t.val; omega
  · show ((((i 0).val * 4096 + (i 1).val) * 4 + (i 2).val) * 512 + (i 3).val) % 2048 = 0 + (512 * g.val + d.val); omega

/-- The windowed mean less the token's own row. -/
theorem v50_at (i : Cert.Reference14Ideal.S2x4096x4x512.Idx) (b : Fin 2) (t : Fin 4096) (g : Fin 4) (d : Fin 512)
    (h0 : (i 0).val = b.val) (h1 : (i 1).val = t.val) (h2 : (i 2).val = g.val) (h3 : (i 3).val = d.val) :
    val_main_v50 (F := Ideal) x0 i = Ideal.div (∑ k : Fin 4096, x0 (ix2 (tok b k) (at20480 0 (by decide) (ch g d))) * ind (half g) last (t.val : ℤ) (k.val : ℤ)) (count (half g) last (t.val : ℤ))
      - x0 (ix2 (tok b t) (at20480 0 (by decide) (ch g d))) := by
  rw [val_main_v50_apply, val_main_v49_apply, val_main_v42_apply, val_main_v41_apply, val_main_v48_apply, val_main_v47_apply,
    w46 (idx_main_v47 (idx_main_v48 i)) t g h1 h2, v7_at x0 i b t g d h0 h1 h2 h3]
  show Ideal.div (∑ k : Fin 4096, _) _ - _ = _
  refine congrArg (fun x => Ideal.div x _ - _) (Finset.sum_congr rfl fun k _ => ?_)
  rw [v7_at x0 (lidx_main_v41 (idx_main_v42 i) k) b k g d h0 rfl h2 h3, v40_at (ridx_main_v41 (idx_main_v42 i) k) t k g h1 rfl h2]

/-- The mixed windowed means. -/
theorem v53_at (i : Cert.Reference14Ideal.S2x4096x2048.Idx) (b : Fin 2) (t : Fin 4096) (g : Fin 4) (d : Fin 512)
    (h0 : (i 0).val = b.val) (h1 : (i 1).val = t.val) (h2 : (i 2).val = 512 * g.val + d.val) :
    val_main_v53 (F := Ideal) x0 x2 i = ∑ e : Fin 512, (Ideal.div (∑ k : Fin 4096, x0 (ix2 (tok b k) (at20480 0 (by decide) (ch g e))) * ind (half g) last (t.val : ℤ) (k.val : ℤ)) (count (half g) last (t.val : ℤ))
      - x0 (ix2 (tok b t) (at20480 0 (by decide) (ch g e)))) * x2 (ix3 g e d) := by
  have hb := b.isLt
  have ht := t.isLt
  have hg := g.isLt
  have hd := d.isLt
  have e0 : (((i 0).val * 4096 + (i 1).val) * 2048 + (i 2).val) / 8388608 = b.val := by omega
  have e1 : (((i 0).val * 4096 + (i 1).val) * 2048 + (i 2).val) / 2048 % 4096 = t.val := by omega
  have e2 : (((i 0).val * 4096 + (i 1).val) * 2048 + (i 2).val) / 512 % 4 = g.val := by omega
  have e3 : (((i 0).val * 4096 + (i 1).val) * 2048 + (i 2).val) % 512 = d.val := by omega
  rw [val_main_v53_apply, val_main_v52_apply, val_main_v51_apply]
  refine Finset.sum_congr rfl fun e _ => ?_
  rw [v50_at x0 (ridx_main_v51 (idx_main_v52 (idx_main_v53 i)) e) b t g e e0 e1 e2 rfl, mul_comm]
  refine congrArg (_ * ·) (congrArg x2 (funext fun a => Fin.ext ?_))
  match a with
  | ⟨0, _⟩ => exact e2
  | ⟨1, _⟩ => rfl
  | ⟨2, _⟩ => exact e3

/-- The gates. -/
theorem v57_at (i : Cert.Reference14Ideal.S2x4096x2048.Idx) (z : EReal) (h : val_main_v5 (F := Ideal) x0 i = z) : val_main_v57 (F := Ideal) x0 i = z * gate z := by
  rw [val_main_v57_apply, val_main_call3_v5_apply, val_main_call3_v4_apply, val_main_call3_cst_0_apply, val_main_call3_v3_apply, val_main_call3_v2_apply,
    val_main_call3_cst_apply, val_main_call3_v1_apply, val_main_call3_v0_apply, h]
  rfl

theorem v59_at (i : Cert.Reference14Ideal.S2x4096x2048.Idx) (z : EReal) (h : val_main_v6 (F := Ideal) x0 i = z) : val_main_v59 (F := Ideal) x0 i = z * gate z := by
  rw [val_main_v59_apply, val_main_call4_v5_apply, val_main_call4_v4_apply, val_main_call4_cst_0_apply, val_main_call4_v3_apply, val_main_call4_v2_apply,
    val_main_call4_cst_apply, val_main_call4_v1_apply, val_main_call4_v0_apply, h]
  rfl

/-- The pooled half. -/
theorem v58_at (i : Cert.Reference14Ideal.S2x4096x2048.Idx) (b : Fin 2) (t : Fin 4096) (g : Fin 4) (d : Fin 512)
    (h0 : (i 0).val = b.val) (h1 : (i 1).val = t.val) (h2 : (i 2).val = 512 * g.val + d.val) :
    val_main_v58 (F := Ideal) x0 x2 x3 i = Gpool x0 x2 x3 b t g d := by
  have h5 : val_main_v5 (F := Ideal) x0 i = x0 (ix2 (tok b t) (at20480 2048 (by decide) (ch g d))) := by
    rw [val_main_v5_apply]
    exact v1_at x0 _ b t _ h0 h1 (by show 2048 + (i 2).val = 2048 + (512 * g.val + d.val); omega)
  have h3 : val_main_v55 (F := Ideal) x3 i = x3 (ix1 (ch g d)) := by
    rw [val_main_v55_apply, val_main_v54_apply]
    refine congrArg x3 (funext fun a => Fin.ext ?_)
    match a with
    | ⟨0, _⟩ => exact h2
  rw [val_main_v58_apply, val_main_v56_apply, v53_at x0 x2 i b t g d h0 h1 h2, h3, v57_at x0 i _ h5]
  rfl

/-- The attention half. -/
theorem v60_at (i : Cert.Reference14Ideal.S2x4096x2048.Idx) (n : Fin 8192) (q : Fin 2048)
    (h0 : 4096 * (i 0).val + (i 1).val = n.val) (h2 : (i 2).val = q.val) :
    val_main_v60 (F := Ideal) x0 x1 i = Gattn x0 x1 n q := by
  have hq := q.isLt
  have hi0 : (i 0).val < 2 := (i 0).isLt
  have hi1 : (i 1).val < 4096 := (i 1).isLt
  have h6 : val_main_v6 (F := Ideal) x0 i = x0 (ix2 n (at20480 10240 (by decide) q)) := by
    rw [val_main_v6_apply]
    refine (v1_at x0 _ ⟨(i 0).val, hi0⟩ ⟨(i 1).val, hi1⟩ (at20480 10240 (by decide) q) rfl rfl (by show 10240 + (i 2).val = 10240 + q.val; omega)).trans ?_
    exact congrArg (fun k => x0 (ix2 k _)) (Fin.ext h0)
  have h3 : val_main_v3 (F := Ideal) x1 i = x1 (ix2 n q) := by
    rw [val_main_v3_apply, val_main_v2_apply]
    refine congrArg x1 (funext fun a => Fin.ext ?_)
    match a with
    | ⟨0, _⟩ => show (((i 0).val * 4096 + (i 1).val) * 2048 + (i 2).val) / 2048 = n.val; omega
    | ⟨1, _⟩ => show (((i 0).val * 4096 + (i 1).val) * 2048 + (i 2).val) % 2048 = q.val; omega
  rw [val_main_v60_apply, v59_at x0 i _ h6, h3]
  rfl

/-- The reference's result is the two gated branches of its arguments. -/
theorem ref_eq : val_main_v63 (F := Ideal) x0 x1 x2 x3 = G x0 x1 x2 x3 := by
  funext y
  have hy0 : (y 0).val < 8192 := (y 0).isLt
  have hy1 : (y 1).val < 4096 := (y 1).isLt
  obtain ⟨b, t, h0⟩ : ∃ (b : Fin 2) (t : Fin 4096), (y 0).val = 4096 * b.val + t.val :=
    ⟨⟨(y 0).val / 4096, by omega⟩, ⟨(y 0).val % 4096, by omega⟩, by dsimp only; omega⟩
  have hb := b.isLt
  have ht := t.isLt
  rw [val_main_v63_apply, val_main_v62_apply]
  show val_main_v61 (F := Ideal) x0 x1 x2 x3 (idx_main_v63 y) = _
  have j0 : (idx_main_v63 y 0).val = b.val := by show ((y 0).val * 4096 + (y 1).val) / 16777216 = b.val; omega
  have j1 : (idx_main_v63 y 1).val = t.val := by show ((y 0).val * 4096 + (y 1).val) / 4096 % 4096 = t.val; omega
  have j2 : (idx_main_v63 y 2).val = (y 1).val := by show ((y 0).val * 4096 + (y 1).val) % 4096 = (y 1).val; omega
  generalize idx_main_v63 y = j at j0 j1 j2 ⊢
  unfold val_main_v61
  by_cases hq : (y 1).val < 2048
  · obtain ⟨g, d, hd⟩ : ∃ (g : Fin 4) (d : Fin 512), (y 1).val = 512 * g.val + d.val :=
      ⟨⟨(y 1).val / 512, by omega⟩, ⟨(y 1).val % 512, by omega⟩, by dsimp only; omega⟩
    refine (concatenate_pair_apply_left (t := Cert.Reference14Ideal.S2x4096x4096) (s₁ := Cert.Reference14Ideal.S2x4096x2048) (s₂ := Cert.Reference14Ideal.S2x4096x2048)
      2 _ _ _ _ rfl (ix3 b t (ch g d)) (fun a => ?_)).trans ?_
    · match a with
      | ⟨0, _⟩ => exact j0.symm
      | ⟨1, _⟩ => exact j1.symm
      | ⟨2, _⟩ => exact (j2.trans hd).symm
    · exact (v58_at x0 x2 x3 (ix3 b t (ch g d)) b t g d rfl rfl rfl).trans (G_pool x0 x1 x2 x3 y b t g d h0 hd).symm
  · obtain ⟨q, hd⟩ : ∃ q : Fin 2048, (y 1).val = 2048 + q.val := ⟨⟨(y 1).val - 2048, by omega⟩, by dsimp only; omega⟩
    refine (concatenate_pair_apply_right (t := Cert.Reference14Ideal.S2x4096x4096) (s₁ := Cert.Reference14Ideal.S2x4096x2048) (s₂ := Cert.Reference14Ideal.S2x4096x2048)
      2 _ _ _ _ rfl rfl (ix3 b t q) (fun a ha => ?_) ?_).trans ?_
    · match a with
      | ⟨0, _⟩ => exact j0.symm
      | ⟨1, _⟩ => exact j1.symm
      | ⟨2, _⟩ => exact absurd rfl ha
    · show q.val + 2048 = (j 2).val; omega
    · exact (v60_at x0 x1 (ix3 b t q) (tok b t) q rfl rfl).trans (G_attn x0 x1 x2 x3 y (tok b t) q h0 hd).symm

end

/-- From equal arguments the gating kernel and its reference end with equal results, their arguments unchanged. -/
theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel14Ideal.defs _ _).mono (fun r h c => ⟨(h c).1.trans (final m c), (h c).2⟩)
      (Value.run_blocks (F := Ideal) m g)
  · refine (θ_run Cert.Reference14Ideal.defs _ _).mono (fun r h c => ?_) (Cert.Reference14Ideal.Value.run (F := Ideal) m' g')
    refine ⟨((h c).1.trans ?_), (h c).2⟩
    refine (Cert.Reference14Ideal.Read.val_main_v63_eq _ _).trans ?_
    rw [ref_eq, (hagree c).1, (hagree c).2.1, (hagree c).2.2.1, (hagree c).2.2.2]

end Cert.PoolGate

end
-- ==== Proof.PoolGateCtx.lean ====
/-
  The pooled and attention branches of the context tokens (512 rows, two rows of tokens of 256 each): as for the image tokens,
  with one block to a row of tokens, so that no position outside the block is inside a window.
-/
module

public import proofs.«01_k».proof.Defs
public import proofs.«01_k».proof.Proof.Gen.Kernel15Ideal.Value
public import proofs.«01_k».proof.Proof.Gen.Reference15Ideal.Read
public import proofs.«01_k».proof.Proof.PoolGate
public import Idealize.ShloMosaic.Lib.Pipeline.ValueKit.Acc
public import Idealize.ShloMosaic.Lib.Pipeline.ValueKit.Tiles

@[expose] public section

noncomputable section

namespace Cert.PoolGateCtx

open Idealize.ShloMosaic Idealize.ShloMosaic.TcCoe Idealize.SL.Sem Idealize.ShloMosaic.ValueIdx
open Cert.Kernel15Ideal Cert.Kernel15Ideal.Gen
open Cert.PoolGate (half half_le inb_cols inb_scale inb_mix inb_near cols ch cols_apply pieces pieces_attn pieces_pool at20480)
open Cert.Pool (ind count gate mix)

/-- The last position of an image. -/
abbrev last : ℤ := 255

/-- The word of the first position of a block, as the body computes it. -/
def baseWord (a : BitVec 32) : BitVec 32 :=
  Scalar.muli (Scalar.select
    (Scalar.andi (Scalar.xori (Scalar.cmpi .slt (Scalar.remsi a (Scalar.select (Scalar.cmpi .eq 1#32 0#32) 1#32 1#32)) 0#32)
      (Scalar.cmpi .slt (Scalar.select (Scalar.cmpi .eq 1#32 0#32) 1#32 1#32) 0#32))
      (Scalar.cmpi .ne (Scalar.remsi a (Scalar.select (Scalar.cmpi .eq 1#32 0#32) 1#32 1#32)) 0#32))
    (Scalar.addi (Scalar.remsi a (Scalar.select (Scalar.cmpi .eq 1#32 0#32) 1#32 1#32)) (Scalar.select (Scalar.cmpi .eq 1#32 0#32) 1#32 1#32))
    (Scalar.remsi a (Scalar.select (Scalar.cmpi .eq 1#32 0#32) 1#32 1#32))) 256#32

/-- The first position of a point's block in its image. -/
def base (i : grid0.Coords) : ℤ := 256 * (((i 0).val % 1 : ℕ) : ℤ)

theorem baseWord_eq : ∀ a : Fin 2, baseWord (BitVec.ofNat 32 a.val) = BitVec.ofInt 32 (256 * ((a.val % 1 : ℕ) : ℤ)) := by
  decide +kernel

theorem base_lt (i : grid0.Coords) : 0 ≤ base i ∧ base i ≤ 0 := by
  unfold base; omega

theorem row_apply (i : grid0.Coords) (r : Fin 256) (j : Fin 384) :
    k0_pay3 i (ix2 r j) = BitVec.ofInt 32 (base i + r.val) := by
  have e : iota .tc S256x384 32 [0] iota_S256x384_d0_w32 (ix2 r j) = BitVec.ofInt 32 (r.val : ℤ) :=
    (iota_single_apply .tc S256x384 32 0 iota_S256x384_d0_w32 (ix2 r j)).trans (BitVec.ofInt_natCast 32 r.val).symm
  have h : k0_pay3 i (ix2 r j) = IntOp.addi (iota .tc S256x384 32 [0] iota_S256x384_d0_w32 (ix2 r j)) (baseWord (BitVec.ofNat 32 (i 0).val)) := rfl
  rw [h, e, baseWord_eq (i 0), Cert.Pool.addi_ofInt, add_comm]
  rfl

theorem col_apply (i : grid0.Coords) (r : Fin 256) (j : Fin 384) :
    k0_pay4 i (ix2 r j) = BitVec.ofInt 32 (base i - 64 + j.val) := by
  have e : iota .tc S256x384 32 [1] iota_S256x384_d1_w32 (ix2 r j) = BitVec.ofInt 32 (j.val : ℤ) :=
    (iota_single_apply .tc S256x384 32 1 iota_S256x384_d1_w32 (ix2 r j)).trans (BitVec.ofInt_natCast 32 j.val).symm
  have z : (64#32 : BitVec 32) = BitVec.ofInt 32 64 := rfl
  have h : k0_pay4 i (ix2 r j) = IntOp.addi (iota .tc S256x384 32 [1] iota_S256x384_d1_w32 (ix2 r j)) (IntOp.subi (baseWord (BitVec.ofNat 32 (i 0).val)) 64#32) := rfl
  rw [h, e, baseWord_eq (i 0), z, Cert.Pool.subi_ofInt, Cert.Pool.addi_ofInt, add_comm]
  rfl

theorem pos_apply (i : grid0.Coords) (r : Fin 256) :
    k0_pay5 i (ix2 r 0) = BitVec.ofInt 32 (base i + r.val) := by
  have e : iota .tc S256x1 32 [0] iota_S256x1_d0_w32 (ix2 r 0) = BitVec.ofInt 32 (r.val : ℤ) :=
    (iota_single_apply .tc S256x1 32 0 iota_S256x1_d0_w32 (ix2 r 0)).trans (BitVec.ofInt_natCast 32 r.val).symm
  have h : k0_pay5 i (ix2 r 0) = IntOp.addi (iota .tc S256x1 32 [0] iota_S256x1_d0_w32 (ix2 r 0)) (baseWord (BitVec.ofNat 32 (i 0).val)) := rfl
  rw [h, e, baseWord_eq (i 0), Cert.Pool.addi_ofInt, add_comm]
  rfl

section
variable (i : grid0.Coords)

/-- One group of a block from the rows near it, with the window's words written out. -/
abbrev grpOf (h w : BitVec 32) (o : Nat) (ho : S384x2048.Slices ![0, o] S384x512) (near : FVec Ideal S384x2048 .bf16) (u z : Vec Ideal S256x512 .bf16)
    (wt : Vec Ideal S1x512x512 .bf16) (sc : Vec Ideal S1x512 .f32) : FVec Ideal S256x512 .bf16 :=
  Cert.Pool.grp bitsLt_bf16_f32 (Cert.Pool.band (k0_pay3 i) (k0_pay4 i) h w 255#32) (Cert.Pool.sizes (k0_pay5 i) h w 255#32)
    (extractStridedSlice S384x512 ![0, o] near ho) u z (shapeCast S512x512 wt shapeCasts_S1x512x512_S512x512)
    (shapeCast S1x512 sc shapeCasts_S1x512_S1x512) broadcasts_S256x1_S256x512 broadcasts_S1x512_S256x512

section
variable (near : FVec Ideal S384x2048 .bf16) (u z : Vec Ideal S256x512 .bf16) (wt : Vec Ideal S1x512x512 .bf16) (sc : Vec Ideal S1x512 .f32)

theorem pay_0 : k0_pay11 (F := Ideal) (k0_pay8 (F := Ideal) near (k0_pay5 i) (k0_pay6 i) (k0_pay7 i) u wt sc) (k0_pay9 (F := Ideal) z) (k0_pay10 (F := Ideal))
    = grpOf i 1#32 2#32 0 slices_S384x2048_o0_0_S384x512 near u z wt sc := rfl

theorem pay_1 : k0_pay15 (F := Ideal) (k0_pay12 (F := Ideal) near (k0_pay3 i) (k0_pay4 i)) (k0_pay13 (k0_pay5 i)) (k0_pay14 (k0_pay5 i)) u wt sc z
    = grpOf i 2#32 4#32 512 slices_S384x2048_o0_512_S384x512 near u z wt sc := rfl

theorem pay_2 : k0_pay19 (F := Ideal) (k0_pay18 (F := Ideal) near (k0_pay4 i) (k0_pay5 i) (k0_pay16 (k0_pay3 i)) (k0_pay17 (k0_pay3 i)) (8#32) u wt) sc z
    = grpOf i 4#32 8#32 1024 slices_S384x2048_o0_1024_S384x512 near u z wt sc := rfl

theorem pay_3 : k0_pay23 (F := Ideal) (k0_pay5 i) (k0_pay20 (F := Ideal) near (k0_pay3 i) (k0_pay4 i)) (k0_pay21 (k0_pay5 i)) k0_pay22 u wt sc z
    = grpOf i 8#32 16#32 1536 slices_S384x2048_o0_1536_S384x512 near u z wt sc := rfl

end

variable (x0 : Vec Ideal S256x2048 .bf16) (x1 : Vec Ideal S64x2048 .bf16) (x2 : Vec Ideal S64x2048 .bf16)
  (x3 : Vec Ideal S256x2048 .bf16) (x4 : Vec Ideal S256x2048 .bf16) (x5 : Vec Ideal S256x2048 .bf16) (x6 : Vec Ideal S4x512x512 .bf16)
  (x7 : Vec Ideal S1x2048 .f32)

/-- One group of a block, as the body computes it. -/
def grpAt (g : Fin 4) : FVec Ideal S256x512 .f32 :=
  Cert.Pool.grp bitsLt_bf16_f32 (Cert.Pool.band (k0_pay3 i) (k0_pay4 i) (BitVec.ofInt 32 (half g)) (BitVec.ofInt 32 (2 * half g)) (BitVec.ofInt 32 last))
    (Cert.Pool.sizes (k0_pay5 i) (BitVec.ofInt 32 (half g)) (BitVec.ofInt 32 (2 * half g)) (BitVec.ofInt 32 last))
    (extractStridedSlice S384x512 ![0, 512 * g.val] (k0_pay2 (F := Ideal) x1 x0 x2) (inb_near g)) (cols x0 g) (cols x3 g)
    (shapeCast S512x512 (View.ld (Val := Elt Ideal) (e' := .bf16) x6 (Rect.unit (s := S4x512x512) ![g.val, 0, 0] S1x512x512.size (inb_mix g)))
      shapeCasts_S1x512x512_S512x512)
    (shapeCast S1x512 (View.ld (Val := Elt Ideal) (e' := .f32) x7 (Rect.unit (s := S1x2048) ![0, 512 * g.val] S1x512.size (inb_scale g)))
      shapeCasts_S1x512_S1x512)
    broadcasts_S256x1_S256x512 broadcasts_S1x512_S256x512

theorem grpAt_0 : grpAt i x0 x1 x2 x3 x6 x7 0 = grpOf i 1#32 2#32 0 slices_S384x2048_o0_0_S384x512 (k0_pay2 (F := Ideal) x1 x0 x2) (cols x0 0) (cols x3 0)
    (View.ld (Val := Elt Ideal) (e' := .bf16) x6 (Rect.unit (s := S4x512x512) ![0, 0, 0] S1x512x512.size (inb_mix 0)))
    (View.ld (Val := Elt Ideal) (e' := .f32) x7 (Rect.unit (s := S1x2048) ![0, 0] S1x512.size (inb_scale 0))) := by
  have e1 : BitVec.ofInt 32 (half 0) = 1#32 := by decide
  have e2 : BitVec.ofInt 32 (2 * half 0) = 2#32 := by decide
  have e3 : BitVec.ofInt 32 last = 255#32 := by decide
  unfold grpAt
  rw [e1, e2, e3]
  rfl

theorem grpAt_1 : grpAt i x0 x1 x2 x3 x6 x7 1 = grpOf i 2#32 4#32 512 slices_S384x2048_o0_512_S384x512 (k0_pay2 (F := Ideal) x1 x0 x2) (cols x0 1) (cols x3 1)
    (View.ld (Val := Elt Ideal) (e' := .bf16) x6 (Rect.unit (s := S4x512x512) ![1, 0, 0] S1x512x512.size (inb_mix 1)))
    (View.ld (Val := Elt Ideal) (e' := .f32) x7 (Rect.unit (s := S1x2048) ![0, 512] S1x512.size (inb_scale 1))) := by
  have e1 : BitVec.ofInt 32 (half 1) = 2#32 := by decide
  have e2 : BitVec.ofInt 32 (2 * half 1) = 4#32 := by decide
  have e3 : BitVec.ofInt 32 last = 255#32 := by decide
  unfold grpAt
  rw [e1, e2, e3]
  rfl

theorem grpAt_2 : grpAt i x0 x1 x2 x3 x6 x7 2 = grpOf i 4#32 8#32 1024 slices_S384x2048_o0_1024_S384x512 (k0_pay2 (F := Ideal) x1 x0 x2) (cols x0 2) (cols x3 2)
    (View.ld (Val := Elt Ideal) (e' := .bf16) x6 (Rect.unit (s := S4x512x512) ![2, 0, 0] S1x512x512.size (inb_mix 2)))
    (View.ld (Val := Elt Ideal) (e' := .f32) x7 (Rect.unit (s := S1x2048) ![0, 1024] S1x512.size (inb_scale 2))) := by
  have e1 : BitVec.ofInt 32 (half 2) = 4#32 := by decide
  have e2 : BitVec.ofInt 32 (2 * half 2) = 8#32 := by decide
  have e3 : BitVec.ofInt 32 last = 255#32 := by decide
  unfold grpAt
  rw [e1, e2, e3]
  rfl

theorem grpAt_3 : grpAt i x0 x1 x2 x3 x6 x7 3 = grpOf i 8#32 16#32 1536 slices_S384x2048_o0_1536_S384x512 (k0_pay2 (F := Ideal) x1 x0 x2) (cols x0 3) (cols x3 3)
    (View.ld (Val := Elt Ideal) (e' := .bf16) x6 (Rect.unit (s := S4x512x512) ![3, 0, 0] S1x512x512.size (inb_mix 3)))
    (View.ld (Val := Elt Ideal) (e' := .f32) x7 (Rect.unit (s := S1x2048) ![0, 1536] S1x512.size (inb_scale 3))) := by
  have e1 : BitVec.ofInt 32 (half 3) = 8#32 := by decide
  have e2 : BitVec.ofInt 32 (2 * half 3) = 16#32 := by decide
  have e3 : BitVec.ofInt 32 last = 255#32 := by decide
  unfold grpAt
  rw [e1, e2, e3]
  rfl

/-- The body's result at a point: four groups of the pooled branch and the attention branch. -/
theorem out_eq (c : Dev nD) (arg1 : Memref sig .tc .vmem S256x2048 .bf16) (harg1 : arg1.IsWhole) (arg2 : Memref sig .tc .vmem S64x2048 .bf16) (harg2 : arg2.IsWhole) (arg3 : Memref sig .tc .vmem S64x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x512x512 .bf16) (harg7 : arg7.IsWhole) (arg8 : Memref sig .tc .vmem S1x2048 .f32) (harg8 : arg8.IsWhole) (arg9 : Memref sig .tc .vmem S256x4096 .bf16) (harg9 : arg9.IsWhole) :
    out0_A_8 (F := Ideal) c i arg1 harg1 arg2 harg2 arg3 harg3 arg4 harg4 arg5 harg5 arg6 harg6 arg7 harg7 arg8 harg8 arg9 harg9 x0 x1 x2 x3 x4 x5 x6 x7
      = View.canon (Val := Elt Ideal) (s := S256x4096) (e := .bf16)
        [⟨Rect.unit (s := S256x4096) ![0, 2048] S256x2048.size inb_S256x4096_S256x2048_0_2048, k0_pay1 (F := Ideal) x4 x5⟩,
         ⟨Rect.unit (s := S256x4096) ![0, 1536] S256x512.size inb_S256x4096_S256x512_0_1536, grpAt i x0 x1 x2 x3 x6 x7 3⟩,
         ⟨Rect.unit (s := S256x4096) ![0, 1024] S256x512.size inb_S256x4096_S256x512_0_1024, grpAt i x0 x1 x2 x3 x6 x7 2⟩,
         ⟨Rect.unit (s := S256x4096) ![0, 512] S256x512.size inb_S256x4096_S256x512_0_512, grpAt i x0 x1 x2 x3 x6 x7 1⟩,
         ⟨Rect.unit (s := S256x4096) ![0, 0] S256x512.size inb_S256x4096_S256x512_0_0, grpAt i x0 x1 x2 x3 x6 x7 0⟩] := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  have hz2 : (![0, 0] : Fin 2 → Nat) = fun _ => 0 := funext fun a => by fin_cases a <;> rfl
  simp only [View.readAt_eq_ld, Memref.IsWhole.read_unread]
  rw [View.ld_unit_zero hz2, View.ld_unit_zero hz2, View.ld_unit_zero hz2, View.ld_unit_zero hz2, View.ld_unit_zero hz2]
  rw [pay_0, pay_1, pay_2, pay_3, grpAt_0, grpAt_1, grpAt_2, grpAt_3]
  rfl

/-- One group of a block at a row and a channel, from the rows of the image. -/
theorem grpAt_apply (g : Fin 4) (r : Fin 256) (d : Fin 512) (U : Fin 256 → Fin 512 → EReal)
    (hU : ∀ (j : Fin 384) (k : Fin 256), (k.val : ℤ) = base i - 64 + j.val → ∀ e : Fin 512, k0_pay2 (F := Ideal) x1 x0 x2 (ix2 j (ch g e)) = U k e) :
    grpAt i x0 x1 x2 x3 x6 x7 g (ix2 r d)
      = mix U (fun e => x6 (ix3 g e d)) (x7 (ix2 0 (ch g d))) (x3 (ix2 r (ch g d))) (half g) last (base i + r.val)
        (fun e => x0 (ix2 r (ch g e))) := by
  have hh := half_le g
  have hb := base_lt i
  have hwt : ∀ e : Fin 512, shapeCast S512x512 (View.ld (Val := Elt Ideal) (e' := .bf16) x6 (Rect.unit (s := S4x512x512) ![g.val, 0, 0] S1x512x512.size (inb_mix g)))
      shapeCasts_S1x512x512_S512x512 (ix2 e d) = x6 (ix3 g e d) := fun e => by
    refine (shapeCast_apply _ _ _ (ix3 0 e d) (by rw [Shape.rowMajor_val_three, Shape.rowMajor_val_two]; simp)).trans ?_
    refine View.ld_unit_apply_of x6 _ _ _ _ _ fun b => ?_
    match b with
    | ⟨0, _⟩ => rfl
    | ⟨1, _⟩ => show e.val = 0 + e.val; omega
    | ⟨2, _⟩ => show d.val = 0 + d.val; omega
  have hsc : shapeCast S1x512 (View.ld (Val := Elt Ideal) (e' := .f32) x7 (Rect.unit (s := S1x2048) ![0, 512 * g.val] S1x512.size (inb_scale g)))
      shapeCasts_S1x512_S1x512 (ix2 0 d) = x7 (ix2 0 (ch g d)) := by
    refine (shapeCast_apply _ _ _ (ix2 0 d) rfl).trans ?_
    refine View.ld_unit_apply_of x7 _ _ _ _ _ fun b => ?_
    match b with
    | ⟨0, _⟩ => rfl
    | ⟨1, _⟩ => rfl
  have hnear : ∀ (j : Fin 384) (e : Fin 512), extractStridedSlice S384x512 ![0, 512 * g.val] (k0_pay2 (F := Ideal) x1 x0 x2) (inb_near g) (ix2 j e)
      = k0_pay2 (F := Ideal) x1 x0 x2 (ix2 j (ch g e)) := fun j e => by
    refine extractStridedSlice_apply _ _ _ _ _ fun b => ?_
    match b with
    | ⟨0, _⟩ => show j.val = 0 + j.val; omega
    | ⟨1, _⟩ => rfl
  unfold grpAt
  refine (Cert.Pool.grp_apply _ _ _ _ _ _ _ _ _ _ r d).trans ?_
  rw [hsc, cols_apply]
  unfold mix
  refine congrArg (fun x => x * _ * _) (Finset.sum_congr rfl fun e _ => ?_)
  rw [hwt, cols_apply]
  refine congrArg (· * _) (congrArg (· - _) ?_)
  rw [Cert.Pool.sizes_apply (k0_pay5 i) (half g) last (ix2 r 0) (base i + r.val) (pos_apply i r) (by omega) hh (by unfold last; omega)]
  refine congrArg (Ideal.div · _) ?_
  rw [← Cert.Pool.band_sum (L := 256) (N := 384) (half g) last (base i + r.val) (base i - 64) (by unfold last; norm_num) (fun k => U k e)
    (fun j => k0_pay2 (F := Ideal) x1 x0 x2 (ix2 j (ch g e))) (by omega) (by push_cast; omega) (fun j k h => hU j k h e)]
  refine Finset.sum_congr rfl fun j _ => ?_
  rw [hnear, Cert.Pool.band_apply (k0_pay3 i) (k0_pay4 i) (half g) last (ix2 r j) (base i + r.val) (base i - 64 + j.val) (row_apply i r j)
    (col_apply i r j) (by omega) (by omega) hh (by unfold last; omega)]

end

/-- The rows near a block: those of the block before, the block's own and those of the block after. -/
theorem near_apply (x1 x2 : Vec Ideal S64x2048 .bf16) (x0 : Vec Ideal S256x2048 .bf16) (j : Fin 384) (q : Fin 2048) :
    k0_pay2 (F := Ideal) x1 x0 x2 (ix2 j q) = if h : j.val < 64 then x1 (ix2 ⟨j.val, h⟩ q)
      else if h' : j.val < 320 then x0 (ix2 ⟨j.val - 64, by omega⟩ q) else x2 (ix2 ⟨j.val - 320, by omega⟩ q) := Cert.PoolGate.near_apply x1 x2 x0 j q

/-- The attention branch of a block. -/
theorem attn_apply (z y : Vec Ideal S256x2048 .bf16) (i : S256x2048.Idx) : k0_pay1 (F := Ideal) z y i = y i * (z i * gate (z i)) := Cert.PoolGate.attn_apply z y i

/-- A token of an image, as a row of the latents. -/
abbrev tok (b : Fin 2) (k : Fin 256) : Fin 512 := ⟨256 * b.val + k.val, by omega⟩

/-- The pooled branch at a token and a channel. -/
def Gpool (a0 : Vec Ideal S512x20480 .bf16) (a2 : Vec Ideal S4x512x512 .f32) (a3 : Vec Ideal S2048 .f32) (b : Fin 2) (t : Fin 256) (g : Fin 4) (d : Fin 512) : EReal :=
  mix (fun (k : Fin 256) (e : Fin 512) => a0 (ix2 (tok b k) (at20480 0 (by decide) (ch g e)))) (fun e => a2 (ix3 g e d)) (a3 (ix1 (ch g d)))
    (a0 (ix2 (tok b t) (at20480 2048 (by decide) (ch g d)))) (half g) last (t.val : ℤ) (fun e => a0 (ix2 (tok b t) (at20480 0 (by decide) (ch g e))))

/-- The attention branch at a row and a channel. -/
def Gattn (a0 : Vec Ideal S512x20480 .bf16) (a1 : Vec Ideal S512x2048 .bf16) (n : Fin 512) (q : Fin 2048) : EReal :=
  a1 (ix2 n q) * (a0 (ix2 n (at20480 10240 (by decide) q)) * gate (a0 (ix2 n (at20480 10240 (by decide) q))))

/-- The two gated branches side by side. -/
def G (a0 : Vec Ideal S512x20480 .bf16) (a1 : Vec Ideal S512x2048 .bf16) (a2 : Vec Ideal S4x512x512 .f32) (a3 : Vec Ideal S2048 .f32) :
    Vec Ideal S512x4096 .bf16 := fun i =>
  have h0 : (i 0).val < 512 := (i 0).isLt
  have h1 : (i 1).val < 4096 := (i 1).isLt
  if h : (i 1).val < 2048 then Gpool a0 a2 a3 ⟨(i 0).val / 256, by omega⟩ ⟨(i 0).val % 256, by omega⟩ ⟨(i 1).val / 512, by omega⟩ ⟨(i 1).val % 512, by omega⟩
  else Gattn a0 a1 ⟨(i 0).val, h0⟩ ⟨(i 1).val - 2048, by omega⟩

section
variable (a0 : Vec Ideal S512x20480 .bf16) (a1 : Vec Ideal S512x2048 .bf16) (a2 : Vec Ideal S4x512x512 .f32) (a3 : Vec Ideal S2048 .f32)

theorem G_pool (y : S512x4096.Idx) (b : Fin 2) (t : Fin 256) (g : Fin 4) (d : Fin 512) (h0 : (y 0).val = 256 * b.val + t.val)
    (h1 : (y 1).val = 512 * g.val + d.val) : G a0 a1 a2 a3 y = Gpool a0 a2 a3 b t g d := by
  have e0 : ((y 0).val / 256) = b.val := by omega
  have e1 : ((y 0).val % 256) = t.val := by omega
  have e2 : ((y 1).val / 512) = g.val := by omega
  have e3 : ((y 1).val % 512) = d.val := by omega
  unfold G
  rw [dif_pos (by omega)]
  congr 1
  · exact Fin.ext e0
  · exact Fin.ext e1
  · exact Fin.ext e2
  · exact Fin.ext e3

theorem G_attn (y : S512x4096.Idx) (n : Fin 512) (q : Fin 2048) (h0 : (y 0).val = n.val) (h1 : (y 1).val = 2048 + q.val) :
    G a0 a1 a2 a3 y = Gattn a0 a1 n q := by
  unfold G
  rw [dif_neg (by omega)]
  exact congrArg₂ (Gattn a0 a1) (Fin.ext h0) (Fin.ext (by show (y 1).val - 2048 = q.val; omega))
end

variable (m : (ℓ : Loc nD τ sig) → Buf (Elt Ideal) ℓ)

/-- The mixing matrices when the region is entered: the given ones. -/
theorem V_mix (c : Dev nD) : V m c main_v0 = m ((c : Thread nD τ).loc main_arg2) := by
  show StableHlo.after hostOps0 _ (Proc.devRef .tc main_v0) = _
  after_results
  rfl

/-- The scales when the region is entered: in one row. -/
theorem V_scale (c : Dev nD) : V m c main_v1 = shapeCast S1x2048 (m ((c : Thread nD τ).loc main_arg3)) shapeCasts_S2048_S1x2048 := by
  show StableHlo.after hostOps0 _ (Proc.devRef .tc main_v1) = _
  after_results
  rfl

/-- The windows' block indices at a point. -/
theorem idx_facts : ∀ t : Fin cfg0.N,
    (grid0.coords t 0).val = t.val ∧ win0_0.index t 0 = t.val ∧ win0_0.index t 1 = 0 ∧ win0_1.index t 0 = 4 * t.val - 1 ∧ win0_1.index t 1 = 0
      ∧ win0_2.index t 0 = min (4 * (t.val + 1)) 7 ∧ win0_2.index t 1 = 0 ∧ win0_3.index t 0 = t.val ∧ win0_3.index t 1 = 1
      ∧ win0_4.index t 0 = t.val ∧ win0_4.index t 1 = 5 ∧ win0_5.index t 0 = t.val ∧ win0_5.index t 1 = 0
      ∧ win0_6.index t 0 = 0 ∧ win0_6.index t 1 = 0 ∧ win0_6.index t 2 = 0 ∧ win0_7.index t 0 = 0 ∧ win0_7.index t 1 = 0
      ∧ win0_8.index t 0 = t.val ∧ win0_8.index t 1 = 0 :=
  (by decide +kernel : ∀ t : Fin grid0.N,
    (grid0.coords t 0).val = t.val ∧ win0_0.index t 0 = t.val ∧ win0_0.index t 1 = 0 ∧ win0_1.index t 0 = 4 * t.val - 1 ∧ win0_1.index t 1 = 0
      ∧ win0_2.index t 0 = min (4 * (t.val + 1)) 7 ∧ win0_2.index t 1 = 0 ∧ win0_3.index t 0 = t.val ∧ win0_3.index t 1 = 1
      ∧ win0_4.index t 0 = t.val ∧ win0_4.index t 1 = 5 ∧ win0_5.index t 0 = t.val ∧ win0_5.index t 1 = 0
      ∧ win0_6.index t 0 = 0 ∧ win0_6.index t 1 = 0 ∧ win0_6.index t 2 = 0 ∧ win0_7.index t 0 = 0 ∧ win0_7.index t 1 = 0
      ∧ win0_8.index t 0 = t.val ∧ win0_8.index t 1 = 0)

section
variable (c : Dev nD) (t : Fin cfg0.N)

theorem t_lt : t.val < 2 := t.isLt

/-- The blocks at a point, by the rows and columns of the arrays they are cut from. -/
theorem blk0 (r : Fin 256) (q : Fin 2048) (n : Fin 512) (hn : n.val = 256 * t.val + r.val) :
    iblk m c 0 t (ix2 r q) = m ((c : Thread nD τ).loc main_arg0) (ix2 n (at20480 0 (by decide) q)) := by
  obtain ⟨-, f0, f1, -⟩ := idx_facts t
  show V m c main_arg0 ((win0_0.rect t).emb (ix2 r q)) = _
  rw [V_main_arg0]
  refine congrArg _ (funext fun a => Fin.ext ?_)
  match a with
  | ⟨0, _⟩ => refine (win0_0.rect_emb_val t (ix2 r q) 0).trans ?_; rw [f0]; show t.val * 256 + r.val = n.val; omega
  | ⟨1, _⟩ => refine (win0_0.rect_emb_val t (ix2 r q) 1).trans ?_; rw [f1]; show 0 * 2048 + q.val = 0 + q.val; omega

theorem blk1 (j : Fin 64) (q : Fin 2048) (n : Fin 512) (hn : n.val = (4 * t.val - 1) * 64 + j.val) :
    iblk m c 1 t (ix2 j q) = m ((c : Thread nD τ).loc main_arg0) (ix2 n (at20480 0 (by decide) q)) := by
  obtain ⟨-, -, -, f0, f1, -⟩ := idx_facts t
  show V m c main_arg0 ((win0_1.rect t).emb (ix2 j q)) = _
  rw [V_main_arg0]
  refine congrArg _ (funext fun a => Fin.ext ?_)
  match a with
  | ⟨0, _⟩ => refine (win0_1.rect_emb_val t (ix2 j q) 0).trans ?_; rw [f0]; show (4 * t.val - 1) * 64 + j.val = n.val; omega
  | ⟨1, _⟩ => refine (win0_1.rect_emb_val t (ix2 j q) 1).trans ?_; rw [f1]; show 0 * 2048 + q.val = 0 + q.val; omega

theorem blk2 (j : Fin 64) (q : Fin 2048) (n : Fin 512) (hn : n.val = min (4 * (t.val + 1)) 7 * 64 + j.val) :
    iblk m c 2 t (ix2 j q) = m ((c : Thread nD τ).loc main_arg0) (ix2 n (at20480 0 (by decide) q)) := by
  obtain ⟨-, -, -, -, -, f0, f1, -⟩ := idx_facts t
  show V m c main_arg0 ((win0_2.rect t).emb (ix2 j q)) = _
  rw [V_main_arg0]
  refine congrArg _ (funext fun a => Fin.ext ?_)
  match a with
  | ⟨0, _⟩ => refine (win0_2.rect_emb_val t (ix2 j q) 0).trans ?_; rw [f0]; show min (4 * (t.val + 1)) 7 * 64 + j.val = n.val; omega
  | ⟨1, _⟩ => refine (win0_2.rect_emb_val t (ix2 j q) 1).trans ?_; rw [f1]; show 0 * 2048 + q.val = 0 + q.val; omega

theorem blk3 (r : Fin 256) (q : Fin 2048) (n : Fin 512) (hn : n.val = 256 * t.val + r.val) :
    iblk m c 3 t (ix2 r q) = m ((c : Thread nD τ).loc main_arg0) (ix2 n (at20480 2048 (by decide) q)) := by
  obtain ⟨-, -, -, -, -, -, -, f0, f1, -⟩ := idx_facts t
  show V m c main_arg0 ((win0_3.rect t).emb (ix2 r q)) = _
  rw [V_main_arg0]
  refine congrArg _ (funext fun a => Fin.ext ?_)
  match a with
  | ⟨0, _⟩ => refine (win0_3.rect_emb_val t (ix2 r q) 0).trans ?_; rw [f0]; show t.val * 256 + r.val = n.val; omega
  | ⟨1, _⟩ => refine (win0_3.rect_emb_val t (ix2 r q) 1).trans ?_; rw [f1]; show 1 * 2048 + q.val = 2048 + q.val; omega

theorem blk4 (r : Fin 256) (q : Fin 2048) (n : Fin 512) (hn : n.val = 256 * t.val + r.val) :
    iblk m c 4 t (ix2 r q) = m ((c : Thread nD τ).loc main_arg0) (ix2 n (at20480 10240 (by decide) q)) := by
  obtain ⟨-, -, -, -, -, -, -, -, -, f0, f1, -⟩ := idx_facts t
  show V m c main_arg0 ((win0_4.rect t).emb (ix2 r q)) = _
  rw [V_main_arg0]
  refine congrArg _ (funext fun a => Fin.ext ?_)
  match a with
  | ⟨0, _⟩ => refine (win0_4.rect_emb_val t (ix2 r q) 0).trans ?_; rw [f0]; show t.val * 256 + r.val = n.val; omega
  | ⟨1, _⟩ => refine (win0_4.rect_emb_val t (ix2 r q) 1).trans ?_; rw [f1]; show 5 * 2048 + q.val = 10240 + q.val; omega

theorem blk5 (r : Fin 256) (q : Fin 2048) (n : Fin 512) (hn : n.val = 256 * t.val + r.val) :
    iblk m c 5 t (ix2 r q) = m ((c : Thread nD τ).loc main_arg1) (ix2 n q) := by
  obtain ⟨-, -, -, -, -, -, -, -, -, -, -, f0, f1, -⟩ := idx_facts t
  show V m c main_arg1 ((win0_5.rect t).emb (ix2 r q)) = _
  rw [V_main_arg1]
  refine congrArg _ (funext fun a => Fin.ext ?_)
  match a with
  | ⟨0, _⟩ => refine (win0_5.rect_emb_val t (ix2 r q) 0).trans ?_; rw [f0]; show t.val * 256 + r.val = n.val; omega
  | ⟨1, _⟩ => refine (win0_5.rect_emb_val t (ix2 r q) 1).trans ?_; rw [f1]; show 0 * 2048 + q.val = q.val; omega

theorem blk6 (g : Fin 4) (e d : Fin 512) : iblk m c 6 t (ix3 g e d) = m ((c : Thread nD τ).loc main_arg2) (ix3 g e d) := by
  obtain ⟨-, -, -, -, -, -, -, -, -, -, -, -, -, f0, f1, f2, -⟩ := idx_facts t
  show V m c main_v0 ((win0_6.rect t).emb (ix3 g e d)) = _
  rw [V_mix]
  refine congrArg _ (funext fun a => Fin.ext ?_)
  match a with
  | ⟨0, _⟩ => exact win0_6.rect_emb_val_of_index_zero t 0 f0 (ix3 g e d)
  | ⟨1, _⟩ => exact win0_6.rect_emb_val_of_index_zero t 1 f1 (ix3 g e d)
  | ⟨2, _⟩ => exact win0_6.rect_emb_val_of_index_zero t 2 f2 (ix3 g e d)

theorem blk7 (q : Fin 2048) : iblk m c 7 t (ix2 0 q) = m ((c : Thread nD τ).loc main_arg3) (ix1 q) := by
  obtain ⟨-, -, -, -, -, -, -, -, -, -, -, -, -, -, -, -, f0, f1, -⟩ := idx_facts t
  show V m c main_v1 ((win0_7.rect t).emb (ix2 0 q)) = _
  have e : (win0_7.rect t).emb (ix2 0 q) = ix2 0 q := funext fun a => Fin.ext (by
    match a with
    | ⟨0, _⟩ => exact win0_7.rect_emb_val_of_index_zero t 0 f0 (ix2 0 q)
    | ⟨1, _⟩ => exact win0_7.rect_emb_val_of_index_zero t 1 f1 (ix2 0 q))
  rw [V_scale, e]
  exact shapeCast_apply _ _ _ _ (by
    show ((S2048.rowMajor (ix1 q)).val : Nat) = (S1x2048.rowMajor (ix2 0 q)).val
    rw [Shape.rowMajor_val_two, Shape.rowMajor_val_one]; simp)

/-- The rows near a block are rows of its image, where the image has them. -/
theorem near_blk (b : Fin 2) (p : Nat) (hp : p < 1) (ht : t.val = 1 * b.val + p) (j : Fin 384) (k : Fin 256)
    (h : (k.val : ℤ) = 256 * (p : ℤ) - 64 + j.val) (q : Fin 2048) :
    k0_pay2 (F := Ideal) (iblk m c 1 t) (iblk m c 0 t) (iblk m c 2 t) (ix2 j q) = m ((c : Thread nD τ).loc main_arg0) (ix2 (tok b k) (at20480 0 (by decide) q)) := by
  have hj := j.isLt
  have hk := k.isLt
  refine (near_apply _ _ _ j q).trans ?_
  split_ifs with h1 h2
  · exact blk1 m c t _ q _ (by show 256 * b.val + k.val = (4 * t.val - 1) * 64 + j.val; omega)
  · exact blk0 m c t _ q _ (by show 256 * b.val + k.val = 256 * t.val + (j.val - 64); omega)
  · exact blk2 m c t _ q _ (by show 256 * b.val + k.val = min (4 * (t.val + 1)) 7 * 64 + (j.val - 320); omega)

/-- A group of a point's block is the pooled branch at the block's tokens. -/
theorem pool_at (b : Fin 2) (p : Nat) (hp : p < 1) (ht : t.val = 1 * b.val + p) (r : Fin 256) (k : Fin 256) (hk : k.val = 256 * p + r.val) (g : Fin 4) (d : Fin 512) :
    grpAt (grid0.coords t) (iblk m c 0 t) (iblk m c 1 t) (iblk m c 2 t) (iblk m c 3 t) (iblk m c 6 t) (iblk m c 7 t) g (ix2 r d)
      = Gpool (m ((c : Thread nD τ).loc main_arg0)) (m ((c : Thread nD τ).loc main_arg2)) (m ((c : Thread nD τ).loc main_arg3)) b k g d := by
  have fc := (idx_facts t).1
  have hbase : base (grid0.coords t) = 256 * (p : ℤ) := by unfold base; rw [fc]; omega
  have hn : (tok b k).val = 256 * t.val + r.val := by show 256 * b.val + k.val = _; omega
  refine (grpAt_apply (grid0.coords t) _ _ _ _ _ _ g r d (fun k e => m ((c : Thread nD τ).loc main_arg0) (ix2 (tok b k) (at20480 0 (by decide) (ch g e))))
    (fun j k h e => near_blk m c t b p hp ht j k (by rw [h, hbase]) _)).trans ?_
  have hpos : base (grid0.coords t) + ((r.val : ℕ) : ℤ) = ((k.val : ℕ) : ℤ) := by rw [hbase]; omega
  rw [blk3 m c t r (ch g d) (tok b k) hn, blk7, hpos]
  exact congrArg₂ (fun (w : Fin 512 → EReal) (o : Fin 512 → EReal) => mix (fun (k : Fin 256) (e : Fin 512) => m ((c : Thread nD τ).loc main_arg0) (ix2 (tok b k) (at20480 0 (by decide) (ch g e))))
    w (m ((c : Thread nD τ).loc main_arg3) (ix1 (ch g d))) (m ((c : Thread nD τ).loc main_arg0) (ix2 (tok b k) (at20480 2048 (by decide) (ch g d)))) (half g) last (k.val : ℤ) o)
    (funext fun e => blk6 m c t g e d) (funext fun e => blk0 m c t r (ch g e) (tok b k) hn)

/-- The attention half of a point's block is the attention branch at the block's rows. -/
theorem attn_at (r : Fin 256) (q : Fin 2048) (n : Fin 512) (hn : n.val = 256 * t.val + r.val) :
    k0_pay1 (F := Ideal) (iblk m c 4 t) (iblk m c 5 t) (ix2 r q) = Gattn (m ((c : Thread nD τ).loc main_arg0)) (m ((c : Thread nD τ).loc main_arg1)) n q := by
  refine (attn_apply _ _ (ix2 r q)).trans ?_
  unfold Gattn
  rw [blk4 m c t r q n hn, blk5 m c t r q n hn]

/-- What a point writes back, by its five pieces. -/
theorem flushed_pieces : (dats m 0 c).flushed 8 t = View.canon (Val := Elt Ideal) (pieces (k0_pay1 (F := Ideal) (iblk m c 4 t) (iblk m c 5 t))
    (grpAt (grid0.coords t) (iblk m c 0 t) (iblk m c 1 t) (iblk m c 2 t) (iblk m c 3 t) (iblk m c 6 t) (iblk m c 7 t))) := by
  rw [Value.flushed8_A]
  exact out_eq (grid0.coords t) (iblk m c 0 t) (iblk m c 1 t) (iblk m c 2 t) (iblk m c 3 t) (iblk m c 4 t) (iblk m c 5 t) (iblk m c 6 t) (iblk m c 7 t) c
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)

/-- What a point writes back is its block of the two gated branches. -/
theorem flushed_eq :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3))) := by
  obtain ⟨-, -, -, -, -, -, -, -, -, -, -, -, -, -, -, -, -, -, f0, f1⟩ := idx_facts t
  have ht := t_lt t
  rw [flushed_pieces]
  funext y
  have hy0 : (y 0).val < 256 := (y 0).isLt
  have hy1 : (y 1).val < 4096 := (y 1).isLt
  show _ = G _ _ _ _ ((win0_8.rect t).emb y)
  have g0 : ((win0_8.rect t).emb y 0 : Nat) = t.val * 256 + (y 0).val := by
    refine (win0_8.rect_emb_val t y 0).trans ?_
    rw [f0]; rfl
  have g1 : ((win0_8.rect t).emb y 1 : Nat) = (y 1).val := win0_8.rect_emb_val_of_index_zero t 1 f1 y
  obtain ⟨r, hr⟩ : ∃ r : Fin 256, (y 0).val = r.val := ⟨⟨_, hy0⟩, rfl⟩
  obtain ⟨b, p, hp, hb⟩ : ∃ (b : Fin 2) (p : Nat), p < 1 ∧ t.val = 1 * b.val + p := ⟨⟨t.val / 1, by omega⟩, t.val % 1, by omega, by dsimp only; omega⟩
  by_cases hq : (y 1).val < 2048
  · obtain ⟨g, d, hd⟩ : ∃ (g : Fin 4) (d : Fin 512), (y 1).val = 512 * g.val + d.val :=
      ⟨⟨(y 1).val / 512, by omega⟩, ⟨(y 1).val % 512, by omega⟩, by dsimp only; omega⟩
    obtain ⟨k, hk⟩ : ∃ k : Fin 256, k.val = 256 * p + r.val := ⟨⟨256 * p + r.val, by omega⟩, rfl⟩
    exact (pieces_pool _ _ y r g d hr hd).trans ((pool_at m c t b p hp hb r k hk g d).trans
      (G_pool _ _ _ _ _ b k g d (by rw [g0]; omega) (by rw [g1]; omega)).symm)
  · obtain ⟨q, hd⟩ : ∃ q : Fin 2048, (y 1).val = 2048 + q.val := ⟨⟨(y 1).val - 2048, by omega⟩, by dsimp only; omega⟩
    obtain ⟨n, hn⟩ : ∃ n : Fin 512, n.val = 256 * t.val + r.val := ⟨⟨256 * t.val + r.val, by omega⟩, rfl⟩
    exact (pieces_attn _ _ y r q hr hd).trans ((attn_at m c t r q n hn).trans
      (G_attn _ _ _ _ _ n q (by rw [g0]; omega) (by rw [g1]; omega)).symm)

/-- Every index of the result is in some point's block. -/
theorem cover (i : S512x4096.Idx) : ∃ t : Fin cfg0.N, (cfg0.win 8).flush t = true ∧ i ∈ ((cfg0.win 8).blk t).view.set := by
  have h0 : (i 0 : Nat) < 512 := (i 0).isLt
  have h1 : (i 1 : Nat) < 4096 := (i 1).isLt
  obtain ⟨t, ht⟩ : ∃ t : Fin cfg0.N, t.val = (i 0 : Nat) / 256 := ⟨⟨(i 0 : Nat) / 256, show (i 0 : Nat) / 256 < 2 by omega⟩, rfl⟩
  obtain ⟨-, -, -, -, -, -, -, -, -, -, -, -, -, -, -, -, -, -, f0, f1⟩ := idx_facts t
  refine ⟨t, flush0_8 t, ?_⟩
  show i ∈ ((View.whole main_v2).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [f0]; omega
  | ⟨1, _⟩ =>
    show win0_8.index t 1 * 4096 ≤ (i 1 : Nat) ∧ (i 1 : Nat) < win0_8.index t 1 * 4096 + 4096
    rw [f1]; omega

/-- The result array after the run is the two gated branches of the arguments. -/
theorem final : (dats m 0 c).arrAt 8 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed_eq m c t) cover
end

end Cert.PoolGateCtx

end
-- ==== Proof.PoolGateCtxRef.lean ====
/-
  The reference of the pooled and attention branches at one index, and the claim: the words of a window (`w11` to `w46`),
  the one at a position (`v40_at`), the windowed mean less the row (`v50_at`), and the two halves of the result (`ref_eq`).
-/
module

public import proofs.«01_k».proof.Proof.PoolGateCtx

@[expose] public section

noncomputable section

namespace Cert.PoolGateCtx

open Idealize.ShloMosaic Idealize.ShloMosaic.ValueIdx Idealize.ShloMosaic.TcCoe Idealize.SL.Sem Cert.Pool
open Cert.PoolGate (half half_le ch at20480)
open Cert.Kernel15Ideal Cert.Kernel15Ideal.Gen

section
open Cert.Reference15Ideal.Read

/-- The windows' half widths as words. -/
theorem w11 (i : Cert.Reference15Ideal.S4.Idx) (g : Fin 4) (h : (i 0).val = g.val) : val_main_v11 (F := Ideal) i = BitVec.ofInt 32 (half g) := by
  rw [val_main_v11_apply, val_main_v10_apply, val_main_c_apply, val_main_v9_apply, h]
  fin_cases g <;> decide

/-- Twice the half widths. -/
theorem w23 (i : Cert.Reference15Ideal.S1x4.Idx) (g : Fin 4) (h : (i 1).val = g.val) : val_main_v23 (F := Ideal) i = BitVec.ofInt 32 (2 * half g) := by
  rw [val_main_v23_apply, val_main_v22_apply, val_main_c_2_apply, val_main_v12_apply, w11 (idx_main_v12 i) g h]
  fin_cases g <;> decide

/-- A position as a word. -/
theorem w8 (i : Cert.Reference15Ideal.S256.Idx) (k : Nat) (h : (i 0).val = k) : val_main_v8 (F := Ideal) i = BitVec.ofInt 32 (k : ℤ) := by
  rw [val_main_v8_apply, h]
  exact (BitVec.ofInt_natCast 32 k).symm

/-- The first position of a window. -/
theorem w17 (i : Cert.Reference15Ideal.S256x4.Idx) (t : Fin 256) (g : Fin 4) (h0 : (i 0).val = t.val) (h1 : (i 1).val = g.val) :
    val_main_v17 (F := Ideal) i = BitVec.ofInt 32 (lo (half g) (t.val : ℤ)) := by
  have hh := half_le g
  have ht := t.isLt
  rw [val_main_v17_apply, val_main_call0_v4_apply, val_main_call0_v3_apply, val_main_c_1_apply, val_main_call0_v2_apply, val_main_call0_v1_apply,
    val_main_call0_v0_apply, val_main_c_0_apply, val_main_v16_apply, val_main_v14_apply, val_main_v13_apply,
    w8 (idx_main_v13 (idx_main_v14 i)) t.val h0, val_main_v15_apply, val_main_v12_apply, w11 (idx_main_v12 (idx_main_v15 i)) g h1]
  show IntOp.minsi (BitVec.ofInt 32 255) (IntOp.maxsi (BitVec.ofInt 32 0) _) = _
  rw [subi_ofInt, maxsi_ofInt (by unfold Cert.Pool.Small; omega) (by unfold Cert.Pool.Small; omega), minsi_ofInt (by unfold Cert.Pool.Small; omega) (by unfold Cert.Pool.Small; omega)]
  refine congrArg _ ?_
  unfold lo
  omega

/-- The last position of a window. -/
theorem w28 (i : Cert.Reference15Ideal.S256x4.Idx) (t : Fin 256) (g : Fin 4) (h0 : (i 0).val = t.val) (h1 : (i 1).val = g.val) :
    val_main_v28 (F := Ideal) i = BitVec.ofInt 32 (hi (half g) last (t.val : ℤ)) := by
  have hh := half_le g
  have ht := t.isLt
  rw [val_main_v28_apply, val_main_call1_v4_apply, val_main_call1_v3_apply, val_main_c_5_apply, val_main_call1_v2_apply, val_main_call1_v1_apply,
    val_main_call1_v0_apply, val_main_c_4_apply, val_main_v27_apply, val_main_v25_apply, val_main_v21_apply, val_main_v19_apply, val_main_v18_apply,
    w8 (idx_main_v18 (idx_main_v19 i)) t.val h0, val_main_v20_apply, val_main_v12_apply, w11 (idx_main_v12 (idx_main_v20 i)) g h1,
    val_main_v24_apply, w23 (idx_main_v24 i) g h1, val_main_v26_apply, val_main_c_3_apply]
  show IntOp.minsi (BitVec.ofInt 32 255) (IntOp.maxsi (BitVec.ofInt 32 0) (IntOp.subi _ (BitVec.ofInt 32 1))) = _
  rw [subi_ofInt, addi_ofInt, subi_ofInt, maxsi_ofInt (by unfold Cert.Pool.Small; omega) (by unfold Cert.Pool.Small; omega), minsi_ofInt (by unfold Cert.Pool.Small; omega) (by unfold Cert.Pool.Small; omega)]
  refine congrArg _ ?_
  unfold hi last
  omega

/-- The size of a window. -/
theorem w46 (i : Cert.Reference15Ideal.S256x4.Idx) (t : Fin 256) (g : Fin 4) (h0 : (i 0).val = t.val) (h1 : (i 1).val = g.val) :
    val_main_v46 (F := Ideal) i = count (half g) last (t.val : ℤ) := by
  rw [val_main_v46_apply, val_main_v45_apply, val_main_v43_apply, w28 i t g h0 h1, w17 i t g h0 h1, val_main_v44_apply, val_main_c_7_apply]
  show FloatOps.sitofp (F := Ideal) .f32 (IntOp.addi (IntOp.subi _ _) (BitVec.ofInt 32 1)) = _
  rw [subi_ofInt, addi_ofInt]
  rfl

/-- One inside a window, zero outside. -/
theorem v40_at (i : Cert.Reference15Ideal.S256x256x4.Idx) (t s : Fin 256) (g : Fin 4) (h0 : (i 0).val = t.val) (h1 : (i 1).val = s.val) (h2 : (i 2).val = g.val) :
    val_main_v40 (F := Ideal) i = ind (half g) last (t.val : ℤ) (s.val : ℤ) := by
  have hh := half_le g
  have ht := t.isLt
  have hs := s.isLt
  rw [val_main_v40_apply, val_main_v39_apply, val_main_v33_apply, val_main_v31_apply, val_main_v29_apply, w8 (idx_main_v29 (idx_main_v31 i)) s.val h1,
    val_main_v32_apply, val_main_v30_apply, w17 (idx_main_v30 (idx_main_v32 i)) t g h0 h2, val_main_v38_apply, val_main_v36_apply, val_main_v34_apply,
    w8 (idx_main_v34 (idx_main_v36 i)) s.val h1, val_main_v37_apply, val_main_v35_apply, w28 (idx_main_v35 (idx_main_v37 i)) t g h0 h2,
    val_main_call2_v0_apply, val_main_cst_apply, val_main_call2_v1_apply, val_main_cst_6_apply,
    sge_ofInt (by unfold Cert.Pool.Small; omega) (by unfold Cert.Pool.Small lo; omega), sle_ofInt (by unfold Cert.Pool.Small; omega) (by unfold Cert.Pool.Small hi last; omega)]
  show (if IntOp.andi _ _ = 1 then Ideal.ofBits .f32 0x3F800000#32 else Ideal.ofBits .f32 0x00000000#32) = _
  rw [pick, Ideal.ofBits_zero_f32, Ideal.ofBits_one_f32]
  rfl

variable (x0 : Vec Ideal Cert.Kernel15Ideal.S512x20480 .bf16) (x1 : Vec Ideal Cert.Kernel15Ideal.S512x2048 .bf16) (x2 : Vec Ideal Cert.Kernel15Ideal.S4x512x512 .f32) (x3 : Vec Ideal Cert.Kernel15Ideal.S2048 .f32)

/-- A third of the projections by image, token and channel. -/
theorem v1_at (i : Cert.Reference15Ideal.S2x256x20480.Idx) (b : Fin 2) (t : Fin 256) (q : Fin 20480) (h0 : (i 0).val = b.val) (h1 : (i 1).val = t.val) (h2 : (i 2).val = q.val) :
    val_main_v1 (F := Ideal) x0 i = x0 (ix2 (tok b t) q) := by
  have hq := q.isLt
  rw [val_main_v1_apply, val_main_v0_apply]
  refine congrArg x0 (funext fun a => Fin.ext ?_)
  match a with
  | ⟨0, _⟩ => show (((i 0).val * 256 + (i 1).val) * 20480 + (i 2).val) / 20480 = 256 * b.val + t.val; omega
  | ⟨1, _⟩ => show (((i 0).val * 256 + (i 1).val) * 20480 + (i 2).val) % 20480 = q.val; omega

/-- The latents by image, token, group and channel of the group. -/
theorem v7_at (i : Cert.Reference15Ideal.S2x256x4x512.Idx) (b : Fin 2) (t : Fin 256) (g : Fin 4) (d : Fin 512)
    (h0 : (i 0).val = b.val) (h1 : (i 1).val = t.val) (h2 : (i 2).val = g.val) (h3 : (i 3).val = d.val) :
    val_main_v7 (F := Ideal) x0 i = x0 (ix2 (tok b t) (at20480 0 (by decide) (ch g d))) := by
  have hb := b.isLt
  have ht := t.isLt
  have hg := g.isLt
  have hd := d.isLt
  rw [val_main_v7_apply, val_main_v4_apply]
  refine v1_at x0 _ b t _ ?_ ?_ ?_
  · show ((((i 0).val * 256 + (i 1).val) * 4 + (i 2).val) * 512 + (i 3).val) / 524288 = b.val; omega
  · show ((((i 0).val * 256 + (i 1).val) * 4 + (i 2).val) * 512 + (i 3).val) / 2048 % 256 = t.val; omega
  · show ((((i 0).val * 256 + (i 1).val) * 4 + (i 2).val) * 512 + (i 3).val) % 2048 = 0 + (512 * g.val + d.val); omega

/-- The windowed mean less the token's own row. -/
theorem v50_at (i : Cert.Reference15Ideal.S2x256x4x512.Idx) (b : Fin 2) (t : Fin 256) (g : Fin 4) (d : Fin 512)
    (h0 : (i 0).val = b.val) (h1 : (i 1).val = t.val) (h2 : (i 2).val = g.val) (h3 : (i 3).val = d.val) :
    val_main_v50 (F := Ideal) x0 i = Ideal.div (∑ k : Fin 256, x0 (ix2 (tok b k) (at20480 0 (by decide) (ch g d))) * ind (half g) last (t.val : ℤ) (k.val : ℤ)) (count (half g) last (t.val : ℤ))
      - x0 (ix2 (tok b t) (at20480 0 (by decide) (ch g d))) := by
  rw [val_main_v50_apply, val_main_v49_apply, val_main_v42_apply, val_main_v41_apply, val_main_v48_apply, val_main_v47_apply,
    w46 (idx_main_v47 (idx_main_v48 i)) t g h1 h2, v7_at x0 i b t g d h0 h1 h2 h3]
  show Ideal.div (∑ k : Fin 256, _) _ - _ = _
  refine congrArg (fun x => Ideal.div x _ - _) (Finset.sum_congr rfl fun k _ => ?_)
  rw [v7_at x0 (lidx_main_v41 (idx_main_v42 i) k) b k g d h0 rfl h2 h3, v40_at (ridx_main_v41 (idx_main_v42 i) k) t k g h1 rfl h2]

/-- The mixed windowed means. -/
theorem v53_at (i : Cert.Reference15Ideal.S2x256x2048.Idx) (b : Fin 2) (t : Fin 256) (g : Fin 4) (d : Fin 512)
    (h0 : (i 0).val = b.val) (h1 : (i 1).val = t.val) (h2 : (i 2).val = 512 * g.val + d.val) :
    val_main_v53 (F := Ideal) x0 x2 i = ∑ e : Fin 512, (Ideal.div (∑ k : Fin 256, x0 (ix2 (tok b k) (at20480 0 (by decide) (ch g e))) * ind (half g) last (t.val : ℤ) (k.val : ℤ)) (count (half g) last (t.val : ℤ))
      - x0 (ix2 (tok b t) (at20480 0 (by decide) (ch g e)))) * x2 (ix3 g e d) := by
  have hb := b.isLt
  have ht := t.isLt
  have hg := g.isLt
  have hd := d.isLt
  have e0 : (((i 0).val * 256 + (i 1).val) * 2048 + (i 2).val) / 524288 = b.val := by omega
  have e1 : (((i 0).val * 256 + (i 1).val) * 2048 + (i 2).val) / 2048 % 256 = t.val := by omega
  have e2 : (((i 0).val * 256 + (i 1).val) * 2048 + (i 2).val) / 512 % 4 = g.val := by omega
  have e3 : (((i 0).val * 256 + (i 1).val) * 2048 + (i 2).val) % 512 = d.val := by omega
  rw [val_main_v53_apply, val_main_v52_apply, val_main_v51_apply]
  refine Finset.sum_congr rfl fun e _ => ?_
  rw [v50_at x0 (ridx_main_v51 (idx_main_v52 (idx_main_v53 i)) e) b t g e e0 e1 e2 rfl, mul_comm]
  refine congrArg (_ * ·) (congrArg x2 (funext fun a => Fin.ext ?_))
  match a with
  | ⟨0, _⟩ => exact e2
  | ⟨1, _⟩ => rfl
  | ⟨2, _⟩ => exact e3

/-- The gates. -/
theorem v57_at (i : Cert.Reference15Ideal.S2x256x2048.Idx) (z : EReal) (h : val_main_v5 (F := Ideal) x0 i = z) : val_main_v57 (F := Ideal) x0 i = z * gate z := by
  rw [val_main_v57_apply, val_main_call3_v5_apply, val_main_call3_v4_apply, val_main_call3_cst_0_apply, val_main_call3_v3_apply, val_main_call3_v2_apply,
    val_main_call3_cst_apply, val_main_call3_v1_apply, val_main_call3_v0_apply, h]
  rfl

theorem v59_at (i : Cert.Reference15Ideal.S2x256x2048.Idx) (z : EReal) (h : val_main_v6 (F := Ideal) x0 i = z) : val_main_v59 (F := Ideal) x0 i = z * gate z := by
  rw [val_main_v59_apply, val_main_call4_v5_apply, val_main_call4_v4_apply, val_main_call4_cst_0_apply, val_main_call4_v3_apply, val_main_call4_v2_apply,
    val_main_call4_cst_apply, val_main_call4_v1_apply, val_main_call4_v0_apply, h]
  rfl

/-- The pooled half. -/
theorem v58_at (i : Cert.Reference15Ideal.S2x256x2048.Idx) (b : Fin 2) (t : Fin 256) (g : Fin 4) (d : Fin 512)
    (h0 : (i 0).val = b.val) (h1 : (i 1).val = t.val) (h2 : (i 2).val = 512 * g.val + d.val) :
    val_main_v58 (F := Ideal) x0 x2 x3 i = Gpool x0 x2 x3 b t g d := by
  have h5 : val_main_v5 (F := Ideal) x0 i = x0 (ix2 (tok b t) (at20480 2048 (by decide) (ch g d))) := by
    rw [val_main_v5_apply]
    exact v1_at x0 _ b t _ h0 h1 (by show 2048 + (i 2).val = 2048 + (512 * g.val + d.val); omega)
  have h3 : val_main_v55 (F := Ideal) x3 i = x3 (ix1 (ch g d)) := by
    rw [val_main_v55_apply, val_main_v54_apply]
    refine congrArg x3 (funext fun a => Fin.ext ?_)
    match a with
    | ⟨0, _⟩ => exact h2
  rw [val_main_v58_apply, val_main_v56_apply, v53_at x0 x2 i b t g d h0 h1 h2, h3, v57_at x0 i _ h5]
  rfl

/-- The attention half. -/
theorem v60_at (i : Cert.Reference15Ideal.S2x256x2048.Idx) (n : Fin 512) (q : Fin 2048)
    (h0 : 256 * (i 0).val + (i 1).val = n.val) (h2 : (i 2).val = q.val) :
    val_main_v60 (F := Ideal) x0 x1 i = Gattn x0 x1 n q := by
  have hq := q.isLt
  have hi0 : (i 0).val < 2 := (i 0).isLt
  have hi1 : (i 1).val < 256 := (i 1).isLt
  have h6 : val_main_v6 (F := Ideal) x0 i = x0 (ix2 n (at20480 10240 (by decide) q)) := by
    rw [val_main_v6_apply]
    refine (v1_at x0 _ ⟨(i 0).val, hi0⟩ ⟨(i 1).val, hi1⟩ (at20480 10240 (by decide) q) rfl rfl (by show 10240 + (i 2).val = 10240 + q.val; omega)).trans ?_
    exact congrArg (fun k => x0 (ix2 k _)) (Fin.ext h0)
  have h3 : val_main_v3 (F := Ideal) x1 i = x1 (ix2 n q) := by
    rw [val_main_v3_apply, val_main_v2_apply]
    refine congrArg x1 (funext fun a => Fin.ext ?_)
    match a with
    | ⟨0, _⟩ => show (((i 0).val * 256 + (i 1).val) * 2048 + (i 2).val) / 2048 = n.val; omega
    | ⟨1, _⟩ => show (((i 0).val * 256 + (i 1).val) * 2048 + (i 2).val) % 2048 = q.val; omega
  rw [val_main_v60_apply, v59_at x0 i _ h6, h3]
  rfl

/-- The reference's result is the two gated branches of its arguments. -/
theorem ref_eq : val_main_v63 (F := Ideal) x0 x1 x2 x3 = G x0 x1 x2 x3 := by
  funext y
  have hy0 : (y 0).val < 512 := (y 0).isLt
  have hy1 : (y 1).val < 4096 := (y 1).isLt
  obtain ⟨b, t, h0⟩ : ∃ (b : Fin 2) (t : Fin 256), (y 0).val = 256 * b.val + t.val :=
    ⟨⟨(y 0).val / 256, by omega⟩, ⟨(y 0).val % 256, by omega⟩, by dsimp only; omega⟩
  have hb := b.isLt
  have ht := t.isLt
  rw [val_main_v63_apply, val_main_v62_apply]
  show val_main_v61 (F := Ideal) x0 x1 x2 x3 (idx_main_v63 y) = _
  have j0 : (idx_main_v63 y 0).val = b.val := by show ((y 0).val * 4096 + (y 1).val) / 1048576 = b.val; omega
  have j1 : (idx_main_v63 y 1).val = t.val := by show ((y 0).val * 4096 + (y 1).val) / 4096 % 256 = t.val; omega
  have j2 : (idx_main_v63 y 2).val = (y 1).val := by show ((y 0).val * 4096 + (y 1).val) % 4096 = (y 1).val; omega
  generalize idx_main_v63 y = j at j0 j1 j2 ⊢
  unfold val_main_v61
  by_cases hq : (y 1).val < 2048
  · obtain ⟨g, d, hd⟩ : ∃ (g : Fin 4) (d : Fin 512), (y 1).val = 512 * g.val + d.val :=
      ⟨⟨(y 1).val / 512, by omega⟩, ⟨(y 1).val % 512, by omega⟩, by dsimp only; omega⟩
    refine (concatenate_pair_apply_left (t := Cert.Reference15Ideal.S2x256x4096) (s₁ := Cert.Reference15Ideal.S2x256x2048) (s₂ := Cert.Reference15Ideal.S2x256x2048)
      2 _ _ _ _ rfl (ix3 b t (ch g d)) (fun a => ?_)).trans ?_
    · match a with
      | ⟨0, _⟩ => exact j0.symm
      | ⟨1, _⟩ => exact j1.symm
      | ⟨2, _⟩ => exact (j2.trans hd).symm
    · exact (v58_at x0 x2 x3 (ix3 b t (ch g d)) b t g d rfl rfl rfl).trans (G_pool x0 x1 x2 x3 y b t g d h0 hd).symm
  · obtain ⟨q, hd⟩ : ∃ q : Fin 2048, (y 1).val = 2048 + q.val := ⟨⟨(y 1).val - 2048, by omega⟩, by dsimp only; omega⟩
    refine (concatenate_pair_apply_right (t := Cert.Reference15Ideal.S2x256x4096) (s₁ := Cert.Reference15Ideal.S2x256x2048) (s₂ := Cert.Reference15Ideal.S2x256x2048)
      2 _ _ _ _ rfl rfl (ix3 b t q) (fun a ha => ?_) ?_).trans ?_
    · match a with
      | ⟨0, _⟩ => exact j0.symm
      | ⟨1, _⟩ => exact j1.symm
      | ⟨2, _⟩ => exact absurd rfl ha
    · show q.val + 2048 = (j 2).val; omega
    · exact (v60_at x0 x1 (ix3 b t q) (tok b t) q rfl rfl).trans (G_attn x0 x1 x2 x3 y (tok b t) q h0 hd).symm

end

/-- From equal arguments the gating kernel and its reference end with equal results, their arguments unchanged. -/
theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run Cert.Kernel15Ideal.defs _ _).mono (fun r h c => ⟨(h c).1.trans (final m c), (h c).2⟩)
      (Value.run_blocks (F := Ideal) m g)
  · refine (θ_run Cert.Reference15Ideal.defs _ _).mono (fun r h c => ?_) (Cert.Reference15Ideal.Value.run (F := Ideal) m' g')
    refine ⟨((h c).1.trans ?_), (h c).2⟩
    refine (Cert.Reference15Ideal.Read.val_main_v63_eq _ _).trans ?_
    rw [ref_eq, (hagree c).1, (hagree c).2.1, (hagree c).2.2.1, (hagree c).2.2.2]

end Cert.PoolGateCtx

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite_scores
public import proofs.«01_k».proof.Proof.Gen.Pre_finite_ctx_scores
public import proofs.«01_k».proof.Proof.Attn
public import proofs.«01_k».proof.Proof.InProj
public import proofs.«01_k».proof.Proof.Merge
public import proofs.«01_k».proof.Proof.OutProj
public import proofs.«01_k».proof.Proof.InProjCtx
public import proofs.«01_k».proof.Proof.MergeCtx
public import proofs.«01_k».proof.Proof.OutProjCtx
public import proofs.«01_k».proof.Proof.FinalNorm
public import proofs.«01_k».proof.Proof.Modulate
public import proofs.«01_k».proof.Proof.Ada
public import proofs.«01_k».proof.Proof.KvCtx
public import proofs.«01_k».proof.Proof.ModulateCtx
public import proofs.«01_k».proof.Proof.CtxAttn
public import proofs.«01_k».proof.Proof.PoolGateRef
public import proofs.«01_k».proof.Proof.PoolGateCtxRef
public import Idealize.ShloMosaic.Lib.Quiescent
public import Idealize.ShloMosaic.Adequacy
public import Idealize.ShloMosaic.Init

@[expose] public section

noncomputable section

namespace Cert.Proof

open Idealize.ShloMosaic Idealize.SL.Sem

/-- Every claim of the certificate: each program's frame, what the idealizations change, and the equality of each
idealized kernel with its idealized reference. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite_scores.Gen.facts, Cert.Pre_finite_ctx_scores.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩) (Cert.Reference9Ideal.Value.run (F := Ideal) m ρ),
    fun m ρ _ => Cert.Kernel10.Gen.frame m ρ,
    fun m ρ _ => Cert.Kernel10Ideal.Gen.frame m ρ,
    fun m ρ _ => (θ_run Cert.Reference10Ideal.defs _ _).mono
      (fun r h => ⟨fun c => (h c).2, sem_eq_zero_of_no_sems (by decide) r.2⟩) (Cert.Reference10Ideal.Value.run (F := Ideal) m ρ),
    fun m ρ _ => Cert.Kernel11.Gen.frame m ρ,
    fun m ρ _ => Cert.Kernel11Ideal.Gen.frame m ρ,
    fun m ρ _ => (θ_run Cert.Reference11Ideal.defs _ _).mono
      (fun r h => ⟨fun c => (h c).2, sem_eq_zero_of_no_sems (by decide) r.2⟩) (Cert.Reference11Ideal.Value.run (F := Ideal) m ρ),
    fun m ρ _ => Cert.Kernel12.Gen.frame m ρ,
    fun m ρ _ => Cert.Kernel12Ideal.Gen.frame m ρ,
    fun m ρ _ => (θ_run Cert.Reference12Ideal.defs _ _).mono
      (fun r h => ⟨fun c => (h c).2, sem_eq_zero_of_no_sems (by decide) r.2⟩) (Cert.Reference12Ideal.Value.run (F := Ideal) m ρ),
    fun m ρ _ => Cert.Kernel13.Gen.frame m ρ,
    fun m ρ _ => Cert.Kernel13Ideal.Gen.frame m ρ,
    fun m ρ _ => Cert.Kernel13Ideal.Gen.frame m ρ,
    fun m ρ _ => (θ_run Cert.Reference13Ideal.defs _ _).mono
      (fun r h => ⟨fun c => (h c).2, sem_eq_zero_of_no_sems (by decide) r.2⟩) (Cert.Reference13Ideal.Value.run (F := Ideal) m ρ),
    fun m ρ _ => (θ_run Cert.Reference13Ideal.defs _ _).mono
      (fun r h => ⟨fun c => (h c).2, sem_eq_zero_of_no_sems (by decide) r.2⟩) (Cert.Reference13Ideal.Value.run (F := Ideal) m ρ),
    fun m ρ _ => Cert.Kernel14.Gen.frame m ρ,
    fun m ρ _ => Cert.Kernel14Ideal.Gen.frame m ρ,
    fun m ρ _ => (θ_run Cert.Reference14Ideal.defs _ _).mono
      (fun r h => ⟨fun c => (h c).2, sem_eq_zero_of_no_sems (by decide) r.2⟩) (Cert.Reference14Ideal.Value.run (F := Ideal) m ρ),
    fun m ρ _ => Cert.Kernel15.Gen.frame m ρ,
    fun m ρ _ => Cert.Kernel15Ideal.Gen.frame m ρ,
    fun m ρ _ => (θ_run Cert.Reference15Ideal.defs _ _).mono
      (fun r h => ⟨fun c => (h c).2, sem_eq_zero_of_no_sems (by decide) r.2⟩) (Cert.Reference15Ideal.Value.run (F := Ideal) m ρ),
    IdealRules.named_const.statement Cert.KernelIdeal.κ "mask" .f32 0xF149F2CA#32 ⊥ rfl,
    Cert.Attn.algebraic,
    trivial,
    Cert.InProj.algebraic,
    trivial,
    Cert.Merge.algebraic,
    trivial,
    Cert.OutProj.algebraic,
    trivial,
    Cert.InProjCtx.algebraic,
    trivial,
    Cert.MergeCtx.algebraic,
    trivial,
    Cert.OutProjCtx.algebraic,
    trivial,
    Cert.FinalNorm.algebraic,
    trivial,
    Cert.Modulate.algebraic,
    trivial,
    Cert.Ada.algebraic,
    trivial,
    Cert.KvCtx.algebraic,
    trivial,
    Cert.ModulateCtx.algebraic,
    trivial,
    Cert.CtxAttn.algebraic,
    trivial,
    Cert.PoolGate.algebraic,
    trivial,
    Cert.PoolGateCtx.algebraic⟩

end Cert.Proof

end
